-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_KernelA (m : (ℓ : Loc Cert.KernelA.nD Cert.KernelA.τ Cert.KernelA.sig) → Buf (Elt Bits) ℓ) : Prop :=
  True

def Pre_KernelAIdeal (m : (ℓ : Loc Cert.KernelAIdeal.nD Cert.KernelAIdeal.τ Cert.KernelAIdeal.sig) → Buf (Elt Ideal) ℓ) : Prop :=
  True

def Pre_KernelAIdeal_finite_a [hPre_finite_a : Cert.Pre_finite_a.Facts] (m : (ℓ : Loc Cert.KernelAIdeal.nD Cert.KernelAIdeal.τ Cert.KernelAIdeal.sig) → Buf (Elt Ideal) ℓ) : Prop :=
  ∀ c : Dev Cert.KernelAIdeal.nD,
    (Cert.Pre_finite_a.fn (F := Ideal) (m ((c.tc : Thread Cert.KernelAIdeal.nD Cert.KernelAIdeal.τ).loc Cert.KernelAIdeal.main_arg0)) (m ((c.tc : Thread Cert.KernelAIdeal.nD Cert.KernelAIdeal.τ).loc Cert.KernelAIdeal.main_arg1)) (m ((c.tc : Thread Cert.KernelAIdeal.nD Cert.KernelAIdeal.τ).loc Cert.KernelAIdeal.main_arg2)) (m ((c.tc : Thread Cert.KernelAIdeal.nD Cert.KernelAIdeal.τ).loc Cert.KernelAIdeal.main_arg3))) = (fun _ => 1#1)

def Pre_ReferenceAIdeal (m : (ℓ : Loc Cert.ReferenceAIdeal.nD Cert.ReferenceAIdeal.τ Cert.ReferenceAIdeal.sig) → Buf (Elt Ideal) ℓ) : Prop :=
  True

def Pre_ReferenceAIdeal_finite_a [hPre_finite_a : Cert.Pre_finite_a.Facts] (m : (ℓ : Loc Cert.ReferenceAIdeal.nD Cert.ReferenceAIdeal.τ Cert.ReferenceAIdeal.sig) → Buf (Elt Ideal) ℓ) : Prop :=
  ∀ c : Dev Cert.ReferenceAIdeal.nD,
    (Cert.Pre_finite_a.fn (F := Ideal) (m ((c.tc : Thread Cert.ReferenceAIdeal.nD Cert.ReferenceAIdeal.τ).loc Cert.ReferenceAIdeal.main_arg0)) (m ((c.tc : Thread Cert.ReferenceAIdeal.nD Cert.ReferenceAIdeal.τ).loc Cert.ReferenceAIdeal.main_arg1)) (m ((c.tc : Thread Cert.ReferenceAIdeal.nD Cert.ReferenceAIdeal.τ).loc Cert.ReferenceAIdeal.main_arg2)) (m ((c.tc : Thread Cert.ReferenceAIdeal.nD Cert.ReferenceAIdeal.τ).loc Cert.ReferenceAIdeal.main_arg3))) = (fun _ => 1#1)

def Pre_KernelM (m : (ℓ : Loc Cert.KernelM.nD Cert.KernelM.τ Cert.KernelM.sig) → Buf (Elt Bits) ℓ) : Prop :=
  True

def Pre_KernelMIdeal (m : (ℓ : Loc Cert.KernelMIdeal.nD Cert.KernelMIdeal.τ Cert.KernelMIdeal.sig) → Buf (Elt Ideal) ℓ) : Prop :=
  True

def Pre_KernelMIdeal_finite_m [hPre_finite_m : Cert.Pre_finite_m.Facts] (m : (ℓ : Loc Cert.KernelMIdeal.nD Cert.KernelMIdeal.τ Cert.KernelMIdeal.sig) → Buf (Elt Ideal) ℓ) : Prop :=
  ∀ c : Dev Cert.KernelMIdeal.nD,
    (Cert.Pre_finite_m.fn (F := Ideal) (m ((c.tc : Thread Cert.KernelMIdeal.nD Cert.KernelMIdeal.τ).loc Cert.KernelMIdeal.main_arg0)) (m ((c.tc : Thread Cert.KernelMIdeal.nD Cert.KernelMIdeal.τ).loc Cert.KernelMIdeal.main_arg1)) (m ((c.tc : Thread Cert.KernelMIdeal.nD Cert.KernelMIdeal.τ).loc Cert.KernelMIdeal.main_arg2)) (m ((c.tc : Thread Cert.KernelMIdeal.nD Cert.KernelMIdeal.τ).loc Cert.KernelMIdeal.main_arg3)) (m ((c.tc : Thread Cert.KernelMIdeal.nD Cert.KernelMIdeal.τ).loc Cert.KernelMIdeal.main_arg4)) (m ((c.tc : Thread Cert.KernelMIdeal.nD Cert.KernelMIdeal.τ).loc Cert.KernelMIdeal.main_arg5)) (m ((c.tc : Thread Cert.KernelMIdeal.nD Cert.KernelMIdeal.τ).loc Cert.KernelMIdeal.main_arg6))) = (fun _ => 1#1)

def Pre_ReferenceMIdeal (m : (ℓ : Loc Cert.ReferenceMIdeal.nD Cert.ReferenceMIdeal.τ Cert.ReferenceMIdeal.sig) → Buf (Elt Ideal) ℓ) : Prop :=
  True

def Pre_ReferenceMIdeal_finite_m [hPre_finite_m : Cert.Pre_finite_m.Facts] (m : (ℓ : Loc Cert.ReferenceMIdeal.nD Cert.ReferenceMIdeal.τ Cert.ReferenceMIdeal.sig) → Buf (Elt Ideal) ℓ) : Prop :=
  ∀ c : Dev Cert.ReferenceMIdeal.nD,
    (Cert.Pre_finite_m.fn (F := Ideal) (m ((c.tc : Thread Cert.ReferenceMIdeal.nD Cert.ReferenceMIdeal.τ).loc Cert.ReferenceMIdeal.main_arg0)) (m ((c.tc : Thread Cert.ReferenceMIdeal.nD Cert.ReferenceMIdeal.τ).loc Cert.ReferenceMIdeal.main_arg1)) (m ((c.tc : Thread Cert.ReferenceMIdeal.nD Cert.ReferenceMIdeal.τ).loc Cert.ReferenceMIdeal.main_arg2)) (m ((c.tc : Thread Cert.ReferenceMIdeal.nD Cert.ReferenceMIdeal.τ).loc Cert.ReferenceMIdeal.main_arg3)) (m ((c.tc : Thread Cert.ReferenceMIdeal.nD Cert.ReferenceMIdeal.τ).loc Cert.ReferenceMIdeal.main_arg4)) (m ((c.tc : Thread Cert.ReferenceMIdeal.nD Cert.ReferenceMIdeal.τ).loc Cert.ReferenceMIdeal.main_arg5)) (m ((c.tc : Thread Cert.ReferenceMIdeal.nD Cert.ReferenceMIdeal.τ).loc Cert.ReferenceMIdeal.main_arg6))) = (fun _ => 1#1)

def Pre_KernelFB (m : (ℓ : Loc Cert.KernelFB.nD Cert.KernelFB.τ Cert.KernelFB.sig) → Buf (Elt Bits) ℓ) : Prop :=
  True

def Pre_KernelFBIdeal (m : (ℓ : Loc Cert.KernelFBIdeal.nD Cert.KernelFBIdeal.τ Cert.KernelFBIdeal.sig) → Buf (Elt Ideal) ℓ) : Prop :=
  True

def Pre_KernelFBIdeal_finite_fb [hPre_finite_fb : Cert.Pre_finite_fb.Facts] (m : (ℓ : Loc Cert.KernelFBIdeal.nD Cert.KernelFBIdeal.τ Cert.KernelFBIdeal.sig) → Buf (Elt Ideal) ℓ) : Prop :=
  ∀ c : Dev Cert.KernelFBIdeal.nD,
    (Cert.Pre_finite_fb.fn (F := Ideal) (m ((c.tc : Thread Cert.KernelFBIdeal.nD Cert.KernelFBIdeal.τ).loc Cert.KernelFBIdeal.main_arg0)) (m ((c.tc : Thread Cert.KernelFBIdeal.nD Cert.KernelFBIdeal.τ).loc Cert.KernelFBIdeal.main_arg1)) (m ((c.tc : Thread Cert.KernelFBIdeal.nD Cert.KernelFBIdeal.τ).loc Cert.KernelFBIdeal.main_arg2))) = (fun _ => 1#1)

def Pre_ReferenceFBIdeal (m : (ℓ : Loc Cert.ReferenceFBIdeal.nD Cert.ReferenceFBIdeal.τ Cert.ReferenceFBIdeal.sig) → Buf (Elt Ideal) ℓ) : Prop :=
  True

def Pre_ReferenceFBIdeal_finite_fb [hPre_finite_fb : Cert.Pre_finite_fb.Facts] (m : (ℓ : Loc Cert.ReferenceFBIdeal.nD Cert.ReferenceFBIdeal.τ Cert.ReferenceFBIdeal.sig) → Buf (Elt Ideal) ℓ) : Prop :=
  ∀ c : Dev Cert.ReferenceFBIdeal.nD,
    (Cert.Pre_finite_fb.fn (F := Ideal) (m ((c.tc : Thread Cert.ReferenceFBIdeal.nD Cert.ReferenceFBIdeal.τ).loc Cert.ReferenceFBIdeal.main_arg0)) (m ((c.tc : Thread Cert.ReferenceFBIdeal.nD Cert.ReferenceFBIdeal.τ).loc Cert.ReferenceFBIdeal.main_arg1)) (m ((c.tc : Thread Cert.ReferenceFBIdeal.nD Cert.ReferenceFBIdeal.τ).loc Cert.ReferenceFBIdeal.main_arg2))) = (fun _ => 1#1)

def Pre_KernelFA (m : (ℓ : Loc Cert.KernelFA.nD Cert.KernelFA.τ Cert.KernelFA.sig) → Buf (Elt Bits) ℓ) : Prop :=
  True

def Pre_KernelFAIdeal (m : (ℓ : Loc Cert.KernelFAIdeal.nD Cert.KernelFAIdeal.τ Cert.KernelFAIdeal.sig) → Buf (Elt Ideal) ℓ) : Prop :=
  True

def Pre_KernelFAIdeal_finite_fa [hPre_finite_fa : Cert.Pre_finite_fa.Facts] (m : (ℓ : Loc Cert.KernelFAIdeal.nD Cert.KernelFAIdeal.τ Cert.KernelFAIdeal.sig) → Buf (Elt Ideal) ℓ) : Prop :=
  ∀ c : Dev Cert.KernelFAIdeal.nD,
    (Cert.Pre_finite_fa.fn (F := Ideal) (m ((c.tc : Thread Cert.KernelFAIdeal.nD Cert.KernelFAIdeal.τ).loc Cert.KernelFAIdeal.main_arg0)) (m ((c.tc : Thread Cert.KernelFAIdeal.nD Cert.KernelFAIdeal.τ).loc Cert.KernelFAIdeal.main_arg1)) (m ((c.tc : Thread Cert.KernelFAIdeal.nD Cert.KernelFAIdeal.τ).loc Cert.KernelFAIdeal.main_arg2))) = (fun _ => 1#1)

def Pre_ReferenceFAIdeal (m : (ℓ : Loc Cert.ReferenceFAIdeal.nD Cert.ReferenceFAIdeal.τ Cert.ReferenceFAIdeal.sig) → Buf (Elt Ideal) ℓ) : Prop :=
  True

def Pre_ReferenceFAIdeal_finite_fa [hPre_finite_fa : Cert.Pre_finite_fa.Facts] (m : (ℓ : Loc Cert.ReferenceFAIdeal.nD Cert.ReferenceFAIdeal.τ Cert.ReferenceFAIdeal.sig) → Buf (Elt Ideal) ℓ) : Prop :=
  ∀ c : Dev Cert.ReferenceFAIdeal.nD,
    (Cert.Pre_finite_fa.fn (F := Ideal) (m ((c.tc : Thread Cert.ReferenceFAIdeal.nD Cert.ReferenceFAIdeal.τ).loc Cert.ReferenceFAIdeal.main_arg0)) (m ((c.tc : Thread Cert.ReferenceFAIdeal.nD Cert.ReferenceFAIdeal.τ).loc Cert.ReferenceFAIdeal.main_arg1)) (m ((c.tc : Thread Cert.ReferenceFAIdeal.nD Cert.ReferenceFAIdeal.τ).loc Cert.ReferenceFAIdeal.main_arg2))) = (fun _ => 1#1)

def Pre_KernelP (m : (ℓ : Loc Cert.KernelP.nD Cert.KernelP.τ Cert.KernelP.sig) → Buf (Elt Bits) ℓ) : Prop :=
  True

def Pre_KernelPIdeal (m : (ℓ : Loc Cert.KernelPIdeal.nD Cert.KernelPIdeal.τ Cert.KernelPIdeal.sig) → Buf (Elt Ideal) ℓ) : Prop :=
  True

def Pre_KernelPIdeal_finite_p [hPre_finite_p : Cert.Pre_finite_p.Facts] (m : (ℓ : Loc Cert.KernelPIdeal.nD Cert.KernelPIdeal.τ Cert.KernelPIdeal.sig) → Buf (Elt Ideal) ℓ) : Prop :=
  ∀ c : Dev Cert.KernelPIdeal.nD,
    (Cert.Pre_finite_p.fn (F := Ideal) (m ((c.tc : Thread Cert.KernelPIdeal.nD Cert.KernelPIdeal.τ).loc Cert.KernelPIdeal.main_arg0)) (m ((c.tc : Thread Cert.KernelPIdeal.nD Cert.KernelPIdeal.τ).loc Cert.KernelPIdeal.main_arg1)) (m ((c.tc : Thread Cert.KernelPIdeal.nD Cert.KernelPIdeal.τ).loc Cert.KernelPIdeal.main_arg2)) (m ((c.tc : Thread Cert.KernelPIdeal.nD Cert.KernelPIdeal.τ).loc Cert.KernelPIdeal.main_arg3)) (m ((c.tc : Thread Cert.KernelPIdeal.nD Cert.KernelPIdeal.τ).loc Cert.KernelPIdeal.main_arg4)) (m ((c.tc : Thread Cert.KernelPIdeal.nD Cert.KernelPIdeal.τ).loc Cert.KernelPIdeal.main_arg5)) (m ((c.tc : Thread Cert.KernelPIdeal.nD Cert.KernelPIdeal.τ).loc Cert.KernelPIdeal.main_arg6)) (m ((c.tc : Thread Cert.KernelPIdeal.nD Cert.KernelPIdeal.τ).loc Cert.KernelPIdeal.main_arg7)) (m ((c.tc : Thread Cert.KernelPIdeal.nD Cert.KernelPIdeal.τ).loc Cert.KernelPIdeal.main_arg8)) (m ((c.tc : Thread Cert.KernelPIdeal.nD Cert.KernelPIdeal.τ).loc Cert.KernelPIdeal.main_arg9)) (m ((c.tc : Thread Cert.KernelPIdeal.nD Cert.KernelPIdeal.τ).loc Cert.KernelPIdeal.main_arg10)) (m ((c.tc : Thread Cert.KernelPIdeal.nD Cert.KernelPIdeal.τ).loc Cert.KernelPIdeal.main_arg11)) (m ((c.tc : Thread Cert.KernelPIdeal.nD Cert.KernelPIdeal.τ).loc Cert.KernelPIdeal.main_arg12)) (m ((c.tc : Thread Cert.KernelPIdeal.nD Cert.KernelPIdeal.τ).loc Cert.KernelPIdeal.main_arg13)) (m ((c.tc : Thread Cert.KernelPIdeal.nD Cert.KernelPIdeal.τ).loc Cert.KernelPIdeal.main_arg14)) (m ((c.tc : Thread Cert.KernelPIdeal.nD Cert.KernelPIdeal.τ).loc Cert.KernelPIdeal.main_arg15)) (m ((c.tc : Thread Cert.KernelPIdeal.nD Cert.KernelPIdeal.τ).loc Cert.KernelPIdeal.main_arg16)) (m ((c.tc : Thread Cert.KernelPIdeal.nD Cert.KernelPIdeal.τ).loc Cert.KernelPIdeal.main_arg17)) (m ((c.tc : Thread Cert.KernelPIdeal.nD Cert.KernelPIdeal.τ).loc Cert.KernelPIdeal.main_arg18)) (m ((c.tc : Thread Cert.KernelPIdeal.nD Cert.KernelPIdeal.τ).loc Cert.KernelPIdeal.main_arg19)) (m ((c.tc : Thread Cert.KernelPIdeal.nD Cert.KernelPIdeal.τ).loc Cert.KernelPIdeal.main_arg20)) (m ((c.tc : Thread Cert.KernelPIdeal.nD Cert.KernelPIdeal.τ).loc Cert.KernelPIdeal.main_arg21)) (m ((c.tc : Thread Cert.KernelPIdeal.nD Cert.KernelPIdeal.τ).loc Cert.KernelPIdeal.main_arg22)) (m ((c.tc : Thread Cert.KernelPIdeal.nD Cert.KernelPIdeal.τ).loc Cert.KernelPIdeal.main_arg23)) (m ((c.tc : Thread Cert.KernelPIdeal.nD Cert.KernelPIdeal.τ).loc Cert.KernelPIdeal.main_arg24)) (m ((c.tc : Thread Cert.KernelPIdeal.nD Cert.KernelPIdeal.τ).loc Cert.KernelPIdeal.main_arg25))) = (fun _ => 1#1)

def Pre_ReferencePIdeal (m : (ℓ : Loc Cert.ReferencePIdeal.nD Cert.ReferencePIdeal.τ Cert.ReferencePIdeal.sig) → Buf (Elt Ideal) ℓ) : Prop :=
  True

def Pre_ReferencePIdeal_finite_p [hPre_finite_p : Cert.Pre_finite_p.Facts] (m : (ℓ : Loc Cert.ReferencePIdeal.nD Cert.ReferencePIdeal.τ Cert.ReferencePIdeal.sig) → Buf (Elt Ideal) ℓ) : Prop :=
  ∀ c : Dev Cert.ReferencePIdeal.nD,
    (Cert.Pre_finite_p.fn (F := Ideal) (m ((c.tc : Thread Cert.ReferencePIdeal.nD Cert.ReferencePIdeal.τ).loc Cert.ReferencePIdeal.main_arg0)) (m ((c.tc : Thread Cert.ReferencePIdeal.nD Cert.ReferencePIdeal.τ).loc Cert.ReferencePIdeal.main_arg1)) (m ((c.tc : Thread Cert.ReferencePIdeal.nD Cert.ReferencePIdeal.τ).loc Cert.ReferencePIdeal.main_arg2)) (m ((c.tc : Thread Cert.ReferencePIdeal.nD Cert.ReferencePIdeal.τ).loc Cert.ReferencePIdeal.main_arg3)) (m ((c.tc : Thread Cert.ReferencePIdeal.nD Cert.ReferencePIdeal.τ).loc Cert.ReferencePIdeal.main_arg4)) (m ((c.tc : Thread Cert.ReferencePIdeal.nD Cert.ReferencePIdeal.τ).loc Cert.ReferencePIdeal.main_arg5)) (m ((c.tc : Thread Cert.ReferencePIdeal.nD Cert.ReferencePIdeal.τ).loc Cert.ReferencePIdeal.main_arg6)) (m ((c.tc : Thread Cert.ReferencePIdeal.nD Cert.ReferencePIdeal.τ).loc Cert.ReferencePIdeal.main_arg7)) (m ((c.tc : Thread Cert.ReferencePIdeal.nD Cert.ReferencePIdeal.τ).loc Cert.ReferencePIdeal.main_arg8)) (m ((c.tc : Thread Cert.ReferencePIdeal.nD Cert.ReferencePIdeal.τ).loc Cert.ReferencePIdeal.main_arg9)) (m ((c.tc : Thread Cert.ReferencePIdeal.nD Cert.ReferencePIdeal.τ).loc Cert.ReferencePIdeal.main_arg10)) (m ((c.tc : Thread Cert.ReferencePIdeal.nD Cert.ReferencePIdeal.τ).loc Cert.ReferencePIdeal.main_arg11)) (m ((c.tc : Thread Cert.ReferencePIdeal.nD Cert.ReferencePIdeal.τ).loc Cert.ReferencePIdeal.main_arg12)) (m ((c.tc : Thread Cert.ReferencePIdeal.nD Cert.ReferencePIdeal.τ).loc Cert.ReferencePIdeal.main_arg13)) (m ((c.tc : Thread Cert.ReferencePIdeal.nD Cert.ReferencePIdeal.τ).loc Cert.ReferencePIdeal.main_arg14)) (m ((c.tc : Thread Cert.ReferencePIdeal.nD Cert.ReferencePIdeal.τ).loc Cert.ReferencePIdeal.main_arg15)) (m ((c.tc : Thread Cert.ReferencePIdeal.nD Cert.ReferencePIdeal.τ).loc Cert.ReferencePIdeal.main_arg16)) (m ((c.tc : Thread Cert.ReferencePIdeal.nD Cert.ReferencePIdeal.τ).loc Cert.ReferencePIdeal.main_arg17)) (m ((c.tc : Thread Cert.ReferencePIdeal.nD Cert.ReferencePIdeal.τ).loc Cert.ReferencePIdeal.main_arg18)) (m ((c.tc : Thread Cert.ReferencePIdeal.nD Cert.ReferencePIdeal.τ).loc Cert.ReferencePIdeal.main_arg19)) (m ((c.tc : Thread Cert.ReferencePIdeal.nD Cert.ReferencePIdeal.τ).loc Cert.ReferencePIdeal.main_arg20)) (m ((c.tc : Thread Cert.ReferencePIdeal.nD Cert.ReferencePIdeal.τ).loc Cert.ReferencePIdeal.main_arg21)) (m ((c.tc : Thread Cert.ReferencePIdeal.nD Cert.ReferencePIdeal.τ).loc Cert.ReferencePIdeal.main_arg22)) (m ((c.tc : Thread Cert.ReferencePIdeal.nD Cert.ReferencePIdeal.τ).loc Cert.ReferencePIdeal.main_arg23)) (m ((c.tc : Thread Cert.ReferencePIdeal.nD Cert.ReferencePIdeal.τ).loc Cert.ReferencePIdeal.main_arg24)) (m ((c.tc : Thread Cert.ReferencePIdeal.nD Cert.ReferencePIdeal.τ).loc Cert.ReferencePIdeal.main_arg25))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelA [hKernelA : Cert.KernelA.Facts] : Prop :=
  ∀ (m : (ℓ : Loc Cert.KernelA.nD Cert.KernelA.τ Cert.KernelA.sig) → Buf (Elt Bits) ℓ) (g : Dev Cert.KernelA.nD → PrngReg), Pre_KernelA m →
    θ_run (Cert.KernelA.defs (F := Bits)) (onTc (τ := Cert.KernelA.τ) (Cert.KernelA.main (F := Bits))) ⟨m, fun _ => 0, g⟩ (fun r => (∀ c : Dev Cert.KernelA.nD,
      r.2.mem ((c.tc : Thread Cert.KernelA.nD Cert.KernelA.τ).loc Cert.KernelA.main_arg0) = m ((c.tc : Thread Cert.KernelA.nD Cert.KernelA.τ).loc Cert.KernelA.main_arg0)
      ∧ r.2.mem ((c.tc : Thread Cert.KernelA.nD Cert.KernelA.τ).loc Cert.KernelA.main_arg1) = m ((c.tc : Thread Cert.KernelA.nD Cert.KernelA.τ).loc Cert.KernelA.main_arg1)
      ∧ r.2.mem ((c.tc : Thread Cert.KernelA.nD Cert.KernelA.τ).loc Cert.KernelA.main_arg2) = m ((c.tc : Thread Cert.KernelA.nD Cert.KernelA.τ).loc Cert.KernelA.main_arg2)
      ∧ r.2.mem ((c.tc : Thread Cert.KernelA.nD Cert.KernelA.τ).loc Cert.KernelA.main_arg3) = m ((c.tc : Thread Cert.KernelA.nD Cert.KernelA.τ).loc Cert.KernelA.main_arg3))
      ∧ r.2.sem = fun _ => 0)

def quiescent_KernelAIdeal [hKernelAIdeal : Cert.KernelAIdeal.Facts] : Prop :=
  ∀ (m : (ℓ : Loc Cert.KernelAIdeal.nD Cert.KernelAIdeal.τ Cert.KernelAIdeal.sig) → Buf (Elt Ideal) ℓ) (g : Dev Cert.KernelAIdeal.nD → PrngReg), Pre_KernelAIdeal m →
    θ_run (Cert.KernelAIdeal.defs (F := Ideal)) (onTc (τ := Cert.KernelAIdeal.τ) (Cert.KernelAIdeal.main (F := Ideal))) ⟨m, fun _ => 0, g⟩ (fun r => (∀ c : Dev Cert.KernelAIdeal.nD,
      r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
      ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
      ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2)
      ∧ r.2.mem ((c.tc : Thread Cert.KernelAIdeal.nD Cert.KernelAIdeal.τ).loc Cert.KernelAIdeal.main_arg3) = m ((c.tc : Thread Cert.KernelAIdeal.nD Cert.KernelAIdeal.τ).loc Cert.KernelAIdeal.main_arg3))
      ∧ r.2.sem = fun _ => 0)

def quiescent_KernelAIdeal_pre_finite_a [hKernelAIdeal : Cert.KernelAIdeal.Facts] [hPre_finite_a : Cert.Pre_finite_a.Facts] : Prop :=
  ∀ (m : (ℓ : Loc Cert.KernelAIdeal.nD Cert.KernelAIdeal.τ Cert.KernelAIdeal.sig) → Buf (Elt Ideal) ℓ) (g : Dev Cert.KernelAIdeal.nD → PrngReg), Pre_KernelAIdeal_finite_a m →
    θ_run (Cert.KernelAIdeal.defs (F := Ideal)) (onTc (τ := Cert.KernelAIdeal.τ) (Cert.KernelAIdeal.main (F := Ideal))) ⟨m, fun _ => 0, g⟩ (fun r => (∀ c : Dev Cert.KernelAIdeal.nD,
      r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
      ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
      ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2)
      ∧ r.2.mem ((c.tc : Thread Cert.KernelAIdeal.nD Cert.KernelAIdeal.τ).loc Cert.KernelAIdeal.main_arg3) = m ((c.tc : Thread Cert.KernelAIdeal.nD Cert.KernelAIdeal.τ).loc Cert.KernelAIdeal.main_arg3))
      ∧ r.2.sem = fun _ => 0)

def quiescent_ReferenceAIdeal [hReferenceAIdeal : Cert.ReferenceAIdeal.Facts] : Prop :=
  ∀ (m : (ℓ : Loc Cert.ReferenceAIdeal.nD Cert.ReferenceAIdeal.τ Cert.ReferenceAIdeal.sig) → Buf (Elt Ideal) ℓ) (g : Dev Cert.ReferenceAIdeal.nD → PrngReg), Pre_ReferenceAIdeal m →
    θ_run (Cert.ReferenceAIdeal.defs (F := Ideal)) (onTc (τ := Cert.ReferenceAIdeal.τ) (Cert.ReferenceAIdeal.main (F := Ideal))) ⟨m, fun _ => 0, g⟩ (fun r => (∀ c : Dev Cert.ReferenceAIdeal.nD,
      r.2.mem ((c.tc : Thread Cert.ReferenceAIdeal.nD Cert.ReferenceAIdeal.τ).loc Cert.ReferenceAIdeal.main_arg0) = m ((c.tc : Thread Cert.ReferenceAIdeal.nD Cert.ReferenceAIdeal.τ).loc Cert.ReferenceAIdeal.main_arg0)
      ∧ r.2.mem ((c.tc : Thread Cert.ReferenceAIdeal.nD Cert.ReferenceAIdeal.τ).loc Cert.ReferenceAIdeal.main_arg1) = m ((c.tc : Thread Cert.ReferenceAIdeal.nD Cert.ReferenceAIdeal.τ).loc Cert.ReferenceAIdeal.main_arg1)
      ∧ r.2.mem ((c.tc : Thread Cert.ReferenceAIdeal.nD Cert.ReferenceAIdeal.τ).loc Cert.ReferenceAIdeal.main_arg2) = m ((c.tc : Thread Cert.ReferenceAIdeal.nD Cert.ReferenceAIdeal.τ).loc Cert.ReferenceAIdeal.main_arg2)
      ∧ r.2.mem ((c.tc : Thread Cert.ReferenceAIdeal.nD Cert.ReferenceAIdeal.τ).loc Cert.ReferenceAIdeal.main_arg3) = m ((c.tc : Thread Cert.ReferenceAIdeal.nD Cert.ReferenceAIdeal.τ).loc Cert.ReferenceAIdeal.main_arg3))
      ∧ r.2.sem = fun _ => 0)

def quiescent_ReferenceAIdeal_pre_finite_a [hReferenceAIdeal : Cert.ReferenceAIdeal.Facts] [hPre_finite_a : Cert.Pre_finite_a.Facts] : Prop :=
  ∀ (m : (ℓ : Loc Cert.ReferenceAIdeal.nD Cert.ReferenceAIdeal.τ Cert.ReferenceAIdeal.sig) → Buf (Elt Ideal) ℓ) (g : Dev Cert.ReferenceAIdeal.nD → PrngReg), Pre_ReferenceAIdeal_finite_a m →
    θ_run (Cert.ReferenceAIdeal.defs (F := Ideal)) (onTc (τ := Cert.ReferenceAIdeal.τ) (Cert.ReferenceAIdeal.main (F := Ideal))) ⟨m, fun _ => 0, g⟩ (fun r => (∀ c : Dev Cert.ReferenceAIdeal.nD,
      r.2.mem ((c.tc : Thread Cert.ReferenceAIdeal.nD Cert.ReferenceAIdeal.τ).loc Cert.ReferenceAIdeal.main_arg0) = m ((c.tc : Thread Cert.ReferenceAIdeal.nD Cert.ReferenceAIdeal.τ).loc Cert.ReferenceAIdeal.main_arg0)
      ∧ r.2.mem ((c.tc : Thread Cert.ReferenceAIdeal.nD Cert.ReferenceAIdeal.τ).loc Cert.ReferenceAIdeal.main_arg1) = m ((c.tc : Thread Cert.ReferenceAIdeal.nD Cert.ReferenceAIdeal.τ).loc Cert.ReferenceAIdeal.main_arg1)
      ∧ r.2.mem ((c.tc : Thread Cert.ReferenceAIdeal.nD Cert.ReferenceAIdeal.τ).loc Cert.ReferenceAIdeal.main_arg2) = m ((c.tc : Thread Cert.ReferenceAIdeal.nD Cert.ReferenceAIdeal.τ).loc Cert.ReferenceAIdeal.main_arg2)
      ∧ r.2.mem ((c.tc : Thread Cert.ReferenceAIdeal.nD Cert.ReferenceAIdeal.τ).loc Cert.ReferenceAIdeal.main_arg3) = m ((c.tc : Thread Cert.ReferenceAIdeal.nD Cert.ReferenceAIdeal.τ).loc Cert.ReferenceAIdeal.main_arg3))
      ∧ r.2.sem = fun _ => 0)

def quiescent_KernelM [hKernelM : Cert.KernelM.Facts] : Prop :=
  ∀ (m : (ℓ : Loc Cert.KernelM.nD Cert.KernelM.τ Cert.KernelM.sig) → Buf (Elt Bits) ℓ) (g : Dev Cert.KernelM.nD → PrngReg), Pre_KernelM m →
    θ_run (Cert.KernelM.defs (F := Bits)) (onTc (τ := Cert.KernelM.τ) (Cert.KernelM.main (F := Bits))) ⟨m, fun _ => 0, g⟩ (fun r => (∀ c : Dev Cert.KernelM.nD,
      r.2.mem ((c.tc : Thread Cert.KernelM.nD Cert.KernelM.τ).loc Cert.KernelM.main_arg0) = m ((c.tc : Thread Cert.KernelM.nD Cert.KernelM.τ).loc Cert.KernelM.main_arg0)
      ∧ r.2.mem ((c.tc : Thread Cert.KernelM.nD Cert.KernelM.τ).loc Cert.KernelM.main_arg1) = m ((c.tc : Thread Cert.KernelM.nD Cert.KernelM.τ).loc Cert.KernelM.main_arg1)
      ∧ r.2.mem ((c.tc : Thread Cert.KernelM.nD Cert.KernelM.τ).loc Cert.KernelM.main_arg2) = m ((c.tc : Thread Cert.KernelM.nD Cert.KernelM.τ).loc Cert.KernelM.main_arg2)
      ∧ r.2.mem ((c.tc : Thread Cert.KernelM.nD Cert.KernelM.τ).loc Cert.KernelM.main_arg3) = m ((c.tc : Thread Cert.KernelM.nD Cert.KernelM.τ).loc Cert.KernelM.main_arg3)
      ∧ r.2.mem ((c.tc : Thread Cert.KernelM.nD Cert.KernelM.τ).loc Cert.KernelM.main_arg4) = m ((c.tc : Thread Cert.KernelM.nD Cert.KernelM.τ).loc Cert.KernelM.main_arg4)
      ∧ r.2.mem ((c.tc : Thread Cert.KernelM.nD Cert.KernelM.τ).loc Cert.KernelM.main_arg5) = m ((c.tc : Thread Cert.KernelM.nD Cert.KernelM.τ).loc Cert.KernelM.main_arg5)
      ∧ r.2.mem ((c.tc : Thread Cert.KernelM.nD Cert.KernelM.τ).loc Cert.KernelM.main_arg6) = m ((c.tc : Thread Cert.KernelM.nD Cert.KernelM.τ).loc Cert.KernelM.main_arg6))
      ∧ r.2.sem = fun _ => 0)

def quiescent_KernelMIdeal [hKernelMIdeal : Cert.KernelMIdeal.Facts] : Prop :=
  ∀ (m : (ℓ : Loc Cert.KernelMIdeal.nD Cert.KernelMIdeal.τ Cert.KernelMIdeal.sig) → Buf (Elt Ideal) ℓ) (g : Dev Cert.KernelMIdeal.nD → PrngReg), Pre_KernelMIdeal m →
    θ_run (Cert.KernelMIdeal.defs (F := Ideal)) (onTc (τ := Cert.KernelMIdeal.τ) (Cert.KernelMIdeal.main (F := Ideal))) ⟨m, fun _ => 0, g⟩ (fun r => (∀ c : Dev Cert.KernelMIdeal.nD,
      r.2.mem ((c.tc : Thread Cert.KernelMIdeal.nD Cert.KernelMIdeal.τ).loc Cert.KernelMIdeal.main_arg0) = m ((c.tc : Thread Cert.KernelMIdeal.nD Cert.KernelMIdeal.τ).loc Cert.KernelMIdeal.main_arg0)
      ∧ r.2.mem ((c.tc : Thread Cert.KernelMIdeal.nD Cert.KernelMIdeal.τ).loc Cert.KernelMIdeal.main_arg1) = m ((c.tc : Thread Cert.KernelMIdeal.nD Cert.KernelMIdeal.τ).loc Cert.KernelMIdeal.main_arg1)
      ∧ r.2.mem ((c.tc : Thread Cert.KernelMIdeal.nD Cert.KernelMIdeal.τ).loc Cert.KernelMIdeal.main_arg2) = m ((c.tc : Thread Cert.KernelMIdeal.nD Cert.KernelMIdeal.τ).loc Cert.KernelMIdeal.main_arg2)
      ∧ r.2.mem ((c.tc : Thread Cert.KernelMIdeal.nD Cert.KernelMIdeal.τ).loc Cert.KernelMIdeal.main_arg3) = m ((c.tc : Thread Cert.KernelMIdeal.nD Cert.KernelMIdeal.τ).loc Cert.KernelMIdeal.main_arg3)
      ∧ r.2.mem ((c.tc : Thread Cert.KernelMIdeal.nD Cert.KernelMIdeal.τ).loc Cert.KernelMIdeal.main_arg4) = m ((c.tc : Thread Cert.KernelMIdeal.nD Cert.KernelMIdeal.τ).loc Cert.KernelMIdeal.main_arg4)
      ∧ r.2.mem ((c.tc : Thread Cert.KernelMIdeal.nD Cert.KernelMIdeal.τ).loc Cert.KernelMIdeal.main_arg5) = m ((c.tc : Thread Cert.KernelMIdeal.nD Cert.KernelMIdeal.τ).loc Cert.KernelMIdeal.main_arg5)
      ∧ r.2.mem ((c.tc : Thread Cert.KernelMIdeal.nD Cert.KernelMIdeal.τ).loc Cert.KernelMIdeal.main_arg6) = m ((c.tc : Thread Cert.KernelMIdeal.nD Cert.KernelMIdeal.τ).loc Cert.KernelMIdeal.main_arg6))
      ∧ r.2.sem = fun _ => 0)

def quiescent_KernelMIdeal_pre_finite_m [hKernelMIdeal : Cert.KernelMIdeal.Facts] [hPre_finite_m : Cert.Pre_finite_m.Facts] : Prop :=
  ∀ (m : (ℓ : Loc Cert.KernelMIdeal.nD Cert.KernelMIdeal.τ Cert.KernelMIdeal.sig) → Buf (Elt Ideal) ℓ) (g : Dev Cert.KernelMIdeal.nD → PrngReg), Pre_KernelMIdeal_finite_m m →
    θ_run (Cert.KernelMIdeal.defs (F := Ideal)) (onTc (τ := Cert.KernelMIdeal.τ) (Cert.KernelMIdeal.main (F := Ideal))) ⟨m, fun _ => 0, g⟩ (fun r => (∀ c : Dev Cert.KernelMIdeal.nD,
      r.2.mem ((c.tc : Thread Cert.KernelMIdeal.nD Cert.KernelMIdeal.τ).loc Cert.KernelMIdeal.main_arg0) = m ((c.tc : Thread Cert.KernelMIdeal.nD Cert.KernelMIdeal.τ).loc Cert.KernelMIdeal.main_arg0)
      ∧ r.2.mem ((c.tc : Thread Cert.KernelMIdeal.nD Cert.KernelMIdeal.τ).loc Cert.KernelMIdeal.main_arg1) = m ((c.tc : Thread Cert.KernelMIdeal.nD Cert.KernelMIdeal.τ).loc Cert.KernelMIdeal.main_arg1)
      ∧ r.2.mem ((c.tc : Thread Cert.KernelMIdeal.nD Cert.KernelMIdeal.τ).loc Cert.KernelMIdeal.main_arg2) = m ((c.tc : Thread Cert.KernelMIdeal.nD Cert.KernelMIdeal.τ).loc Cert.KernelMIdeal.main_arg2)
      ∧ r.2.mem ((c.tc : Thread Cert.KernelMIdeal.nD Cert.KernelMIdeal.τ).loc Cert.KernelMIdeal.main_arg3) = m ((c.tc : Thread Cert.KernelMIdeal.nD Cert.KernelMIdeal.τ).loc Cert.KernelMIdeal.main_arg3)
      ∧ r.2.mem ((c.tc : Thread Cert.KernelMIdeal.nD Cert.KernelMIdeal.τ).loc Cert.KernelMIdeal.main_arg4) = m ((c.tc : Thread Cert.KernelMIdeal.nD Cert.KernelMIdeal.τ).loc Cert.KernelMIdeal.main_arg4)
      ∧ r.2.mem ((c.tc : Thread Cert.KernelMIdeal.nD Cert.KernelMIdeal.τ).loc Cert.KernelMIdeal.main_arg5) = m ((c.tc : Thread Cert.KernelMIdeal.nD Cert.KernelMIdeal.τ).loc Cert.KernelMIdeal.main_arg5)
      ∧ r.2.mem ((c.tc : Thread Cert.KernelMIdeal.nD Cert.KernelMIdeal.τ).loc Cert.KernelMIdeal.main_arg6) = m ((c.tc : Thread Cert.KernelMIdeal.nD Cert.KernelMIdeal.τ).loc Cert.KernelMIdeal.main_arg6))
      ∧ r.2.sem = fun _ => 0)

def quiescent_ReferenceMIdeal [hReferenceMIdeal : Cert.ReferenceMIdeal.Facts] : Prop :=
  ∀ (m : (ℓ : Loc Cert.ReferenceMIdeal.nD Cert.ReferenceMIdeal.τ Cert.ReferenceMIdeal.sig) → Buf (Elt Ideal) ℓ) (g : Dev Cert.ReferenceMIdeal.nD → PrngReg), Pre_ReferenceMIdeal m →
    θ_run (Cert.ReferenceMIdeal.defs (F := Ideal)) (onTc (τ := Cert.ReferenceMIdeal.τ) (Cert.ReferenceMIdeal.main (F := Ideal))) ⟨m, fun _ => 0, g⟩ (fun r => (∀ c : Dev Cert.ReferenceMIdeal.nD,
      r.2.mem ((c.tc : Thread Cert.ReferenceMIdeal.nD Cert.ReferenceMIdeal.τ).loc Cert.ReferenceMIdeal.main_arg0) = m ((c.tc : Thread Cert.ReferenceMIdeal.nD Cert.ReferenceMIdeal.τ).loc Cert.ReferenceMIdeal.main_arg0)
      ∧ r.2.mem ((c.tc : Thread Cert.ReferenceMIdeal.nD Cert.ReferenceMIdeal.τ).loc Cert.ReferenceMIdeal.main_arg1) = m ((c.tc : Thread Cert.ReferenceMIdeal.nD Cert.ReferenceMIdeal.τ).loc Cert.ReferenceMIdeal.main_arg1)
      ∧ r.2.mem ((c.tc : Thread Cert.ReferenceMIdeal.nD Cert.ReferenceMIdeal.τ).loc Cert.ReferenceMIdeal.main_arg2) = m ((c.tc : Thread Cert.ReferenceMIdeal.nD Cert.ReferenceMIdeal.τ).loc Cert.ReferenceMIdeal.main_arg2)
      ∧ r.2.mem ((c.tc : Thread Cert.ReferenceMIdeal.nD Cert.ReferenceMIdeal.τ).loc Cert.ReferenceMIdeal.main_arg3) = m ((c.tc : Thread Cert.ReferenceMIdeal.nD Cert.ReferenceMIdeal.τ).loc Cert.ReferenceMIdeal.main_arg3)
      ∧ r.2.mem ((c.tc : Thread Cert.ReferenceMIdeal.nD Cert.ReferenceMIdeal.τ).loc Cert.ReferenceMIdeal.main_arg4) = m ((c.tc : Thread Cert.ReferenceMIdeal.nD Cert.ReferenceMIdeal.τ).loc Cert.ReferenceMIdeal.main_arg4)
      ∧ r.2.mem ((c.tc : Thread Cert.ReferenceMIdeal.nD Cert.ReferenceMIdeal.τ).loc Cert.ReferenceMIdeal.main_arg5) = m ((c.tc : Thread Cert.ReferenceMIdeal.nD Cert.ReferenceMIdeal.τ).loc Cert.ReferenceMIdeal.main_arg5)
      ∧ r.2.mem ((c.tc : Thread Cert.ReferenceMIdeal.nD Cert.ReferenceMIdeal.τ).loc Cert.ReferenceMIdeal.main_arg6) = m ((c.tc : Thread Cert.ReferenceMIdeal.nD Cert.ReferenceMIdeal.τ).loc Cert.ReferenceMIdeal.main_arg6))
      ∧ r.2.sem = fun _ => 0)

def quiescent_ReferenceMIdeal_pre_finite_m [hReferenceMIdeal : Cert.ReferenceMIdeal.Facts] [hPre_finite_m : Cert.Pre_finite_m.Facts] : Prop :=
  ∀ (m : (ℓ : Loc Cert.ReferenceMIdeal.nD Cert.ReferenceMIdeal.τ Cert.ReferenceMIdeal.sig) → Buf (Elt Ideal) ℓ) (g : Dev Cert.ReferenceMIdeal.nD → PrngReg), Pre_ReferenceMIdeal_finite_m m →
    θ_run (Cert.ReferenceMIdeal.defs (F := Ideal)) (onTc (τ := Cert.ReferenceMIdeal.τ) (Cert.ReferenceMIdeal.main (F := Ideal))) ⟨m, fun _ => 0, g⟩ (fun r => (∀ c : Dev Cert.ReferenceMIdeal.nD,
      r.2.mem ((c.tc : Thread Cert.ReferenceMIdeal.nD Cert.ReferenceMIdeal.τ).loc Cert.ReferenceMIdeal.main_arg0) = m ((c.tc : Thread Cert.ReferenceMIdeal.nD Cert.ReferenceMIdeal.τ).loc Cert.ReferenceMIdeal.main_arg0)
      ∧ r.2.mem ((c.tc : Thread Cert.ReferenceMIdeal.nD Cert.ReferenceMIdeal.τ).loc Cert.ReferenceMIdeal.main_arg1) = m ((c.tc : Thread Cert.ReferenceMIdeal.nD Cert.ReferenceMIdeal.τ).loc Cert.ReferenceMIdeal.main_arg1)
      ∧ r.2.mem ((c.tc : Thread Cert.ReferenceMIdeal.nD Cert.ReferenceMIdeal.τ).loc Cert.ReferenceMIdeal.main_arg2) = m ((c.tc : Thread Cert.ReferenceMIdeal.nD Cert.ReferenceMIdeal.τ).loc Cert.ReferenceMIdeal.main_arg2)
      ∧ r.2.mem ((c.tc : Thread Cert.ReferenceMIdeal.nD Cert.ReferenceMIdeal.τ).loc Cert.ReferenceMIdeal.main_arg3) = m ((c.tc : Thread Cert.ReferenceMIdeal.nD Cert.ReferenceMIdeal.τ).loc Cert.ReferenceMIdeal.main_arg3)
      ∧ r.2.mem ((c.tc : Thread Cert.ReferenceMIdeal.nD Cert.ReferenceMIdeal.τ).loc Cert.ReferenceMIdeal.main_arg4) = m ((c.tc : Thread Cert.ReferenceMIdeal.nD Cert.ReferenceMIdeal.τ).loc Cert.ReferenceMIdeal.main_arg4)
      ∧ r.2.mem ((c.tc : Thread Cert.ReferenceMIdeal.nD Cert.ReferenceMIdeal.τ).loc Cert.ReferenceMIdeal.main_arg5) = m ((c.tc : Thread Cert.ReferenceMIdeal.nD Cert.ReferenceMIdeal.τ).loc Cert.ReferenceMIdeal.main_arg5)
      ∧ r.2.mem ((c.tc : Thread Cert.ReferenceMIdeal.nD Cert.ReferenceMIdeal.τ).loc Cert.ReferenceMIdeal.main_arg6) = m ((c.tc : Thread Cert.ReferenceMIdeal.nD Cert.ReferenceMIdeal.τ).loc Cert.ReferenceMIdeal.main_arg6))
      ∧ r.2.sem = fun _ => 0)

def quiescent_KernelFB [hKernelFB : Cert.KernelFB.Facts] : Prop :=
  ∀ (m : (ℓ : Loc Cert.KernelFB.nD Cert.KernelFB.τ Cert.KernelFB.sig) → Buf (Elt Bits) ℓ) (g : Dev Cert.KernelFB.nD → PrngReg), Pre_KernelFB m →
    θ_run (Cert.KernelFB.defs (F := Bits)) (onTc (τ := Cert.KernelFB.τ) (Cert.KernelFB.main (F := Bits))) ⟨m, fun _ => 0, g⟩ (fun r => (∀ c : Dev Cert.KernelFB.nD,
      r.2.mem ((c.tc : Thread Cert.KernelFB.nD Cert.KernelFB.τ).loc Cert.KernelFB.main_arg0) = m ((c.tc : Thread Cert.KernelFB.nD Cert.KernelFB.τ).loc Cert.KernelFB.main_arg0)
      ∧ r.2.mem ((c.tc : Thread Cert.KernelFB.nD Cert.KernelFB.τ).loc Cert.KernelFB.main_arg1) = m ((c.tc : Thread Cert.KernelFB.nD Cert.KernelFB.τ).loc Cert.KernelFB.main_arg1)
      ∧ r.2.mem ((c.tc : Thread Cert.KernelFB.nD Cert.KernelFB.τ).loc Cert.KernelFB.main_arg2) = m ((c.tc : Thread Cert.KernelFB.nD Cert.KernelFB.τ).loc Cert.KernelFB.main_arg2))
      ∧ r.2.sem = fun _ => 0)

def quiescent_KernelFBIdeal [hKernelFBIdeal : Cert.KernelFBIdeal.Facts] : Prop :=
  ∀ (m : (ℓ : Loc Cert.KernelFBIdeal.nD Cert.KernelFBIdeal.τ Cert.KernelFBIdeal.sig) → Buf (Elt Ideal) ℓ) (g : Dev Cert.KernelFBIdeal.nD → PrngReg), Pre_KernelFBIdeal m →
    θ_run (Cert.KernelFBIdeal.defs (F := Ideal)) (onTc (τ := Cert.KernelFBIdeal.τ) (Cert.KernelFBIdeal.main (F := Ideal))) ⟨m, fun _ => 0, g⟩ (fun r => (∀ c : Dev Cert.KernelFBIdeal.nD,
      r.2.mem ((c.tc : Thread Cert.KernelFBIdeal.nD Cert.KernelFBIdeal.τ).loc Cert.KernelFBIdeal.main_arg0) = m ((c.tc : Thread Cert.KernelFBIdeal.nD Cert.KernelFBIdeal.τ).loc Cert.KernelFBIdeal.main_arg0)
      ∧ r.2.mem ((c.tc : Thread Cert.KernelFBIdeal.nD Cert.KernelFBIdeal.τ).loc Cert.KernelFBIdeal.main_arg1) = m ((c.tc : Thread Cert.KernelFBIdeal.nD Cert.KernelFBIdeal.τ).loc Cert.KernelFBIdeal.main_arg1)
      ∧ r.2.mem ((c.tc : Thread Cert.KernelFBIdeal.nD Cert.KernelFBIdeal.τ).loc Cert.KernelFBIdeal.main_arg2) = m ((c.tc : Thread Cert.KernelFBIdeal.nD Cert.KernelFBIdeal.τ).loc Cert.KernelFBIdeal.main_arg2))
      ∧ r.2.sem = fun _ => 0)

def quiescent_KernelFBIdeal_pre_finite_fb [hKernelFBIdeal : Cert.KernelFBIdeal.Facts] [hPre_finite_fb : Cert.Pre_finite_fb.Facts] : Prop :=
  ∀ (m : (ℓ : Loc Cert.KernelFBIdeal.nD Cert.KernelFBIdeal.τ Cert.KernelFBIdeal.sig) → Buf (Elt Ideal) ℓ) (g : Dev Cert.KernelFBIdeal.nD → PrngReg), Pre_KernelFBIdeal_finite_fb m →
    θ_run (Cert.KernelFBIdeal.defs (F := Ideal)) (onTc (τ := Cert.KernelFBIdeal.τ) (Cert.KernelFBIdeal.main (F := Ideal))) ⟨m, fun _ => 0, g⟩ (fun r => (∀ c : Dev Cert.KernelFBIdeal.nD,
      r.2.mem ((c.tc : Thread Cert.KernelFBIdeal.nD Cert.KernelFBIdeal.τ).loc Cert.KernelFBIdeal.main_arg0) = m ((c.tc : Thread Cert.KernelFBIdeal.nD Cert.KernelFBIdeal.τ).loc Cert.KernelFBIdeal.main_arg0)
      ∧ r.2.mem ((c.tc : Thread Cert.KernelFBIdeal.nD Cert.KernelFBIdeal.τ).loc Cert.KernelFBIdeal.main_arg1) = m ((c.tc : Thread Cert.KernelFBIdeal.nD Cert.KernelFBIdeal.τ).loc Cert.KernelFBIdeal.main_arg1)
      ∧ r.2.mem ((c.tc : Thread Cert.KernelFBIdeal.nD Cert.KernelFBIdeal.τ).loc Cert.KernelFBIdeal.main_arg2) = m ((c.tc : Thread Cert.KernelFBIdeal.nD Cert.KernelFBIdeal.τ).loc Cert.KernelFBIdeal.main_arg2))
      ∧ r.2.sem = fun _ => 0)

def quiescent_ReferenceFBIdeal [hReferenceFBIdeal : Cert.ReferenceFBIdeal.Facts] : Prop :=
  ∀ (m : (ℓ : Loc Cert.ReferenceFBIdeal.nD Cert.ReferenceFBIdeal.τ Cert.ReferenceFBIdeal.sig) → Buf (Elt Ideal) ℓ) (g : Dev Cert.ReferenceFBIdeal.nD → PrngReg), Pre_ReferenceFBIdeal m →
    θ_run (Cert.ReferenceFBIdeal.defs (F := Ideal)) (onTc (τ := Cert.ReferenceFBIdeal.τ) (Cert.ReferenceFBIdeal.main (F := Ideal))) ⟨m, fun _ => 0, g⟩ (fun r => (∀ c : Dev Cert.ReferenceFBIdeal.nD,
      r.2.mem ((c.tc : Thread Cert.ReferenceFBIdeal.nD Cert.ReferenceFBIdeal.τ).loc Cert.ReferenceFBIdeal.main_arg0) = m ((c.tc : Thread Cert.ReferenceFBIdeal.nD Cert.ReferenceFBIdeal.τ).loc Cert.ReferenceFBIdeal.main_arg0)
      ∧ r.2.mem ((c.tc : Thread Cert.ReferenceFBIdeal.nD Cert.ReferenceFBIdeal.τ).loc Cert.ReferenceFBIdeal.main_arg1) = m ((c.tc : Thread Cert.ReferenceFBIdeal.nD Cert.ReferenceFBIdeal.τ).loc Cert.ReferenceFBIdeal.main_arg1)
      ∧ r.2.mem ((c.tc : Thread Cert.ReferenceFBIdeal.nD Cert.ReferenceFBIdeal.τ).loc Cert.ReferenceFBIdeal.main_arg2) = m ((c.tc : Thread Cert.ReferenceFBIdeal.nD Cert.ReferenceFBIdeal.τ).loc Cert.ReferenceFBIdeal.main_arg2))
      ∧ r.2.sem = fun _ => 0)

def quiescent_ReferenceFBIdeal_pre_finite_fb [hReferenceFBIdeal : Cert.ReferenceFBIdeal.Facts] [hPre_finite_fb : Cert.Pre_finite_fb.Facts] : Prop :=
  ∀ (m : (ℓ : Loc Cert.ReferenceFBIdeal.nD Cert.ReferenceFBIdeal.τ Cert.ReferenceFBIdeal.sig) → Buf (Elt Ideal) ℓ) (g : Dev Cert.ReferenceFBIdeal.nD → PrngReg), Pre_ReferenceFBIdeal_finite_fb m →
    θ_run (Cert.ReferenceFBIdeal.defs (F := Ideal)) (onTc (τ := Cert.ReferenceFBIdeal.τ) (Cert.ReferenceFBIdeal.main (F := Ideal))) ⟨m, fun _ => 0, g⟩ (fun r => (∀ c : Dev Cert.ReferenceFBIdeal.nD,
      r.2.mem ((c.tc : Thread Cert.ReferenceFBIdeal.nD Cert.ReferenceFBIdeal.τ).loc Cert.ReferenceFBIdeal.main_arg0) = m ((c.tc : Thread Cert.ReferenceFBIdeal.nD Cert.ReferenceFBIdeal.τ).loc Cert.ReferenceFBIdeal.main_arg0)
      ∧ r.2.mem ((c.tc : Thread Cert.ReferenceFBIdeal.nD Cert.ReferenceFBIdeal.τ).loc Cert.ReferenceFBIdeal.main_arg1) = m ((c.tc : Thread Cert.ReferenceFBIdeal.nD Cert.ReferenceFBIdeal.τ).loc Cert.ReferenceFBIdeal.main_arg1)
      ∧ r.2.mem ((c.tc : Thread Cert.ReferenceFBIdeal.nD Cert.ReferenceFBIdeal.τ).loc Cert.ReferenceFBIdeal.main_arg2) = m ((c.tc : Thread Cert.ReferenceFBIdeal.nD Cert.ReferenceFBIdeal.τ).loc Cert.ReferenceFBIdeal.main_arg2))
      ∧ r.2.sem = fun _ => 0)

def quiescent_KernelFA [hKernelFA : Cert.KernelFA.Facts] : Prop :=
  ∀ (m : (ℓ : Loc Cert.KernelFA.nD Cert.KernelFA.τ Cert.KernelFA.sig) → Buf (Elt Bits) ℓ) (g : Dev Cert.KernelFA.nD → PrngReg), Pre_KernelFA m →
    θ_run (Cert.KernelFA.defs (F := Bits)) (onTc (τ := Cert.KernelFA.τ) (Cert.KernelFA.main (F := Bits))) ⟨m, fun _ => 0, g⟩ (fun r => (∀ c : Dev Cert.KernelFA.nD,
      r.2.mem ((c.tc : Thread Cert.KernelFA.nD Cert.KernelFA.τ).loc Cert.KernelFA.main_arg0) = m ((c.tc : Thread Cert.KernelFA.nD Cert.KernelFA.τ).loc Cert.KernelFA.main_arg0)
      ∧ r.2.mem ((c.tc : Thread Cert.KernelFA.nD Cert.KernelFA.τ).loc Cert.KernelFA.main_arg1) = m ((c.tc : Thread Cert.KernelFA.nD Cert.KernelFA.τ).loc Cert.KernelFA.main_arg1)
      ∧ r.2.mem ((c.tc : Thread Cert.KernelFA.nD Cert.KernelFA.τ).loc Cert.KernelFA.main_arg2) = m ((c.tc : Thread Cert.KernelFA.nD Cert.KernelFA.τ).loc Cert.KernelFA.main_arg2))
      ∧ r.2.sem = fun _ => 0)

def quiescent_KernelFAIdeal [hKernelFAIdeal : Cert.KernelFAIdeal.Facts] : Prop :=
  ∀ (m : (ℓ : Loc Cert.KernelFAIdeal.nD Cert.KernelFAIdeal.τ Cert.KernelFAIdeal.sig) → Buf (Elt Ideal) ℓ) (g : Dev Cert.KernelFAIdeal.nD → PrngReg), Pre_KernelFAIdeal m →
    θ_run (Cert.KernelFAIdeal.defs (F := Ideal)) (onTc (τ := Cert.KernelFAIdeal.τ) (Cert.KernelFAIdeal.main (F := Ideal))) ⟨m, fun _ => 0, g⟩ (fun r => (∀ c : Dev Cert.KernelFAIdeal.nD,
      r.2.mem ((c.tc : Thread Cert.KernelFAIdeal.nD Cert.KernelFAIdeal.τ).loc Cert.KernelFAIdeal.main_arg0) = m ((c.tc : Thread Cert.KernelFAIdeal.nD Cert.KernelFAIdeal.τ).loc Cert.KernelFAIdeal.main_arg0)
      ∧ r.2.mem ((c.tc : Thread Cert.KernelFAIdeal.nD Cert.KernelFAIdeal.τ).loc Cert.KernelFAIdeal.main_arg1) = m ((c.tc : Thread Cert.KernelFAIdeal.nD Cert.KernelFAIdeal.τ).loc Cert.KernelFAIdeal.main_arg1)
      ∧ r.2.mem ((c.tc : Thread Cert.KernelFAIdeal.nD Cert.KernelFAIdeal.τ).loc Cert.KernelFAIdeal.main_arg2) = m ((c.tc : Thread Cert.KernelFAIdeal.nD Cert.KernelFAIdeal.τ).loc Cert.KernelFAIdeal.main_arg2))
      ∧ r.2.sem = fun _ => 0)

def quiescent_KernelFAIdeal_pre_finite_fa [hKernelFAIdeal : Cert.KernelFAIdeal.Facts] [hPre_finite_fa : Cert.Pre_finite_fa.Facts] : Prop :=
  ∀ (m : (ℓ : Loc Cert.KernelFAIdeal.nD Cert.KernelFAIdeal.τ Cert.KernelFAIdeal.sig) → Buf (Elt Ideal) ℓ) (g : Dev Cert.KernelFAIdeal.nD → PrngReg), Pre_KernelFAIdeal_finite_fa m →
    θ_run (Cert.KernelFAIdeal.defs (F := Ideal)) (onTc (τ := Cert.KernelFAIdeal.τ) (Cert.KernelFAIdeal.main (F := Ideal))) ⟨m, fun _ => 0, g⟩ (fun r => (∀ c : Dev Cert.KernelFAIdeal.nD,
      r.2.mem ((c.tc : Thread Cert.KernelFAIdeal.nD Cert.KernelFAIdeal.τ).loc Cert.KernelFAIdeal.main_arg0) = m ((c.tc : Thread Cert.KernelFAIdeal.nD Cert.KernelFAIdeal.τ).loc Cert.KernelFAIdeal.main_arg0)
      ∧ r.2.mem ((c.tc : Thread Cert.KernelFAIdeal.nD Cert.KernelFAIdeal.τ).loc Cert.KernelFAIdeal.main_arg1) = m ((c.tc : Thread Cert.KernelFAIdeal.nD Cert.KernelFAIdeal.τ).loc Cert.KernelFAIdeal.main_arg1)
      ∧ r.2.mem ((c.tc : Thread Cert.KernelFAIdeal.nD Cert.KernelFAIdeal.τ).loc Cert.KernelFAIdeal.main_arg2) = m ((c.tc : Thread Cert.KernelFAIdeal.nD Cert.KernelFAIdeal.τ).loc Cert.KernelFAIdeal.main_arg2))
      ∧ r.2.sem = fun _ => 0)

def quiescent_ReferenceFAIdeal [hReferenceFAIdeal : Cert.ReferenceFAIdeal.Facts] : Prop :=
  ∀ (m : (ℓ : Loc Cert.ReferenceFAIdeal.nD Cert.ReferenceFAIdeal.τ Cert.ReferenceFAIdeal.sig) → Buf (Elt Ideal) ℓ) (g : Dev Cert.ReferenceFAIdeal.nD → PrngReg), Pre_ReferenceFAIdeal m →
    θ_run (Cert.ReferenceFAIdeal.defs (F := Ideal)) (onTc (τ := Cert.ReferenceFAIdeal.τ) (Cert.ReferenceFAIdeal.main (F := Ideal))) ⟨m, fun _ => 0, g⟩ (fun r => (∀ c : Dev Cert.ReferenceFAIdeal.nD,
      r.2.mem ((c.tc : Thread Cert.ReferenceFAIdeal.nD Cert.ReferenceFAIdeal.τ).loc Cert.ReferenceFAIdeal.main_arg0) = m ((c.tc : Thread Cert.ReferenceFAIdeal.nD Cert.ReferenceFAIdeal.τ).loc Cert.ReferenceFAIdeal.main_arg0)
      ∧ r.2.mem ((c.tc : Thread Cert.ReferenceFAIdeal.nD Cert.ReferenceFAIdeal.τ).loc Cert.ReferenceFAIdeal.main_arg1) = m ((c.tc : Thread Cert.ReferenceFAIdeal.nD Cert.ReferenceFAIdeal.τ).loc Cert.ReferenceFAIdeal.main_arg1)
      ∧ r.2.mem ((c.tc : Thread Cert.ReferenceFAIdeal.nD Cert.ReferenceFAIdeal.τ).loc Cert.ReferenceFAIdeal.main_arg2) = m ((c.tc : Thread Cert.ReferenceFAIdeal.nD Cert.ReferenceFAIdeal.τ).loc Cert.ReferenceFAIdeal.main_arg2))
      ∧ r.2.sem = fun _ => 0)

def quiescent_ReferenceFAIdeal_pre_finite_fa [hReferenceFAIdeal : Cert.ReferenceFAIdeal.Facts] [hPre_finite_fa : Cert.Pre_finite_fa.Facts] : Prop :=
  ∀ (m : (ℓ : Loc Cert.ReferenceFAIdeal.nD Cert.ReferenceFAIdeal.τ Cert.ReferenceFAIdeal.sig) → Buf (Elt Ideal) ℓ) (g : Dev Cert.ReferenceFAIdeal.nD → PrngReg), Pre_ReferenceFAIdeal_finite_fa m →
    θ_run (Cert.ReferenceFAIdeal.defs (F := Ideal)) (onTc (τ := Cert.ReferenceFAIdeal.τ) (Cert.ReferenceFAIdeal.main (F := Ideal))) ⟨m, fun _ => 0, g⟩ (fun r => (∀ c : Dev Cert.ReferenceFAIdeal.nD,
      r.2.mem ((c.tc : Thread Cert.ReferenceFAIdeal.nD Cert.ReferenceFAIdeal.τ).loc Cert.ReferenceFAIdeal.main_arg0) = m ((c.tc : Thread Cert.ReferenceFAIdeal.nD Cert.ReferenceFAIdeal.τ).loc Cert.ReferenceFAIdeal.main_arg0)
      ∧ r.2.mem ((c.tc : Thread Cert.ReferenceFAIdeal.nD Cert.ReferenceFAIdeal.τ).loc Cert.ReferenceFAIdeal.main_arg1) = m ((c.tc : Thread Cert.ReferenceFAIdeal.nD Cert.ReferenceFAIdeal.τ).loc Cert.ReferenceFAIdeal.main_arg1)
      ∧ r.2.mem ((c.tc : Thread Cert.ReferenceFAIdeal.nD Cert.ReferenceFAIdeal.τ).loc Cert.ReferenceFAIdeal.main_arg2) = m ((c.tc : Thread Cert.ReferenceFAIdeal.nD Cert.ReferenceFAIdeal.τ).loc Cert.ReferenceFAIdeal.main_arg2))
      ∧ r.2.sem = fun _ => 0)

def quiescent_KernelP [hKernelP : Cert.KernelP.Facts] : Prop :=
  ∀ (m : (ℓ : Loc Cert.KernelP.nD Cert.KernelP.τ Cert.KernelP.sig) → Buf (Elt Bits) ℓ) (g : Dev Cert.KernelP.nD → PrngReg), Pre_KernelP m →
    θ_run (Cert.KernelP.defs (F := Bits)) (onTc (τ := Cert.KernelP.τ) (Cert.KernelP.main (F := Bits))) ⟨m, fun _ => 0, g⟩ (fun r => (∀ c : Dev Cert.KernelP.nD,
      r.2.mem ((c.tc : Thread Cert.KernelP.nD Cert.KernelP.τ).loc Cert.KernelP.main_arg0) = m ((c.tc : Thread Cert.KernelP.nD Cert.KernelP.τ).loc Cert.KernelP.main_arg0)
      ∧ r.2.mem ((c.tc : Thread Cert.KernelP.nD Cert.KernelP.τ).loc Cert.KernelP.main_arg1) = m ((c.tc : Thread Cert.KernelP.nD Cert.KernelP.τ).loc Cert.KernelP.main_arg1)
      ∧ r.2.mem ((c.tc : Thread Cert.KernelP.nD Cert.KernelP.τ).loc Cert.KernelP.main_arg2) = m ((c.tc : Thread Cert.KernelP.nD Cert.KernelP.τ).loc Cert.KernelP.main_arg2)
      ∧ r.2.mem ((c.tc : Thread Cert.KernelP.nD Cert.KernelP.τ).loc Cert.KernelP.main_arg3) = m ((c.tc : Thread Cert.KernelP.nD Cert.KernelP.τ).loc Cert.KernelP.main_arg3)
      ∧ r.2.mem ((c.tc : Thread Cert.KernelP.nD Cert.KernelP.τ).loc Cert.KernelP.main_arg4) = m ((c.tc : Thread Cert.KernelP.nD Cert.KernelP.τ).loc Cert.KernelP.main_arg4)
      ∧ r.2.mem ((c.tc : Thread Cert.KernelP.nD Cert.KernelP.τ).loc Cert.KernelP.main_arg5) = m ((c.tc : Thread Cert.KernelP.nD Cert.KernelP.τ).loc Cert.KernelP.main_arg5)
      ∧ r.2.mem ((c.tc : Thread Cert.KernelP.nD Cert.KernelP.τ).loc Cert.KernelP.main_arg6) = m ((c.tc : Thread Cert.KernelP.nD Cert.KernelP.τ).loc Cert.KernelP.main_arg6)
      ∧ r.2.mem ((c.tc : Thread Cert.KernelP.nD Cert.KernelP.τ).loc Cert.KernelP.main_arg7) = m ((c.tc : Thread Cert.KernelP.nD Cert.KernelP.τ).loc Cert.KernelP.main_arg7)
      ∧ r.2.mem ((c.tc : Thread Cert.KernelP.nD Cert.KernelP.τ).loc Cert.KernelP.main_arg8) = m ((c.tc : Thread Cert.KernelP.nD Cert.KernelP.τ).loc Cert.KernelP.main_arg8)
      ∧ r.2.mem ((c.tc : Thread Cert.KernelP.nD Cert.KernelP.τ).loc Cert.KernelP.main_arg9) = m ((c.tc : Thread Cert.KernelP.nD Cert.KernelP.τ).loc Cert.KernelP.main_arg9)
      ∧ r.2.mem ((c.tc : Thread Cert.KernelP.nD Cert.KernelP.τ).loc Cert.KernelP.main_arg10) = m ((c.tc : Thread Cert.KernelP.nD Cert.KernelP.τ).loc Cert.KernelP.main_arg10)
      ∧ r.2.mem ((c.tc : Thread Cert.KernelP.nD Cert.KernelP.τ).loc Cert.KernelP.main_arg11) = m ((c.tc : Thread Cert.KernelP.nD Cert.KernelP.τ).loc Cert.KernelP.main_arg11)
      ∧ r.2.mem ((c.tc : Thread Cert.KernelP.nD Cert.KernelP.τ).loc Cert.KernelP.main_arg12) = m ((c.tc : Thread Cert.KernelP.nD Cert.KernelP.τ).loc Cert.KernelP.main_arg12)
      ∧ r.2.mem ((c.tc : Thread Cert.KernelP.nD Cert.KernelP.τ).loc Cert.KernelP.main_arg13) = m ((c.tc : Thread Cert.KernelP.nD Cert.KernelP.τ).loc Cert.KernelP.main_arg13)
      ∧ r.2.mem ((c.tc : Thread Cert.KernelP.nD Cert.KernelP.τ).loc Cert.KernelP.main_arg14) = m ((c.tc : Thread Cert.KernelP.nD Cert.KernelP.τ).loc Cert.KernelP.main_arg14)
      ∧ r.2.mem ((c.tc : Thread Cert.KernelP.nD Cert.KernelP.τ).loc Cert.KernelP.main_arg15) = m ((c.tc : Thread Cert.KernelP.nD Cert.KernelP.τ).loc Cert.KernelP.main_arg15)
      ∧ r.2.mem ((c.tc : Thread Cert.KernelP.nD Cert.KernelP.τ).loc Cert.KernelP.main_arg16) = m ((c.tc : Thread Cert.KernelP.nD Cert.KernelP.τ).loc Cert.KernelP.main_arg16)
      ∧ r.2.mem ((c.tc : Thread Cert.KernelP.nD Cert.KernelP.τ).loc Cert.KernelP.main_arg17) = m ((c.tc : Thread Cert.KernelP.nD Cert.KernelP.τ).loc Cert.KernelP.main_arg17)
      ∧ r.2.mem ((c.tc : Thread Cert.KernelP.nD Cert.KernelP.τ).loc Cert.KernelP.main_arg18) = m ((c.tc : Thread Cert.KernelP.nD Cert.KernelP.τ).loc Cert.KernelP.main_arg18)
      ∧ r.2.mem ((c.tc : Thread Cert.KernelP.nD Cert.KernelP.τ).loc Cert.KernelP.main_arg19) = m ((c.tc : Thread Cert.KernelP.nD Cert.KernelP.τ).loc Cert.KernelP.main_arg19)
      ∧ r.2.mem ((c.tc : Thread Cert.KernelP.nD Cert.KernelP.τ).loc Cert.KernelP.main_arg20) = m ((c.tc : Thread Cert.KernelP.nD Cert.KernelP.τ).loc Cert.KernelP.main_arg20)
      ∧ r.2.mem ((c.tc : Thread Cert.KernelP.nD Cert.KernelP.τ).loc Cert.KernelP.main_arg21) = m ((c.tc : Thread Cert.KernelP.nD Cert.KernelP.τ).loc Cert.KernelP.main_arg21)
      ∧ r.2.mem ((c.tc : Thread Cert.KernelP.nD Cert.KernelP.τ).loc Cert.KernelP.main_arg22) = m ((c.tc : Thread Cert.KernelP.nD Cert.KernelP.τ).loc Cert.KernelP.main_arg22)
      ∧ r.2.mem ((c.tc : Thread Cert.KernelP.nD Cert.KernelP.τ).loc Cert.KernelP.main_arg23) = m ((c.tc : Thread Cert.KernelP.nD Cert.KernelP.τ).loc Cert.KernelP.main_arg23)
      ∧ r.2.mem ((c.tc : Thread Cert.KernelP.nD Cert.KernelP.τ).loc Cert.KernelP.main_arg24) = m ((c.tc : Thread Cert.KernelP.nD Cert.KernelP.τ).loc Cert.KernelP.main_arg24)
      ∧ r.2.mem ((c.tc : Thread Cert.KernelP.nD Cert.KernelP.τ).loc Cert.KernelP.main_arg25) = m ((c.tc : Thread Cert.KernelP.nD Cert.KernelP.τ).loc Cert.KernelP.main_arg25))
      ∧ r.2.sem = fun _ => 0)

def quiescent_KernelPIdeal [hKernelPIdeal : Cert.KernelPIdeal.Facts] : Prop :=
  ∀ (m : (ℓ : Loc Cert.KernelPIdeal.nD Cert.KernelPIdeal.τ Cert.KernelPIdeal.sig) → Buf (Elt Ideal) ℓ) (g : Dev Cert.KernelPIdeal.nD → PrngReg), Pre_KernelPIdeal m →
    θ_run (Cert.KernelPIdeal.defs (F := Ideal)) (onTc (τ := Cert.KernelPIdeal.τ) (Cert.KernelPIdeal.main (F := Ideal))) ⟨m, fun _ => 0, g⟩ (fun r => (∀ c : Dev Cert.KernelPIdeal.nD,
      r.2.mem ((c.tc : Thread Cert.KernelPIdeal.nD Cert.KernelPIdeal.τ).loc Cert.KernelPIdeal.main_arg0) = m ((c.tc : Thread Cert.KernelPIdeal.nD Cert.KernelPIdeal.τ).loc Cert.KernelPIdeal.main_arg0)
      ∧ r.2.mem ((c.tc : Thread Cert.KernelPIdeal.nD Cert.KernelPIdeal.τ).loc Cert.KernelPIdeal.main_arg1) = m ((c.tc : Thread Cert.KernelPIdeal.nD Cert.KernelPIdeal.τ).loc Cert.KernelPIdeal.main_arg1)
      ∧ r.2.mem ((c.tc : Thread Cert.KernelPIdeal.nD Cert.KernelPIdeal.τ).loc Cert.KernelPIdeal.main_arg2) = m ((c.tc : Thread Cert.KernelPIdeal.nD Cert.KernelPIdeal.τ).loc Cert.KernelPIdeal.main_arg2)
      ∧ r.2.mem ((c.tc : Thread Cert.KernelPIdeal.nD Cert.KernelPIdeal.τ).loc Cert.KernelPIdeal.main_arg3) = m ((c.tc : Thread Cert.KernelPIdeal.nD Cert.KernelPIdeal.τ).loc Cert.KernelPIdeal.main_arg3)
      ∧ r.2.mem ((c.tc : Thread Cert.KernelPIdeal.nD Cert.KernelPIdeal.τ).loc Cert.KernelPIdeal.main_arg4) = m ((c.tc : Thread Cert.KernelPIdeal.nD Cert.KernelPIdeal.τ).loc Cert.KernelPIdeal.main_arg4)
      ∧ r.2.mem ((c.tc : Thread Cert.KernelPIdeal.nD Cert.KernelPIdeal.τ).loc Cert.KernelPIdeal.main_arg5) = m ((c.tc : Thread Cert.KernelPIdeal.nD Cert.KernelPIdeal.τ).loc Cert.KernelPIdeal.main_arg5)
      ∧ r.2.mem ((c.tc : Thread Cert.KernelPIdeal.nD Cert.KernelPIdeal.τ).loc Cert.KernelPIdeal.main_arg6) = m ((c.tc : Thread Cert.KernelPIdeal.nD Cert.KernelPIdeal.τ).loc Cert.KernelPIdeal.main_arg6)
      ∧ r.2.mem ((c.tc : Thread Cert.KernelPIdeal.nD Cert.KernelPIdeal.τ).loc Cert.KernelPIdeal.main_arg7) = m ((c.tc : Thread Cert.KernelPIdeal.nD Cert.KernelPIdeal.τ).loc Cert.KernelPIdeal.main_arg7)
      ∧ r.2.mem ((c.tc : Thread Cert.KernelPIdeal.nD Cert.KernelPIdeal.τ).loc Cert.KernelPIdeal.main_arg8) = m ((c.tc : Thread Cert.KernelPIdeal.nD Cert.KernelPIdeal.τ).loc Cert.KernelPIdeal.main_arg8)
      ∧ r.2.mem ((c.tc : Thread Cert.KernelPIdeal.nD Cert.KernelPIdeal.τ).loc Cert.KernelPIdeal.main_arg9) = m ((c.tc : Thread Cert.KernelPIdeal.nD Cert.KernelPIdeal.τ).loc Cert.KernelPIdeal.main_arg9)
      ∧ r.2.mem ((c.tc : Thread Cert.KernelPIdeal.nD Cert.KernelPIdeal.τ).loc Cert.KernelPIdeal.main_arg10) = m ((c.tc : Thread Cert.KernelPIdeal.nD Cert.KernelPIdeal.τ).loc Cert.KernelPIdeal.main_arg10)
      ∧ r.2.mem ((c.tc : Thread Cert.KernelPIdeal.nD Cert.KernelPIdeal.τ).loc Cert.KernelPIdeal.main_arg11) = m ((c.tc : Thread Cert.KernelPIdeal.nD Cert.KernelPIdeal.τ).loc Cert.KernelPIdeal.main_arg11)
      ∧ r.2.mem ((c.tc : Thread Cert.KernelPIdeal.nD Cert.KernelPIdeal.τ).loc Cert.KernelPIdeal.main_arg12) = m ((c.tc : Thread Cert.KernelPIdeal.nD Cert.KernelPIdeal.τ).loc Cert.KernelPIdeal.main_arg12)
      ∧ r.2.mem ((c.tc : Thread Cert.KernelPIdeal.nD Cert.KernelPIdeal.τ).loc Cert.KernelPIdeal.main_arg13) = m ((c.tc : Thread Cert.KernelPIdeal.nD Cert.KernelPIdeal.τ).loc Cert.KernelPIdeal.main_arg13)
      ∧ r.2.mem ((c.tc : Thread Cert.KernelPIdeal.nD Cert.KernelPIdeal.τ).loc Cert.KernelPIdeal.main_arg14) = m ((c.tc : Thread Cert.KernelPIdeal.nD Cert.KernelPIdeal.τ).loc Cert.KernelPIdeal.main_arg14)
      ∧ r.2.mem ((c.tc : Thread Cert.KernelPIdeal.nD Cert.KernelPIdeal.τ).loc Cert.KernelPIdeal.main_arg15) = m ((c.tc : Thread Cert.KernelPIdeal.nD Cert.KernelPIdeal.τ).loc Cert.KernelPIdeal.main_arg15)
      ∧ r.2.mem ((c.tc : Thread Cert.KernelPIdeal.nD Cert.KernelPIdeal.τ).loc Cert.KernelPIdeal.main_arg16) = m ((c.tc : Thread Cert.KernelPIdeal.nD Cert.KernelPIdeal.τ).loc Cert.KernelPIdeal.main_arg16)
      ∧ r.2.mem ((c.tc : Thread Cert.KernelPIdeal.nD Cert.KernelPIdeal.τ).loc Cert.KernelPIdeal.main_arg17) = m ((c.tc : Thread Cert.KernelPIdeal.nD Cert.KernelPIdeal.τ).loc Cert.KernelPIdeal.main_arg17)
      ∧ r.2.mem ((c.tc : Thread Cert.KernelPIdeal.nD Cert.KernelPIdeal.τ).loc Cert.KernelPIdeal.main_arg18) = m ((c.tc : Thread Cert.KernelPIdeal.nD Cert.KernelPIdeal.τ).loc Cert.KernelPIdeal.main_arg18)
      ∧ r.2.mem ((c.tc : Thread Cert.KernelPIdeal.nD Cert.KernelPIdeal.τ).loc Cert.KernelPIdeal.main_arg19) = m ((c.tc : Thread Cert.KernelPIdeal.nD Cert.KernelPIdeal.τ).loc Cert.KernelPIdeal.main_arg19)
      ∧ r.2.mem ((c.tc : Thread Cert.KernelPIdeal.nD Cert.KernelPIdeal.τ).loc Cert.KernelPIdeal.main_arg20) = m ((c.tc : Thread Cert.KernelPIdeal.nD Cert.KernelPIdeal.τ).loc Cert.KernelPIdeal.main_arg20)
      ∧ r.2.mem ((c.tc : Thread Cert.KernelPIdeal.nD Cert.KernelPIdeal.τ).loc Cert.KernelPIdeal.main_arg21) = m ((c.tc : Thread Cert.KernelPIdeal.nD Cert.KernelPIdeal.τ).loc Cert.KernelPIdeal.main_arg21)
      ∧ r.2.mem ((c.tc : Thread Cert.KernelPIdeal.nD Cert.KernelPIdeal.τ).loc Cert.KernelPIdeal.main_arg22) = m ((c.tc : Thread Cert.KernelPIdeal.nD Cert.KernelPIdeal.τ).loc Cert.KernelPIdeal.main_arg22)
      ∧ r.2.mem ((c.tc : Thread Cert.KernelPIdeal.nD Cert.KernelPIdeal.τ).loc Cert.KernelPIdeal.main_arg23) = m ((c.tc : Thread Cert.KernelPIdeal.nD Cert.KernelPIdeal.τ).loc Cert.KernelPIdeal.main_arg23)
      ∧ r.2.mem ((c.tc : Thread Cert.KernelPIdeal.nD Cert.KernelPIdeal.τ).loc Cert.KernelPIdeal.main_arg24) = m ((c.tc : Thread Cert.KernelPIdeal.nD Cert.KernelPIdeal.τ).loc Cert.KernelPIdeal.main_arg24)
      ∧ r.2.mem ((c.tc : Thread Cert.KernelPIdeal.nD Cert.KernelPIdeal.τ).loc Cert.KernelPIdeal.main_arg25) = m ((c.tc : Thread Cert.KernelPIdeal.nD Cert.KernelPIdeal.τ).loc Cert.KernelPIdeal.main_arg25))
      ∧ r.2.sem = fun _ => 0)

def quiescent_KernelPIdeal_pre_finite_p [hKernelPIdeal : Cert.KernelPIdeal.Facts] [hPre_finite_p : Cert.Pre_finite_p.Facts] : Prop :=
  ∀ (m : (ℓ : Loc Cert.KernelPIdeal.nD Cert.KernelPIdeal.τ Cert.KernelPIdeal.sig) → Buf (Elt Ideal) ℓ) (g : Dev Cert.KernelPIdeal.nD → PrngReg), Pre_KernelPIdeal_finite_p m →
    θ_run (Cert.KernelPIdeal.defs (F := Ideal)) (onTc (τ := Cert.KernelPIdeal.τ) (Cert.KernelPIdeal.main (F := Ideal))) ⟨m, fun _ => 0, g⟩ (fun r => (∀ c : Dev Cert.KernelPIdeal.nD,
      r.2.mem ((c.tc : Thread Cert.KernelPIdeal.nD Cert.KernelPIdeal.τ).loc Cert.KernelPIdeal.main_arg0) = m ((c.tc : Thread Cert.KernelPIdeal.nD Cert.KernelPIdeal.τ).loc Cert.KernelPIdeal.main_arg0)
      ∧ r.2.mem ((c.tc : Thread Cert.KernelPIdeal.nD Cert.KernelPIdeal.τ).loc Cert.KernelPIdeal.main_arg1) = m ((c.tc : Thread Cert.KernelPIdeal.nD Cert.KernelPIdeal.τ).loc Cert.KernelPIdeal.main_arg1)
      ∧ r.2.mem ((c.tc : Thread Cert.KernelPIdeal.nD Cert.KernelPIdeal.τ).loc Cert.KernelPIdeal.main_arg2) = m ((c.tc : Thread Cert.KernelPIdeal.nD Cert.KernelPIdeal.τ).loc Cert.KernelPIdeal.main_arg2)
      ∧ r.2.mem ((c.tc : Thread Cert.KernelPIdeal.nD Cert.KernelPIdeal.τ).loc Cert.KernelPIdeal.main_arg3) = m ((c.tc : Thread Cert.KernelPIdeal.nD Cert.KernelPIdeal.τ).loc Cert.KernelPIdeal.main_arg3)
      ∧ r.2.mem ((c.tc : Thread Cert.KernelPIdeal.nD Cert.KernelPIdeal.τ).loc Cert.KernelPIdeal.main_arg4) = m ((c.tc : Thread Cert.KernelPIdeal.nD Cert.KernelPIdeal.τ).loc Cert.KernelPIdeal.main_arg4)
      ∧ r.2.mem ((c.tc : Thread Cert.KernelPIdeal.nD Cert.KernelPIdeal.τ).loc Cert.KernelPIdeal.main_arg5) = m ((c.tc : Thread Cert.KernelPIdeal.nD Cert.KernelPIdeal.τ).loc Cert.KernelPIdeal.main_arg5)
      ∧ r.2.mem ((c.tc : Thread Cert.KernelPIdeal.nD Cert.KernelPIdeal.τ).loc Cert.KernelPIdeal.main_arg6) = m ((c.tc : Thread Cert.KernelPIdeal.nD Cert.KernelPIdeal.τ).loc Cert.KernelPIdeal.main_arg6)
      ∧ r.2.mem ((c.tc : Thread Cert.KernelPIdeal.nD Cert.KernelPIdeal.τ).loc Cert.KernelPIdeal.main_arg7) = m ((c.tc : Thread Cert.KernelPIdeal.nD Cert.KernelPIdeal.τ).loc Cert.KernelPIdeal.main_arg7)
      ∧ r.2.mem ((c.tc : Thread Cert.KernelPIdeal.nD Cert.KernelPIdeal.τ).loc Cert.KernelPIdeal.main_arg8) = m ((c.tc : Thread Cert.KernelPIdeal.nD Cert.KernelPIdeal.τ).loc Cert.KernelPIdeal.main_arg8)
      ∧ r.2.mem ((c.tc : Thread Cert.KernelPIdeal.nD Cert.KernelPIdeal.τ).loc Cert.KernelPIdeal.main_arg9) = m ((c.tc : Thread Cert.KernelPIdeal.nD Cert.KernelPIdeal.τ).loc Cert.KernelPIdeal.main_arg9)
      ∧ r.2.mem ((c.tc : Thread Cert.KernelPIdeal.nD Cert.KernelPIdeal.τ).loc Cert.KernelPIdeal.main_arg10) = m ((c.tc : Thread Cert.KernelPIdeal.nD Cert.KernelPIdeal.τ).loc Cert.KernelPIdeal.main_arg10)
      ∧ r.2.mem ((c.tc : Thread Cert.KernelPIdeal.nD Cert.KernelPIdeal.τ).loc Cert.KernelPIdeal.main_arg11) = m ((c.tc : Thread Cert.KernelPIdeal.nD Cert.KernelPIdeal.τ).loc Cert.KernelPIdeal.main_arg11)
      ∧ r.2.mem ((c.tc : Thread Cert.KernelPIdeal.nD Cert.KernelPIdeal.τ).loc Cert.KernelPIdeal.main_arg12) = m ((c.tc : Thread Cert.KernelPIdeal.nD Cert.KernelPIdeal.τ).loc Cert.KernelPIdeal.main_arg12)
      ∧ r.2.mem ((c.tc : Thread Cert.KernelPIdeal.nD Cert.KernelPIdeal.τ).loc Cert.KernelPIdeal.main_arg13) = m ((c.tc : Thread Cert.KernelPIdeal.nD Cert.KernelPIdeal.τ).loc Cert.KernelPIdeal.main_arg13)
      ∧ r.2.mem ((c.tc : Thread Cert.KernelPIdeal.nD Cert.KernelPIdeal.τ).loc Cert.KernelPIdeal.main_arg14) = m ((c.tc : Thread Cert.KernelPIdeal.nD Cert.KernelPIdeal.τ).loc Cert.KernelPIdeal.main_arg14)
      ∧ r.2.mem ((c.tc : Thread Cert.KernelPIdeal.nD Cert.KernelPIdeal.τ).loc Cert.KernelPIdeal.main_arg15) = m ((c.tc : Thread Cert.KernelPIdeal.nD Cert.KernelPIdeal.τ).loc Cert.KernelPIdeal.main_arg15)
      ∧ r.2.mem ((c.tc : Thread Cert.KernelPIdeal.nD Cert.KernelPIdeal.τ).loc Cert.KernelPIdeal.main_arg16) = m ((c.tc : Thread Cert.KernelPIdeal.nD Cert.KernelPIdeal.τ).loc Cert.KernelPIdeal.main_arg16)
      ∧ r.2.mem ((c.tc : Thread Cert.KernelPIdeal.nD Cert.KernelPIdeal.τ).loc Cert.KernelPIdeal.main_arg17) = m ((c.tc : Thread Cert.KernelPIdeal.nD Cert.KernelPIdeal.τ).loc Cert.KernelPIdeal.main_arg17)
      ∧ r.2.mem ((c.tc : Thread Cert.KernelPIdeal.nD Cert.KernelPIdeal.τ).loc Cert.KernelPIdeal.main_arg18) = m ((c.tc : Thread Cert.KernelPIdeal.nD Cert.KernelPIdeal.τ).loc Cert.KernelPIdeal.main_arg18)
      ∧ r.2.mem ((c.tc : Thread Cert.KernelPIdeal.nD Cert.KernelPIdeal.τ).loc Cert.KernelPIdeal.main_arg19) = m ((c.tc : Thread Cert.KernelPIdeal.nD Cert.KernelPIdeal.τ).loc Cert.KernelPIdeal.main_arg19)
      ∧ r.2.mem ((c.tc : Thread Cert.KernelPIdeal.nD Cert.KernelPIdeal.τ).loc Cert.KernelPIdeal.main_arg20) = m ((c.tc : Thread Cert.KernelPIdeal.nD Cert.KernelPIdeal.τ).loc Cert.KernelPIdeal.main_arg20)
      ∧ r.2.mem ((c.tc : Thread Cert.KernelPIdeal.nD Cert.KernelPIdeal.τ).loc Cert.KernelPIdeal.main_arg21) = m ((c.tc : Thread Cert.KernelPIdeal.nD Cert.KernelPIdeal.τ).loc Cert.KernelPIdeal.main_arg21)
      ∧ r.2.mem ((c.tc : Thread Cert.KernelPIdeal.nD Cert.KernelPIdeal.τ).loc Cert.KernelPIdeal.main_arg22) = m ((c.tc : Thread Cert.KernelPIdeal.nD Cert.KernelPIdeal.τ).loc Cert.KernelPIdeal.main_arg22)
      ∧ r.2.mem ((c.tc : Thread Cert.KernelPIdeal.nD Cert.KernelPIdeal.τ).loc Cert.KernelPIdeal.main_arg23) = m ((c.tc : Thread Cert.KernelPIdeal.nD Cert.KernelPIdeal.τ).loc Cert.KernelPIdeal.main_arg23)
      ∧ r.2.mem ((c.tc : Thread Cert.KernelPIdeal.nD Cert.KernelPIdeal.τ).loc Cert.KernelPIdeal.main_arg24) = m ((c.tc : Thread Cert.KernelPIdeal.nD Cert.KernelPIdeal.τ).loc Cert.KernelPIdeal.main_arg24)
      ∧ r.2.mem ((c.tc : Thread Cert.KernelPIdeal.nD Cert.KernelPIdeal.τ).loc Cert.KernelPIdeal.main_arg25) = m ((c.tc : Thread Cert.KernelPIdeal.nD Cert.KernelPIdeal.τ).loc Cert.KernelPIdeal.main_arg25))
      ∧ r.2.sem = fun _ => 0)

def quiescent_ReferencePIdeal [hReferencePIdeal : Cert.ReferencePIdeal.Facts] : Prop :=
  ∀ (m : (ℓ : Loc Cert.ReferencePIdeal.nD Cert.ReferencePIdeal.τ Cert.ReferencePIdeal.sig) → Buf (Elt Ideal) ℓ) (g : Dev Cert.ReferencePIdeal.nD → PrngReg), Pre_ReferencePIdeal m →
    θ_run (Cert.ReferencePIdeal.defs (F := Ideal)) (onTc (τ := Cert.ReferencePIdeal.τ) (Cert.ReferencePIdeal.main (F := Ideal))) ⟨m, fun _ => 0, g⟩ (fun r => (∀ c : Dev Cert.ReferencePIdeal.nD,
      r.2.mem ((c.tc : Thread Cert.ReferencePIdeal.nD Cert.ReferencePIdeal.τ).loc Cert.ReferencePIdeal.main_arg0) = m ((c.tc : Thread Cert.ReferencePIdeal.nD Cert.ReferencePIdeal.τ).loc Cert.ReferencePIdeal.main_arg0)
      ∧ r.2.mem ((c.tc : Thread Cert.ReferencePIdeal.nD Cert.ReferencePIdeal.τ).loc Cert.ReferencePIdeal.main_arg1) = m ((c.tc : Thread Cert.ReferencePIdeal.nD Cert.ReferencePIdeal.τ).loc Cert.ReferencePIdeal.main_arg1)
      ∧ r.2.mem ((c.tc : Thread Cert.ReferencePIdeal.nD Cert.ReferencePIdeal.τ).loc Cert.ReferencePIdeal.main_arg2) = m ((c.tc : Thread Cert.ReferencePIdeal.nD Cert.ReferencePIdeal.τ).loc Cert.ReferencePIdeal.main_arg2)
      ∧ r.2.mem ((c.tc : Thread Cert.ReferencePIdeal.nD Cert.ReferencePIdeal.τ).loc Cert.ReferencePIdeal.main_arg3) = m ((c.tc : Thread Cert.ReferencePIdeal.nD Cert.ReferencePIdeal.τ).loc Cert.ReferencePIdeal.main_arg3)
      ∧ r.2.mem ((c.tc : Thread Cert.ReferencePIdeal.nD Cert.ReferencePIdeal.τ).loc Cert.ReferencePIdeal.main_arg4) = m ((c.tc : Thread Cert.ReferencePIdeal.nD Cert.ReferencePIdeal.τ).loc Cert.ReferencePIdeal.main_arg4)
      ∧ r.2.mem ((c.tc : Thread Cert.ReferencePIdeal.nD Cert.ReferencePIdeal.τ).loc Cert.ReferencePIdeal.main_arg5) = m ((c.tc : Thread Cert.ReferencePIdeal.nD Cert.ReferencePIdeal.τ).loc Cert.ReferencePIdeal.main_arg5)
      ∧ r.2.mem ((c.tc : Thread Cert.ReferencePIdeal.nD Cert.ReferencePIdeal.τ).loc Cert.ReferencePIdeal.main_arg6) = m ((c.tc : Thread Cert.ReferencePIdeal.nD Cert.ReferencePIdeal.τ).loc Cert.ReferencePIdeal.main_arg6)
      ∧ r.2.mem ((c.tc : Thread Cert.ReferencePIdeal.nD Cert.ReferencePIdeal.τ).loc Cert.ReferencePIdeal.main_arg7) = m ((c.tc : Thread Cert.ReferencePIdeal.nD Cert.ReferencePIdeal.τ).loc Cert.ReferencePIdeal.main_arg7)
      ∧ r.2.mem ((c.tc : Thread Cert.ReferencePIdeal.nD Cert.ReferencePIdeal.τ).loc Cert.ReferencePIdeal.main_arg8) = m ((c.tc : Thread Cert.ReferencePIdeal.nD Cert.ReferencePIdeal.τ).loc Cert.ReferencePIdeal.main_arg8)
      ∧ r.2.mem ((c.tc : Thread Cert.ReferencePIdeal.nD Cert.ReferencePIdeal.τ).loc Cert.ReferencePIdeal.main_arg9) = m ((c.tc : Thread Cert.ReferencePIdeal.nD Cert.ReferencePIdeal.τ).loc Cert.ReferencePIdeal.main_arg9)
      ∧ r.2.mem ((c.tc : Thread Cert.ReferencePIdeal.nD Cert.ReferencePIdeal.τ).loc Cert.ReferencePIdeal.main_arg10) = m ((c.tc : Thread Cert.ReferencePIdeal.nD Cert.ReferencePIdeal.τ).loc Cert.ReferencePIdeal.main_arg10)
      ∧ r.2.mem ((c.tc : Thread Cert.ReferencePIdeal.nD Cert.ReferencePIdeal.τ).loc Cert.ReferencePIdeal.main_arg11) = m ((c.tc : Thread Cert.ReferencePIdeal.nD Cert.ReferencePIdeal.τ).loc Cert.ReferencePIdeal.main_arg11)
      ∧ r.2.mem ((c.tc : Thread Cert.ReferencePIdeal.nD Cert.ReferencePIdeal.τ).loc Cert.ReferencePIdeal.main_arg12) = m ((c.tc : Thread Cert.ReferencePIdeal.nD Cert.ReferencePIdeal.τ).loc Cert.ReferencePIdeal.main_arg12)
      ∧ r.2.mem ((c.tc : Thread Cert.ReferencePIdeal.nD Cert.ReferencePIdeal.τ).loc Cert.ReferencePIdeal.main_arg13) = m ((c.tc : Thread Cert.ReferencePIdeal.nD Cert.ReferencePIdeal.τ).loc Cert.ReferencePIdeal.main_arg13)
      ∧ r.2.mem ((c.tc : Thread Cert.ReferencePIdeal.nD Cert.ReferencePIdeal.τ).loc Cert.ReferencePIdeal.main_arg14) = m ((c.tc : Thread Cert.ReferencePIdeal.nD Cert.ReferencePIdeal.τ).loc Cert.ReferencePIdeal.main_arg14)
      ∧ r.2.mem ((c.tc : Thread Cert.ReferencePIdeal.nD Cert.ReferencePIdeal.τ).loc Cert.ReferencePIdeal.main_arg15) = m ((c.tc : Thread Cert.ReferencePIdeal.nD Cert.ReferencePIdeal.τ).loc Cert.ReferencePIdeal.main_arg15)
      ∧ r.2.mem ((c.tc : Thread Cert.ReferencePIdeal.nD Cert.ReferencePIdeal.τ).loc Cert.ReferencePIdeal.main_arg16) = m ((c.tc : Thread Cert.ReferencePIdeal.nD Cert.ReferencePIdeal.τ).loc Cert.ReferencePIdeal.main_arg16)
      ∧ r.2.mem ((c.tc : Thread Cert.ReferencePIdeal.nD Cert.ReferencePIdeal.τ).loc Cert.ReferencePIdeal.main_arg17) = m ((c.tc : Thread Cert.ReferencePIdeal.nD Cert.ReferencePIdeal.τ).loc Cert.ReferencePIdeal.main_arg17)
      ∧ r.2.mem ((c.tc : Thread Cert.ReferencePIdeal.nD Cert.ReferencePIdeal.τ).loc Cert.ReferencePIdeal.main_arg18) = m ((c.tc : Thread Cert.ReferencePIdeal.nD Cert.ReferencePIdeal.τ).loc Cert.ReferencePIdeal.main_arg18)
      ∧ r.2.mem ((c.tc : Thread Cert.ReferencePIdeal.nD Cert.ReferencePIdeal.τ).loc Cert.ReferencePIdeal.main_arg19) = m ((c.tc : Thread Cert.ReferencePIdeal.nD Cert.ReferencePIdeal.τ).loc Cert.ReferencePIdeal.main_arg19)
      ∧ r.2.mem ((c.tc : Thread Cert.ReferencePIdeal.nD Cert.ReferencePIdeal.τ).loc Cert.ReferencePIdeal.main_arg20) = m ((c.tc : Thread Cert.ReferencePIdeal.nD Cert.ReferencePIdeal.τ).loc Cert.ReferencePIdeal.main_arg20)
      ∧ r.2.mem ((c.tc : Thread Cert.ReferencePIdeal.nD Cert.ReferencePIdeal.τ).loc Cert.ReferencePIdeal.main_arg21) = m ((c.tc : Thread Cert.ReferencePIdeal.nD Cert.ReferencePIdeal.τ).loc Cert.ReferencePIdeal.main_arg21)
      ∧ r.2.mem ((c.tc : Thread Cert.ReferencePIdeal.nD Cert.ReferencePIdeal.τ).loc Cert.ReferencePIdeal.main_arg22) = m ((c.tc : Thread Cert.ReferencePIdeal.nD Cert.ReferencePIdeal.τ).loc Cert.ReferencePIdeal.main_arg22)
      ∧ r.2.mem ((c.tc : Thread Cert.ReferencePIdeal.nD Cert.ReferencePIdeal.τ).loc Cert.ReferencePIdeal.main_arg23) = m ((c.tc : Thread Cert.ReferencePIdeal.nD Cert.ReferencePIdeal.τ).loc Cert.ReferencePIdeal.main_arg23)
      ∧ r.2.mem ((c.tc : Thread Cert.ReferencePIdeal.nD Cert.ReferencePIdeal.τ).loc Cert.ReferencePIdeal.main_arg24) = m ((c.tc : Thread Cert.ReferencePIdeal.nD Cert.ReferencePIdeal.τ).loc Cert.ReferencePIdeal.main_arg24)
      ∧ r.2.mem ((c.tc : Thread Cert.ReferencePIdeal.nD Cert.ReferencePIdeal.τ).loc Cert.ReferencePIdeal.main_arg25) = m ((c.tc : Thread Cert.ReferencePIdeal.nD Cert.ReferencePIdeal.τ).loc Cert.ReferencePIdeal.main_arg25))
      ∧ r.2.sem = fun _ => 0)

def quiescent_ReferencePIdeal_pre_finite_p [hReferencePIdeal : Cert.ReferencePIdeal.Facts] [hPre_finite_p : Cert.Pre_finite_p.Facts] : Prop :=
  ∀ (m : (ℓ : Loc Cert.ReferencePIdeal.nD Cert.ReferencePIdeal.τ Cert.ReferencePIdeal.sig) → Buf (Elt Ideal) ℓ) (g : Dev Cert.ReferencePIdeal.nD → PrngReg), Pre_ReferencePIdeal_finite_p m →
    θ_run (Cert.ReferencePIdeal.defs (F := Ideal)) (onTc (τ := Cert.ReferencePIdeal.τ) (Cert.ReferencePIdeal.main (F := Ideal))) ⟨m, fun _ => 0, g⟩ (fun r => (∀ c : Dev Cert.ReferencePIdeal.nD,
      r.2.mem ((c.tc : Thread Cert.ReferencePIdeal.nD Cert.ReferencePIdeal.τ).loc Cert.ReferencePIdeal.main_arg0) = m ((c.tc : Thread Cert.ReferencePIdeal.nD Cert.ReferencePIdeal.τ).loc Cert.ReferencePIdeal.main_arg0)
      ∧ r.2.mem ((c.tc : Thread Cert.ReferencePIdeal.nD Cert.ReferencePIdeal.τ).loc Cert.ReferencePIdeal.main_arg1) = m ((c.tc : Thread Cert.ReferencePIdeal.nD Cert.ReferencePIdeal.τ).loc Cert.ReferencePIdeal.main_arg1)
      ∧ r.2.mem ((c.tc : Thread Cert.ReferencePIdeal.nD Cert.ReferencePIdeal.τ).loc Cert.ReferencePIdeal.main_arg2) = m ((c.tc : Thread Cert.ReferencePIdeal.nD Cert.ReferencePIdeal.τ).loc Cert.ReferencePIdeal.main_arg2)
      ∧ r.2.mem ((c.tc : Thread Cert.ReferencePIdeal.nD Cert.ReferencePIdeal.τ).loc Cert.ReferencePIdeal.main_arg3) = m ((c.tc : Thread Cert.ReferencePIdeal.nD Cert.ReferencePIdeal.τ).loc Cert.ReferencePIdeal.main_arg3)
      ∧ r.2.mem ((c.tc : Thread Cert.ReferencePIdeal.nD Cert.ReferencePIdeal.τ).loc Cert.ReferencePIdeal.main_arg4) = m ((c.tc : Thread Cert.ReferencePIdeal.nD Cert.ReferencePIdeal.τ).loc Cert.ReferencePIdeal.main_arg4)
      ∧ r.2.mem ((c.tc : Thread Cert.ReferencePIdeal.nD Cert.ReferencePIdeal.τ).loc Cert.ReferencePIdeal.main_arg5) = m ((c.tc : Thread Cert.ReferencePIdeal.nD Cert.ReferencePIdeal.τ).loc Cert.ReferencePIdeal.main_arg5)
      ∧ r.2.mem ((c.tc : Thread Cert.ReferencePIdeal.nD Cert.ReferencePIdeal.τ).loc Cert.ReferencePIdeal.main_arg6) = m ((c.tc : Thread Cert.ReferencePIdeal.nD Cert.ReferencePIdeal.τ).loc Cert.ReferencePIdeal.main_arg6)
      ∧ r.2.mem ((c.tc : Thread Cert.ReferencePIdeal.nD Cert.ReferencePIdeal.τ).loc Cert.ReferencePIdeal.main_arg7) = m ((c.tc : Thread Cert.ReferencePIdeal.nD Cert.ReferencePIdeal.τ).loc Cert.ReferencePIdeal.main_arg7)
      ∧ r.2.mem ((c.tc : Thread Cert.ReferencePIdeal.nD Cert.ReferencePIdeal.τ).loc Cert.ReferencePIdeal.main_arg8) = m ((c.tc : Thread Cert.ReferencePIdeal.nD Cert.ReferencePIdeal.τ).loc Cert.ReferencePIdeal.main_arg8)
      ∧ r.2.mem ((c.tc : Thread Cert.ReferencePIdeal.nD Cert.ReferencePIdeal.τ).loc Cert.ReferencePIdeal.main_arg9) = m ((c.tc : Thread Cert.ReferencePIdeal.nD Cert.ReferencePIdeal.τ).loc Cert.ReferencePIdeal.main_arg9)
      ∧ r.2.mem ((c.tc : Thread Cert.ReferencePIdeal.nD Cert.ReferencePIdeal.τ).loc Cert.ReferencePIdeal.main_arg10) = m ((c.tc : Thread Cert.ReferencePIdeal.nD Cert.ReferencePIdeal.τ).loc Cert.ReferencePIdeal.main_arg10)
      ∧ r.2.mem ((c.tc : Thread Cert.ReferencePIdeal.nD Cert.ReferencePIdeal.τ).loc Cert.ReferencePIdeal.main_arg11) = m ((c.tc : Thread Cert.ReferencePIdeal.nD Cert.ReferencePIdeal.τ).loc Cert.ReferencePIdeal.main_arg11)
      ∧ r.2.mem ((c.tc : Thread Cert.ReferencePIdeal.nD Cert.ReferencePIdeal.τ).loc Cert.ReferencePIdeal.main_arg12) = m ((c.tc : Thread Cert.ReferencePIdeal.nD Cert.ReferencePIdeal.τ).loc Cert.ReferencePIdeal.main_arg12)
      ∧ r.2.mem ((c.tc : Thread Cert.ReferencePIdeal.nD Cert.ReferencePIdeal.τ).loc Cert.ReferencePIdeal.main_arg13) = m ((c.tc : Thread Cert.ReferencePIdeal.nD Cert.ReferencePIdeal.τ).loc Cert.ReferencePIdeal.main_arg13)
      ∧ r.2.mem ((c.tc : Thread Cert.ReferencePIdeal.nD Cert.ReferencePIdeal.τ).loc Cert.ReferencePIdeal.main_arg14) = m ((c.tc : Thread Cert.ReferencePIdeal.nD Cert.ReferencePIdeal.τ).loc Cert.ReferencePIdeal.main_arg14)
      ∧ r.2.mem ((c.tc : Thread Cert.ReferencePIdeal.nD Cert.ReferencePIdeal.τ).loc Cert.ReferencePIdeal.main_arg15) = m ((c.tc : Thread Cert.ReferencePIdeal.nD Cert.ReferencePIdeal.τ).loc Cert.ReferencePIdeal.main_arg15)
      ∧ r.2.mem ((c.tc : Thread Cert.ReferencePIdeal.nD Cert.ReferencePIdeal.τ).loc Cert.ReferencePIdeal.main_arg16) = m ((c.tc : Thread Cert.ReferencePIdeal.nD Cert.ReferencePIdeal.τ).loc Cert.ReferencePIdeal.main_arg16)
      ∧ r.2.mem ((c.tc : Thread Cert.ReferencePIdeal.nD Cert.ReferencePIdeal.τ).loc Cert.ReferencePIdeal.main_arg17) = m ((c.tc : Thread Cert.ReferencePIdeal.nD Cert.ReferencePIdeal.τ).loc Cert.ReferencePIdeal.main_arg17)
      ∧ r.2.mem ((c.tc : Thread Cert.ReferencePIdeal.nD Cert.ReferencePIdeal.τ).loc Cert.ReferencePIdeal.main_arg18) = m ((c.tc : Thread Cert.ReferencePIdeal.nD Cert.ReferencePIdeal.τ).loc Cert.ReferencePIdeal.main_arg18)
      ∧ r.2.mem ((c.tc : Thread Cert.ReferencePIdeal.nD Cert.ReferencePIdeal.τ).loc Cert.ReferencePIdeal.main_arg19) = m ((c.tc : Thread Cert.ReferencePIdeal.nD Cert.ReferencePIdeal.τ).loc Cert.ReferencePIdeal.main_arg19)
      ∧ r.2.mem ((c.tc : Thread Cert.ReferencePIdeal.nD Cert.ReferencePIdeal.τ).loc Cert.ReferencePIdeal.main_arg20) = m ((c.tc : Thread Cert.ReferencePIdeal.nD Cert.ReferencePIdeal.τ).loc Cert.ReferencePIdeal.main_arg20)
      ∧ r.2.mem ((c.tc : Thread Cert.ReferencePIdeal.nD Cert.ReferencePIdeal.τ).loc Cert.ReferencePIdeal.main_arg21) = m ((c.tc : Thread Cert.ReferencePIdeal.nD Cert.ReferencePIdeal.τ).loc Cert.ReferencePIdeal.main_arg21)
      ∧ r.2.mem ((c.tc : Thread Cert.ReferencePIdeal.nD Cert.ReferencePIdeal.τ).loc Cert.ReferencePIdeal.main_arg22) = m ((c.tc : Thread Cert.ReferencePIdeal.nD Cert.ReferencePIdeal.τ).loc Cert.ReferencePIdeal.main_arg22)
      ∧ r.2.mem ((c.tc : Thread Cert.ReferencePIdeal.nD Cert.ReferencePIdeal.τ).loc Cert.ReferencePIdeal.main_arg23) = m ((c.tc : Thread Cert.ReferencePIdeal.nD Cert.ReferencePIdeal.τ).loc Cert.ReferencePIdeal.main_arg23)
      ∧ r.2.mem ((c.tc : Thread Cert.ReferencePIdeal.nD Cert.ReferencePIdeal.τ).loc Cert.ReferencePIdeal.main_arg24) = m ((c.tc : Thread Cert.ReferencePIdeal.nD Cert.ReferencePIdeal.τ).loc Cert.ReferencePIdeal.main_arg24)
      ∧ r.2.mem ((c.tc : Thread Cert.ReferencePIdeal.nD Cert.ReferencePIdeal.τ).loc Cert.ReferencePIdeal.main_arg25) = m ((c.tc : Thread Cert.ReferencePIdeal.nD Cert.ReferencePIdeal.τ).loc Cert.ReferencePIdeal.main_arg25))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v82)) (v1 : (c : Dev Cert.KernelIdeal.nD) → Buf (Elt Ideal) ((c.tc : Thread Cert.KernelIdeal.nD Cert.KernelIdeal.τ).loc Cert.KernelIdeal.main_v92)) (v2 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_v92) = v1 c
          ∧ r.2.mem ((c.tc : Thread Cert.KernelIdeal.nD Cert.KernelIdeal.τ).loc Cert.KernelIdeal.main_v93) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelA_KernelAIdeal : Prop :=
  True

def algebraic_KernelAIdeal_ReferenceAIdeal_pre_finite_a [hKernelAIdeal : Cert.KernelAIdeal.Facts] [hReferenceAIdeal : Cert.ReferenceAIdeal.Facts] [hPre_finite_a : Cert.Pre_finite_a.Facts] : Prop :=
  ∀ (m : (ℓ : Loc Cert.KernelAIdeal.nD Cert.KernelAIdeal.τ Cert.KernelAIdeal.sig) → Buf (Elt Ideal) ℓ) (g : Dev Cert.KernelAIdeal.nD → PrngReg)
    (m' : (ℓ : Loc Cert.ReferenceAIdeal.nD Cert.ReferenceAIdeal.τ Cert.ReferenceAIdeal.sig) → Buf (Elt Ideal) ℓ) (g' : Dev Cert.ReferenceAIdeal.nD → PrngReg), Pre_KernelAIdeal_finite_a m →
    (∀ c : Dev Cert.KernelAIdeal.nD,
      m' ((c.tc : Thread Cert.ReferenceAIdeal.nD Cert.ReferenceAIdeal.τ).loc Cert.ReferenceAIdeal.main_arg0) = m ((c.tc : Thread Cert.KernelAIdeal.nD Cert.KernelAIdeal.τ).loc Cert.KernelAIdeal.main_arg0)
      ∧ m' ((c.tc : Thread Cert.ReferenceAIdeal.nD Cert.ReferenceAIdeal.τ).loc Cert.ReferenceAIdeal.main_arg1) = m ((c.tc : Thread Cert.KernelAIdeal.nD Cert.KernelAIdeal.τ).loc Cert.KernelAIdeal.main_arg1)
      ∧ m' ((c.tc : Thread Cert.ReferenceAIdeal.nD Cert.ReferenceAIdeal.τ).loc Cert.ReferenceAIdeal.main_arg2) = m ((c.tc : Thread Cert.KernelAIdeal.nD Cert.KernelAIdeal.τ).loc Cert.KernelAIdeal.main_arg2)
      ∧ m' ((c.tc : Thread Cert.ReferenceAIdeal.nD Cert.ReferenceAIdeal.τ).loc Cert.ReferenceAIdeal.main_arg3) = m ((c.tc : Thread Cert.KernelAIdeal.nD Cert.KernelAIdeal.τ).loc Cert.KernelAIdeal.main_arg3)) →
    ∃ (v0 : (c : Dev Cert.KernelAIdeal.nD) → Buf (Elt Ideal) ((c.tc : Thread Cert.KernelAIdeal.nD Cert.KernelAIdeal.τ).loc Cert.KernelAIdeal.main_v88)) (v1 : (c : Dev Cert.KernelAIdeal.nD) → Buf (Elt Ideal) ((c.tc : Thread Cert.KernelAIdeal.nD Cert.KernelAIdeal.τ).loc Cert.KernelAIdeal.main_v98)) (v2 : (c : Dev Cert.KernelAIdeal.nD) → Buf (Elt Ideal) ((c.tc : Thread Cert.KernelAIdeal.nD Cert.KernelAIdeal.τ).loc Cert.KernelAIdeal.main_v102)),
      θ_run (Cert.KernelAIdeal.defs (F := Ideal)) (onTc (τ := Cert.KernelAIdeal.τ) (Cert.KernelAIdeal.main (F := Ideal))) ⟨m, fun _ => 0, g⟩ (fun r => ∀ c : Dev Cert.KernelAIdeal.nD,
          r.2.mem ((c.tc : Thread Cert.KernelAIdeal.nD Cert.KernelAIdeal.τ).loc Cert.KernelAIdeal.main_v88) = v0 c
          ∧ r.2.mem ((c.tc : Thread Cert.KernelAIdeal.nD Cert.KernelAIdeal.τ).loc Cert.KernelAIdeal.main_v98) = v1 c
          ∧ r.2.mem ((c.tc : Thread Cert.KernelAIdeal.nD Cert.KernelAIdeal.τ).loc Cert.KernelAIdeal.main_v102) = v2 c
          ∧ r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
          ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
          ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2)
          ∧ r.2.mem ((c.tc : Thread Cert.KernelAIdeal.nD Cert.KernelAIdeal.τ).loc Cert.KernelAIdeal.main_arg3) = m ((c.tc : Thread Cert.KernelAIdeal.nD Cert.KernelAIdeal.τ).loc Cert.KernelAIdeal.main_arg3))
      ∧ θ_run (Cert.ReferenceAIdeal.defs (F := Ideal)) (onTc (τ := Cert.ReferenceAIdeal.τ) (Cert.ReferenceAIdeal.main (F := Ideal))) ⟨m', fun _ => 0, g'⟩ (fun r => ∀ c : Dev Cert.ReferenceAIdeal.nD,
          r.2.mem ((c.tc : Thread Cert.ReferenceAIdeal.nD Cert.ReferenceAIdeal.τ).loc Cert.ReferenceAIdeal.main_v57) = v0 c
          ∧ r.2.mem ((c.tc : Thread Cert.ReferenceAIdeal.nD Cert.ReferenceAIdeal.τ).loc Cert.ReferenceAIdeal.main_v55) = v1 c
          ∧ r.2.mem ((c.tc : Thread Cert.ReferenceAIdeal.nD Cert.ReferenceAIdeal.τ).loc Cert.ReferenceAIdeal.main_v38) = v2 c
          ∧ r.2.mem ((c.tc : Thread Cert.ReferenceAIdeal.nD Cert.ReferenceAIdeal.τ).loc Cert.ReferenceAIdeal.main_arg0) = m' ((c.tc : Thread Cert.ReferenceAIdeal.nD Cert.ReferenceAIdeal.τ).loc Cert.ReferenceAIdeal.main_arg0)
          ∧ r.2.mem ((c.tc : Thread Cert.ReferenceAIdeal.nD Cert.ReferenceAIdeal.τ).loc Cert.ReferenceAIdeal.main_arg1) = m' ((c.tc : Thread Cert.ReferenceAIdeal.nD Cert.ReferenceAIdeal.τ).loc Cert.ReferenceAIdeal.main_arg1)
          ∧ r.2.mem ((c.tc : Thread Cert.ReferenceAIdeal.nD Cert.ReferenceAIdeal.τ).loc Cert.ReferenceAIdeal.main_arg2) = m' ((c.tc : Thread Cert.ReferenceAIdeal.nD Cert.ReferenceAIdeal.τ).loc Cert.ReferenceAIdeal.main_arg2)
          ∧ r.2.mem ((c.tc : Thread Cert.ReferenceAIdeal.nD Cert.ReferenceAIdeal.τ).loc Cert.ReferenceAIdeal.main_arg3) = m' ((c.tc : Thread Cert.ReferenceAIdeal.nD Cert.ReferenceAIdeal.τ).loc Cert.ReferenceAIdeal.main_arg3))

def preserves_KernelM_KernelMIdeal : Prop :=
  True

def algebraic_KernelMIdeal_ReferenceMIdeal_pre_finite_m [hKernelMIdeal : Cert.KernelMIdeal.Facts] [hReferenceMIdeal : Cert.ReferenceMIdeal.Facts] [hPre_finite_m : Cert.Pre_finite_m.Facts] : Prop :=
  ∀ (m : (ℓ : Loc Cert.KernelMIdeal.nD Cert.KernelMIdeal.τ Cert.KernelMIdeal.sig) → Buf (Elt Ideal) ℓ) (g : Dev Cert.KernelMIdeal.nD → PrngReg)
    (m' : (ℓ : Loc Cert.ReferenceMIdeal.nD Cert.ReferenceMIdeal.τ Cert.ReferenceMIdeal.sig) → Buf (Elt Ideal) ℓ) (g' : Dev Cert.ReferenceMIdeal.nD → PrngReg), Pre_KernelMIdeal_finite_m m →
    (∀ c : Dev Cert.KernelMIdeal.nD,
      m' ((c.tc : Thread Cert.ReferenceMIdeal.nD Cert.ReferenceMIdeal.τ).loc Cert.ReferenceMIdeal.main_arg0) = m ((c.tc : Thread Cert.KernelMIdeal.nD Cert.KernelMIdeal.τ).loc Cert.KernelMIdeal.main_arg0)
      ∧ m' ((c.tc : Thread Cert.ReferenceMIdeal.nD Cert.ReferenceMIdeal.τ).loc Cert.ReferenceMIdeal.main_arg1) = m ((c.tc : Thread Cert.KernelMIdeal.nD Cert.KernelMIdeal.τ).loc Cert.KernelMIdeal.main_arg1)
      ∧ m' ((c.tc : Thread Cert.ReferenceMIdeal.nD Cert.ReferenceMIdeal.τ).loc Cert.ReferenceMIdeal.main_arg2) = m ((c.tc : Thread Cert.KernelMIdeal.nD Cert.KernelMIdeal.τ).loc Cert.KernelMIdeal.main_arg2)
      ∧ m' ((c.tc : Thread Cert.ReferenceMIdeal.nD Cert.ReferenceMIdeal.τ).loc Cert.ReferenceMIdeal.main_arg3) = m ((c.tc : Thread Cert.KernelMIdeal.nD Cert.KernelMIdeal.τ).loc Cert.KernelMIdeal.main_arg3)
      ∧ m' ((c.tc : Thread Cert.ReferenceMIdeal.nD Cert.ReferenceMIdeal.τ).loc Cert.ReferenceMIdeal.main_arg4) = m ((c.tc : Thread Cert.KernelMIdeal.nD Cert.KernelMIdeal.τ).loc Cert.KernelMIdeal.main_arg4)
      ∧ m' ((c.tc : Thread Cert.ReferenceMIdeal.nD Cert.ReferenceMIdeal.τ).loc Cert.ReferenceMIdeal.main_arg5) = m ((c.tc : Thread Cert.KernelMIdeal.nD Cert.KernelMIdeal.τ).loc Cert.KernelMIdeal.main_arg5)
      ∧ m' ((c.tc : Thread Cert.ReferenceMIdeal.nD Cert.ReferenceMIdeal.τ).loc Cert.ReferenceMIdeal.main_arg6) = m ((c.tc : Thread Cert.KernelMIdeal.nD Cert.KernelMIdeal.τ).loc Cert.KernelMIdeal.main_arg6)) →
    ∃ (v0 : (c : Dev Cert.KernelMIdeal.nD) → Buf (Elt Ideal) ((c.tc : Thread Cert.KernelMIdeal.nD Cert.KernelMIdeal.τ).loc Cert.KernelMIdeal.main_v17)) (v1 : (c : Dev Cert.KernelMIdeal.nD) → Buf (Elt Ideal) ((c.tc : Thread Cert.KernelMIdeal.nD Cert.KernelMIdeal.τ).loc Cert.KernelMIdeal.main_v18)) (v2 : (c : Dev Cert.KernelMIdeal.nD) → Buf (Elt Ideal) ((c.tc : Thread Cert.KernelMIdeal.nD Cert.KernelMIdeal.τ).loc Cert.KernelMIdeal.main_v22)) (v3 : (c : Dev Cert.KernelMIdeal.nD) → Buf (Elt Ideal) ((c.tc : Thread Cert.KernelMIdeal.nD Cert.KernelMIdeal.τ).loc Cert.KernelMIdeal.main_v25)) (v4 : (c : Dev Cert.KernelMIdeal.nD) → Buf (Elt Ideal) ((c.tc : Thread Cert.KernelMIdeal.nD Cert.KernelMIdeal.τ).loc Cert.KernelMIdeal.main_v27)) (v5 : (c : Dev Cert.KernelMIdeal.nD) → Buf (Elt Ideal) ((c.tc : Thread Cert.KernelMIdeal.nD Cert.KernelMIdeal.τ).loc Cert.KernelMIdeal.main_v29)) (v6 : (c : Dev Cert.KernelMIdeal.nD) → Buf (Elt Ideal) ((c.tc : Thread Cert.KernelMIdeal.nD Cert.KernelMIdeal.τ).loc Cert.KernelMIdeal.main_v30)) (v7 : (c : Dev Cert.KernelMIdeal.nD) → Buf (Elt Ideal) ((c.tc : Thread Cert.KernelMIdeal.nD Cert.KernelMIdeal.τ).loc Cert.KernelMIdeal.main_v31)) (v8 : (c : Dev Cert.KernelMIdeal.nD) → Buf (Elt Ideal) ((c.tc : Thread Cert.KernelMIdeal.nD Cert.KernelMIdeal.τ).loc Cert.KernelMIdeal.main_v32)),
      θ_run (Cert.KernelMIdeal.defs (F := Ideal)) (onTc (τ := Cert.KernelMIdeal.τ) (Cert.KernelMIdeal.main (F := Ideal))) ⟨m, fun _ => 0, g⟩ (fun r => ∀ c : Dev Cert.KernelMIdeal.nD,
          r.2.mem ((c.tc : Thread Cert.KernelMIdeal.nD Cert.KernelMIdeal.τ).loc Cert.KernelMIdeal.main_v17) = v0 c
          ∧ r.2.mem ((c.tc : Thread Cert.KernelMIdeal.nD Cert.KernelMIdeal.τ).loc Cert.KernelMIdeal.main_v18) = v1 c
          ∧ r.2.mem ((c.tc : Thread Cert.KernelMIdeal.nD Cert.KernelMIdeal.τ).loc Cert.KernelMIdeal.main_v22) = v2 c
          ∧ r.2.mem ((c.tc : Thread Cert.KernelMIdeal.nD Cert.KernelMIdeal.τ).loc Cert.KernelMIdeal.main_v25) = v3 c
          ∧ r.2.mem ((c.tc : Thread Cert.KernelMIdeal.nD Cert.KernelMIdeal.τ).loc Cert.KernelMIdeal.main_v27) = v4 c
          ∧ r.2.mem ((c.tc : Thread Cert.KernelMIdeal.nD Cert.KernelMIdeal.τ).loc Cert.KernelMIdeal.main_v29) = v5 c
          ∧ r.2.mem ((c.tc : Thread Cert.KernelMIdeal.nD Cert.KernelMIdeal.τ).loc Cert.KernelMIdeal.main_v30) = v6 c
          ∧ r.2.mem ((c.tc : Thread Cert.KernelMIdeal.nD Cert.KernelMIdeal.τ).loc Cert.KernelMIdeal.main_v31) = v7 c
          ∧ r.2.mem ((c.tc : Thread Cert.KernelMIdeal.nD Cert.KernelMIdeal.τ).loc Cert.KernelMIdeal.main_v32) = v8 c
          ∧ r.2.mem ((c.tc : Thread Cert.KernelMIdeal.nD Cert.KernelMIdeal.τ).loc Cert.KernelMIdeal.main_arg0) = m ((c.tc : Thread Cert.KernelMIdeal.nD Cert.KernelMIdeal.τ).loc Cert.KernelMIdeal.main_arg0)
          ∧ r.2.mem ((c.tc : Thread Cert.KernelMIdeal.nD Cert.KernelMIdeal.τ).loc Cert.KernelMIdeal.main_arg1) = m ((c.tc : Thread Cert.KernelMIdeal.nD Cert.KernelMIdeal.τ).loc Cert.KernelMIdeal.main_arg1)
          ∧ r.2.mem ((c.tc : Thread Cert.KernelMIdeal.nD Cert.KernelMIdeal.τ).loc Cert.KernelMIdeal.main_arg2) = m ((c.tc : Thread Cert.KernelMIdeal.nD Cert.KernelMIdeal.τ).loc Cert.KernelMIdeal.main_arg2)
          ∧ r.2.mem ((c.tc : Thread Cert.KernelMIdeal.nD Cert.KernelMIdeal.τ).loc Cert.KernelMIdeal.main_arg3) = m ((c.tc : Thread Cert.KernelMIdeal.nD Cert.KernelMIdeal.τ).loc Cert.KernelMIdeal.main_arg3)
          ∧ r.2.mem ((c.tc : Thread Cert.KernelMIdeal.nD Cert.KernelMIdeal.τ).loc Cert.KernelMIdeal.main_arg4) = m ((c.tc : Thread Cert.KernelMIdeal.nD Cert.KernelMIdeal.τ).loc Cert.KernelMIdeal.main_arg4)
          ∧ r.2.mem ((c.tc : Thread Cert.KernelMIdeal.nD Cert.KernelMIdeal.τ).loc Cert.KernelMIdeal.main_arg5) = m ((c.tc : Thread Cert.KernelMIdeal.nD Cert.KernelMIdeal.τ).loc Cert.KernelMIdeal.main_arg5)
          ∧ r.2.mem ((c.tc : Thread Cert.KernelMIdeal.nD Cert.KernelMIdeal.τ).loc Cert.KernelMIdeal.main_arg6) = m ((c.tc : Thread Cert.KernelMIdeal.nD Cert.KernelMIdeal.τ).loc Cert.KernelMIdeal.main_arg6))
      ∧ θ_run (Cert.ReferenceMIdeal.defs (F := Ideal)) (onTc (τ := Cert.ReferenceMIdeal.τ) (Cert.ReferenceMIdeal.main (F := Ideal))) ⟨m', fun _ => 0, g'⟩ (fun r => ∀ c : Dev Cert.ReferenceMIdeal.nD,
          r.2.mem ((c.tc : Thread Cert.ReferenceMIdeal.nD Cert.ReferenceMIdeal.τ).loc Cert.ReferenceMIdeal.main_v16) = v0 c
          ∧ r.2.mem ((c.tc : Thread Cert.ReferenceMIdeal.nD Cert.ReferenceMIdeal.τ).loc Cert.ReferenceMIdeal.main_v22) = v1 c
          ∧ r.2.mem ((c.tc : Thread Cert.ReferenceMIdeal.nD Cert.ReferenceMIdeal.τ).loc Cert.ReferenceMIdeal.main_v30) = v2 c
          ∧ r.2.mem ((c.tc : Thread Cert.ReferenceMIdeal.nD Cert.ReferenceMIdeal.τ).loc Cert.ReferenceMIdeal.main_v27) = v3 c
          ∧ r.2.mem ((c.tc : Thread Cert.ReferenceMIdeal.nD Cert.ReferenceMIdeal.τ).loc Cert.ReferenceMIdeal.main_v31) = v4 c
          ∧ r.2.mem ((c.tc : Thread Cert.ReferenceMIdeal.nD Cert.ReferenceMIdeal.τ).loc Cert.ReferenceMIdeal.main_v28) = v5 c
          ∧ r.2.mem ((c.tc : Thread Cert.ReferenceMIdeal.nD Cert.ReferenceMIdeal.τ).loc Cert.ReferenceMIdeal.main_v38) = v6 c
          ∧ r.2.mem ((c.tc : Thread Cert.ReferenceMIdeal.nD Cert.ReferenceMIdeal.τ).loc Cert.ReferenceMIdeal.main_v42) = v7 c
          ∧ r.2.mem ((c.tc : Thread Cert.ReferenceMIdeal.nD Cert.ReferenceMIdeal.τ).loc Cert.ReferenceMIdeal.main_v46) = v8 c
          ∧ r.2.mem ((c.tc : Thread Cert.ReferenceMIdeal.nD Cert.ReferenceMIdeal.τ).loc Cert.ReferenceMIdeal.main_arg0) = m' ((c.tc : Thread Cert.ReferenceMIdeal.nD Cert.ReferenceMIdeal.τ).loc Cert.ReferenceMIdeal.main_arg0)
          ∧ r.2.mem ((c.tc : Thread Cert.ReferenceMIdeal.nD Cert.ReferenceMIdeal.τ).loc Cert.ReferenceMIdeal.main_arg1) = m' ((c.tc : Thread Cert.ReferenceMIdeal.nD Cert.ReferenceMIdeal.τ).loc Cert.ReferenceMIdeal.main_arg1)
          ∧ r.2.mem ((c.tc : Thread Cert.ReferenceMIdeal.nD Cert.ReferenceMIdeal.τ).loc Cert.ReferenceMIdeal.main_arg2) = m' ((c.tc : Thread Cert.ReferenceMIdeal.nD Cert.ReferenceMIdeal.τ).loc Cert.ReferenceMIdeal.main_arg2)
          ∧ r.2.mem ((c.tc : Thread Cert.ReferenceMIdeal.nD Cert.ReferenceMIdeal.τ).loc Cert.ReferenceMIdeal.main_arg3) = m' ((c.tc : Thread Cert.ReferenceMIdeal.nD Cert.ReferenceMIdeal.τ).loc Cert.ReferenceMIdeal.main_arg3)
          ∧ r.2.mem ((c.tc : Thread Cert.ReferenceMIdeal.nD Cert.ReferenceMIdeal.τ).loc Cert.ReferenceMIdeal.main_arg4) = m' ((c.tc : Thread Cert.ReferenceMIdeal.nD Cert.ReferenceMIdeal.τ).loc Cert.ReferenceMIdeal.main_arg4)
          ∧ r.2.mem ((c.tc : Thread Cert.ReferenceMIdeal.nD Cert.ReferenceMIdeal.τ).loc Cert.ReferenceMIdeal.main_arg5) = m' ((c.tc : Thread Cert.ReferenceMIdeal.nD Cert.ReferenceMIdeal.τ).loc Cert.ReferenceMIdeal.main_arg5)
          ∧ r.2.mem ((c.tc : Thread Cert.ReferenceMIdeal.nD Cert.ReferenceMIdeal.τ).loc Cert.ReferenceMIdeal.main_arg6) = m' ((c.tc : Thread Cert.ReferenceMIdeal.nD Cert.ReferenceMIdeal.τ).loc Cert.ReferenceMIdeal.main_arg6))

def preserves_KernelFB_KernelFBIdeal : Prop :=
  IdealRules.named_const.Statement Cert.KernelFBIdeal.κ "log2e" .f32 0x3FB8AA3B#32 (((Real.log 2)⁻¹ : ℝ) : EReal)

def algebraic_KernelFBIdeal_ReferenceFBIdeal_pre_finite_fb [hKernelFBIdeal : Cert.KernelFBIdeal.Facts] [hReferenceFBIdeal : Cert.ReferenceFBIdeal.Facts] [hPre_finite_fb : Cert.Pre_finite_fb.Facts] : Prop :=
  ∀ (m : (ℓ : Loc Cert.KernelFBIdeal.nD Cert.KernelFBIdeal.τ Cert.KernelFBIdeal.sig) → Buf (Elt Ideal) ℓ) (g : Dev Cert.KernelFBIdeal.nD → PrngReg)
    (m' : (ℓ : Loc Cert.ReferenceFBIdeal.nD Cert.ReferenceFBIdeal.τ Cert.ReferenceFBIdeal.sig) → Buf (Elt Ideal) ℓ) (g' : Dev Cert.ReferenceFBIdeal.nD → PrngReg), Pre_KernelFBIdeal_finite_fb m →
    (∀ c : Dev Cert.KernelFBIdeal.nD,
      m' ((c.tc : Thread Cert.ReferenceFBIdeal.nD Cert.ReferenceFBIdeal.τ).loc Cert.ReferenceFBIdeal.main_arg0) = m ((c.tc : Thread Cert.KernelFBIdeal.nD Cert.KernelFBIdeal.τ).loc Cert.KernelFBIdeal.main_arg0)
      ∧ m' ((c.tc : Thread Cert.ReferenceFBIdeal.nD Cert.ReferenceFBIdeal.τ).loc Cert.ReferenceFBIdeal.main_arg1) = m ((c.tc : Thread Cert.KernelFBIdeal.nD Cert.KernelFBIdeal.τ).loc Cert.KernelFBIdeal.main_arg1)
      ∧ m' ((c.tc : Thread Cert.ReferenceFBIdeal.nD Cert.ReferenceFBIdeal.τ).loc Cert.ReferenceFBIdeal.main_arg2) = m ((c.tc : Thread Cert.KernelFBIdeal.nD Cert.KernelFBIdeal.τ).loc Cert.KernelFBIdeal.main_arg2)) →
    ∃ (v0 : (c : Dev Cert.KernelFBIdeal.nD) → Buf (Elt Ideal) ((c.tc : Thread Cert.KernelFBIdeal.nD Cert.KernelFBIdeal.τ).loc Cert.KernelFBIdeal.main_v51)) (v1 : (c : Dev Cert.KernelFBIdeal.nD) → Buf (Elt Ideal) ((c.tc : Thread Cert.KernelFBIdeal.nD Cert.KernelFBIdeal.τ).loc Cert.KernelFBIdeal.main_v54)),
      θ_run (Cert.KernelFBIdeal.defs (F := Ideal)) (onTc (τ := Cert.KernelFBIdeal.τ) (Cert.KernelFBIdeal.main (F := Ideal))) ⟨m, fun _ => 0, g⟩ (fun r => ∀ c : Dev Cert.KernelFBIdeal.nD,
          r.2.mem ((c.tc : Thread Cert.KernelFBIdeal.nD Cert.KernelFBIdeal.τ).loc Cert.KernelFBIdeal.main_v51) = v0 c
          ∧ r.2.mem ((c.tc : Thread Cert.KernelFBIdeal.nD Cert.KernelFBIdeal.τ).loc Cert.KernelFBIdeal.main_v54) = v1 c
          ∧ r.2.mem ((c.tc : Thread Cert.KernelFBIdeal.nD Cert.KernelFBIdeal.τ).loc Cert.KernelFBIdeal.main_arg0) = m ((c.tc : Thread Cert.KernelFBIdeal.nD Cert.KernelFBIdeal.τ).loc Cert.KernelFBIdeal.main_arg0)
          ∧ r.2.mem ((c.tc : Thread Cert.KernelFBIdeal.nD Cert.KernelFBIdeal.τ).loc Cert.KernelFBIdeal.main_arg1) = m ((c.tc : Thread Cert.KernelFBIdeal.nD Cert.KernelFBIdeal.τ).loc Cert.KernelFBIdeal.main_arg1)
          ∧ r.2.mem ((c.tc : Thread Cert.KernelFBIdeal.nD Cert.KernelFBIdeal.τ).loc Cert.KernelFBIdeal.main_arg2) = m ((c.tc : Thread Cert.KernelFBIdeal.nD Cert.KernelFBIdeal.τ).loc Cert.KernelFBIdeal.main_arg2))
      ∧ θ_run (Cert.ReferenceFBIdeal.defs (F := Ideal)) (onTc (τ := Cert.ReferenceFBIdeal.τ) (Cert.ReferenceFBIdeal.main (F := Ideal))) ⟨m', fun _ => 0, g'⟩ (fun r => ∀ c : Dev Cert.ReferenceFBIdeal.nD,
          r.2.mem ((c.tc : Thread Cert.ReferenceFBIdeal.nD Cert.ReferenceFBIdeal.τ).loc Cert.ReferenceFBIdeal.main_v24) = v0 c
          ∧ r.2.mem ((c.tc : Thread Cert.ReferenceFBIdeal.nD Cert.ReferenceFBIdeal.τ).loc Cert.ReferenceFBIdeal.main_v31) = v1 c
          ∧ r.2.mem ((c.tc : Thread Cert.ReferenceFBIdeal.nD Cert.ReferenceFBIdeal.τ).loc Cert.ReferenceFBIdeal.main_arg0) = m' ((c.tc : Thread Cert.ReferenceFBIdeal.nD Cert.ReferenceFBIdeal.τ).loc Cert.ReferenceFBIdeal.main_arg0)
          ∧ r.2.mem ((c.tc : Thread Cert.ReferenceFBIdeal.nD Cert.ReferenceFBIdeal.τ).loc Cert.ReferenceFBIdeal.main_arg1) = m' ((c.tc : Thread Cert.ReferenceFBIdeal.nD Cert.ReferenceFBIdeal.τ).loc Cert.ReferenceFBIdeal.main_arg1)
          ∧ r.2.mem ((c.tc : Thread Cert.ReferenceFBIdeal.nD Cert.ReferenceFBIdeal.τ).loc Cert.ReferenceFBIdeal.main_arg2) = m' ((c.tc : Thread Cert.ReferenceFBIdeal.nD Cert.ReferenceFBIdeal.τ).loc Cert.ReferenceFBIdeal.main_arg2))

def preserves_KernelFA_KernelFAIdeal : Prop :=
  IdealRules.named_const.Statement Cert.KernelFAIdeal.κ "log2e" .f32 0x3FB8AA3B#32 (((Real.log 2)⁻¹ : ℝ) : EReal)

def algebraic_KernelFAIdeal_ReferenceFAIdeal_pre_finite_fa [hKernelFAIdeal : Cert.KernelFAIdeal.Facts] [hReferenceFAIdeal : Cert.ReferenceFAIdeal.Facts] [hPre_finite_fa : Cert.Pre_finite_fa.Facts] : Prop :=
  ∀ (m : (ℓ : Loc Cert.KernelFAIdeal.nD Cert.KernelFAIdeal.τ Cert.KernelFAIdeal.sig) → Buf (Elt Ideal) ℓ) (g : Dev Cert.KernelFAIdeal.nD → PrngReg)
    (m' : (ℓ : Loc Cert.ReferenceFAIdeal.nD Cert.ReferenceFAIdeal.τ Cert.ReferenceFAIdeal.sig) → Buf (Elt Ideal) ℓ) (g' : Dev Cert.ReferenceFAIdeal.nD → PrngReg), Pre_KernelFAIdeal_finite_fa m →
    (∀ c : Dev Cert.KernelFAIdeal.nD,
      m' ((c.tc : Thread Cert.ReferenceFAIdeal.nD Cert.ReferenceFAIdeal.τ).loc Cert.ReferenceFAIdeal.main_arg0) = m ((c.tc : Thread Cert.KernelFAIdeal.nD Cert.KernelFAIdeal.τ).loc Cert.KernelFAIdeal.main_arg0)
      ∧ m' ((c.tc : Thread Cert.ReferenceFAIdeal.nD Cert.ReferenceFAIdeal.τ).loc Cert.ReferenceFAIdeal.main_arg1) = m ((c.tc : Thread Cert.KernelFAIdeal.nD Cert.KernelFAIdeal.τ).loc Cert.KernelFAIdeal.main_arg1)
      ∧ m' ((c.tc : Thread Cert.ReferenceFAIdeal.nD Cert.ReferenceFAIdeal.τ).loc Cert.ReferenceFAIdeal.main_arg2) = m ((c.tc : Thread Cert.KernelFAIdeal.nD Cert.KernelFAIdeal.τ).loc Cert.KernelFAIdeal.main_arg2)) →
    ∃ (v0 : (c : Dev Cert.KernelFAIdeal.nD) → Buf (Elt Ideal) ((c.tc : Thread Cert.KernelFAIdeal.nD Cert.KernelFAIdeal.τ).loc Cert.KernelFAIdeal.main_v48)) (v1 : (c : Dev Cert.KernelFAIdeal.nD) → Buf (Elt Ideal) ((c.tc : Thread Cert.KernelFAIdeal.nD Cert.KernelFAIdeal.τ).loc Cert.KernelFAIdeal.main_v51)),
      θ_run (Cert.KernelFAIdeal.defs (F := Ideal)) (onTc (τ := Cert.KernelFAIdeal.τ) (Cert.KernelFAIdeal.main (F := Ideal))) ⟨m, fun _ => 0, g⟩ (fun r => ∀ c : Dev Cert.KernelFAIdeal.nD,
          r.2.mem ((c.tc : Thread Cert.KernelFAIdeal.nD Cert.KernelFAIdeal.τ).loc Cert.KernelFAIdeal.main_v48) = v0 c
          ∧ r.2.mem ((c.tc : Thread Cert.KernelFAIdeal.nD Cert.KernelFAIdeal.τ).loc Cert.KernelFAIdeal.main_v51) = v1 c
          ∧ r.2.mem ((c.tc : Thread Cert.KernelFAIdeal.nD Cert.KernelFAIdeal.τ).loc Cert.KernelFAIdeal.main_arg0) = m ((c.tc : Thread Cert.KernelFAIdeal.nD Cert.KernelFAIdeal.τ).loc Cert.KernelFAIdeal.main_arg0)
          ∧ r.2.mem ((c.tc : Thread Cert.KernelFAIdeal.nD Cert.KernelFAIdeal.τ).loc Cert.KernelFAIdeal.main_arg1) = m ((c.tc : Thread Cert.KernelFAIdeal.nD Cert.KernelFAIdeal.τ).loc Cert.KernelFAIdeal.main_arg1)
          ∧ r.2.mem ((c.tc : Thread Cert.KernelFAIdeal.nD Cert.KernelFAIdeal.τ).loc Cert.KernelFAIdeal.main_arg2) = m ((c.tc : Thread Cert.KernelFAIdeal.nD Cert.KernelFAIdeal.τ).loc Cert.KernelFAIdeal.main_arg2))
      ∧ θ_run (Cert.ReferenceFAIdeal.defs (F := Ideal)) (onTc (τ := Cert.ReferenceFAIdeal.τ) (Cert.ReferenceFAIdeal.main (F := Ideal))) ⟨m', fun _ => 0, g'⟩ (fun r => ∀ c : Dev Cert.ReferenceFAIdeal.nD,
          r.2.mem ((c.tc : Thread Cert.ReferenceFAIdeal.nD Cert.ReferenceFAIdeal.τ).loc Cert.ReferenceFAIdeal.main_v22) = v0 c
          ∧ r.2.mem ((c.tc : Thread Cert.ReferenceFAIdeal.nD Cert.ReferenceFAIdeal.τ).loc Cert.ReferenceFAIdeal.main_v30) = v1 c
          ∧ r.2.mem ((c.tc : Thread Cert.ReferenceFAIdeal.nD Cert.ReferenceFAIdeal.τ).loc Cert.ReferenceFAIdeal.main_arg0) = m' ((c.tc : Thread Cert.ReferenceFAIdeal.nD Cert.ReferenceFAIdeal.τ).loc Cert.ReferenceFAIdeal.main_arg0)
          ∧ r.2.mem ((c.tc : Thread Cert.ReferenceFAIdeal.nD Cert.ReferenceFAIdeal.τ).loc Cert.ReferenceFAIdeal.main_arg1) = m' ((c.tc : Thread Cert.ReferenceFAIdeal.nD Cert.ReferenceFAIdeal.τ).loc Cert.ReferenceFAIdeal.main_arg1)
          ∧ r.2.mem ((c.tc : Thread Cert.ReferenceFAIdeal.nD Cert.ReferenceFAIdeal.τ).loc Cert.ReferenceFAIdeal.main_arg2) = m' ((c.tc : Thread Cert.ReferenceFAIdeal.nD Cert.ReferenceFAIdeal.τ).loc Cert.ReferenceFAIdeal.main_arg2))

def preserves_KernelP_KernelPIdeal : Prop :=
  True

def algebraic_KernelPIdeal_ReferencePIdeal_pre_finite_p [hKernelPIdeal : Cert.KernelPIdeal.Facts] [hReferencePIdeal : Cert.ReferencePIdeal.Facts] [hPre_finite_p : Cert.Pre_finite_p.Facts] : Prop :=
  ∀ (m : (ℓ : Loc Cert.KernelPIdeal.nD Cert.KernelPIdeal.τ Cert.KernelPIdeal.sig) → Buf (Elt Ideal) ℓ) (g : Dev Cert.KernelPIdeal.nD → PrngReg)
    (m' : (ℓ : Loc Cert.ReferencePIdeal.nD Cert.ReferencePIdeal.τ Cert.ReferencePIdeal.sig) → Buf (Elt Ideal) ℓ) (g' : Dev Cert.ReferencePIdeal.nD → PrngReg), Pre_KernelPIdeal_finite_p m →
    (∀ c : Dev Cert.KernelPIdeal.nD,
      m' ((c.tc : Thread Cert.ReferencePIdeal.nD Cert.ReferencePIdeal.τ).loc Cert.ReferencePIdeal.main_arg0) = m ((c.tc : Thread Cert.KernelPIdeal.nD Cert.KernelPIdeal.τ).loc Cert.KernelPIdeal.main_arg0)
      ∧ m' ((c.tc : Thread Cert.ReferencePIdeal.nD Cert.ReferencePIdeal.τ).loc Cert.ReferencePIdeal.main_arg1) = m ((c.tc : Thread Cert.KernelPIdeal.nD Cert.KernelPIdeal.τ).loc Cert.KernelPIdeal.main_arg1)
      ∧ m' ((c.tc : Thread Cert.ReferencePIdeal.nD Cert.ReferencePIdeal.τ).loc Cert.ReferencePIdeal.main_arg2) = m ((c.tc : Thread Cert.KernelPIdeal.nD Cert.KernelPIdeal.τ).loc Cert.KernelPIdeal.main_arg2)
      ∧ m' ((c.tc : Thread Cert.ReferencePIdeal.nD Cert.ReferencePIdeal.τ).loc Cert.ReferencePIdeal.main_arg3) = m ((c.tc : Thread Cert.KernelPIdeal.nD Cert.KernelPIdeal.τ).loc Cert.KernelPIdeal.main_arg3)
      ∧ m' ((c.tc : Thread Cert.ReferencePIdeal.nD Cert.ReferencePIdeal.τ).loc Cert.ReferencePIdeal.main_arg4) = m ((c.tc : Thread Cert.KernelPIdeal.nD Cert.KernelPIdeal.τ).loc Cert.KernelPIdeal.main_arg4)
      ∧ m' ((c.tc : Thread Cert.ReferencePIdeal.nD Cert.ReferencePIdeal.τ).loc Cert.ReferencePIdeal.main_arg5) = m ((c.tc : Thread Cert.KernelPIdeal.nD Cert.KernelPIdeal.τ).loc Cert.KernelPIdeal.main_arg5)
      ∧ m' ((c.tc : Thread Cert.ReferencePIdeal.nD Cert.ReferencePIdeal.τ).loc Cert.ReferencePIdeal.main_arg6) = m ((c.tc : Thread Cert.KernelPIdeal.nD Cert.KernelPIdeal.τ).loc Cert.KernelPIdeal.main_arg6)
      ∧ m' ((c.tc : Thread Cert.ReferencePIdeal.nD Cert.ReferencePIdeal.τ).loc Cert.ReferencePIdeal.main_arg7) = m ((c.tc : Thread Cert.KernelPIdeal.nD Cert.KernelPIdeal.τ).loc Cert.KernelPIdeal.main_arg7)
      ∧ m' ((c.tc : Thread Cert.ReferencePIdeal.nD Cert.ReferencePIdeal.τ).loc Cert.ReferencePIdeal.main_arg8) = m ((c.tc : Thread Cert.KernelPIdeal.nD Cert.KernelPIdeal.τ).loc Cert.KernelPIdeal.main_arg8)
      ∧ m' ((c.tc : Thread Cert.ReferencePIdeal.nD Cert.ReferencePIdeal.τ).loc Cert.ReferencePIdeal.main_arg9) = m ((c.tc : Thread Cert.KernelPIdeal.nD Cert.KernelPIdeal.τ).loc Cert.KernelPIdeal.main_arg9)
      ∧ m' ((c.tc : Thread Cert.ReferencePIdeal.nD Cert.ReferencePIdeal.τ).loc Cert.ReferencePIdeal.main_arg10) = m ((c.tc : Thread Cert.KernelPIdeal.nD Cert.KernelPIdeal.τ).loc Cert.KernelPIdeal.main_arg10)
      ∧ m' ((c.tc : Thread Cert.ReferencePIdeal.nD Cert.ReferencePIdeal.τ).loc Cert.ReferencePIdeal.main_arg11) = m ((c.tc : Thread Cert.KernelPIdeal.nD Cert.KernelPIdeal.τ).loc Cert.KernelPIdeal.main_arg11)
      ∧ m' ((c.tc : Thread Cert.ReferencePIdeal.nD Cert.ReferencePIdeal.τ).loc Cert.ReferencePIdeal.main_arg12) = m ((c.tc : Thread Cert.KernelPIdeal.nD Cert.KernelPIdeal.τ).loc Cert.KernelPIdeal.main_arg12)
      ∧ m' ((c.tc : Thread Cert.ReferencePIdeal.nD Cert.ReferencePIdeal.τ).loc Cert.ReferencePIdeal.main_arg13) = m ((c.tc : Thread Cert.KernelPIdeal.nD Cert.KernelPIdeal.τ).loc Cert.KernelPIdeal.main_arg13)
      ∧ m' ((c.tc : Thread Cert.ReferencePIdeal.nD Cert.ReferencePIdeal.τ).loc Cert.ReferencePIdeal.main_arg14) = m ((c.tc : Thread Cert.KernelPIdeal.nD Cert.KernelPIdeal.τ).loc Cert.KernelPIdeal.main_arg14)
      ∧ m' ((c.tc : Thread Cert.ReferencePIdeal.nD Cert.ReferencePIdeal.τ).loc Cert.ReferencePIdeal.main_arg15) = m ((c.tc : Thread Cert.KernelPIdeal.nD Cert.KernelPIdeal.τ).loc Cert.KernelPIdeal.main_arg15)
      ∧ m' ((c.tc : Thread Cert.ReferencePIdeal.nD Cert.ReferencePIdeal.τ).loc Cert.ReferencePIdeal.main_arg16) = m ((c.tc : Thread Cert.KernelPIdeal.nD Cert.KernelPIdeal.τ).loc Cert.KernelPIdeal.main_arg16)
      ∧ m' ((c.tc : Thread Cert.ReferencePIdeal.nD Cert.ReferencePIdeal.τ).loc Cert.ReferencePIdeal.main_arg17) = m ((c.tc : Thread Cert.KernelPIdeal.nD Cert.KernelPIdeal.τ).loc Cert.KernelPIdeal.main_arg17)
      ∧ m' ((c.tc : Thread Cert.ReferencePIdeal.nD Cert.ReferencePIdeal.τ).loc Cert.ReferencePIdeal.main_arg18) = m ((c.tc : Thread Cert.KernelPIdeal.nD Cert.KernelPIdeal.τ).loc Cert.KernelPIdeal.main_arg18)
      ∧ m' ((c.tc : Thread Cert.ReferencePIdeal.nD Cert.ReferencePIdeal.τ).loc Cert.ReferencePIdeal.main_arg19) = m ((c.tc : Thread Cert.KernelPIdeal.nD Cert.KernelPIdeal.τ).loc Cert.KernelPIdeal.main_arg19)
      ∧ m' ((c.tc : Thread Cert.ReferencePIdeal.nD Cert.ReferencePIdeal.τ).loc Cert.ReferencePIdeal.main_arg20) = m ((c.tc : Thread Cert.KernelPIdeal.nD Cert.KernelPIdeal.τ).loc Cert.KernelPIdeal.main_arg20)
      ∧ m' ((c.tc : Thread Cert.ReferencePIdeal.nD Cert.ReferencePIdeal.τ).loc Cert.ReferencePIdeal.main_arg21) = m ((c.tc : Thread Cert.KernelPIdeal.nD Cert.KernelPIdeal.τ).loc Cert.KernelPIdeal.main_arg21)
      ∧ m' ((c.tc : Thread Cert.ReferencePIdeal.nD Cert.ReferencePIdeal.τ).loc Cert.ReferencePIdeal.main_arg22) = m ((c.tc : Thread Cert.KernelPIdeal.nD Cert.KernelPIdeal.τ).loc Cert.KernelPIdeal.main_arg22)
      ∧ m' ((c.tc : Thread Cert.ReferencePIdeal.nD Cert.ReferencePIdeal.τ).loc Cert.ReferencePIdeal.main_arg23) = m ((c.tc : Thread Cert.KernelPIdeal.nD Cert.KernelPIdeal.τ).loc Cert.KernelPIdeal.main_arg23)
      ∧ m' ((c.tc : Thread Cert.ReferencePIdeal.nD Cert.ReferencePIdeal.τ).loc Cert.ReferencePIdeal.main_arg24) = m ((c.tc : Thread Cert.KernelPIdeal.nD Cert.KernelPIdeal.τ).loc Cert.KernelPIdeal.main_arg24)
      ∧ m' ((c.tc : Thread Cert.ReferencePIdeal.nD Cert.ReferencePIdeal.τ).loc Cert.ReferencePIdeal.main_arg25) = m ((c.tc : Thread Cert.KernelPIdeal.nD Cert.KernelPIdeal.τ).loc Cert.KernelPIdeal.main_arg25)) →
    ∃ (v0 : (c : Dev Cert.KernelPIdeal.nD) → Buf (Elt Ideal) ((c.tc : Thread Cert.KernelPIdeal.nD Cert.KernelPIdeal.τ).loc Cert.KernelPIdeal.main_v237)) (v1 : (c : Dev Cert.KernelPIdeal.nD) → Buf (Elt Ideal) ((c.tc : Thread Cert.KernelPIdeal.nD Cert.KernelPIdeal.τ).loc Cert.KernelPIdeal.main_v246)) (v2 : (c : Dev Cert.KernelPIdeal.nD) → Buf (Elt Ideal) ((c.tc : Thread Cert.KernelPIdeal.nD Cert.KernelPIdeal.τ).loc Cert.KernelPIdeal.main_v251)) (v3 : (c : Dev Cert.KernelPIdeal.nD) → Buf (Elt Ideal) ((c.tc : Thread Cert.KernelPIdeal.nD Cert.KernelPIdeal.τ).loc Cert.KernelPIdeal.main_v252)) (v4 : (c : Dev Cert.KernelPIdeal.nD) → Buf (Elt Ideal) ((c.tc : Thread Cert.KernelPIdeal.nD Cert.KernelPIdeal.τ).loc Cert.KernelPIdeal.main_v253)),
      θ_run (Cert.KernelPIdeal.defs (F := Ideal)) (onTc (τ := Cert.KernelPIdeal.τ) (Cert.KernelPIdeal.main (F := Ideal))) ⟨m, fun _ => 0, g⟩ (fun r => ∀ c : Dev Cert.KernelPIdeal.nD,
          r.2.mem ((c.tc : Thread Cert.KernelPIdeal.nD Cert.KernelPIdeal.τ).loc Cert.KernelPIdeal.main_v237) = v0 c
          ∧ r.2.mem ((c.tc : Thread Cert.KernelPIdeal.nD Cert.KernelPIdeal.τ).loc Cert.KernelPIdeal.main_v246) = v1 c
          ∧ r.2.mem ((c.tc : Thread Cert.KernelPIdeal.nD Cert.KernelPIdeal.τ).loc Cert.KernelPIdeal.main_v251) = v2 c
          ∧ r.2.mem ((c.tc : Thread Cert.KernelPIdeal.nD Cert.KernelPIdeal.τ).loc Cert.KernelPIdeal.main_v252) = v3 c
          ∧ r.2.mem ((c.tc : Thread Cert.KernelPIdeal.nD Cert.KernelPIdeal.τ).loc Cert.KernelPIdeal.main_v253) = v4 c
          ∧ r.2.mem ((c.tc : Thread Cert.KernelPIdeal.nD Cert.KernelPIdeal.τ).loc Cert.KernelPIdeal.main_arg0) = m ((c.tc : Thread Cert.KernelPIdeal.nD Cert.KernelPIdeal.τ).loc Cert.KernelPIdeal.main_arg0)
          ∧ r.2.mem ((c.tc : Thread Cert.KernelPIdeal.nD Cert.KernelPIdeal.τ).loc Cert.KernelPIdeal.main_arg1) = m ((c.tc : Thread Cert.KernelPIdeal.nD Cert.KernelPIdeal.τ).loc Cert.KernelPIdeal.main_arg1)
          ∧ r.2.mem ((c.tc : Thread Cert.KernelPIdeal.nD Cert.KernelPIdeal.τ).loc Cert.KernelPIdeal.main_arg2) = m ((c.tc : Thread Cert.KernelPIdeal.nD Cert.KernelPIdeal.τ).loc Cert.KernelPIdeal.main_arg2)
          ∧ r.2.mem ((c.tc : Thread Cert.KernelPIdeal.nD Cert.KernelPIdeal.τ).loc Cert.KernelPIdeal.main_arg3) = m ((c.tc : Thread Cert.KernelPIdeal.nD Cert.KernelPIdeal.τ).loc Cert.KernelPIdeal.main_arg3)
          ∧ r.2.mem ((c.tc : Thread Cert.KernelPIdeal.nD Cert.KernelPIdeal.τ).loc Cert.KernelPIdeal.main_arg4) = m ((c.tc : Thread Cert.KernelPIdeal.nD Cert.KernelPIdeal.τ).loc Cert.KernelPIdeal.main_arg4)
          ∧ r.2.mem ((c.tc : Thread Cert.KernelPIdeal.nD Cert.KernelPIdeal.τ).loc Cert.KernelPIdeal.main_arg5) = m ((c.tc : Thread Cert.KernelPIdeal.nD Cert.KernelPIdeal.τ).loc Cert.KernelPIdeal.main_arg5)
          ∧ r.2.mem ((c.tc : Thread Cert.KernelPIdeal.nD Cert.KernelPIdeal.τ).loc Cert.KernelPIdeal.main_arg6) = m ((c.tc : Thread Cert.KernelPIdeal.nD Cert.KernelPIdeal.τ).loc Cert.KernelPIdeal.main_arg6)
          ∧ r.2.mem ((c.tc : Thread Cert.KernelPIdeal.nD Cert.KernelPIdeal.τ).loc Cert.KernelPIdeal.main_arg7) = m ((c.tc : Thread Cert.KernelPIdeal.nD Cert.KernelPIdeal.τ).loc Cert.KernelPIdeal.main_arg7)
          ∧ r.2.mem ((c.tc : Thread Cert.KernelPIdeal.nD Cert.KernelPIdeal.τ).loc Cert.KernelPIdeal.main_arg8) = m ((c.tc : Thread Cert.KernelPIdeal.nD Cert.KernelPIdeal.τ).loc Cert.KernelPIdeal.main_arg8)
          ∧ r.2.mem ((c.tc : Thread Cert.KernelPIdeal.nD Cert.KernelPIdeal.τ).loc Cert.KernelPIdeal.main_arg9) = m ((c.tc : Thread Cert.KernelPIdeal.nD Cert.KernelPIdeal.τ).loc Cert.KernelPIdeal.main_arg9)
          ∧ r.2.mem ((c.tc : Thread Cert.KernelPIdeal.nD Cert.KernelPIdeal.τ).loc Cert.KernelPIdeal.main_arg10) = m ((c.tc : Thread Cert.KernelPIdeal.nD Cert.KernelPIdeal.τ).loc Cert.KernelPIdeal.main_arg10)
          ∧ r.2.mem ((c.tc : Thread Cert.KernelPIdeal.nD Cert.KernelPIdeal.τ).loc Cert.KernelPIdeal.main_arg11) = m ((c.tc : Thread Cert.KernelPIdeal.nD Cert.KernelPIdeal.τ).loc Cert.KernelPIdeal.main_arg11)
          ∧ r.2.mem ((c.tc : Thread Cert.KernelPIdeal.nD Cert.KernelPIdeal.τ).loc Cert.KernelPIdeal.main_arg12) = m ((c.tc : Thread Cert.KernelPIdeal.nD Cert.KernelPIdeal.τ).loc Cert.KernelPIdeal.main_arg12)
          ∧ r.2.mem ((c.tc : Thread Cert.KernelPIdeal.nD Cert.KernelPIdeal.τ).loc Cert.KernelPIdeal.main_arg13) = m ((c.tc : Thread Cert.KernelPIdeal.nD Cert.KernelPIdeal.τ).loc Cert.KernelPIdeal.main_arg13)
          ∧ r.2.mem ((c.tc : Thread Cert.KernelPIdeal.nD Cert.KernelPIdeal.τ).loc Cert.KernelPIdeal.main_arg14) = m ((c.tc : Thread Cert.KernelPIdeal.nD Cert.KernelPIdeal.τ).loc Cert.KernelPIdeal.main_arg14)
          ∧ r.2.mem ((c.tc : Thread Cert.KernelPIdeal.nD Cert.KernelPIdeal.τ).loc Cert.KernelPIdeal.main_arg15) = m ((c.tc : Thread Cert.KernelPIdeal.nD Cert.KernelPIdeal.τ).loc Cert.KernelPIdeal.main_arg15)
          ∧ r.2.mem ((c.tc : Thread Cert.KernelPIdeal.nD Cert.KernelPIdeal.τ).loc Cert.KernelPIdeal.main_arg16) = m ((c.tc : Thread Cert.KernelPIdeal.nD Cert.KernelPIdeal.τ).loc Cert.KernelPIdeal.main_arg16)
          ∧ r.2.mem ((c.tc : Thread Cert.KernelPIdeal.nD Cert.KernelPIdeal.τ).loc Cert.KernelPIdeal.main_arg17) = m ((c.tc : Thread Cert.KernelPIdeal.nD Cert.KernelPIdeal.τ).loc Cert.KernelPIdeal.main_arg17)
          ∧ r.2.mem ((c.tc : Thread Cert.KernelPIdeal.nD Cert.KernelPIdeal.τ).loc Cert.KernelPIdeal.main_arg18) = m ((c.tc : Thread Cert.KernelPIdeal.nD Cert.KernelPIdeal.τ).loc Cert.KernelPIdeal.main_arg18)
          ∧ r.2.mem ((c.tc : Thread Cert.KernelPIdeal.nD Cert.KernelPIdeal.τ).loc Cert.KernelPIdeal.main_arg19) = m ((c.tc : Thread Cert.KernelPIdeal.nD Cert.KernelPIdeal.τ).loc Cert.KernelPIdeal.main_arg19)
          ∧ r.2.mem ((c.tc : Thread Cert.KernelPIdeal.nD Cert.KernelPIdeal.τ).loc Cert.KernelPIdeal.main_arg20) = m ((c.tc : Thread Cert.KernelPIdeal.nD Cert.KernelPIdeal.τ).loc Cert.KernelPIdeal.main_arg20)
          ∧ r.2.mem ((c.tc : Thread Cert.KernelPIdeal.nD Cert.KernelPIdeal.τ).loc Cert.KernelPIdeal.main_arg21) = m ((c.tc : Thread Cert.KernelPIdeal.nD Cert.KernelPIdeal.τ).loc Cert.KernelPIdeal.main_arg21)
          ∧ r.2.mem ((c.tc : Thread Cert.KernelPIdeal.nD Cert.KernelPIdeal.τ).loc Cert.KernelPIdeal.main_arg22) = m ((c.tc : Thread Cert.KernelPIdeal.nD Cert.KernelPIdeal.τ).loc Cert.KernelPIdeal.main_arg22)
          ∧ r.2.mem ((c.tc : Thread Cert.KernelPIdeal.nD Cert.KernelPIdeal.τ).loc Cert.KernelPIdeal.main_arg23) = m ((c.tc : Thread Cert.KernelPIdeal.nD Cert.KernelPIdeal.τ).loc Cert.KernelPIdeal.main_arg23)
          ∧ r.2.mem ((c.tc : Thread Cert.KernelPIdeal.nD Cert.KernelPIdeal.τ).loc Cert.KernelPIdeal.main_arg24) = m ((c.tc : Thread Cert.KernelPIdeal.nD Cert.KernelPIdeal.τ).loc Cert.KernelPIdeal.main_arg24)
          ∧ r.2.mem ((c.tc : Thread Cert.KernelPIdeal.nD Cert.KernelPIdeal.τ).loc Cert.KernelPIdeal.main_arg25) = m ((c.tc : Thread Cert.KernelPIdeal.nD Cert.KernelPIdeal.τ).loc Cert.KernelPIdeal.main_arg25))
      ∧ θ_run (Cert.ReferencePIdeal.defs (F := Ideal)) (onTc (τ := Cert.ReferencePIdeal.τ) (Cert.ReferencePIdeal.main (F := Ideal))) ⟨m', fun _ => 0, g'⟩ (fun r => ∀ c : Dev Cert.ReferencePIdeal.nD,
          r.2.mem ((c.tc : Thread Cert.ReferencePIdeal.nD Cert.ReferencePIdeal.τ).loc Cert.ReferencePIdeal.main_v273) = v0 c
          ∧ r.2.mem ((c.tc : Thread Cert.ReferencePIdeal.nD Cert.ReferencePIdeal.τ).loc Cert.ReferencePIdeal.main_v271) = v1 c
          ∧ r.2.mem ((c.tc : Thread Cert.ReferencePIdeal.nD Cert.ReferencePIdeal.τ).loc Cert.ReferencePIdeal.main_v269) = v2 c
          ∧ r.2.mem ((c.tc : Thread Cert.ReferencePIdeal.nD Cert.ReferencePIdeal.τ).loc Cert.ReferencePIdeal.main_v267) = v3 c
          ∧ r.2.mem ((c.tc : Thread Cert.ReferencePIdeal.nD Cert.ReferencePIdeal.τ).loc Cert.ReferencePIdeal.main_v214) = v4 c
          ∧ r.2.mem ((c.tc : Thread Cert.ReferencePIdeal.nD Cert.ReferencePIdeal.τ).loc Cert.ReferencePIdeal.main_arg0) = m' ((c.tc : Thread Cert.ReferencePIdeal.nD Cert.ReferencePIdeal.τ).loc Cert.ReferencePIdeal.main_arg0)
          ∧ r.2.mem ((c.tc : Thread Cert.ReferencePIdeal.nD Cert.ReferencePIdeal.τ).loc Cert.ReferencePIdeal.main_arg1) = m' ((c.tc : Thread Cert.ReferencePIdeal.nD Cert.ReferencePIdeal.τ).loc Cert.ReferencePIdeal.main_arg1)
          ∧ r.2.mem ((c.tc : Thread Cert.ReferencePIdeal.nD Cert.ReferencePIdeal.τ).loc Cert.ReferencePIdeal.main_arg2) = m' ((c.tc : Thread Cert.ReferencePIdeal.nD Cert.ReferencePIdeal.τ).loc Cert.ReferencePIdeal.main_arg2)
          ∧ r.2.mem ((c.tc : Thread Cert.ReferencePIdeal.nD Cert.ReferencePIdeal.τ).loc Cert.ReferencePIdeal.main_arg3) = m' ((c.tc : Thread Cert.ReferencePIdeal.nD Cert.ReferencePIdeal.τ).loc Cert.ReferencePIdeal.main_arg3)
          ∧ r.2.mem ((c.tc : Thread Cert.ReferencePIdeal.nD Cert.ReferencePIdeal.τ).loc Cert.ReferencePIdeal.main_arg4) = m' ((c.tc : Thread Cert.ReferencePIdeal.nD Cert.ReferencePIdeal.τ).loc Cert.ReferencePIdeal.main_arg4)
          ∧ r.2.mem ((c.tc : Thread Cert.ReferencePIdeal.nD Cert.ReferencePIdeal.τ).loc Cert.ReferencePIdeal.main_arg5) = m' ((c.tc : Thread Cert.ReferencePIdeal.nD Cert.ReferencePIdeal.τ).loc Cert.ReferencePIdeal.main_arg5)
          ∧ r.2.mem ((c.tc : Thread Cert.ReferencePIdeal.nD Cert.ReferencePIdeal.τ).loc Cert.ReferencePIdeal.main_arg6) = m' ((c.tc : Thread Cert.ReferencePIdeal.nD Cert.ReferencePIdeal.τ).loc Cert.ReferencePIdeal.main_arg6)
          ∧ r.2.mem ((c.tc : Thread Cert.ReferencePIdeal.nD Cert.ReferencePIdeal.τ).loc Cert.ReferencePIdeal.main_arg7) = m' ((c.tc : Thread Cert.ReferencePIdeal.nD Cert.ReferencePIdeal.τ).loc Cert.ReferencePIdeal.main_arg7)
          ∧ r.2.mem ((c.tc : Thread Cert.ReferencePIdeal.nD Cert.ReferencePIdeal.τ).loc Cert.ReferencePIdeal.main_arg8) = m' ((c.tc : Thread Cert.ReferencePIdeal.nD Cert.ReferencePIdeal.τ).loc Cert.ReferencePIdeal.main_arg8)
          ∧ r.2.mem ((c.tc : Thread Cert.ReferencePIdeal.nD Cert.ReferencePIdeal.τ).loc Cert.ReferencePIdeal.main_arg9) = m' ((c.tc : Thread Cert.ReferencePIdeal.nD Cert.ReferencePIdeal.τ).loc Cert.ReferencePIdeal.main_arg9)
          ∧ r.2.mem ((c.tc : Thread Cert.ReferencePIdeal.nD Cert.ReferencePIdeal.τ).loc Cert.ReferencePIdeal.main_arg10) = m' ((c.tc : Thread Cert.ReferencePIdeal.nD Cert.ReferencePIdeal.τ).loc Cert.ReferencePIdeal.main_arg10)
          ∧ r.2.mem ((c.tc : Thread Cert.ReferencePIdeal.nD Cert.ReferencePIdeal.τ).loc Cert.ReferencePIdeal.main_arg11) = m' ((c.tc : Thread Cert.ReferencePIdeal.nD Cert.ReferencePIdeal.τ).loc Cert.ReferencePIdeal.main_arg11)
          ∧ r.2.mem ((c.tc : Thread Cert.ReferencePIdeal.nD Cert.ReferencePIdeal.τ).loc Cert.ReferencePIdeal.main_arg12) = m' ((c.tc : Thread Cert.ReferencePIdeal.nD Cert.ReferencePIdeal.τ).loc Cert.ReferencePIdeal.main_arg12)
          ∧ r.2.mem ((c.tc : Thread Cert.ReferencePIdeal.nD Cert.ReferencePIdeal.τ).loc Cert.ReferencePIdeal.main_arg13) = m' ((c.tc : Thread Cert.ReferencePIdeal.nD Cert.ReferencePIdeal.τ).loc Cert.ReferencePIdeal.main_arg13)
          ∧ r.2.mem ((c.tc : Thread Cert.ReferencePIdeal.nD Cert.ReferencePIdeal.τ).loc Cert.ReferencePIdeal.main_arg14) = m' ((c.tc : Thread Cert.ReferencePIdeal.nD Cert.ReferencePIdeal.τ).loc Cert.ReferencePIdeal.main_arg14)
          ∧ r.2.mem ((c.tc : Thread Cert.ReferencePIdeal.nD Cert.ReferencePIdeal.τ).loc Cert.ReferencePIdeal.main_arg15) = m' ((c.tc : Thread Cert.ReferencePIdeal.nD Cert.ReferencePIdeal.τ).loc Cert.ReferencePIdeal.main_arg15)
          ∧ r.2.mem ((c.tc : Thread Cert.ReferencePIdeal.nD Cert.ReferencePIdeal.τ).loc Cert.ReferencePIdeal.main_arg16) = m' ((c.tc : Thread Cert.ReferencePIdeal.nD Cert.ReferencePIdeal.τ).loc Cert.ReferencePIdeal.main_arg16)
          ∧ r.2.mem ((c.tc : Thread Cert.ReferencePIdeal.nD Cert.ReferencePIdeal.τ).loc Cert.ReferencePIdeal.main_arg17) = m' ((c.tc : Thread Cert.ReferencePIdeal.nD Cert.ReferencePIdeal.τ).loc Cert.ReferencePIdeal.main_arg17)
          ∧ r.2.mem ((c.tc : Thread Cert.ReferencePIdeal.nD Cert.ReferencePIdeal.τ).loc Cert.ReferencePIdeal.main_arg18) = m' ((c.tc : Thread Cert.ReferencePIdeal.nD Cert.ReferencePIdeal.τ).loc Cert.ReferencePIdeal.main_arg18)
          ∧ r.2.mem ((c.tc : Thread Cert.ReferencePIdeal.nD Cert.ReferencePIdeal.τ).loc Cert.ReferencePIdeal.main_arg19) = m' ((c.tc : Thread Cert.ReferencePIdeal.nD Cert.ReferencePIdeal.τ).loc Cert.ReferencePIdeal.main_arg19)
          ∧ r.2.mem ((c.tc : Thread Cert.ReferencePIdeal.nD Cert.ReferencePIdeal.τ).loc Cert.ReferencePIdeal.main_arg20) = m' ((c.tc : Thread Cert.ReferencePIdeal.nD Cert.ReferencePIdeal.τ).loc Cert.ReferencePIdeal.main_arg20)
          ∧ r.2.mem ((c.tc : Thread Cert.ReferencePIdeal.nD Cert.ReferencePIdeal.τ).loc Cert.ReferencePIdeal.main_arg21) = m' ((c.tc : Thread Cert.ReferencePIdeal.nD Cert.ReferencePIdeal.τ).loc Cert.ReferencePIdeal.main_arg21)
          ∧ r.2.mem ((c.tc : Thread Cert.ReferencePIdeal.nD Cert.ReferencePIdeal.τ).loc Cert.ReferencePIdeal.main_arg22) = m' ((c.tc : Thread Cert.ReferencePIdeal.nD Cert.ReferencePIdeal.τ).loc Cert.ReferencePIdeal.main_arg22)
          ∧ r.2.mem ((c.tc : Thread Cert.ReferencePIdeal.nD Cert.ReferencePIdeal.τ).loc Cert.ReferencePIdeal.main_arg23) = m' ((c.tc : Thread Cert.ReferencePIdeal.nD Cert.ReferencePIdeal.τ).loc Cert.ReferencePIdeal.main_arg23)
          ∧ r.2.mem ((c.tc : Thread Cert.ReferencePIdeal.nD Cert.ReferencePIdeal.τ).loc Cert.ReferencePIdeal.main_arg24) = m' ((c.tc : Thread Cert.ReferencePIdeal.nD Cert.ReferencePIdeal.τ).loc Cert.ReferencePIdeal.main_arg24)
          ∧ r.2.mem ((c.tc : Thread Cert.ReferencePIdeal.nD Cert.ReferencePIdeal.τ).loc Cert.ReferencePIdeal.main_arg25) = m' ((c.tc : Thread Cert.ReferencePIdeal.nD Cert.ReferencePIdeal.τ).loc Cert.ReferencePIdeal.main_arg25))

def Claim : Prop :=
  ∃ (hKernel : Cert.Kernel.Facts) (hKernelIdeal : Cert.KernelIdeal.Facts) (hReferenceIdeal : Cert.ReferenceIdeal.Facts) (hKernelA : Cert.KernelA.Facts) (hKernelAIdeal : Cert.KernelAIdeal.Facts) (hReferenceAIdeal : Cert.ReferenceAIdeal.Facts) (hKernelM : Cert.KernelM.Facts) (hKernelMIdeal : Cert.KernelMIdeal.Facts) (hReferenceMIdeal : Cert.ReferenceMIdeal.Facts) (hKernelFB : Cert.KernelFB.Facts) (hKernelFBIdeal : Cert.KernelFBIdeal.Facts) (hReferenceFBIdeal : Cert.ReferenceFBIdeal.Facts) (hKernelFA : Cert.KernelFA.Facts) (hKernelFAIdeal : Cert.KernelFAIdeal.Facts) (hReferenceFAIdeal : Cert.ReferenceFAIdeal.Facts) (hKernelP : Cert.KernelP.Facts) (hKernelPIdeal : Cert.KernelPIdeal.Facts) (hReferencePIdeal : Cert.ReferencePIdeal.Facts) (hPre_finite : Cert.Pre_finite.Facts) (hPre_finite_a : Cert.Pre_finite_a.Facts) (hPre_finite_m : Cert.Pre_finite_m.Facts) (hPre_finite_fb : Cert.Pre_finite_fb.Facts) (hPre_finite_fa : Cert.Pre_finite_fa.Facts) (hPre_finite_p : Cert.Pre_finite_p.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelA (hKernelA := hKernelA)
    ∧ quiescent_KernelAIdeal (hKernelAIdeal := hKernelAIdeal)
    ∧ quiescent_KernelAIdeal_pre_finite_a (hKernelAIdeal := hKernelAIdeal) (hPre_finite_a := hPre_finite_a)
    ∧ quiescent_ReferenceAIdeal (hReferenceAIdeal := hReferenceAIdeal)
    ∧ quiescent_ReferenceAIdeal_pre_finite_a (hReferenceAIdeal := hReferenceAIdeal) (hPre_finite_a := hPre_finite_a)
    ∧ quiescent_KernelM (hKernelM := hKernelM)
    ∧ quiescent_KernelMIdeal (hKernelMIdeal := hKernelMIdeal)
    ∧ quiescent_KernelMIdeal_pre_finite_m (hKernelMIdeal := hKernelMIdeal) (hPre_finite_m := hPre_finite_m)
    ∧ quiescent_ReferenceMIdeal (hReferenceMIdeal := hReferenceMIdeal)
    ∧ quiescent_ReferenceMIdeal_pre_finite_m (hReferenceMIdeal := hReferenceMIdeal) (hPre_finite_m := hPre_finite_m)
    ∧ quiescent_KernelFB (hKernelFB := hKernelFB)
    ∧ quiescent_KernelFBIdeal (hKernelFBIdeal := hKernelFBIdeal)
    ∧ quiescent_KernelFBIdeal_pre_finite_fb (hKernelFBIdeal := hKernelFBIdeal) (hPre_finite_fb := hPre_finite_fb)
    ∧ quiescent_ReferenceFBIdeal (hReferenceFBIdeal := hReferenceFBIdeal)
    ∧ quiescent_ReferenceFBIdeal_pre_finite_fb (hReferenceFBIdeal := hReferenceFBIdeal) (hPre_finite_fb := hPre_finite_fb)
    ∧ quiescent_KernelFA (hKernelFA := hKernelFA)
    ∧ quiescent_KernelFAIdeal (hKernelFAIdeal := hKernelFAIdeal)
    ∧ quiescent_KernelFAIdeal_pre_finite_fa (hKernelFAIdeal := hKernelFAIdeal) (hPre_finite_fa := hPre_finite_fa)
    ∧ quiescent_ReferenceFAIdeal (hReferenceFAIdeal := hReferenceFAIdeal)
    ∧ quiescent_ReferenceFAIdeal_pre_finite_fa (hReferenceFAIdeal := hReferenceFAIdeal) (hPre_finite_fa := hPre_finite_fa)
    ∧ quiescent_KernelP (hKernelP := hKernelP)
    ∧ quiescent_KernelPIdeal (hKernelPIdeal := hKernelPIdeal)
    ∧ quiescent_KernelPIdeal_pre_finite_p (hKernelPIdeal := hKernelPIdeal) (hPre_finite_p := hPre_finite_p)
    ∧ quiescent_ReferencePIdeal (hReferencePIdeal := hReferencePIdeal)
    ∧ quiescent_ReferencePIdeal_pre_finite_p (hReferencePIdeal := hReferencePIdeal) (hPre_finite_p := hPre_finite_p)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelA_KernelAIdeal
    ∧ algebraic_KernelAIdeal_ReferenceAIdeal_pre_finite_a (hKernelAIdeal := hKernelAIdeal) (hReferenceAIdeal := hReferenceAIdeal) (hPre_finite_a := hPre_finite_a)
    ∧ preserves_KernelM_KernelMIdeal
    ∧ algebraic_KernelMIdeal_ReferenceMIdeal_pre_finite_m (hKernelMIdeal := hKernelMIdeal) (hReferenceMIdeal := hReferenceMIdeal) (hPre_finite_m := hPre_finite_m)
    ∧ preserves_KernelFB_KernelFBIdeal
    ∧ algebraic_KernelFBIdeal_ReferenceFBIdeal_pre_finite_fb (hKernelFBIdeal := hKernelFBIdeal) (hReferenceFBIdeal := hReferenceFBIdeal) (hPre_finite_fb := hPre_finite_fb)
    ∧ preserves_KernelFA_KernelFAIdeal
    ∧ algebraic_KernelFAIdeal_ReferenceFAIdeal_pre_finite_fa (hKernelFAIdeal := hKernelFAIdeal) (hReferenceFAIdeal := hReferenceFAIdeal) (hPre_finite_fa := hPre_finite_fa)
    ∧ preserves_KernelP_KernelPIdeal
    ∧ algebraic_KernelPIdeal_ReferencePIdeal_pre_finite_p (hKernelPIdeal := hKernelPIdeal) (hReferencePIdeal := hReferencePIdeal) (hPre_finite_p := hPre_finite_p)
-- ==== Pre_finite.lean ====
abbrev S1x4x8192x96 : Shape := ⟨4, ![1, 4, 8192, 96]⟩
abbrev S1x4x8192x128 : Shape := ⟨4, ![1, 4, 8192, 128]⟩
abbrev S1x8192x512 : Shape := ⟨3, ![1, 8192, 512]⟩
abbrev S_ : Shape := ⟨0, ![]⟩

class Facts : Prop where
  bcast_S_S1x4x8192x96 : S_.BroadcastsInDim S1x4x8192x96 (![] : Fin 0 → Fin S1x4x8192x96.rank)
  reducesTo_S1x4x8192x96_S_d0_1_2_3 : S1x4x8192x96.ReducesTo [0, 1, 2, 3] S_
  h_S_ : 0 < S_.numel
  bcast_S_S1x4x8192x128 : S_.BroadcastsInDim S1x4x8192x128 (![] : Fin 0 → Fin S1x4x8192x128.rank)
  reducesTo_S1x4x8192x128_S_d0_1_2_3 : S1x4x8192x128.ReducesTo [0, 1, 2, 3] S_
  bcast_S_S1x8192x512 : S_.BroadcastsInDim S1x8192x512 (![] : Fin 0 → Fin S1x8192x512.rank)
  reducesTo_S1x8192x512_S_d0_1_2 : S1x8192x512.ReducesTo [0, 1, 2] S_

variable [Facts]

def fn_part1 {F : FTy → Type} [FloatOps F] (main_v13 : IVec S_ 1) (main_v16 : IVec S1x8192x512 1) : IVec S_ 1 :=
  let main_c_5 : IVec S_ 1 := constantI S_ 1 1#1
  let main_v17 : IVec S_ 1 := (fun x v => Host.reduce IntOp.andi x v reducesTo_S1x8192x512_S_d0_1_2 h_S_) main_v16 main_c_5
  let main_v18 : IVec S_ 1 := andi main_v13 main_v17
  main_v18

def fn {F : FTy → Type} [FloatOps F] (main_arg0 : FVec F S1x4x8192x96 .f32) (main_arg1 : FVec F S1x4x8192x96 .f32) (main_arg2 : FVec F S1x4x8192x128 .f32) (main_arg3 : FVec F S1x8192x512 .f32) : IVec S_ 1 :=
  let main_v0 : FVec F S1x4x8192x96 .f32 := Host.absf main_arg0
  let main_cst : FVec F S_ .f32 := constant S_ .f32 0x7F800000#32
  let main_v1 : FVec F S1x4x8192x96 .f32 := broadcastInDim S1x4x8192x96 ![] bcast_S_S1x4x8192x96 main_cst
  let main_v2 : IVec S1x4x8192x96 1 := cmpf .olt main_v0 main_v1
  let main_c : IVec S_ 1 := constantI S_ 1 1#1
  let main_v3 : IVec S_ 1 := (fun x v => Host.reduce IntOp.andi x v reducesTo_S1x4x8192x96_S_d0_1_2_3 h_S_) main_v2 main_c
  let main_v4 : FVec F S1x4x8192x96 .f32 := Host.absf main_arg1
  let main_cst_0 : FVec F S_ .f32 := constant S_ .f32 0x7F800000#32
  let main_v5 : FVec F S1x4x8192x96 .f32 := broadcastInDim S1x4x8192x96 ![] bcast_S_S1x4x8192x96 main_cst_0
  let main_v6 : IVec S1x4x8192x96 1 := cmpf .olt main_v4 main_v5
  let main_c_1 : IVec S_ 1 := constantI S_ 1 1#1
  let main_v7 : IVec S_ 1 := (fun x v => Host.reduce IntOp.andi x v reducesTo_S1x4x8192x96_S_d0_1_2_3 h_S_) main_v6 main_c_1
  let main_v8 : IVec S_ 1 := andi main_v3 main_v7
  let main_v9 : FVec F S1x4x8192x128 .f32 := Host.absf main_arg2
  let main_cst_2 : FVec F S_ .f32 := constant S_ .f32 0x7F800000#32
  let main_v10 : FVec F S1x4x8192x128 .f32 := broadcastInDim S1x4x8192x128 ![] bcast_S_S1x4x8192x128 main_cst_2
  let main_v11 : IVec S1x4x8192x128 1 := cmpf .olt main_v9 main_v10
  let main_c_3 : IVec S_ 1 := constantI S_ 1 1#1
  let main_v12 : IVec S_ 1 := (fun x v => Host.reduce IntOp.andi x v reducesTo_S1x4x8192x128_S_d0_1_2_3 h_S_) main_v11 main_c_3
  let main_v13 : IVec S_ 1 := andi main_v8 main_v12
  let main_v14 : FVec F S1x8192x512 .f32 := Host.absf main_arg3
  let main_cst_4 : FVec F S_ .f32 := constant S_ .f32 0x7F800000#32
  let main_v15 : FVec F S1x8192x512 .f32 := broadcastInDim S1x8192x512 ![] bcast_S_S1x8192x512 main_cst_4
  let main_v16 : IVec S1x8192x512 1 := cmpf .olt main_v14 main_v15
  fn_part1 (F := F) main_v13 main_v16
-- ==== Pre_finite_a.lean ====
abbrev S1x8x8192x64 : Shape := ⟨4, ![1, 8, 8192, 64]⟩
abbrev S1x2x8192x64 : Shape := ⟨4, ![1, 2, 8192, 64]⟩
abbrev S1x8192x512 : Shape := ⟨3, ![1, 8192, 512]⟩
abbrev S_ : Shape := ⟨0, ![]⟩

class Facts : Prop where
  bcast_S_S1x8x8192x64 : S_.BroadcastsInDim S1x8x8192x64 (![] : Fin 0 → Fin S1x8x8192x64.rank)
  reducesTo_S1x8x8192x64_S_d0_1_2_3 : S1x8x8192x64.ReducesTo [0, 1, 2, 3] S_
  h_S_ : 0 < S_.numel
  bcast_S_S1x2x8192x64 : S_.BroadcastsInDim S1x2x8192x64 (![] : Fin 0 → Fin S1x2x8192x64.rank)
  reducesTo_S1x2x8192x64_S_d0_1_2_3 : S1x2x8192x64.ReducesTo [0, 1, 2, 3] S_
  bcast_S_S1x8192x512 : S_.BroadcastsInDim S1x8192x512 (![] : Fin 0 → Fin S1x8192x512.rank)
  reducesTo_S1x8192x512_S_d0_1_2 : S1x8192x512.ReducesTo [0, 1, 2] S_

variable [Facts]

def fn_part1 {F : FTy → Type} [FloatOps F] (main_v13 : IVec S_ 1) (main_v16 : IVec S1x8192x512 1) : IVec S_ 1 :=
  let main_c_5 : IVec S_ 1 := constantI S_ 1 1#1
  let main_v17 : IVec S_ 1 := (fun x v => Host.reduce IntOp.andi x v reducesTo_S1x8192x512_S_d0_1_2 h_S_) main_v16 main_c_5
  let main_v18 : IVec S_ 1 := andi main_v13 main_v17
  main_v18

def fn {F : FTy → Type} [FloatOps F] (main_arg0 : FVec F S1x8x8192x64 .f32) (main_arg1 : FVec F S1x2x8192x64 .f32) (main_arg2 : FVec F S1x2x8192x64 .f32) (main_arg3 : FVec F S1x8192x512 .f32) : IVec S_ 1 :=
  let main_v0 : FVec F S1x8x8192x64 .f32 := Host.absf main_arg0
  let main_cst : FVec F S_ .f32 := constant S_ .f32 0x7F800000#32
  let main_v1 : FVec F S1x8x8192x64 .f32 := broadcastInDim S1x8x8192x64 ![] bcast_S_S1x8x8192x64 main_cst
  let main_v2 : IVec S1x8x8192x64 1 := cmpf .olt main_v0 main_v1
  let main_c : IVec S_ 1 := constantI S_ 1 1#1
  let main_v3 : IVec S_ 1 := (fun x v => Host.reduce IntOp.andi x v reducesTo_S1x8x8192x64_S_d0_1_2_3 h_S_) main_v2 main_c
  let main_v4 : FVec F S1x2x8192x64 .f32 := Host.absf main_arg1
  let main_cst_0 : FVec F S_ .f32 := constant S_ .f32 0x7F800000#32
  let main_v5 : FVec F S1x2x8192x64 .f32 := broadcastInDim S1x2x8192x64 ![] bcast_S_S1x2x8192x64 main_cst_0
  let main_v6 : IVec S1x2x8192x64 1 := cmpf .olt main_v4 main_v5
  let main_c_1 : IVec S_ 1 := constantI S_ 1 1#1
  let main_v7 : IVec S_ 1 := (fun x v => Host.reduce IntOp.andi x v reducesTo_S1x2x8192x64_S_d0_1_2_3 h_S_) main_v6 main_c_1
  let main_v8 : IVec S_ 1 := andi main_v3 main_v7
  let main_v9 : FVec F S1x2x8192x64 .f32 := Host.absf main_arg2
  let main_cst_2 : FVec F S_ .f32 := constant S_ .f32 0x7F800000#32
  let main_v10 : FVec F S1x2x8192x64 .f32 := broadcastInDim S1x2x8192x64 ![] bcast_S_S1x2x8192x64 main_cst_2
  let main_v11 : IVec S1x2x8192x64 1 := cmpf .olt main_v9 main_v10
  let main_c_3 : IVec S_ 1 := constantI S_ 1 1#1
  let main_v12 : IVec S_ 1 := (fun x v => Host.reduce IntOp.andi x v reducesTo_S1x2x8192x64_S_d0_1_2_3 h_S_) main_v11 main_c_3
  let main_v13 : IVec S_ 1 := andi main_v8 main_v12
  let main_v14 : FVec F S1x8192x512 .f32 := Host.absf main_arg3
  let main_cst_4 : FVec F S_ .f32 := constant S_ .f32 0x7F800000#32
  let main_v15 : FVec F S1x8192x512 .f32 := broadcastInDim S1x8192x512 ![] bcast_S_S1x8192x512 main_cst_4
  let main_v16 : IVec S1x8192x512 1 := cmpf .olt main_v14 main_v15
  fn_part1 (F := F) main_v13 main_v16
-- ==== Pre_finite_fa.lean ====
abbrev S1x8x8192x64 : Shape := ⟨4, ![1, 8, 8192, 64]⟩
abbrev S1x2x8192x64 : Shape := ⟨4, ![1, 2, 8192, 64]⟩
abbrev S_ : Shape := ⟨0, ![]⟩

class Facts : Prop where
  bcast_S_S1x8x8192x64 : S_.BroadcastsInDim S1x8x8192x64 (![] : Fin 0 → Fin S1x8x8192x64.rank)
  reducesTo_S1x8x8192x64_S_d0_1_2_3 : S1x8x8192x64.ReducesTo [0, 1, 2, 3] S_
  h_S_ : 0 < S_.numel
  bcast_S_S1x2x8192x64 : S_.BroadcastsInDim S1x2x8192x64 (![] : Fin 0 → Fin S1x2x8192x64.rank)
  reducesTo_S1x2x8192x64_S_d0_1_2_3 : S1x2x8192x64.ReducesTo [0, 1, 2, 3] S_

variable [Facts]

def fn {F : FTy → Type} [FloatOps F] (main_arg0 : FVec F S1x8x8192x64 .f32) (main_arg1 : FVec F S1x2x8192x64 .f32) (main_arg2 : FVec F S1x2x8192x64 .f32) : IVec S_ 1 :=
  let main_v0 : FVec F S1x8x8192x64 .f32 := Host.absf main_arg0
  let main_cst : FVec F S_ .f32 := constant S_ .f32 0x7F800000#32
  let main_v1 : FVec F S1x8x8192x64 .f32 := broadcastInDim S1x8x8192x64 ![] bcast_S_S1x8x8192x64 main_cst
  let main_v2 : IVec S1x8x8192x64 1 := cmpf .olt main_v0 main_v1
  let main_c : IVec S_ 1 := constantI S_ 1 1#1
  let main_v3 : IVec S_ 1 := (fun x v => Host.reduce IntOp.andi x v reducesTo_S1x8x8192x64_S_d0_1_2_3 h_S_) main_v2 main_c
  let main_v4 : FVec F S1x2x8192x64 .f32 := Host.absf main_arg1
  let main_cst_0 : FVec F S_ .f32 := constant S_ .f32 0x7F800000#32
  let main_v5 : FVec F S1x2x8192x64 .f32 := broadcastInDim S1x2x8192x64 ![] bcast_S_S1x2x8192x64 main_cst_0
  let main_v6 : IVec S1x2x8192x64 1 := cmpf .olt main_v4 main_v5
  let main_c_1 : IVec S_ 1 := constantI S_ 1 1#1
  let main_v7 : IVec S_ 1 := (fun x v => Host.reduce IntOp.andi x v reducesTo_S1x2x8192x64_S_d0_1_2_3 h_S_) main_v6 main_c_1
  let main_v8 : IVec S_ 1 := andi main_v3 main_v7
  let main_v9 : FVec F S1x2x8192x64 .f32 := Host.absf main_arg2
  let main_cst_2 : FVec F S_ .f32 := constant S_ .f32 0x7F800000#32
  let main_v10 : FVec F S1x2x8192x64 .f32 := broadcastInDim S1x2x8192x64 ![] bcast_S_S1x2x8192x64 main_cst_2
  let main_v11 : IVec S1x2x8192x64 1 := cmpf .olt main_v9 main_v10
  let main_c_3 : IVec S_ 1 := constantI S_ 1 1#1
  let main_v12 : IVec S_ 1 := (fun x v => Host.reduce IntOp.andi x v reducesTo_S1x2x8192x64_S_d0_1_2_3 h_S_) main_v11 main_c_3
  let main_v13 : IVec S_ 1 := andi main_v8 main_v12
  main_v13
-- ==== Pre_finite_fb.lean ====
abbrev S1x4x8192x96 : Shape := ⟨4, ![1, 4, 8192, 96]⟩
abbrev S1x4x8192x128 : Shape := ⟨4, ![1, 4, 8192, 128]⟩
abbrev S_ : Shape := ⟨0, ![]⟩

class Facts : Prop where
  bcast_S_S1x4x8192x96 : S_.BroadcastsInDim S1x4x8192x96 (![] : Fin 0 → Fin S1x4x8192x96.rank)
  reducesTo_S1x4x8192x96_S_d0_1_2_3 : S1x4x8192x96.ReducesTo [0, 1, 2, 3] S_
  h_S_ : 0 < S_.numel
  bcast_S_S1x4x8192x128 : S_.BroadcastsInDim S1x4x8192x128 (![] : Fin 0 → Fin S1x4x8192x128.rank)
  reducesTo_S1x4x8192x128_S_d0_1_2_3 : S1x4x8192x128.ReducesTo [0, 1, 2, 3] S_

variable [Facts]

def fn {F : FTy → Type} [FloatOps F] (main_arg0 : FVec F S1x4x8192x96 .f32) (main_arg1 : FVec F S1x4x8192x96 .f32) (main_arg2 : FVec F S1x4x8192x128 .f32) : IVec S_ 1 :=
  let main_v0 : FVec F S1x4x8192x96 .f32 := Host.absf main_arg0
  let main_cst : FVec F S_ .f32 := constant S_ .f32 0x7F800000#32
  let main_v1 : FVec F S1x4x8192x96 .f32 := broadcastInDim S1x4x8192x96 ![] bcast_S_S1x4x8192x96 main_cst
  let main_v2 : IVec S1x4x8192x96 1 := cmpf .olt main_v0 main_v1
  let main_c : IVec S_ 1 := constantI S_ 1 1#1
  let main_v3 : IVec S_ 1 := (fun x v => Host.reduce IntOp.andi x v reducesTo_S1x4x8192x96_S_d0_1_2_3 h_S_) main_v2 main_c
  let main_v4 : FVec F S1x4x8192x96 .f32 := Host.absf main_arg1
  let main_cst_0 : FVec F S_ .f32 := constant S_ .f32 0x7F800000#32
  let main_v5 : FVec F S1x4x8192x96 .f32 := broadcastInDim S1x4x8192x96 ![] bcast_S_S1x4x8192x96 main_cst_0
  let main_v6 : IVec S1x4x8192x96 1 := cmpf .olt main_v4 main_v5
  let main_c_1 : IVec S_ 1 := constantI S_ 1 1#1
  let main_v7 : IVec S_ 1 := (fun x v => Host.reduce IntOp.andi x v reducesTo_S1x4x8192x96_S_d0_1_2_3 h_S_) main_v6 main_c_1
  let main_v8 : IVec S_ 1 := andi main_v3 main_v7
  let main_v9 : FVec F S1x4x8192x128 .f32 := Host.absf main_arg2
  let main_cst_2 : FVec F S_ .f32 := constant S_ .f32 0x7F800000#32
  let main_v10 : FVec F S1x4x8192x128 .f32 := broadcastInDim S1x4x8192x128 ![] bcast_S_S1x4x8192x128 main_cst_2
  let main_v11 : IVec S1x4x8192x128 1 := cmpf .olt main_v9 main_v10
  let main_c_3 : IVec S_ 1 := constantI S_ 1 1#1
  let main_v12 : IVec S_ 1 := (fun x v => Host.reduce IntOp.andi x v reducesTo_S1x4x8192x128_S_d0_1_2_3 h_S_) main_v11 main_c_3
  let main_v13 : IVec S_ 1 := andi main_v8 main_v12
  main_v13
-- ==== Pre_finite_m.lean ====
abbrev S1x8192x1024 : Shape := ⟨3, ![1, 8192, 1024]⟩
abbrev S1x8192x512 : Shape := ⟨3, ![1, 8192, 512]⟩
abbrev S1x1024x1024 : Shape := ⟨3, ![1, 1024, 1024]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1x8192x512 : S_.BroadcastsInDim S1x8192x512 (![] : Fin 0 → Fin S1x8192x512.rank)
  reducesTo_S1x8192x512_S_d0_1_2 : S1x8192x512.ReducesTo [0, 1, 2] S_
  bcast_S_S1x1024x1024 : S_.BroadcastsInDim S1x1024x1024 (![] : Fin 0 → Fin S1x1024x1024.rank)
  reducesTo_S1x1024x1024_S_d0_1_2 : S1x1024x1024.ReducesTo [0, 1, 2] S_

variable [Facts]

def fn_part1 {F : FTy → Type} [FloatOps F] (main_arg4 : FVec F S1x8192x512 .f32) (main_arg5 : FVec F S1x1024x1024 .f32) (main_arg6 : FVec F S1x8192x1024 .f32) (main_v13 : IVec S_ 1) (main_v16 : IVec S1x8192x512 1) : IVec S_ 1 :=
  let main_c_5 : IVec S_ 1 := constantI S_ 1 1#1
  let main_v17 : IVec S_ 1 := (fun x v => Host.reduce IntOp.andi x v reducesTo_S1x8192x512_S_d0_1_2 h_S_) main_v16 main_c_5
  let main_v18 : IVec S_ 1 := andi main_v13 main_v17
  let main_v19 : FVec F S1x8192x512 .f32 := Host.absf main_arg4
  let main_cst_6 : FVec F S_ .f32 := constant S_ .f32 0x7F800000#32
  let main_v20 : FVec F S1x8192x512 .f32 := broadcastInDim S1x8192x512 ![] bcast_S_S1x8192x512 main_cst_6
  let main_v21 : IVec S1x8192x512 1 := cmpf .olt main_v19 main_v20
  let main_c_7 : IVec S_ 1 := constantI S_ 1 1#1
  let main_v22 : IVec S_ 1 := (fun x v => Host.reduce IntOp.andi x v reducesTo_S1x8192x512_S_d0_1_2 h_S_) main_v21 main_c_7
  let main_v23 : IVec S_ 1 := andi main_v18 main_v22
  let main_v24 : FVec F S1x1024x1024 .f32 := Host.absf main_arg5
  let main_cst_8 : FVec F S_ .f32 := constant S_ .f32 0x7F800000#32
  let main_v25 : FVec F S1x1024x1024 .f32 := broadcastInDim S1x1024x1024 ![] bcast_S_S1x1024x1024 main_cst_8
  let main_v26 : IVec S1x1024x1024 1 := cmpf .olt main_v24 main_v25
  let main_c_9 : IVec S_ 1 := constantI S_ 1 1#1
  let main_v27 : IVec S_ 1 := (fun x v => Host.reduce IntOp.andi x v reducesTo_S1x1024x1024_S_d0_1_2 h_S_) main_v26 main_c_9
  let main_v28 : IVec S_ 1 := andi main_v23 main_v27
  let main_v29 : FVec F S1x8192x1024 .f32 := Host.absf main_arg6
  let main_cst_10 : FVec F S_ .f32 := constant S_ .f32 0x7F800000#32
  let main_v30 : FVec F S1x8192x1024 .f32 := broadcastInDim S1x8192x1024 ![] bcast_S_S1x8192x1024 main_cst_10
  let main_v31 : IVec S1x8192x1024 1 := cmpf .olt main_v29 main_v30
  let main_c_11 : IVec S_ 1 := constantI S_ 1 1#1
  let main_v32 : IVec S_ 1 := (fun x v => Host.reduce IntOp.andi x v reducesTo_S1x8192x1024_S_d0_1_2 h_S_) main_v31 main_c_11
  let main_v33 : IVec S_ 1 := andi main_v28 main_v32
  main_v33

def fn {F : FTy → Type} [FloatOps F] (main_arg0 : FVec F S1x8192x1024 .f32) (main_arg1 : FVec F S1x8192x512 .f32) (main_arg2 : FVec F S1x8192x512 .f32) (main_arg3 : FVec F S1x8192x512 .f32) (main_arg4 : FVec F S1x8192x512 .f32) (main_arg5 : FVec F S1x1024x1024 .f32) (main_arg6 : FVec F S1x8192x1024 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1x8192x512 .f32 := Host.absf main_arg1
  let main_cst_0 : FVec F S_ .f32 := constant S_ .f32 0x7F800000#32
  let main_v5 : FVec F S1x8192x512 .f32 := broadcastInDim S1x8192x512 ![] bcast_S_S1x8192x512 main_cst_0
  let main_v6 : IVec S1x8192x512 1 := cmpf .olt main_v4 main_v5
  let main_c_1 : IVec S_ 1 := constantI S_ 1 1#1
  let main_v7 : IVec S_ 1 := (fun x v => Host.reduce IntOp.andi x v reducesTo_S1x8192x512_S_d0_1_2 h_S_) main_v6 main_c_1
  let main_v8 : IVec S_ 1 := andi main_v3 main_v7
  let main_v9 : FVec F S1x8192x512 .f32 := Host.absf main_arg2
  let main_cst_2 : FVec F S_ .f32 := constant S_ .f32 0x7F800000#32
  let main_v10 : FVec F S1x8192x512 .f32 := broadcastInDim S1x8192x512 ![] bcast_S_S1x8192x512 main_cst_2
  let main_v11 : IVec S1x8192x512 1 := cmpf .olt main_v9 main_v10
  let main_c_3 : IVec S_ 1 := constantI S_ 1 1#1
  let main_v12 : IVec S_ 1 := (fun x v => Host.reduce IntOp.andi x v reducesTo_S1x8192x512_S_d0_1_2 h_S_) main_v11 main_c_3
  let main_v13 : IVec S_ 1 := andi main_v8 main_v12
  let main_v14 : FVec F S1x8192x512 .f32 := Host.absf main_arg3
  let main_cst_4 : FVec F S_ .f32 := constant S_ .f32 0x7F800000#32
  let main_v15 : FVec F S1x8192x512 .f32 := broadcastInDim S1x8192x512 ![] bcast_S_S1x8192x512 main_cst_4
  let main_v16 : IVec S1x8192x512 1 := cmpf .olt main_v14 main_v15
  fn_part1 (F := F) main_arg4 main_arg5 main_arg6 main_v13 main_v16
-- ==== Pre_finite_p.lean ====
abbrev S1x8192x512 : Shape := ⟨3, ![1, 8192, 512]⟩
abbrev S1x8192x128 : Shape := ⟨3, ![1, 8192, 128]⟩
abbrev S1x64 : Shape := ⟨2, ![1, 64]⟩
abbrev S1x8x8192x64 : Shape := ⟨4, ![1, 8, 8192, 64]⟩
abbrev S8192x1024 : Shape := ⟨2, ![8192, 1024]⟩
abbrev S8192x640 : Shape := ⟨2, ![8192, 640]⟩
abbrev S8192x512 : Shape := ⟨2, ![8192, 512]⟩
abbrev S4x8192x128 : Shape := ⟨3, ![4, 8192, 128]⟩
abbrev S8x128 : Shape := ⟨2, ![8, 128]⟩
abbrev S1024x3328 : Shape := ⟨2, ![1024, 3328]⟩
abbrev S384x512 : Shape := ⟨2, ![384, 512]⟩
abbrev S256x1024 : Shape := ⟨2, ![256, 1024]⟩
abbrev S1x1024 : Shape := ⟨2, ![1, 1024]⟩
abbrev S1x384 : Shape := ⟨2, ![1, 384]⟩
abbrev S1x256 : Shape := ⟨2, ![1, 256]⟩
abbrev S1x128 : Shape := ⟨2, ![1, 128]⟩
abbrev S_ : Shape := ⟨0, ![]⟩

class Facts : Prop where
  bcast_S_S1x8192x512 : S_.BroadcastsInDim S1x8192x512 (![] : Fin 0 → Fin S1x8192x512.rank)
  reducesTo_S1x8192x512_S_d0_1_2 : S1x8192x512.ReducesTo [0, 1, 2] S_
  h_S_ : 0 < S_.numel
  bcast_S_S1x8192x128 : S_.BroadcastsInDim S1x8192x128 (![] : Fin 0 → Fin S1x8192x128.rank)
  reducesTo_S1x8192x128_S_d0_1_2 : S1x8192x128.ReducesTo [0, 1, 2] S_
  bcast_S_S1x64 : S_.BroadcastsInDim S1x64 (![] : Fin 0 → Fin S1x64.rank)
  reducesTo_S1x64_S_d0_1 : S1x64.ReducesTo [0, 1] S_
  bcast_S_S1x8x8192x64 : S_.BroadcastsInDim S1x8x8192x64 (![] : Fin 0 → Fin S1x8x8192x64.rank)
  reducesTo_S1x8x8192x64_S_d0_1_2_3 : S1x8x8192x64.ReducesTo [0, 1, 2, 3] S_

variable [Facts]

def fn_part1 {F : FTy → Type} [FloatOps F] (main_arg5 : FVec F S1x8x8192x64 .f32) (main_arg6 : FVec F S1x8x8192x64 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S1x8x8192x64 .f32 := Host.absf main_arg5
  let main_cst_6 : FVec F S_ .f32 := constant S_ .f32 0x7F800000#32
  let main_v20 : FVec F S1x8x8192x64 .f32 := broadcastInDim S1x8x8192x64 ![] bcast_S_S1x8x8192x64 main_cst_6
  let main_v21 : IVec S1x8x8192x64 1 := cmpf .olt main_v19 main_v20
  let main_c_7 : IVec S_ 1 := constantI S_ 1 1#1
  let main_v22 : IVec S_ 1 := (fun x v => Host.reduce IntOp.andi x v reducesTo_S1x8x8192x64_S_d0_1_2_3 h_S_) main_v21 main_c_7
  let main_v23 : IVec S_ 1 := andi main_v18 main_v22
  let main_v24 : FVec F S1x8x8192x64 .f32 := Host.absf main_arg6
  let main_cst_8 : FVec F S_ .f32 := constant S_ .f32 0x7F800000#32
  let main_v25 : FVec F S1x8x8192x64 .f32 := broadcastInDim S1x8x8192x64 ![] bcast_S_S1x8x8192x64 main_cst_8
  let main_v26 : IVec S1x8x8192x64 1 := cmpf .olt main_v24 main_v25
  let main_c_9 : IVec S_ 1 := constantI S_ 1 1#1
  let main_v27 : IVec S_ 1 := (fun x v => Host.reduce IntOp.andi x v reducesTo_S1x8x8192x64_S_d0_1_2_3 h_S_) main_v26 main_c_9
  let main_v28 : IVec S_ 1 := andi main_v23 main_v27
  main_v28

def fn {F : FTy → Type} [FloatOps F] (main_arg0 : FVec F S1x8192x512 .f32) (main_arg1 : FVec F S1x8192x128 .f32) (main_arg2 : FVec F S1x8192x128 .f32) (main_arg3 : FVec F S1x64 .f32) (main_arg4 : FVec F S1x64 .f32) (main_arg5 : FVec F S1x8x8192x64 .f32) (main_arg6 : FVec F S1x8x8192x64 .f32) (main_arg7 : FVec F S1x8x8192x64 .f32) (main_arg8 : FVec F S8192x1024 .f32) (main_arg9 : FVec F S8192x1024 .f32) (main_arg10 : FVec F S8192x640 .f32) (main_arg11 : FVec F S8192x512 .f32) (main_arg12 : FVec F S8192x512 .f32) (main_arg13 : FVec F S8192x1024 .f32) (main_arg14 : FVec F S4x8192x128 .f32) (main_arg15 : FVec F S4x8192x128 .f32) (main_arg16 : FVec F S4x8192x128 .f32) (main_arg17 : FVec F S8x128 .f32) (main_arg18 : FVec F S1024x3328 .f32) (main_arg19 : FVec F S384x512 .f32) (main_arg20 : FVec F S256x1024 .f32) (main_arg21 : FVec F S1x1024 .f32) (main_arg22 : FVec F S1x384 .f32) (main_arg23 : FVec F S1x256 .f32) (main_arg24 : FVec F S1x128 .f32) (main_arg25 : FVec F S1x128 .f32) : IVec S_ 1 :=
  let main_v0 : FVec F S1x8192x512 .f32 := Host.absf main_arg0
  let main_cst : FVec F S_ .f32 := constant S_ .f32 0x7F800000#32
  let main_v1 : FVec F S1x8192x512 .f32 := broadcastInDim S1x8192x512 ![] bcast_S_S1x8192x512 main_cst
  let main_v2 : IVec S1x8192x512 1 := cmpf .olt main_v0 main_v1
  let main_c : IVec S_ 1 := constantI S_ 1 1#1
  let main_v3 : IVec S_ 1 := (fun x v => Host.reduce IntOp.andi x v reducesTo_S1x8192x512_S_d0_1_2 h_S_) main_v2 main_c
  let main_v4 : FVec F S1x8192x128 .f32 := Host.absf main_arg1
  let main_cst_0 : FVec F S_ .f32 := constant S_ .f32 0x7F800000#32
  let main_v5 : FVec F S1x8192x128 .f32 := broadcastInDim S1x8192x128 ![] bcast_S_S1x8192x128 main_cst_0
  let main_v6 : IVec S1x8192x128 1 := cmpf .olt main_v4 main_v5
  let main_c_1 : IVec S_ 1 := constantI S_ 1 1#1
  let main_v7 : IVec S_ 1 := (fun x v => Host.reduce IntOp.andi x v reducesTo_S1x8192x128_S_d0_1_2 h_S_) main_v6 main_c_1
  let main_v8 : IVec S_ 1 := andi main_v3 main_v7
  let main_v9 : FVec F S1x64 .f32 := Host.absf main_arg3
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S1x64 .f32 := Host.absf main_arg4
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg5 main_arg6 main_v13 main_v16
-- ==== Kernel.lean ====
abbrev S1x4x8192x96 : Shape := ⟨4, ![1, 4, 8192, 96]⟩
abbrev S1x4x8192x128 : Shape := ⟨4, ![1, 4, 8192, 128]⟩
abbrev S1x8192x512 : Shape := ⟨3, ![1, 8192, 512]⟩
abbrev S4x8192x96 : Shape := ⟨3, ![4, 8192, 96]⟩
abbrev S4x8192x8192 : Shape := ⟨3, ![4, 8192, 8192]⟩
abbrev S_ : Shape := ⟨0, ![]⟩
abbrev S4x8192 : Shape := ⟨2, ![4, 8192]⟩
abbrev S4x8192x1 : Shape := ⟨3, ![4, 8192, 1]⟩
abbrev S4x8192x128 : Shape := ⟨3, ![4, 8192, 128]⟩
abbrev S8192x4x128 : Shape := ⟨3, ![8192, 4, 128]⟩
abbrev S4x8192x1x96 : Shape := ⟨4, ![4, 8192, 1, 96]⟩
abbrev S4x8192x1x0 : Shape := ⟨4, ![4, 8192, 1, 0]⟩
abbrev S4x8192x1x8 : Shape := ⟨4, ![4, 8192, 1, 8]⟩
abbrev S4x8192x1x32 : Shape := ⟨4, ![4, 8192, 1, 32]⟩
abbrev S4x8192x1x16 : Shape := ⟨4, ![4, 8192, 1, 16]⟩
abbrev S4x8192x1x128 : Shape := ⟨4, ![4, 8192, 1, 128]⟩
abbrev S4x8x1x1024 : Shape := ⟨4, ![4, 8, 1, 1024]⟩
abbrev S1x8192x128 : Shape := ⟨3, ![1, 8192, 128]⟩
abbrev S1x8x1x1024 : Shape := ⟨4, ![1, 8, 1, 1024]⟩
abbrev S1x1024x128 : Shape := ⟨3, ![1, 1024, 128]⟩
abbrev S2x512x1024 : Shape := ⟨3, ![2, 512, 1024]⟩
abbrev S8192x128 : Shape := ⟨2, ![8192, 128]⟩
abbrev S1x512x128 : Shape := ⟨3, ![1, 512, 128]⟩
abbrev S512x128 : Shape := ⟨2, ![512, 128]⟩
abbrev S1024x128 : Shape := ⟨2, ![1024, 128]⟩
abbrev S512x1024 : Shape := ⟨2, ![512, 1024]⟩
abbrev S1x512x1024 : Shape := ⟨3, ![1, 512, 1024]⟩
abbrev S1x1x1x1024 : Shape := ⟨4, ![1, 1, 1, 1024]⟩
abbrev S1x1024 : Shape := ⟨2, ![1, 1024]⟩
abbrev S4x8192x32 : Shape := ⟨3, ![4, 8192, 32]⟩
abbrev S4x8192x8 : Shape := ⟨3, ![4, 8192, 8]⟩

abbrev nBuf : Space → Nat
  | .hbm => 121
  | .vmem => 22
  | .smem => 0
  | _ => 0

abbrev bufTy : (tb : Table) → Fin (tcTables nBuf tb) → BufTy
  | .hbm, ⟨0, _⟩ => ⟨S1x4x8192x96, .f32⟩
  | .hbm, ⟨1, _⟩ => ⟨S1x4x8192x96, .f32⟩
  | .hbm, ⟨2, _⟩ => ⟨S1x4x8192x128, .f32⟩
  | .hbm, ⟨3, _⟩ => ⟨S1x8192x512, .f32⟩
  | .hbm, ⟨4, _⟩ => ⟨S4x8192x96, .f32⟩
  | .hbm, ⟨5, _⟩ => ⟨S4x8192x96, .f32⟩
  | .hbm, ⟨6, _⟩ => ⟨S4x8192x8192, .f32⟩
  | .hbm, ⟨7, _⟩ => ⟨S_, .f32⟩
  | .hbm, ⟨8, _⟩ => ⟨S_, .f32⟩
  | .hbm, ⟨9, _⟩ => ⟨S4x8192x8192, .f32⟩
  | .hbm, ⟨10, _⟩ => ⟨S4x8192x8192, .f32⟩
  | .hbm, ⟨11, _⟩ => ⟨S_, .f32⟩
  | .hbm, ⟨12, _⟩ => ⟨S4x8192, .f32⟩
  | .hbm, ⟨13, _⟩ => ⟨S4x8192x1, .f32⟩
  | .hbm, ⟨14, _⟩ => ⟨S4x8192x8192, .f32⟩
  | .hbm, ⟨15, _⟩ => ⟨S4x8192x8192, .f32⟩
  | .hbm, ⟨16, _⟩ => ⟨S4x8192x8192, .f32⟩
  | .hbm, ⟨17, _⟩ => ⟨S_, .f32⟩
  | .hbm, ⟨18, _⟩ => ⟨S4x8192, .f32⟩
  | .hbm, ⟨19, _⟩ => ⟨S4x8192x1, .f32⟩
  | .hbm, ⟨20, _⟩ => ⟨S4x8192x8192, .f32⟩
  | .hbm, ⟨21, _⟩ => ⟨S4x8192x8192, .f32⟩
  | .hbm, ⟨22, _⟩ => ⟨S4x8192x128, .f32⟩
  | .hbm, ⟨23, _⟩ => ⟨S4x8192x128, .f32⟩
  | .hbm, ⟨24, _⟩ => ⟨S_, .f32⟩
  | .hbm, ⟨25, _⟩ => ⟨S_, .f32⟩
  | .hbm, ⟨26, _⟩ => ⟨S4x8192x1, .f32⟩
  | .hbm, ⟨27, _⟩ => ⟨S4x8192x1, .f32⟩
  | .hbm, ⟨28, _⟩ => ⟨S4x8192x1, .f32⟩
  | .hbm, ⟨29, _⟩ => ⟨S4x8192x1, .f32⟩
  | .hbm, ⟨30, _⟩ => ⟨S8192x4x128, .f32⟩
  | .hbm, ⟨31, _⟩ => ⟨S4x8192x128, .f32⟩
  | .hbm, ⟨32, _⟩ => ⟨S4x8192x128, .f32⟩
  | .hbm, ⟨33, _⟩ => ⟨S_, .f32⟩
  | .hbm, ⟨34, _⟩ => ⟨S4x8192, .f32⟩
  | .hbm, ⟨35, _⟩ => ⟨S4x8192x96, .f32⟩
  | .hbm, ⟨36, _⟩ => ⟨S4x8192x1x96, .f32⟩
  | .hbm, ⟨37, _⟩ => ⟨S_, .f32⟩
  | .hbm, ⟨38, _⟩ => ⟨S4x8192x1x0, .f32⟩
  | .hbm, ⟨39, _⟩ => ⟨S4x8192x1x8, .f32⟩
  | .hbm, ⟨40, _⟩ => ⟨S_, .f32⟩
  | .hbm, ⟨41, _⟩ => ⟨S4x8192x1x0, .f32⟩
  | .hbm, ⟨42, _⟩ => ⟨S4x8192x1x8, .f32⟩
  | .hbm, ⟨43, _⟩ => ⟨S_, .f32⟩
  | .hbm, ⟨44, _⟩ => ⟨S4x8192x1x0, .f32⟩
  | .hbm, ⟨45, _⟩ => ⟨S4x8192x1x32, .f32⟩
  | .hbm, ⟨46, _⟩ => ⟨S_, .f32⟩
  | .hbm, ⟨47, _⟩ => ⟨S4x8192x1x16, .f32⟩
  | .hbm, ⟨48, _⟩ => ⟨S4x8192x1x8, .f32⟩
  | .hbm, ⟨49, _⟩ => ⟨S_, .f32⟩
  | .hbm, ⟨50, _⟩ => ⟨S4x8192x1x0, .f32⟩
  | .hbm, ⟨51, _⟩ => ⟨S4x8192x1x8, .f32⟩
  | .hbm, ⟨52, _⟩ => ⟨S_, .f32⟩
  | .hbm, ⟨53, _⟩ => ⟨S4x8192x1x0, .f32⟩
  | .hbm, ⟨54, _⟩ => ⟨S4x8192x1x32, .f32⟩
  | .hbm, ⟨55, _⟩ => ⟨S_, .f32⟩
  | .hbm, ⟨56, _⟩ => ⟨S4x8192x1x16, .f32⟩
  | .hbm, ⟨57, _⟩ => ⟨S4x8192x1x128, .f32⟩
  | .hbm, ⟨58, _⟩ => ⟨S4x8192x128, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S4x8192x128, .f32⟩
  | .hbm, ⟨63, _⟩ => ⟨S4x8192x128, .f32⟩
  | .hbm, ⟨64, _⟩ => ⟨S4x8192x128, .bf16⟩
  | .hbm, ⟨65, _⟩ => ⟨S4x8192x96, .f32⟩
  | .hbm, ⟨66, _⟩ => ⟨S4x8192x1x96, .f32⟩
  | .hbm, ⟨67, _⟩ => ⟨S_, .f32⟩
  | .hbm, ⟨68, _⟩ => ⟨S4x8192x1x0, .f32⟩
  | .hbm, ⟨69, _⟩ => ⟨S4x8192x1x8, .f32⟩
  | .hbm, ⟨70, _⟩ => ⟨S_, .f32⟩
  | .hbm, ⟨71, _⟩ => ⟨S4x8192x1x0, .f32⟩
  | .hbm, ⟨72, _⟩ => ⟨S4x8192x1x8, .f32⟩
  | .hbm, ⟨73, _⟩ => ⟨S_, .f32⟩
  | .hbm, ⟨74, _⟩ => ⟨S4x8192x1x0, .f32⟩
  | .hbm, ⟨75, _⟩ => ⟨S4x8192x1x32, .f32⟩
  | .hbm, ⟨76, _⟩ => ⟨S_, .f32⟩
  | .hbm, ⟨77, _⟩ => ⟨S4x8192x1x16, .f32⟩
  | .hbm, ⟨78, _⟩ => ⟨S4x8192x1x8, .f32⟩
  | .hbm, ⟨79, _⟩ => ⟨S_, .f32⟩
  | .hbm, ⟨80, _⟩ => ⟨S4x8192x1x0, .f32⟩
  | .hbm, ⟨81, _⟩ => ⟨S4x8192x1x8, .f32⟩
  | .hbm, ⟨82, _⟩ => ⟨S_, .f32⟩
  | .hbm, ⟨83, _⟩ => ⟨S4x8192x1x0, .f32⟩
  | .hbm, ⟨84, _⟩ => ⟨S4x8192x1x32, .f32⟩
  | .hbm, ⟨85, _⟩ => ⟨S_, .f32⟩
  | .hbm, ⟨86, _⟩ => ⟨S4x8192x1x16, .f32⟩
  | .hbm, ⟨87, _⟩ => ⟨S4x8192x1x128, .f32⟩
  | .hbm, ⟨88, _⟩ => ⟨S4x8192x128, .f32⟩
  | .hbm, ⟨89, _⟩ => ⟨S4x8192x128, .bf16⟩
  | .hbm, ⟨90, _⟩ => ⟨S4x8192x128, .bf16⟩
  | .hbm, ⟨91, _⟩ => ⟨S4x8192x128, .f32⟩
  | .hbm, ⟨92, _⟩ => ⟨S4x8192x128, .bf16⟩
  | .hbm, ⟨93, _⟩ => ⟨S4x8x1x1024, .f32⟩
  | .hbm, ⟨94, _⟩ => ⟨S4x8x1x1024, .f32⟩
  | .hbm, ⟨95, _⟩ => ⟨S4x8192x128, .f32⟩
  | .hbm, ⟨96, _⟩ => ⟨S4x8192x128, .f32⟩
  | .hbm, ⟨97, _⟩ => ⟨S4x8192x128, .f32⟩
  | .hbm, ⟨98, _⟩ => ⟨S_, .f32⟩
  | .hbm, ⟨99, _⟩ => ⟨S_, .f32⟩
  | .hbm, ⟨100, _⟩ => ⟨S4x8192x128, .f32⟩
  | .hbm, ⟨101, _⟩ => ⟨S4x8192x128, .f32⟩
  | .hbm, ⟨102, _⟩ => ⟨S4x8192x32, .f32⟩
  | .hbm, ⟨103, _⟩ => ⟨S4x8192x32, .f32⟩
  | .hbm, ⟨104, _⟩ => ⟨S4x8192x8, .f32⟩
  | .hbm, ⟨105, _⟩ => ⟨S4x8192x8, .f32⟩
  | .hbm, ⟨106, _⟩ => ⟨S4x8192x8, .f32⟩
  | .hbm, ⟨107, _⟩ => ⟨S4x8192x8, .f32⟩
  | .hbm, ⟨108, _⟩ => ⟨S4x8192x96, .f32⟩
  | .hbm, ⟨109, _⟩ => ⟨S1x4x8192x96, .f32⟩
  | .hbm, ⟨110, _⟩ => ⟨S4x8192x128, .f32⟩
  | .hbm, ⟨111, _⟩ => ⟨S4x8192x128, .f32⟩
  | .hbm, ⟨112, _⟩ => ⟨S4x8192x32, .f32⟩
  | .hbm, ⟨113, _⟩ => ⟨S4x8192x32, .f32⟩
  | .hbm, ⟨114, _⟩ => ⟨S4x8192x8, .f32⟩
  | .hbm, ⟨115, _⟩ => ⟨S4x8192x8, .f32⟩
  | .hbm, ⟨116, _⟩ => ⟨S4x8192x8, .f32⟩
  | .hbm, ⟨117, _⟩ => ⟨S4x8192x8, .f32⟩
  | .hbm, ⟨118, _⟩ => ⟨S4x8192x96, .f32⟩
  | .hbm, ⟨119, _⟩ => ⟨S1x4x8192x96, .f32⟩
  | .hbm, ⟨120, _⟩ => ⟨S1x4x8192x128, .f32⟩
  | .local _ .vmem, ⟨0, _⟩ => ⟨S1x8192x128, .bf16⟩
  | .local _ .vmem, ⟨1, _⟩ => ⟨S1x8192x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8x1x1024, .f32⟩
  | .local _ .vmem, ⟨5, _⟩ => ⟨S1x8x1x1024, .f32⟩
  | .local _ .vmem, ⟨6, _⟩ => ⟨S1x8x1x1024, .f32⟩
  | .local _ .vmem, ⟨7, _⟩ => ⟨S1x8x1x1024, .f32⟩
  | .local _ .vmem, ⟨8, _⟩ => ⟨S1x1024x128, .bf16⟩
  | .local _ .vmem, ⟨9, _⟩ => ⟨S1x1024x128, .bf16⟩
  | .local _ .vmem, ⟨10, _⟩ => ⟨S1x1024x128, .bf16⟩
  | .local _ .vmem, ⟨11, _⟩ => ⟨S1x1024x128, .bf16⟩
  | .local _ .vmem, ⟨12, _⟩ => ⟨S1x8192x128, .f32⟩
  | .local _ .vmem, ⟨13, _⟩ => ⟨S1x8192x128, .f32⟩
  | .local _ .vmem, ⟨14, _⟩ => ⟨S1x1024x128, .f32⟩
  | .local _ .vmem, ⟨15, _⟩ => ⟨S1x1024x128, .f32⟩
  | .local _ .vmem, ⟨16, _⟩ => ⟨S1x1024x128, .f32⟩
  | .local _ .vmem, ⟨17, _⟩ => ⟨S1x1024x128, .f32⟩
  | .local _ .vmem, ⟨18, _⟩ => ⟨S2x512x1024, .f32⟩
  | .local _ .vmem, ⟨19, _⟩ => ⟨S2x512x1024, .f32⟩
  | .local _ .vmem, ⟨20, _⟩ => ⟨S2x512x1024, .bf16⟩
  | .local _ .vmem, ⟨21, _⟩ => ⟨S2x512x1024, .bf16⟩
  | _, _ => ⟨S1x4x8192x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_11 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_12 : Ref sig .tc := ⟨.hbm, 67, rfl⟩
abbrev main_v50 : Ref sig .tc := ⟨.hbm, 68, rfl⟩
abbrev main_v51 : Ref sig .tc := ⟨.hbm, 69, rfl⟩
abbrev main_cst_13 : Ref sig .tc := ⟨.hbm, 70, rfl⟩
abbrev main_v52 : Ref sig .tc := ⟨.hbm, 71, rfl⟩
abbrev main_v53 : Ref sig .tc := ⟨.hbm, 72, rfl⟩
abbrev main_cst_14 : Ref sig .tc := ⟨.hbm, 73, rfl⟩
abbrev main_v54 : Ref sig .tc := ⟨.hbm, 74, rfl⟩
abbrev main_v55 : Ref sig .tc := ⟨.hbm, 75, rfl⟩
abbrev main_cst_15 : Ref sig .tc := ⟨.hbm, 76, rfl⟩
abbrev main_v56 : Ref sig .tc := ⟨.hbm, 77, rfl⟩
abbrev main_v57 : Ref sig .tc := ⟨.hbm, 78, rfl⟩
abbrev main_cst_16 : Ref sig .tc := ⟨.hbm, 79, rfl⟩
abbrev main_v58 : Ref sig .tc := ⟨.hbm, 80, rfl⟩
abbrev main_v59 : Ref sig .tc := ⟨.hbm, 81, rfl⟩
abbrev main_cst_17 : Ref sig .tc := ⟨.hbm, 82, rfl⟩
abbrev main_v60 : Ref sig .tc := ⟨.hbm, 83, rfl⟩
abbrev main_v61 : Ref sig .tc := ⟨.hbm, 84, rfl⟩
abbrev main_cst_18 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71_0 : Ref sig .tc := ⟨.hbm, 95, rfl⟩
abbrev main_v71_1 : Ref sig .tc := ⟨.hbm, 96, rfl⟩
abbrev main_v71_2 : Ref sig .tc := ⟨.hbm, 97, rfl⟩
abbrev main_cst_19 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, arg1.toNat, c0_i32_5.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, arg1.toNat, c0_i32_5.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S1x4x8192x96 : Shape := ⟨4, ![1, 4, 8192, 96]⟩
abbrev S1x4x8192x128 : Shape := ⟨4, ![1, 4, 8192, 128]⟩
abbrev S1x8192x512 : Shape := ⟨3, ![1, 8192, 512]⟩
abbrev S_ : Shape := ⟨0, ![]⟩
abbrev S1x4x8192x8192 : Shape := ⟨4, ![1, 4, 8192, 8192]⟩
abbrev S1x4x8192 : Shape := ⟨3, ![1, 4, 8192]⟩
abbrev S1x4x8192x1 : Shape := ⟨4, ![1, 4, 8192, 1]⟩
abbrev S1x8192x4x128 : Shape := ⟨4, ![1, 8192, 4, 128]⟩
abbrev S1x4x128x8192 : Shape := ⟨4, ![1, 4, 128, 8192]⟩
abbrev S4x8192 : Shape := ⟨2, ![4, 8192]⟩

abbrev nBuf : Space → Nat
  | .hbm => 76
  | .vmem => 0
  | .smem => 0
  | _ => 0

abbrev bufTy : (tb : Table) → Fin (tcTables nBuf tb) → BufTy
  | .hbm, ⟨0, _⟩ => ⟨S1x4x8192x96, .f32⟩
  | .hbm, ⟨1, _⟩ => ⟨S1x4x8192x96, .f32⟩
  | .hbm, ⟨2, _⟩ => ⟨S1x4x8192x128, .f32⟩
  | .hbm, ⟨3, _⟩ => ⟨S1x8192x512, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1x4x8192x8192, .f32⟩
  | .hbm, ⟨9, _⟩ => ⟨S1x4x8192x8192, .f32⟩
  | .hbm, ⟨10, _⟩ => ⟨S1x4x8192x8192, .f32⟩
  | .hbm, ⟨11, _⟩ => ⟨S_, .f32⟩
  | .hbm, ⟨12, _⟩ => ⟨S1x4x8192, .f32⟩
  | .hbm, ⟨13, _⟩ => ⟨S1x4x8192x1, .f32⟩
  | .hbm, ⟨14, _⟩ => ⟨S1x4x8192x8192, .f32⟩
  | .hbm, ⟨15, _⟩ => ⟨S1x4x8192x8192, .i1⟩
  | .hbm, ⟨16, _⟩ => ⟨S1x4x8192x8192, .f32⟩
  | .hbm, ⟨17, _⟩ => ⟨S_, .f32⟩
  | .hbm, ⟨18, _⟩ => ⟨S1x4x8192, .f32⟩
  | .hbm, ⟨19, _⟩ => ⟨S_, .f32⟩
  | .hbm, ⟨20, _⟩ => ⟨S1x4x8192, .f32⟩
  | .hbm, ⟨21, _⟩ => ⟨S1x4x8192, .f32⟩
  | .hbm, ⟨22, _⟩ => ⟨S_, .f32⟩
  | .hbm, ⟨23, _⟩ => ⟨S1x4x8192, .f32⟩
  | .hbm, ⟨24, _⟩ => ⟨S1x4x8192, .i1⟩
  | .hbm, ⟨25, _⟩ => ⟨S_, .f32⟩
  | .hbm, ⟨26, _⟩ => ⟨S1x4x8192, .f32⟩
  | .hbm, ⟨27, _⟩ => ⟨S1x4x8192, .i1⟩
  | .hbm, ⟨28, _⟩ => ⟨S_, .f32⟩
  | .hbm, ⟨29, _⟩ => ⟨S1x4x8192, .f32⟩
  | .hbm, ⟨30, _⟩ => ⟨S_, .f32⟩
  | .hbm, ⟨31, _⟩ => ⟨S1x4x8192, .f32⟩
  | .hbm, ⟨32, _⟩ => ⟨S_, .f32⟩
  | .hbm, ⟨33, _⟩ => ⟨S1x4x8192, .f32⟩
  | .hbm, ⟨34, _⟩ => ⟨S1x4x8192, .f32⟩
  | .hbm, ⟨35, _⟩ => ⟨S1x4x8192, .f32⟩
  | .hbm, ⟨36, _⟩ => ⟨S1x4x8192x1, .f32⟩
  | .hbm, ⟨37, _⟩ => ⟨S1x4x8192x8192, .f32⟩
  | .hbm, ⟨38, _⟩ => ⟨S1x4x8192x8192, .f32⟩
  | .hbm, ⟨39, _⟩ => ⟨S1x4x8192x8192, .f32⟩
  | .hbm, ⟨40, _⟩ => ⟨S_, .f32⟩
  | .hbm, ⟨41, _⟩ => ⟨S1x4x8192, .f32⟩
  | .hbm, ⟨42, _⟩ => ⟨S1x4x8192x1, .f32⟩
  | .hbm, ⟨43, _⟩ => ⟨S1x4x8192x8192, .f32⟩
  | .hbm, ⟨44, _⟩ => ⟨S1x4x8192x8192, .f32⟩
  | .hbm, ⟨45, _⟩ => ⟨S1x4x8192x1, .f32⟩
  | .hbm, ⟨46, _⟩ => ⟨S_, .f32⟩
  | .hbm, ⟨47, _⟩ => ⟨S1x4x8192x1, .f32⟩
  | .hbm, ⟨48, _⟩ => ⟨S1x4x8192x1, .f32⟩
  | .hbm, ⟨49, _⟩ => ⟨S1x4x8192x128, .f32⟩
  | .hbm, ⟨50, _⟩ => ⟨S1x8192x4x128, .f32⟩
  | .hbm, ⟨51, _⟩ => ⟨S1x8192x512, .f32⟩
  | .hbm, ⟨52, _⟩ => ⟨S1x8192x4x128, .f32⟩
  | .hbm, ⟨53, _⟩ => ⟨S1x4x8192x128, .f32⟩
  | .hbm, ⟨54, _⟩ => ⟨S1x4x128x8192, .f32⟩
  | .hbm, ⟨55, _⟩ => ⟨S1x4x8192x128, .f32⟩
  | .hbm, ⟨56, _⟩ => ⟨S1x4x8192x8192, .f32⟩
  | .hbm, ⟨57, _⟩ => ⟨S1x4x8192x8192, .f32⟩
  | .hbm, ⟨58, _⟩ => ⟨S1x4x8192x8192, .f32⟩
  | .hbm, ⟨59, _⟩ => ⟨S1x4x8192x8192, .f32⟩
  | .hbm, ⟨60, _⟩ => ⟨S_, .f32⟩
  | .hbm, ⟨61, _⟩ => ⟨S1x4x8192, .f32⟩
  | .hbm, ⟨62, _⟩ => ⟨S1x4x8192x1, .f32⟩
  | .hbm, ⟨63, _⟩ => ⟨S1x4x8192x1, .f32⟩
  | .hbm, ⟨64, _⟩ => ⟨S1x4x8192x8192, .f32⟩
  | .hbm, ⟨65, _⟩ => ⟨S1x4x8192x8192, .f32⟩
  | .hbm, ⟨66, _⟩ => ⟨S_, .f32⟩
  | .hbm, ⟨67, _⟩ => ⟨S4x8192, .f32⟩
  | .hbm, ⟨68, _⟩ => ⟨S1x4x8192, .f32⟩
  | .hbm, ⟨69, _⟩ => ⟨S1x4x8192x8192, .f32⟩
  | .hbm, ⟨70, _⟩ => ⟨S1x4x8192x8192, .f32⟩
  | .hbm, ⟨71, _⟩ => ⟨S1x4x8192x8192, .f32⟩
  | .hbm, ⟨72, _⟩ => ⟨S1x4x8192x8192, .f32⟩
  | .hbm, ⟨73, _⟩ => ⟨S1x4x8192x8192, .f32⟩
  | .hbm, ⟨74, _⟩ => ⟨S1x4x8192x96, .f32⟩
  | .hbm, ⟨75, _⟩ => ⟨S1x4x8192x96, .f32⟩
  | _, _ => ⟨S1x4x8192x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_cst_7 : Ref sig .tc := ⟨.hbm, 30, rfl⟩
abbrev main_v18 : Ref sig .tc := ⟨.hbm, 31, rfl⟩
abbrev main_cst_8 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_9 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_10 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_11 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_12 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩

abbrev nD : Nat := 1
abbrev τ : Topo := Topo.v7x

variable {F : FTy → Type} [FloatOps F]
-- ==== KernelA.lean ====
abbrev S1x8x8192x64 : Shape := ⟨4, ![1, 8, 8192, 64]⟩
abbrev S1x2x8192x64 : Shape := ⟨4, ![1, 2, 8192, 64]⟩
abbrev S1x8192x512 : Shape := ⟨3, ![1, 8192, 512]⟩
abbrev S8x8192x64 : Shape := ⟨3, ![8, 8192, 64]⟩
abbrev S2x4x8192x64 : Shape := ⟨4, ![2, 4, 8192, 64]⟩
abbrev S2x8192x64 : Shape := ⟨3, ![2, 8192, 64]⟩
abbrev S2x4x8192x8192 : Shape := ⟨4, ![2, 4, 8192, 8192]⟩
abbrev S_ : Shape := ⟨0, ![]⟩
abbrev S2x4x8192 : Shape := ⟨3, ![2, 4, 8192]⟩
abbrev S2x4x8192x1 : Shape := ⟨4, ![2, 4, 8192, 1]⟩
abbrev S8192x8x64 : Shape := ⟨3, ![8192, 8, 64]⟩
abbrev S8x8192 : Shape := ⟨2, ![8, 8192]⟩
abbrev S8x8192x1x64 : Shape := ⟨4, ![8, 8192, 1, 64]⟩
abbrev S8x8192x1x0 : Shape := ⟨4, ![8, 8192, 1, 0]⟩
abbrev S8x8192x1x16 : Shape := ⟨4, ![8, 8192, 1, 16]⟩
abbrev S8x8192x1x32 : Shape := ⟨4, ![8, 8192, 1, 32]⟩
abbrev S8x8192x1x128 : Shape := ⟨4, ![8, 8192, 1, 128]⟩
abbrev S8x8192x128 : Shape := ⟨3, ![8, 8192, 128]⟩
abbrev S2x8192x1x64 : Shape := ⟨4, ![2, 8192, 1, 64]⟩
abbrev S2x8192x1x0 : Shape := ⟨4, ![2, 8192, 1, 0]⟩
abbrev S2x8192x1x16 : Shape := ⟨4, ![2, 8192, 1, 16]⟩
abbrev S2x8192x1x32 : Shape := ⟨4, ![2, 8192, 1, 32]⟩
abbrev S2x8192x1x128 : Shape := ⟨4, ![2, 8192, 1, 128]⟩
abbrev S2x8192x128 : Shape := ⟨3, ![2, 8192, 128]⟩
abbrev S8x8x1x1024 : Shape := ⟨4, ![8, 8, 1, 1024]⟩
abbrev S1x8192x128 : Shape := ⟨3, ![1, 8192, 128]⟩
abbrev S1x8x1x1024 : Shape := ⟨4, ![1, 8, 1, 1024]⟩
abbrev S1x1024x128 : Shape := ⟨3, ![1, 1024, 128]⟩
abbrev S2x512x1024 : Shape := ⟨3, ![2, 512, 1024]⟩
abbrev S8192x128 : Shape := ⟨2, ![8192, 128]⟩
abbrev S1x512x128 : Shape := ⟨3, ![1, 512, 128]⟩
abbrev S512x128 : Shape := ⟨2, ![512, 128]⟩
abbrev S1024x128 : Shape := ⟨2, ![1024, 128]⟩
abbrev S512x1024 : Shape := ⟨2, ![512, 1024]⟩
abbrev S1x512x1024 : Shape := ⟨3, ![1, 512, 1024]⟩
abbrev S1x1x1x1024 : Shape := ⟨4, ![1, 1, 1, 1024]⟩
abbrev S1x1024 : Shape := ⟨2, ![1, 1024]⟩
abbrev S8x8192x16 : Shape := ⟨3, ![8, 8192, 16]⟩
abbrev S2x4x8192x128 : Shape := ⟨4, ![2, 4, 8192, 128]⟩
abbrev S2x8192x16 : Shape := ⟨3, ![2, 8192, 16]⟩

abbrev nBuf : Space → Nat
  | .hbm => 136
  | .vmem => 22
  | .smem => 0
  | _ => 0

abbrev hbmTy0_0 (i : Nat) : BufTy := match i % 128 with
  | 0 => ⟨S1x8x8192x64, .f32⟩
  | 1 => ⟨S1x2x8192x64, .f32⟩
  | 2 => ⟨S1x2x8192x64, .f32⟩
  | 3 => ⟨S1x8192x512, .f32⟩
  | 4 => ⟨S8x8192x64, .f32⟩
  | 5 => ⟨S2x4x8192x64, .f32⟩
  | 6 => ⟨S2x8192x64, .f32⟩
  | 7 => ⟨S2x4x8192x8192, .f32⟩
  | 8 => ⟨S_, .f32⟩
  | 9 => ⟨S2x4x8192x8192, .f32⟩
  | 10 => ⟨S2x4x8192x8192, .f32⟩
  | 11 => ⟨S_, .f32⟩
  | 12 => ⟨S2x4x8192, .f32⟩
  | 13 => ⟨S2x4x8192x1, .f32⟩
  | 14 => ⟨S2x4x8192x8192, .f32⟩
  | 15 => ⟨S2x4x8192x8192, .f32⟩
  | 16 => ⟨S2x4x8192x8192, .f32⟩
  | 17 => ⟨S_, .f32⟩
  | 18 => ⟨S2x4x8192, .f32⟩
  | 19 => ⟨S2x4x8192x1, .f32⟩
  | 20 => ⟨S2x4x8192x8192, .f32⟩
  | 21 => ⟨S2x4x8192x8192, .f32⟩
  | 22 => ⟨S2x8192x64, .f32⟩
  | 23 => ⟨S2x4x8192x64, .f32⟩
  | 24 => ⟨S8x8192x64, .f32⟩
  | 25 => ⟨S_, .f32⟩
  | 26 => ⟨S_, .f32⟩
  | 27 => ⟨S2x4x8192x1, .f32⟩
  | 28 => ⟨S2x4x8192x1, .f32⟩
  | 29 => ⟨S2x4x8192x1, .f32⟩
  | 30 => ⟨S2x4x8192x1, .f32⟩
  | 31 => ⟨S8192x8x64, .f32⟩
  | 32 => ⟨S8x8192x64, .f32⟩
  | 33 => ⟨S8x8192x64, .f32⟩
  | 34 => ⟨S_, .f32⟩
  | 35 => ⟨S8x8192, .f32⟩
  | 36 => ⟨S8x8192x64, .f32⟩
  | 37 => ⟨S8x8192x1x64, .f32⟩
  | 38 => ⟨S_, .f32⟩
  | 39 => ⟨S8x8192x1x0, .f32⟩
  | 40 => ⟨S8x8192x1x16, .f32⟩
  | 41 => ⟨S_, .f32⟩
  | 42 => ⟨S8x8192x1x0, .f32⟩
  | 43 => ⟨S8x8192x1x16, .f32⟩
  | 44 => ⟨S_, .f32⟩
  | 45 => ⟨S8x8192x1x32, .f32⟩
  | 46 => ⟨S8x8192x1x16, .f32⟩
  | 47 => ⟨S_, .f32⟩
  | 48 => ⟨S8x8192x1x0, .f32⟩
  | 49 => ⟨S8x8192x1x16, .f32⟩
  | 50 => ⟨S_, .f32⟩
  | 51 => ⟨S8x8192x1x32, .f32⟩
  | 52 => ⟨S8x8192x1x128, .f32⟩
  | 53 => ⟨S8x8192x128, .f32⟩
  | 54 => ⟨S_, .f32⟩
  | 55 => ⟨S8x8192x128, .f32⟩
  | 56 => ⟨S8x8192x128, .f32⟩
  | 57 => ⟨S8x8192x128, .f32⟩
  | 58 => ⟨S8x8192x128, .f32⟩
  | 59 => ⟨S8x8192x128, .bf16⟩
  | 60 => ⟨S2x8192x64, .f32⟩
  | 61 => ⟨S2x8192x1x64, .f32⟩
  | 62 => ⟨S_, .f32⟩
  | 63 => ⟨S2x8192x1x0, .f32⟩
  | 64 => ⟨S2x8192x1x16, .f32⟩
  | 65 => ⟨S_, .f32⟩
  | 66 => ⟨S2x8192x1x0, .f32⟩
  | 67 => ⟨S2x8192x1x16, .f32⟩
  | 68 => ⟨S_, .f32⟩
  | 69 => ⟨S2x8192x1x32, .f32⟩
  | 70 => ⟨S2x8192x1x16, .f32⟩
  | 71 => ⟨S_, .f32⟩
  | 72 => ⟨S2x8192x1x0, .f32⟩
  | 73 => ⟨S2x8192x1x16, .f32⟩
  | 74 => ⟨S_, .f32⟩
  | 75 => ⟨S2x8192x1x32, .f32⟩
  | 76 => ⟨S2x8192x1x128, .f32⟩
  | 77 => ⟨S2x8192x128, .f32⟩
  | 78 => ⟨S2x8192x128, .bf16⟩
  | 79 => ⟨S2x8192x64, .f32⟩
  | 80 => ⟨S2x8192x1x64, .f32⟩
  | 81 => ⟨S_, .f32⟩
  | 82 => ⟨S2x8192x1x0, .f32⟩
  | 83 => ⟨S2x8192x1x64, .f32⟩
  | 84 => ⟨S_, .f32⟩
  | 85 => ⟨S2x8192x1x64, .f32⟩
  | 86 => ⟨S2x8192x1x128, .f32⟩
  | 87 => ⟨S2x8192x128, .f32⟩
  | 88 => ⟨S2x8192x128, .i32⟩
  | 89 => ⟨S_, .i32⟩
  | 90 => ⟨S2x8192x128, .i32⟩
  | 91 => ⟨S2x8192x128, .i1⟩
  | 92 => ⟨S_, .f32⟩
  | 93 => ⟨S_, .f32⟩
  | 94 => ⟨S2x8192x128, .f32⟩
  | 95 => ⟨S2x8192x128, .f32⟩
  | 96 => ⟨S2x8192x128, .bf16⟩
  | 97 => ⟨S8x8192x1x64, .f32⟩
  | 98 => ⟨S_, .f32⟩
  | 99 => ⟨S8x8192x1x0, .f32⟩
  | 100 => ⟨S8x8192x1x64, .f32⟩
  | 101 => ⟨S_, .f32⟩
  | 102 => ⟨S8x8192x1x64, .f32⟩
  | 103 => ⟨S8x8192x1x128, .f32⟩
  | 104 => ⟨S8x8192x128, .f32⟩
  | 105 => ⟨S8x8192x128, .bf16⟩
  | 106 => ⟨S8x8x1x1024, .f32⟩
  | 107 => ⟨S8x8x1x1024, .f32⟩
  | 108 => ⟨S8x8192x128, .f32⟩
  | 109 => ⟨S8x8192x128, .f32⟩
  | 110 => ⟨S8x8192x128, .f32⟩
  | 111 => ⟨S_, .f32⟩
  | 112 => ⟨S8x8192x128, .f32⟩
  | 113 => ⟨S8x8192x128, .f32⟩
  | 114 => ⟨S8x8192x16, .f32⟩
  | 115 => ⟨S8x8192x16, .f32⟩
  | 116 => ⟨S8x8192x16, .f32⟩
  | 117 => ⟨S8x8192x16, .f32⟩
  | 118 => ⟨S8x8192x64, .f32⟩
  | 119 => ⟨S1x8x8192x64, .f32⟩
  | 120 => ⟨S2x4x8192x128, .f32⟩
  | 121 => ⟨S_, .f32⟩
  | 122 => ⟨S2x8192x128, .f32⟩
  | 123 => ⟨S2x8192x128, .f32⟩
  | 124 => ⟨S2x8192x128, .f32⟩
  | 125 => ⟨S2x8192x16, .f32⟩
  | 126 => ⟨S2x8192x16, .f32⟩
  | 127 => ⟨S2x8192x16, .f32⟩
  | _ => ⟨S1x8x8192x64, .f32⟩

abbrev hbmTy0_1 (i : Nat) : BufTy := match i % 128 with
  | 0 => ⟨S2x8192x16, .f32⟩
  | 1 => ⟨S2x8192x64, .f32⟩
  | 2 => ⟨S1x2x8192x64, .f32⟩
  | 3 => ⟨S2x4x8192x128, .f32⟩
  | 4 => ⟨S_, .f32⟩
  | 5 => ⟨S2x8192x128, .f32⟩
  | 6 => ⟨S2x8192x64, .f32⟩
  | 7 => ⟨S1x2x8192x64, .f32⟩
  | _ => ⟨S1x8x8192x64, .f32⟩

abbrev hbmTy (i : Nat) : BufTy := match i / 128 with
  | 0 => hbmTy0_0 i
  | 1 => hbmTy0_1 i
  | _ => ⟨S1x8x8192x64, .f32⟩

abbrev bufTy : (tb : Table) → Fin (tcTables nBuf tb) → BufTy
  | .hbm, ⟨i, _⟩ => hbmTy i
  | .local _ .vmem, ⟨0, _⟩ => ⟨S1x8192x128, .bf16⟩
  | .local _ .vmem, ⟨1, _⟩ => ⟨S1x8192x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8x1x1024, .f32⟩
  | .local _ .vmem, ⟨5, _⟩ => ⟨S1x8x1x1024, .f32⟩
  | .local _ .vmem, ⟨6, _⟩ => ⟨S1x8x1x1024, .f32⟩
  | .local _ .vmem, ⟨7, _⟩ => ⟨S1x8x1x1024, .f32⟩
  | .local _ .vmem, ⟨8, _⟩ => ⟨S1x1024x128, .bf16⟩
  | .local _ .vmem, ⟨9, _⟩ => ⟨S1x1024x128, .bf16⟩
  | .local _ .vmem, ⟨10, _⟩ => ⟨S1x1024x128, .bf16⟩
  | .local _ .vmem, ⟨11, _⟩ => ⟨S1x1024x128, .bf16⟩
  | .local _ .vmem, ⟨12, _⟩ => ⟨S1x8192x128, .f32⟩
  | .local _ .vmem, ⟨13, _⟩ => ⟨S1x8192x128, .f32⟩
  | .local _ .vmem, ⟨14, _⟩ => ⟨S1x1024x128, .f32⟩
  | .local _ .vmem, ⟨15, _⟩ => ⟨S1x1024x128, .f32⟩
  | .local _ .vmem, ⟨16, _⟩ => ⟨S1x1024x128, .f32⟩
  | .local _ .vmem, ⟨17, _⟩ => ⟨S1x1024x128, .f32⟩
  | .local _ .vmem, ⟨18, _⟩ => ⟨S2x512x1024, .f32⟩
  | .local _ .vmem, ⟨19, _⟩ => ⟨S2x512x1024, .f32⟩
  | .local _ .vmem, ⟨20, _⟩ => ⟨S2x512x1024, .bf16⟩
  | .local _ .vmem, ⟨21, _⟩ => ⟨S2x512x1024, .bf16⟩
  | _, _ => ⟨S1x8x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_cst_8 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_9 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_10 : Ref sig .tc := ⟨.hbm, 62, rfl⟩
abbrev main_v47 : Ref sig .tc := ⟨.hbm, 63, rfl⟩
abbrev main_v48 : Ref sig .tc := ⟨.hbm, 64, rfl⟩
abbrev main_cst_11 : Ref sig .tc := ⟨.hbm, 65, rfl⟩
abbrev main_v49 : Ref sig .tc := ⟨.hbm, 66, rfl⟩
abbrev main_v50 : Ref sig .tc := ⟨.hbm, 67, rfl⟩
abbrev main_cst_12 : Ref sig .tc := ⟨.hbm, 68, rfl⟩
abbrev main_v51 : Ref sig .tc := ⟨.hbm, 69, rfl⟩
abbrev main_v52 : Ref sig .tc := ⟨.hbm, 70, rfl⟩
abbrev main_cst_13 : Ref sig .tc := ⟨.hbm, 71, rfl⟩
abbrev main_v53 : Ref sig .tc := ⟨.hbm, 72, rfl⟩
abbrev main_v54 : Ref sig .tc := ⟨.hbm, 73, rfl⟩
abbrev main_cst_14 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_15 : Ref sig .tc := ⟨.hbm, 81, rfl⟩
abbrev main_v61 : Ref sig .tc := ⟨.hbm, 82, rfl⟩
abbrev main_v62 : Ref sig .tc := ⟨.hbm, 83, rfl⟩
abbrev main_cst_16 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_c : Ref sig .tc := ⟨.hbm, 89, rfl⟩
abbrev main_v67 : Ref sig .tc := ⟨.hbm, 90, rfl⟩
abbrev main_v68 : Ref sig .tc := ⟨.hbm, 91, rfl⟩
abbrev main_cst_17 : Ref sig .tc := ⟨.hbm, 92, rfl⟩
abbrev main_call0_v0 : Ref sig .tc := ⟨.hbm, 93, rfl⟩
abbrev main_call0_v1 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_18 : Ref sig .tc := ⟨.hbm, 98, rfl⟩
abbrev main_v72 : Ref sig .tc := ⟨.hbm, 99, rfl⟩
abbrev main_v73 : Ref sig .tc := ⟨.hbm, 100, rfl⟩
abbrev main_cst_19 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80_0 : Ref sig .tc := ⟨.hbm, 108, rfl⟩
abbrev main_v80_1 : Ref sig .tc := ⟨.hbm, 109, rfl⟩
abbrev main_v80_2 : Ref sig .tc := ⟨.hbm, 110, rfl⟩
abbrev main_cst_20 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_21 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_cst_22 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, arg1.toNat, c0_i32_4.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, arg1.toNat, c0_i32_4.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceAIdeal.lean ====
abbrev S1x8x8192x64 : Shape := ⟨4, ![1, 8, 8192, 64]⟩
abbrev S1x2x8192x64 : Shape := ⟨4, ![1, 2, 8192, 64]⟩
abbrev S1x8192x512 : Shape := ⟨3, ![1, 8192, 512]⟩
abbrev S1x2x4x8192x64 : Shape := ⟨5, ![1, 2, 4, 8192, 64]⟩
abbrev S1x2x4x8192x8192 : Shape := ⟨5, ![1, 2, 4, 8192, 8192]⟩
abbrev S_ : Shape := ⟨0, ![]⟩
abbrev S1x2x4x8192 : Shape := ⟨4, ![1, 2, 4, 8192]⟩
abbrev S1x2x4x8192x1 : Shape := ⟨5, ![1, 2, 4, 8192, 1]⟩
abbrev S1x8192x2x4x64 : Shape := ⟨5, ![1, 8192, 2, 4, 64]⟩
abbrev S1x2x64x8192 : Shape := ⟨4, ![1, 2, 64, 8192]⟩
abbrev S2x4x8192 : Shape := ⟨3, ![2, 4, 8192]⟩

abbrev nBuf : Space → Nat
  | .hbm => 76
  | .vmem => 0
  | .smem => 0
  | _ => 0

abbrev bufTy : (tb : Table) → Fin (tcTables nBuf tb) → BufTy
  | .hbm, ⟨0, _⟩ => ⟨S1x8x8192x64, .f32⟩
  | .hbm, ⟨1, _⟩ => ⟨S1x2x8192x64, .f32⟩
  | .hbm, ⟨2, _⟩ => ⟨S1x2x8192x64, .f32⟩
  | .hbm, ⟨3, _⟩ => ⟨S1x8192x512, .f32⟩
  | .hbm, ⟨4, _⟩ => ⟨S1x2x4x8192x64, .f32⟩
  | .hbm, ⟨5, _⟩ => ⟨S1x2x4x8192x8192, .f32⟩
  | .hbm, ⟨6, _⟩ => ⟨S_, .f32⟩
  | .hbm, ⟨7, _⟩ => ⟨S1x2x4x8192x8192, .f32⟩
  | .hbm, ⟨8, _⟩ => ⟨S1x2x4x8192x8192, .f32⟩
  | .hbm, ⟨9, _⟩ => ⟨S_, .f32⟩
  | .hbm, ⟨10, _⟩ => ⟨S1x2x4x8192, .f32⟩
  | .hbm, ⟨11, _⟩ => ⟨S1x2x4x8192x1, .f32⟩
  | .hbm, ⟨12, _⟩ => ⟨S1x2x4x8192x8192, .f32⟩
  | .hbm, ⟨13, _⟩ => ⟨S1x2x4x8192x8192, .i1⟩
  | .hbm, ⟨14, _⟩ => ⟨S1x2x4x8192x8192, .f32⟩
  | .hbm, ⟨15, _⟩ => ⟨S_, .f32⟩
  | .hbm, ⟨16, _⟩ => ⟨S1x2x4x8192, .f32⟩
  | .hbm, ⟨17, _⟩ => ⟨S_, .f32⟩
  | .hbm, ⟨18, _⟩ => ⟨S1x2x4x8192, .f32⟩
  | .hbm, ⟨19, _⟩ => ⟨S1x2x4x8192, .f32⟩
  | .hbm, ⟨20, _⟩ => ⟨S_, .f32⟩
  | .hbm, ⟨21, _⟩ => ⟨S1x2x4x8192, .f32⟩
  | .hbm, ⟨22, _⟩ => ⟨S1x2x4x8192, .i1⟩
  | .hbm, ⟨23, _⟩ => ⟨S_, .f32⟩
  | .hbm, ⟨24, _⟩ => ⟨S1x2x4x8192, .f32⟩
  | .hbm, ⟨25, _⟩ => ⟨S1x2x4x8192, .i1⟩
  | .hbm, ⟨26, _⟩ => ⟨S_, .f32⟩
  | .hbm, ⟨27, _⟩ => ⟨S1x2x4x8192, .f32⟩
  | .hbm, ⟨28, _⟩ => ⟨S_, .f32⟩
  | .hbm, ⟨29, _⟩ => ⟨S1x2x4x8192, .f32⟩
  | .hbm, ⟨30, _⟩ => ⟨S_, .f32⟩
  | .hbm, ⟨31, _⟩ => ⟨S1x2x4x8192, .f32⟩
  | .hbm, ⟨32, _⟩ => ⟨S1x2x4x8192, .f32⟩
  | .hbm, ⟨33, _⟩ => ⟨S1x2x4x8192, .f32⟩
  | .hbm, ⟨34, _⟩ => ⟨S1x2x4x8192x1, .f32⟩
  | .hbm, ⟨35, _⟩ => ⟨S1x2x4x8192x8192, .f32⟩
  | .hbm, ⟨36, _⟩ => ⟨S1x2x4x8192x8192, .f32⟩
  | .hbm, ⟨37, _⟩ => ⟨S1x2x4x8192x8192, .f32⟩
  | .hbm, ⟨38, _⟩ => ⟨S_, .f32⟩
  | .hbm, ⟨39, _⟩ => ⟨S1x2x4x8192, .f32⟩
  | .hbm, ⟨40, _⟩ => ⟨S1x2x4x8192x1, .f32⟩
  | .hbm, ⟨41, _⟩ => ⟨S1x2x4x8192x8192, .f32⟩
  | .hbm, ⟨42, _⟩ => ⟨S1x2x4x8192x8192, .f32⟩
  | .hbm, ⟨43, _⟩ => ⟨S1x2x4x8192x1, .f32⟩
  | .hbm, ⟨44, _⟩ => ⟨S_, .f32⟩
  | .hbm, ⟨45, _⟩ => ⟨S1x2x4x8192x1, .f32⟩
  | .hbm, ⟨46, _⟩ => ⟨S1x2x4x8192x1, .f32⟩
  | .hbm, ⟨47, _⟩ => ⟨S1x2x4x8192x64, .f32⟩
  | .hbm, ⟨48, _⟩ => ⟨S1x8192x2x4x64, .f32⟩
  | .hbm, ⟨49, _⟩ => ⟨S1x8192x512, .f32⟩
  | .hbm, ⟨50, _⟩ => ⟨S1x8192x2x4x64, .f32⟩
  | .hbm, ⟨51, _⟩ => ⟨S1x2x4x8192x64, .f32⟩
  | .hbm, ⟨52, _⟩ => ⟨S1x2x64x8192, .f32⟩
  | .hbm, ⟨53, _⟩ => ⟨S1x2x8192x64, .f32⟩
  | .hbm, ⟨54, _⟩ => ⟨S1x2x4x8192x8192, .f32⟩
  | .hbm, ⟨55, _⟩ => ⟨S1x2x4x8192x8192, .f32⟩
  | .hbm, ⟨56, _⟩ => ⟨S1x2x4x8192x8192, .f32⟩
  | .hbm, ⟨57, _⟩ => ⟨S1x2x4x8192x8192, .f32⟩
  | .hbm, ⟨58, _⟩ => ⟨S_, .f32⟩
  | .hbm, ⟨59, _⟩ => ⟨S1x2x4x8192, .f32⟩
  | .hbm, ⟨60, _⟩ => ⟨S1x2x4x8192x1, .f32⟩
  | .hbm, ⟨61, _⟩ => ⟨S1x2x4x8192x1, .f32⟩
  | .hbm, ⟨62, _⟩ => ⟨S1x2x4x8192x8192, .f32⟩
  | .hbm, ⟨63, _⟩ => ⟨S1x2x4x8192x8192, .f32⟩
  | .hbm, ⟨64, _⟩ => ⟨S_, .f32⟩
  | .hbm, ⟨65, _⟩ => ⟨S2x4x8192, .f32⟩
  | .hbm, ⟨66, _⟩ => ⟨S1x2x4x8192, .f32⟩
  | .hbm, ⟨67, _⟩ => ⟨S1x2x4x8192x8192, .f32⟩
  | .hbm, ⟨68, _⟩ => ⟨S1x2x4x8192x8192, .f32⟩
  | .hbm, ⟨69, _⟩ => ⟨S1x2x4x8192x8192, .f32⟩
  | .hbm, ⟨70, _⟩ => ⟨S_, .f32⟩
  | .hbm, ⟨71, _⟩ => ⟨S1x2x4x8192x8192, .f32⟩
  | .hbm, ⟨72, _⟩ => ⟨S1x2x4x8192x8192, .f32⟩
  | .hbm, ⟨73, _⟩ => ⟨S1x2x8192x64, .f32⟩
  | .hbm, ⟨74, _⟩ => ⟨S1x2x4x8192x64, .f32⟩
  | .hbm, ⟨75, _⟩ => ⟨S1x8x8192x64, .f32⟩
  | _, _ => ⟨S1x8x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_cst_7 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_9 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_10 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_11 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_12 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩

abbrev nD : Nat := 1
abbrev τ : Topo := Topo.v7x

variable {F : FTy → Type} [FloatOps F]
-- ==== KernelM.lean ====
abbrev S1x8192x1024 : Shape := ⟨3, ![1, 8192, 1024]⟩
abbrev S1x8192x512 : Shape := ⟨3, ![1, 8192, 512]⟩
abbrev S1x1024x1024 : Shape := ⟨3, ![1, 1024, 1024]⟩
abbrev S8192x512 : Shape := ⟨2, ![8192, 512]⟩
abbrev S8192x8x64 : Shape := ⟨3, ![8192, 8, 64]⟩
abbrev S8x8192x64 : Shape := ⟨3, ![8, 8192, 64]⟩
abbrev S_ : Shape := ⟨0, ![]⟩
abbrev S8x8192x128 : Shape := ⟨3, ![8, 8192, 128]⟩
abbrev S8192x4x128 : Shape := ⟨3, ![8192, 4, 128]⟩
abbrev S4x8192x128 : Shape := ⟨3, ![4, 8192, 128]⟩
abbrev S8192x1024 : Shape := ⟨2, ![8192, 1024]⟩
abbrev S1024x1024 : Shape := ⟨2, ![1024, 1024]⟩
abbrev S1024x8192 : Shape := ⟨2, ![1024, 8192]⟩
abbrev S16x8192 : Shape := ⟨2, ![16, 8192]⟩
abbrev S8x128 : Shape := ⟨2, ![8, 128]⟩
abbrev S512x1024 : Shape := ⟨2, ![512, 1024]⟩
abbrev S8x512x128 : Shape := ⟨3, ![8, 512, 128]⟩
abbrev S4x512x128 : Shape := ⟨3, ![4, 512, 128]⟩
abbrev S1024x512 : Shape := ⟨2, ![1024, 512]⟩
abbrev S16x512 : Shape := ⟨2, ![16, 512]⟩
abbrev S512x1536 : Shape := ⟨2, ![512, 1536]⟩
abbrev S512x128 : Shape := ⟨2, ![512, 128]⟩
abbrev S1x512x128 : Shape := ⟨3, ![1, 512, 128]⟩
abbrev S128x512 : Shape := ⟨2, ![128, 512]⟩
abbrev S512 : Shape := ⟨1, ![512]⟩
abbrev S512x1 : Shape := ⟨2, ![512, 1]⟩
abbrev S1 : Shape := ⟨1, ![1]⟩
abbrev S1x1 : Shape := ⟨2, ![1, 1]⟩
abbrev S8x8192 : Shape := ⟨2, ![8, 8192]⟩
abbrev S4x8192 : Shape := ⟨2, ![4, 8192]⟩

abbrev nBuf : Space → Nat
  | .hbm => 48
  | .vmem => 27
  | .smem => 0
  | _ => 0

abbrev bufTy : (tb : Table) → Fin (tcTables nBuf tb) → BufTy
  | .hbm, ⟨0, _⟩ => ⟨S1x8192x1024, .f32⟩
  | .hbm, ⟨1, _⟩ => ⟨S1x8192x512, .f32⟩
  | .hbm, ⟨2, _⟩ => ⟨S1x8192x512, .f32⟩
  | .hbm, ⟨3, _⟩ => ⟨S1x8192x512, .f32⟩
  | .hbm, ⟨4, _⟩ => ⟨S1x8192x512, .f32⟩
  | .hbm, ⟨5, _⟩ => ⟨S1x1024x1024, .f32⟩
  | .hbm, ⟨6, _⟩ => ⟨S1x8192x1024, .f32⟩
  | .hbm, ⟨7, _⟩ => ⟨S8192x512, .f32⟩
  | .hbm, ⟨8, _⟩ => ⟨S8192x8x64, .f32⟩
  | .hbm, ⟨9, _⟩ => ⟨S8x8192x64, .f32⟩
  | .hbm, ⟨10, _⟩ => ⟨S_, .i32⟩
  | .hbm, ⟨11, _⟩ => ⟨S_, .f32⟩
  | .hbm, ⟨12, _⟩ => ⟨S8x8192x128, .f32⟩
  | .hbm, ⟨13, _⟩ => ⟨S8192x512, .f32⟩
  | .hbm, ⟨14, _⟩ => ⟨S8192x4x128, .f32⟩
  | .hbm, ⟨15, _⟩ => ⟨S4x8192x128, .f32⟩
  | .hbm, ⟨16, _⟩ => ⟨S8192x512, .f32⟩
  | .hbm, ⟨17, _⟩ => ⟨S8192x512, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S1024x1024, .f32⟩
  | .hbm, ⟨22, _⟩ => ⟨S1024x1024, .bf16⟩
  | .hbm, ⟨23, _⟩ => ⟨S1024x8192, .bf16⟩
  | .hbm, ⟨24, _⟩ => ⟨S8192x1024, .f32⟩
  | .hbm, ⟨25, _⟩ => ⟨S8192x1024, .bf16⟩
  | .hbm, ⟨26, _⟩ => ⟨S8x8192x128, .bf16⟩
  | .hbm, ⟨27, _⟩ => ⟨S4x8192x128, .bf16⟩
  | .hbm, ⟨28, _⟩ => ⟨S16x8192, .f32⟩
  | .hbm, ⟨29, _⟩ => ⟨S8x128, .f32⟩
  | .hbm, ⟨30, _⟩ => ⟨S8192x1024, .f32⟩
  | .hbm, ⟨31, _⟩ => ⟨S1x1, .f32⟩
  | .hbm, ⟨32, _⟩ => ⟨S_, .f32⟩
  | .hbm, ⟨33, _⟩ => ⟨S1x8192x1024, .f32⟩
  | .hbm, ⟨34, _⟩ => ⟨S8x8192x64, .bf16⟩
  | .hbm, ⟨35, _⟩ => ⟨S8x8192x64, .f32⟩
  | .hbm, ⟨36, _⟩ => ⟨S8192x8x64, .f32⟩
  | .hbm, ⟨37, _⟩ => ⟨S1x8192x512, .f32⟩
  | .hbm, ⟨38, _⟩ => ⟨S4x8192x128, .f32⟩
  | .hbm, ⟨39, _⟩ => ⟨S8192x4x128, .f32⟩
  | .hbm, ⟨40, _⟩ => ⟨S1x8192x512, .f32⟩
  | .hbm, ⟨41, _⟩ => ⟨S8192x512, .f32⟩
  | .hbm, ⟨42, _⟩ => ⟨S1x8192x512, .f32⟩
  | .hbm, ⟨43, _⟩ => ⟨S8192x512, .f32⟩
  | .hbm, ⟨44, _⟩ => ⟨S1x8192x512, .f32⟩
  | .hbm, ⟨45, _⟩ => ⟨S1024x8192, .f32⟩
  | .hbm, ⟨46, _⟩ => ⟨S8x8192, .f32⟩
  | .hbm, ⟨47, _⟩ => ⟨S4x8192, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x512x128, .f32⟩
  | .local _ .vmem, ⟨5, _⟩ => ⟨S8x512x128, .f32⟩
  | .local _ .vmem, ⟨6, _⟩ => ⟨S4x512x128, .f32⟩
  | .local _ .vmem, ⟨7, _⟩ => ⟨S4x512x128, .f32⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S1024x512, .bf16⟩
  | .local _ .vmem, ⟨12, _⟩ => ⟨S1024x512, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S8x512x128, .bf16⟩
  | .local _ .vmem, ⟨18, _⟩ => ⟨S8x512x128, .bf16⟩
  | .local _ .vmem, ⟨19, _⟩ => ⟨S4x512x128, .bf16⟩
  | .local _ .vmem, ⟨20, _⟩ => ⟨S4x512x128, .bf16⟩
  | .local _ .vmem, ⟨21, _⟩ => ⟨S16x512, .f32⟩
  | .local _ .vmem, ⟨22, _⟩ => ⟨S16x512, .f32⟩
  | .local _ .vmem, ⟨23, _⟩ => ⟨S8x128, .f32⟩
  | .local _ .vmem, ⟨24, _⟩ => ⟨S512x1536, .f32⟩
  | .local _ .vmem, ⟨25, _⟩ => ⟨S512x1536, .f32⟩
  | .local _ .vmem, ⟨26, _⟩ => ⟨S512x1024, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev main_v14_3 : Ref sig .tc := ⟨.hbm, 26, rfl⟩
abbrev main_v14_4 : Ref sig .tc := ⟨.hbm, 27, rfl⟩
abbrev main_v14_5 : Ref sig .tc := ⟨.hbm, 28, rfl⟩
abbrev main_v14_6 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceMIdeal.lean ====
abbrev S1x8192x1024 : Shape := ⟨3, ![1, 8192, 1024]⟩
abbrev S1x8192x512 : Shape := ⟨3, ![1, 8192, 512]⟩
abbrev S1x1024x1024 : Shape := ⟨3, ![1, 1024, 1024]⟩
abbrev S_ : Shape := ⟨0, ![]⟩
abbrev S1024x1024 : Shape := ⟨2, ![1024, 1024]⟩
abbrev S1x8192 : Shape := ⟨2, ![1, 8192]⟩
abbrev S8192x1024 : Shape := ⟨2, ![8192, 1024]⟩
abbrev S1024x8192 : Shape := ⟨2, ![1024, 8192]⟩
abbrev S8192x8x64 : Shape := ⟨3, ![8192, 8, 64]⟩
abbrev S8192x8 : Shape := ⟨2, ![8192, 8]⟩
abbrev S8x8192 : Shape := ⟨2, ![8, 8192]⟩
abbrev S8192x4x128 : Shape := ⟨3, ![8192, 4, 128]⟩
abbrev S8192x4 : Shape := ⟨2, ![8192, 4]⟩
abbrev S4x8192 : Shape := ⟨2, ![4, 8192]⟩

abbrev nBuf : Space → Nat
  | .hbm => 110
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x512, .f32⟩
  | .hbm, ⟨2, _⟩ => ⟨S1x8192x512, .f32⟩
  | .hbm, ⟨3, _⟩ => ⟨S1x8192x512, .f32⟩
  | .hbm, ⟨4, _⟩ => ⟨S1x8192x512, .f32⟩
  | .hbm, ⟨5, _⟩ => ⟨S1x1024x1024, .f32⟩
  | .hbm, ⟨6, _⟩ => ⟨S1x8192x1024, .f32⟩
  | .hbm, ⟨7, _⟩ => ⟨S1x8192x512, .f32⟩
  | .hbm, ⟨8, _⟩ => ⟨S1x8192x512, .f32⟩
  | .hbm, ⟨9, _⟩ => ⟨S_, .f32⟩
  | .hbm, ⟨10, _⟩ => ⟨S1x8192x512, .f32⟩
  | .hbm, ⟨11, _⟩ => ⟨S1x8192x512, .f32⟩
  | .hbm, ⟨12, _⟩ => ⟨S_, .f32⟩
  | .hbm, ⟨13, _⟩ => ⟨S1x8192x512, .f32⟩
  | .hbm, ⟨14, _⟩ => ⟨S1x8192x512, .f32⟩
  | .hbm, ⟨15, _⟩ => ⟨S_, .f32⟩
  | .hbm, ⟨16, _⟩ => ⟨S1x8192x512, .f32⟩
  | .hbm, ⟨17, _⟩ => ⟨S1x8192x512, .f32⟩
  | .hbm, ⟨18, _⟩ => ⟨S1x8192x512, .f32⟩
  | .hbm, ⟨19, _⟩ => ⟨S1x8192x512, .f32⟩
  | .hbm, ⟨20, _⟩ => ⟨S1x8192x512, .f32⟩
  | .hbm, ⟨21, _⟩ => ⟨S1x8192x512, .f32⟩
  | .hbm, ⟨22, _⟩ => ⟨S1x8192x512, .f32⟩
  | .hbm, ⟨23, _⟩ => ⟨S_, .f32⟩
  | .hbm, ⟨24, _⟩ => ⟨S1x8192x512, .f32⟩
  | .hbm, ⟨25, _⟩ => ⟨S1x8192x512, .f32⟩
  | .hbm, ⟨26, _⟩ => ⟨S_, .f32⟩
  | .hbm, ⟨27, _⟩ => ⟨S1x8192x512, .f32⟩
  | .hbm, ⟨28, _⟩ => ⟨S1x8192x512, .f32⟩
  | .hbm, ⟨29, _⟩ => ⟨S_, .f32⟩
  | .hbm, ⟨30, _⟩ => ⟨S1x8192x512, .f32⟩
  | .hbm, ⟨31, _⟩ => ⟨S1x8192x512, .f32⟩
  | .hbm, ⟨32, _⟩ => ⟨S1x8192x512, .f32⟩
  | .hbm, ⟨33, _⟩ => ⟨S1x8192x512, .f32⟩
  | .hbm, ⟨34, _⟩ => ⟨S1x8192x512, .f32⟩
  | .hbm, ⟨35, _⟩ => ⟨S1x8192x1024, .f32⟩
  | .hbm, ⟨36, _⟩ => ⟨S1024x1024, .f32⟩
  | .hbm, ⟨37, _⟩ => ⟨S1x8192x1024, .f32⟩
  | .hbm, ⟨38, _⟩ => ⟨S1x8192x1024, .f32⟩
  | .hbm, ⟨39, _⟩ => ⟨S1x8192x1024, .f32⟩
  | .hbm, ⟨40, _⟩ => ⟨S1x8192x1024, .f32⟩
  | .hbm, ⟨41, _⟩ => ⟨S_, .f32⟩
  | .hbm, ⟨42, _⟩ => ⟨S1x8192x1024, .f32⟩
  | .hbm, ⟨43, _⟩ => ⟨S1x8192x1024, .f32⟩
  | .hbm, ⟨44, _⟩ => ⟨S_, .f32⟩
  | .hbm, ⟨45, _⟩ => ⟨S1x8192, .f32⟩
  | .hbm, ⟨46, _⟩ => ⟨S_, .f32⟩
  | .hbm, ⟨47, _⟩ => ⟨S1x8192, .f32⟩
  | .hbm, ⟨48, _⟩ => ⟨S1x8192, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S1x8192, .f32⟩
  | .hbm, ⟨57, _⟩ => ⟨S_, .f32⟩
  | .hbm, ⟨58, _⟩ => ⟨S1x8192, .f32⟩
  | .hbm, ⟨59, _⟩ => ⟨S1x8192, .f32⟩
  | .hbm, ⟨60, _⟩ => ⟨S1x8192x1024, .f32⟩
  | .hbm, ⟨61, _⟩ => ⟨S1x8192x1024, .f32⟩
  | .hbm, ⟨62, _⟩ => ⟨S1x8192x1024, .f32⟩
  | .hbm, ⟨63, _⟩ => ⟨S1x8192x512, .f32⟩
  | .hbm, ⟨64, _⟩ => ⟨S1x8192x512, .f32⟩
  | .hbm, ⟨65, _⟩ => ⟨S1x8192x512, .f32⟩
  | .hbm, ⟨66, _⟩ => ⟨S1x8192x512, .f32⟩
  | .hbm, ⟨67, _⟩ => ⟨S1x8192x512, .f32⟩
  | .hbm, ⟨68, _⟩ => ⟨S1x8192x512, .f32⟩
  | .hbm, ⟨69, _⟩ => ⟨S1x8192x512, .f32⟩
  | .hbm, ⟨70, _⟩ => ⟨S1x8192x512, .f32⟩
  | .hbm, ⟨71, _⟩ => ⟨S1x8192x512, .f32⟩
  | .hbm, ⟨72, _⟩ => ⟨S1x8192x512, .f32⟩
  | .hbm, ⟨73, _⟩ => ⟨S1x8192x512, .f32⟩
  | .hbm, ⟨74, _⟩ => ⟨S1x8192x512, .f32⟩
  | .hbm, ⟨75, _⟩ => ⟨S1x8192x512, .f32⟩
  | .hbm, ⟨76, _⟩ => ⟨S1x8192x512, .f32⟩
  | .hbm, ⟨77, _⟩ => ⟨S1x8192x512, .f32⟩
  | .hbm, ⟨78, _⟩ => ⟨S1x8192x512, .f32⟩
  | .hbm, ⟨79, _⟩ => ⟨S_, .f32⟩
  | .hbm, ⟨80, _⟩ => ⟨S1x8192x512, .f32⟩
  | .hbm, ⟨81, _⟩ => ⟨S1x8192x512, .f32⟩
  | .hbm, ⟨82, _⟩ => ⟨S_, .f32⟩
  | .hbm, ⟨83, _⟩ => ⟨S1x8192x512, .f32⟩
  | .hbm, ⟨84, _⟩ => ⟨S1x8192x512, .f32⟩
  | .hbm, ⟨85, _⟩ => ⟨S1x8192x512, .f32⟩
  | .hbm, ⟨86, _⟩ => ⟨S1x8192x512, .f32⟩
  | .hbm, ⟨87, _⟩ => ⟨S1x8192x512, .f32⟩
  | .hbm, ⟨88, _⟩ => ⟨S1x8192x512, .f32⟩
  | .hbm, ⟨89, _⟩ => ⟨S_, .f32⟩
  | .hbm, ⟨90, _⟩ => ⟨S1x8192x512, .f32⟩
  | .hbm, ⟨91, _⟩ => ⟨S1x8192x512, .f32⟩
  | .hbm, ⟨92, _⟩ => ⟨S_, .f32⟩
  | .hbm, ⟨93, _⟩ => ⟨S1x8192x512, .f32⟩
  | .hbm, ⟨94, _⟩ => ⟨S1x8192x512, .f32⟩
  | .hbm, ⟨95, _⟩ => ⟨S1x8192x512, .f32⟩
  | .hbm, ⟨96, _⟩ => ⟨S1x8192x512, .f32⟩
  | .hbm, ⟨97, _⟩ => ⟨S1x8192x1024, .f32⟩
  | .hbm, ⟨98, _⟩ => ⟨S8192x1024, .f32⟩
  | .hbm, ⟨99, _⟩ => ⟨S1024x8192, .f32⟩
  | .hbm, ⟨100, _⟩ => ⟨S1x8192x512, .f32⟩
  | .hbm, ⟨101, _⟩ => ⟨S8192x8x64, .f32⟩
  | .hbm, ⟨102, _⟩ => ⟨S_, .f32⟩
  | .hbm, ⟨103, _⟩ => ⟨S8192x8, .f32⟩
  | .hbm, ⟨104, _⟩ => ⟨S8x8192, .f32⟩
  | .hbm, ⟨105, _⟩ => ⟨S1x8192x512, .f32⟩
  | .hbm, ⟨106, _⟩ => ⟨S8192x4x128, .f32⟩
  | .hbm, ⟨107, _⟩ => ⟨S_, .f32⟩
  | .hbm, ⟨108, _⟩ => ⟨S8192x4, .f32⟩
  | .hbm, ⟨109, _⟩ => ⟨S4x8192, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v0_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v0_1 : Ref sig .tc := ⟨.hbm, 18, rfl⟩
abbrev main_v0_0 : Ref sig .tc := ⟨.hbm, 19, rfl⟩
abbrev main_v1 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_v2_2 : Ref sig .tc := ⟨.hbm, 28, rfl⟩
abbrev main_call1_cst_1 : Ref sig .tc := ⟨.hbm, 29, rfl⟩
abbrev main_call1_v6 : Ref sig .tc := ⟨.hbm, 30, rfl⟩
abbrev main_call1_v7 : Ref sig .tc := ⟨.hbm, 31, rfl⟩
abbrev main_v2_1 : Ref sig .tc := ⟨.hbm, 32, rfl⟩
abbrev main_v2_0 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_cst : Ref sig .tc := ⟨.hbm, 41, rfl⟩
abbrev main_v10 : Ref sig .tc := ⟨.hbm, 42, rfl⟩
abbrev main_v11 : Ref sig .tc := ⟨.hbm, 43, rfl⟩
abbrev main_cst_0 : Ref sig .tc := ⟨.hbm, 44, rfl⟩
abbrev main_v12 : Ref sig .tc := ⟨.hbm, 45, rfl⟩
abbrev main_cst_1 : Ref sig .tc := ⟨.hbm, 46, rfl⟩
abbrev main_v13 : Ref sig .tc := ⟨.hbm, 47, rfl⟩
abbrev main_v14 : Ref sig .tc := ⟨.hbm, 48, rfl⟩
abbrev main_cst_2 : Ref sig .tc := ⟨.hbm, 49, rfl⟩
abbrev main_v15 : Ref sig .tc := ⟨.hbm, 50, rfl⟩
abbrev main_cst_3 : Ref sig .tc := ⟨.hbm, 51, rfl⟩
abbrev main_v16 : Ref sig .tc := ⟨.hbm, 52, rfl⟩
abbrev main_cst_4 : Ref sig .tc := ⟨.hbm, 53, rfl⟩
abbrev main_cst_5 : Ref sig .tc := ⟨.hbm, 54, rfl⟩
abbrev main_v17 : Ref sig .tc := ⟨.hbm, 55, rfl⟩
abbrev main_v18 : Ref sig .tc := ⟨.hbm, 56, rfl⟩
abbrev main_cst_6 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v31 : Ref sig .tc := ⟨.hbm, 76, rfl⟩
abbrev main_call4_v0 : Ref sig .tc := ⟨.hbm, 77, rfl⟩
abbrev main_call4_v1 : Ref sig .tc := ⟨.hbm, 78, rfl⟩
abbrev main_call4_cst : Ref sig .tc := ⟨.hbm, 79, rfl⟩
abbrev main_call4_v2 : Ref sig .tc := ⟨.hbm, 80, rfl⟩
abbrev main_call4_v3 : Ref sig .tc := ⟨.hbm, 81, rfl⟩
abbrev main_call4_cst_0 : Ref sig .tc := ⟨.hbm, 82, rfl⟩
abbrev main_call4_v4 : Ref sig .tc := ⟨.hbm, 83, rfl⟩
abbrev main_call4_v5 : Ref sig .tc := ⟨.hbm, 84, rfl⟩
abbrev main_v32 : Ref sig .tc := ⟨.hbm, 85, rfl⟩
abbrev main_v33 : Ref sig .tc := ⟨.hbm, 86, rfl⟩
abbrev main_call5_v0 : Ref sig .tc := ⟨.hbm, 87, rfl⟩
abbrev main_call5_v1 : Ref sig .tc := ⟨.hbm, 88, rfl⟩
abbrev main_call5_cst : Ref sig .tc := ⟨.hbm, 89, rfl⟩
abbrev main_call5_v2 : Ref sig .tc := ⟨.hbm, 90, rfl⟩
abbrev main_call5_v3 : Ref sig .tc := ⟨.hbm, 91, rfl⟩
abbrev main_call5_cst_0 : Ref sig .tc := ⟨.hbm, 92, rfl⟩
abbrev main_call5_v4 : Ref sig .tc := ⟨.hbm, 93, rfl⟩
abbrev main_call5_v5 : Ref sig .tc := ⟨.hbm, 94, rfl⟩
abbrev main_v34 : Ref sig .tc := ⟨.hbm, 95, rfl⟩
abbrev main_v35 : Ref sig .tc := ⟨.hbm, 96, rfl⟩
abbrev main_v36 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_cst_7 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_cst_8 : Ref sig .tc := ⟨.hbm, 107, rfl⟩
abbrev main_v45 : Ref sig .tc := ⟨.hbm, 108, rfl⟩
abbrev main_v46 : Ref sig .tc := ⟨.hbm, 109, rfl⟩

abbrev nD : Nat := 1
abbrev τ : Topo := Topo.v7x

variable {F : FTy → Type} [FloatOps F]
-- ==== KernelFB.lean ====
abbrev S1x4x8192x96 : Shape := ⟨4, ![1, 4, 8192, 96]⟩
abbrev S1x4x8192x128 : Shape := ⟨4, ![1, 4, 8192, 128]⟩
abbrev S_ : Shape := ⟨0, ![]⟩
abbrev S4x8192x96 : Shape := ⟨3, ![4, 8192, 96]⟩
abbrev S4x8192x1x96 : Shape := ⟨4, ![4, 8192, 1, 96]⟩
abbrev S4x8192x1x0 : Shape := ⟨4, ![4, 8192, 1, 0]⟩
abbrev S4x8192x1x8 : Shape := ⟨4, ![4, 8192, 1, 8]⟩
abbrev S4x8192x1x32 : Shape := ⟨4, ![4, 8192, 1, 32]⟩
abbrev S4x8192x1x16 : Shape := ⟨4, ![4, 8192, 1, 16]⟩
abbrev S4x8192x1x128 : Shape := ⟨4, ![4, 8192, 1, 128]⟩
abbrev S4x8192x128 : Shape := ⟨3, ![4, 8192, 128]⟩
abbrev S4x8192x256 : Shape := ⟨3, ![4, 8192, 256]⟩
abbrev S4x16x1x512 : Shape := ⟨4, ![4, 16, 1, 512]⟩
abbrev S1x2048x128 : Shape := ⟨3, ![1, 2048, 128]⟩
abbrev S1x8192x128 : Shape := ⟨3, ![1, 8192, 128]⟩
abbrev S1x8192x256 : Shape := ⟨3, ![1, 8192, 256]⟩
abbrev S1x4x1x512 : Shape := ⟨4, ![1, 4, 1, 512]⟩
abbrev S2x512x2048 : Shape := ⟨3, ![2, 512, 2048]⟩
abbrev S2x512x128 : Shape := ⟨3, ![2, 512, 128]⟩
abbrev S4x512x128 : Shape := ⟨3, ![4, 512, 128]⟩
abbrev S4x512x256 : Shape := ⟨3, ![4, 512, 256]⟩
abbrev S1x512x128 : Shape := ⟨3, ![1, 512, 128]⟩
abbrev S512x128 : Shape := ⟨2, ![512, 128]⟩
abbrev S2048x128 : Shape := ⟨2, ![2048, 128]⟩
abbrev S512x2048 : Shape := ⟨2, ![512, 2048]⟩
abbrev S1x512x2048 : Shape := ⟨3, ![1, 512, 2048]⟩
abbrev S512 : Shape := ⟨1, ![512]⟩
abbrev S512x1 : Shape := ⟨2, ![512, 1]⟩
abbrev S1x2048x256 : Shape := ⟨3, ![1, 2048, 256]⟩
abbrev S2048x256 : Shape := ⟨2, ![2048, 256]⟩
abbrev S512x256 : Shape := ⟨2, ![512, 256]⟩
abbrev S1x512x1 : Shape := ⟨3, ![1, 512, 1]⟩
abbrev S128x512 : Shape := ⟨2, ![128, 512]⟩
abbrev S1x512 : Shape := ⟨2, ![1, 512]⟩
abbrev S1x1x1x512 : Shape := ⟨4, ![1, 1, 1, 512]⟩
abbrev S8192x4x128 : Shape := ⟨3, ![8192, 4, 128]⟩
abbrev S1x8192x512 : Shape := ⟨3, ![1, 8192, 512]⟩
abbrev S1x4x8192 : Shape := ⟨3, ![1, 4, 8192]⟩

abbrev nBuf : Space → Nat
  | .hbm => 80
  | .vmem => 15
  | .smem => 0
  | _ => 0

abbrev bufTy : (tb : Table) → Fin (tcTables nBuf tb) → BufTy
  | .hbm, ⟨0, _⟩ => ⟨S1x4x8192x96, .f32⟩
  | .hbm, ⟨1, _⟩ => ⟨S1x4x8192x96, .f32⟩
  | .hbm, ⟨2, _⟩ => ⟨S1x4x8192x128, .f32⟩
  | .hbm, ⟨3, _⟩ => ⟨S_, .f32⟩
  | .hbm, ⟨4, _⟩ => ⟨S_, .f32⟩
  | .hbm, ⟨5, _⟩ => ⟨S4x8192x96, .f32⟩
  | .hbm, ⟨6, _⟩ => ⟨S4x8192x1x96, .f32⟩
  | .hbm, ⟨7, _⟩ => ⟨S_, .f32⟩
  | .hbm, ⟨8, _⟩ => ⟨S4x8192x1x0, .f32⟩
  | .hbm, ⟨9, _⟩ => ⟨S4x8192x1x8, .f32⟩
  | .hbm, ⟨10, _⟩ => ⟨S_, .f32⟩
  | .hbm, ⟨11, _⟩ => ⟨S4x8192x1x0, .f32⟩
  | .hbm, ⟨12, _⟩ => ⟨S4x8192x1x8, .f32⟩
  | .hbm, ⟨13, _⟩ => ⟨S_, .f32⟩
  | .hbm, ⟨14, _⟩ => ⟨S4x8192x1x0, .f32⟩
  | .hbm, ⟨15, _⟩ => ⟨S4x8192x1x32, .f32⟩
  | .hbm, ⟨16, _⟩ => ⟨S_, .f32⟩
  | .hbm, ⟨17, _⟩ => ⟨S4x8192x1x16, .f32⟩
  | .hbm, ⟨18, _⟩ => ⟨S4x8192x1x8, .f32⟩
  | .hbm, ⟨19, _⟩ => ⟨S_, .f32⟩
  | .hbm, ⟨20, _⟩ => ⟨S4x8192x1x0, .f32⟩
  | .hbm, ⟨21, _⟩ => ⟨S4x8192x1x8, .f32⟩
  | .hbm, ⟨22, _⟩ => ⟨S_, .f32⟩
  | .hbm, ⟨23, _⟩ => ⟨S4x8192x1x0, .f32⟩
  | .hbm, ⟨24, _⟩ => ⟨S4x8192x1x32, .f32⟩
  | .hbm, ⟨25, _⟩ => ⟨S_, .f32⟩
  | .hbm, ⟨26, _⟩ => ⟨S4x8192x1x16, .f32⟩
  | .hbm, ⟨27, _⟩ => ⟨S4x8192x1x128, .f32⟩
  | .hbm, ⟨28, _⟩ => ⟨S4x8192x128, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S4x8192x128, .f32⟩
  | .hbm, ⟨33, _⟩ => ⟨S4x8192x128, .f32⟩
  | .hbm, ⟨34, _⟩ => ⟨S4x8192x128, .bf16⟩
  | .hbm, ⟨35, _⟩ => ⟨S4x8192x96, .f32⟩
  | .hbm, ⟨36, _⟩ => ⟨S4x8192x1x96, .f32⟩
  | .hbm, ⟨37, _⟩ => ⟨S_, .f32⟩
  | .hbm, ⟨38, _⟩ => ⟨S4x8192x1x0, .f32⟩
  | .hbm, ⟨39, _⟩ => ⟨S4x8192x1x8, .f32⟩
  | .hbm, ⟨40, _⟩ => ⟨S_, .f32⟩
  | .hbm, ⟨41, _⟩ => ⟨S4x8192x1x0, .f32⟩
  | .hbm, ⟨42, _⟩ => ⟨S4x8192x1x8, .f32⟩
  | .hbm, ⟨43, _⟩ => ⟨S_, .f32⟩
  | .hbm, ⟨44, _⟩ => ⟨S4x8192x1x0, .f32⟩
  | .hbm, ⟨45, _⟩ => ⟨S4x8192x1x32, .f32⟩
  | .hbm, ⟨46, _⟩ => ⟨S_, .f32⟩
  | .hbm, ⟨47, _⟩ => ⟨S4x8192x1x16, .f32⟩
  | .hbm, ⟨48, _⟩ => ⟨S4x8192x1x8, .f32⟩
  | .hbm, ⟨49, _⟩ => ⟨S_, .f32⟩
  | .hbm, ⟨50, _⟩ => ⟨S4x8192x1x0, .f32⟩
  | .hbm, ⟨51, _⟩ => ⟨S4x8192x1x8, .f32⟩
  | .hbm, ⟨52, _⟩ => ⟨S_, .f32⟩
  | .hbm, ⟨53, _⟩ => ⟨S4x8192x1x0, .f32⟩
  | .hbm, ⟨54, _⟩ => ⟨S4x8192x1x32, .f32⟩
  | .hbm, ⟨55, _⟩ => ⟨S_, .f32⟩
  | .hbm, ⟨56, _⟩ => ⟨S4x8192x1x16, .f32⟩
  | .hbm, ⟨57, _⟩ => ⟨S4x8192x1x128, .f32⟩
  | .hbm, ⟨58, _⟩ => ⟨S4x8192x128, .f32⟩
  | .hbm, ⟨59, _⟩ => ⟨S4x8192x128, .bf16⟩
  | .hbm, ⟨60, _⟩ => ⟨S4x8192x128, .i32⟩
  | .hbm, ⟨61, _⟩ => ⟨S4x8192x128, .f32⟩
  | .hbm, ⟨62, _⟩ => ⟨S_, .i32⟩
  | .hbm, ⟨63, _⟩ => ⟨S4x8192x128, .i32⟩
  | .hbm, ⟨64, _⟩ => ⟨S4x8192x128, .i1⟩
  | .hbm, ⟨65, _⟩ => ⟨S_, .f32⟩
  | .hbm, ⟨66, _⟩ => ⟨S_, .f32⟩
  | .hbm, ⟨67, _⟩ => ⟨S4x8192x128, .f32⟩
  | .hbm, ⟨68, _⟩ => ⟨S4x8192x128, .f32⟩
  | .hbm, ⟨69, _⟩ => ⟨S4x8192x128, .f32⟩
  | .hbm, ⟨70, _⟩ => ⟨S4x8192x128, .f32⟩
  | .hbm, ⟨71, _⟩ => ⟨S4x8192x256, .f32⟩
  | .hbm, ⟨72, _⟩ => ⟨S4x8192x256, .bf16⟩
  | .hbm, ⟨73, _⟩ => ⟨S4x8192x128, .f32⟩
  | .hbm, ⟨74, _⟩ => ⟨S4x16x1x512, .f32⟩
  | .hbm, ⟨75, _⟩ => ⟨S8192x4x128, .f32⟩
  | .hbm, ⟨76, _⟩ => ⟨S1x8192x512, .f32⟩
  | .hbm, ⟨77, _⟩ => ⟨S1x4x8192, .f32⟩
  | .hbm, ⟨78, _⟩ => ⟨S1x4x8192, .f32⟩
  | .hbm, ⟨79, _⟩ => ⟨S1x4x8192, .f32⟩
  | .local _ .vmem, ⟨0, _⟩ => ⟨S1x2048x128, .bf16⟩
  | .local _ .vmem, ⟨1, _⟩ => ⟨S1x2048x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x256, .bf16⟩
  | .local _ .vmem, ⟨5, _⟩ => ⟨S1x8192x256, .bf16⟩
  | .local _ .vmem, ⟨6, _⟩ => ⟨S1x2048x128, .f32⟩
  | .local _ .vmem, ⟨7, _⟩ => ⟨S1x2048x128, .f32⟩
  | .local _ .vmem, ⟨8, _⟩ => ⟨S1x4x1x512, .f32⟩
  | .local _ .vmem, ⟨9, _⟩ => ⟨S1x4x1x512, .f32⟩
  | .local _ .vmem, ⟨10, _⟩ => ⟨S2x512x2048, .f32⟩
  | .local _ .vmem, ⟨11, _⟩ => ⟨S2x512x2048, .bf16⟩
  | .local _ .vmem, ⟨12, _⟩ => ⟨S2x512x128, .f32⟩
  | .local _ .vmem, ⟨13, _⟩ => ⟨S4x512x128, .f32⟩
  | .local _ .vmem, ⟨14, _⟩ => ⟨S4x512x256, .f32⟩
  | _, _ => ⟨S1x4x8192x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_cst_4 : Ref sig .tc := ⟨.hbm, 19, rfl⟩
abbrev main_v11 : Ref sig .tc := ⟨.hbm, 20, rfl⟩
abbrev main_v12 : Ref sig .tc := ⟨.hbm, 21, rfl⟩
abbrev main_cst_5 : Ref sig .tc := ⟨.hbm, 22, rfl⟩
abbrev main_v13 : Ref sig .tc := ⟨.hbm, 23, rfl⟩
abbrev main_v14 : Ref sig .tc := ⟨.hbm, 24, rfl⟩
abbrev main_cst_6 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_7 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_8 : Ref sig .tc := ⟨.hbm, 37, rfl⟩
abbrev main_v25 : Ref sig .tc := ⟨.hbm, 38, rfl⟩
abbrev main_v26 : Ref sig .tc := ⟨.hbm, 39, rfl⟩
abbrev main_cst_9 : Ref sig .tc := ⟨.hbm, 40, rfl⟩
abbrev main_v27 : Ref sig .tc := ⟨.hbm, 41, rfl⟩
abbrev main_v28 : Ref sig .tc := ⟨.hbm, 42, rfl⟩
abbrev main_cst_10 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_cst_12 : Ref sig .tc := ⟨.hbm, 49, rfl⟩
abbrev main_v33 : Ref sig .tc := ⟨.hbm, 50, rfl⟩
abbrev main_v34 : Ref sig .tc := ⟨.hbm, 51, rfl⟩
abbrev main_cst_13 : Ref sig .tc := ⟨.hbm, 52, rfl⟩
abbrev main_v35 : Ref sig .tc := ⟨.hbm, 53, rfl⟩
abbrev main_v36 : Ref sig .tc := ⟨.hbm, 54, rfl⟩
abbrev main_cst_14 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c : Ref sig .tc := ⟨.hbm, 62, rfl⟩
abbrev main_v43 : Ref sig .tc := ⟨.hbm, 63, rfl⟩
abbrev main_v44 : Ref sig .tc := ⟨.hbm, 64, rfl⟩
abbrev main_cst_15 : Ref sig .tc := ⟨.hbm, 65, rfl⟩
abbrev main_cst_16 : Ref sig .tc := ⟨.hbm, 66, rfl⟩
abbrev main_call0_v0 : Ref sig .tc := ⟨.hbm, 67, rfl⟩
abbrev main_call0_v1 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49_0 : Ref sig .tc := ⟨.hbm, 73, rfl⟩
abbrev main_v49_1 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelFBIdeal.lean ====
variable {F : FTy → Type} [FloatOps F] [Named F]
def κ : String → Option EReal := fun
  | "log2e" => some (((Real.log 2)⁻¹ : ℝ) : EReal)
  | _ => none
-- ==== ReferenceFBIdeal.lean ====
abbrev S1x4x8192x96 : Shape := ⟨4, ![1, 4, 8192, 96]⟩
abbrev S1x4x8192x128 : Shape := ⟨4, ![1, 4, 8192, 128]⟩
abbrev S_ : Shape := ⟨0, ![]⟩
abbrev S1x4x8192x8192 : Shape := ⟨4, ![1, 4, 8192, 8192]⟩
abbrev S1x4x8192 : Shape := ⟨3, ![1, 4, 8192]⟩
abbrev S1x4x8192x1 : Shape := ⟨4, ![1, 4, 8192, 1]⟩
abbrev S1x8192x4x128 : Shape := ⟨4, ![1, 8192, 4, 128]⟩
abbrev S1x8192x512 : Shape := ⟨3, ![1, 8192, 512]⟩

abbrev nBuf : Space → Nat
  | .hbm => 44
  | .vmem => 0
  | .smem => 0
  | _ => 0

abbrev bufTy : (tb : Table) → Fin (tcTables nBuf tb) → BufTy
  | .hbm, ⟨0, _⟩ => ⟨S1x4x8192x96, .f32⟩
  | .hbm, ⟨1, _⟩ => ⟨S1x4x8192x96, .f32⟩
  | .hbm, ⟨2, _⟩ => ⟨S1x4x8192x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1x4x8192x8192, .f32⟩
  | .hbm, ⟨8, _⟩ => ⟨S1x4x8192x8192, .f32⟩
  | .hbm, ⟨9, _⟩ => ⟨S1x4x8192x8192, .f32⟩
  | .hbm, ⟨10, _⟩ => ⟨S_, .f32⟩
  | .hbm, ⟨11, _⟩ => ⟨S1x4x8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x4x8192x8192, .f32⟩
  | .hbm, ⟨17, _⟩ => ⟨S1x4x8192x8192, .f32⟩
  | .hbm, ⟨18, _⟩ => ⟨S1x4x8192x8192, .f32⟩
  | .hbm, ⟨19, _⟩ => ⟨S_, .f32⟩
  | .hbm, ⟨20, _⟩ => ⟨S1x4x8192, .f32⟩
  | .hbm, ⟨21, _⟩ => ⟨S_, .f32⟩
  | .hbm, ⟨22, _⟩ => ⟨S1x4x8192, .f32⟩
  | .hbm, ⟨23, _⟩ => ⟨S1x4x8192, .f32⟩
  | .hbm, ⟨24, _⟩ => ⟨S1x4x8192x1, .f32⟩
  | .hbm, ⟨25, _⟩ => ⟨S1x4x8192x8192, .f32⟩
  | .hbm, ⟨26, _⟩ => ⟨S1x4x8192x8192, .f32⟩
  | .hbm, ⟨27, _⟩ => ⟨S1x4x8192x8192, .f32⟩
  | .hbm, ⟨28, _⟩ => ⟨S_, .f32⟩
  | .hbm, ⟨29, _⟩ => ⟨S1x4x8192, .f32⟩
  | .hbm, ⟨30, _⟩ => ⟨S1x4x8192x1, .f32⟩
  | .hbm, ⟨31, _⟩ => ⟨S1x4x8192x8192, .f32⟩
  | .hbm, ⟨32, _⟩ => ⟨S1x4x8192x8192, .f32⟩
  | .hbm, ⟨33, _⟩ => ⟨S1x4x8192x128, .f32⟩
  | .hbm, ⟨34, _⟩ => ⟨S1x8192x4x128, .f32⟩
  | .hbm, ⟨35, _⟩ => ⟨S1x8192x512, .f32⟩
  | .hbm, ⟨36, _⟩ => ⟨S1x4x8192x1, .f32⟩
  | .hbm, ⟨37, _⟩ => ⟨S1x4x8192x8192, .f32⟩
  | .hbm, ⟨38, _⟩ => ⟨S1x4x8192x8192, .f32⟩
  | .hbm, ⟨39, _⟩ => ⟨S1x4x8192x8192, .f32⟩
  | .hbm, ⟨40, _⟩ => ⟨S_, .f32⟩
  | .hbm, ⟨41, _⟩ => ⟨S1x4x8192, .f32⟩
  | .hbm, ⟨42, _⟩ => ⟨S1x4x8192, .f32⟩
  | .hbm, ⟨43, _⟩ => ⟨S1x4x8192, .f32⟩
  | _, _ => ⟨S1x4x8192x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_cst_3 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_4 : Ref sig .tc := ⟨.hbm, 19, rfl⟩
abbrev main_v11 : Ref sig .tc := ⟨.hbm, 20, rfl⟩
abbrev main_cst_5 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== KernelFA.lean ====
abbrev S1x8x8192x64 : Shape := ⟨4, ![1, 8, 8192, 64]⟩
abbrev S1x2x8192x64 : Shape := ⟨4, ![1, 2, 8192, 64]⟩
abbrev S_ : Shape := ⟨0, ![]⟩
abbrev S8x8192x64 : Shape := ⟨3, ![8, 8192, 64]⟩
abbrev S8x8192x1x64 : Shape := ⟨4, ![8, 8192, 1, 64]⟩
abbrev S8x8192x1x0 : Shape := ⟨4, ![8, 8192, 1, 0]⟩
abbrev S8x8192x1x16 : Shape := ⟨4, ![8, 8192, 1, 16]⟩
abbrev S8x8192x1x32 : Shape := ⟨4, ![8, 8192, 1, 32]⟩
abbrev S8x8192x1x128 : Shape := ⟨4, ![8, 8192, 1, 128]⟩
abbrev S8x8192x128 : Shape := ⟨3, ![8, 8192, 128]⟩
abbrev S2x8192x64 : Shape := ⟨3, ![2, 8192, 64]⟩
abbrev S2x8192x1x64 : Shape := ⟨4, ![2, 8192, 1, 64]⟩
abbrev S2x8192x1x0 : Shape := ⟨4, ![2, 8192, 1, 0]⟩
abbrev S2x8192x1x16 : Shape := ⟨4, ![2, 8192, 1, 16]⟩
abbrev S2x8192x1x32 : Shape := ⟨4, ![2, 8192, 1, 32]⟩
abbrev S2x8192x1x128 : Shape := ⟨4, ![2, 8192, 1, 128]⟩
abbrev S2x8192x128 : Shape := ⟨3, ![2, 8192, 128]⟩
abbrev S8x16x1x512 : Shape := ⟨4, ![8, 16, 1, 512]⟩
abbrev S1x2048x128 : Shape := ⟨3, ![1, 2048, 128]⟩
abbrev S1x8192x128 : Shape := ⟨3, ![1, 8192, 128]⟩
abbrev S1x4x1x512 : Shape := ⟨4, ![1, 4, 1, 512]⟩
abbrev S2x512x2048 : Shape := ⟨3, ![2, 512, 2048]⟩
abbrev S2x512x128 : Shape := ⟨3, ![2, 512, 128]⟩
abbrev S4x512x128 : Shape := ⟨3, ![4, 512, 128]⟩
abbrev S1x512x128 : Shape := ⟨3, ![1, 512, 128]⟩
abbrev S512x128 : Shape := ⟨2, ![512, 128]⟩
abbrev S2048x128 : Shape := ⟨2, ![2048, 128]⟩
abbrev S512x2048 : Shape := ⟨2, ![512, 2048]⟩
abbrev S1x512x2048 : Shape := ⟨3, ![1, 512, 2048]⟩
abbrev S512 : Shape := ⟨1, ![512]⟩
abbrev S512x1 : Shape := ⟨2, ![512, 1]⟩
abbrev S1x512x1 : Shape := ⟨3, ![1, 512, 1]⟩
abbrev S128x512 : Shape := ⟨2, ![128, 512]⟩
abbrev S1x512 : Shape := ⟨2, ![1, 512]⟩
abbrev S1x1x1x512 : Shape := ⟨4, ![1, 1, 1, 512]⟩
abbrev S8192x8x64 : Shape := ⟨3, ![8192, 8, 64]⟩
abbrev S1x8192x512 : Shape := ⟨3, ![1, 8192, 512]⟩
abbrev S1x8x8192 : Shape := ⟨3, ![1, 8, 8192]⟩

abbrev nBuf : Space → Nat
  | .hbm => 74
  | .vmem => 15
  | .smem => 0
  | _ => 0

abbrev bufTy : (tb : Table) → Fin (tcTables nBuf tb) → BufTy
  | .hbm, ⟨0, _⟩ => ⟨S1x8x8192x64, .f32⟩
  | .hbm, ⟨1, _⟩ => ⟨S1x2x8192x64, .f32⟩
  | .hbm, ⟨2, _⟩ => ⟨S1x2x8192x64, .f32⟩
  | .hbm, ⟨3, _⟩ => ⟨S_, .f32⟩
  | .hbm, ⟨4, _⟩ => ⟨S_, .f32⟩
  | .hbm, ⟨5, _⟩ => ⟨S8x8192x64, .f32⟩
  | .hbm, ⟨6, _⟩ => ⟨S8x8192x1x64, .f32⟩
  | .hbm, ⟨7, _⟩ => ⟨S_, .f32⟩
  | .hbm, ⟨8, _⟩ => ⟨S8x8192x1x0, .f32⟩
  | .hbm, ⟨9, _⟩ => ⟨S8x8192x1x16, .f32⟩
  | .hbm, ⟨10, _⟩ => ⟨S_, .f32⟩
  | .hbm, ⟨11, _⟩ => ⟨S8x8192x1x0, .f32⟩
  | .hbm, ⟨12, _⟩ => ⟨S8x8192x1x16, .f32⟩
  | .hbm, ⟨13, _⟩ => ⟨S_, .f32⟩
  | .hbm, ⟨14, _⟩ => ⟨S8x8192x1x32, .f32⟩
  | .hbm, ⟨15, _⟩ => ⟨S8x8192x1x16, .f32⟩
  | .hbm, ⟨16, _⟩ => ⟨S_, .f32⟩
  | .hbm, ⟨17, _⟩ => ⟨S8x8192x1x0, .f32⟩
  | .hbm, ⟨18, _⟩ => ⟨S8x8192x1x16, .f32⟩
  | .hbm, ⟨19, _⟩ => ⟨S_, .f32⟩
  | .hbm, ⟨20, _⟩ => ⟨S8x8192x1x32, .f32⟩
  | .hbm, ⟨21, _⟩ => ⟨S8x8192x1x128, .f32⟩
  | .hbm, ⟨22, _⟩ => ⟨S8x8192x128, .f32⟩
  | .hbm, ⟨23, _⟩ => ⟨S_, .f32⟩
  | .hbm, ⟨24, _⟩ => ⟨S8x8192x128, .f32⟩
  | .hbm, ⟨25, _⟩ => ⟨S8x8192x128, .f32⟩
  | .hbm, ⟨26, _⟩ => ⟨S8x8192x128, .f32⟩
  | .hbm, ⟨27, _⟩ => ⟨S8x8192x128, .f32⟩
  | .hbm, ⟨28, _⟩ => ⟨S8x8192x128, .bf16⟩
  | .hbm, ⟨29, _⟩ => ⟨S2x8192x64, .f32⟩
  | .hbm, ⟨30, _⟩ => ⟨S2x8192x1x64, .f32⟩
  | .hbm, ⟨31, _⟩ => ⟨S_, .f32⟩
  | .hbm, ⟨32, _⟩ => ⟨S2x8192x1x0, .f32⟩
  | .hbm, ⟨33, _⟩ => ⟨S2x8192x1x16, .f32⟩
  | .hbm, ⟨34, _⟩ => ⟨S_, .f32⟩
  | .hbm, ⟨35, _⟩ => ⟨S2x8192x1x0, .f32⟩
  | .hbm, ⟨36, _⟩ => ⟨S2x8192x1x16, .f32⟩
  | .hbm, ⟨37, _⟩ => ⟨S_, .f32⟩
  | .hbm, ⟨38, _⟩ => ⟨S2x8192x1x32, .f32⟩
  | .hbm, ⟨39, _⟩ => ⟨S2x8192x1x16, .f32⟩
  | .hbm, ⟨40, _⟩ => ⟨S_, .f32⟩
  | .hbm, ⟨41, _⟩ => ⟨S2x8192x1x0, .f32⟩
  | .hbm, ⟨42, _⟩ => ⟨S2x8192x1x16, .f32⟩
  | .hbm, ⟨43, _⟩ => ⟨S_, .f32⟩
  | .hbm, ⟨44, _⟩ => ⟨S2x8192x1x32, .f32⟩
  | .hbm, ⟨45, _⟩ => ⟨S2x8192x1x128, .f32⟩
  | .hbm, ⟨46, _⟩ => ⟨S2x8192x128, .f32⟩
  | .hbm, ⟨47, _⟩ => ⟨S2x8192x128, .bf16⟩
  | .hbm, ⟨48, _⟩ => ⟨S2x8192x64, .f32⟩
  | .hbm, ⟨49, _⟩ => ⟨S2x8192x1x64, .f32⟩
  | .hbm, ⟨50, _⟩ => ⟨S_, .f32⟩
  | .hbm, ⟨51, _⟩ => ⟨S2x8192x1x0, .f32⟩
  | .hbm, ⟨52, _⟩ => ⟨S2x8192x1x64, .f32⟩
  | .hbm, ⟨53, _⟩ => ⟨S_, .f32⟩
  | .hbm, ⟨54, _⟩ => ⟨S2x8192x1x64, .f32⟩
  | .hbm, ⟨55, _⟩ => ⟨S2x8192x1x128, .f32⟩
  | .hbm, ⟨56, _⟩ => ⟨S2x8192x128, .f32⟩
  | .hbm, ⟨57, _⟩ => ⟨S2x8192x128, .i32⟩
  | .hbm, ⟨58, _⟩ => ⟨S_, .i32⟩
  | .hbm, ⟨59, _⟩ => ⟨S2x8192x128, .i32⟩
  | .hbm, ⟨60, _⟩ => ⟨S2x8192x128, .i1⟩
  | .hbm, ⟨61, _⟩ => ⟨S_, .f32⟩
  | .hbm, ⟨62, _⟩ => ⟨S_, .f32⟩
  | .hbm, ⟨63, _⟩ => ⟨S2x8192x128, .f32⟩
  | .hbm, ⟨64, _⟩ => ⟨S2x8192x128, .f32⟩
  | .hbm, ⟨65, _⟩ => ⟨S2x8192x128, .bf16⟩
  | .hbm, ⟨66, _⟩ => ⟨S8x8192x128, .f32⟩
  | .hbm, ⟨67, _⟩ => ⟨S8x16x1x512, .f32⟩
  | .hbm, ⟨68, _⟩ => ⟨S8x8192x64, .f32⟩
  | .hbm, ⟨69, _⟩ => ⟨S8192x8x64, .f32⟩
  | .hbm, ⟨70, _⟩ => ⟨S1x8192x512, .f32⟩
  | .hbm, ⟨71, _⟩ => ⟨S1x8x8192, .f32⟩
  | .hbm, ⟨72, _⟩ => ⟨S1x8x8192, .f32⟩
  | .hbm, ⟨73, _⟩ => ⟨S1x8x8192, .f32⟩
  | .local _ .vmem, ⟨0, _⟩ => ⟨S1x2048x128, .bf16⟩
  | .local _ .vmem, ⟨1, _⟩ => ⟨S1x2048x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x2048x128, .f32⟩
  | .local _ .vmem, ⟨7, _⟩ => ⟨S1x2048x128, .f32⟩
  | .local _ .vmem, ⟨8, _⟩ => ⟨S1x4x1x512, .f32⟩
  | .local _ .vmem, ⟨9, _⟩ => ⟨S1x4x1x512, .f32⟩
  | .local _ .vmem, ⟨10, _⟩ => ⟨S2x512x2048, .f32⟩
  | .local _ .vmem, ⟨11, _⟩ => ⟨S2x512x2048, .bf16⟩
  | .local _ .vmem, ⟨12, _⟩ => ⟨S2x512x128, .f32⟩
  | .local _ .vmem, ⟨13, _⟩ => ⟨S4x512x128, .f32⟩
  | .local _ .vmem, ⟨14, _⟩ => ⟨S4x512x128, .f32⟩
  | _, _ => ⟨S1x8x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_cst_4 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_5 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_cst_8 : Ref sig .tc := ⟨.hbm, 37, rfl⟩
abbrev main_v25 : Ref sig .tc := ⟨.hbm, 38, rfl⟩
abbrev main_v26 : Ref sig .tc := ⟨.hbm, 39, rfl⟩
abbrev main_cst_9 : Ref sig .tc := ⟨.hbm, 40, rfl⟩
abbrev main_v27 : Ref sig .tc := ⟨.hbm, 41, rfl⟩
abbrev main_v28 : Ref sig .tc := ⟨.hbm, 42, rfl⟩
abbrev main_cst_10 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_11 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c : Ref sig .tc := ⟨.hbm, 58, rfl⟩
abbrev main_v41 : Ref sig .tc := ⟨.hbm, 59, rfl⟩
abbrev main_v42 : Ref sig .tc := ⟨.hbm, 60, rfl⟩
abbrev main_cst_13 : Ref sig .tc := ⟨.hbm, 61, rfl⟩
abbrev main_call0_v0 : Ref sig .tc := ⟨.hbm, 62, rfl⟩
abbrev main_call0_v1 : Ref sig .tc := ⟨.hbm, 63, rfl⟩
abbrev main_v43 : Ref sig .tc := ⟨.hbm, 64, rfl⟩
abbrev main_v44 : Ref sig .tc := ⟨.hbm, 65, rfl⟩
abbrev main_v45_0 : Ref sig .tc := ⟨.hbm, 66, rfl⟩
abbrev main_v45_1 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelFAIdeal.lean ====
variable {F : FTy → Type} [FloatOps F] [Named F]
def κ : String → Option EReal := fun
  | "log2e" => some (((Real.log 2)⁻¹ : ℝ) : EReal)
  | _ => none
-- ==== ReferenceFAIdeal.lean ====
abbrev S1x8x8192x64 : Shape := ⟨4, ![1, 8, 8192, 64]⟩
abbrev S1x2x8192x64 : Shape := ⟨4, ![1, 2, 8192, 64]⟩
abbrev S1x2x4x8192x64 : Shape := ⟨5, ![1, 2, 4, 8192, 64]⟩
abbrev S1x2x4x8192x8192 : Shape := ⟨5, ![1, 2, 4, 8192, 8192]⟩
abbrev S_ : Shape := ⟨0, ![]⟩
abbrev S1x2x4x8192 : Shape := ⟨4, ![1, 2, 4, 8192]⟩
abbrev S1x2x4x8192x1 : Shape := ⟨5, ![1, 2, 4, 8192, 1]⟩
abbrev S1x8192x2x4x64 : Shape := ⟨5, ![1, 8192, 2, 4, 64]⟩
abbrev S1x8192x512 : Shape := ⟨3, ![1, 8192, 512]⟩
abbrev S1x8x8192 : Shape := ⟨3, ![1, 8, 8192]⟩

abbrev nBuf : Space → Nat
  | .hbm => 41
  | .vmem => 0
  | .smem => 0
  | _ => 0

abbrev bufTy : (tb : Table) → Fin (tcTables nBuf tb) → BufTy
  | .hbm, ⟨0, _⟩ => ⟨S1x8x8192x64, .f32⟩
  | .hbm, ⟨1, _⟩ => ⟨S1x2x8192x64, .f32⟩
  | .hbm, ⟨2, _⟩ => ⟨S1x2x8192x64, .f32⟩
  | .hbm, ⟨3, _⟩ => ⟨S1x2x4x8192x64, .f32⟩
  | .hbm, ⟨4, _⟩ => ⟨S1x2x4x8192x8192, .f32⟩
  | .hbm, ⟨5, _⟩ => ⟨S_, .f32⟩
  | .hbm, ⟨6, _⟩ => ⟨S1x2x4x8192x8192, .f32⟩
  | .hbm, ⟨7, _⟩ => ⟨S1x2x4x8192x8192, .f32⟩
  | .hbm, ⟨8, _⟩ => ⟨S_, .f32⟩
  | .hbm, ⟨9, _⟩ => ⟨S1x2x4x8192, .f32⟩
  | .hbm, ⟨10, _⟩ => ⟨S1x2x4x8192x64, .f32⟩
  | .hbm, ⟨11, _⟩ => ⟨S1x2x4x8192x8192, .f32⟩
  | .hbm, ⟨12, _⟩ => ⟨S_, .f32⟩
  | .hbm, ⟨13, _⟩ => ⟨S1x2x4x8192x8192, .f32⟩
  | .hbm, ⟨14, _⟩ => ⟨S1x2x4x8192x8192, .f32⟩
  | .hbm, ⟨15, _⟩ => ⟨S_, .f32⟩
  | .hbm, ⟨16, _⟩ => ⟨S1x2x4x8192, .f32⟩
  | .hbm, ⟨17, _⟩ => ⟨S_, .f32⟩
  | .hbm, ⟨18, _⟩ => ⟨S1x2x4x8192, .f32⟩
  | .hbm, ⟨19, _⟩ => ⟨S1x2x4x8192, .f32⟩
  | .hbm, ⟨20, _⟩ => ⟨S1x2x4x8192x1, .f32⟩
  | .hbm, ⟨21, _⟩ => ⟨S1x2x4x8192x8192, .f32⟩
  | .hbm, ⟨22, _⟩ => ⟨S1x2x4x8192x8192, .f32⟩
  | .hbm, ⟨23, _⟩ => ⟨S1x2x4x8192x8192, .f32⟩
  | .hbm, ⟨24, _⟩ => ⟨S_, .f32⟩
  | .hbm, ⟨25, _⟩ => ⟨S1x2x4x8192, .f32⟩
  | .hbm, ⟨26, _⟩ => ⟨S1x2x4x8192x1, .f32⟩
  | .hbm, ⟨27, _⟩ => ⟨S1x2x4x8192x8192, .f32⟩
  | .hbm, ⟨28, _⟩ => ⟨S1x2x4x8192x8192, .f32⟩
  | .hbm, ⟨29, _⟩ => ⟨S1x2x4x8192x64, .f32⟩
  | .hbm, ⟨30, _⟩ => ⟨S1x8192x2x4x64, .f32⟩
  | .hbm, ⟨31, _⟩ => ⟨S1x8192x512, .f32⟩
  | .hbm, ⟨32, _⟩ => ⟨S1x2x4x8192x1, .f32⟩
  | .hbm, ⟨33, _⟩ => ⟨S1x2x4x8192x8192, .f32⟩
  | .hbm, ⟨34, _⟩ => ⟨S1x2x4x8192x8192, .f32⟩
  | .hbm, ⟨35, _⟩ => ⟨S1x2x4x8192x8192, .f32⟩
  | .hbm, ⟨36, _⟩ => ⟨S_, .f32⟩
  | .hbm, ⟨37, _⟩ => ⟨S1x2x4x8192, .f32⟩
  | .hbm, ⟨38, _⟩ => ⟨S1x2x4x8192, .f32⟩
  | .hbm, ⟨39, _⟩ => ⟨S1x2x4x8192, .f32⟩
  | .hbm, ⟨40, _⟩ => ⟨S1x8x8192, .f32⟩
  | _, _ => ⟨S1x8x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== KernelP.lean ====
abbrev S1x8192x512 : Shape := ⟨3, ![1, 8192, 512]⟩
abbrev S1x8192x128 : Shape := ⟨3, ![1, 8192, 128]⟩
abbrev S1x64 : Shape := ⟨2, ![1, 64]⟩
abbrev S1x8x8192x64 : Shape := ⟨4, ![1, 8, 8192, 64]⟩
abbrev S8192x1024 : Shape := ⟨2, ![8192, 1024]⟩
abbrev S8192x640 : Shape := ⟨2, ![8192, 640]⟩
abbrev S8192x512 : Shape := ⟨2, ![8192, 512]⟩
abbrev S4x8192x128 : Shape := ⟨3, ![4, 8192, 128]⟩
abbrev S8x128 : Shape := ⟨2, ![8, 128]⟩
abbrev S1024x3328 : Shape := ⟨2, ![1024, 3328]⟩
abbrev S384x512 : Shape := ⟨2, ![384, 512]⟩
abbrev S256x1024 : Shape := ⟨2, ![256, 1024]⟩
abbrev S1x1024 : Shape := ⟨2, ![1, 1024]⟩
abbrev S1x384 : Shape := ⟨2, ![1, 384]⟩
abbrev S1x256 : Shape := ⟨2, ![1, 256]⟩
abbrev S1x128 : Shape := ⟨2, ![1, 128]⟩
abbrev S128 : Shape := ⟨1, ![128]⟩
abbrev S64 : Shape := ⟨1, ![64]⟩
abbrev S16 : Shape := ⟨1, ![16]⟩
abbrev S_ : Shape := ⟨0, ![]⟩
abbrev S128x1 : Shape := ⟨2, ![128, 1]⟩
abbrev S1x16 : Shape := ⟨2, ![1, 16]⟩
abbrev S128x16 : Shape := ⟨2, ![128, 16]⟩
abbrev S64x1 : Shape := ⟨2, ![64, 1]⟩
abbrev S64x16 : Shape := ⟨2, ![64, 16]⟩
abbrev S128x0 : Shape := ⟨2, ![128, 0]⟩
abbrev S128x48 : Shape := ⟨2, ![128, 48]⟩
abbrev S128x128 : Shape := ⟨2, ![128, 128]⟩
abbrev S64x48 : Shape := ⟨2, ![64, 48]⟩
abbrev S64x32 : Shape := ⟨2, ![64, 32]⟩
abbrev S64x128 : Shape := ⟨2, ![64, 128]⟩
abbrev S32x4x128 : Shape := ⟨3, ![32, 4, 128]⟩
abbrev S8 : Shape := ⟨1, ![8]⟩
abbrev S1x8 : Shape := ⟨2, ![1, 8]⟩
abbrev S128x8 : Shape := ⟨2, ![128, 8]⟩
abbrev S64x8 : Shape := ⟨2, ![64, 8]⟩
abbrev S128x56 : Shape := ⟨2, ![128, 56]⟩
abbrev S64x0 : Shape := ⟨2, ![64, 0]⟩
abbrev S64x24 : Shape := ⟨2, ![64, 24]⟩
abbrev S64x56 : Shape := ⟨2, ![64, 56]⟩
abbrev S1x1x64 : Shape := ⟨3, ![1, 1, 64]⟩
abbrev S1x1x0 : Shape := ⟨3, ![1, 1, 0]⟩
abbrev S1x1x16 : Shape := ⟨3, ![1, 1, 16]⟩
abbrev S1x1x32 : Shape := ⟨3, ![1, 1, 32]⟩
abbrev S1x1x128 : Shape := ⟨3, ![1, 1, 128]⟩
abbrev S8192x8x64 : Shape := ⟨3, ![8192, 8, 64]⟩
abbrev S8192x8x0 : Shape := ⟨3, ![8192, 8, 0]⟩
abbrev S8192x8x16 : Shape := ⟨3, ![8192, 8, 16]⟩
abbrev S8192x8x32 : Shape := ⟨3, ![8192, 8, 32]⟩
abbrev S8192x8x128 : Shape := ⟨3, ![8192, 8, 128]⟩
abbrev S8192x128 : Shape := ⟨2, ![8192, 128]⟩
abbrev S8192x2x64 : Shape := ⟨3, ![8192, 2, 64]⟩
abbrev S8192x2x0 : Shape := ⟨3, ![8192, 2, 0]⟩
abbrev S8192x2x16 : Shape := ⟨3, ![8192, 2, 16]⟩
abbrev S8192x2x32 : Shape := ⟨3, ![8192, 2, 32]⟩
abbrev S8192x2x128 : Shape := ⟨3, ![8192, 2, 128]⟩
abbrev S8192x256 : Shape := ⟨2, ![8192, 256]⟩
abbrev S8192x1920 : Shape := ⟨2, ![8192, 1920]⟩
abbrev S8x8192x64 : Shape := ⟨3, ![8, 8192, 64]⟩
abbrev S8x8192x1x64 : Shape := ⟨4, ![8, 8192, 1, 64]⟩
abbrev S8x8192x1x0 : Shape := ⟨4, ![8, 8192, 1, 0]⟩
abbrev S8x8192x1x16 : Shape := ⟨4, ![8, 8192, 1, 16]⟩
abbrev S8x8192x1x32 : Shape := ⟨4, ![8, 8192, 1, 32]⟩
abbrev S8x8192x1x128 : Shape := ⟨4, ![8, 8192, 1, 128]⟩
abbrev S8x8192x128 : Shape := ⟨3, ![8, 8192, 128]⟩
abbrev S8192x3328 : Shape := ⟨2, ![8192, 3328]⟩
abbrev S16x1024 : Shape := ⟨2, ![16, 1024]⟩
abbrev S256x1920 : Shape := ⟨2, ![256, 1920]⟩
abbrev S256x512 : Shape := ⟨2, ![256, 512]⟩
abbrev S8x256x128 : Shape := ⟨3, ![8, 256, 128]⟩
abbrev S4x256x128 : Shape := ⟨3, ![4, 256, 128]⟩
abbrev S1x4x128 : Shape := ⟨3, ![1, 4, 128]⟩
abbrev S256x3328 : Shape := ⟨2, ![256, 3328]⟩
abbrev S4x128 : Shape := ⟨2, ![4, 128]⟩
abbrev S256x128 : Shape := ⟨2, ![256, 128]⟩
abbrev S1024x1024 : Shape := ⟨2, ![1024, 1024]⟩
abbrev S1x256x128 : Shape := ⟨3, ![1, 256, 128]⟩
abbrev S256 : Shape := ⟨1, ![256]⟩
abbrev S256x1 : Shape := ⟨2, ![256, 1]⟩
abbrev S1024x512 : Shape := ⟨2, ![1024, 512]⟩
abbrev S256x384 : Shape := ⟨2, ![256, 384]⟩
abbrev S384 : Shape := ⟨1, ![384]⟩
abbrev S1024x384 : Shape := ⟨2, ![1024, 384]⟩
abbrev S256x256 : Shape := ⟨2, ![256, 256]⟩
abbrev S1024 : Shape := ⟨1, ![1024]⟩

abbrev nBuf : Space → Nat
  | .hbm => 372
  | .vmem => 68
  | .smem => 0
  | _ => 0

abbrev hbmTy0_0 (i : Nat) : BufTy := match i % 128 with
  | 0 => ⟨S1x8192x512, .f32⟩
  | 1 => ⟨S1x8192x128, .f32⟩
  | 2 => ⟨S1x8192x128, .f32⟩
  | 3 => ⟨S1x64, .f32⟩
  | 4 => ⟨S1x64, .f32⟩
  | 5 => ⟨S1x8x8192x64, .f32⟩
  | 6 => ⟨S1x8x8192x64, .f32⟩
  | 7 => ⟨S1x8x8192x64, .f32⟩
  | 8 => ⟨S8192x1024, .f32⟩
  | 9 => ⟨S8192x1024, .f32⟩
  | 10 => ⟨S8192x640, .f32⟩
  | 11 => ⟨S8192x512, .f32⟩
  | 12 => ⟨S8192x512, .f32⟩
  | 13 => ⟨S8192x1024, .f32⟩
  | 14 => ⟨S4x8192x128, .f32⟩
  | 15 => ⟨S4x8192x128, .f32⟩
  | 16 => ⟨S4x8192x128, .f32⟩
  | 17 => ⟨S8x128, .f32⟩
  | 18 => ⟨S1024x3328, .f32⟩
  | 19 => ⟨S384x512, .f32⟩
  | 20 => ⟨S256x1024, .f32⟩
  | 21 => ⟨S1x1024, .f32⟩
  | 22 => ⟨S1x384, .f32⟩
  | 23 => ⟨S1x256, .f32⟩
  | 24 => ⟨S1x128, .f32⟩
  | 25 => ⟨S1x128, .f32⟩
  | 26 => ⟨S128, .f32⟩
  | 27 => ⟨S64, .f32⟩
  | 28 => ⟨S16, .f32⟩
  | 29 => ⟨S_, .f32⟩
  | 30 => ⟨S16, .f32⟩
  | 31 => ⟨S16, .f32⟩
  | 32 => ⟨S_, .f32⟩
  | 33 => ⟨S16, .f32⟩
  | 34 => ⟨S16, .f32⟩
  | 35 => ⟨S_, .f32⟩
  | 36 => ⟨S16, .f32⟩
  | 37 => ⟨S16, .f32⟩
  | 38 => ⟨S_, .f32⟩
  | 39 => ⟨S16, .f32⟩
  | 40 => ⟨S16, .f32⟩
  | 41 => ⟨S_, .f32⟩
  | 42 => ⟨S16, .f32⟩
  | 43 => ⟨S16, .f32⟩
  | 44 => ⟨S128x1, .f32⟩
  | 45 => ⟨S1x16, .f32⟩
  | 46 => ⟨S128x16, .f32⟩
  | 47 => ⟨S128x16, .f32⟩
  | 48 => ⟨S128x16, .f32⟩
  | 49 => ⟨S64x1, .f32⟩
  | 50 => ⟨S1x16, .f32⟩
  | 51 => ⟨S64x16, .f32⟩
  | 52 => ⟨S64x16, .f32⟩
  | 53 => ⟨S64x16, .f32⟩
  | 54 => ⟨S128x16, .f32⟩
  | 55 => ⟨S128x16, .f32⟩
  | 56 => ⟨S_, .f32⟩
  | 57 => ⟨S128x0, .f32⟩
  | 58 => ⟨S_, .f32⟩
  | 59 => ⟨S128x48, .f32⟩
  | 60 => ⟨S_, .f32⟩
  | 61 => ⟨S128x48, .f32⟩
  | 62 => ⟨S128x128, .f32⟩
  | 63 => ⟨S128x16, .f32⟩
  | 64 => ⟨S128x16, .f32⟩
  | 65 => ⟨S128x16, .f32⟩
  | 66 => ⟨S_, .f32⟩
  | 67 => ⟨S128x0, .f32⟩
  | 68 => ⟨S_, .f32⟩
  | 69 => ⟨S128x48, .f32⟩
  | 70 => ⟨S_, .f32⟩
  | 71 => ⟨S128x48, .f32⟩
  | 72 => ⟨S128x128, .f32⟩
  | 73 => ⟨S64x16, .f32⟩
  | 74 => ⟨S64x16, .f32⟩
  | 75 => ⟨S_, .f32⟩
  | 76 => ⟨S64x16, .f32⟩
  | 77 => ⟨S_, .f32⟩
  | 78 => ⟨S64x48, .f32⟩
  | 79 => ⟨S_, .f32⟩
  | 80 => ⟨S64x32, .f32⟩
  | 81 => ⟨S64x128, .f32⟩
  | 82 => ⟨S64x16, .f32⟩
  | 83 => ⟨S64x16, .f32⟩
  | 84 => ⟨S64x16, .f32⟩
  | 85 => ⟨S_, .f32⟩
  | 86 => ⟨S64x16, .f32⟩
  | 87 => ⟨S_, .f32⟩
  | 88 => ⟨S64x48, .f32⟩
  | 89 => ⟨S_, .f32⟩
  | 90 => ⟨S64x32, .f32⟩
  | 91 => ⟨S64x128, .f32⟩
  | 92 => ⟨S32x4x128, .f32⟩
  | 93 => ⟨S32x4x128, .f32⟩
  | 94 => ⟨S8, .f32⟩
  | 95 => ⟨S_, .f32⟩
  | 96 => ⟨S8, .f32⟩
  | 97 => ⟨S8, .f32⟩
  | 98 => ⟨S_, .f32⟩
  | 99 => ⟨S8, .f32⟩
  | 100 => ⟨S8, .f32⟩
  | 101 => ⟨S_, .f32⟩
  | 102 => ⟨S8, .f32⟩
  | 103 => ⟨S8, .f32⟩
  | 104 => ⟨S_, .f32⟩
  | 105 => ⟨S8, .f32⟩
  | 106 => ⟨S8, .f32⟩
  | 107 => ⟨S_, .f32⟩
  | 108 => ⟨S8, .f32⟩
  | 109 => ⟨S8, .f32⟩
  | 110 => ⟨S128x1, .f32⟩
  | 111 => ⟨S1x8, .f32⟩
  | 112 => ⟨S128x8, .f32⟩
  | 113 => ⟨S128x8, .f32⟩
  | 114 => ⟨S128x8, .f32⟩
  | 115 => ⟨S64x1, .f32⟩
  | 116 => ⟨S1x8, .f32⟩
  | 117 => ⟨S64x8, .f32⟩
  | 118 => ⟨S64x8, .f32⟩
  | 119 => ⟨S64x8, .f32⟩
  | 120 => ⟨S128x8, .f32⟩
  | 121 => ⟨S128x8, .f32⟩
  | 122 => ⟨S_, .f32⟩
  | 123 => ⟨S128x0, .f32⟩
  | 124 => ⟨S_, .f32⟩
  | 125 => ⟨S128x56, .f32⟩
  | 126 => ⟨S_, .f32⟩
  | 127 => ⟨S128x56, .f32⟩
  | _ => ⟨S1x8192x512, .f32⟩

abbrev hbmTy0_1 (i : Nat) : BufTy := match i % 128 with
  | 0 => ⟨S128x128, .f32⟩
  | 1 => ⟨S128x8, .f32⟩
  | 2 => ⟨S128x8, .f32⟩
  | 3 => ⟨S128x8, .f32⟩
  | 4 => ⟨S_, .f32⟩
  | 5 => ⟨S128x0, .f32⟩
  | 6 => ⟨S_, .f32⟩
  | 7 => ⟨S128x56, .f32⟩
  | 8 => ⟨S_, .f32⟩
  | 9 => ⟨S128x56, .f32⟩
  | 10 => ⟨S128x128, .f32⟩
  | 11 => ⟨S64x8, .f32⟩
  | 12 => ⟨S64x8, .f32⟩
  | 13 => ⟨S_, .f32⟩
  | 14 => ⟨S64x32, .f32⟩
  | 15 => ⟨S_, .f32⟩
  | 16 => ⟨S64x32, .f32⟩
  | 17 => ⟨S_, .f32⟩
  | 18 => ⟨S64x8, .f32⟩
  | 19 => ⟨S_, .f32⟩
  | 20 => ⟨S64x0, .f32⟩
  | 21 => ⟨S_, .f32⟩
  | 22 => ⟨S64x24, .f32⟩
  | 23 => ⟨S_, .f32⟩
  | 24 => ⟨S64x0, .f32⟩
  | 25 => ⟨S_, .f32⟩
  | 26 => ⟨S64x16, .f32⟩
  | 27 => ⟨S64x128, .f32⟩
  | 28 => ⟨S64x8, .f32⟩
  | 29 => ⟨S64x8, .f32⟩
  | 30 => ⟨S64x8, .f32⟩
  | 31 => ⟨S_, .f32⟩
  | 32 => ⟨S64x8, .f32⟩
  | 33 => ⟨S_, .f32⟩
  | 34 => ⟨S64x56, .f32⟩
  | 35 => ⟨S_, .f32⟩
  | 36 => ⟨S64x48, .f32⟩
  | 37 => ⟨S64x128, .f32⟩
  | 38 => ⟨S32x4x128, .f32⟩
  | 39 => ⟨S32x4x128, .f32⟩
  | 40 => ⟨S_, .f32⟩
  | 41 => ⟨S32x4x128, .f32⟩
  | 42 => ⟨S32x4x128, .f32⟩
  | 43 => ⟨S_, .f32⟩
  | 44 => ⟨S64x128, .f32⟩
  | 45 => ⟨S64x128, .f32⟩
  | 46 => ⟨S_, .f32⟩
  | 47 => ⟨S32x4x128, .f32⟩
  | 48 => ⟨S32x4x128, .f32⟩
  | 49 => ⟨S_, .f32⟩
  | 50 => ⟨S64x128, .f32⟩
  | 51 => ⟨S64x128, .f32⟩
  | 52 => ⟨S_, .f32⟩
  | 53 => ⟨S32x4x128, .f32⟩
  | 54 => ⟨S32x4x128, .f32⟩
  | 55 => ⟨S_, .f32⟩
  | 56 => ⟨S64x128, .f32⟩
  | 57 => ⟨S64x128, .f32⟩
  | 58 => ⟨S_, .f32⟩
  | 59 => ⟨S32x4x128, .f32⟩
  | 60 => ⟨S32x4x128, .f32⟩
  | 61 => ⟨S_, .f32⟩
  | 62 => ⟨S64x128, .f32⟩
  | 63 => ⟨S64x128, .f32⟩
  | 64 => ⟨S_, .f32⟩
  | 65 => ⟨S32x4x128, .f32⟩
  | 66 => ⟨S32x4x128, .f32⟩
  | 67 => ⟨S_, .f32⟩
  | 68 => ⟨S64x128, .f32⟩
  | 69 => ⟨S64x128, .f32⟩
  | 70 => ⟨S_, .f32⟩
  | 71 => ⟨S32x4x128, .f32⟩
  | 72 => ⟨S32x4x128, .f32⟩
  | 73 => ⟨S_, .f32⟩
  | 74 => ⟨S64x128, .f32⟩
  | 75 => ⟨S64x128, .f32⟩
  | 76 => ⟨S_, .f32⟩
  | 77 => ⟨S32x4x128, .f32⟩
  | 78 => ⟨S32x4x128, .f32⟩
  | 79 => ⟨S_, .f32⟩
  | 80 => ⟨S64x128, .f32⟩
  | 81 => ⟨S64x128, .f32⟩
  | 82 => ⟨S_, .f32⟩
  | 83 => ⟨S32x4x128, .f32⟩
  | 84 => ⟨S32x4x128, .f32⟩
  | 85 => ⟨S_, .f32⟩
  | 86 => ⟨S64x128, .f32⟩
  | 87 => ⟨S64x128, .f32⟩
  | 88 => ⟨S1x1x64, .f32⟩
  | 89 => ⟨S_, .f32⟩
  | 90 => ⟨S1x1x0, .f32⟩
  | 91 => ⟨S1x1x16, .f32⟩
  | 92 => ⟨S_, .f32⟩
  | 93 => ⟨S1x1x0, .f32⟩
  | 94 => ⟨S1x1x16, .f32⟩
  | 95 => ⟨S_, .f32⟩
  | 96 => ⟨S1x1x32, .f32⟩
  | 97 => ⟨S1x1x16, .f32⟩
  | 98 => ⟨S_, .f32⟩
  | 99 => ⟨S1x1x0, .f32⟩
  | 100 => ⟨S1x1x16, .f32⟩
  | 101 => ⟨S_, .f32⟩
  | 102 => ⟨S1x1x32, .f32⟩
  | 103 => ⟨S1x1x128, .f32⟩
  | 104 => ⟨S1x128, .f32⟩
  | 105 => ⟨S1x1x64, .f32⟩
  | 106 => ⟨S_, .f32⟩
  | 107 => ⟨S1x1x0, .f32⟩
  | 108 => ⟨S1x1x16, .f32⟩
  | 109 => ⟨S_, .f32⟩
  | 110 => ⟨S1x1x0, .f32⟩
  | 111 => ⟨S1x1x16, .f32⟩
  | 112 => ⟨S_, .f32⟩
  | 113 => ⟨S1x1x32, .f32⟩
  | 114 => ⟨S1x1x16, .f32⟩
  | 115 => ⟨S_, .f32⟩
  | 116 => ⟨S1x1x0, .f32⟩
  | 117 => ⟨S1x1x16, .f32⟩
  | 118 => ⟨S_, .f32⟩
  | 119 => ⟨S1x1x32, .f32⟩
  | 120 => ⟨S1x1x128, .f32⟩
  | 121 => ⟨S1x128, .f32⟩
  | 122 => ⟨S8192x512, .f32⟩
  | 123 => ⟨S8192x8x64, .f32⟩
  | 124 => ⟨S_, .f32⟩
  | 125 => ⟨S8192x8x0, .f32⟩
  | 126 => ⟨S8192x8x16, .f32⟩
  | 127 => ⟨S_, .f32⟩
  | _ => ⟨S1x8192x512, .f32⟩

abbrev hbmTy0_2 (i : Nat) : BufTy := match i % 128 with
  | 0 => ⟨S8192x8x0, .f32⟩
  | 1 => ⟨S8192x8x16, .f32⟩
  | 2 => ⟨S_, .f32⟩
  | 3 => ⟨S8192x8x32, .f32⟩
  | 4 => ⟨S8192x8x16, .f32⟩
  | 5 => ⟨S_, .f32⟩
  | 6 => ⟨S8192x8x0, .f32⟩
  | 7 => ⟨S8192x8x16, .f32⟩
  | 8 => ⟨S_, .f32⟩
  | 9 => ⟨S8192x8x32, .f32⟩
  | 10 => ⟨S8192x8x128, .f32⟩
  | 11 => ⟨S8192x1024, .f32⟩
  | 12 => ⟨S8192x128, .f32⟩
  | 13 => ⟨S8192x2x64, .f32⟩
  | 14 => ⟨S_, .f32⟩
  | 15 => ⟨S8192x2x0, .f32⟩
  | 16 => ⟨S8192x2x16, .f32⟩
  | 17 => ⟨S_, .f32⟩
  | 18 => ⟨S8192x2x0, .f32⟩
  | 19 => ⟨S8192x2x16, .f32⟩
  | 20 => ⟨S_, .f32⟩
  | 21 => ⟨S8192x2x32, .f32⟩
  | 22 => ⟨S8192x2x16, .f32⟩
  | 23 => ⟨S_, .f32⟩
  | 24 => ⟨S8192x2x0, .f32⟩
  | 25 => ⟨S8192x2x16, .f32⟩
  | 26 => ⟨S_, .f32⟩
  | 27 => ⟨S8192x2x32, .f32⟩
  | 28 => ⟨S8192x2x128, .f32⟩
  | 29 => ⟨S8192x256, .f32⟩
  | 30 => ⟨S8192x1920, .f32⟩
  | 31 => ⟨S8x8192x64, .f32⟩
  | 32 => ⟨S8x8192x1x64, .f32⟩
  | 33 => ⟨S_, .f32⟩
  | 34 => ⟨S8x8192x1x0, .f32⟩
  | 35 => ⟨S8x8192x1x16, .f32⟩
  | 36 => ⟨S_, .f32⟩
  | 37 => ⟨S8x8192x1x0, .f32⟩
  | 38 => ⟨S8x8192x1x16, .f32⟩
  | 39 => ⟨S_, .f32⟩
  | 40 => ⟨S8x8192x1x32, .f32⟩
  | 41 => ⟨S8x8192x1x16, .f32⟩
  | 42 => ⟨S_, .f32⟩
  | 43 => ⟨S8x8192x1x0, .f32⟩
  | 44 => ⟨S8x8192x1x16, .f32⟩
  | 45 => ⟨S_, .f32⟩
  | 46 => ⟨S8x8192x1x32, .f32⟩
  | 47 => ⟨S8x8192x1x128, .f32⟩
  | 48 => ⟨S8x8192x128, .f32⟩
  | 49 => ⟨S_, .f32⟩
  | 50 => ⟨S8x8192x128, .f32⟩
  | 51 => ⟨S8x8192x128, .f32⟩
  | 52 => ⟨S8x8192x64, .f32⟩
  | 53 => ⟨S8x8192x1x64, .f32⟩
  | 54 => ⟨S_, .f32⟩
  | 55 => ⟨S8x8192x1x0, .f32⟩
  | 56 => ⟨S8x8192x1x16, .f32⟩
  | 57 => ⟨S_, .f32⟩
  | 58 => ⟨S8x8192x1x0, .f32⟩
  | 59 => ⟨S8x8192x1x16, .f32⟩
  | 60 => ⟨S_, .f32⟩
  | 61 => ⟨S8x8192x1x32, .f32⟩
  | 62 => ⟨S8x8192x1x16, .f32⟩
  | 63 => ⟨S_, .f32⟩
  | 64 => ⟨S8x8192x1x0, .f32⟩
  | 65 => ⟨S8x8192x1x16, .f32⟩
  | 66 => ⟨S_, .f32⟩
  | 67 => ⟨S8x8192x1x32, .f32⟩
  | 68 => ⟨S8x8192x1x128, .f32⟩
  | 69 => ⟨S8x8192x128, .f32⟩
  | 70 => ⟨S_, .f32⟩
  | 71 => ⟨S8x8192x128, .f32⟩
  | 72 => ⟨S8x8192x128, .f32⟩
  | 73 => ⟨S8x8192x64, .f32⟩
  | 74 => ⟨S8x8192x1x64, .f32⟩
  | 75 => ⟨S_, .f32⟩
  | 76 => ⟨S8x8192x1x0, .f32⟩
  | 77 => ⟨S8x8192x1x64, .f32⟩
  | 78 => ⟨S_, .f32⟩
  | 79 => ⟨S8x8192x1x64, .f32⟩
  | 80 => ⟨S8x8192x1x128, .f32⟩
  | 81 => ⟨S8x8192x128, .f32⟩
  | 82 => ⟨S8192x1024, .bf16⟩
  | 83 => ⟨S1024x3328, .bf16⟩
  | 84 => ⟨S384x512, .bf16⟩
  | 85 => ⟨S256x1024, .bf16⟩
  | 86 => ⟨S8192x1024, .f32⟩
  | 87 => ⟨S8192x3328, .bf16⟩
  | 88 => ⟨S8192x512, .bf16⟩
  | 89 => ⟨S8192x1024, .bf16⟩
  | 90 => ⟨S16x1024, .f32⟩
  | 91 => ⟨S8192x1024, .bf16⟩
  | 92 => ⟨S8192x8x128, .bf16⟩
  | 93 => ⟨S8192x8x128, .f32⟩
  | 94 => ⟨S8192x8x16, .f32⟩
  | 95 => ⟨S8192x8x16, .f32⟩
  | 96 => ⟨S8192x8x16, .f32⟩
  | 97 => ⟨S8192x8x16, .f32⟩
  | 98 => ⟨S8192x8x64, .f32⟩
  | 99 => ⟨S1x8192x512, .f32⟩
  | 100 => ⟨S8192x256, .bf16⟩
  | 101 => ⟨S8192x2x128, .bf16⟩
  | 102 => ⟨S8192x2x128, .f32⟩
  | 103 => ⟨S8192x2x16, .f32⟩
  | 104 => ⟨S8192x2x16, .f32⟩
  | 105 => ⟨S8192x2x16, .f32⟩
  | 106 => ⟨S8192x2x16, .f32⟩
  | 107 => ⟨S8192x2x64, .f32⟩
  | 108 => ⟨S1x8192x128, .f32⟩
  | 109 => ⟨S8192x256, .bf16⟩
  | 110 => ⟨S8192x2x128, .bf16⟩
  | 111 => ⟨S8192x2x128, .f32⟩
  | 112 => ⟨S8192x2x64, .f32⟩
  | 113 => ⟨S1x8192x128, .f32⟩
  | 114 => ⟨S1x64, .f32⟩
  | 115 => ⟨S1x64, .f32⟩
  | _ => ⟨S1x8192x512, .f32⟩

abbrev hbmTy (i : Nat) : BufTy := match i / 128 with
  | 0 => hbmTy0_0 i
  | 1 => hbmTy0_1 i
  | 2 => hbmTy0_2 i
  | _ => ⟨S1x8192x512, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1920, .f32⟩
  | .local _ .vmem, ⟨5, _⟩ => ⟨S256x1920, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x1024, .bf16⟩
  | .local _ .vmem, ⟨11, _⟩ => ⟨S256x1024, .bf16⟩
  | .local _ .vmem, ⟨12, _⟩ => ⟨S8x256x128, .f32⟩
  | .local _ .vmem, ⟨13, _⟩ => ⟨S8x256x128, .f32⟩
  | .local _ .vmem, ⟨14, _⟩ => ⟨S8x256x128, .f32⟩
  | .local _ .vmem, ⟨15, _⟩ => ⟨S8x256x128, .f32⟩
  | .local _ .vmem, ⟨16, _⟩ => ⟨S8x256x128, .f32⟩
  | .local _ .vmem, ⟨17, _⟩ => ⟨S8x256x128, .f32⟩
  | .local _ .vmem, ⟨18, _⟩ => ⟨S4x256x128, .f32⟩
  | .local _ .vmem, ⟨19, _⟩ => ⟨S4x256x128, .f32⟩
  | .local _ .vmem, ⟨20, _⟩ => ⟨S4x256x128, .f32⟩
  | .local _ .vmem, ⟨21, _⟩ => ⟨S4x256x128, .f32⟩
  | .local _ .vmem, ⟨22, _⟩ => ⟨S4x256x128, .f32⟩
  | .local _ .vmem, ⟨23, _⟩ => ⟨S4x256x128, .f32⟩
  | .local _ .vmem, ⟨24, _⟩ => ⟨S8x128, .f32⟩
  | .local _ .vmem, ⟨25, _⟩ => ⟨S1x4x128, .f32⟩
  | .local _ .vmem, ⟨26, _⟩ => ⟨S1x4x128, .f32⟩
  | .local _ .vmem, ⟨27, _⟩ => ⟨S64x128, .f32⟩
  | .local _ .vmem, ⟨28, _⟩ => ⟨S1x4x128, .f32⟩
  | .local _ .vmem, ⟨29, _⟩ => ⟨S1x4x128, .f32⟩
  | .local _ .vmem, ⟨30, _⟩ => ⟨S64x128, .f32⟩
  | .local _ .vmem, ⟨31, _⟩ => ⟨S1x4x128, .f32⟩
  | .local _ .vmem, ⟨32, _⟩ => ⟨S1x4x128, .f32⟩
  | .local _ .vmem, ⟨33, _⟩ => ⟨S64x128, .f32⟩
  | .local _ .vmem, ⟨34, _⟩ => ⟨S1x4x128, .f32⟩
  | .local _ .vmem, ⟨35, _⟩ => ⟨S1x4x128, .f32⟩
  | .local _ .vmem, ⟨36, _⟩ => ⟨S64x128, .f32⟩
  | .local _ .vmem, ⟨37, _⟩ => ⟨S1x4x128, .f32⟩
  | .local _ .vmem, ⟨38, _⟩ => ⟨S1x4x128, .f32⟩
  | .local _ .vmem, ⟨39, _⟩ => ⟨S64x128, .f32⟩
  | .local _ .vmem, ⟨40, _⟩ => ⟨S1x4x128, .f32⟩
  | .local _ .vmem, ⟨41, _⟩ => ⟨S1x4x128, .f32⟩
  | .local _ .vmem, ⟨42, _⟩ => ⟨S64x128, .f32⟩
  | .local _ .vmem, ⟨43, _⟩ => ⟨S1x4x128, .f32⟩
  | .local _ .vmem, ⟨44, _⟩ => ⟨S1x4x128, .f32⟩
  | .local _ .vmem, ⟨45, _⟩ => ⟨S64x128, .f32⟩
  | .local _ .vmem, ⟨46, _⟩ => ⟨S1x4x128, .f32⟩
  | .local _ .vmem, ⟨47, _⟩ => ⟨S1x4x128, .f32⟩
  | .local _ .vmem, ⟨48, _⟩ => ⟨S64x128, .f32⟩
  | .local _ .vmem, ⟨49, _⟩ => ⟨S1024x3328, .bf16⟩
  | .local _ .vmem, ⟨50, _⟩ => ⟨S384x512, .bf16⟩
  | .local _ .vmem, ⟨51, _⟩ => ⟨S256x1024, .bf16⟩
  | .local _ .vmem, ⟨52, _⟩ => ⟨S1x1024, .f32⟩
  | .local _ .vmem, ⟨53, _⟩ => ⟨S1x128, .f32⟩
  | .local _ .vmem, ⟨54, _⟩ => ⟨S1x128, .f32⟩
  | .local _ .vmem, ⟨55, _⟩ => ⟨S1x384, .f32⟩
  | .local _ .vmem, ⟨56, _⟩ => ⟨S1x256, .f32⟩
  | .local _ .vmem, ⟨57, _⟩ => ⟨S1x128, .f32⟩
  | .local _ .vmem, ⟨58, _⟩ => ⟨S1x128, .f32⟩
  | .local _ .vmem, ⟨59, _⟩ => ⟨S256x1024, .f32⟩
  | .local _ .vmem, ⟨60, _⟩ => ⟨S256x1024, .f32⟩
  | .local _ .vmem, ⟨61, _⟩ => ⟨S256x3328, .bf16⟩
  | .local _ .vmem, ⟨62, _⟩ => ⟨S256x3328, .bf16⟩
  | .local _ .vmem, ⟨63, _⟩ => ⟨S256x512, .bf16⟩
  | .local _ .vmem, ⟨64, _⟩ => ⟨S256x512, .bf16⟩
  | .local _ .vmem, ⟨65, _⟩ => ⟨S256x1024, .bf16⟩
  | .local _ .vmem, ⟨66, _⟩ => ⟨S256x1024, .bf16⟩
  | .local _ .vmem, ⟨67, _⟩ => ⟨S16x1024, .f32⟩
  | _, _ => ⟨S1x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_cst : Ref sig .tc := ⟨.hbm, 29, rfl⟩
abbrev main_v3 : Ref sig .tc := ⟨.hbm, 30, rfl⟩
abbrev main_v4 : Ref sig .tc := ⟨.hbm, 31, rfl⟩
abbrev main_cst_0 : Ref sig .tc := ⟨.hbm, 32, rfl⟩
abbrev main_v5 : Ref sig .tc := ⟨.hbm, 33, rfl⟩
abbrev main_v6 : Ref sig .tc := ⟨.hbm, 34, rfl⟩
abbrev main_cst_1 : Ref sig .tc := ⟨.hbm, 35, rfl⟩
abbrev main_v7 : Ref sig .tc := ⟨.hbm, 36, rfl⟩
abbrev main_v8 : Ref sig .tc := ⟨.hbm, 37, rfl⟩
abbrev main_cst_2 : Ref sig .tc := ⟨.hbm, 38, rfl⟩
abbrev main_v9 : Ref sig .tc := ⟨.hbm, 39, rfl⟩
abbrev main_v10 : Ref sig .tc := ⟨.hbm, 40, rfl⟩
abbrev main_cst_3 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_cst_4 : Ref sig .tc := ⟨.hbm, 56, rfl⟩
abbrev main_v25 : Ref sig .tc := ⟨.hbm, 57, rfl⟩
abbrev main_cst_5 : Ref sig .tc := ⟨.hbm, 58, rfl⟩
abbrev main_v26 : Ref sig .tc := ⟨.hbm, 59, rfl⟩
abbrev main_cst_6 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_cst_7 : Ref sig .tc := ⟨.hbm, 66, rfl⟩
abbrev main_v32 : Ref sig .tc := ⟨.hbm, 67, rfl⟩
abbrev main_cst_8 : Ref sig .tc := ⟨.hbm, 68, rfl⟩
abbrev main_v33 : Ref sig .tc := ⟨.hbm, 69, rfl⟩
abbrev main_cst_9 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_10 : Ref sig .tc := ⟨.hbm, 75, rfl⟩
abbrev main_v38 : Ref sig .tc := ⟨.hbm, 76, rfl⟩
abbrev main_cst_11 : Ref sig .tc := ⟨.hbm, 77, rfl⟩
abbrev main_v39 : Ref sig .tc := ⟨.hbm, 78, rfl⟩
abbrev main_cst_12 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_cst_13 : Ref sig .tc := ⟨.hbm, 85, rfl⟩
abbrev main_v45 : Ref sig .tc := ⟨.hbm, 86, rfl⟩
abbrev main_cst_14 : Ref sig .tc := ⟨.hbm, 87, rfl⟩
abbrev main_v46 : Ref sig .tc := ⟨.hbm, 88, rfl⟩
abbrev main_cst_15 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_cst_16 : Ref sig .tc := ⟨.hbm, 95, rfl⟩
abbrev main_v52 : Ref sig .tc := ⟨.hbm, 96, rfl⟩
abbrev main_v53 : Ref sig .tc := ⟨.hbm, 97, rfl⟩
abbrev main_cst_17 : Ref sig .tc := ⟨.hbm, 98, rfl⟩
abbrev main_v54 : Ref sig .tc := ⟨.hbm, 99, rfl⟩
abbrev main_v55 : Ref sig .tc := ⟨.hbm, 100, rfl⟩
abbrev main_cst_18 : Ref sig .tc := ⟨.hbm, 101, rfl⟩
abbrev main_v56 : Ref sig .tc := ⟨.hbm, 102, rfl⟩
abbrev main_v57 : Ref sig .tc := ⟨.hbm, 103, rfl⟩
abbrev main_cst_19 : Ref sig .tc := ⟨.hbm, 104, rfl⟩
abbrev main_v58 : Ref sig .tc := ⟨.hbm, 105, rfl⟩
abbrev main_v59 : Ref sig .tc := ⟨.hbm, 106, rfl⟩
abbrev main_cst_20 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_cst_21 : Ref sig .tc := ⟨.hbm, 122, rfl⟩
abbrev main_v74 : Ref sig .tc := ⟨.hbm, 123, rfl⟩
abbrev main_cst_22 : Ref sig .tc := ⟨.hbm, 124, rfl⟩
abbrev main_v75 : Ref sig .tc := ⟨.hbm, 125, rfl⟩
abbrev main_cst_23 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_cst_24 : Ref sig .tc := ⟨.hbm, 132, rfl⟩
abbrev main_v81 : Ref sig .tc := ⟨.hbm, 133, rfl⟩
abbrev main_cst_25 : Ref sig .tc := ⟨.hbm, 134, rfl⟩
abbrev main_v82 : Ref sig .tc := ⟨.hbm, 135, rfl⟩
abbrev main_cst_26 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_cst_27 : Ref sig .tc := ⟨.hbm, 141, rfl⟩
abbrev main_v87 : Ref sig .tc := ⟨.hbm, 142, rfl⟩
abbrev main_cst_28 : Ref sig .tc := ⟨.hbm, 143, rfl⟩
abbrev main_v88 : Ref sig .tc := ⟨.hbm, 144, rfl⟩
abbrev main_cst_29 : Ref sig .tc := ⟨.hbm, 145, rfl⟩
abbrev main_v89 : Ref sig .tc := ⟨.hbm, 146, rfl⟩
abbrev main_cst_30 : Ref sig .tc := ⟨.hbm, 147, rfl⟩
abbrev main_v90 : Ref sig .tc := ⟨.hbm, 148, rfl⟩
abbrev main_cst_31 : Ref sig .tc := ⟨.hbm, 149, rfl⟩
abbrev main_v91 : Ref sig .tc := ⟨.hbm, 150, rfl⟩
abbrev main_cst_32 : Ref sig .tc := ⟨.hbm, 151, rfl⟩
abbrev main_v92 : Ref sig .tc := ⟨.hbm, 152, rfl⟩
abbrev main_cst_33 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_cst_34 : Ref sig .tc := ⟨.hbm, 159, rfl⟩
abbrev main_v98 : Ref sig .tc := ⟨.hbm, 160, rfl⟩
abbrev main_cst_35 : Ref sig .tc := ⟨.hbm, 161, rfl⟩
abbrev main_v99 : Ref sig .tc := ⟨.hbm, 162, rfl⟩
abbrev main_cst_36 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_cst_37 : Ref sig .tc := ⟨.hbm, 168, rfl⟩
abbrev main_v104 : Ref sig .tc := ⟨.hbm, 169, rfl⟩
abbrev main_v105 : Ref sig .tc := ⟨.hbm, 170, rfl⟩
abbrev main_cst_38 : Ref sig .tc := ⟨.hbm, 171, rfl⟩
abbrev main_v106 : Ref sig .tc := ⟨.hbm, 172, rfl⟩
abbrev main_v107 : Ref sig .tc := ⟨.hbm, 173, rfl⟩
abbrev main_cst_39 : Ref sig .tc := ⟨.hbm, 174, rfl⟩
abbrev main_v108 : Ref sig .tc := ⟨.hbm, 175, rfl⟩
abbrev main_v109 : Ref sig .tc := ⟨.hbm, 176, rfl⟩
abbrev main_cst_40 : Ref sig .tc := ⟨.hbm, 177, rfl⟩
abbrev main_v110 : Ref sig .tc := ⟨.hbm, 178, rfl⟩
abbrev main_v111 : Ref sig .tc := ⟨.hbm, 179, rfl⟩
abbrev main_cst_41 : Ref sig .tc := ⟨.hbm, 180, rfl⟩
abbrev main_v112 : Ref sig .tc := ⟨.hbm, 181, rfl⟩
abbrev main_v113 : Ref sig .tc := ⟨.hbm, 182, rfl⟩
abbrev main_cst_42 : Ref sig .tc := ⟨.hbm, 183, rfl⟩
abbrev main_v114 : Ref sig .tc := ⟨.hbm, 184, rfl⟩
abbrev main_v115 : Ref sig .tc := ⟨.hbm, 185, rfl⟩
abbrev main_cst_43 : Ref sig .tc := ⟨.hbm, 186, rfl⟩
abbrev main_v116 : Ref sig .tc := ⟨.hbm, 187, rfl⟩
abbrev main_v117 : Ref sig .tc := ⟨.hbm, 188, rfl⟩
abbrev main_cst_44 : Ref sig .tc := ⟨.hbm, 189, rfl⟩
abbrev main_v118 : Ref sig .tc := ⟨.hbm, 190, rfl⟩
abbrev main_v119 : Ref sig .tc := ⟨.hbm, 191, rfl⟩
abbrev main_cst_45 : Ref sig .tc := ⟨.hbm, 192, rfl⟩
abbrev main_v120 : Ref sig .tc := ⟨.hbm, 193, rfl⟩
abbrev main_v121 : Ref sig .tc := ⟨.hbm, 194, rfl⟩
abbrev main_cst_46 : Ref sig .tc := ⟨.hbm, 195, rfl⟩
abbrev main_v122 : Ref sig .tc := ⟨.hbm, 196, rfl⟩
abbrev main_v123 : Ref sig .tc := ⟨.hbm, 197, rfl⟩
abbrev main_cst_47 : Ref sig .tc := ⟨.hbm, 198, rfl⟩
abbrev main_v124 : Ref sig .tc := ⟨.hbm, 199, rfl⟩
abbrev main_v125 : Ref sig .tc := ⟨.hbm, 200, rfl⟩
abbrev main_cst_48 : Ref sig .tc := ⟨.hbm, 201, rfl⟩
abbrev main_v126 : Ref sig .tc := ⟨.hbm, 202, rfl⟩
abbrev main_v127 : Ref sig .tc := ⟨.hbm, 203, rfl⟩
abbrev main_cst_49 : Ref sig .tc := ⟨.hbm, 204, rfl⟩
abbrev main_v128 : Ref sig .tc := ⟨.hbm, 205, rfl⟩
abbrev main_v129 : Ref sig .tc := ⟨.hbm, 206, rfl⟩
abbrev main_cst_50 : Ref sig .tc := ⟨.hbm, 207, rfl⟩
abbrev main_v130 : Ref sig .tc := ⟨.hbm, 208, rfl⟩
abbrev main_v131 : Ref sig .tc := ⟨.hbm, 209, rfl⟩
abbrev main_cst_51 : Ref sig .tc := ⟨.hbm, 210, rfl⟩
abbrev main_v132 : Ref sig .tc := ⟨.hbm, 211, rfl⟩
abbrev main_v133 : Ref sig .tc := ⟨.hbm, 212, rfl⟩
abbrev main_cst_52 : Ref sig .tc := ⟨.hbm, 213, rfl⟩
abbrev main_v134 : Ref sig .tc := ⟨.hbm, 214, rfl⟩
abbrev main_v135 : Ref sig .tc := ⟨.hbm, 215, rfl⟩
abbrev main_v136 : Ref sig .tc := ⟨.hbm, 216, rfl⟩
abbrev main_cst_53 : Ref sig .tc := ⟨.hbm, 217, rfl⟩
abbrev main_v137 : Ref sig .tc := ⟨.hbm, 218, rfl⟩
abbrev main_v138 : Ref sig .tc := ⟨.hbm, 219, rfl⟩
abbrev main_cst_54 : Ref sig .tc := ⟨.hbm, 220, rfl⟩
abbrev main_v139 : Ref sig .tc := ⟨.hbm, 221, rfl⟩
abbrev main_v140 : Ref sig .tc := ⟨.hbm, 222, rfl⟩
abbrev main_cst_55 : Ref sig .tc := ⟨.hbm, 223, rfl⟩
abbrev main_v141 : Ref sig .tc := ⟨.hbm, 224, rfl⟩
abbrev main_v142 : Ref sig .tc := ⟨.hbm, 225, rfl⟩
abbrev main_cst_56 : Ref sig .tc := ⟨.hbm, 226, rfl⟩
abbrev main_v143 : Ref sig .tc := ⟨.hbm, 227, rfl⟩
abbrev main_v144 : Ref sig .tc := ⟨.hbm, 228, rfl⟩
abbrev main_cst_57 : Ref sig .tc := ⟨.hbm, 229, rfl⟩
abbrev main_v145 : Ref sig .tc := ⟨.hbm, 230, rfl⟩
abbrev main_v146 : Ref sig .tc := ⟨.hbm, 231, rfl⟩
abbrev main_v147 : Ref sig .tc := ⟨.hbm, 232, rfl⟩
abbrev main_v148 : Ref sig .tc := ⟨.hbm, 233, rfl⟩
abbrev main_cst_58 : Ref sig .tc := ⟨.hbm, 234, rfl⟩
abbrev main_v149 : Ref sig .tc := ⟨.hbm, 235, rfl⟩
abbrev main_v150 : Ref sig .tc := ⟨.hbm, 236, rfl⟩
abbrev main_cst_59 : Ref sig .tc := ⟨.hbm, 237, rfl⟩
abbrev main_v151 : Ref sig .tc := ⟨.hbm, 238, rfl⟩
abbrev main_v152 : Ref sig .tc := ⟨.hbm, 239, rfl⟩
abbrev main_cst_60 : Ref sig .tc := ⟨.hbm, 240, rfl⟩
abbrev main_v153 : Ref sig .tc := ⟨.hbm, 241, rfl⟩
abbrev main_v154 : Ref sig .tc := ⟨.hbm, 242, rfl⟩
abbrev main_cst_61 : Ref sig .tc := ⟨.hbm, 243, rfl⟩
abbrev main_v155 : Ref sig .tc := ⟨.hbm, 244, rfl⟩
abbrev main_v156 : Ref sig .tc := ⟨.hbm, 245, rfl⟩
abbrev main_cst_62 : Ref sig .tc := ⟨.hbm, 246, rfl⟩
abbrev main_v157 : Ref sig .tc := ⟨.hbm, 247, rfl⟩
abbrev main_v158 : Ref sig .tc := ⟨.hbm, 248, rfl⟩
abbrev main_v159 : Ref sig .tc := ⟨.hbm, 249, rfl⟩
abbrev main_v160 : Ref sig .tc := ⟨.hbm, 250, rfl⟩
abbrev main_v161 : Ref sig .tc := ⟨.hbm, 251, rfl⟩
abbrev main_cst_63 : Ref sig .tc := ⟨.hbm, 252, rfl⟩
abbrev main_v162 : Ref sig .tc := ⟨.hbm, 253, rfl⟩
abbrev main_v163 : Ref sig .tc := ⟨.hbm, 254, rfl⟩
abbrev main_cst_64 : Ref sig .tc := ⟨.hbm, 255, rfl⟩
abbrev main_v164 : Ref sig .tc := ⟨.hbm, 256, rfl⟩
abbrev main_v165 : Ref sig .tc := ⟨.hbm, 257, rfl⟩
abbrev main_cst_65 : Ref sig .tc := ⟨.hbm, 258, rfl⟩
abbrev main_v166 : Ref sig .tc := ⟨.hbm, 259, rfl⟩
abbrev main_v167 : Ref sig .tc := ⟨.hbm, 260, rfl⟩
abbrev main_cst_66 : Ref sig .tc := ⟨.hbm, 261, rfl⟩
abbrev main_v168 : Ref sig .tc := ⟨.hbm, 262, rfl⟩
abbrev main_v169 : Ref sig .tc := ⟨.hbm, 263, rfl⟩
abbrev main_cst_67 : Ref sig .tc := ⟨.hbm, 264, rfl⟩
abbrev main_v170 : Ref sig .tc := ⟨.hbm, 265, rfl⟩
abbrev main_v171 : Ref sig .tc := ⟨.hbm, 266, rfl⟩
abbrev main_v172 : Ref sig .tc := ⟨.hbm, 267, rfl⟩
abbrev main_v173 : Ref sig .tc := ⟨.hbm, 268, rfl⟩
abbrev main_v174 : Ref sig .tc := ⟨.hbm, 269, rfl⟩
abbrev main_cst_68 : Ref sig .tc := ⟨.hbm, 270, rfl⟩
abbrev main_v175 : Ref sig .tc := ⟨.hbm, 271, rfl⟩
abbrev main_v176 : Ref sig .tc := ⟨.hbm, 272, rfl⟩
abbrev main_cst_69 : Ref sig .tc := ⟨.hbm, 273, rfl⟩
abbrev main_v177 : Ref sig .tc := ⟨.hbm, 274, rfl⟩
abbrev main_v178 : Ref sig .tc := ⟨.hbm, 275, rfl⟩
abbrev main_cst_70 : Ref sig .tc := ⟨.hbm, 276, rfl⟩
abbrev main_v179 : Ref sig .tc := ⟨.hbm, 277, rfl⟩
abbrev main_v180 : Ref sig .tc := ⟨.hbm, 278, rfl⟩
abbrev main_cst_71 : Ref sig .tc := ⟨.hbm, 279, rfl⟩
abbrev main_v181 : Ref sig .tc := ⟨.hbm, 280, rfl⟩
abbrev main_v182 : Ref sig .tc := ⟨.hbm, 281, rfl⟩
abbrev main_cst_72 : Ref sig .tc := ⟨.hbm, 282, rfl⟩
abbrev main_v183 : Ref sig .tc := ⟨.hbm, 283, rfl⟩
abbrev main_v184 : Ref sig .tc := ⟨.hbm, 284, rfl⟩
abbrev main_v185 : Ref sig .tc := ⟨.hbm, 285, rfl⟩
abbrev main_v186 : Ref sig .tc := ⟨.hbm, 286, rfl⟩
abbrev main_v187 : Ref sig .tc := ⟨.hbm, 287, rfl⟩
abbrev main_v188 : Ref sig .tc := ⟨.hbm, 288, rfl⟩
abbrev main_cst_73 : Ref sig .tc := ⟨.hbm, 289, rfl⟩
abbrev main_v189 : Ref sig .tc := ⟨.hbm, 290, rfl⟩
abbrev main_v190 : Ref sig .tc := ⟨.hbm, 291, rfl⟩
abbrev main_cst_74 : Ref sig .tc := ⟨.hbm, 292, rfl⟩
abbrev main_v191 : Ref sig .tc := ⟨.hbm, 293, rfl⟩
abbrev main_v192 : Ref sig .tc := ⟨.hbm, 294, rfl⟩
abbrev main_cst_75 : Ref sig .tc := ⟨.hbm, 295, rfl⟩
abbrev main_v193 : Ref sig .tc := ⟨.hbm, 296, rfl⟩
abbrev main_v194 : Ref sig .tc := ⟨.hbm, 297, rfl⟩
abbrev main_cst_76 : Ref sig .tc := ⟨.hbm, 298, rfl⟩
abbrev main_v195 : Ref sig .tc := ⟨.hbm, 299, rfl⟩
abbrev main_v196 : Ref sig .tc := ⟨.hbm, 300, rfl⟩
abbrev main_cst_77 : Ref sig .tc := ⟨.hbm, 301, rfl⟩
abbrev main_v197 : Ref sig .tc := ⟨.hbm, 302, rfl⟩
abbrev main_v198 : Ref sig .tc := ⟨.hbm, 303, rfl⟩
abbrev main_v199 : Ref sig .tc := ⟨.hbm, 304, rfl⟩
abbrev main_cst_78 : Ref sig .tc := ⟨.hbm, 305, rfl⟩
abbrev main_v200 : Ref sig .tc := ⟨.hbm, 306, rfl⟩
abbrev main_v201 : Ref sig .tc := ⟨.hbm, 307, rfl⟩
abbrev main_v202 : Ref sig .tc := ⟨.hbm, 308, rfl⟩
abbrev main_v203 : Ref sig .tc := ⟨.hbm, 309, rfl⟩
abbrev main_cst_79 : Ref sig .tc := ⟨.hbm, 310, rfl⟩
abbrev main_v204 : Ref sig .tc := ⟨.hbm, 311, rfl⟩
abbrev main_v205 : Ref sig .tc := ⟨.hbm, 312, rfl⟩
abbrev main_cst_80 : Ref sig .tc := ⟨.hbm, 313, rfl⟩
abbrev main_v206 : Ref sig .tc := ⟨.hbm, 314, rfl⟩
abbrev main_v207 : Ref sig .tc := ⟨.hbm, 315, rfl⟩
abbrev main_cst_81 : Ref sig .tc := ⟨.hbm, 316, rfl⟩
abbrev main_v208 : Ref sig .tc := ⟨.hbm, 317, rfl⟩
abbrev main_v209 : Ref sig .tc := ⟨.hbm, 318, rfl⟩
abbrev main_cst_82 : Ref sig .tc := ⟨.hbm, 319, rfl⟩
abbrev main_v210 : Ref sig .tc := ⟨.hbm, 320, rfl⟩
abbrev main_v211 : Ref sig .tc := ⟨.hbm, 321, rfl⟩
abbrev main_cst_83 : Ref sig .tc := ⟨.hbm, 322, rfl⟩
abbrev main_v212 : Ref sig .tc := ⟨.hbm, 323, rfl⟩
abbrev main_v213 : Ref sig .tc := ⟨.hbm, 324, rfl⟩
abbrev main_v214 : Ref sig .tc := ⟨.hbm, 325, rfl⟩
abbrev main_cst_84 : Ref sig .tc := ⟨.hbm, 326, rfl⟩
abbrev main_v215 : Ref sig .tc := ⟨.hbm, 327, rfl⟩
abbrev main_v216 : Ref sig .tc := ⟨.hbm, 328, rfl⟩
abbrev main_v217 : Ref sig .tc := ⟨.hbm, 329, rfl⟩
abbrev main_v218 : Ref sig .tc := ⟨.hbm, 330, rfl⟩
abbrev main_cst_85 : Ref sig .tc := ⟨.hbm, 331, rfl⟩
abbrev main_v219 : Ref sig .tc := ⟨.hbm, 332, rfl⟩
abbrev main_v220 : Ref sig .tc := ⟨.hbm, 333, rfl⟩
abbrev main_cst_86 : Ref sig .tc := ⟨.hbm, 334, rfl⟩
abbrev main_v221 : Ref sig .tc := ⟨.hbm, 335, rfl⟩
abbrev main_v222 : Ref sig .tc := ⟨.hbm, 336, rfl⟩
abbrev main_v223 : Ref sig .tc := ⟨.hbm, 337, rfl⟩
abbrev main_v224 : Ref sig .tc := ⟨.hbm, 338, rfl⟩
abbrev main_v225 : Ref sig .tc := ⟨.hbm, 339, rfl⟩
abbrev main_v226 : Ref sig .tc := ⟨.hbm, 340, rfl⟩
abbrev main_v227 : Ref sig .tc := ⟨.hbm, 341, rfl⟩
abbrev main_v228_0 : Ref sig .tc := ⟨.hbm, 342, rfl⟩
abbrev main_v228_1 : Ref sig .tc := ⟨.hbm, 343, rfl⟩
abbrev main_v228_2 : Ref sig .tc := ⟨.hbm, 344, rfl⟩
abbrev main_v228_3 : Ref sig .tc := ⟨.hbm, 345, rfl⟩
abbrev main_v228_4 : Ref sig .tc := ⟨.hbm, 346, rfl⟩
abbrev main_v229 : Ref sig .tc := ⟨.hbm, 347, rfl⟩
abbrev main_v230 : Ref sig .tc := ⟨.hbm, 348, rfl⟩
abbrev main_v231 : Ref sig .tc := ⟨.hbm, 349, rfl⟩
abbrev main_v232 : Ref sig .tc := ⟨.hbm, 350, rfl⟩
abbrev main_v233 : Ref sig .tc := ⟨.hbm, 351, rfl⟩
abbrev main_v234 : Ref sig .tc := ⟨.hbm, 352, rfl⟩
abbrev main_v235 : Ref sig .tc := ⟨.hbm, 353, rfl⟩
abbrev main_v236 : Ref sig .tc := ⟨.hbm, 354, rfl⟩
abbrev main_v237 : Ref sig .tc := ⟨.hbm, 355, rfl⟩
abbrev main_v238 : Ref sig .tc := ⟨.hbm, 356, rfl⟩
abbrev main_v239 : Ref sig .tc := ⟨.hbm, 357, rfl⟩
abbrev main_v240 : Ref sig .tc := ⟨.hbm, 358, rfl⟩
abbrev main_v241 : Ref sig .tc := ⟨.hbm, 359, rfl⟩
abbrev main_v242 : Ref sig .tc := ⟨.hbm, 360, rfl⟩
abbrev main_v243 : Ref sig .tc := ⟨.hbm, 361, rfl⟩
abbrev main_v244 : Ref sig .tc := ⟨.hbm, 362, rfl⟩
abbrev main_v245 : Ref sig .tc := ⟨.hbm, 363, rfl⟩
abbrev main_v246 : Ref sig .tc := ⟨.hbm, 364, rfl⟩
abbrev main_v247 : Ref sig .tc := ⟨.hbm, 365, rfl⟩
abbrev main_v248 : Ref sig .tc := ⟨.hbm, 366, rfl⟩
abbrev main_v249 : Ref sig .tc := ⟨.hbm, 367, rfl⟩
abbrev main_v250 : Ref sig .tc := ⟨.hbm, 368, rfl⟩
abbrev main_v251 : Ref sig .tc := ⟨.hbm, 369, rfl⟩
abbrev main_v252 : Ref sig .tc := ⟨.hbm, 370, rfl⟩
abbrev main_v253 : Ref sig .tc := ⟨.hbm, 371, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg21_0 : Ref sig .tc := ⟨.vmem, 37, rfl⟩
abbrev cc0_stg21_1 : Ref sig .tc := ⟨.vmem, 38, rfl⟩
abbrev cc0_stg22_0 : Ref sig .tc := ⟨.vmem, 39, rfl⟩
abbrev cc0_stg23_0 : Ref sig .tc := ⟨.vmem, 40, rfl⟩
abbrev cc0_stg23_1 : Ref sig .tc := ⟨.vmem, 41, rfl⟩
abbrev cc0_stg24_0 : Ref sig .tc := ⟨.vmem, 42, rfl⟩
abbrev cc0_stg25_0 : Ref sig .tc := ⟨.vmem, 43, rfl⟩
abbrev cc0_stg25_1 : Ref sig .tc := ⟨.vmem, 44, rfl⟩
abbrev cc0_stg26_0 : Ref sig .tc := ⟨.vmem, 45, rfl⟩
abbrev cc0_stg27_0 : Ref sig .tc := ⟨.vmem, 46, rfl⟩
abbrev cc0_stg27_1 : Ref sig .tc := ⟨.vmem, 47, rfl⟩
abbrev cc0_stg28_0 : Ref sig .tc := ⟨.vmem, 48, rfl⟩
abbrev cc0_stg29_0 : Ref sig .tc := ⟨.vmem, 49, rfl⟩
abbrev cc0_stg30_0 : Ref sig .tc := ⟨.vmem, 50, rfl⟩
abbrev cc0_stg31_0 : Ref sig .tc := ⟨.vmem, 51, rfl⟩
abbrev cc0_stg32_0 : Ref sig .tc := ⟨.vmem, 52, rfl⟩
abbrev cc0_stg33_0 : Ref sig .tc := ⟨.vmem, 53, rfl⟩
abbrev cc0_stg34_0 : Ref sig .tc := ⟨.vmem, 54, rfl⟩
abbrev cc0_stg35_0 : Ref sig .tc := ⟨.vmem, 55, rfl⟩
abbrev cc0_stg36_0 : Ref sig .tc := ⟨.vmem, 56, rfl⟩
abbrev cc0_stg37_0 : Ref sig .tc := ⟨.vmem, 57, rfl⟩
abbrev cc0_stg38_0 : Ref sig .tc := ⟨.vmem, 58, rfl⟩
abbrev cc0_stg39_0 : Ref sig .tc := ⟨.vmem, 59, rfl⟩
abbrev cc0_stg39_1 : Ref sig .tc := ⟨.vmem, 60, rfl⟩
abbrev cc0_stg40_0 : Ref sig .tc := ⟨.vmem, 61, rfl⟩
abbrev cc0_stg40_1 : Ref sig .tc := ⟨.vmem, 62, rfl⟩
abbrev cc0_stg41_0 : Ref sig .tc := ⟨.vmem, 63, rfl⟩
abbrev cc0_stg41_1 : Ref sig .tc := ⟨.vmem, 64, rfl⟩
abbrev cc0_stg42_0 : Ref sig .tc := ⟨.vmem, 65, rfl⟩
abbrev cc0_stg42_1 : Ref sig .tc := ⟨.vmem, 66, rfl⟩
abbrev cc0_stg43_0 : Ref sig .tc := ⟨.vmem, 67, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem13_1 : DmaSem sig := 26
abbrev cc0_sem14_0 : DmaSem sig := 27
abbrev cc0_sem15_0 : DmaSem sig := 28
abbrev cc0_sem15_1 : DmaSem sig := 29
abbrev cc0_sem16_0 : DmaSem sig := 30
abbrev cc0_sem17_0 : DmaSem sig := 31
abbrev cc0_sem17_1 : DmaSem sig := 32
abbrev cc0_sem18_0 : DmaSem sig := 33
abbrev cc0_sem19_0 : DmaSem sig := 34
abbrev cc0_sem19_1 : DmaSem sig := 35
abbrev cc0_sem20_0 : DmaSem sig := 36
abbrev cc0_sem21_0 : DmaSem sig := 37
abbrev cc0_sem21_1 : DmaSem sig := 38
abbrev cc0_sem22_0 : DmaSem sig := 39
abbrev cc0_sem23_0 : DmaSem sig := 40
abbrev cc0_sem23_1 : DmaSem sig := 41
abbrev cc0_sem24_0 : DmaSem sig := 42
abbrev cc0_sem25_0 : DmaSem sig := 43
abbrev cc0_sem25_1 : DmaSem sig := 44
abbrev cc0_sem26_0 : DmaSem sig := 45
abbrev cc0_sem27_0 : DmaSem sig := 46
abbrev cc0_sem27_1 : DmaSem sig := 47
abbrev cc0_sem28_0 : DmaSem sig := 48
abbrev cc0_sem29_0 : DmaSem sig := 49
abbrev cc0_sem30_0 : DmaSem sig := 50
abbrev cc0_sem31_0 : DmaSem sig := 51
abbrev cc0_sem32_0 : DmaSem sig := 52
abbrev cc0_sem33_0 : DmaSem sig := 53
abbrev cc0_sem34_0 : DmaSem sig := 54
abbrev cc0_sem35_0 : DmaSem sig := 55
abbrev cc0_sem36_0 : DmaSem sig := 56
abbrev cc0_sem37_0 : DmaSem sig := 57
abbrev cc0_sem38_0 : DmaSem sig := 58
abbrev cc0_sem39_0 : DmaSem sig := 59
abbrev cc0_sem39_1 : DmaSem sig := 60
abbrev cc0_sem40_0 : DmaSem sig := 61
abbrev cc0_sem40_1 : DmaSem sig := 62
abbrev cc0_sem41_0 : DmaSem sig := 63
abbrev cc0_sem41_1 : DmaSem sig := 64
abbrev cc0_sem42_0 : DmaSem sig := 65
abbrev cc0_sem42_1 : DmaSem sig := 66
abbrev cc0_sem43_0 : DmaSem sig := 67

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_32 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_33 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_34 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_35 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_36 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_37 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_38 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_39 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_40 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_41 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_42 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_43 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x4x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S64x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1x4x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S64x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1x4x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S64x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S1x4x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S64x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S1x4x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 1 → Memref sig .tc .vmem S64x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S1x4x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 1 → Memref sig .tc .vmem S64x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 2 → Memref sig .tc .vmem S1x4x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 1 → Memref sig .tc .vmem S64x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 2 → Memref sig .tc .vmem S1x4x128 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 1 → Memref sig .tc .vmem S64x128 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S1024x3328 .bf16 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S384x512 .bf16 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S256x1024 .bf16 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 1 → Memref sig .tc .vmem S1x1024 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]

abbrev stage0_33 : Fin 1 → Memref sig .tc .vmem S1x128 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]

abbrev stage0_34 : Fin 1 → Memref sig .tc .vmem S1x128 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))
abbrev reads0_34 : Fin grid0.rank → Bool := ![false]

abbrev stage0_35 : Fin 1 → Memref sig .tc .vmem S1x384 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))
abbrev reads0_35 : Fin grid0.rank → Bool := ![false]

abbrev stage0_36 : Fin 1 → Memref sig .tc .vmem S1x256 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))
abbrev reads0_36 : Fin grid0.rank → Bool := ![false]

abbrev stage0_37 : Fin 1 → Memref sig .tc .vmem S1x128 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))
abbrev reads0_37 : Fin grid0.rank → Bool := ![false]

abbrev stage0_38 : Fin 1 → Memref sig .tc .vmem S1x128 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))
abbrev reads0_38 : Fin grid0.rank → Bool := ![false]

abbrev stage0_39 : Fin 2 → Memref sig .tc .vmem S256x1024 .f32 := fun | 0 => Memref.whole cc0_stg39_0 | 1 => Memref.whole cc0_stg39_1 | ⟨_ + 2, h⟩ => absurd h (Nat.not_lt.2 (Nat.le_add_left _ _))
abbrev sem0_39 : Fin 2 → DmaSem sig := fun | 0 => cc0_sem39_0 | 1 => cc0_sem39_1 | ⟨_ + 2, h⟩ => absurd h (Nat.not_lt.2 (Nat.le_add_left _ _))
abbrev reads0_39 : Fin grid0.rank → Bool := ![true]

abbrev stage0_40 : Fin 2 → Memref sig .tc .vmem S256x3328 .bf16 := fun | 0 => Memref.whole cc0_stg40_0 | 1 => Memref.whole cc0_stg40_1 | ⟨_ + 2, h⟩ => absurd h (Nat.not_lt.2 (Nat.le_add_left _ _))
abbrev sem0_40 : Fin 2 → DmaSem sig := fun | 0 => cc0_sem40_0 | 1 => cc0_sem40_1 | ⟨_ + 2, h⟩ => absurd h (Nat.not_lt.2 (Nat.le_add_left _ _))
abbrev reads0_40 : Fin grid0.rank → Bool := ![true]

abbrev stage0_41 : Fin 2 → Memref sig .tc .vmem S256x512 .bf16 := fun | 0 => Memref.whole cc0_stg41_0 | 1 => Memref.whole cc0_stg41_1 | ⟨_ + 2, h⟩ => absurd h (Nat.not_lt.2 (Nat.le_add_left _ _))
abbrev sem0_41 : Fin 2 → DmaSem sig := fun | 0 => cc0_sem41_0 | 1 => cc0_sem41_1 | ⟨_ + 2, h⟩ => absurd h (Nat.not_lt.2 (Nat.le_add_left _ _))
abbrev reads0_41 : Fin grid0.rank → Bool := ![true]

abbrev stage0_42 : Fin 2 → Memref sig .tc .vmem S256x1024 .bf16 := fun | 0 => Memref.whole cc0_stg42_0 | 1 => Memref.whole cc0_stg42_1 | ⟨_ + 2, h⟩ => absurd h (Nat.not_lt.2 (Nat.le_add_left _ _))
abbrev sem0_42 : Fin 2 → DmaSem sig := fun | 0 => cc0_sem42_0 | 1 => cc0_sem42_1 | ⟨_ + 2, h⟩ => absurd h (Nat.not_lt.2 (Nat.le_add_left _ _))
abbrev reads0_42 : Fin grid0.rank → Bool := ![true]

abbrev stage0_43 : Fin 1 → Memref sig .tc .vmem S16x1024 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))
abbrev reads0_43 : Fin grid0.rank → Bool := ![false]
-- ==== ReferencePIdeal.lean ====
abbrev S1x8192x512 : Shape := ⟨3, ![1, 8192, 512]⟩
abbrev S1x8192x128 : Shape := ⟨3, ![1, 8192, 128]⟩
abbrev S1x64 : Shape := ⟨2, ![1, 64]⟩
abbrev S1x8x8192x64 : Shape := ⟨4, ![1, 8, 8192, 64]⟩
abbrev S8192x1024 : Shape := ⟨2, ![8192, 1024]⟩
abbrev S8192x640 : Shape := ⟨2, ![8192, 640]⟩
abbrev S8192x512 : Shape := ⟨2, ![8192, 512]⟩
abbrev S4x8192x128 : Shape := ⟨3, ![4, 8192, 128]⟩
abbrev S8x128 : Shape := ⟨2, ![8, 128]⟩
abbrev S1024x3328 : Shape := ⟨2, ![1024, 3328]⟩
abbrev S384x512 : Shape := ⟨2, ![384, 512]⟩
abbrev S256x1024 : Shape := ⟨2, ![256, 1024]⟩
abbrev S1x1024 : Shape := ⟨2, ![1, 1024]⟩
abbrev S1x384 : Shape := ⟨2, ![1, 384]⟩
abbrev S1x256 : Shape := ⟨2, ![1, 256]⟩
abbrev S1x128 : Shape := ⟨2, ![1, 128]⟩
abbrev S128 : Shape := ⟨1, ![128]⟩
abbrev S128x64 : Shape := ⟨2, ![128, 64]⟩
abbrev S8192 : Shape := ⟨1, ![8192]⟩
abbrev S64 : Shape := ⟨1, ![64]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S1x8192x8x64 : Shape := ⟨4, ![1, 8192, 8, 64]⟩
abbrev S1x8192x2x64 : Shape := ⟨4, ![1, 8192, 2, 64]⟩
abbrev S1x2x8192x64 : Shape := ⟨4, ![1, 2, 8192, 64]⟩
abbrev S1x8x8192 : Shape := ⟨3, ![1, 8, 8192]⟩
abbrev S1x8x8192x1 : Shape := ⟨4, ![1, 8, 8192, 1]⟩
abbrev S1x1x1x64 : Shape := ⟨4, ![1, 1, 1, 64]⟩
abbrev S1x8x8192x32 : Shape := ⟨4, ![1, 8, 8192, 32]⟩
abbrev S1x8x8192x16 : Shape := ⟨4, ![1, 8, 8192, 16]⟩
abbrev S1x1x8192x16 : Shape := ⟨4, ![1, 1, 8192, 16]⟩
abbrev S1x2x8192 : Shape := ⟨3, ![1, 2, 8192]⟩
abbrev S1x2x8192x1 : Shape := ⟨4, ![1, 2, 8192, 1]⟩
abbrev S1x2x8192x32 : Shape := ⟨4, ![1, 2, 8192, 32]⟩
abbrev S1x2x8192x16 : Shape := ⟨4, ![1, 2, 8192, 16]⟩
abbrev S1x2x1x8192x64 : Shape := ⟨5, ![1, 2, 1, 8192, 64]⟩
abbrev S1x2x4x8192x64 : Shape := ⟨5, ![1, 2, 4, 8192, 64]⟩
abbrev S2x8192x64 : Shape := ⟨3, ![2, 8192, 64]⟩
abbrev S2x8192 : Shape := ⟨2, ![2, 8192]⟩
abbrev S8x8192 : Shape := ⟨2, ![8, 8192]⟩

abbrev nBuf : Space → Nat
  | .hbm => 327
  | .vmem => 0
  | .smem => 0
  | _ => 0

abbrev hbmTy0_0 (i : Nat) : BufTy := match i % 128 with
  | 0 => ⟨S1x8192x512, .f32⟩
  | 1 => ⟨S1x8192x128, .f32⟩
  | 2 => ⟨S1x8192x128, .f32⟩
  | 3 => ⟨S1x64, .f32⟩
  | 4 => ⟨S1x64, .f32⟩
  | 5 => ⟨S1x8x8192x64, .f32⟩
  | 6 => ⟨S1x8x8192x64, .f32⟩
  | 7 => ⟨S1x8x8192x64, .f32⟩
  | 8 => ⟨S8192x1024, .f32⟩
  | 9 => ⟨S8192x1024, .f32⟩
  | 10 => ⟨S8192x640, .f32⟩
  | 11 => ⟨S8192x512, .f32⟩
  | 12 => ⟨S8192x512, .f32⟩
  | 13 => ⟨S8192x1024, .f32⟩
  | 14 => ⟨S4x8192x128, .f32⟩
  | 15 => ⟨S4x8192x128, .f32⟩
  | 16 => ⟨S4x8192x128, .f32⟩
  | 17 => ⟨S8x128, .f32⟩
  | 18 => ⟨S1024x3328, .f32⟩
  | 19 => ⟨S384x512, .f32⟩
  | 20 => ⟨S256x1024, .f32⟩
  | 21 => ⟨S1x1024, .f32⟩
  | 22 => ⟨S1x384, .f32⟩
  | 23 => ⟨S1x256, .f32⟩
  | 24 => ⟨S1x128, .f32⟩
  | 25 => ⟨S1x128, .f32⟩
  | 26 => ⟨S128, .f32⟩
  | 27 => ⟨S128x64, .f32⟩
  | 28 => ⟨S8192, .f32⟩
  | 29 => ⟨S64, .f32⟩
  | 30 => ⟨S1x64, .f32⟩
  | 31 => ⟨S128x64, .f32⟩
  | 32 => ⟨S8192, .f32⟩
  | 33 => ⟨S16, .f32⟩
  | 34 => ⟨S_, .f32⟩
  | 35 => ⟨S16, .f32⟩
  | 36 => ⟨S16, .f32⟩
  | 37 => ⟨S_, .f32⟩
  | 38 => ⟨S16, .f32⟩
  | 39 => ⟨S16, .f32⟩
  | 40 => ⟨S_, .f32⟩
  | 41 => ⟨S16, .f32⟩
  | 42 => ⟨S16, .f32⟩
  | 43 => ⟨S_, .f32⟩
  | 44 => ⟨S16, .f32⟩
  | 45 => ⟨S16, .f32⟩
  | 46 => ⟨S_, .f32⟩
  | 47 => ⟨S16, .f32⟩
  | 48 => ⟨S16, .f32⟩
  | 49 => ⟨S8192x1, .f32⟩
  | 50 => ⟨S1x16, .f32⟩
  | 51 => ⟨S8192x16, .f32⟩
  | 52 => ⟨S8192x16, .f32⟩
  | 53 => ⟨S8192x16, .f32⟩
  | 54 => ⟨S8192x1, .f32⟩
  | 55 => ⟨S1x16, .f32⟩
  | 56 => ⟨S8192x16, .f32⟩
  | 57 => ⟨S8192x16, .f32⟩
  | 58 => ⟨S8192x16, .f32⟩
  | 59 => ⟨S8192x16, .f32⟩
  | 60 => ⟨S8192x16, .f32⟩
  | 61 => ⟨S8192x16, .f32⟩
  | 62 => ⟨S8192x16, .f32⟩
  | 63 => ⟨S1x8192x8x64, .f32⟩
  | 64 => ⟨S1x8x8192x64, .f32⟩
  | 65 => ⟨S1x8192x2x64, .f32⟩
  | 66 => ⟨S1x2x8192x64, .f32⟩
  | 67 => ⟨S1x8192x2x64, .f32⟩
  | 68 => ⟨S1x2x8192x64, .f32⟩
  | 69 => ⟨S64, .f32⟩
  | 70 => ⟨S1x8x8192x64, .f32⟩
  | 71 => ⟨S_, .f32⟩
  | 72 => ⟨S1x8x8192, .f32⟩
  | 73 => ⟨S1x8x8192x1, .f32⟩
  | 74 => ⟨S_, .f32⟩
  | 75 => ⟨S1x8x8192x1, .f32⟩
  | 76 => ⟨S1x8x8192x1, .f32⟩
  | 77 => ⟨S_, .f32⟩
  | 78 => ⟨S1x8x8192x1, .f32⟩
  | 79 => ⟨S1x8x8192x1, .f32⟩
  | 80 => ⟨S1x8x8192x1, .f32⟩
  | 81 => ⟨S1x8x8192x1, .f32⟩
  | 82 => ⟨S_, .f32⟩
  | 83 => ⟨S1x8x8192x1, .f32⟩
  | 84 => ⟨S1x8x8192x1, .f32⟩
  | 85 => ⟨S1x8x8192x64, .f32⟩
  | 86 => ⟨S1x8x8192x64, .f32⟩
  | 87 => ⟨S1x1x1x64, .f32⟩
  | 88 => ⟨S1x8x8192x64, .f32⟩
  | 89 => ⟨S1x8x8192x64, .f32⟩
  | 90 => ⟨S1x8x8192x32, .f32⟩
  | 91 => ⟨S1x8x8192x32, .f32⟩
  | 92 => ⟨S1x8x8192x16, .f32⟩
  | 93 => ⟨S1x8x8192x16, .f32⟩
  | 94 => ⟨S1x1x8192x16, .f32⟩
  | 95 => ⟨S1x8x8192x16, .f32⟩
  | 96 => ⟨S1x8x8192x16, .f32⟩
  | 97 => ⟨S1x1x8192x16, .f32⟩
  | 98 => ⟨S1x8x8192x16, .f32⟩
  | 99 => ⟨S1x8x8192x16, .f32⟩
  | 100 => ⟨S1x8x8192x16, .f32⟩
  | 101 => ⟨S1x1x8192x16, .f32⟩
  | 102 => ⟨S1x8x8192x16, .f32⟩
  | 103 => ⟨S1x8x8192x16, .f32⟩
  | 104 => ⟨S1x1x8192x16, .f32⟩
  | 105 => ⟨S1x8x8192x16, .f32⟩
  | 106 => ⟨S1x8x8192x16, .f32⟩
  | 107 => ⟨S1x8x8192x16, .f32⟩
  | 108 => ⟨S1x8x8192x32, .f32⟩
  | 109 => ⟨S1x8x8192x16, .f32⟩
  | 110 => ⟨S1x8x8192x16, .f32⟩
  | 111 => ⟨S1x1x8192x16, .f32⟩
  | 112 => ⟨S1x8x8192x16, .f32⟩
  | 113 => ⟨S1x8x8192x16, .f32⟩
  | 114 => ⟨S1x1x8192x16, .f32⟩
  | 115 => ⟨S1x8x8192x16, .f32⟩
  | 116 => ⟨S1x8x8192x16, .f32⟩
  | 117 => ⟨S1x8x8192x16, .f32⟩
  | 118 => ⟨S1x1x8192x16, .f32⟩
  | 119 => ⟨S1x8x8192x16, .f32⟩
  | 120 => ⟨S1x8x8192x16, .f32⟩
  | 121 => ⟨S1x1x8192x16, .f32⟩
  | 122 => ⟨S1x8x8192x16, .f32⟩
  | 123 => ⟨S1x8x8192x16, .f32⟩
  | 124 => ⟨S1x8x8192x16, .f32⟩
  | 125 => ⟨S1x8x8192x32, .f32⟩
  | 126 => ⟨S1x8x8192x64, .f32⟩
  | 127 => ⟨S64, .f32⟩
  | _ => ⟨S1x8192x512, .f32⟩

abbrev hbmTy0_1 (i : Nat) : BufTy := match i % 128 with
  | 0 => ⟨S1x2x8192x64, .f32⟩
  | 1 => ⟨S_, .f32⟩
  | 2 => ⟨S1x2x8192, .f32⟩
  | 3 => ⟨S1x2x8192x1, .f32⟩
  | 4 => ⟨S_, .f32⟩
  | 5 => ⟨S1x2x8192x1, .f32⟩
  | 6 => ⟨S1x2x8192x1, .f32⟩
  | 7 => ⟨S_, .f32⟩
  | 8 => ⟨S1x2x8192x1, .f32⟩
  | 9 => ⟨S1x2x8192x1, .f32⟩
  | 10 => ⟨S1x2x8192x1, .f32⟩
  | 11 => ⟨S1x2x8192x1, .f32⟩
  | 12 => ⟨S_, .f32⟩
  | 13 => ⟨S1x2x8192x1, .f32⟩
  | 14 => ⟨S1x2x8192x1, .f32⟩
  | 15 => ⟨S1x2x8192x64, .f32⟩
  | 16 => ⟨S1x2x8192x64, .f32⟩
  | 17 => ⟨S1x1x1x64, .f32⟩
  | 18 => ⟨S1x2x8192x64, .f32⟩
  | 19 => ⟨S1x2x8192x64, .f32⟩
  | 20 => ⟨S1x2x8192x32, .f32⟩
  | 21 => ⟨S1x2x8192x32, .f32⟩
  | 22 => ⟨S1x2x8192x16, .f32⟩
  | 23 => ⟨S1x2x8192x16, .f32⟩
  | 24 => ⟨S1x1x8192x16, .f32⟩
  | 25 => ⟨S1x2x8192x16, .f32⟩
  | 26 => ⟨S1x2x8192x16, .f32⟩
  | 27 => ⟨S1x1x8192x16, .f32⟩
  | 28 => ⟨S1x2x8192x16, .f32⟩
  | 29 => ⟨S1x2x8192x16, .f32⟩
  | 30 => ⟨S1x2x8192x16, .f32⟩
  | 31 => ⟨S1x1x8192x16, .f32⟩
  | 32 => ⟨S1x2x8192x16, .f32⟩
  | 33 => ⟨S1x2x8192x16, .f32⟩
  | 34 => ⟨S1x1x8192x16, .f32⟩
  | 35 => ⟨S1x2x8192x16, .f32⟩
  | 36 => ⟨S1x2x8192x16, .f32⟩
  | 37 => ⟨S1x2x8192x16, .f32⟩
  | 38 => ⟨S1x2x8192x32, .f32⟩
  | 39 => ⟨S1x2x8192x16, .f32⟩
  | 40 => ⟨S1x2x8192x16, .f32⟩
  | 41 => ⟨S1x1x8192x16, .f32⟩
  | 42 => ⟨S1x2x8192x16, .f32⟩
  | 43 => ⟨S1x2x8192x16, .f32⟩
  | 44 => ⟨S1x1x8192x16, .f32⟩
  | 45 => ⟨S1x2x8192x16, .f32⟩
  | 46 => ⟨S1x2x8192x16, .f32⟩
  | 47 => ⟨S1x2x8192x16, .f32⟩
  | 48 => ⟨S1x1x8192x16, .f32⟩
  | 49 => ⟨S1x2x8192x16, .f32⟩
  | 50 => ⟨S1x2x8192x16, .f32⟩
  | 51 => ⟨S1x1x8192x16, .f32⟩
  | 52 => ⟨S1x2x8192x16, .f32⟩
  | 53 => ⟨S1x2x8192x16, .f32⟩
  | 54 => ⟨S1x2x8192x16, .f32⟩
  | 55 => ⟨S1x2x8192x32, .f32⟩
  | 56 => ⟨S1x2x8192x64, .f32⟩
  | 57 => ⟨S1x2x1x8192x64, .f32⟩
  | 58 => ⟨S1x2x4x8192x64, .f32⟩
  | 59 => ⟨S1x8x8192x64, .f32⟩
  | 60 => ⟨S1x2x1x8192x64, .f32⟩
  | 61 => ⟨S1x2x4x8192x64, .f32⟩
  | 62 => ⟨S1x8x8192x64, .f32⟩
  | 63 => ⟨S1x2x4x8192x64, .f32⟩
  | 64 => ⟨S_, .f32⟩
  | 65 => ⟨S2x8192x64, .f32⟩
  | 66 => ⟨S1x2x1x8192x64, .f32⟩
  | 67 => ⟨S_, .f32⟩
  | 68 => ⟨S2x8192x64, .f32⟩
  | 69 => ⟨S1x2x8192x64, .f32⟩
  | 70 => ⟨S1x2x4x8192x64, .f32⟩
  | 71 => ⟨S_, .f32⟩
  | 72 => ⟨S2x8192x64, .f32⟩
  | 73 => ⟨S1x2x1x8192x64, .f32⟩
  | 74 => ⟨S_, .f32⟩
  | 75 => ⟨S2x8192x64, .f32⟩
  | 76 => ⟨S1x2x8192x64, .f32⟩
  | 77 => ⟨S1x2x8192x32, .f32⟩
  | 78 => ⟨S1x2x8192x32, .f32⟩
  | 79 => ⟨S1x2x8192x16, .f32⟩
  | 80 => ⟨S1x2x8192x16, .f32⟩
  | 81 => ⟨S1x2x8192x16, .f32⟩
  | 82 => ⟨S1x2x8192x16, .f32⟩
  | 83 => ⟨S1x2x8192x16, .f32⟩
  | 84 => ⟨S1x2x8192x16, .f32⟩
  | 85 => ⟨S1x2x8192x16, .f32⟩
  | 86 => ⟨S1x2x8192x16, .f32⟩
  | 87 => ⟨S1x2x8192x16, .f32⟩
  | 88 => ⟨S1x2x8192x16, .f32⟩
  | 89 => ⟨S1x2x8192x16, .f32⟩
  | 90 => ⟨S1x2x8192x16, .f32⟩
  | 91 => ⟨S1x2x8192x16, .f32⟩
  | 92 => ⟨S1x2x8192x32, .f32⟩
  | 93 => ⟨S1x2x8192x16, .f32⟩
  | 94 => ⟨S1x2x8192x16, .f32⟩
  | 95 => ⟨S1x2x8192x16, .f32⟩
  | 96 => ⟨S1x2x8192x16, .f32⟩
  | 97 => ⟨S1x2x8192x16, .f32⟩
  | 98 => ⟨S1x2x8192x16, .f32⟩
  | 99 => ⟨S1x2x8192x16, .f32⟩
  | 100 => ⟨S1x2x8192x16, .f32⟩
  | 101 => ⟨S1x2x8192x16, .f32⟩
  | 102 => ⟨S1x2x8192x16, .f32⟩
  | 103 => ⟨S1x2x8192x16, .f32⟩
  | 104 => ⟨S1x2x8192x16, .f32⟩
  | 105 => ⟨S1x2x8192x16, .f32⟩
  | 106 => ⟨S1x2x8192x32, .f32⟩
  | 107 => ⟨S1x2x8192x64, .f32⟩
  | 108 => ⟨S1x2x8192x64, .f32⟩
  | 109 => ⟨S_, .f32⟩
  | 110 => ⟨S1x64, .f32⟩
  | 111 => ⟨S1x1x1x64, .f32⟩
  | 112 => ⟨S1x2x8192x64, .f32⟩
  | 113 => ⟨S1x2x8192x64, .f32⟩
  | 114 => ⟨S_, .f32⟩
  | 115 => ⟨S64, .f32⟩
  | 116 => ⟨S1x2x8192x64, .f32⟩
  | 117 => ⟨S_, .f32⟩
  | 118 => ⟨S1x2x8192, .f32⟩
  | 119 => ⟨S1x2x8192x1, .f32⟩
  | 120 => ⟨S1x2x8192x64, .f32⟩
  | 121 => ⟨S1x2x8192x64, .f32⟩
  | 122 => ⟨S1x2x8192x1, .f32⟩
  | 123 => ⟨S_, .f32⟩
  | 124 => ⟨S1x2x8192x1, .f32⟩
  | 125 => ⟨S1x2x8192x1, .f32⟩
  | 126 => ⟨S_, .f32⟩
  | 127 => ⟨S2x8192, .f32⟩
  | _ => ⟨S1x8192x512, .f32⟩

abbrev hbmTy0_2 (i : Nat) : BufTy := match i % 128 with
  | 0 => ⟨S1x2x8192, .f32⟩
  | 1 => ⟨S1x2x8192x64, .f32⟩
  | 2 => ⟨S1x2x8192x64, .f32⟩
  | 3 => ⟨S1x2x8192x64, .f32⟩
  | 4 => ⟨S1x2x8192x64, .f32⟩
  | 5 => ⟨S1x2x8192x64, .f32⟩
  | 6 => ⟨S1x64, .f32⟩
  | 7 => ⟨S1x8x8192x32, .f32⟩
  | 8 => ⟨S1x8x8192x32, .f32⟩
  | 9 => ⟨S1x8x8192x16, .f32⟩
  | 10 => ⟨S1x8x8192x16, .f32⟩
  | 11 => ⟨S1x8x8192x16, .f32⟩
  | 12 => ⟨S1x8x8192x16, .f32⟩
  | 13 => ⟨S1x8x8192x16, .f32⟩
  | 14 => ⟨S1x8x8192x16, .f32⟩
  | 15 => ⟨S1x8x8192x16, .f32⟩
  | 16 => ⟨S1x8x8192x16, .f32⟩
  | 17 => ⟨S1x8x8192x16, .f32⟩
  | 18 => ⟨S1x8x8192x16, .f32⟩
  | 19 => ⟨S1x8x8192x16, .f32⟩
  | 20 => ⟨S1x8x8192x16, .f32⟩
  | 21 => ⟨S1x8x8192x16, .f32⟩
  | 22 => ⟨S1x8x8192x32, .f32⟩
  | 23 => ⟨S1x8x8192x16, .f32⟩
  | 24 => ⟨S1x8x8192x16, .f32⟩
  | 25 => ⟨S1x8x8192x16, .f32⟩
  | 26 => ⟨S1x8x8192x16, .f32⟩
  | 27 => ⟨S1x8x8192x16, .f32⟩
  | 28 => ⟨S1x8x8192x16, .f32⟩
  | 29 => ⟨S1x8x8192x16, .f32⟩
  | 30 => ⟨S1x8x8192x16, .f32⟩
  | 31 => ⟨S1x8x8192x16, .f32⟩
  | 32 => ⟨S1x8x8192x16, .f32⟩
  | 33 => ⟨S1x8x8192x16, .f32⟩
  | 34 => ⟨S1x8x8192x16, .f32⟩
  | 35 => ⟨S1x8x8192x16, .f32⟩
  | 36 => ⟨S1x8x8192x32, .f32⟩
  | 37 => ⟨S1x8x8192x64, .f32⟩
  | 38 => ⟨S1x8x8192x64, .f32⟩
  | 39 => ⟨S_, .f32⟩
  | 40 => ⟨S1x64, .f32⟩
  | 41 => ⟨S1x1x1x64, .f32⟩
  | 42 => ⟨S1x8x8192x64, .f32⟩
  | 43 => ⟨S1x8x8192x64, .f32⟩
  | 44 => ⟨S_, .f32⟩
  | 45 => ⟨S64, .f32⟩
  | 46 => ⟨S1x8x8192x64, .f32⟩
  | 47 => ⟨S_, .f32⟩
  | 48 => ⟨S1x8x8192, .f32⟩
  | 49 => ⟨S1x8x8192x1, .f32⟩
  | 50 => ⟨S1x8x8192x64, .f32⟩
  | 51 => ⟨S1x8x8192x64, .f32⟩
  | 52 => ⟨S1x8x8192x1, .f32⟩
  | 53 => ⟨S_, .f32⟩
  | 54 => ⟨S1x8x8192x1, .f32⟩
  | 55 => ⟨S1x8x8192x1, .f32⟩
  | 56 => ⟨S_, .f32⟩
  | 57 => ⟨S8x8192, .f32⟩
  | 58 => ⟨S1x8x8192, .f32⟩
  | 59 => ⟨S1x8x8192x64, .f32⟩
  | 60 => ⟨S1x8x8192x64, .f32⟩
  | 61 => ⟨S1x8x8192x64, .f32⟩
  | 62 => ⟨S1x8x8192x64, .f32⟩
  | 63 => ⟨S1x8x8192x64, .f32⟩
  | 64 => ⟨S1x64, .f32⟩
  | 65 => ⟨S1x8192x2x64, .f32⟩
  | 66 => ⟨S1x8192x128, .f32⟩
  | 67 => ⟨S1x8192x2x64, .f32⟩
  | 68 => ⟨S1x8192x128, .f32⟩
  | 69 => ⟨S1x8192x8x64, .f32⟩
  | 70 => ⟨S1x8192x512, .f32⟩
  | _ => ⟨S1x8192x512, .f32⟩

abbrev hbmTy (i : Nat) : BufTy := match i / 128 with
  | 0 => hbmTy0_0 i
  | 1 => hbmTy0_1 i
  | 2 => hbmTy0_2 i
  | _ => ⟨S1x8192x512, .f32⟩

abbrev bufTy : (tb : Table) → Fin (tcTables nBuf tb) → BufTy
  | .hbm, ⟨i, _⟩ => hbmTy i
  | _, _ => ⟨S1x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_cst : Ref sig .tc := ⟨.hbm, 34, rfl⟩
abbrev main_v8 : Ref sig .tc := ⟨.hbm, 35, rfl⟩
abbrev main_v9 : Ref sig .tc := ⟨.hbm, 36, rfl⟩
abbrev main_cst_0 : Ref sig .tc := ⟨.hbm, 37, rfl⟩
abbrev main_v10 : Ref sig .tc := ⟨.hbm, 38, rfl⟩
abbrev main_v11 : Ref sig .tc := ⟨.hbm, 39, rfl⟩
abbrev main_cst_1 : Ref sig .tc := ⟨.hbm, 40, rfl⟩
abbrev main_v12 : Ref sig .tc := ⟨.hbm, 41, rfl⟩
abbrev main_v13 : Ref sig .tc := ⟨.hbm, 42, rfl⟩
abbrev main_cst_2 : Ref sig .tc := ⟨.hbm, 43, rfl⟩
abbrev main_v14 : Ref sig .tc := ⟨.hbm, 44, rfl⟩
abbrev main_v15 : Ref sig .tc := ⟨.hbm, 45, rfl⟩
abbrev main_cst_3 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_4 : Ref sig .tc := ⟨.hbm, 71, rfl⟩
abbrev main_v40 : Ref sig .tc := ⟨.hbm, 72, rfl⟩
abbrev main_v41 : Ref sig .tc := ⟨.hbm, 73, rfl⟩
abbrev main_cst_5 : Ref sig .tc := ⟨.hbm, 74, rfl⟩
abbrev main_v42 : Ref sig .tc := ⟨.hbm, 75, rfl⟩
abbrev main_v43 : Ref sig .tc := ⟨.hbm, 76, rfl⟩
abbrev main_cst_6 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_7 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_8 : Ref sig .tc := ⟨.hbm, 129, rfl⟩
abbrev main_v94 : Ref sig .tc := ⟨.hbm, 130, rfl⟩
abbrev main_v95 : Ref sig .tc := ⟨.hbm, 131, rfl⟩
abbrev main_cst_9 : Ref sig .tc := ⟨.hbm, 132, rfl⟩
abbrev main_v96 : Ref sig .tc := ⟨.hbm, 133, rfl⟩
abbrev main_v97 : Ref sig .tc := ⟨.hbm, 134, rfl⟩
abbrev main_cst_10 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_cst_11 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_cst_12 : Ref sig .tc := ⟨.hbm, 192, rfl⟩
abbrev main_v153 : Ref sig .tc := ⟨.hbm, 193, rfl⟩
abbrev main_v154 : Ref sig .tc := ⟨.hbm, 194, rfl⟩
abbrev main_cst_13 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_cst_14 : Ref sig .tc := ⟨.hbm, 199, rfl⟩
abbrev main_v158 : Ref sig .tc := ⟨.hbm, 200, rfl⟩
abbrev main_v159 : Ref sig .tc := ⟨.hbm, 201, rfl⟩
abbrev main_cst_15 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_cst_16 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_v197 : Ref sig .tc := ⟨.hbm, 241, rfl⟩
abbrev main_cst_17 : Ref sig .tc := ⟨.hbm, 242, rfl⟩
abbrev main_v198 : Ref sig .tc := ⟨.hbm, 243, rfl⟩
abbrev main_v199 : Ref sig .tc := ⟨.hbm, 244, rfl⟩
abbrev main_cst_18 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev main_v204 : Ref sig .tc := ⟨.hbm, 250, rfl⟩
abbrev main_cst_19 : Ref sig .tc := ⟨.hbm, 251, rfl⟩
abbrev main_v205 : Ref sig .tc := ⟨.hbm, 252, rfl⟩
abbrev main_v206 : Ref sig .tc := ⟨.hbm, 253, rfl⟩
abbrev main_cst_20 : Ref sig .tc := ⟨.hbm, 254, rfl⟩
abbrev main_v207 : Ref sig .tc := ⟨.hbm, 255, rfl⟩
abbrev main_v208 : Ref sig .tc := ⟨.hbm, 256, rfl⟩
abbrev main_v209 : Ref sig .tc := ⟨.hbm, 257, rfl⟩
abbrev main_v210 : Ref sig .tc := ⟨.hbm, 258, rfl⟩
abbrev main_v211 : Ref sig .tc := ⟨.hbm, 259, rfl⟩
abbrev main_v212 : Ref sig .tc := ⟨.hbm, 260, rfl⟩
abbrev main_v213 : Ref sig .tc := ⟨.hbm, 261, rfl⟩
abbrev main_v214 : Ref sig .tc := ⟨.hbm, 262, rfl⟩
abbrev main_v215 : Ref sig .tc := ⟨.hbm, 263, rfl⟩
abbrev main_v216 : Ref sig .tc := ⟨.hbm, 264, rfl⟩
abbrev main_v217 : Ref sig .tc := ⟨.hbm, 265, rfl⟩
abbrev main_v218 : Ref sig .tc := ⟨.hbm, 266, rfl⟩
abbrev main_v219 : Ref sig .tc := ⟨.hbm, 267, rfl⟩
abbrev main_v220 : Ref sig .tc := ⟨.hbm, 268, rfl⟩
abbrev main_v221 : Ref sig .tc := ⟨.hbm, 269, rfl⟩
abbrev main_v222 : Ref sig .tc := ⟨.hbm, 270, rfl⟩
abbrev main_v223 : Ref sig .tc := ⟨.hbm, 271, rfl⟩
abbrev main_v224 : Ref sig .tc := ⟨.hbm, 272, rfl⟩
abbrev main_v225 : Ref sig .tc := ⟨.hbm, 273, rfl⟩
abbrev main_v226 : Ref sig .tc := ⟨.hbm, 274, rfl⟩
abbrev main_v227 : Ref sig .tc := ⟨.hbm, 275, rfl⟩
abbrev main_v228 : Ref sig .tc := ⟨.hbm, 276, rfl⟩
abbrev main_v229 : Ref sig .tc := ⟨.hbm, 277, rfl⟩
abbrev main_v230 : Ref sig .tc := ⟨.hbm, 278, rfl⟩
abbrev main_v231 : Ref sig .tc := ⟨.hbm, 279, rfl⟩
abbrev main_v232 : Ref sig .tc := ⟨.hbm, 280, rfl⟩
abbrev main_v233 : Ref sig .tc := ⟨.hbm, 281, rfl⟩
abbrev main_v234 : Ref sig .tc := ⟨.hbm, 282, rfl⟩
abbrev main_v235 : Ref sig .tc := ⟨.hbm, 283, rfl⟩
abbrev main_v236 : Ref sig .tc := ⟨.hbm, 284, rfl⟩
abbrev main_v237 : Ref sig .tc := ⟨.hbm, 285, rfl⟩
abbrev main_v238 : Ref sig .tc := ⟨.hbm, 286, rfl⟩
abbrev main_v239 : Ref sig .tc := ⟨.hbm, 287, rfl⟩
abbrev main_v240 : Ref sig .tc := ⟨.hbm, 288, rfl⟩
abbrev main_v241 : Ref sig .tc := ⟨.hbm, 289, rfl⟩
abbrev main_v242 : Ref sig .tc := ⟨.hbm, 290, rfl⟩
abbrev main_v243 : Ref sig .tc := ⟨.hbm, 291, rfl⟩
abbrev main_v244 : Ref sig .tc := ⟨.hbm, 292, rfl⟩
abbrev main_v245 : Ref sig .tc := ⟨.hbm, 293, rfl⟩
abbrev main_v246 : Ref sig .tc := ⟨.hbm, 294, rfl⟩
abbrev main_cst_21 : Ref sig .tc := ⟨.hbm, 295, rfl⟩
abbrev main_v247 : Ref sig .tc := ⟨.hbm, 296, rfl⟩
abbrev main_v248 : Ref sig .tc := ⟨.hbm, 297, rfl⟩
abbrev main_v249 : Ref sig .tc := ⟨.hbm, 298, rfl⟩
abbrev main_v250 : Ref sig .tc := ⟨.hbm, 299, rfl⟩
abbrev main_cst_22 : Ref sig .tc := ⟨.hbm, 300, rfl⟩
abbrev main_v251 : Ref sig .tc := ⟨.hbm, 301, rfl⟩
abbrev main_v252 : Ref sig .tc := ⟨.hbm, 302, rfl⟩
abbrev main_cst_23 : Ref sig .tc := ⟨.hbm, 303, rfl⟩
abbrev main_v253 : Ref sig .tc := ⟨.hbm, 304, rfl⟩
abbrev main_v254 : Ref sig .tc := ⟨.hbm, 305, rfl⟩
abbrev main_v255 : Ref sig .tc := ⟨.hbm, 306, rfl⟩
abbrev main_v256 : Ref sig .tc := ⟨.hbm, 307, rfl⟩
abbrev main_v257 : Ref sig .tc := ⟨.hbm, 308, rfl⟩
abbrev main_cst_24 : Ref sig .tc := ⟨.hbm, 309, rfl⟩
abbrev main_v258 : Ref sig .tc := ⟨.hbm, 310, rfl⟩
abbrev main_v259 : Ref sig .tc := ⟨.hbm, 311, rfl⟩
abbrev main_cst_25 : Ref sig .tc := ⟨.hbm, 312, rfl⟩
abbrev main_v260 : Ref sig .tc := ⟨.hbm, 313, rfl⟩
abbrev main_v261 : Ref sig .tc := ⟨.hbm, 314, rfl⟩
abbrev main_v262 : Ref sig .tc := ⟨.hbm, 315, rfl⟩
abbrev main_v263 : Ref sig .tc := ⟨.hbm, 316, rfl⟩
abbrev main_v264 : Ref sig .tc := ⟨.hbm, 317, rfl⟩
abbrev main_v265 : Ref sig .tc := ⟨.hbm, 318, rfl⟩
abbrev main_v266 : Ref sig .tc := ⟨.hbm, 319, rfl⟩
abbrev main_v267 : Ref sig .tc := ⟨.hbm, 320, rfl⟩
abbrev main_v268 : Ref sig .tc := ⟨.hbm, 321, rfl⟩
abbrev main_v269 : Ref sig .tc := ⟨.hbm, 322, rfl⟩
abbrev main_v270 : Ref sig .tc := ⟨.hbm, 323, rfl⟩
abbrev main_v271 : Ref sig .tc := ⟨.hbm, 324, rfl⟩
abbrev main_v272 : Ref sig .tc := ⟨.hbm, 325, rfl⟩
abbrev main_v273 : Ref sig .tc := ⟨.hbm, 326, rfl⟩

abbrev nD : Nat := 1
abbrev τ : Topo := Topo.v7x

variable {F : FTy → Type} [FloatOps F]
-- ==== Proof.Tile.lean ====
/- What one block of the attention gradient computes: a tile of 512 keys against 1024 rows of the queries. The names of the stages, over any floats. -/
module

public import Idealize.ShloMosaic.Lib.Pipeline.ValueKit

@[expose] public section

set_option maxRecDepth 16384

noncomputable section

namespace Cert.AttnGrad
open Idealize.ShloMosaic

/-- A tile of keys (or of values), as it is held. -/
abbrev Keys : Shape := ⟨3, ![1, 512, 128]⟩
abbrev Keys₂ : Shape := ⟨2, ![512, 128]⟩
/-- A block of rows of the queries (or of the cotangent), as it is held. -/
abbrev Rows : Shape := ⟨3, ![1, 1024, 128]⟩
abbrev Rows₂ : Shape := ⟨2, ![1024, 128]⟩
/-- Keys against rows. -/
abbrev Pair : Shape := ⟨3, ![1, 512, 1024]⟩
abbrev Pair₂ : Shape := ⟨2, ![512, 1024]⟩
/-- One number for every row. -/
abbrev Stat : Shape := ⟨4, ![1, 1, 1, 1024]⟩
abbrev Stat₂ : Shape := ⟨2, ![1, 1024]⟩

/-- Keys against rows, contracted over the 128 lanes. -/
def dotKQ : DotDims Keys₂ Rows₂ Pair₂ where
  lhsContracting := [1]
  rhsContracting := [1]
  lhsNonContracting := [0]
  rhsNonContracting := [0]
  lhsBatch := []
  rhsBatch := []
  wf := by decide

/-- Pairs against rows, contracted over the rows. -/
def dotPR : DotDims Pair₂ Rows₂ Keys₂ where
  lhsContracting := [1]
  rhsContracting := [0]
  lhsNonContracting := [0]
  rhsNonContracting := [1]
  lhsBatch := []
  rhsBatch := []
  wf := by decide

/-- Pairs against keys, contracted over the keys. -/
def dotPK : DotDims Pair₂ Keys₂ Rows₂ where
  lhsContracting := [0]
  rhsContracting := [0]
  lhsNonContracting := [1]
  rhsNonContracting := [1]
  lhsBatch := []
  rhsBatch := []
  wf := by decide

variable {F : FTy → Type} [FloatOps F]

/-- The products of a tile's keys and a block's rows. -/
def scores (k : Vec F Keys .bf16) (q : Vec F Rows .bf16) : FVec F Pair .f32 :=
  shapeCast Pair (matmul dotKQ none (shapeCast Keys₂ k (by decide)) (shapeCast Rows₂ q (by decide)) (constant Pair₂ .f32 0x00000000#32)) (by decide)

/-- The softmax weights, rebuilt from the scores and the rows' log-sums. -/
def weight (s : Vec F Pair .f32) (lse : Vec F Stat .f32) : FVec F Pair₂ .f32 :=
  exp2 (subf (shapeCast Pair₂ s (by decide)) (broadcastTo Pair₂ (shapeCast Stat₂ lse (by decide)) (by decide)))

/-- The weights as they are stored. -/
def weights (s : Vec F Pair .f32) (lse : Vec F Stat .f32) : FVec F Pair .bf16 :=
  shapeCast Pair (truncf .bf16 (weight s lse) (by decide)) (by decide)

/-- The gradient of the scores as it is stored: weight times (product with the cotangent less the row's mean of it). -/
def scoreGrads (s : Vec F Pair .f32) (lse : Vec F Stat .f32) (g : Vec F Pair .f32) (delta : Vec F Stat .f32) : FVec F Pair .bf16 :=
  shapeCast Pair (truncf .bf16 (mulf (weight s lse)
    (subf (shapeCast Pair₂ g (by decide)) (broadcastTo Pair₂ (shapeCast Stat₂ delta (by decide)) (by decide)))) (by decide)) (by decide)

/-- Pairs times rows. -/
def overRows (p : Vec F Pair .bf16) (x : Vec F Rows .bf16) : FVec F Keys₂ .f32 :=
  matmul dotPR none (shapeCast Pair₂ p (by decide)) (shapeCast Rows₂ x (by decide)) (constant Keys₂ .f32 0x00000000#32)

/-- The first block's product is assigned, -/
def keysFirst (p : Vec F Pair .bf16) (x : Vec F Rows .bf16) : FVec F Keys .f32 := shapeCast Keys (overRows p x) (by decide)

/-- a later block's is added. -/
def keysNext (prev : Vec F Keys .f32) (p : Vec F Pair .bf16) (x : Vec F Rows .bf16) : FVec F Keys .f32 :=
  shapeCast Keys (addf (shapeCast Keys₂ prev (by decide)) (overRows p x)) (by decide)

/-- The rows' sum, with one tile's product more. -/
def rowsNext (prev : Vec F Rows .f32) (p : Vec F Pair .bf16) (k : Vec F Keys .bf16) : FVec F Rows .f32 :=
  shapeCast Rows (addf (shapeCast Rows₂ prev (by decide))
    (matmul dotPK none (shapeCast Pair₂ p (by decide)) (shapeCast Keys₂ k (by decide)) (constant Rows₂ .f32 0x00000000#32))) (by decide)

/-- What a tile's sum over the blocks of rows holds after block `n`. -/
def keysSum (P : Fin 8 → Vec F Pair .bf16) (X : Fin 8 → Vec F Rows .bf16) : (n : ℕ) → n < 8 → Vec F Keys .f32
  | 0, h => keysFirst (P ⟨0, h⟩) (X ⟨0, h⟩)
  | n + 1, h => keysNext (keysSum P X n (Nat.lt_of_succ_lt h)) (P ⟨n + 1, h⟩) (X ⟨n + 1, h⟩)

/-! ## The blocks of a head -/

/-- A head's rows, all of them. -/
abbrev Head : Shape := ⟨3, ![1, 8192, 128]⟩
/-- Two tiles of keys. -/
abbrev Tiles : Shape := ⟨3, ![1, 1024, 128]⟩
/-- A head's row statistics. -/
abbrev Stats : Shape := ⟨4, ![1, 8, 1, 1024]⟩

/-- Block `i` of a head's rows. -/
def rowsRect (i : Fin 8) : Rect Head :=
  Rect.unit (s := Head) ![0, i.val * 1024, 0] ![1, 1024, 128] (by intro a; have := i.isLt; fin_cases a <;> simp <;> omega)

/-- Tile `a` of a pair of tiles. -/
def keysRect (a : Fin 2) : Rect Tiles :=
  Rect.unit (s := Tiles) ![0, a.val * 512, 0] ![1, 512, 128] (by intro b; have := a.isLt; fin_cases b <;> simp <;> omega)

/-- The statistics of block `i` of a head's rows. -/
def statRect (i : Fin 8) : Rect Stats :=
  Rect.unit (s := Stats) ![0, i.val, 0, 0] ![1, 1, 1, 1024] (by intro a; have := i.isLt; fin_cases a <;> simp <;> omega)

/-- Block `i` of a head's rows, read. -/
def rowsOf {e : EltTy} (x : Vec F Head e) (i : Fin 8) : Vec F Rows e := View.ld x (rowsRect i)

/-- Tile `a` of a pair of tiles, read. -/
def keysOf {e : EltTy} (x : Vec F Tiles e) (a : Fin 2) : Vec F Keys e := View.ld x (keysRect a)

/-- The statistics of block `i`, read. -/
def statOf (x : Vec F Stats .f32) (i : Fin 8) : Vec F Stat .f32 := View.ld x (statRect i)

section
variable (q d : Vec F Head .bf16) (lse delta : Vec F Stats .f32) (k v : Vec F Tiles .bf16)

/-- The weights of tile `a` against block `i`. -/
def pBlk (a : Fin 2) (i : Fin 8) : Vec F Pair .bf16 := weights (scores (keysOf k a) (rowsOf q i)) (statOf lse i)

/-- The score gradients of tile `a` against block `i`. -/
def dsBlk (a : Fin 2) (i : Fin 8) : Vec F Pair .bf16 :=
  scoreGrads (scores (keysOf k a) (rowsOf q i)) (statOf lse i)
    (scores (keysOf v a) (rowsOf d i)) (statOf delta i)

/-- The key gradient's tile `a`. -/
def dkTile (a : Fin 2) : Vec F Keys .f32 := keysSum (dsBlk q d lse delta k v a) (rowsOf q) 7 (by decide)

/-- The value gradient's tile `a`. -/
def dvTile (a : Fin 2) : Vec F Keys .f32 := keysSum (pBlk q lse k a) (rowsOf d) 7 (by decide)

/-- The query gradient's block `i`, over what was there before. -/
def dqBlk (prev : Vec F Head .f32) (i : Fin 8) : Vec F Rows .f32 :=
  rowsNext (rowsNext (rowsOf prev i) (dsBlk q d lse delta k v 0 i) (keysOf k 0))
    (dsBlk q d lse delta k v 1 i) (keysOf k 1)

end

/-! ## A grid point's three outputs, block by block -/

/-- The key gradient's buffer `x`, the value gradient's `y` and the query gradient's `z` hold the blocks `dk`, `dv` and `dq`. -/
def Blocks (x y : Vec F Tiles .f32) (z : Vec F Head .f32) (dk dv : Fin 2 → Vec F Keys .f32) (dq : Fin 8 → Vec F Rows .f32) : Prop :=
  View.ld x (Rect.unit (s := Tiles) ![0, 0, 0] ![1, 512, 128] (by decide)) = dk 0 ∧
  View.ld x (Rect.unit (s := Tiles) ![0, 512, 0] ![1, 512, 128] (by decide)) = dk 1 ∧
  View.ld y (Rect.unit (s := Tiles) ![0, 0, 0] ![1, 512, 128] (by decide)) = dv 0 ∧
  View.ld y (Rect.unit (s := Tiles) ![0, 512, 0] ![1, 512, 128] (by decide)) = dv 1 ∧
  View.ld z (Rect.unit (s := Head) ![0, 0, 0] ![1, 1024, 128] (by decide)) = dq 0 ∧
  View.ld z (Rect.unit (s := Head) ![0, 1024, 0] ![1, 1024, 128] (by decide)) = dq 1 ∧
  View.ld z (Rect.unit (s := Head) ![0, 2048, 0] ![1, 1024, 128] (by decide)) = dq 2 ∧
  View.ld z (Rect.unit (s := Head) ![0, 3072, 0] ![1, 1024, 128] (by decide)) = dq 3 ∧
  View.ld z (Rect.unit (s := Head) ![0, 4096, 0] ![1, 1024, 128] (by decide)) = dq 4 ∧
  View.ld z (Rect.unit (s := Head) ![0, 5120, 0] ![1, 1024, 128] (by decide)) = dq 5 ∧
  View.ld z (Rect.unit (s := Head) ![0, 6144, 0] ![1, 1024, 128] (by decide)) = dq 6 ∧
  View.ld z (Rect.unit (s := Head) ![0, 7168, 0] ![1, 1024, 128] (by decide)) = dq 7

theorem Blocks.dk {x y : Vec F Tiles .f32} {z : Vec F Head .f32} {dk dv : Fin 2 → Vec F Keys .f32} {dq : Fin 8 → Vec F Rows .f32}
    (h : Blocks x y z dk dv dq) (a : Fin 2) : keysOf x a = dk a := by
  match a with
  | 0 => exact h.1
  | 1 => exact h.2.1

theorem Blocks.dv {x y : Vec F Tiles .f32} {z : Vec F Head .f32} {dk dv : Fin 2 → Vec F Keys .f32} {dq : Fin 8 → Vec F Rows .f32}
    (h : Blocks x y z dk dv dq) (a : Fin 2) : keysOf y a = dv a := by
  match a with
  | 0 => exact h.2.2.1
  | 1 => exact h.2.2.2.1

theorem Blocks.dq {x y : Vec F Tiles .f32} {z : Vec F Head .f32} {dk dv : Fin 2 → Vec F Keys .f32} {dq : Fin 8 → Vec F Rows .f32}
    (h : Blocks x y z dk dv dq) (i : Fin 8) : rowsOf z i = dq i := by
  obtain ⟨-, -, -, -, h0, h1, h2, h3, h4, h5, h6, h7⟩ := h
  match i with
  | 0 => exact h0
  | 1 => exact h1
  | 2 => exact h2
  | 3 => exact h3
  | 4 => exact h4
  | 5 => exact h5
  | 6 => exact h6
  | 7 => exact h7

/-! ## Pieces of a buffer read back -/

/-- What the last write's own rectangle holds. -/
theorem ld_canon_cons {Val : EltTy → Type} {s : Shape} {e : EltTy} [∀ e, Nonempty (Val e)] (r : Rect s) (w : r.shape.Idx → Val e)
    (L : List (View.Piece Val s e)) : View.ld (View.canon (⟨r, w⟩ :: L)) r = w := by
  funext x
  exact View.canon_cons_emb r w L x

/-- A rectangle apart from the last write's holds what the writes before left. -/
theorem ld_canon_skip {Val : EltTy → Type} {s : Shape} {e : EltTy} [∀ e, Nonempty (Val e)] (r r' : Rect s) (w : r.shape.Idx → Val e)
    (L : List (View.Piece Val s e)) (h : LoadRect.disj r r'.toLoadRect = true) :
    View.ld (View.canon (⟨r, w⟩ :: L)) r' = View.ld (View.canon L) r' := by
  funext x
  exact View.canon_cons_of_not_mem ⟨r, w⟩ L (LoadRect.idx_not_mem_of_disj h x)

end Cert.AttnGrad

end
-- ==== Proof.BodyA.lean ====
/- What the body of the attention gradient leaves in its three outputs at a grid point, block by block. -/
module

public import proofs.«01_k».proof.Proof.Gen.KernelAIdeal.Frame
public import proofs.«01_k».proof.Proof.Tile
public import Idealize.ShloMosaic.Lib.Pipeline.ReadBack

@[expose] public section

set_option maxRecDepth 16384

noncomputable section

namespace Cert.KernelAIdeal.Val
open Idealize.ShloMosaic Idealize.ShloMosaic.TcCoe Idealize.ShloMosaic.Tactic Cert.KernelAIdeal Cert.KernelAIdeal.Gen Cert.AttnGrad

variable {F : FTy → Type} [FloatOps F]
variable (m : (ℓ : Loc nD τ sig) → Buf (Elt F) ℓ)

/-- At a point that starts a head the query gradient is summed over zeros. -/
theorem body_A (c : Dev nD) (t : Fin cfg0.N) (h0 : t.val % 8 = 0) :
    Blocks (outsAt0 m c t.val t.isLt).2.1 (outsAt0 m c t.val t.isLt).2.2 (outsAt0 m c t.val t.isLt).1
      (dkTile (iblk m c 0 t) (iblk m c 1 t) (iblk m c 2 t) (iblk m c 3 t) (iblk m c 4 t) (iblk m c 5 t))
      (dvTile (iblk m c 0 t) (iblk m c 1 t) (iblk m c 2 t) (iblk m c 4 t))
      (dqBlk (iblk m c 0 t) (iblk m c 1 t) (iblk m c 2 t) (iblk m c 3 t) (iblk m c 4 t) (iblk m c 5 t)
        (k0_pay2 (F := F))) := by
  rw [outsAt0_A m c t h0]
  unfold Blocks
  frame_open
  simp (disch := decide) only [↓ View.readCov_skip, ↓ View.readCov_cons_toLoadRect, ↓ View.readCov_fill]
  frame_out
  simp (disch := decide) only [↓ ld_canon_skip, ↓ ld_canon_cons]
  exact ⟨rfl, rfl, rfl, rfl, rfl, rfl, rfl, rfl, rfl, rfl, rfl, rfl⟩

/-- At a point that goes on with a head the query gradient is summed over what the point before left. -/
theorem body_B (c : Dev nD) (t : Fin cfg0.N) (h0 : ¬t.val % 8 = 0) :
    Blocks (outsAt0 m c t.val t.isLt).2.1 (outsAt0 m c t.val t.isLt).2.2 (outsAt0 m c t.val t.isLt).1
      (dkTile (iblk m c 0 t) (iblk m c 1 t) (iblk m c 2 t) (iblk m c 3 t) (iblk m c 4 t) (iblk m c 5 t))
      (dvTile (iblk m c 0 t) (iblk m c 1 t) (iblk m c 2 t) (iblk m c 4 t))
      (dqBlk (iblk m c 0 t) (iblk m c 1 t) (iblk m c 2 t) (iblk m c 3 t) (iblk m c 4 t) (iblk m c 5 t)
        (outsAt0 m c (t.val - 1) (Nat.lt_of_le_of_lt (Nat.sub_le _ _) t.isLt)).1) := by
  rw [outsAt0_B m c t h0]
  unfold Blocks
  frame_open
  simp (disch := decide) only [↓ View.readCov_skip, ↓ View.readCov_cons_toLoadRect, ↓ View.readCov_fill]
  frame_out
  simp (disch := decide) only [↓ ld_canon_skip, ↓ ld_canon_cons]
  exact ⟨rfl, rfl, rfl, rfl, rfl, rfl, rfl, rfl, rfl, rfl, rfl, rfl⟩

end Cert.KernelAIdeal.Val

end
-- ==== Proof.TileIdeal.lean ====
/- The block of the attention gradient over the extended reals: what each of its numbers is, as a sum. -/
module

public import proofs.«01_k».proof.Proof.Tile
public import Idealize.ShloMosaic.Lib.Pointwise

@[expose] public section

set_option maxRecDepth 16384

noncomputable section

namespace Cert.AttnGrad
open Idealize.ShloMosaic
open scoped BigOperators

/-! ## One tile against one block of rows -/

theorem scores_apply (k : Vec Ideal Keys .bf16) (q : Vec Ideal Rows .bf16) (r : Fin 512) (c : Fin 1024) :
    scores k q (ix3 0 r c) = ∑ d : Fin 128, k (ix3 0 r d) * q (ix3 0 c d) := by
  unfold scores
  pointwise

theorem weights_apply (s : Vec Ideal Pair .f32) (lse : Vec Ideal Stat .f32) (r : Fin 512) (c : Fin 1024) :
    weights s lse (ix3 0 r c) = Ideal.exp2 (s (ix3 0 r c) - lse (ix4 0 0 0 c)) := by
  unfold weights weight
  pointwise
  rfl

theorem scoreGrads_apply (s g : Vec Ideal Pair .f32) (lse delta : Vec Ideal Stat .f32) (r : Fin 512) (c : Fin 1024) :
    scoreGrads s lse g delta (ix3 0 r c) =
      Ideal.exp2 (s (ix3 0 r c) - lse (ix4 0 0 0 c)) * (g (ix3 0 r c) - delta (ix4 0 0 0 c)) := by
  unfold scoreGrads weight
  pointwise
  rfl

theorem keysFirst_apply (p : Vec Ideal Pair .bf16) (x : Vec Ideal Rows .bf16) (r : Fin 512) (d : Fin 128) :
    keysFirst p x (ix3 0 r d) = ∑ c : Fin 1024, p (ix3 0 r c) * x (ix3 0 c d) := by
  unfold keysFirst overRows
  pointwise

theorem keysNext_apply (prev : Vec Ideal Keys .f32) (p : Vec Ideal Pair .bf16) (x : Vec Ideal Rows .bf16) (r : Fin 512) (d : Fin 128) :
    keysNext prev p x (ix3 0 r d) = prev (ix3 0 r d) + ∑ c : Fin 1024, p (ix3 0 r c) * x (ix3 0 c d) := by
  unfold keysNext overRows
  pointwise

theorem rowsNext_apply (prev : Vec Ideal Rows .f32) (p : Vec Ideal Pair .bf16) (k : Vec Ideal Keys .bf16) (c : Fin 1024) (d : Fin 128) :
    rowsNext prev p k (ix3 0 c d) = prev (ix3 0 c d) + ∑ r : Fin 512, p (ix3 0 r c) * k (ix3 0 r d) := by
  unfold rowsNext
  pointwise

theorem keysSum_apply (P : Fin 8 → Vec Ideal Pair .bf16) (X : Fin 8 → Vec Ideal Rows .bf16) (r : Fin 512) (d : Fin 128) :
    ∀ (n : ℕ) (h : n < 8), keysSum P X n h (ix3 0 r d) =
      ∑ i : Fin (n + 1), ∑ c : Fin 1024, P ⟨i.val, by omega⟩ (ix3 0 r c) * X ⟨i.val, by omega⟩ (ix3 0 c d)
  | 0, h => by
    rw [keysSum, keysFirst_apply, Fin.sum_univ_one]
    rfl
  | n + 1, h => by
    rw [keysSum, keysNext_apply, keysSum_apply P X r d n (Nat.lt_of_succ_lt h),
      Fin.sum_univ_castSucc (n := n + 1)]
    rfl

/-! ## The blocks of a head -/

theorem ld_rows {e : EltTy} (x : Vec Ideal Head e) (i : Fin 8) (c : Fin 1024) (d : Fin 128) :
    rowsOf x i (ix3 0 c d) = x (ix3 0 ⟨i.val * 1024 + c.val, by omega⟩ d) :=
  View.ld_unit_apply_of (S := Head) x _ _ _ _ _ (by intro a; fin_cases a <;> simp)

theorem ld_keys {e : EltTy} (x : Vec Ideal Tiles e) (a : Fin 2) (r : Fin 512) (d : Fin 128) :
    keysOf x a (ix3 0 r d) = x (ix3 0 ⟨a.val * 512 + r.val, by omega⟩ d) :=
  View.ld_unit_apply_of (S := Tiles) x _ _ _ _ _ (by intro a; fin_cases a <;> simp)

theorem ld_stat (x : Vec Ideal Stats .f32) (i : Fin 8) (c : Fin 1024) :
    statOf x i (ix4 0 0 0 c) = x (ix4 0 i 0 c) :=
  View.ld_unit_apply_of (S := Stats) x _ _ _ _ _ (by intro a; fin_cases a <;> simp)

section
variable (q d : Vec Ideal Head .bf16) (lse delta : Vec Ideal Stats .f32) (k v : Vec Ideal Tiles .bf16)

/-- A head's statistic at a row. -/
def statAt (x : Vec Ideal Stats .f32) (R : Fin 8192) : EReal := x (ix4 0 ⟨R.val / 1024, by omega⟩ 0 ⟨R.val % 1024, by omega⟩)

/-- The weight of key `C` of a pair of tiles for row `R` of a head. -/
def pAt (C : Fin 1024) (R : Fin 8192) : EReal :=
  Ideal.exp2 ((∑ l : Fin 128, k (ix3 0 C l) * q (ix3 0 R l)) - statAt lse R)

/-- The gradient of its score. -/
def dsAt (C : Fin 1024) (R : Fin 8192) : EReal :=
  pAt q lse k C R * ((∑ l : Fin 128, v (ix3 0 C l) * d (ix3 0 R l)) - statAt delta R)

theorem statAt_block (x : Vec Ideal Stats .f32) (i : Fin 8) (c : Fin 1024) (h) : statAt x ⟨i.val * 1024 + c.val, h⟩ = x (ix4 0 i 0 c) := by
  unfold statAt
  congr 2 <;> exact Fin.ext (by simp only; omega)

theorem pBlk_apply (a : Fin 2) (i : Fin 8) (r : Fin 512) (c : Fin 1024) :
    pBlk q lse k a i (ix3 0 r c) = pAt q lse k ⟨a.val * 512 + r.val, by omega⟩ ⟨i.val * 1024 + c.val, by omega⟩ := by
  rw [pBlk, weights_apply, scores_apply, pAt, statAt_block, ld_stat]
  simp only [ld_rows, ld_keys]

theorem dsBlk_apply (a : Fin 2) (i : Fin 8) (r : Fin 512) (c : Fin 1024) :
    dsBlk q d lse delta k v a i (ix3 0 r c) =
      dsAt q d lse delta k v ⟨a.val * 512 + r.val, by omega⟩ ⟨i.val * 1024 + c.val, by omega⟩ := by
  rw [dsBlk, scoreGrads_apply, scores_apply, scores_apply, dsAt, pAt, statAt_block, statAt_block, ld_stat, ld_stat]
  simp only [ld_rows, ld_keys]

theorem dkTile_apply (a : Fin 2) (r : Fin 512) (l : Fin 128) :
    dkTile q d lse delta k v a (ix3 0 r l) =
      ∑ R : Fin 8192, dsAt q d lse delta k v ⟨a.val * 512 + r.val, by omega⟩ R * q (ix3 0 R l) := by
  rw [dkTile, keysSum_apply, Fin.sum_univ_tiles 8 1024 rfl]
  simp only [dsBlk_apply, ld_rows]

theorem dvTile_apply (a : Fin 2) (r : Fin 512) (l : Fin 128) :
    dvTile q d lse k a (ix3 0 r l) = ∑ R : Fin 8192, pAt q lse k ⟨a.val * 512 + r.val, by omega⟩ R * d (ix3 0 R l) := by
  rw [dvTile, keysSum_apply, Fin.sum_univ_tiles 8 1024 rfl]
  simp only [pBlk_apply, ld_rows]

theorem dqBlk_apply (prev : Vec Ideal Head .f32) (i : Fin 8) (c : Fin 1024) (l : Fin 128) :
    dqBlk q d lse delta k v prev i (ix3 0 c l) =
      prev (ix3 0 ⟨i.val * 1024 + c.val, by omega⟩ l) +
        ∑ C : Fin 1024, dsAt q d lse delta k v C ⟨i.val * 1024 + c.val, by omega⟩ * k (ix3 0 C l) := by
  rw [dqBlk, rowsNext_apply, rowsNext_apply, Fin.sum_univ_tiles 2 512 rfl, Fin.sum_univ_two, add_assoc]
  simp only [dsBlk_apply, ld_rows, ld_keys]

end

/-! ## The three buffers, read at an index -/

section
variable (q d : Vec Ideal Head .bf16) (lse delta : Vec Ideal Stats .f32) (k v : Vec Ideal Tiles .bf16)

theorem tiles_ext {e : EltTy} {x : Vec Ideal Tiles e} {G : Fin 1024 → Fin 128 → Elt Ideal e}
    (h : ∀ (a : Fin 2) (r : Fin 512) (l : Fin 128), keysOf x a (ix3 0 r l) = G ⟨a.val * 512 + r.val, by omega⟩ l)
    (C : Fin 1024) (l : Fin 128) : x (ix3 0 C l) = G C l := by
  have e := h ⟨C.val / 512, by omega⟩ ⟨C.val % 512, by omega⟩ l
  rw [ld_keys] at e
  have hC : (⟨C.val / 512 * 512 + C.val % 512, by omega⟩ : Fin 1024) = C := Fin.ext (by simp only; omega)
  simpa only [hC] using e

theorem head_ext {e : EltTy} {x : Vec Ideal Head e} {G : Fin 8192 → Fin 128 → Elt Ideal e}
    (h : ∀ (i : Fin 8) (c : Fin 1024) (l : Fin 128), rowsOf x i (ix3 0 c l) = G ⟨i.val * 1024 + c.val, by omega⟩ l)
    (R : Fin 8192) (l : Fin 128) : x (ix3 0 R l) = G R l := by
  have e := h ⟨R.val / 1024, by omega⟩ ⟨R.val % 1024, by omega⟩ l
  rw [ld_rows] at e
  have hR : (⟨R.val / 1024 * 1024 + R.val % 1024, by omega⟩ : Fin 8192) = R := Fin.ext (by simp only; omega)
  simpa only [hR] using e

variable {x y : Vec Ideal Tiles .f32} {z prev : Vec Ideal Head .f32}
  (h : Blocks x y z (dkTile q d lse delta k v) (dvTile q d lse k) (dqBlk q d lse delta k v prev))
include h

theorem Blocks.dk_apply (C : Fin 1024) (l : Fin 128) : x (ix3 0 C l) = ∑ R : Fin 8192, dsAt q d lse delta k v C R * q (ix3 0 R l) := by
  refine tiles_ext (x := x) (G := fun C l => (∑ R : Fin 8192, dsAt q d lse delta k v C R * q (ix3 0 R l) : EReal)) ?_ C l
  intro a r l
  rw [h.dk a, dkTile_apply]

theorem Blocks.dv_apply (C : Fin 1024) (l : Fin 128) : y (ix3 0 C l) = ∑ R : Fin 8192, pAt q lse k C R * d (ix3 0 R l) := by
  refine tiles_ext (x := y) (G := fun C l => (∑ R : Fin 8192, pAt q lse k C R * d (ix3 0 R l) : EReal)) ?_ C l
  intro a r l
  rw [h.dv a, dvTile_apply]

theorem Blocks.dq_apply (R : Fin 8192) (l : Fin 128) :
    z (ix3 0 R l) = prev (ix3 0 R l) + ∑ C : Fin 1024, dsAt q d lse delta k v C R * k (ix3 0 C l) := by
  refine head_ext (x := z)
    (G := fun R l => (prev (ix3 0 R l) + ∑ C : Fin 1024, dsAt q d lse delta k v C R * k (ix3 0 C l) : EReal)) ?_ R l
  intro i c l
  rw [h.dq i, dqBlk_apply]

end

end Cert.AttnGrad

end
-- ==== Proof.HeadMath.lean ====
/- The attention gradient of one head over the extended reals, in terms of plain functions: rows `R`, keys `C`, lanes `l`. -/
module

public import proofs.«01_k».proof.Proof.TileIdeal

@[expose] public section

noncomputable section

namespace Cert.AttnGrad
open Idealize.ShloMosaic
open scoped BigOperators

section
variable (q d : Fin 8192 → Fin 128 → EReal) (lse delta : Fin 8192 → EReal) (k v : Fin 8192 → Fin 128 → EReal)

/-- The weight of key `C` for row `R`. -/
def pH (C R : Fin 8192) : EReal := Ideal.exp2 ((∑ l, k C l * q R l) - lse R)

/-- The gradient of their score. -/
def dsH (C R : Fin 8192) : EReal := pH q lse k C R * ((∑ l, v C l * d R l) - delta R)

/-- The key gradient. -/
def dkH (C : Fin 8192) (l : Fin 128) : EReal := ∑ R, dsH q d lse delta k v C R * q R l

/-- The value gradient. -/
def dvH (C : Fin 8192) (l : Fin 128) : EReal := ∑ R, pH q lse k C R * d R l

/-- The query gradient. -/
def dqH (R : Fin 8192) (l : Fin 128) : EReal := ∑ C, dsH q d lse delta k v C R * k C l

end

/-- The first `n + 1` of eight terms. -/
def upTo (f : Fin 8 → EReal) (n : ℕ) (h : n < 8) : EReal := ∑ i : Fin (n + 1), f ⟨i.val, by omega⟩

theorem upTo_zero (f : Fin 8 → EReal) (n : ℕ) (h : n < 8) (h0 : n = 0) : upTo f n h = f ⟨n, h⟩ := by
  subst h0
  exact Fin.sum_univ_one _

theorem upTo_succ (f : Fin 8 → EReal) (n n' : ℕ) (h : n < 8) (h' : n' < 8) (e : n' = n + 1) :
    upTo f n' h' = upTo f n h + f ⟨n', h'⟩ := by
  subst e
  exact Fin.sum_univ_castSucc (n := n + 1) _

/-- A block's share of the query gradient: 1024 keys of the 8192. -/
def dqPart (q d : Fin 8192 → Fin 128 → EReal) (lse delta : Fin 8192 → EReal) (k v : Fin 8192 → Fin 128 → EReal)
    (R : Fin 8192) (l : Fin 128) (j : Fin 8) : EReal :=
  ∑ C : Fin 1024, dsH q d lse delta k v ⟨j.val * 1024 + C.val, by omega⟩ R * k ⟨j.val * 1024 + C.val, by omega⟩ l

theorem dqH_eq_upTo (q d : Fin 8192 → Fin 128 → EReal) (lse delta : Fin 8192 → EReal) (k v : Fin 8192 → Fin 128 → EReal)
    (R : Fin 8192) (l : Fin 128) (n : ℕ) (h : n < 8) (e : n = 7) :
    upTo (dqPart q d lse delta k v R l) n h = dqH q d lse delta k v R l := by
  subst e
  rw [dqH, Fin.sum_univ_tiles 8 1024 rfl]
  rfl

theorem ix3_eta {N L : ℕ} (i : (⟨3, ![1, N, L]⟩ : Shape).Idx) : i = ix3 (0 : Fin 1) (i 1 : Fin N) (i 2 : Fin L) := by
  funext a
  match a with
  | 0 => exact Subsingleton.elim (α := Fin 1) _ _
  | 1 => rfl
  | 2 => rfl

theorem tiles_funext {e : EltTy} {x y : Vec Ideal Tiles e} (h : ∀ C l, x (ix3 0 C l) = y (ix3 0 C l)) : x = y :=
  funext fun i => by rw [ix3_eta i]; exact h _ _

theorem head_funext {e : EltTy} {x y : Vec Ideal Head e} (h : ∀ R l, x (ix3 0 R l) = y (ix3 0 R l)) : x = y :=
  funext fun i => by rw [ix3_eta i]; exact h _ _

/-! ## From blocks to heads: the pair of tiles `j` -/
section
variable {qB dB : Vec Ideal Head .bf16} {lB eB : Vec Ideal Stats .f32} {kB vB : Vec Ideal Tiles .bf16}
  {q d : Fin 8192 → Fin 128 → EReal} {lse delta : Fin 8192 → EReal} {k v : Fin 8192 → Fin 128 → EReal} {j : Fin 8}
  (hq : ∀ R l, qB (ix3 0 R l) = q R l) (hd : ∀ R l, dB (ix3 0 R l) = d R l)
  (hl : ∀ R, statAt lB R = lse R) (he : ∀ R, statAt eB R = delta R)
  (hk : ∀ C l, kB (ix3 0 C l) = k ⟨j.val * 1024 + C.val, by omega⟩ l) (hv : ∀ C l, vB (ix3 0 C l) = v ⟨j.val * 1024 + C.val, by omega⟩ l)
include hq hl hk

theorem pAt_eq (C : Fin 1024) (R : Fin 8192) : pAt qB lB kB C R = pH q lse k ⟨j.val * 1024 + C.val, by omega⟩ R := by
  simp only [pAt, pH, hq, hl, hk]

include hd he hv

theorem dsAt_eq (C : Fin 1024) (R : Fin 8192) :
    dsAt qB dB lB eB kB vB C R = dsH q d lse delta k v ⟨j.val * 1024 + C.val, by omega⟩ R := by
  simp only [dsAt, dsH, pAt_eq hq hl hk, hd, he, hv]

variable {x y : Vec Ideal Tiles .f32} {z prev : Vec Ideal Head .f32}
  (h : Blocks x y z (dkTile qB dB lB eB kB vB) (dvTile qB dB lB kB) (dqBlk qB dB lB eB kB vB prev))
include h

theorem Blocks.dk_eq (C : Fin 1024) (l : Fin 128) : x (ix3 0 C l) = dkH q d lse delta k v ⟨j.val * 1024 + C.val, by omega⟩ l := by
  rw [h.dk_apply]
  simp only [dkH, dsAt_eq hq hd hl he hk hv, hq]

theorem Blocks.dv_eq (C : Fin 1024) (l : Fin 128) : y (ix3 0 C l) = dvH q d lse k ⟨j.val * 1024 + C.val, by omega⟩ l := by
  rw [h.dv_apply]
  simp only [dvH, pAt_eq hq hl hk, hd]

theorem Blocks.dq_eq (R : Fin 8192) (l : Fin 128) :
    z (ix3 0 R l) = prev (ix3 0 R l) + dqPart q d lse delta k v R l j := by
  rw [h.dq_apply]
  simp only [dqPart, dsAt_eq hq hd hl he hk hv, hk]

end

end Cert.AttnGrad

end
-- ==== Proof.Sweep.lean ====
/- The attention gradient swept over a grid: heads of eight points each, a pair of key tiles a point, the query gradient summed over a head's points. -/
module

public import proofs.«01_k».proof.Proof.HeadMath

@[expose] public section

noncomputable section

namespace Cert.AttnGrad
open Idealize.ShloMosaic

variable {N H : ℕ}

/-- The pair of tiles of a grid point. -/
def pairOf (t : Fin N) : Fin 8 := ⟨t.val % 8, by omega⟩

/-- What the grid's points hold: `head` is a point's head, the six families its operand blocks, `outs` its three buffers afterwards. -/
structure Sweep (head : Fin N → Fin H) (q d : Fin H → Fin 8192 → Fin 128 → EReal) (lse delta : Fin H → Fin 8192 → EReal)
    (k v : Fin H → Fin 8192 → Fin 128 → EReal) (qB dB : Fin N → Vec Ideal Head .bf16) (lB eB : Fin N → Vec Ideal Stats .f32)
    (kB vB : Fin N → Vec Ideal Tiles .bf16)
    (outs : (n : ℕ) → n < N → Vec Ideal Head .f32 × Vec Ideal Tiles .f32 × Vec Ideal Tiles .f32) : Prop where
  q_eq : ∀ t R l, qB t (ix3 0 R l) = q (head t) R l
  d_eq : ∀ t R l, dB t (ix3 0 R l) = d (head t) R l
  l_eq : ∀ t R, statAt (lB t) R = lse (head t) R
  e_eq : ∀ t R, statAt (eB t) R = delta (head t) R
  k_eq : ∀ t (C : Fin 1024) l, kB t (ix3 0 C l) = k (head t) ⟨(pairOf t).val * 1024 + C.val, by omega⟩ l
  v_eq : ∀ t (C : Fin 1024) l, vB t (ix3 0 C l) = v (head t) ⟨(pairOf t).val * 1024 + C.val, by omega⟩ l
  same : ∀ (n : ℕ) (h : n + 1 < N), ¬(n + 1) % 8 = 0 → head ⟨n, Nat.lt_of_succ_lt h⟩ = head ⟨n + 1, h⟩
  first : ∀ t : Fin N, t.val % 8 = 0 → ∃ z : Vec Ideal Head .f32, (∀ R l, z (ix3 0 R l) = 0) ∧
    Blocks (outs t.val t.isLt).2.1 (outs t.val t.isLt).2.2 (outs t.val t.isLt).1 (dkTile (qB t) (dB t) (lB t) (eB t) (kB t) (vB t))
      (dvTile (qB t) (dB t) (lB t) (kB t)) (dqBlk (qB t) (dB t) (lB t) (eB t) (kB t) (vB t) z)
  next : ∀ t : Fin N, ¬t.val % 8 = 0 →
    Blocks (outs t.val t.isLt).2.1 (outs t.val t.isLt).2.2 (outs t.val t.isLt).1 (dkTile (qB t) (dB t) (lB t) (eB t) (kB t) (vB t))
      (dvTile (qB t) (dB t) (lB t) (kB t)) (dqBlk (qB t) (dB t) (lB t) (eB t) (kB t) (vB t)
        (outs (t.val - 1) (Nat.lt_of_le_of_lt (Nat.sub_le _ _) t.isLt)).1)

variable {head : Fin N → Fin H} {q d : Fin H → Fin 8192 → Fin 128 → EReal} {lse delta : Fin H → Fin 8192 → EReal}
  {k v : Fin H → Fin 8192 → Fin 128 → EReal} {qB dB : Fin N → Vec Ideal Head .bf16} {lB eB : Fin N → Vec Ideal Stats .f32}
  {kB vB : Fin N → Vec Ideal Tiles .bf16} {outs : (n : ℕ) → n < N → Vec Ideal Head .f32 × Vec Ideal Tiles .f32 × Vec Ideal Tiles .f32}
  (S : Sweep head q d lse delta k v qB dB lB eB kB vB outs)
include S

/-- At every point the buffers hold the blocks over something. -/
theorem Sweep.blocks (t : Fin N) : ∃ z : Vec Ideal Head .f32,
    Blocks (outs t.val t.isLt).2.1 (outs t.val t.isLt).2.2 (outs t.val t.isLt).1 (dkTile (qB t) (dB t) (lB t) (eB t) (kB t) (vB t))
      (dvTile (qB t) (dB t) (lB t) (kB t)) (dqBlk (qB t) (dB t) (lB t) (eB t) (kB t) (vB t) z) := by
  by_cases h0 : t.val % 8 = 0
  · obtain ⟨z, -, h⟩ := S.first t h0
    exact ⟨z, h⟩
  · exact ⟨_, S.next t h0⟩

theorem Sweep.dk (t : Fin N) (C : Fin 1024) (l : Fin 128) : (outs t.val t.isLt).2.1 (ix3 0 C l) =
    dkH (q (head t)) (d (head t)) (lse (head t)) (delta (head t)) (k (head t)) (v (head t)) ⟨(pairOf t).val * 1024 + C.val, by omega⟩ l := by
  obtain ⟨z, h⟩ := S.blocks t
  exact h.dk_eq (S.q_eq t) (S.d_eq t) (S.l_eq t) (S.e_eq t) (S.k_eq t) (S.v_eq t) C l

theorem Sweep.dv (t : Fin N) (C : Fin 1024) (l : Fin 128) : (outs t.val t.isLt).2.2 (ix3 0 C l) =
    dvH (q (head t)) (d (head t)) (lse (head t)) (k (head t)) ⟨(pairOf t).val * 1024 + C.val, by omega⟩ l := by
  obtain ⟨z, h⟩ := S.blocks t
  exact h.dv_eq (S.q_eq t) (S.d_eq t) (S.l_eq t) (S.e_eq t) (S.k_eq t) (S.v_eq t) C l

theorem Sweep.dq_first (t : Fin N) (h0 : t.val % 8 = 0) (R : Fin 8192) (l : Fin 128) : (outs t.val t.isLt).1 (ix3 0 R l) =
    dqPart (q (head t)) (d (head t)) (lse (head t)) (delta (head t)) (k (head t)) (v (head t)) R l (pairOf t) := by
  obtain ⟨z, hz, h⟩ := S.first t h0
  refine (h.dq_eq (S.q_eq t) (S.d_eq t) (S.l_eq t) (S.e_eq t) (S.k_eq t) (S.v_eq t) R l).trans ?_
  rw [hz, zero_add]

theorem Sweep.dq_next (t : Fin N) (h0 : ¬t.val % 8 = 0) (R : Fin 8192) (l : Fin 128) : (outs t.val t.isLt).1 (ix3 0 R l) =
    (outs (t.val - 1) (Nat.lt_of_le_of_lt (Nat.sub_le _ _) t.isLt)).1 (ix3 0 R l) +
      dqPart (q (head t)) (d (head t)) (lse (head t)) (delta (head t)) (k (head t)) (v (head t)) R l (pairOf t) :=
  (S.next t h0).dq_eq (S.q_eq t) (S.d_eq t) (S.l_eq t) (S.e_eq t) (S.k_eq t) (S.v_eq t) R l

/-- The query gradient's buffer after point `n`: the pairs of tiles of the head so far. -/
theorem Sweep.dq_upTo (R : Fin 8192) (l : Fin 128) : ∀ (n : ℕ) (hn : n < N), (outs n hn).1 (ix3 0 R l) =
    upTo (dqPart (q (head ⟨n, hn⟩)) (d (head ⟨n, hn⟩)) (lse (head ⟨n, hn⟩)) (delta (head ⟨n, hn⟩)) (k (head ⟨n, hn⟩)) (v (head ⟨n, hn⟩)) R l)
      (n % 8) (by omega)
  | 0, hn => (S.dq_first ⟨0, hn⟩ rfl R l).trans (upTo_zero _ _ _ rfl).symm
  | n + 1, hn => by
    by_cases h0 : (n + 1) % 8 = 0
    · exact (S.dq_first ⟨n + 1, hn⟩ h0 R l).trans (upTo_zero _ _ _ h0).symm
    · refine (S.dq_next ⟨n + 1, hn⟩ h0 R l).trans ?_
      refine (congrArg (· + _) (Sweep.dq_upTo R l n (Nat.lt_of_succ_lt hn))).trans ?_
      rw [S.same n hn h0]
      exact (upTo_succ _ (n % 8) ((n + 1) % 8) (by omega) (by omega) (by omega)).symm

/-- At a head's last point it holds the head's query gradient. -/
theorem Sweep.dq (t : Fin N) (h7 : t.val % 8 = 7) (R : Fin 8192) (l : Fin 128) : (outs t.val t.isLt).1 (ix3 0 R l) =
    dqH (q (head t)) (d (head t)) (lse (head t)) (delta (head t)) (k (head t)) (v (head t)) R l :=
  (S.dq_upTo R l t.val t.isLt).trans (dqH_eq_upTo _ _ _ _ _ _ R l (t.val % 8) (by omega) h7)

end Cert.AttnGrad

end
-- ==== Proof.RealOps.lean ====
/- Arithmetic of the extended reals on finite numbers: sums, quotients, the greatest of a row. -/
module

public import Idealize.ShloMosaic.PureOps.Ideal
public import Idealize.ShloMosaic.PureOps.Reduce
public import Idealize.ShloMosaic.Lib.Pointwise

@[expose] public section

noncomputable section

namespace Cert.AttnGrad
open Idealize.ShloMosaic
open scoped BigOperators

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem div_real (x y : ℝ) (h : y ≠ 0) : Ideal.div (x : EReal) (y : EReal) = ((x / y : ℝ) : EReal) := by
  rw [Ideal.div_coe h, ← EReal.coe_mul, mul_one_div]

theorem sqrt_real (x : ℝ) (h : 0 ≤ x) : Ideal.sqrt (x : EReal) = ((Real.sqrt x : ℝ) : EReal) := by
  rw [Ideal.sqrt_coe, if_neg (not_lt.2 h)]

theorem log_real (x : ℝ) (h : 0 < x) : Ideal.log (x : EReal) = ((Real.log x : ℝ) : EReal) := by
  rw [Ideal.log_coe, if_neg (not_le.2 h)]

/-- A finite extended real. -/
def IsReal (x : EReal) : Prop := ∃ r : ℝ, x = (r : EReal)

theorem isReal_of_abs_lt_top {x : EReal} (h : max x (-x) < ⊤) : IsReal x := by
  induction x using EReal.rec with
  | bot => simp at h
  | top => simp at h
  | coe r => exact ⟨r, rfl⟩

/-- The greatest of finitely many finite numbers, at least one, taken from −∞. -/
theorem fold_max_real {ι : Type} (b : EReal) (hb : b = ⊥) (f : ι → EReal) (s : Finset ι) (hs : s.Nonempty) (hf : ∀ i, IsReal (f i)) :
    IsReal (s.fold max b f) := by
  classical
  subst hb
  induction hs using Finset.Nonempty.cons_induction with
  | singleton a =>
    rw [Finset.fold_singleton, max_eq_left bot_le]
    exact hf a
  | cons a s ha hs ih =>
    rw [Finset.fold_cons]
    obtain ⟨x, hx⟩ := hf a
    obtain ⟨y, hy⟩ := ih
    rw [hx, hy]
    rcases le_total (x : EReal) (y : EReal) with h | h
    · exact ⟨y, max_eq_right h⟩
    · exact ⟨x, max_eq_left h⟩

/-! ## Literals -/

theorem ofBits_zero : Ideal.ofBits .f32 0x00000000#32 = 0 := by simp [Ideal.ofBits, Ideal.ieee]
theorem ofBits_one : Ideal.ofBits .f32 0x3F800000#32 = ((1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_96 : Ideal.ofBits .f32 0x42C00000#32 = ((96 : ℝ) : EReal) := by
  simp [Ideal.ofBits, Ideal.ieee, -EReal.coe_mul]; norm_num
theorem ofBits_bot : Ideal.ofBits .f32 0xFF800000#32 = ⊥ := by simp [Ideal.ofBits, Ideal.ieee]
theorem ofBits_top : Ideal.ofBits .f32 0x7F800000#32 = ⊤ := by simp [Ideal.ofBits, Ideal.ieee]

end Cert.AttnGrad

end
-- ==== Proof.AttnReal.lean ====
/- The gradient of one attention head over the reals, and the kernel's base-two form of it with the features spread over 128 lanes. -/
module

public import proofs.«01_k».proof.Proof.HeadMath
public import proofs.«01_k».proof.Proof.RealOps
public import Mathlib.Analysis.SpecialFunctions.Pow.Real

@[expose] public section

noncomputable section

namespace Cert.AttnGrad
open Idealize.ShloMosaic
open scoped BigOperators

section
variable {n nv : ℕ} (σ : ℝ) (Q K : Fin 8192 → Fin n → ℝ) (V D : Fin 8192 → Fin nv → ℝ)

/-- The score of key `C` for row `R`. -/
def score (C R : Fin 8192) : ℝ := (∑ j, Q R j * K C j) * σ

/-- A row's sum of exponentials. -/
def denom (R : Fin 8192) : ℝ := ∑ C, Real.exp (score σ Q K C R)

/-- The attention weight. -/
def prob (C R : Fin 8192) : ℝ := Real.exp (score σ Q K C R) / denom σ Q K R

/-- The cotangent of the weight. -/
def cot (C R : Fin 8192) : ℝ := ∑ l, V C l * D R l

/-- A row's weighted sum of those. -/
def rowDot (R : Fin 8192) : ℝ := ∑ C, prob σ Q K C R * cot V D C R

/-- The cotangent of the scaled score. -/
def dScore (C R : Fin 8192) : ℝ := prob σ Q K C R * (cot V D C R - rowDot σ Q K V D R)

theorem denom_pos (R : Fin 8192) : 0 < denom σ Q K R :=
  Finset.sum_pos (fun _ _ => Real.exp_pos _) ⟨0, Finset.mem_univ _⟩

/-- The exponentials shifted by any number of the row. -/
def shifted (M : ℝ) (R : Fin 8192) : ℝ := ∑ C, Real.exp (score σ Q K C R - M)

theorem shifted_eq (M : ℝ) (R : Fin 8192) : shifted σ Q K M R = denom σ Q K R * Real.exp (-M) := by
  unfold shifted denom
  rw [Finset.sum_mul]
  exact Finset.sum_congr rfl fun C _ => by rw [sub_eq_add_neg, Real.exp_add]

theorem shifted_pos (M : ℝ) (R : Fin 8192) : 0 < shifted σ Q K M R := by
  rw [shifted_eq]
  exact mul_pos (denom_pos ..) (Real.exp_pos _)

/-- The weight does not depend on the shift. -/
theorem shifted_prob (M : ℝ) (C R : Fin 8192) :
    Real.exp (score σ Q K C R - M) / shifted σ Q K M R = prob σ Q K C R := by
  rw [shifted_eq, sub_eq_add_neg, Real.exp_add]
  unfold prob
  exact mul_div_mul_right _ _ (Real.exp_pos _).ne'

/-- A weight by powers of two, from a row's saved logarithm. -/
theorem rpow_prob (M : ℝ) (C R : Fin 8192) :
    (2 : ℝ) ^ (score σ Q K C R / Real.log 2 - (M + Real.log (shifted σ Q K M R)) / Real.log 2) = prob σ Q K C R := by
  have h2 : Real.log 2 ≠ 0 := (Real.log_pos one_lt_two).ne'
  rw [← shifted_prob σ Q K M C R, Real.rpow_def_of_pos two_pos, ← sub_div, mul_div_cancel₀ _ h2, ← sub_sub, Real.exp_sub,
    Real.exp_log (shifted_pos ..)]

/-- A row's weighted sum, from the attention's output. -/
theorem rowDot_eq (R : Fin 8192) : ∑ l, D R l * ∑ C, prob σ Q K C R * V C l = rowDot σ Q K V D R := by
  unfold rowDot cot
  simp only [Finset.mul_sum]
  rw [Finset.sum_comm]
  exact Finset.sum_congr rfl fun C _ => Finset.sum_congr rfl fun l _ => by ring

/-- The cotangent of the scaled score, as the derivative of the quotient of the exponential and its row's sum. -/
theorem dScore_eq (M : ℝ) (C R : Fin 8192) :
    (cot V D C R / shifted σ Q K M R +
      -∑ C, cot V D C R * (1 / (shifted σ Q K M R * shifted σ Q K M R)) * Real.exp (score σ Q K C R - M)) * Real.exp (score σ Q K C R - M) =
      dScore σ Q K V D C R := by
  have hl := (shifted_pos σ Q K M R).ne'
  unfold dScore rowDot
  simp only [← shifted_prob σ Q K M]
  generalize shifted σ Q K M R = l at hl
  have : ∑ C, Real.exp (score σ Q K C R - M) / l * cot V D C R = l * ∑ C, cot V D C R * (1 / (l * l)) * Real.exp (score σ Q K C R - M) := by
    rw [Finset.mul_sum]
    refine Finset.sum_congr rfl fun C _ => ?_
    field_simp
  rw [this]
  field_simp
  ring

end

/-! ## Mixer B's scale and columns -/

/-- The scale. -/
def scaleB : ℝ := 1 / Real.sqrt 96

theorem sqrt96_ne : Real.sqrt 96 ≠ 0 := (Real.sqrt_pos.2 (by norm_num)).ne'
theorem log2_ne : Real.log 2 ≠ 0 := (Real.log_pos one_lt_two).ne'

/-- Head `h`'s feature `l` among the cotangent's columns. -/
def colB (h : Fin 4) (l : Fin 128) : Fin 512 := ⟨h.val * 128 + l.val, by omega⟩

/-! ## Features spread over the lanes -/

/-- A sum over the lanes of a function that vanishes off the features' lanes. -/
theorem sum_lanes {n : ℕ} (lane : Fin n → Fin 128) (hl : Function.Injective lane) (f : Fin n → EReal) (g : Fin 128 → EReal)
    (h : ∀ j, g (lane j) = f j) (h0 : ∀ l, l ∉ Set.range lane → g l = 0) : ∑ l, g l = ∑ j, f j :=
  (Fintype.sum_of_injective lane hl f g h0 fun j => (h j).symm).symm

section
variable {n nv : ℕ} {σ : ℝ} {Q K : Fin 8192 → Fin n → ℝ} {V D : Fin 8192 → Fin nv → ℝ} {lane : Fin n → Fin 128} {M : Fin 8192 → ℝ}
  {q d : Fin 8192 → Fin 128 → EReal} {lse delta : Fin 8192 → EReal} {k v : Fin 8192 → Fin 128 → EReal}

/-- The operands the kernel takes for a head of finite numbers. -/
structure Operands (σ : ℝ) (Q K : Fin 8192 → Fin n → ℝ) (V D : Fin 8192 → Fin nv → ℝ) (lane : Fin n → Fin 128) (M : Fin 8192 → ℝ)
    (q d : Fin 8192 → Fin 128 → EReal) (lse delta : Fin 8192 → EReal) (k v : Fin 8192 → Fin 128 → EReal) : Prop where
  inj : Function.Injective lane
  q_lane : ∀ R j, q R (lane j) = ((Q R j * (σ / Real.log 2) : ℝ) : EReal)
  k_lane : ∀ C j, k C (lane j) = ((K C j : ℝ) : EReal)
  k_off : ∀ C l, l ∉ Set.range lane → k C l = 0
  vd : ∀ C R, ∑ l, v C l * d R l = ((cot V D C R : ℝ) : EReal)
  lse_eq : ∀ R, lse R = (((M R + Real.log (shifted σ Q K (M R) R)) / Real.log 2 : ℝ) : EReal)
  delta_eq : ∀ R, delta R = ((rowDot σ Q K V D R : ℝ) : EReal)

variable (h : Operands σ Q K V D lane M q d lse delta k v)
include h

theorem Operands.kq (C R : Fin 8192) : ∑ l, k C l * q R l = ((score σ Q K C R / Real.log 2 : ℝ) : EReal) := by
  refine (sum_lanes lane h.inj (fun j => ((K C j * (Q R j * (σ / Real.log 2)) : ℝ) : EReal)) _ (fun j => ?_) fun l hl => ?_).trans ?_
  · rw [h.q_lane, h.k_lane, ← EReal.coe_mul]
  · rw [h.k_off C l hl, zero_mul]
  · rw [coe_sum]
    congr 1
    unfold score
    rw [mul_div_assoc, Finset.sum_mul]
    exact Finset.sum_congr rfl fun j _ => by ring

theorem Operands.p (C R : Fin 8192) : pH q lse k C R = ((prob σ Q K C R : ℝ) : EReal) := by
  unfold pH
  rw [h.kq, h.lse_eq, ← EReal.coe_sub, Ideal.exp2_coe]
  exact congrArg _ (rpow_prob σ Q K (M R) C R)

theorem Operands.ds (C R : Fin 8192) : dsH q d lse delta k v C R = ((dScore σ Q K V D C R : ℝ) : EReal) := by
  unfold dsH dScore
  rw [h.p, h.vd, h.delta_eq, ← EReal.coe_sub, ← EReal.coe_mul]

theorem Operands.dq (R : Fin 8192) (j : Fin n) :
    dqH q d lse delta k v R (lane j) = ((∑ C, dScore σ Q K V D C R * K C j : ℝ) : EReal) := by
  unfold dqH
  rw [← coe_sum]
  exact Finset.sum_congr rfl fun C _ => by rw [h.ds, h.k_lane, EReal.coe_mul]

theorem Operands.dk (C : Fin 8192) (j : Fin n) :
    dkH q d lse delta k v C (lane j) = (((∑ R, dScore σ Q K V D C R * Q R j) * (σ / Real.log 2) : ℝ) : EReal) := by
  unfold dkH
  rw [Finset.sum_mul, ← coe_sum]
  exact Finset.sum_congr rfl fun R _ => by rw [h.ds, h.q_lane, ← EReal.coe_mul, mul_assoc]

theorem Operands.dv (C : Fin 8192) (l : Fin 128) (δ : Fin 8192 → ℝ) (hd : ∀ R, d R l = ((δ R : ℝ) : EReal)) :
    dvH q d lse k C l = ((∑ R, prob σ Q K C R * δ R : ℝ) : EReal) := by
  unfold dvH
  rw [← coe_sum]
  exact Finset.sum_congr rfl fun R _ => by rw [h.p, hd, EReal.coe_mul]

end

end Cert.AttnGrad

end
-- ==== Proof.HeadsA.lean ====
/- Attention A's heads: eight of queries in two groups of four, a group sharing its keys and values. -/
module

public import proofs.«01_k».proof.Proof.AttnReal

@[expose] public section

noncomputable section

namespace Cert.AttnGrad
open Idealize.ShloMosaic
open scoped BigOperators

/-- A head's group, -/
def groupOf (h : Fin 8) : Fin 2 := ⟨h.val / 4, by omega⟩
/-- its place in the group, -/
def placeOf (h : Fin 8) : Fin 4 := ⟨h.val % 4, by omega⟩
/-- and the head at a place of a group. -/
def headAt (g : Fin 2) (a : Fin 4) : Fin 8 := ⟨g.val * 4 + a.val, by omega⟩

theorem groupOf_headAt (g : Fin 2) (a : Fin 4) : groupOf (headAt g a) = g := by
  revert g a
  decide

theorem headAt_of (h : Fin 8) : headAt (groupOf h) (placeOf h) = h := by
  revert h
  decide

/-- Head `h`'s feature `l` among the cotangent's columns. -/
def colA (h : Fin 8) (l : Fin 64) : Fin 512 := ⟨h.val * 64 + l.val, by omega⟩

theorem colA_head (h : Fin 8) (l : Fin 64) (p : (colA h l).val / 64 < 8) : (⟨(colA h l).val / 64, p⟩ : Fin 8) = h :=
  Fin.ext (by simp only [colA]; omega)

/-- The lane of feature `j`: the halves of the rotated pairs, each at its half of the lanes. -/
def laneA (j : Fin 64) : Fin 128 :=
  ⟨if j.val < 16 then j.val else if j.val < 32 then 48 + j.val else if j.val < 48 then j.val - 16 else 32 + j.val,
    by have := j.isLt; split_ifs <;> omega⟩

theorem laneA_inj : Function.Injective laneA := by decide +kernel

/-- The lane of feature `l` of the values. -/
def laneV (l : Fin 64) : Fin 128 := ⟨l.val, by omega⟩

theorem laneV_inj : Function.Injective laneV := fun a b h => Fin.ext (Fin.mk.inj h)

/-- The scale. -/
def scaleA : ℝ := 1 / 8

theorem ofBits_eighth : Ideal.ofBits .f32 0x3E000000#32 = ((scaleA : ℝ) : EReal) := by
  simp [Ideal.ofBits, Ideal.ieee, scaleA, -EReal.coe_mul]; norm_num

end Cert.AttnGrad

end
-- ==== Proof.OpsA.lean ====
/- The operands of attention A's gradient, head by head, and what a window's block holds of them. -/
module

public import proofs.«01_k».proof.Proof.BodyA
public import proofs.«01_k».proof.Proof.Sweep
public import proofs.«01_k».proof.Proof.HeadsA

@[expose] public section

set_option maxRecDepth 16384

noncomputable section

namespace Cert.KernelAIdeal.Val
open Idealize.ShloMosaic Idealize.ShloMosaic.TcCoe Idealize.ShloMosaic.Tactic Cert.KernelAIdeal Cert.KernelAIdeal.Gen Cert.AttnGrad

variable (m : (ℓ : Loc nD τ sig) → Buf (Elt Ideal) ℓ)

/-! ## The operands, head by head -/

section
variable (c : Dev nD) (h : Fin 8)
def qOp (R : Fin 8192) (l : Fin 128) : EReal := (V m c main_v44 : Vec Ideal S8x8192x128 .bf16) (ix3 h R l)
def dOp (R : Fin 8192) (l : Fin 128) : EReal := (V m c main_v77 : Vec Ideal S8x8192x128 .bf16) (ix3 h R l)
def lseOp (R : Fin 8192) : EReal := (V m c main_v78 : Vec Ideal S8x8x1x1024 .f32) (ix4 h ⟨R.val / 1024, by omega⟩ 0 ⟨R.val % 1024, by omega⟩)
def deltaOp (R : Fin 8192) : EReal := (V m c main_v79 : Vec Ideal S8x8x1x1024 .f32) (ix4 h ⟨R.val / 1024, by omega⟩ 0 ⟨R.val % 1024, by omega⟩)
def kOp (R : Fin 8192) (l : Fin 128) : EReal := (V m c main_v58 : Vec Ideal S2x8192x128 .bf16) (ix3 (groupOf h) R l)
def vOp (R : Fin 8192) (l : Fin 128) : EReal := (V m c main_v70 : Vec Ideal S2x8192x128 .bf16) (ix3 (groupOf h) R l)
end

/-- The windows' block indices. -/
theorem idx : ∀ t : Fin cfg0.N, win0_0.index t = ![t.val / 8, 0, 0] ∧ win0_1.index t = ![t.val / 8, 0, 0] ∧
    win0_2.index t = ![t.val / 8, 0, 0, 0] ∧ win0_3.index t = ![t.val / 8, 0, 0, 0] ∧
    win0_4.index t = ![t.val / 8 / 4, t.val % 8, 0] ∧ win0_5.index t = ![t.val / 8 / 4, t.val % 8, 0] ∧
    win0_6.index t = ![t.val / 8, 0, 0] ∧ win0_7.index t = ![t.val / 8, t.val % 8, 0] ∧ win0_8.index t = ![t.val / 8, t.val % 8, 0] :=
  (by decide +kernel : ∀ t : Fin grid0.N, _)

/-- The head of a grid point. -/
def headOf (t : Fin cfg0.N) : Fin 8 := ⟨t.val / 8, by have : t.val < 64 := lt_of_lt_of_eq t.isLt N_0; omega⟩

/-! ## A window's block, read off any array -/

section
variable (t : Fin cfg0.N)

theorem read_q (X : Vec Ideal S8x8192x128 .bf16) (R : Fin 8192) (l : Fin 128) :
    ((cfg0.win 0).blk t).view.read (Elt Ideal) X (ix3 0 R l) = X (ix3 (headOf t) R l) := by
  unfold headOf
  blk_ext [idx t]

theorem read_d (X : Vec Ideal S8x8192x128 .bf16) (R : Fin 8192) (l : Fin 128) :
    ((cfg0.win 1).blk t).view.read (Elt Ideal) X (ix3 0 R l) = X (ix3 (headOf t) R l) := by
  unfold headOf
  blk_ext [idx t]

theorem read_lse (X : Vec Ideal S8x8x1x1024 .f32) (i : Fin 8) (r : Fin 1024) :
    ((cfg0.win 2).blk t).view.read (Elt Ideal) X (ix4 0 i 0 r) = X (ix4 (headOf t) i 0 r) := by
  unfold headOf
  blk_ext [idx t]

theorem read_delta (X : Vec Ideal S8x8x1x1024 .f32) (i : Fin 8) (r : Fin 1024) :
    ((cfg0.win 3).blk t).view.read (Elt Ideal) X (ix4 0 i 0 r) = X (ix4 (headOf t) i 0 r) := by
  unfold headOf
  blk_ext [idx t]

theorem read_k (X : Vec Ideal S2x8192x128 .bf16) (C : Fin 1024) (l : Fin 128) :
    ((cfg0.win 4).blk t).view.read (Elt Ideal) X (ix3 0 C l) = X (ix3 (groupOf (headOf t)) ⟨(pairOf t).val * 1024 + C.val, by omega⟩ l) := by
  unfold groupOf headOf pairOf
  blk_ext [idx t]

theorem read_v (X : Vec Ideal S2x8192x128 .bf16) (C : Fin 1024) (l : Fin 128) :
    ((cfg0.win 5).blk t).view.read (Elt Ideal) X (ix3 0 C l) = X (ix3 (groupOf (headOf t)) ⟨(pairOf t).val * 1024 + C.val, by omega⟩ l) := by
  unfold groupOf headOf pairOf
  blk_ext [idx t]
end

section
variable (c : Dev nD) (t : Fin cfg0.N)

theorem iblk_q (R : Fin 8192) (l : Fin 128) : (iblk m c 0 t : Vec Ideal Head .bf16) (ix3 0 R l) = qOp m c (headOf t) R l :=
  read_q t (V m c main_v44) R l

theorem iblk_d (R : Fin 8192) (l : Fin 128) : (iblk m c 1 t : Vec Ideal Head .bf16) (ix3 0 R l) = dOp m c (headOf t) R l :=
  read_d t (V m c main_v77) R l

theorem iblk_lse (R : Fin 8192) : statAt (iblk m c 2 t) R = lseOp m c (headOf t) R :=
  read_lse t (V m c main_v78) _ _

theorem iblk_delta (R : Fin 8192) : statAt (iblk m c 3 t) R = deltaOp m c (headOf t) R :=
  read_delta t (V m c main_v79) _ _

theorem iblk_k (C : Fin 1024) (l : Fin 128) :
    (iblk m c 4 t : Vec Ideal Tiles .bf16) (ix3 0 C l) = kOp m c (headOf t) ⟨(pairOf t).val * 1024 + C.val, by omega⟩ l :=
  read_k t (V m c main_v58) C l

theorem iblk_v (C : Fin 1024) (l : Fin 128) :
    (iblk m c 5 t : Vec Ideal Tiles .bf16) (ix3 0 C l) = vOp m c (headOf t) ⟨(pairOf t).val * 1024 + C.val, by omega⟩ l :=
  read_v t (V m c main_v70) C l

end

end Cert.KernelAIdeal.Val

end
-- ==== Proof.PointsA.lean ====
/- Attention A's gradient as a sweep over its grid. -/
module

public import proofs.«01_k».proof.Proof.OpsA
public import Idealize.ShloMosaic.Lib.Pointwise

@[expose] public section

set_option maxRecDepth 16384

noncomputable section

namespace Cert.KernelAIdeal.Val
open Idealize.ShloMosaic Idealize.ShloMosaic.TcCoe Idealize.ShloMosaic.Tactic Cert.KernelAIdeal Cert.KernelAIdeal.Gen Cert.AttnGrad

variable (m : (ℓ : Loc nD τ sig) → Buf (Elt Ideal) ℓ)

theorem zeros_apply (R : Fin 8192) (l : Fin 128) : (k0_pay2 (F := Ideal)) (ix3 0 R l) = 0 := by
  unfold k0_pay2
  pointwise

section
variable (c : Dev nD) (t : Fin cfg0.N)
/-- The operands' blocks at a grid point, and the three buffers after point `n`. -/
def qAt : Vec Ideal Head .bf16 := iblk m c 0 t
def dAt : Vec Ideal Head .bf16 := iblk m c 1 t
def lAt : Vec Ideal Stats .f32 := iblk m c 2 t
def eAt : Vec Ideal Stats .f32 := iblk m c 3 t
def kAt : Vec Ideal Tiles .bf16 := iblk m c 4 t
def vAt : Vec Ideal Tiles .bf16 := iblk m c 5 t
def buffers (n : ℕ) (h : n < cfg0.N) : Vec Ideal Head .f32 × Vec Ideal Tiles .f32 × Vec Ideal Tiles .f32 := outsAt0 m c n h
end

theorem sweep (c : Dev nD) : Sweep headOf (qOp m c) (dOp m c) (lseOp m c) (deltaOp m c) (kOp m c) (vOp m c)
    (qAt m c) (dAt m c) (lAt m c) (eAt m c) (kAt m c) (vAt m c) (buffers m c) where
  q_eq t R l := iblk_q m c t R l
  d_eq t R l := iblk_d m c t R l
  l_eq t R := iblk_lse m c t R
  e_eq t R := iblk_delta m c t R
  k_eq t C l := iblk_k m c t C l
  v_eq t C l := iblk_v m c t C l
  same _ _ _ := Fin.ext (by unfold headOf; simp only; omega)
  first t h0 := ⟨k0_pay2 (F := Ideal), zeros_apply, body_A m c t h0⟩
  next t h0 := body_B m c t h0

end Cert.KernelAIdeal.Val

end
-- ==== Proof.ArrA.lean ====
/- What the attention gradient's three arrays hold after the grid: the head's gradient, key by key and row by row. -/
module

public import proofs.«01_k».proof.Proof.PointsA

@[expose] public section

set_option maxRecDepth 16384

noncomputable section

namespace Cert.KernelAIdeal.Val
open Idealize.ShloMosaic Idealize.ShloMosaic.TcCoe Idealize.ShloMosaic.Tactic Cert.KernelAIdeal Cert.KernelAIdeal.Gen Cert.AttnGrad

variable (m : (ℓ : Loc nD τ sig) → Buf (Elt Ideal) ℓ)

/-! ## The arrays after the grid -/

def dkArr (c : Dev nD) : Vec Ideal S8x8192x128 .f32 := fun i =>
  dkH (qOp m c (i 0)) (dOp m c (i 0)) (lseOp m c (i 0)) (deltaOp m c (i 0)) (kOp m c (i 0)) (vOp m c (i 0)) (i 1) (i 2)

def dvArr (c : Dev nD) : Vec Ideal S8x8192x128 .f32 := fun i =>
  dvH (qOp m c (i 0)) (dOp m c (i 0)) (lseOp m c (i 0)) (kOp m c (i 0)) (i 1) (i 2)

def dqArr (c : Dev nD) : Vec Ideal S8x8192x128 .f32 := fun i =>
  dqH (qOp m c (i 0)) (dOp m c (i 0)) (lseOp m c (i 0)) (deltaOp m c (i 0)) (kOp m c (i 0)) (vOp m c (i 0)) (i 1) (i 2)

section
variable (t : Fin cfg0.N)

theorem read_dq (X : Vec Ideal S8x8192x128 .f32) (R : Fin 8192) (l : Fin 128) :
    ((cfg0.win 6).blk t).view.read (Elt Ideal) X (ix3 0 R l) = X (ix3 (headOf t) R l) := by
  unfold headOf
  blk_ext [idx t]

theorem read_dk (X : Vec Ideal S8x8192x128 .f32) (C : Fin 1024) (l : Fin 128) :
    ((cfg0.win 7).blk t).view.read (Elt Ideal) X (ix3 0 C l) = X (ix3 (headOf t) ⟨(pairOf t).val * 1024 + C.val, by omega⟩ l) := by
  unfold headOf pairOf
  blk_ext [idx t]

theorem read_dv (X : Vec Ideal S8x8192x128 .f32) (C : Fin 1024) (l : Fin 128) :
    ((cfg0.win 8).blk t).view.read (Elt Ideal) X (ix3 0 C l) = X (ix3 (headOf t) ⟨(pairOf t).val * 1024 + C.val, by omega⟩ l) := by
  unfold headOf pairOf
  blk_ext [idx t]
end

/-- The points that write the query gradient back are a head's last ones. -/
theorem flush_dq : ∀ t : Fin cfg0.N, (cfg0.win 6).flush t = true → t.val % 8 = 7 := by decide +kernel

theorem cut_dk (t : Fin cfg0.N) (x : Vec Ideal Tiles .f32) (X : Vec Ideal S8x8192x128 .f32)
    (h : ∀ C l, x (ix3 0 C l) = ((cfg0.win 7).blk t).view.read (Elt Ideal) X (ix3 0 C l))
    (y : ((cfg0.win 7).xblock (cfg0.grid.coords t)).Idx) : x y = X ((win0_7.blk t).view.emb y) :=
  congrFun (tiles_funext (y := ((cfg0.win 7).blk t).view.read (Elt Ideal) X) h) y

theorem final_dk (c : Dev nD) : (dats m 0 c).arrAt 7 (cfgs 0).N = dkArr m c := by
  refine (dats m 0 c).arrAt_eq_of_covers 7 _ (by decide +kernel) fun t hf y => ?_
  blk_simp
  rw [after0_7]
  exact cut_dk t _ _ (fun C l => ((sweep m c).dk t C l).trans (read_dk t (dkArr m c) C l).symm) y

theorem cut_dv (t : Fin cfg0.N) (x : Vec Ideal Tiles .f32) (X : Vec Ideal S8x8192x128 .f32)
    (h : ∀ C l, x (ix3 0 C l) = ((cfg0.win 8).blk t).view.read (Elt Ideal) X (ix3 0 C l))
    (y : ((cfg0.win 8).xblock (cfg0.grid.coords t)).Idx) : x y = X ((win0_8.blk t).view.emb y) :=
  congrFun (tiles_funext (y := ((cfg0.win 8).blk t).view.read (Elt Ideal) X) h) y

theorem final_dv (c : Dev nD) : (dats m 0 c).arrAt 8 (cfgs 0).N = dvArr m c := by
  refine (dats m 0 c).arrAt_eq_of_covers 8 _ (by decide +kernel) fun t hf y => ?_
  blk_simp
  rw [after0_8]
  exact cut_dv t _ _ (fun C l => ((sweep m c).dv t C l).trans (read_dv t (dvArr m c) C l).symm) y

theorem cut_dq (t : Fin cfg0.N) (x : Vec Ideal Head .f32) (X : Vec Ideal S8x8192x128 .f32)
    (h : ∀ R l, x (ix3 0 R l) = ((cfg0.win 6).blk t).view.read (Elt Ideal) X (ix3 0 R l))
    (y : ((cfg0.win 6).xblock (cfg0.grid.coords t)).Idx) : x y = X ((win0_6.blk t).view.emb y) :=
  congrFun (head_funext (y := ((cfg0.win 6).blk t).view.read (Elt Ideal) X) h) y

theorem final_dq (c : Dev nD) : (dats m 0 c).arrAt 6 (cfgs 0).N = dqArr m c := by
  refine (dats m 0 c).arrAt_eq_of_covers 6 _ (by decide +kernel) fun t hf y => ?_
  have h7 := flush_dq t hf
  blk_simp
  rw [after0_6]
  refine cut_dq t _ _ (fun R l => ((sweep m c).dq t h7 R l).trans (read_dq t (dqArr m c) R l).symm) y

end Cert.KernelAIdeal.Val

end
-- ==== Proof.HostA.lean ====
/- What the lines before attention A's gradient compute: its operands as terms of the arguments. -/
module

public import proofs.«01_k».proof.Proof.Gen.KernelAIdeal.Frame
public import Idealize.ShloMosaic.Lib.Claim
public import Idealize.ShloMosaic.PureOps.Ideal

@[expose] public section

set_option maxRecDepth 16384

noncomputable section

namespace Cert.KernelAIdeal.Val
open Idealize.ShloMosaic Idealize.ShloMosaic.TcCoe Idealize.ShloMosaic.Tactic Cert.KernelAIdeal Cert.KernelAIdeal.Gen

/-! ## The stages -/

section
variable (q : FVec Ideal S1x8x8192x64 .f32) (k v : FVec Ideal S1x2x8192x64 .f32) (ct : FVec Ideal S1x8192x512 .f32)
  (s e : FVec Ideal S2x4x8192x8192 .f32) (do_ : FVec Ideal S8x8192x64 .f32)

/-- log 2. -/
def ln2 : FVec Ideal S_ .f32 := Host.log (constant S_ .f32 0x40000000#32)
/-- The scale. -/
def eighth : FVec Ideal S_ .f32 := constant S_ .f32 0x3E000000#32
/-- A group's keys, or its values. -/
def hK : FVec Ideal S2x8192x64 .f32 := shapeCast S2x8192x64 k shapeCasts_S1x2x8192x64_S2x8192x64
/-- The scaled scores. -/
def hS : FVec Ideal S2x4x8192x8192 .f32 :=
  mulf (Host.dotGeneral dot_S2x4x8192x64_S2x8192x64_S2x4x8192x8192_3_2_12_1_0_0 none
    (shapeCast S2x4x8192x64 (shapeCast S8x8192x64 q shapeCasts_S1x8x8192x64_S8x8192x64) shapeCasts_S8x8192x64_S2x4x8192x64) (hK k))
    (broadcastInDim S2x4x8192x8192 ![] bcast_S_S2x4x8192x8192 eighth)
/-- A row's greatest score. -/
def hM : FVec Ideal S2x4x8192x1 .f32 :=
  broadcastInDim S2x4x8192x1 ![0, 1, 2] bcast_S2x4x8192_S2x4x8192x1_0_1_2
    (Host.reduce FloatOps.maximumf s (constant S_ .f32 0xFF800000#32) reducesTo_S2x4x8192x8192_S2x4x8192_d3 h_S_)
/-- The exponentials. -/
def hE : FVec Ideal S2x4x8192x8192 .f32 :=
  Host.exp (subf s (broadcastInDim S2x4x8192x8192 ![0, 1, 2, 3] bcast_S2x4x8192x1_S2x4x8192x8192_0_1_2_3 (hM s)))
/-- A row's sum. -/
def hL : FVec Ideal S2x4x8192x1 .f32 :=
  broadcastInDim S2x4x8192x1 ![0, 1, 2] bcast_S2x4x8192_S2x4x8192x1_0_1_2
    (Host.reduceAdd e (constant S_ .f32 0x00000000#32) reducesTo_S2x4x8192x8192_S2x4x8192_d3 h_S_)
/-- A row's saved logarithm, base two. -/
def hLse : FVec Ideal S2x4x8192x1 .f32 :=
  Host.divf (addf (hM s) (Host.log (hL (hE s)))) (broadcastInDim S2x4x8192x1 ![] bcast_S_S2x4x8192x1 ln2)
/-- The cotangent, head by head. -/
def hDo : FVec Ideal S8x8192x64 .f32 :=
  transpose S8x8192x64 [1, 0, 2] (shapeCast S8192x8x64 ct shapeCasts_S1x8192x512_S8192x8x64) transposes_S8192x8x64_S8x8192x64_1_0_2
/-- The output. -/
def hO : FVec Ideal S2x4x8192x64 .f32 :=
  Host.dotGeneral dot_S2x4x8192x8192_S2x8192x64_S2x4x8192x64_3_1_12_2_0_0 none
    (Host.divf (hE s) (broadcastInDim S2x4x8192x8192 ![0, 1, 2, 3] bcast_S2x4x8192x1_S2x4x8192x8192_0_1_2_3 (hL (hE s)))) (hK v)
/-- A row's sum of cotangent times output. -/
def hDelta : FVec Ideal S8x8192 .f32 :=
  Host.reduceAdd (mulf do_ (shapeCast S8x8192x64 (hO v s) shapeCasts_S2x4x8192x64_S8x8192x64)) (constant S_ .f32 0x00000000#32)
    reducesTo_S8x8192x64_S8x8192_d2 h_S_

/-- The queries' features over the lanes. -/
def hSpreadQ : FVec Ideal S8x8192x128 .f32 :=
  let x : FVec Ideal S8x8192x1x64 .f32 :=
    shapeCast S8x8192x1x64 (shapeCast S8x8192x64 q shapeCasts_S1x8x8192x64_S8x8192x64) shapeCasts_S8x8192x64_S8x8192x1x64
  let z : FVec Ideal S8x8192x1x0 .f32 := broadcastInDim S8x8192x1x0 ![] bcast_S_S8x8192x1x0 (constant S_ .f32 0x00000000#32)
  let w : FVec Ideal S8x8192x1x32 .f32 := broadcastInDim S8x8192x1x32 ![] bcast_S_S8x8192x1x32 (constant S_ .f32 0x00000000#32)
  shapeCast S8x8192x128 (concatenate S8x8192x1x128 3
    [⟨S8x8192x1x0, z⟩, ⟨S8x8192x1x16, extractStridedSlice S8x8192x1x16 ![0, 0, 0, 0] x slices_S8x8192x1x64_S8x8192x1x16_0_0_0_0⟩,
      ⟨S8x8192x1x0, z⟩, ⟨S8x8192x1x16, extractStridedSlice S8x8192x1x16 ![0, 0, 0, 32] x slices_S8x8192x1x64_S8x8192x1x16_0_0_0_32⟩,
      ⟨S8x8192x1x32, w⟩, ⟨S8x8192x1x16, extractStridedSlice S8x8192x1x16 ![0, 0, 0, 16] x slices_S8x8192x1x64_S8x8192x1x16_0_0_0_16⟩,
      ⟨S8x8192x1x0, z⟩, ⟨S8x8192x1x16, extractStridedSlice S8x8192x1x16 ![0, 0, 0, 48] x slices_S8x8192x1x64_S8x8192x1x16_0_0_0_48⟩,
      ⟨S8x8192x1x32, w⟩]
    concatenates_S8x8192x1x0_S8x8192x1x16_S8x8192x1x0_S8x8192x1x16_S8x8192x1x32_S8x8192x1x16_S8x8192x1x0_S8x8192x1x16_S8x8192x1x32_S8x8192x1x128_d3)
    shapeCasts_S8x8192x1x128_S8x8192x128
/-- The query operand. -/
def hQ : FVec Ideal S8x8192x128 .f32 :=
  Host.divf (mulf (hSpreadQ q) (broadcastInDim S8x8192x128 ![] bcast_S_S8x8192x128 eighth)) (broadcastInDim S8x8192x128 ![] bcast_S_S8x8192x128 ln2)
/-- The keys' features over the lanes. -/
def hSpreadK : FVec Ideal S2x8192x128 .f32 :=
  let x : FVec Ideal S2x8192x1x64 .f32 := shapeCast S2x8192x1x64 (hK k) shapeCasts_S2x8192x64_S2x8192x1x64
  let z : FVec Ideal S2x8192x1x0 .f32 := broadcastInDim S2x8192x1x0 ![] bcast_S_S2x8192x1x0 (constant S_ .f32 0x00000000#32)
  let w : FVec Ideal S2x8192x1x32 .f32 := broadcastInDim S2x8192x1x32 ![] bcast_S_S2x8192x1x32 (constant S_ .f32 0x00000000#32)
  shapeCast S2x8192x128 (concatenate S2x8192x1x128 3
    [⟨S2x8192x1x0, z⟩, ⟨S2x8192x1x16, extractStridedSlice S2x8192x1x16 ![0, 0, 0, 0] x slices_S2x8192x1x64_S2x8192x1x16_0_0_0_0⟩,
      ⟨S2x8192x1x0, z⟩, ⟨S2x8192x1x16, extractStridedSlice S2x8192x1x16 ![0, 0, 0, 32] x slices_S2x8192x1x64_S2x8192x1x16_0_0_0_32⟩,
      ⟨S2x8192x1x32, w⟩, ⟨S2x8192x1x16, extractStridedSlice S2x8192x1x16 ![0, 0, 0, 16] x slices_S2x8192x1x64_S2x8192x1x16_0_0_0_16⟩,
      ⟨S2x8192x1x0, z⟩, ⟨S2x8192x1x16, extractStridedSlice S2x8192x1x16 ![0, 0, 0, 48] x slices_S2x8192x1x64_S2x8192x1x16_0_0_0_48⟩,
      ⟨S2x8192x1x32, w⟩]
    concatenates_S2x8192x1x0_S2x8192x1x16_S2x8192x1x0_S2x8192x1x16_S2x8192x1x32_S2x8192x1x16_S2x8192x1x0_S2x8192x1x16_S2x8192x1x32_S2x8192x1x128_d3)
    shapeCasts_S2x8192x1x128_S2x8192x128
/-- The values' features on the first half of the lanes. -/
def hPadV : FVec Ideal S2x8192x128 .f32 :=
  shapeCast S2x8192x128 (concatenate S2x8192x1x128 3
    [⟨S2x8192x1x0, broadcastInDim S2x8192x1x0 ![] bcast_S_S2x8192x1x0 (constant S_ .f32 0x00000000#32)⟩,
      ⟨S2x8192x1x64, extractStridedSlice S2x8192x1x64 ![0, 0, 0, 0] (shapeCast S2x8192x1x64 (hK v) shapeCasts_S2x8192x64_S2x8192x1x64)
        slices_S2x8192x1x64_S2x8192x1x64_0_0_0_0⟩,
      ⟨S2x8192x1x64, broadcastInDim S2x8192x1x64 ![] bcast_S_S2x8192x1x64 (constant S_ .f32 0x00000000#32)⟩]
    concatenates_S2x8192x1x0_S2x8192x1x64_S2x8192x1x64_S2x8192x1x128_d3)
    shapeCasts_S2x8192x1x128_S2x8192x128
/-- The value operand: a one on the lane behind the features. -/
def hV : FVec Ideal S2x8192x128 .f32 :=
  select (cmpi .eq (iotaInDim S2x8192x128 32 2) (broadcastInDim S2x8192x128 ![] bcast_S_S2x8192x128 (constantI S_ 32 64#32)))
    (broadcastInDim S2x8192x128 ![] bcast_S_S2x8192x128 (constant S_ .f32 0x3F800000#32)) (hPadV v)
/-- The cotangent's features on the first half of the lanes. -/
def hPadDo : FVec Ideal S8x8192x128 .f32 :=
  shapeCast S8x8192x128 (concatenate S8x8192x1x128 3
    [⟨S8x8192x1x0, broadcastInDim S8x8192x1x0 ![] bcast_S_S8x8192x1x0 (constant S_ .f32 0x00000000#32)⟩,
      ⟨S8x8192x1x64, extractStridedSlice S8x8192x1x64 ![0, 0, 0, 0] (shapeCast S8x8192x1x64 do_ shapeCasts_S8x8192x64_S8x8192x1x64)
        slices_S8x8192x1x64_S8x8192x1x64_0_0_0_0⟩,
      ⟨S8x8192x1x64, broadcastInDim S8x8192x1x64 ![] bcast_S_S8x8192x1x64 (constant S_ .f32 0x00000000#32)⟩]
    concatenates_S8x8192x1x0_S8x8192x1x64_S8x8192x1x64_S8x8192x1x128_d3)
    shapeCasts_S8x8192x1x128_S8x8192x128

end

/-! ## The buffers when the grid starts -/

variable (m : (ℓ : Loc nD τ sig) → Buf (Elt Ideal) ℓ) (c : Dev nD)

def argQ : FVec Ideal S1x8x8192x64 .f32 := m ((c.tc : Thread nD τ).loc main_arg0)
def argK : FVec Ideal S1x2x8192x64 .f32 := m ((c.tc : Thread nD τ).loc main_arg1)
def argV : FVec Ideal S1x2x8192x64 .f32 := m ((c.tc : Thread nD τ).loc main_arg2)
def argCt : FVec Ideal S1x8192x512 .f32 := m ((c.tc : Thread nD τ).loc main_arg3)

theorem after_append (A B : List (HloOp τ sig (Elt Ideal))) (W : Valuation τ sig (Elt Ideal)) :
    StableHlo.after (A ++ B) W = StableHlo.after B (StableHlo.after A W) := by
  induction A generalizing W with
  | nil => rfl
  | cons a A ih => exact ih _

/-- The contents after the first `n` lines. -/
def upToLine (n : ℕ) : Valuation τ sig (Elt Ideal) := StableHlo.after (List.take n hostOps0) (fun b => m (c, b))

theorem V_eq (n : ℕ) (b : Ref sig .tc) :
    V m c b = StableHlo.after (List.drop n hostOps0 ++ (hostOps0_1 ++ hostOps0_2)) (upToLine m c n) b := by
  unfold V V0 upToLine
  rw [← after_append, ← List.append_assoc, List.take_append_drop]
  simp only [List.flatten_cons, List.flatten_nil, List.append_nil]

theorem V_lse : V m c main_v78 = shapeCast S8x8x1x1024 (hLse (hS (argQ m c) (argK m c))) shapeCasts_S2x4x8192x1_S8x8x1x1024 := by
  rw [V_eq m c 27]
  generalize hW : upToLine m c 27 = W
  simp only [List.drop_succ_cons, List.drop_zero, List.cons_append, List.nil_append]
  entry_read
  subst hW
  unfold upToLine
  simp only [List.take_succ_cons, List.take_zero]
  entry_read
  rfl

theorem V_delta : V m c main_v79 =
    shapeCast S8x8x1x1024 (hDelta (argV m c) (hS (argQ m c) (argK m c)) (hDo (argCt m c))) shapeCasts_S8x8192_S8x8x1x1024 := by
  rw [V_eq m c 32]
  generalize hW : upToLine m c 32 = W
  simp only [List.drop_succ_cons, List.drop_zero, List.cons_append, List.nil_append]
  entry_read
  subst hW
  unfold upToLine
  simp only [List.take_succ_cons, List.take_zero]
  entry_read
  rfl

theorem V_q : V m c main_v44 = truncf .bf16 (hQ (argQ m c)) bitsLt_bf16_f32 := by
  rw [V_eq m c 48]
  generalize hW : upToLine m c 48 = W
  simp only [List.drop_succ_cons, List.drop_zero, List.cons_append, List.nil_append]
  entry_read
  simp only [Matrix.cons_val]
  subst hW
  unfold upToLine
  simp only [List.take_succ_cons, List.take_zero]
  entry_read
  rfl

theorem V_k : V m c main_v58 = truncf .bf16 (hSpreadK (argK m c)) bitsLt_bf16_f32 := by
  rw [V_eq m c 72]
  generalize hW : upToLine m c 72 = W
  simp only [List.drop_succ_cons, List.drop_zero, List.cons_append, List.nil_append]
  entry_read
  simp only [Matrix.cons_val]
  subst hW
  unfold upToLine
  simp only [List.take_succ_cons, List.take_zero]
  entry_read
  rfl

/-- The selection as its own lines compute it. -/
theorem where_read (W : Valuation τ sig (Elt Ideal)) : StableHlo.after hostOps0_1 W main_v69 =
    (select (W main_v68 : Vec Ideal S2x8192x128 .i1) (broadcastInDim S2x8192x128 ![] bcast_S_S2x8192x128 (W main_cst_17 : FVec Ideal S_ .f32))
      (W main_v65 : FVec Ideal S2x8192x128 .f32) : FVec Ideal S2x8192x128 .f32) := by
  entry_read
  rfl

theorem cast_read (W : Valuation τ sig (Elt Ideal)) : StableHlo.after hostOps0_2 W main_v70 =
    (truncf .bf16 (W main_v69 : FVec Ideal S2x8192x128 .f32) bitsLt_bf16_f32 : FVec Ideal S2x8192x128 .bf16) := by
  entry_read
  rfl

theorem head_v : StableHlo.after hostOps0 (fun b => m (c, b)) main_v65 = hPadV (argV m c) := by
  rw [← List.take_append_drop 82 hostOps0, after_append]
  generalize hW : StableHlo.after (List.take 82 hostOps0) (fun b => m (c, b)) = W
  simp only [List.drop_succ_cons, List.drop_zero]
  entry_read
  simp only [Matrix.cons_val]
  subst hW
  simp only [List.take_succ_cons, List.take_zero]
  entry_read
  rfl

theorem head_lane (W : Valuation τ sig (Elt Ideal)) : StableHlo.after (List.drop 83 hostOps0) W main_v68 =
    (cmpi .eq (iotaInDim S2x8192x128 32 2) (broadcastInDim S2x8192x128 ![] bcast_S_S2x8192x128 (constantI S_ 32 64#32)) : Vec Ideal S2x8192x128 .i1) := by
  simp only [List.drop_succ_cons, List.drop_zero]
  entry_read
  rfl

theorem head_one (W : Valuation τ sig (Elt Ideal)) : StableHlo.after (List.drop 83 hostOps0) W main_cst_17 =
    (constant S_ .f32 0x3F800000#32 : FVec Ideal S_ .f32) := by
  simp only [List.drop_succ_cons, List.drop_zero]
  entry_read
  rfl

theorem V_v : V m c main_v70 = truncf .bf16 (hV (argV m c)) bitsLt_bf16_f32 := by
  rw [V_eq m c 0]
  refine (congrFun (after_append _ _ _) _).trans ?_
  refine (congrFun (after_append _ _ _) _).trans ?_
  rw [cast_read, where_read]
  have e : StableHlo.after (List.drop 0 hostOps0) (upToLine m c 0) = StableHlo.after hostOps0 (fun b => m (c, b)) := rfl
  have e' (b : Ref sig .tc) : StableHlo.after hostOps0 (fun b => m (c, b)) b =
      StableHlo.after (List.drop 83 hostOps0) (StableHlo.after (List.take 83 hostOps0) (fun b => m (c, b))) b := by
    rw [← after_append, List.take_append_drop]
  rw [e, head_v, e' main_v68, head_lane, e' main_cst_17, head_one]
  rfl

theorem pad_read (W : Valuation τ sig (Elt Ideal)) : StableHlo.after hostOps0_2 W main_v77 =
    (truncf .bf16 (hPadDo (W main_v24 : FVec Ideal S8x8192x64 .f32)) bitsLt_bf16_f32 : FVec Ideal S8x8192x128 .bf16) := by
  rw [← List.take_append_drop 7 hostOps0_2, after_append]
  generalize hW : StableHlo.after (List.take 7 hostOps0_2) W = W'
  simp only [List.drop_succ_cons, List.drop_zero]
  entry_read
  simp only [Matrix.cons_val]
  subst hW
  simp only [List.take_succ_cons, List.take_zero]
  entry_read
  rfl

theorem keep_do (W : Valuation τ sig (Elt Ideal)) : StableHlo.after hostOps0_1 W main_v24 = W main_v24 := by
  entry_read
  rfl

theorem head_do : StableHlo.after hostOps0 (fun b => m (c, b)) main_v24 = hDo (argCt m c) := by
  rw [← List.take_append_drop 32 hostOps0, after_append]
  generalize hW : StableHlo.after (List.take 32 hostOps0) (fun b => m (c, b)) = W
  simp only [List.drop_succ_cons, List.drop_zero]
  entry_read
  subst hW
  simp only [List.take_succ_cons, List.take_zero]
  entry_read
  rfl

theorem V_do : V m c main_v77 = truncf .bf16 (hPadDo (hDo (argCt m c))) bitsLt_bf16_f32 := by
  rw [V_eq m c 0]
  refine (congrFun (after_append _ _ _) _).trans ?_
  refine (congrFun (after_append _ _ _) _).trans ?_
  have e : StableHlo.after (List.drop 0 hostOps0) (upToLine m c 0) = StableHlo.after hostOps0 (fun b => m (c, b)) := rfl
  rw [pad_read, keep_do, e, head_do]

theorem V_ln2 : V m c main_v18 = ln2 := by
  rw [V_eq m c 27]
  generalize hW : upToLine m c 27 = W
  simp only [List.drop_succ_cons, List.drop_zero, List.cons_append, List.nil_append]
  entry_read
  subst hW
  unfold upToLine
  simp only [List.take_succ_cons, List.take_zero]
  entry_read
  rfl

end Cert.KernelAIdeal.Val

end
-- ==== Proof.HostRealA.lean ====
/- The operands of attention A's gradient at an index, for finite arguments. -/
module

public import proofs.«01_k».proof.Proof.HostA
public import proofs.«01_k».proof.Proof.HeadsA

@[expose] public section

set_option maxRecDepth 16384

noncomputable section

namespace Cert.KernelAIdeal.Val
open Idealize.ShloMosaic Idealize.ShloMosaic.TcCoe Idealize.ShloMosaic.Tactic Cert.KernelAIdeal Cert.KernelAIdeal.Gen Cert.AttnGrad
open scoped BigOperators

theorem ln2_apply (i : S_.Idx) : ln2 i = ((Real.log 2 : ℝ) : EReal) := by
  show Ideal.log (Ideal.ofBits .f32 0x40000000#32) = _
  rw [ofBits_two, log_real _ two_pos]

theorem eighth_apply (i : S_.Idx) : eighth i = ((scaleA : ℝ) : EReal) := ofBits_eighth

variable {q : FVec Ideal S1x8x8192x64 .f32} {k v : FVec Ideal S1x2x8192x64 .f32} {ct : FVec Ideal S1x8192x512 .f32}
  {Q D : Fin 8 → Fin 8192 → Fin 64 → ℝ} {K V : Fin 2 → Fin 8192 → Fin 64 → ℝ}

theorem hK_apply (g : Fin 2) (R : Fin 8192) (j : Fin 64) : hK k (ix3 g R j) = k (ix4 0 g R j) := by
  unfold hK
  pointwise

theorem heads_apply (x : FVec Ideal S1x8x8192x64 .f32) (g : Fin 2) (a : Fin 4) (R : Fin 8192) (j : Fin 64) :
    shapeCast S2x4x8192x64 (shapeCast S8x8192x64 x shapeCasts_S1x8x8192x64_S8x8192x64) shapeCasts_S8x8192x64_S2x4x8192x64 (ix4 g a R j) =
      x (ix4 0 (headAt g a) R j) := by
  unfold headAt
  pointwise

theorem scores_apply (x : FVec Ideal S2x4x8192x64 .f32) (z : FVec Ideal S2x8192x64 .f32) (y : FVec Ideal S_ .f32) (g : Fin 2) (a : Fin 4)
    (R C : Fin 8192) :
    mulf (Host.dotGeneral dot_S2x4x8192x64_S2x8192x64_S2x4x8192x8192_3_2_12_1_0_0 none x z)
      (broadcastInDim S2x4x8192x8192 ![] bcast_S_S2x4x8192x8192 y) (ix4 g a R C) = (∑ j, x (ix4 g a R j) * z (ix3 g C j)) * y ix0 := by
  pointwise

theorem hS_apply (hq : ∀ h R j, q (ix4 0 h R j) = ((Q h R j : ℝ) : EReal)) (hk : ∀ h R j, k (ix4 0 h R j) = ((K h R j : ℝ) : EReal))
    (g : Fin 2) (a : Fin 4) (R C : Fin 8192) :
    hS q k (ix4 g a R C) = ((score scaleA (Q (headAt g a)) (K g) C R : ℝ) : EReal) := by
  rw [hS, scores_apply, eighth_apply]
  simp only [heads_apply, hK_apply, hq, hk, ← EReal.coe_mul]
  rw [coe_sum, ← EReal.coe_mul]
  rfl

theorem hM_apply (s : FVec Ideal S2x4x8192x8192 .f32) (g : Fin 2) (a : Fin 4) (R : Fin 8192) :
    hM s (ix4 g a R 0) = Finset.fold max (Ideal.ofBits .f32 0xFF800000#32) (fun C => s (ix4 g a R C)) Finset.univ := by
  unfold hM
  pointwise

theorem hE_apply (s : FVec Ideal S2x4x8192x8192 .f32) (g : Fin 2) (a : Fin 4) (R C : Fin 8192) :
    hE s (ix4 g a R C) = Ideal.exp (s (ix4 g a R C) - hM s (ix4 g a R 0)) := by
  unfold hE
  pointwise

theorem hL_apply (s : FVec Ideal S2x4x8192x8192 .f32) (g : Fin 2) (a : Fin 4) (R : Fin 8192) :
    hL s (ix4 g a R 0) = ∑ C, s (ix4 g a R C) := by
  unfold hL
  pointwise

theorem lse_apply (x y : FVec Ideal S2x4x8192x1 .f32) (z : FVec Ideal S_ .f32) (g : Fin 2) (a : Fin 4) (R : Fin 8192) :
    Host.divf (addf x (Host.log y)) (broadcastInDim S2x4x8192x1 ![] bcast_S_S2x4x8192x1 z) (ix4 g a R 0) =
      Ideal.div (x (ix4 g a R 0) + Ideal.log (y (ix4 g a R 0))) (z ix0) := by
  pointwise

theorem hLse_apply (s : FVec Ideal S2x4x8192x8192 .f32) (g : Fin 2) (a : Fin 4) (R : Fin 8192) :
    hLse s (ix4 g a R 0) = Ideal.div (hM s (ix4 g a R 0) + Ideal.log (hL (hE s) (ix4 g a R 0))) ((Real.log 2 : ℝ) : EReal) := by
  rw [hLse, lse_apply, ln2_apply]

theorem stat_apply (x : FVec Ideal S2x4x8192x1 .f32) (h i : Fin 8) (r : Fin 1024) :
    shapeCast S8x8x1x1024 x shapeCasts_S2x4x8192x1_S8x8x1x1024 (ix4 h i 0 r) =
      x (ix4 (groupOf h) (placeOf h) ⟨i.val * 1024 + r.val, by omega⟩ 0) := by
  unfold groupOf placeOf
  pointwise

theorem stat_apply' (x : FVec Ideal S8x8192 .f32) (h i : Fin 8) (r : Fin 1024) :
    shapeCast S8x8x1x1024 x shapeCasts_S8x8192_S8x8x1x1024 (ix4 h i 0 r) = x (ix2 h ⟨i.val * 1024 + r.val, by omega⟩) := by
  pointwise

theorem hDo_apply (h : Fin 8) (R : Fin 8192) (l : Fin 64) : hDo ct (ix3 h R l) = ct (ix3 0 R (colA h l)) := by
  unfold hDo
  pointwise
  rfl

theorem hO_apply (s : FVec Ideal S2x4x8192x8192 .f32) (g : Fin 2) (a : Fin 4) (R : Fin 8192) (l : Fin 64) :
    hO v s (ix4 g a R l) = ∑ C, Ideal.div (hE s (ix4 g a R C)) (hL (hE s) (ix4 g a R 0)) * v (ix4 0 g C l) := by
  unfold hO
  pointwise
  simp only [hK_apply]

theorem hDelta_apply (s : FVec Ideal S2x4x8192x8192 .f32) (do_ : FVec Ideal S8x8192x64 .f32) (h : Fin 8) (R : Fin 8192) :
    hDelta v s do_ (ix2 h R) = ∑ l, do_ (ix3 h R l) * hO v s (ix4 (groupOf h) (placeOf h) R l) := by
  unfold hDelta groupOf placeOf
  pointwise

/-! ## The features' lanes -/

theorem hSpreadQ_ladder (a : Fin 8) (R : Fin 8192) (l : Fin 128) : hSpreadQ q (ix3 a R l) =
    (if h : l.val < 0 then 0
    else if h_1 : l.val < 16 then q (ix4 0 a R ⟨l.val, by omega⟩)
    else if h : l.val - 16 < 0 then 0
    else if h_2 : l.val - 16 < 16 then q (ix4 0 a R ⟨32 + (l.val - 16), by omega⟩)
    else if h : l.val - 16 - 16 < 32 then 0
    else if h_3 : l.val - 16 - 16 - 32 < 16 then q (ix4 0 a R ⟨16 + (l.val - 16 - 16 - 32), by omega⟩)
    else if h : l.val - 16 - 16 - 32 - 16 < 0 then 0
    else if h_4 : l.val - 16 - 16 - 32 - 16 < 16 then q (ix4 0 a R ⟨48 + (l.val - 16 - 16 - 32 - 16), by omega⟩)
    else 0 : EReal) := by
  unfold hSpreadQ
  pointwise

theorem hSpreadK_ladder (g : Fin 2) (R : Fin 8192) (l : Fin 128) : hSpreadK k (ix3 g R l) =
    (if h : l.val < 0 then 0
    else if h_1 : l.val < 16 then k (ix4 0 g R ⟨l.val, by omega⟩)
    else if h : l.val - 16 < 0 then 0
    else if h_2 : l.val - 16 < 16 then k (ix4 0 g R ⟨32 + (l.val - 16), by omega⟩)
    else if h : l.val - 16 - 16 < 32 then 0
    else if h_3 : l.val - 16 - 16 - 32 < 16 then k (ix4 0 g R ⟨16 + (l.val - 16 - 16 - 32), by omega⟩)
    else if h : l.val - 16 - 16 - 32 - 16 < 0 then 0
    else if h_4 : l.val - 16 - 16 - 32 - 16 < 16 then k (ix4 0 g R ⟨48 + (l.val - 16 - 16 - 32 - 16), by omega⟩)
    else 0 : EReal) := by
  unfold hSpreadK hK
  pointwise

/-- A ladder of the features' places read at a feature's lane. -/
theorem ladder_lane (f : Fin 64 → EReal) (j : Fin 64) (l : Fin 128) (hl : l = laneA j) :
    (if h : l.val < 0 then 0
    else if h_1 : l.val < 16 then f ⟨l.val, by omega⟩
    else if h : l.val - 16 < 0 then 0
    else if h_2 : l.val - 16 < 16 then f ⟨32 + (l.val - 16), by omega⟩
    else if h : l.val - 16 - 16 < 32 then 0
    else if h_3 : l.val - 16 - 16 - 32 < 16 then f ⟨16 + (l.val - 16 - 16 - 32), by omega⟩
    else if h : l.val - 16 - 16 - 32 - 16 < 0 then 0
    else if h_4 : l.val - 16 - 16 - 32 - 16 < 16 then f ⟨48 + (l.val - 16 - 16 - 32 - 16), by omega⟩
    else 0 : EReal) = f j := by
  have hv : l.val = (laneA j).val := congrArg Fin.val hl
  unfold laneA at hv
  have := j.isLt
  simp only at hv
  split_ifs at hv
  all_goals repeat first
    | exact (dif_pos (by omega)).trans (congrArg f (Fin.ext (by simp only; omega)))
    | refine (dif_neg (by omega)).trans ?_

/-- And off the features' lanes. -/
theorem ladder_off (f : Fin 64 → EReal) (l : Fin 128) (hl : l ∉ Set.range laneA) :
    (if h : l.val < 0 then 0
    else if h_1 : l.val < 16 then f ⟨l.val, by omega⟩
    else if h : l.val - 16 < 0 then 0
    else if h_2 : l.val - 16 < 16 then f ⟨32 + (l.val - 16), by omega⟩
    else if h : l.val - 16 - 16 < 32 then 0
    else if h_3 : l.val - 16 - 16 - 32 < 16 then f ⟨16 + (l.val - 16 - 16 - 32), by omega⟩
    else if h : l.val - 16 - 16 - 32 - 16 < 0 then 0
    else if h_4 : l.val - 16 - 16 - 32 - 16 < 16 then f ⟨48 + (l.val - 16 - 16 - 32 - 16), by omega⟩
    else 0 : EReal) = 0 := by
  have hv : 32 ≤ l.val ∧ l.val < 64 ∨ 96 ≤ l.val := by
    revert l
    decide +kernel
  rcases hv with hv | hv
  all_goals repeat first
    | rfl
    | exact dif_pos (by omega)
    | refine (dif_neg (by omega)).trans ?_

theorem hSpreadQ_lane (a : Fin 8) (R : Fin 8192) (j : Fin 64) : hSpreadQ q (ix3 a R (laneA j)) = q (ix4 0 a R j) :=
  (hSpreadQ_ladder a R _).trans (ladder_lane (fun j => q (ix4 0 a R j)) j _ rfl)

theorem hSpreadK_lane (g : Fin 2) (R : Fin 8192) (j : Fin 64) : hSpreadK k (ix3 g R (laneA j)) = k (ix4 0 g R j) :=
  (hSpreadK_ladder g R _).trans (ladder_lane (fun j => k (ix4 0 g R j)) j _ rfl)

theorem hSpreadK_off (g : Fin 2) (R : Fin 8192) (l : Fin 128) (hl : l ∉ Set.range laneA) : hSpreadK k (ix3 g R l) = 0 :=
  (hSpreadK_ladder g R _).trans (ladder_off (fun j => k (ix4 0 g R j)) l hl)

theorem scaled_apply (x : FVec Ideal S8x8192x128 .f32) (y z : FVec Ideal S_ .f32) (a : Fin 8) (R : Fin 8192) (l : Fin 128) :
    Host.divf (mulf x (broadcastInDim S8x8192x128 ![] bcast_S_S8x8192x128 y)) (broadcastInDim S8x8192x128 ![] bcast_S_S8x8192x128 z) (ix3 a R l) =
      Ideal.div (x (ix3 a R l) * y ix0) (z ix0) := by
  pointwise

theorem hQ_apply (a : Fin 8) (R : Fin 8192) (l : Fin 128) :
    hQ q (ix3 a R l) = Ideal.div (hSpreadQ q (ix3 a R l) * ((scaleA : ℝ) : EReal)) ((Real.log 2 : ℝ) : EReal) := by
  rw [hQ, scaled_apply, eighth_apply, ln2_apply]

/-! ## The values' and the cotangent's lanes -/

theorem hPadV_ladder (g : Fin 2) (R : Fin 8192) (l : Fin 128) : hPadV v (ix3 g R l) =
    (if h : l.val < 0 then 0 else if h_1 : l.val < 64 then v (ix4 0 g R ⟨l.val, by omega⟩) else 0 : EReal) := by
  unfold hPadV hK
  pointwise

theorem hPadDo_ladder (do_ : FVec Ideal S8x8192x64 .f32) (a : Fin 8) (R : Fin 8192) (l : Fin 128) : hPadDo do_ (ix3 a R l) =
    (if h : l.val < 0 then 0 else if h_1 : l.val < 64 then do_ (ix3 a R ⟨l.val, by omega⟩) else 0 : EReal) := by
  unfold hPadDo
  pointwise

theorem hPadDo_lane (do_ : FVec Ideal S8x8192x64 .f32) (h : Fin 8) (R : Fin 8192) (l : Fin 64) : hPadDo do_ (ix3 h R (laneV l)) = do_ (ix3 h R l) :=
  (hPadDo_ladder do_ h R _).trans ((dif_neg (Nat.not_lt_zero _)).trans (dif_pos l.isLt))

theorem hPadDo_off (do_ : FVec Ideal S8x8192x64 .f32) (h : Fin 8) (R : Fin 8192) (l : Fin 128) (hl : l ∉ Set.range laneV) :
    hPadDo do_ (ix3 h R l) = 0 := by
  refine (hPadDo_ladder do_ h R _).trans ((dif_neg (Nat.not_lt_zero _)).trans (dif_neg fun hn => hl ⟨⟨l.val, hn⟩, rfl⟩))

/-- The selection at an index. -/
theorem hV_apply (g : Fin 2) (R : Fin 8192) (l : Fin 128) (hl : l.val < 64) : hV v (ix3 g R l) = hPadV v (ix3 g R l) := by
  have : ∀ l : Fin 128, l.val < 64 → IntOp.cmpi .eq (BitVec.ofNat 32 l.val) 64#32 = 0#1 := by decide +kernel
  show (if IntOp.cmpi .eq (BitVec.ofNat 32 l.val) 64#32 = 1#1 then _ else _) = _
  rw [this l hl]
  exact if_neg (by decide)

theorem hV_lane (g : Fin 2) (R : Fin 8192) (l : Fin 64) : hV v (ix3 g R (laneV l)) = v (ix4 0 g R l) :=
  (hV_apply g R _ l.isLt).trans ((hPadV_ladder g R _).trans ((dif_neg (Nat.not_lt_zero _)).trans (dif_pos l.isLt)))

theorem trunc_apply {s : Shape} (x : FVec Ideal s .f32) (i : s.Idx) : truncf .bf16 x bitsLt_bf16_f32 i = x i := rfl

end Cert.KernelAIdeal.Val

end
-- ==== Proof.KernelA.lean ====
/- What attention A's gradient leaves in its three arrays, for finite arguments. -/
module

public import proofs.«01_k».proof.Proof.ArrA
public import proofs.«01_k».proof.Proof.HostRealA

@[expose] public section

set_option maxRecDepth 16384

noncomputable section

namespace Cert.KernelAIdeal.Val
open Idealize.ShloMosaic Idealize.ShloMosaic.TcCoe Idealize.ShloMosaic.Tactic Cert.KernelAIdeal Cert.KernelAIdeal.Gen Cert.AttnGrad
open scoped BigOperators

section
variable {q : FVec Ideal S1x8x8192x64 .f32} {k v : FVec Ideal S1x2x8192x64 .f32} {ct : FVec Ideal S1x8192x512 .f32}
  {Q D : Fin 8 → Fin 8192 → Fin 64 → ℝ} {K V : Fin 2 → Fin 8192 → Fin 64 → ℝ} {M : Fin 2 → Fin 4 → Fin 8192 → ℝ}
  (hq : ∀ h R j, q (ix4 0 h R j) = ((Q h R j : ℝ) : EReal)) (hk : ∀ g R j, k (ix4 0 g R j) = ((K g R j : ℝ) : EReal))
  (hv : ∀ g R l, v (ix4 0 g R l) = ((V g R l : ℝ) : EReal))
  (hD : ∀ (h : Fin 8) (R : Fin 8192) (l : Fin 64), ct (ix3 0 R (colA h l)) = ((D h R l : ℝ) : EReal))
  (hM : ∀ g a R, hM (hS q k) (ix4 g a R 0) = ((M g a R : ℝ) : EReal))
  (g : Fin 2) (a : Fin 4) (R C : Fin 8192)

include hq hk in
theorem exists_max : ∃ M : Fin 2 → Fin 4 → Fin 8192 → ℝ, ∀ g a R, Val.hM (hS q k) (ix4 g a R 0) = ((M g a R : ℝ) : EReal) := by
  have : ∀ g a R, IsReal (Val.hM (hS q k) (ix4 g a R 0)) := fun g a R => by
    rw [hM_apply]
    exact fold_max_real _ ofBits_bot _ _ ⟨0, Finset.mem_univ _⟩ fun C => ⟨_, hS_apply hq hk g a R C⟩
  choose M hM using this
  exact ⟨M, hM⟩

include hq hk hM

theorem hE_real : hE (hS q k) (ix4 g a R C) = ((Real.exp (score scaleA (Q (headAt g a)) (K g) C R - M g a R) : ℝ) : EReal) := by
  rw [hE_apply, hS_apply hq hk, hM, ← EReal.coe_sub, Ideal.exp_coe]

theorem hL_real : hL (hE (hS q k)) (ix4 g a R 0) = ((shifted scaleA (Q (headAt g a)) (K g) (M g a R) R : ℝ) : EReal) := by
  rw [hL_apply]
  simp only [hE_real hq hk hM]
  exact coe_sum _ _

theorem hLse_real : hLse (hS q k) (ix4 g a R 0) =
    (((M g a R + Real.log (shifted scaleA (Q (headAt g a)) (K g) (M g a R) R)) / Real.log 2 : ℝ) : EReal) := by
  rw [hLse_apply, hL_real hq hk hM, hM, log_real _ (shifted_pos ..), ← EReal.coe_add, div_real _ _ log2_ne]

include hv in
theorem hO_real (l : Fin 64) : hO v (hS q k) (ix4 g a R l) = ((∑ C, prob scaleA (Q (headAt g a)) (K g) C R * V g C l : ℝ) : EReal) := by
  rw [hO_apply, ← coe_sum]
  refine Finset.sum_congr rfl fun C _ => ?_
  rw [hE_real hq hk hM, hL_real hq hk hM, div_real _ _ (shifted_pos ..).ne', shifted_prob, hv, EReal.coe_mul]

include hv hD in
theorem hDelta_real (h : Fin 8) : hDelta v (hS q k) (hDo ct) (ix2 h R) =
    ((rowDot scaleA (Q h) (K (groupOf h)) (V (groupOf h)) (D h) R : ℝ) : EReal) := by
  rw [hDelta_apply]
  simp only [hDo_apply, hD, hO_real hq hk hv hM, headAt_of, ← EReal.coe_mul]
  rw [coe_sum, rowDot_eq]

end

variable (m : (ℓ : Loc nD τ sig) → Buf (Elt Ideal) ℓ) (c : Dev nD)
  {Q D : Fin 8 → Fin 8192 → Fin 64 → ℝ} {K V : Fin 2 → Fin 8192 → Fin 64 → ℝ} {M : Fin 2 → Fin 4 → Fin 8192 → ℝ}

theorem dOp_lane (hD : ∀ (h : Fin 8) (R : Fin 8192) (l : Fin 64), argCt m c (ix3 0 R (colA h l)) = ((D h R l : ℝ) : EReal))
    (h : Fin 8) (R : Fin 8192) (l : Fin 64) : dOp m c h R (laneV l) = ((D h R l : ℝ) : EReal) := by
  rw [dOp, V_do, trunc_apply, hPadDo_lane, hDo_apply, hD]

/-- The grid's operands for one head. -/
theorem operands (hq : ∀ h R j, argQ m c (ix4 0 h R j) = ((Q h R j : ℝ) : EReal)) (hk : ∀ g R j, argK m c (ix4 0 g R j) = ((K g R j : ℝ) : EReal))
    (hv : ∀ g R l, argV m c (ix4 0 g R l) = ((V g R l : ℝ) : EReal))
    (hD : ∀ (h : Fin 8) (R : Fin 8192) (l : Fin 64), argCt m c (ix3 0 R (colA h l)) = ((D h R l : ℝ) : EReal))
    (hM : ∀ g a R, Val.hM (hS (argQ m c) (argK m c)) (ix4 g a R 0) = ((M g a R : ℝ) : EReal)) (h : Fin 8) :
    Operands scaleA (Q h) (K (groupOf h)) (V (groupOf h)) (D h) laneA (M (groupOf h) (placeOf h)) (qOp m c h) (dOp m c h) (lseOp m c h)
      (deltaOp m c h) (kOp m c h) (vOp m c h) where
  inj := laneA_inj
  q_lane R j := by
    rw [qOp, V_q, trunc_apply, hQ_apply, hSpreadQ_lane, hq, ← EReal.coe_mul, div_real _ _ log2_ne, mul_div_assoc]
  k_lane C j := by
    rw [kOp, V_k, trunc_apply, hSpreadK_lane, hk]
  k_off C l hl := by
    rw [kOp, V_k, trunc_apply, hSpreadK_off (groupOf h) C l hl]
  vd C R := by
    refine (sum_lanes laneV laneV_inj (fun l => ((V (groupOf h) C l * D h R l : ℝ) : EReal)) _ (fun l => ?_) fun l hl => ?_).trans (coe_sum _ _)
    · rw [dOp_lane m c hD, vOp, V_v, trunc_apply, hV_lane, hv, EReal.coe_mul]
    · rw [dOp, V_do, trunc_apply, hPadDo_off _ _ _ _ hl, mul_zero]
  lse_eq R := by
    rw [lseOp, V_lse, stat_apply]
    have hR : (⟨R.val / 1024 * 1024 + R.val % 1024, by omega⟩ : Fin 8192) = R := Fin.ext (by simp only; omega)
    rw [hR, hLse_real hq hk hM, headAt_of]
  delta_eq R := by
    rw [deltaOp, V_delta, stat_apply']
    have hR : (⟨R.val / 1024 * 1024 + R.val % 1024, by omega⟩ : Fin 8192) = R := Fin.ext (by simp only; omega)
    rw [hR]
    exact hDelta_real hq hk hv hD hM R h

end Cert.KernelAIdeal.Val

end
-- ==== Proof.TailA.lean ====
/- What the lines after attention A's gradient make of it: the three results as terms of the gradient's arrays. -/
module

public import proofs.«01_k».proof.Proof.KernelA
public import Idealize.ShloMosaic.Lib.Pipeline.FrameSuffix

@[expose] public section

set_option maxRecDepth 16384

noncomputable section

namespace Cert.KernelAIdeal.Val
open Idealize.ShloMosaic Idealize.ShloMosaic.TcCoe Idealize.ShloMosaic.Tactic Idealize.SL.Sem Cert.KernelAIdeal Cert.KernelAIdeal.Gen Cert.AttnGrad
open scoped BigOperators

/-- The lanes of a query head back in the order of its features. -/
def hUnspreadQ (x : FVec Ideal S8x8192x128 .f32) : FVec Ideal S8x8192x64 .f32 :=
  concatenate S8x8192x64 2
    [⟨S8x8192x16, extractStridedSlice S8x8192x16 ![0, 0, 0] x slices_S8x8192x128_S8x8192x16_0_0_0⟩,
      ⟨S8x8192x16, extractStridedSlice S8x8192x16 ![0, 0, 64] x slices_S8x8192x128_S8x8192x16_0_0_64⟩,
      ⟨S8x8192x16, extractStridedSlice S8x8192x16 ![0, 0, 16] x slices_S8x8192x128_S8x8192x16_0_0_16⟩,
      ⟨S8x8192x16, extractStridedSlice S8x8192x16 ![0, 0, 80] x slices_S8x8192x128_S8x8192x16_0_0_80⟩]
    concatenates_S8x8192x16_S8x8192x16_S8x8192x16_S8x8192x16_S8x8192x64_d2

/-- The lanes of a group's keys back in the order of their features. -/
def hUnspreadK (x : FVec Ideal S2x8192x128 .f32) : FVec Ideal S2x8192x64 .f32 :=
  concatenate S2x8192x64 2
    [⟨S2x8192x16, extractStridedSlice S2x8192x16 ![0, 0, 0] x slices_S2x8192x128_S2x8192x16_0_0_0⟩,
      ⟨S2x8192x16, extractStridedSlice S2x8192x16 ![0, 0, 64] x slices_S2x8192x128_S2x8192x16_0_0_64⟩,
      ⟨S2x8192x16, extractStridedSlice S2x8192x16 ![0, 0, 16] x slices_S2x8192x128_S2x8192x16_0_0_16⟩,
      ⟨S2x8192x16, extractStridedSlice S2x8192x16 ![0, 0, 80] x slices_S2x8192x128_S2x8192x16_0_0_80⟩]
    concatenates_S2x8192x16_S2x8192x16_S2x8192x16_S2x8192x16_S2x8192x64_d2

/-- The sum over a group's heads. -/
def hGroup (x : FVec Ideal S8x8192x128 .f32) : FVec Ideal S2x8192x128 .f32 :=
  Host.reduceAdd (shapeCast S2x4x8192x128 x shapeCasts_S8x8192x128_S2x4x8192x128) (constant S_ .f32 0x00000000#32)
    reducesTo_S2x4x8192x128_S2x8192x128_d1 h_S_

def outDq (x : FVec Ideal S8x8192x128 .f32) : FVec Ideal S1x8x8192x64 .f32 :=
  broadcastInDim S1x8x8192x64 ![1, 2, 3] bcast_S8x8192x64_S1x8x8192x64_1_2_3
    (hUnspreadQ (mulf x (broadcastInDim S8x8192x128 ![] bcast_S_S8x8192x128 eighth)))

def outDk (x : FVec Ideal S8x8192x128 .f32) (y : FVec Ideal S_ .f32) : FVec Ideal S1x2x8192x64 .f32 :=
  broadcastInDim S1x2x8192x64 ![1, 2, 3] bcast_S2x8192x64_S1x2x8192x64_1_2_3
    (hUnspreadK (mulf (hGroup x) (broadcastInDim S2x8192x128 ![] bcast_S_S2x8192x128 y)))

def outDv (x : FVec Ideal S8x8192x128 .f32) : FVec Ideal S1x2x8192x64 .f32 :=
  broadcastInDim S1x2x8192x64 ![1, 2, 3] bcast_S2x8192x64_S1x2x8192x64_1_2_3
    (extractStridedSlice S2x8192x64 ![0, 0, 0] (hGroup x) slices_S2x8192x128_S2x8192x64_0_0_0)

theorem tail_split (n : ℕ) (W : Valuation τ sig (Elt Ideal)) :
    StableHlo.after hostOps1 W = StableHlo.after (List.drop n hostOps1) (StableHlo.after (List.take n hostOps1) W) := by
  rw [← after_append, List.take_append_drop]

theorem tail_dq (W : Valuation τ sig (Elt Ideal)) : StableHlo.after hostOps1 W main_v88 = outDq (W main_v80_0) := by
  rw [tail_split 7]
  generalize hW : StableHlo.after (List.take 7 hostOps1) W = W'
  simp only [List.drop_succ_cons, List.drop_zero]
  entry_read
  simp only [Matrix.cons_val]
  subst hW
  simp only [List.take_succ_cons, List.take_zero]
  entry_read
  rfl

theorem tail_dk (W : Valuation τ sig (Elt Ideal)) : StableHlo.after hostOps1 W main_v98 = outDk (W main_v80_1) (W main_v18) := by
  rw [tail_split 18]
  generalize hW : StableHlo.after (List.take 18 hostOps1) W = W'
  simp only [List.drop_succ_cons, List.drop_zero]
  entry_read
  simp only [Matrix.cons_val]
  subst hW
  simp only [List.take_succ_cons, List.take_zero]
  entry_read
  rfl

theorem tail_dv (W : Valuation τ sig (Elt Ideal)) : StableHlo.after hostOps1 W main_v102 = outDv (W main_v80_2) := by
  entry_read
  rfl

/-! ## The results at an index -/

/-- A ladder of the lanes' places read at a feature. -/
theorem unspread_ladder (f : Fin 128 → EReal) (j : Fin 64) :
    (if h : j.val < 16 then f ⟨j.val, by omega⟩
    else if h : j.val - 16 < 16 then f ⟨64 + (j.val - 16), by omega⟩
    else if h : j.val - 16 - 16 < 16 then f ⟨16 + (j.val - 16 - 16), by omega⟩
    else f ⟨80 + (j.val - 16 - 16 - 16), by omega⟩ : EReal) = f (laneA j) := by
  have hj := j.isLt
  obtain ⟨l, hl⟩ : ∃ l, l = laneA j := ⟨_, rfl⟩
  rw [← hl]
  have hv : l.val = (laneA j).val := congrArg Fin.val hl
  unfold laneA at hv
  simp only at hv
  split_ifs at hv
  all_goals repeat first
    | exact (dif_pos (by omega)).trans (congrArg f (Fin.ext (by simp only; omega)))
    | refine (dif_neg (by omega)).trans ?_
    | exact congrArg f (Fin.ext (by simp only; omega))

theorem hUnspreadQ_apply (x : FVec Ideal S8x8192x128 .f32) (a : Fin 8) (R : Fin 8192) (j : Fin 64) :
    hUnspreadQ x (ix3 a R j) = x (ix3 a R (laneA j)) := by
  refine Eq.trans ?_ (unspread_ladder (fun l => x (ix3 a R l)) j)
  unfold hUnspreadQ
  pointwise

theorem hUnspreadK_apply (x : FVec Ideal S2x8192x128 .f32) (a : Fin 2) (R : Fin 8192) (j : Fin 64) :
    hUnspreadK x (ix3 a R j) = x (ix3 a R (laneA j)) := by
  refine Eq.trans ?_ (unspread_ladder (fun l => x (ix3 a R l)) j)
  unfold hUnspreadK
  pointwise

theorem hGroup_apply (x : FVec Ideal S8x8192x128 .f32) (g : Fin 2) (R : Fin 8192) (l : Fin 128) :
    hGroup x (ix3 g R l) = ∑ a, x (ix3 (headAt g a) R l) := by
  unfold hGroup headAt
  pointwise

theorem timesQ_apply (x : FVec Ideal S8x8192x128 .f32) (y : FVec Ideal S_ .f32) (a : Fin 8) (R : Fin 8192) (l : Fin 128) :
    mulf x (broadcastInDim S8x8192x128 ![] bcast_S_S8x8192x128 y) (ix3 a R l) = x (ix3 a R l) * y ix0 := by
  pointwise

theorem timesK_apply (x : FVec Ideal S2x8192x128 .f32) (y : FVec Ideal S_ .f32) (a : Fin 2) (R : Fin 8192) (l : Fin 128) :
    mulf x (broadcastInDim S2x8192x128 ![] bcast_S_S2x8192x128 y) (ix3 a R l) = x (ix3 a R l) * y ix0 := by
  pointwise

theorem leadQ_apply (x : FVec Ideal S8x8192x64 .f32) (a : Fin 8) (R : Fin 8192) (j : Fin 64) :
    broadcastInDim S1x8x8192x64 ![1, 2, 3] bcast_S8x8192x64_S1x8x8192x64_1_2_3 x (ix4 0 a R j) = x (ix3 a R j) := by
  pointwise

theorem leadK_apply (x : FVec Ideal S2x8192x64 .f32) (a : Fin 2) (R : Fin 8192) (j : Fin 64) :
    broadcastInDim S1x2x8192x64 ![1, 2, 3] bcast_S2x8192x64_S1x2x8192x64_1_2_3 x (ix4 0 a R j) = x (ix3 a R j) := by
  pointwise

theorem front_apply (x : FVec Ideal S2x8192x128 .f32) (a : Fin 2) (R : Fin 8192) (j : Fin 64) :
    extractStridedSlice S2x8192x64 ![0, 0, 0] x slices_S2x8192x128_S2x8192x64_0_0_0 (ix3 a R j) = x (ix3 a R (laneV j)) := by
  unfold laneV
  pointwise

theorem outDq_apply (x : FVec Ideal S8x8192x128 .f32) (a : Fin 8) (R : Fin 8192) (j : Fin 64) :
    outDq x (ix4 0 a R j) = x (ix3 a R (laneA j)) * ((scaleA : ℝ) : EReal) := by
  rw [outDq, leadQ_apply, hUnspreadQ_apply, timesQ_apply, eighth_apply]

theorem outDk_apply (x : FVec Ideal S8x8192x128 .f32) (g : Fin 2) (R : Fin 8192) (j : Fin 64) :
    outDk x ln2 (ix4 0 g R j) = (∑ a, x (ix3 (headAt g a) R (laneA j))) * ((Real.log 2 : ℝ) : EReal) := by
  rw [outDk, leadK_apply, hUnspreadK_apply, timesK_apply, ln2_apply, hGroup_apply]

theorem outDv_apply (x : FVec Ideal S8x8192x128 .f32) (g : Fin 2) (R : Fin 8192) (l : Fin 64) :
    outDv x (ix4 0 g R l) = ∑ a, x (ix3 (headAt g a) R (laneV l)) := by
  rw [outDv, leadK_apply, front_apply, hGroup_apply]

/-! ## The run -/

variable (m : (ℓ : Loc nD τ sig) → Buf (Elt Ideal) ℓ) (ρ : Dev nD → PrngReg) (c : Dev nD)

theorem after_arr (w : Fin cfg0.W) : Pipeline.withArrays (cfgs 0).spec c (V0 m c) (fun w => (dats m 0 c).arrAt w (cfgs 0).N)
    (Proc.devRef .tc (Pipeline.arrRef (cfgs 0).spec w)) = (dats m 0 c).arrAt w (cfgs 0).N :=
  Pipeline.withArrays_arr _ launch0.win.arr_inj c _ _ w

theorem run_values : θ_run defs (onTc (τ := τ) (main (F := Ideal))) ⟨m, fun _ => 0, ρ⟩ (fun r => ∀ c : Dev nD,
      r.2.mem ((c.tc : Thread nD τ).loc main_v88) = outDq (dqArr m c)
      ∧ r.2.mem ((c.tc : Thread nD τ).loc main_v98) = outDk (dkArr m c) ln2
      ∧ r.2.mem ((c.tc : Thread nD τ).loc main_v102) = outDv (dvArr m c)) := by
  refine (θ_run defs _ _).mono (fun r h c => ?_) (run_main m ρ)
  refine ⟨((h c).2 main_v88 (by decide)).trans ?_, ((h c).2 main_v98 (by decide)).trans ?_, ((h c).2 main_v102 (by decide)).trans ?_⟩
  all_goals
    unfold Pipeline.afterTail₀
    rw [List.flatten_cons, List.flatten_nil, List.append_nil]
  · refine (tail_dq _).trans (congrArg outDq ((after_arr m c 6).trans (final_dq m c)))
  · refine (tail_dk _).trans (congrArg₂ outDk ((after_arr m c 7).trans (final_dk m c)) ?_)
    refine (Pipeline.withArrays_of_ne _ c _ _ main_v18 (by decide)).trans (V_ln2 m c)
  · refine (tail_dv _).trans (congrArg outDv ((after_arr m c 8).trans (final_dv m c)))

/-! ## The results as reals -/

variable {Q D : Fin 8 → Fin 8192 → Fin 64 → ℝ} {K V : Fin 2 → Fin 8192 → Fin 64 → ℝ}

section
variable (hq : ∀ h R j, argQ m c (ix4 0 h R j) = ((Q h R j : ℝ) : EReal)) (hk : ∀ g R j, argK m c (ix4 0 g R j) = ((K g R j : ℝ) : EReal))
  (hv : ∀ g R l, argV m c (ix4 0 g R l) = ((V g R l : ℝ) : EReal))
  (hD : ∀ (h : Fin 8) (R : Fin 8192) (l : Fin 64), argCt m c (ix3 0 R (colA h l)) = ((D h R l : ℝ) : EReal))
include hq hk hv hD

theorem outDq_real (h : Fin 8) (R : Fin 8192) (j : Fin 64) : outDq (dqArr m c) (ix4 0 h R j) =
    (((∑ C, dScore scaleA (Q h) (K (groupOf h)) (V (groupOf h)) (D h) C R * K (groupOf h) C j) * scaleA : ℝ) : EReal) := by
  obtain ⟨M, hM⟩ := exists_max hq hk
  rw [outDq_apply]
  exact (congrArg (· * _) ((operands m c hq hk hv hD hM h).dq R j)).trans (EReal.coe_mul _ _).symm

theorem outDk_real (g : Fin 2) (C : Fin 8192) (j : Fin 64) : outDk (dkArr m c) ln2 (ix4 0 g C j) =
    (((∑ a, ∑ R, dScore scaleA (Q (headAt g a)) (K g) (V g) (D (headAt g a)) C R * Q (headAt g a) R j) * scaleA : ℝ) : EReal) := by
  obtain ⟨M, hM⟩ := exists_max hq hk
  rw [outDk_apply]
  refine (congrArg (· * _) (Finset.sum_congr rfl fun a _ => (operands m c hq hk hv hD hM (headAt g a)).dk C j)).trans ?_
  simp only [groupOf_headAt]
  rw [coe_sum, ← EReal.coe_mul, ← Finset.sum_mul, mul_assoc, div_mul_cancel₀ _ log2_ne]

theorem outDv_real (g : Fin 2) (C : Fin 8192) (l : Fin 64) : outDv (dvArr m c) (ix4 0 g C l) =
    ((∑ a, ∑ R, prob scaleA (Q (headAt g a)) (K g) C R * D (headAt g a) R l : ℝ) : EReal) := by
  obtain ⟨M, hM⟩ := exists_max hq hk
  rw [outDv_apply]
  refine (Finset.sum_congr rfl fun a _ => (operands m c hq hk hv hD hM (headAt g a)).dv C (laneV l) (fun R => D (headAt g a) R l)
    fun R => dOp_lane m c hD _ R l).trans ?_
  simp only [groupOf_headAt]
  exact coe_sum _ _

end

end Cert.KernelAIdeal.Val

end
-- ==== Proof.RefA.lean ====
/- What the reference of attention A computes: its stages as terms of the arguments, and each as a real. -/
module

public import proofs.«01_k».proof.Proof.Gen.ReferenceAIdeal.Run
public import proofs.«01_k».proof.Proof.HeadsA
public import Idealize.ShloMosaic.Lib.Pointwise
public import Idealize.ShloMosaic.Lib.ValueIdxRank6
public import Idealize.ShloMosaic.PureOps.Ideal

@[expose] public section

set_option maxRecDepth 16384

noncomputable section

namespace Cert.ReferenceAIdeal.Val
open Idealize.ShloMosaic Idealize.ShloMosaic.TcCoe Idealize.ShloMosaic.Tactic Idealize.SL.Sem Cert.ReferenceAIdeal Cert.ReferenceAIdeal.Gen Cert.AttnGrad
open scoped BigOperators

/-! ## The stages -/

section
variable (q : FVec Ideal S1x8x8192x64 .f32) (k v : FVec Ideal S1x2x8192x64 .f32) (ct : FVec Ideal S1x8192x512 .f32)
  (s e g d : FVec Ideal S1x2x4x8192x8192 .f32) (l : FVec Ideal S1x2x4x8192x1 .f32) (do_ x : FVec Ideal S1x2x4x8192x64 .f32)

/-- The scale. -/
def eighth : FVec Ideal S_ .f32 := constant S_ .f32 0x3E000000#32
/-- The queries, group by group. -/
def rQ : FVec Ideal S1x2x4x8192x64 .f32 := shapeCast S1x2x4x8192x64 q shapeCasts_S1x8x8192x64_S1x2x4x8192x64
/-- Rows against a group's keys, or against its values. -/
def rG : FVec Ideal S1x2x4x8192x8192 .f32 := Host.dotGeneral dot_S1x2x4x8192x64_S1x2x8192x64_S1x2x4x8192x8192_4_3_23_2_01_01 none x k
/-- The scaled scores. -/
def rS : FVec Ideal S1x2x4x8192x8192 .f32 := mulf (rG k (rQ q)) (broadcastInDim S1x2x4x8192x8192 ![] bcast_S_S1x2x4x8192x8192 eighth)
/-- A row's number subtracted. -/
def rM : FVec Ideal S1x2x4x8192x1 .f32 :=
  broadcastInDim S1x2x4x8192x1 ![0, 1, 2, 3] bcast_S1x2x4x8192_S1x2x4x8192x1_0_1_2_3
    (maximumf (broadcastInDim S1x2x4x8192 ![] bcast_S_S1x2x4x8192 (constant S_ .f32 0xFF800000#32))
      (Host.reduce FloatOps.maximumf s (constant S_ .f32 0xFF800000#32) reducesTo_S1x2x4x8192x8192_S1x2x4x8192_d4 h_S_))
/-- The exponentials. -/
def rE : FVec Ideal S1x2x4x8192x8192 .f32 :=
  Host.exp (subf s (broadcastInDim S1x2x4x8192x8192 ![0, 1, 2, 3, 4] bcast_S1x2x4x8192x1_S1x2x4x8192x8192_0_1_2_3_4 (rM s)))
/-- A row's sum. -/
def rL : FVec Ideal S1x2x4x8192x1 .f32 :=
  broadcastInDim S1x2x4x8192x1 ![0, 1, 2, 3] bcast_S1x2x4x8192_S1x2x4x8192x1_0_1_2_3
    (Host.reduceAdd e (constant S_ .f32 0x00000000#32) reducesTo_S1x2x4x8192x8192_S1x2x4x8192_d4 h_S_)
/-- The cotangent, head by head. -/
def rDo : FVec Ideal S1x2x4x8192x64 .f32 :=
  transpose S1x2x4x8192x64 [0, 2, 3, 1, 4] (shapeCast S1x8192x2x4x64 ct shapeCasts_S1x8192x512_S1x8192x2x4x64) transposes_S1x8192x2x4x64_S1x2x4x8192x64_0_2_3_1_4
/-- The weights. -/
def rP : FVec Ideal S1x2x4x8192x8192 .f32 :=
  Host.divf e (broadcastInDim S1x2x4x8192x8192 ![0, 1, 2, 3, 4] bcast_S1x2x4x8192x1_S1x2x4x8192x8192_0_1_2_3_4 l)
/-- What a row's sum contributes. -/
def rN : FVec Ideal S2x4x8192 .f32 :=
  Host.reduceAdd (Host.negf (shapeCast S1x2x4x8192x1 (Host.reduceAdd (mulf (mulf g (broadcastInDim S1x2x4x8192x8192 ![0, 1, 2, 3, 4] bcast_S1x2x4x8192x1_S1x2x4x8192x8192_0_1_2_3_4
    (Host.divf (broadcastInDim S1x2x4x8192x1 ![] bcast_S_S1x2x4x8192x1 (constant S_ .f32 0x3F800000#32)) (mulf l l)))) e)
    (constant S_ .f32 0x00000000#32) reducesTo_S1x2x4x8192x8192_S1x2x4x8192_d4 h_S_) shapeCasts_S1x2x4x8192_S1x2x4x8192x1))
    (constant S_ .f32 0x00000000#32) reducesTo_S1x2x4x8192x1_S2x4x8192_d0_4 h_S_
/-- The cotangent of the products. -/
def rD (n : FVec Ideal S2x4x8192 .f32) : FVec Ideal S1x2x4x8192x8192 .f32 :=
  mulf (mulf (addf (rP g l) (broadcastInDim S1x2x4x8192x8192 ![0, 1, 2, 3] bcast_S1x2x4x8192_S1x2x4x8192x8192_0_1_2_3
    (broadcastInDim S1x2x4x8192 ![1, 2, 3] bcast_S2x4x8192_S1x2x4x8192_1_2_3 n))) e) (broadcastInDim S1x2x4x8192x8192 ![] bcast_S_S1x2x4x8192x8192 eighth)
def rDq : FVec Ideal S1x8x8192x64 .f32 :=
  shapeCast S1x8x8192x64 (Host.dotGeneral dot_S1x2x4x8192x8192_S1x2x8192x64_S1x2x4x8192x64_4_2_23_3_01_01 none d k) shapeCasts_S1x2x4x8192x64_S1x8x8192x64
def rDk : FVec Ideal S1x2x8192x64 .f32 := Host.dotGeneral dot_S1x2x4x8192x8192_S1x2x4x8192x64_S1x2x8192x64_23_23_4_4_01_01 none d x
def rDv (p : FVec Ideal S1x2x4x8192x8192 .f32) : FVec Ideal S1x2x8192x64 .f32 :=
  transpose S1x2x8192x64 [0, 1, 3, 2] (Host.dotGeneral dot_S1x2x4x8192x64_S1x2x4x8192x8192_S1x2x64x8192_23_23_4_4_01_01 none x p)
    transposes_S1x2x64x8192_S1x2x8192x64_0_1_3_2
/-- The exponentials of the arguments. -/
def rExp : FVec Ideal S1x2x4x8192x8192 .f32 := rE (rS q k)
/-- The cotangent of the products, of the arguments. -/
def rDs : FVec Ideal S1x2x4x8192x8192 .f32 :=
  rD (rExp q k) (rG v (rDo ct)) (rL (rExp q k)) (rN (rExp q k) (rG v (rDo ct)) (rL (rExp q k)))

end

/-! ## The run -/

section
variable (m : (ℓ : Loc nD τ sig) → Buf (Elt Ideal) ℓ) (c : Dev nD)

def argQ : FVec Ideal S1x8x8192x64 .f32 := m ((c.tc : Thread nD τ).loc main_arg0)
def argK : FVec Ideal S1x2x8192x64 .f32 := m ((c.tc : Thread nD τ).loc main_arg1)
def argV : FVec Ideal S1x2x8192x64 .f32 := m ((c.tc : Thread nD τ).loc main_arg2)
def argCt : FVec Ideal S1x8192x512 .f32 := m ((c.tc : Thread nD τ).loc main_arg3)

theorem run_values (ρ : Dev nD → PrngReg) : θ_run defs (onTc (τ := τ) (main (F := Ideal))) ⟨m, fun _ => 0, ρ⟩ fun r => ∀ c : Dev nD,
      r.2.mem ((c.tc : Thread nD τ).loc main_v57) = rDq (argK m c) (rDs (argQ m c) (argK m c) (argV m c) (argCt m c))
      ∧ r.2.mem ((c.tc : Thread nD τ).loc main_v55) = rDk (rDs (argQ m c) (argK m c) (argV m c) (argCt m c)) (rQ (argQ m c))
      ∧ r.2.mem ((c.tc : Thread nD τ).loc main_v38) = rDv (rDo (argCt m c)) (rP (rExp (argQ m c) (argK m c)) (rL (rExp (argQ m c) (argK m c)))) :=
  (θ_run defs _ _).mono (fun _ h c => ⟨(h c).1.trans rfl, (h c).2.1.trans rfl, (h c).2.2.1.trans rfl⟩) (Value.run m ρ)

end

/-! ## The stages at an index -/

theorem eighth_apply (i : S_.Idx) : eighth i = ((scaleA : ℝ) : EReal) := ofBits_eighth

section
variable (g : Fin 2) (a : Fin 4) (R C : Fin 8192)

theorem rQ_apply (q : FVec Ideal S1x8x8192x64 .f32) (j : Fin 64) : rQ q (ix5 0 g a R j) = q (ix4 0 (headAt g a) R j) := by
  unfold rQ headAt
  pointwise

theorem rG_apply (k : FVec Ideal S1x2x8192x64 .f32) (x : FVec Ideal S1x2x4x8192x64 .f32) :
    rG k x (ix5 0 g a R C) = ∑ l, x (ix5 0 g a R l) * k (ix4 0 g C l) := by
  unfold rG
  pointwise

theorem times_apply (x : FVec Ideal S1x2x4x8192x8192 .f32) (y : FVec Ideal S_ .f32) :
    mulf x (broadcastInDim S1x2x4x8192x8192 ![] bcast_S_S1x2x4x8192x8192 y) (ix5 0 g a R C) = x (ix5 0 g a R C) * y ix0 := by
  pointwise

theorem above_apply (y : FVec Ideal S_ .f32) (x : FVec Ideal S1x2x4x8192 .f32) :
    broadcastInDim S1x2x4x8192x1 ![0, 1, 2, 3] bcast_S1x2x4x8192_S1x2x4x8192x1_0_1_2_3
      (maximumf (broadcastInDim S1x2x4x8192 ![] bcast_S_S1x2x4x8192 y) x) (ix5 0 g a R 0) = max (y ix0) (x (ix4 0 g a R)) := by
  pointwise

theorem greatest_apply (s : FVec Ideal S1x2x4x8192x8192 .f32) :
    Host.reduce FloatOps.maximumf s (constant S_ .f32 0xFF800000#32) reducesTo_S1x2x4x8192x8192_S1x2x4x8192_d4 h_S_ (ix4 0 g a R) =
      Finset.fold max (Ideal.ofBits .f32 0xFF800000#32) (fun C => s (ix5 0 g a R C)) Finset.univ := by
  pointwise

theorem rM_apply (s : FVec Ideal S1x2x4x8192x8192 .f32) :
    rM s (ix5 0 g a R 0) = Finset.fold max (Ideal.ofBits .f32 0xFF800000#32) (fun C => s (ix5 0 g a R C)) Finset.univ := by
  rw [rM, above_apply, greatest_apply]
  refine (congrArg (max · _) ((rfl : constant S_ .f32 0xFF800000#32 ix0 = Ideal.ofBits .f32 0xFF800000#32).trans ofBits_bot)).trans ?_
  exact max_eq_right bot_le

theorem rE_apply (s : FVec Ideal S1x2x4x8192x8192 .f32) :
    rE s (ix5 0 g a R C) = Ideal.exp (s (ix5 0 g a R C) - rM s (ix5 0 g a R 0)) := by
  unfold rE
  pointwise

theorem rL_apply (e : FVec Ideal S1x2x4x8192x8192 .f32) : rL e (ix5 0 g a R 0) = ∑ C, e (ix5 0 g a R C) := by
  unfold rL
  pointwise

theorem rDo_apply (ct : FVec Ideal S1x8192x512 .f32) (l : Fin 64) : rDo ct (ix5 0 g a R l) = ct (ix3 0 R (colA (headAt g a) l)) := by
  unfold rDo
  pointwise
  exact congrArg (fun x => ct (ix3 0 R x)) (Fin.ext (by unfold colA headAt; simp only; omega))

theorem rP_apply (e : FVec Ideal S1x2x4x8192x8192 .f32) (l : FVec Ideal S1x2x4x8192x1 .f32) :
    rP e l (ix5 0 g a R C) = Ideal.div (e (ix5 0 g a R C)) (l (ix5 0 g a R 0)) := by
  unfold rP
  pointwise

/-- A sum over two axes of length one. -/
theorem unit_sum (x : FVec Ideal S1x2x4x8192x1 .f32) :
    Host.reduceAdd x (constant S_ .f32 0x00000000#32) reducesTo_S1x2x4x8192x1_S2x4x8192_d0_4 h_S_ (ix3 g a R) = x (ix5 0 g a R 0) := by
  show Ideal.ofBits .f32 0x00000000#32 + ∑ i ∈ Finset.univ.filter (fun i => reducesTo_S1x2x4x8192x1_S2x4x8192_d0_4.drop i = ix3 g a R), x i = _
  rw [ofBits_zero, zero_add]
  refine (Finset.sum_congr ?_ fun _ _ => rfl).trans (Finset.sum_singleton _ _)
  ext i
  rw [Finset.mem_filter, Finset.mem_singleton]
  refine ⟨fun hi => ?_, fun hi => ⟨Finset.mem_univ _, ?_⟩⟩
  · have h0 : i 1 = g := congrFun hi.2 0
    have h1 : i 2 = a := congrFun hi.2 1
    have h2 : i 3 = R := congrFun hi.2 2
    refine (Idealize.ShloMosaic.ix5_eta i).symm.trans ?_
    rw [h0, h1, h2]
    exact congrArg₂ (fun y z => ix5 y g a R z) (Subsingleton.elim (α := Fin 1) _ _) (Subsingleton.elim (α := Fin 1) _ _)
  · subst hi
    funext b
    fin_cases b <;> rfl

theorem spread_apply (x : FVec Ideal S1x2x4x8192x1 .f32) (z : FVec Ideal S_ .f32) (e d : FVec Ideal S1x2x4x8192x8192 .f32) :
    mulf (mulf d (broadcastInDim S1x2x4x8192x8192 ![0, 1, 2, 3, 4] bcast_S1x2x4x8192x1_S1x2x4x8192x8192_0_1_2_3_4
      (Host.divf (broadcastInDim S1x2x4x8192x1 ![] bcast_S_S1x2x4x8192x1 z) (mulf x x)))) e (ix5 0 g a R C) =
      d (ix5 0 g a R C) * Ideal.div (z ix0) (x (ix5 0 g a R 0) * x (ix5 0 g a R 0)) * e (ix5 0 g a R C) := by
  pointwise

theorem row_apply (x : FVec Ideal S1x2x4x8192x8192 .f32) :
    Host.negf (shapeCast S1x2x4x8192x1 (Host.reduceAdd x (constant S_ .f32 0x00000000#32) reducesTo_S1x2x4x8192x8192_S1x2x4x8192_d4 h_S_)
      shapeCasts_S1x2x4x8192_S1x2x4x8192x1) (ix5 0 g a R 0) = -∑ C, x (ix5 0 g a R C) := by
  pointwise

theorem rN_apply (e d : FVec Ideal S1x2x4x8192x8192 .f32) (l : FVec Ideal S1x2x4x8192x1 .f32) : rN e d l (ix3 g a R) =
    -∑ C, d (ix5 0 g a R C) * Ideal.div ((1 : ℝ) : EReal) (l (ix5 0 g a R 0) * l (ix5 0 g a R 0)) * e (ix5 0 g a R C) := by
  rw [rN, unit_sum, row_apply]
  refine congrArg _ (Finset.sum_congr rfl fun C _ => (spread_apply ..).trans ?_)
  rw [← ofBits_one]
  rfl

theorem inner_apply (x e : FVec Ideal S1x2x4x8192x8192 .f32) (n : FVec Ideal S2x4x8192 .f32) :
    mulf (addf x (broadcastInDim S1x2x4x8192x8192 ![0, 1, 2, 3] bcast_S1x2x4x8192_S1x2x4x8192x8192_0_1_2_3
      (broadcastInDim S1x2x4x8192 ![1, 2, 3] bcast_S2x4x8192_S1x2x4x8192_1_2_3 n))) e (ix5 0 g a R C) =
      (x (ix5 0 g a R C) + n (ix3 g a R)) * e (ix5 0 g a R C) := by
  pointwise

theorem rD_apply (e d : FVec Ideal S1x2x4x8192x8192 .f32) (l : FVec Ideal S1x2x4x8192x1 .f32) (n : FVec Ideal S2x4x8192 .f32) :
    rD e d l n (ix5 0 g a R C) =
      (Ideal.div (d (ix5 0 g a R C)) (l (ix5 0 g a R 0)) + n (ix3 g a R)) * e (ix5 0 g a R C) * ((scaleA : ℝ) : EReal) := by
  rw [rD, times_apply, inner_apply, rP_apply, eighth_apply]

theorem rDk_apply (d : FVec Ideal S1x2x4x8192x8192 .f32) (x : FVec Ideal S1x2x4x8192x64 .f32) (j : Fin 64) :
    rDk d x (ix4 0 g C j) = ∑ a, ∑ R, d (ix5 0 g a R C) * x (ix5 0 g a R j) := by
  unfold rDk
  pointwise

theorem rDv_apply (x : FVec Ideal S1x2x4x8192x64 .f32) (p : FVec Ideal S1x2x4x8192x8192 .f32) (j : Fin 64) :
    rDv x p (ix4 0 g C j) = ∑ a, ∑ R, x (ix5 0 g a R j) * p (ix5 0 g a R C) := by
  unfold rDv
  pointwise

end

theorem rDq_apply (k : FVec Ideal S1x2x8192x64 .f32) (d : FVec Ideal S1x2x4x8192x8192 .f32) (h : Fin 8) (R : Fin 8192) (j : Fin 64) :
    rDq k d (ix4 0 h R j) = ∑ C, d (ix5 0 (groupOf h) (placeOf h) R C) * k (ix4 0 (groupOf h) C j) := by
  unfold rDq groupOf placeOf
  pointwise

/-! ## The results as reals -/

section
variable {q : FVec Ideal S1x8x8192x64 .f32} {k v : FVec Ideal S1x2x8192x64 .f32} {ct : FVec Ideal S1x8192x512 .f32}
  {Q D : Fin 8 → Fin 8192 → Fin 64 → ℝ} {K V : Fin 2 → Fin 8192 → Fin 64 → ℝ} {M : Fin 2 → Fin 4 → Fin 8192 → ℝ}
  (hq : ∀ h R j, q (ix4 0 h R j) = ((Q h R j : ℝ) : EReal)) (hk : ∀ g R j, k (ix4 0 g R j) = ((K g R j : ℝ) : EReal))
  (hv : ∀ g R l, v (ix4 0 g R l) = ((V g R l : ℝ) : EReal))
  (hD : ∀ (h : Fin 8) (R : Fin 8192) (l : Fin 64), ct (ix3 0 R (colA h l)) = ((D h R l : ℝ) : EReal))
  (hM : ∀ g a R, rM (rS q k) (ix5 0 g a R 0) = ((M g a R : ℝ) : EReal))
  (g : Fin 2) (a : Fin 4) (R C : Fin 8192)

include hq hk

theorem rS_real : rS q k (ix5 0 g a R C) = ((score scaleA (Q (headAt g a)) (K g) C R : ℝ) : EReal) := by
  rw [rS, times_apply, eighth_apply, rG_apply]
  simp only [rQ_apply, hq, hk, ← EReal.coe_mul]
  rw [coe_sum, ← EReal.coe_mul]
  rfl

theorem exists_max : ∃ M : Fin 2 → Fin 4 → Fin 8192 → ℝ, ∀ g a R, rM (rS q k) (ix5 0 g a R 0) = ((M g a R : ℝ) : EReal) := by
  have : ∀ g a R, IsReal (rM (rS q k) (ix5 0 g a R 0)) := fun g a R => by
    rw [rM_apply]
    exact fold_max_real _ ofBits_bot _ _ ⟨0, Finset.mem_univ _⟩ fun C => ⟨_, rS_real hq hk g a R C⟩
  choose M hM using this
  exact ⟨M, hM⟩

include hM in
theorem rExp_real : rExp q k (ix5 0 g a R C) = ((Real.exp (score scaleA (Q (headAt g a)) (K g) C R - M g a R) : ℝ) : EReal) := by
  rw [rExp, rE_apply, rS_real hq hk, hM, ← EReal.coe_sub, Ideal.exp_coe]

include hM in
theorem rL_real : rL (rExp q k) (ix5 0 g a R 0) = ((shifted scaleA (Q (headAt g a)) (K g) (M g a R) R : ℝ) : EReal) := by
  rw [rL_apply]
  simp only [rExp_real hq hk hM]
  exact coe_sum _ _

include hM in
theorem rP_real : rP (rExp q k) (rL (rExp q k)) (ix5 0 g a R C) = ((prob scaleA (Q (headAt g a)) (K g) C R : ℝ) : EReal) := by
  rw [rP_apply, rExp_real hq hk hM, rL_real hq hk hM, div_real _ _ (shifted_pos ..).ne', shifted_prob]

omit hq hk in
include hv hD in
theorem rG_real : rG v (rDo ct) (ix5 0 g a R C) = ((cot (V g) (D (headAt g a)) C R : ℝ) : EReal) := by
  rw [rG_apply]
  simp only [rDo_apply, hD, hv, ← EReal.coe_mul]
  rw [coe_sum]
  congr 1
  exact Finset.sum_congr rfl fun l _ => mul_comm _ _

include hv hD

theorem rDs_real : rDs q k v ct (ix5 0 g a R C) =
    ((dScore scaleA (Q (headAt g a)) (K g) (V g) (D (headAt g a)) C R * scaleA : ℝ) : EReal) := by
  obtain ⟨M, hM⟩ := exists_max hq hk
  have hl := (shifted_pos scaleA (Q (headAt g a)) (K g) (M g a R) R).ne'
  rw [rDs, rD_apply, rN_apply]
  simp only [rExp_real hq hk hM, rL_real hq hk hM, rG_real hv hD, ← EReal.coe_mul]
  rw [div_real _ _ hl, div_real _ _ (mul_ne_zero hl hl)]
  simp only [← EReal.coe_mul]
  rw [coe_sum, ← EReal.coe_neg, ← EReal.coe_add, ← EReal.coe_mul, ← EReal.coe_mul, dScore_eq]

theorem rDq_real (h : Fin 8) (j : Fin 64) : rDq k (rDs q k v ct) (ix4 0 h R j) =
    (((∑ C, dScore scaleA (Q h) (K (groupOf h)) (V (groupOf h)) (D h) C R * K (groupOf h) C j) * scaleA : ℝ) : EReal) := by
  rw [rDq_apply]
  simp only [rDs_real hq hk hv hD, headAt_of, hk, ← EReal.coe_mul]
  rw [coe_sum, Finset.sum_mul]
  exact congrArg _ (Finset.sum_congr rfl fun C _ => by ring)

theorem rDk_real (j : Fin 64) : rDk (rDs q k v ct) (rQ q) (ix4 0 g C j) =
    (((∑ a, ∑ R, dScore scaleA (Q (headAt g a)) (K g) (V g) (D (headAt g a)) C R * Q (headAt g a) R j) * scaleA : ℝ) : EReal) := by
  rw [rDk_apply]
  simp only [rDs_real hq hk hv hD, rQ_apply, hq, ← EReal.coe_mul, coe_sum]
  simp only [Finset.sum_mul]
  exact congrArg _ (Finset.sum_congr rfl fun a _ => Finset.sum_congr rfl fun R _ => by ring)

omit hv in
theorem rDv_real (j : Fin 64) : rDv (rDo ct) (rP (rExp q k) (rL (rExp q k))) (ix4 0 g C j) =
    ((∑ a, ∑ R, prob scaleA (Q (headAt g a)) (K g) C R * D (headAt g a) R j : ℝ) : EReal) := by
  obtain ⟨M, hM⟩ := exists_max hq hk
  rw [rDv_apply]
  simp only [rP_real hq hk hM, rDo_apply, hD, ← EReal.coe_mul, coe_sum]
  exact congrArg _ (Finset.sum_congr rfl fun a _ => Finset.sum_congr rfl fun R _ => mul_comm _ _)

end

end Cert.ReferenceAIdeal.Val

end
-- ==== Proof.PreB.lean ====
/- The precondition of attention B: every entry of every argument is a real. -/
module

public import proofs.«01_k».proof.Pre_finite
public import proofs.«01_k».proof.Proof.RealOps
public import Idealize.ShloMosaic.Lib.ReduceAll
public import Idealize.ShloMosaic.PureOps.Ideal

@[expose] public section

set_option maxRecDepth 16384

noncomputable section

namespace Cert.Pre_finite
open Idealize.ShloMosaic Cert.AttnGrad

instance facts : Facts where
  bcast_S_S1x4x8192x96 := by decide
  reducesTo_S1x4x8192x96_S_d0_1_2_3 := by decide
  h_S_ := by decide
  bcast_S_S1x4x8192x128 := by decide
  reducesTo_S1x4x8192x128_S_d0_1_2_3 := by decide
  bcast_S_S1x8192x512 := by decide
  reducesTo_S1x8192x512_S_d0_1_2 := by decide

/-- The conjunction of two bits is one where both are. -/
theorem and_one {a b : BitVec 1} (h : IntOp.andi a b = 1#1) : a = 1#1 ∧ b = 1#1 := by
  revert a b
  decide

/-- A magnitude below infinity is a real's. -/
theorem isReal_of_olt {x y : EReal} (hy : y = ⊤) (h : FloatOps.cmpf (F := Ideal) (φ := .f32) .olt (max x (-x)) y = 1#1) : IsReal x := by
  subst hy
  refine isReal_of_abs_lt_top ?_
  by_contra hn
  have : FloatOps.cmpf (F := Ideal) (φ := .f32) .olt (max x (-x)) ⊤ = 0#1 := by
    show Ideal.cmp .olt (max x (-x)) ⊤ = 0#1
    simp only [Ideal.cmp, decide_eq_false hn]
    rfl
  rw [this] at h
  exact absurd h (by decide)

instance : Subsingleton S_.Idx := ⟨fun _ _ => funext fun b => b.elim0⟩

variable {q k : FVec Ideal S1x4x8192x96 .f32} {v : FVec Ideal S1x4x8192x128 .f32} {ct : FVec Ideal S1x8192x512 .f32}

theorem real_of_fn (h : fn q k v ct = fun _ => 1#1) :
    (∀ i, IsReal (q i)) ∧ (∀ i, IsReal (k i)) ∧ (∀ i, IsReal (v i)) ∧ ∀ i, IsReal (ct i) := by
  have h0 := congrFun h (fun b => b.elim0)
  obtain ⟨h1, hc⟩ := and_one h0
  obtain ⟨h2, hv⟩ := and_one h1
  obtain ⟨hq, hk⟩ := and_one h2
  exact ⟨fun i => isReal_of_olt ofBits_top (Host.reduce_andi_all _ _ _ _ _ hq i), fun i => isReal_of_olt ofBits_top (Host.reduce_andi_all _ _ _ _ _ hk i),
    fun i => isReal_of_olt ofBits_top (Host.reduce_andi_all _ _ _ _ _ hv i), fun i => isReal_of_olt ofBits_top (Host.reduce_andi_all _ _ _ _ _ hc i)⟩

end Cert.Pre_finite

end
-- ==== Proof.PreA.lean ====
/- The precondition of attention A: every entry of every argument is a real. -/
module

public import proofs.«01_k».proof.Pre_finite_a
public import proofs.«01_k».proof.Proof.PreB

@[expose] public section

set_option maxRecDepth 16384

noncomputable section

namespace Cert.Pre_finite_a
open Idealize.ShloMosaic Cert.AttnGrad
open Cert.Pre_finite (and_one isReal_of_olt)

instance facts : Facts where
  bcast_S_S1x8x8192x64 := by decide
  reducesTo_S1x8x8192x64_S_d0_1_2_3 := by decide
  h_S_ := by decide
  bcast_S_S1x2x8192x64 := by decide
  reducesTo_S1x2x8192x64_S_d0_1_2_3 := by decide
  bcast_S_S1x8192x512 := by decide
  reducesTo_S1x8192x512_S_d0_1_2 := by decide

instance : Subsingleton S_.Idx := ⟨fun _ _ => funext fun b => b.elim0⟩

theorem real_of_fn {q : FVec Ideal S1x8x8192x64 .f32} {k v : FVec Ideal S1x2x8192x64 .f32} {ct : FVec Ideal S1x8192x512 .f32}
    (h : fn q k v ct = fun _ => 1#1) : (∀ i, IsReal (q i)) ∧ (∀ i, IsReal (k i)) ∧ (∀ i, IsReal (v i)) ∧ ∀ i, IsReal (ct i) := by
  obtain ⟨h1, hc⟩ := and_one (congrFun h (fun b => b.elim0))
  obtain ⟨h2, hv⟩ := and_one h1
  obtain ⟨hq, hk⟩ := and_one h2
  exact ⟨fun i => isReal_of_olt ofBits_top (Host.reduce_andi_all _ _ _ _ _ hq i), fun i => isReal_of_olt ofBits_top (Host.reduce_andi_all _ _ _ _ _ hk i),
    fun i => isReal_of_olt ofBits_top (Host.reduce_andi_all _ _ _ _ _ hv i), fun i => isReal_of_olt ofBits_top (Host.reduce_andi_all _ _ _ _ _ hc i)⟩

end Cert.Pre_finite_a

end
-- ==== Proof.EqA.lean ====
/- Attention A's gradient: the kernel's three results are the reference's. -/
module

public import proofs.«01_k».proof.Proof.TailA
public import proofs.«01_k».proof.Proof.RefA
public import proofs.«01_k».proof.Proof.PreA
public import proofs.«01_k».proof.Defs
public import proofs.«01_k».proof.Proof.Gen.KernelAIdeal.Frame

@[expose] public section

set_option maxRecDepth 16384

noncomputable section

namespace Cert.EqA
open Idealize.ShloMosaic Idealize.SL.Sem Cert.AttnGrad

theorem eta4 {a n : ℕ} (i : (⟨4, ![1, a, 8192, n]⟩ : Shape).Idx) : i = ix4 0 (i 1) (i 2) (i 3) :=
  (Idealize.ShloMosaic.ix4_eta i).symm.trans (congrArg (fun a => ix4 a (i 1) (i 2) (i 3)) (Subsingleton.elim (α := Fin 1) _ _))

/-- The results agree where the arguments do. -/
theorem results (m : (ℓ : Loc KernelAIdeal.nD KernelAIdeal.τ KernelAIdeal.sig) → Buf (Elt Ideal) ℓ) (c : Dev KernelAIdeal.nD)
    (q : FVec Ideal KernelAIdeal.S1x8x8192x64 .f32) (k v : FVec Ideal KernelAIdeal.S1x2x8192x64 .f32) (ct : FVec Ideal KernelAIdeal.S1x8192x512 .f32)
    (h0 : q = KernelAIdeal.Val.argQ m c) (h1 : k = KernelAIdeal.Val.argK m c) (h2 : v = KernelAIdeal.Val.argV m c) (h3 : ct = KernelAIdeal.Val.argCt m c)
    (hp : Pre_finite_a.fn (F := Ideal) q k v ct = fun _ => 1#1) :
    ReferenceAIdeal.Val.rDq k (ReferenceAIdeal.Val.rDs q k v ct) = KernelAIdeal.Val.outDq (KernelAIdeal.Val.dqArr m c)
    ∧ ReferenceAIdeal.Val.rDk (ReferenceAIdeal.Val.rDs q k v ct) (ReferenceAIdeal.Val.rQ q) =
        KernelAIdeal.Val.outDk (KernelAIdeal.Val.dkArr m c) KernelAIdeal.Val.ln2
    ∧ ReferenceAIdeal.Val.rDv (ReferenceAIdeal.Val.rDo ct) (ReferenceAIdeal.Val.rP (ReferenceAIdeal.Val.rExp q k)
        (ReferenceAIdeal.Val.rL (ReferenceAIdeal.Val.rExp q k))) = KernelAIdeal.Val.outDv (KernelAIdeal.Val.dvArr m c) := by
  obtain ⟨hq, hk, hv, hd⟩ := Pre_finite_a.real_of_fn hp
  choose Q hq using hq
  choose K hk using hk
  choose V hv using hv
  choose D hd using hd
  have hq' : ∀ h R j, q (ix4 0 h R j) = (((fun h R j => Q (ix4 0 h R j)) h R j : ℝ) : EReal) := fun h R j => hq _
  have hk' : ∀ g R j, k (ix4 0 g R j) = (((fun g R j => K (ix4 0 g R j)) g R j : ℝ) : EReal) := fun g R j => hk _
  have hv' : ∀ g R l, v (ix4 0 g R l) = (((fun g R l => V (ix4 0 g R l)) g R l : ℝ) : EReal) := fun g R l => hv _
  have hd' : ∀ (h : Fin 8) (R : Fin 8192) (l : Fin 64), ct (ix3 0 R (colA h l)) =
    (((fun h R l => D (ix3 0 R (colA h l))) h R l : ℝ) : EReal) := fun h R l => hd _
  clear hp hq hk hv hd
  subst h0 h1 h2 h3
  refine ⟨funext fun i => ?_, funext fun i => ?_, funext fun i => ?_⟩
  · rw [eta4 i]
    exact (ReferenceAIdeal.Val.rDq_real hq' hk' hv' hd' _ _ _).trans (KernelAIdeal.Val.outDq_real m c hq' hk' hv' hd' _ _ _).symm
  · rw [eta4 i]
    exact (ReferenceAIdeal.Val.rDk_real hq' hk' hv' hd' _ _ _).trans (KernelAIdeal.Val.outDk_real m c hq' hk' hv' hd' _ _ _).symm
  · rw [eta4 i]
    exact (ReferenceAIdeal.Val.rDv_real hq' hk' hd' _ _ _).trans (KernelAIdeal.Val.outDv_real m c hq' hk' hv' hd' _ _ _).symm

theorem algebraic : Cert.algebraic_KernelAIdeal_ReferenceAIdeal_pre_finite_a := by
  intro m ρ m' ρ' hp he
  refine ⟨fun c => KernelAIdeal.Val.outDq (KernelAIdeal.Val.dqArr m c), fun c => KernelAIdeal.Val.outDk (KernelAIdeal.Val.dkArr m c) KernelAIdeal.Val.ln2,
    fun c => KernelAIdeal.Val.outDv (KernelAIdeal.Val.dvArr m c), ?_, ?_⟩
  · refine (θ_run _ _ _).mono (fun r h c => ?_) (θ_run_and (KernelAIdeal.Val.run_values m ρ) (KernelAIdeal.Gen.unchanged m ρ))
    exact ⟨(h.1 c).1, (h.1 c).2.1, (h.1 c).2.2, h.2 c⟩
  · refine (θ_run _ _ _).mono (fun r h c => ?_) (θ_run_and (ReferenceAIdeal.Val.run_values m' ρ') (ReferenceAIdeal.Value.run m' ρ'))
    obtain ⟨a0, a1, a2, a3⟩ := he c
    have hf : Pre_finite_a.fn (F := Ideal) (ReferenceAIdeal.Val.argQ m' c) (ReferenceAIdeal.Val.argK m' c) (ReferenceAIdeal.Val.argV m' c)
        (ReferenceAIdeal.Val.argCt m' c) = fun _ => 1#1 := by
      unfold ReferenceAIdeal.Val.argQ ReferenceAIdeal.Val.argK ReferenceAIdeal.Val.argV ReferenceAIdeal.Val.argCt
      rw [a0, a1, a2, a3]
      exact hp c
    obtain ⟨e0, e1, e2⟩ := results m c _ _ _ _ a0 a1 a2 a3 hf
    exact ⟨(h.1 c).1.trans e0, (h.1 c).2.1.trans e1, (h.1 c).2.2.trans e2, (h.2 c).2.2.2⟩

end Cert.EqA

end
-- ==== Proof.MidTile.lean ====
/- What 512 rows of the gates' block compute: the gated heads, the loss and its gradient. The names of the stages, over any floats. -/
module

public import Idealize.ShloMosaic.Lib.Pipeline.ValueKit
public import proofs.«01_k».proof.Proof.Tile

@[expose] public section

set_option maxRecDepth 16384

noncomputable section

namespace Cert.GateGrad
open Idealize.ShloMosaic

/-- A head's rows, a head's rows as they are held, and their transpose. -/
abbrev Blk : Shape := ⟨2, ![512, 128]⟩
abbrev Blk₃ : Shape := ⟨3, ![1, 512, 128]⟩
abbrev BlkT : Shape := ⟨2, ![128, 512]⟩
/-- Rows of all heads side by side. -/
abbrev Wide : Shape := ⟨2, ![512, 1024]⟩
abbrev WideT : Shape := ⟨2, ![1024, 512]⟩
abbrev Wts : Shape := ⟨2, ![1024, 1024]⟩
/-- The heads of the two mixers. -/
abbrev HeadsA : Shape := ⟨3, ![8, 512, 128]⟩
abbrev HeadsB : Shape := ⟨3, ![4, 512, 128]⟩
/-- A number for every row. -/
abbrev Col : Shape := ⟨1, ![512]⟩
abbrev Col₂ : Shape := ⟨2, ![512, 1]⟩
abbrev One₁ : Shape := ⟨1, ![1]⟩
abbrev One : Shape := ⟨2, ![1, 1]⟩
/-- The loss, in every cell of a tile. -/
abbrev Loss : Shape := ⟨2, ![8, 128]⟩
abbrev Means : Shape := ⟨2, ![16, 512]⟩

/-- Rows times weights. -/
def dotRW : DotDims Wide Wts Wide where
  lhsContracting := [1]
  rhsContracting := [0]
  lhsNonContracting := [0]
  rhsNonContracting := [1]
  lhsBatch := []
  rhsBatch := []
  wf := by decide

/-- Rows times the weights' transpose. -/
def dotRT : DotDims Wide Wts Wide where
  lhsContracting := [1]
  rhsContracting := [1]
  lhsNonContracting := [0]
  rhsNonContracting := [0]
  lhsBatch := []
  rhsBatch := []
  wf := by decide

variable {F : FTy → Type} [FloatOps F]

/-! ## One head -/

/-- The lanes' numbers. -/
def lanes : IVec Blk 32 := iota .tc Blk 32 [1] (by decide)

/-- The two halves of the lanes exchanged. -/
def turn (x : FVec F Blk .f32) : FVec F Blk .f32 := dynamicRotate 1 64#32 none x (by decide)

/-- The lower half of the lanes, zero in the upper. -/
def low (x : FVec F Blk .f32) : FVec F Blk .f32 :=
  select (cmpi .slt lanes (broadcast Blk 64#32)) x (broadcast Blk (Scalar.ofBits .f32 0x00000000#32))

/-- The logistic function of a gate. -/
def sig (g : FVec F Blk .f32) : FVec F Blk .f32 :=
  divf (broadcast Blk (Scalar.ofBits .f32 0x3F800000#32)) (addf (broadcast Blk (Scalar.ofBits .f32 0x3F800000#32))
    (exp (subf (broadcast Blk (Scalar.ofBits .f32 0x00000000#32)) g)))

/-- A gate times its logistic function, -/
def silu (g : FVec F Blk .f32) : FVec F Blk .f32 := mulf g (sig g)

/-- and its derivative. -/
def dsilu (g : FVec F Blk .f32) : FVec F Blk .f32 :=
  mulf (sig g) (addf (broadcast Blk (Scalar.ofBits .f32 0x3F800000#32))
    (mulf g (subf (broadcast Blk (Scalar.ofBits .f32 0x3F800000#32)) (sig g))))

/-- A head's rows, read. -/
def own (o : Vec F Blk₃ .f32) : FVec F Blk .f32 := shapeCast Blk o (by decide)

/-- Columns of the gates, read; or columns written and read again. -/
def held (g : Vec F Blk .f32) : FVec F Blk .f32 := shapeCast Blk g (by decide)

/-- A head gated. -/
def gated (o : Vec F Blk₃ .f32) (g : FVec F Blk .f32) : FVec F Blk .f32 := mulf (own o) (silu g)

/-! ## The gated rows -/

section
variable (oa : Vec F HeadsA .f32) (ob : Vec F HeadsB .f32) (g : Vec F Wide .f32)

/-- Head `h` of mixer A and of mixer B. -/
def headA {e : EltTy} (x : Vec F HeadsA e) (h : Fin 8) : Vec F Blk₃ e :=
  View.ld x (Rect.unit (s := HeadsA) ![h.val, 0, 0] ![1, 512, 128] (by intro a; have := h.isLt; fin_cases a <;> simp <;> omega))
def headB {e : EltTy} (x : Vec F HeadsB e) (h : Fin 4) : Vec F Blk₃ e :=
  View.ld x (Rect.unit (s := HeadsB) ![h.val, 0, 0] ![1, 512, 128] (by intro a; have := h.isLt; fin_cases a <;> simp <;> omega))

/-- The columns of pair `p` of mixer A's heads, and of mixer B's head `p`. -/
def colA {e : EltTy} (x : Vec F Wide e) (p : Fin 4) : Vec F Blk e :=
  View.ld x (Rect.unit (s := Wide) ![0, p.val * 128] ![512, 128] (by intro a; have := p.isLt; fin_cases a <;> simp <;> omega))
def colB {e : EltTy} (x : Vec F Wide e) (p : Fin 4) : Vec F Blk e :=
  View.ld x (Rect.unit (s := Wide) ![0, 512 + p.val * 128] ![512, 128] (by intro a; have := p.isLt; fin_cases a <;> simp <;> omega))

/-- The heads of a pair. -/
def evenOf (p : Fin 4) : Fin 8 := ⟨2 * p.val, by omega⟩
def oddOf (p : Fin 4) : Fin 8 := ⟨2 * p.val + 1, by omega⟩

/-- The gates of a pair's two heads, and of a head of mixer B. -/
def gEven (p : Fin 4) : FVec F Blk .f32 := low (held (colA g p))
def gOdd (p : Fin 4) : FVec F Blk .f32 := low (turn (held (colA g p)))
def gOwn (p : Fin 4) : FVec F Blk .f32 := held (colB g p)

/-- The gated columns of a pair, and of a head of mixer B. -/
def yPair (p : Fin 4) : FVec F Blk .f32 :=
  addf (gated (headA oa (evenOf p)) (gEven g p)) (turn (gated (headA oa (oddOf p)) (gOdd g p)))
def yOwn (p : Fin 4) : FVec F Blk .f32 := gated (headB ob p) (gOwn g p)

/-- Columns as they are stored, -/
def cast (y : FVec F Blk .f32) : FVec F Blk .bf16 := shapeCast Blk (truncf .bf16 y (by decide)) (by decide)
/-- and their transpose. -/
def castT (y : FVec F Blk .f32) : FVec F BlkT .bf16 := truncf .bf16 (transpose BlkT [1, 0] y (by decide)) (by decide)

/-- Eight column blocks side by side. -/
def slab (a b : Fin 4 → FVec F Blk .bf16) : Vec F Wide .bf16 :=
  fun j => View.canon (Val := Elt F) (s := Wide) (e := .bf16)
    [⟨Rect.unit (s := Wide) ![0, 896] ![512, 128] (by decide), b 3⟩, ⟨Rect.unit (s := Wide) ![0, 768] ![512, 128] (by decide), b 2⟩,
     ⟨Rect.unit (s := Wide) ![0, 640] ![512, 128] (by decide), b 1⟩, ⟨Rect.unit (s := Wide) ![0, 512] ![512, 128] (by decide), b 0⟩,
     ⟨Rect.unit (s := Wide) ![0, 384] ![512, 128] (by decide), a 3⟩, ⟨Rect.unit (s := Wide) ![0, 256] ![512, 128] (by decide), a 2⟩,
     ⟨Rect.unit (s := Wide) ![0, 128] ![512, 128] (by decide), a 1⟩, ⟨Rect.unit (s := Wide) ![0, 0] ![512, 128] (by decide), a 0⟩]
    ((Rect.unit (s := Wide) ![0, 0] ![512, 1024] (by decide)).toLoadRect.idx j)

/-- The gated rows. -/
def yRows : Vec F Wide .bf16 := slab (fun p => cast (yPair oa g p)) (fun p => cast (yOwn ob g p))

end

/-! ## The loss and what flows back -/

/-- Residual plus product less target. -/
def err (x t : Vec F Wide .f32) (y : Vec F Wide .bf16) (w : Vec F Wts .bf16) : FVec F Wide .f32 :=
  subf (addf (shapeCast Wide x (by decide)) (matmul dotRW none y (shapeCast Wts w (by decide)) (constant Wide .f32 0x00000000#32)))
    (shapeCast Wide t (by decide))

/-- The loss with the rows' squares more. -/
def lossNext (prev : Vec F Loss .f32) (e : FVec F Wide .f32) : FVec F Loss .f32 :=
  addf (shapeCast Loss prev (by decide)) (broadcastTo Loss (shapeCast One (mulf
    (shapeCast One (multiReduction .add [0] One₁ (shapeCast Col₂ (multiReduction .add [1] Col (mulf e e) 0x00000000#32 (by decide) (.inl rfl) rfl)
      (by decide)) 0x00000000#32 (by decide) (.inl rfl) rfl) (by decide))
    (broadcast One (Scalar.ofBits .f32 0x3A000000#32))) (by decide)) (by decide))

/-- The loss before the first rows. -/
def lossNone : FVec F Loss .f32 := broadcast Loss (Scalar.ofBits .f32 0x00000000#32)

/-- The residual's gradient. -/
def dRes (e : FVec F Wide .f32) : FVec F Wide .f32 := mulf e (broadcast Wide (Scalar.ofBits .f32 0x3A800000#32))

/-- The residual's gradient as the product takes it. -/
def dErr (e : FVec F Wide .f32) : FVec F Wide .bf16 := truncf .bf16 (dRes e) (by decide)

/-- The gated rows' gradient. -/
def dGated (d : FVec F Wide .bf16) (w : Vec F Wts .bf16) : FVec F Wide .f32 :=
  matmul dotRT none d (shapeCast Wts w (by decide)) (constant Wide .f32 0x00000000#32)

section
variable (oa : Vec F HeadsA .f32) (ob : Vec F HeadsB .f32) (g dy : Vec F Wide .f32)

/-- Its columns, for a pair's two heads and for a head of mixer B. -/
def dyEven (p : Fin 4) : FVec F Blk .f32 :=
  extractStridedSlice Blk ![0, p.val * 128] dy ⟨rfl, by intro a; have := p.isLt; fin_cases a <;> simp <;> omega⟩
def dyOdd (p : Fin 4) : FVec F Blk .f32 := turn (dyEven dy p)
def dyOwn (p : Fin 4) : FVec F Blk .f32 :=
  extractStridedSlice Blk ![0, 512 + p.val * 128] dy ⟨rfl, by intro a; have := p.isLt; fin_cases a <;> simp <;> omega⟩

/-- A head's gradient, -/
def dOut (d g : FVec F Blk .f32) : FVec F Blk .f32 := mulf d (held (silu g))
/-- and its gates'. -/
def dGate (d : FVec F Blk .f32) (o : Vec F Blk₃ .f32) (g : FVec F Blk .f32) : FVec F Blk .f32 := mulf (mulf d (own o)) (held (dsilu g))

/-- The heads' gradients. -/
def dEven (p : Fin 4) : FVec F Blk .f32 := dOut (dyEven dy p) (gEven g p)
def dOdd (p : Fin 4) : FVec F Blk .f32 := dOut (dyOdd dy p) (gOdd g p)
def dOwn (p : Fin 4) : FVec F Blk .f32 := dOut (dyOwn dy p) (gOwn g p)

/-- A head's gradient as it is stored. -/
def stored (d : FVec F Blk .f32) : FVec F Blk₃ .bf16 := shapeCast Blk₃ (truncf .bf16 d (by decide)) (by decide)

/-- The gates' gradient, of a pair and of a head of mixer B, as it is stored. -/
def dgPair (p : Fin 4) : FVec F Blk .bf16 :=
  truncf .bf16 (addf (dGate (dyEven dy p) (headA oa (evenOf p)) (gEven g p))
    (turn (dGate (dyOdd dy p) (headA oa (oddOf p)) (gOdd g p)))) (by decide)
def dgOwn (p : Fin 4) : FVec F Blk .bf16 := truncf .bf16 (dGate (dyOwn dy p) (headB ob p) (gOwn g p)) (by decide)

/-- A lane filled with the rows' sums of gradient times head. -/
def lane (n : ℕ) (d : FVec F Blk .f32) (o : Vec F Blk₃ .f32) (prev : FVec F Blk .f32) : FVec F Blk .f32 :=
  select (cmpi .eq lanes (broadcast Blk (BitVec.ofNat 32 n)))
    (broadcastTo Blk (shapeCast Col₂ (shapeCast Col₂ (multiReduction .add [1] Col (mulf d (own o)) 0x00000000#32 (by decide) (.inl rfl) rfl)
      (by decide)) (by decide)) (by decide)) prev

/-- Mixer A's lanes, pair by pair, over zeros, -/
def lanesA : (n : ℕ) → n ≤ 4 → FVec F Blk .f32
  | 0, _ => broadcast Blk (Scalar.ofBits .f32 0x00000000#32)
  | n + 1, h => lane (2 * n + 1) (dOdd g dy ⟨n, h⟩) (headA oa (oddOf ⟨n, h⟩))
      (lane (2 * n) (dEven g dy ⟨n, h⟩) (headA oa (evenOf ⟨n, h⟩)) (lanesA n (Nat.le_of_succ_le h)))

/-- and mixer B's over them. -/
def lanesB : (n : ℕ) → n ≤ 4 → FVec F Blk .f32
  | 0, _ => lanesA oa g dy 4 (le_refl 4)
  | n + 1, h => lane (8 + n) (dOwn g dy ⟨n, h⟩) (headB ob ⟨n, h⟩) (lanesB n (Nat.le_of_succ_le h))

/-- The rows' sums, a head to a row. -/
def means : FVec F Means .f32 :=
  extractStridedSlice Means ![0, 0] (transpose BlkT [1, 0] (lanesB oa ob g dy 4 (le_refl 4)) (by decide)) (by decide)

end

/-! ## What a grid point leaves in its outputs, block by block -/

/-- The heads `x` of mixer A, block by block. -/
def IsHeadsA (x : Vec F HeadsA .bf16) (even odd : Fin 4 → FVec F Blk₃ .bf16) : Prop :=
  View.ld x (Rect.unit (s := HeadsA) ![0, 0, 0] ![1, 512, 128] (by decide)) = even 0 ∧
  View.ld x (Rect.unit (s := HeadsA) ![1, 0, 0] ![1, 512, 128] (by decide)) = odd 0 ∧
  View.ld x (Rect.unit (s := HeadsA) ![2, 0, 0] ![1, 512, 128] (by decide)) = even 1 ∧
  View.ld x (Rect.unit (s := HeadsA) ![3, 0, 0] ![1, 512, 128] (by decide)) = odd 1 ∧
  View.ld x (Rect.unit (s := HeadsA) ![4, 0, 0] ![1, 512, 128] (by decide)) = even 2 ∧
  View.ld x (Rect.unit (s := HeadsA) ![5, 0, 0] ![1, 512, 128] (by decide)) = odd 2 ∧
  View.ld x (Rect.unit (s := HeadsA) ![6, 0, 0] ![1, 512, 128] (by decide)) = even 3 ∧
  View.ld x (Rect.unit (s := HeadsA) ![7, 0, 0] ![1, 512, 128] (by decide)) = odd 3

/-- The heads `x` of mixer B. -/
def IsHeadsB (x : Vec F HeadsB .bf16) (b : Fin 4 → FVec F Blk₃ .bf16) : Prop :=
  View.ld x (Rect.unit (s := HeadsB) ![0, 0, 0] ![1, 512, 128] (by decide)) = b 0 ∧
  View.ld x (Rect.unit (s := HeadsB) ![1, 0, 0] ![1, 512, 128] (by decide)) = b 1 ∧
  View.ld x (Rect.unit (s := HeadsB) ![2, 0, 0] ![1, 512, 128] (by decide)) = b 2 ∧
  View.ld x (Rect.unit (s := HeadsB) ![3, 0, 0] ![1, 512, 128] (by decide)) = b 3

/-- Columns `x`, the pairs' and mixer B's. -/
def IsCols (x : Vec F Wide .bf16) (a b : Fin 4 → FVec F Blk .bf16) : Prop :=
  View.ld x (Rect.unit (s := Wide) ![0, 0] ![512, 128] (by decide)) = a 0 ∧
  View.ld x (Rect.unit (s := Wide) ![0, 128] ![512, 128] (by decide)) = a 1 ∧
  View.ld x (Rect.unit (s := Wide) ![0, 256] ![512, 128] (by decide)) = a 2 ∧
  View.ld x (Rect.unit (s := Wide) ![0, 384] ![512, 128] (by decide)) = a 3 ∧
  View.ld x (Rect.unit (s := Wide) ![0, 512] ![512, 128] (by decide)) = b 0 ∧
  View.ld x (Rect.unit (s := Wide) ![0, 640] ![512, 128] (by decide)) = b 1 ∧
  View.ld x (Rect.unit (s := Wide) ![0, 768] ![512, 128] (by decide)) = b 2 ∧
  View.ld x (Rect.unit (s := Wide) ![0, 896] ![512, 128] (by decide)) = b 3

/-- Columns turned into rows. -/
def IsRows (x : Vec F WideT .bf16) (a b : Fin 4 → FVec F BlkT .bf16) : Prop :=
  View.ld x (Rect.unit (s := WideT) ![0, 0] ![128, 512] (by decide)) = a 0 ∧
  View.ld x (Rect.unit (s := WideT) ![128, 0] ![128, 512] (by decide)) = a 1 ∧
  View.ld x (Rect.unit (s := WideT) ![256, 0] ![128, 512] (by decide)) = a 2 ∧
  View.ld x (Rect.unit (s := WideT) ![384, 0] ![128, 512] (by decide)) = a 3 ∧
  View.ld x (Rect.unit (s := WideT) ![512, 0] ![128, 512] (by decide)) = b 0 ∧
  View.ld x (Rect.unit (s := WideT) ![640, 0] ![128, 512] (by decide)) = b 1 ∧
  View.ld x (Rect.unit (s := WideT) ![768, 0] ![128, 512] (by decide)) = b 2 ∧
  View.ld x (Rect.unit (s := WideT) ![896, 0] ![128, 512] (by decide)) = b 3

end Cert.GateGrad

end
-- ==== Proof.BodyM.lean ====
/- What the body of the gates' block leaves in its seven outputs at a grid point. -/
module

public import proofs.«01_k».proof.Proof.Gen.KernelMIdeal.Frame
public import proofs.«01_k».proof.Proof.MidTile
public import Idealize.ShloMosaic.Lib.Pipeline.ReadBack

@[expose] public section

set_option maxRecDepth 16384

noncomputable section

namespace Cert.KernelMIdeal.Val
open Idealize.ShloMosaic Idealize.ShloMosaic.TcCoe Idealize.ShloMosaic.Tactic Cert.KernelMIdeal Cert.KernelMIdeal.Gen Cert.GateGrad
open Cert.AttnGrad (ld_canon_skip ld_canon_cons)

variable {F : FTy → Type} [FloatOps F]
variable (m : (ℓ : Loc nD τ sig) → Buf (Elt F) ℓ)

section
variable (c : Dev nD) (t : Fin cfg0.N)
/-- A grid point's gated rows, its error and the gated rows' gradient. -/
def yAt : Vec F Wide .bf16 := yRows (iblk m c 2 t) (iblk m c 3 t) (iblk m c 4 t)
def eAt : FVec F Wide .f32 := err (iblk m c 0 t) (iblk m c 1 t) (yAt m c t) (iblk m c 5 t)
def bAt : FVec F Wide .bf16 := dErr (eAt m c t)
def dAt : FVec F Wide .f32 := dGated (bAt m c t) (iblk m c 5 t)
end

/-- The gated columns turned. -/
theorem out_yt (c : Dev nD) (t : Fin cfg0.N) :
    IsRows (outsAt0 m c t.val t.isLt).1 (fun p => castT (yPair (iblk m c 2 t) (iblk m c 4 t) p)) (fun p => castT (yOwn (iblk m c 3 t) (iblk m c 4 t) p)) := by
  by_cases h0 : t.val % 16 = 0 <;>
  · first | rw [outsAt0_A m c t h0] | rw [outsAt0_B m c t h0]
    unfold IsRows
    frame_open
    simp (disch := decide) only [↓ View.readCov_skip, ↓ View.readCov_cons_toLoadRect, ↓ View.readCov_fill]
    frame_out
    simp (disch := decide) only [↓ ld_canon_skip, ↓ ld_canon_cons]
    exact ⟨rfl, rfl, rfl, rfl, rfl, rfl, rfl, rfl⟩

/-- The residual's gradient. -/
theorem out_dh (c : Dev nD) (t : Fin cfg0.N) :
    (outsAt0 m c t.val t.isLt).2.1 = dRes (eAt m c t) := by
  by_cases h0 : t.val % 16 = 0 <;>
  · first | rw [outsAt0_A m c t h0] | rw [outsAt0_B m c t h0]
    frame_open
    simp (disch := decide) only [↓ View.readCov_skip, ↓ View.readCov_cons_toLoadRect, ↓ View.readCov_fill]
    frame_out
    simp only [View.readCov_eq_canon']
    rfl

/-- The gates' gradient. -/
theorem out_dg (c : Dev nD) (t : Fin cfg0.N) :
    IsCols (outsAt0 m c t.val t.isLt).2.2.1 (dgPair (iblk m c 2 t) (iblk m c 4 t) (dAt m c t)) (dgOwn (iblk m c 3 t) (iblk m c 4 t) (dAt m c t)) := by
  by_cases h0 : t.val % 16 = 0 <;>
  · first | rw [outsAt0_A m c t h0] | rw [outsAt0_B m c t h0]
    unfold IsCols
    frame_open
    simp (disch := decide) only [↓ View.readCov_skip, ↓ View.readCov_cons_toLoadRect, ↓ View.readCov_fill]
    frame_out
    simp only [View.readCov_eq_canon']
    generalize hb : k0_pay105 (F := F) _ _ _ _ = b
    unfold dAt
    rw [show bAt m c t = b from Eq.trans (by rfl) hb]
    clear hb
    simp (disch := decide) only [↓ ld_canon_skip, ↓ ld_canon_cons]
    exact ⟨rfl, rfl, rfl, rfl, rfl, rfl, rfl, rfl⟩

/-- The gradient of mixer A's heads. -/
theorem out_da (c : Dev nD) (t : Fin cfg0.N) :
    IsHeadsA (outsAt0 m c t.val t.isLt).2.2.2.1 (fun p => stored (dEven (iblk m c 4 t) (dAt m c t) p)) (fun p => stored (dOdd (iblk m c 4 t) (dAt m c t) p)) := by
  by_cases h0 : t.val % 16 = 0 <;>
  · first | rw [outsAt0_A m c t h0] | rw [outsAt0_B m c t h0]
    unfold IsHeadsA
    frame_open
    simp (disch := decide) only [↓ View.readCov_skip, ↓ View.readCov_cons_toLoadRect, ↓ View.readCov_fill]
    frame_out
    simp only [View.readCov_eq_canon']
    generalize hb : k0_pay105 (F := F) _ _ _ _ = b
    unfold dAt
    rw [show bAt m c t = b from Eq.trans (by rfl) hb]
    clear hb
    simp (disch := decide) only [↓ ld_canon_skip, ↓ ld_canon_cons]
    exact ⟨rfl, rfl, rfl, rfl, rfl, rfl, rfl, rfl⟩

/-- The gradient of mixer B's heads. -/
theorem out_db (c : Dev nD) (t : Fin cfg0.N) :
    IsHeadsB (outsAt0 m c t.val t.isLt).2.2.2.2.1 (fun p => stored (dOwn (iblk m c 4 t) (dAt m c t) p)) := by
  by_cases h0 : t.val % 16 = 0 <;>
  · first | rw [outsAt0_A m c t h0] | rw [outsAt0_B m c t h0]
    unfold IsHeadsB
    frame_open
    simp (disch := decide) only [↓ View.readCov_skip, ↓ View.readCov_cons_toLoadRect, ↓ View.readCov_fill]
    frame_out
    simp only [View.readCov_eq_canon']
    generalize hb : k0_pay105 (F := F) _ _ _ _ = b
    unfold dAt
    rw [show bAt m c t = b from Eq.trans (by rfl) hb]
    clear hb
    simp (disch := decide) only [↓ ld_canon_skip, ↓ ld_canon_cons]
    exact ⟨rfl, rfl, rfl, rfl⟩

/-- The rows' sums. -/
theorem out_dl (c : Dev nD) (t : Fin cfg0.N) :
    (outsAt0 m c t.val t.isLt).2.2.2.2.2.1 = means (iblk m c 2 t) (iblk m c 3 t) (iblk m c 4 t) (dAt m c t) := by
  by_cases h0 : t.val % 16 = 0 <;>
  · first | rw [outsAt0_A m c t h0] | rw [outsAt0_B m c t h0]
    frame_open
    simp (disch := decide) only [↓ View.readCov_skip, ↓ View.readCov_cons_toLoadRect, ↓ View.readCov_fill]
    frame_out
    simp only [View.readCov_eq_canon']
    generalize hb : k0_pay105 (F := F) _ _ _ _ = b
    unfold dAt
    rw [show bAt m c t = b from Eq.trans (by rfl) hb]
    clear hb
    rfl

/-- At the first point the loss is summed over zeros. -/
theorem out_ls_A (c : Dev nD) (t : Fin cfg0.N) (h0 : t.val % 16 = 0) :
    (outsAt0 m c t.val t.isLt).2.2.2.2.2.2 = lossNext lossNone (eAt m c t) := by
  rw [outsAt0_A m c t h0]
  frame_open
  simp (disch := decide) only [↓ View.readCov_skip, ↓ View.readCov_cons_toLoadRect, ↓ View.readCov_fill]
  frame_out
  simp only [View.readCov_eq_canon']
  rfl

/-- at a later one over what the point before left. -/
theorem out_ls_B (c : Dev nD) (t : Fin cfg0.N) (h0 : ¬t.val % 16 = 0) :
    (outsAt0 m c t.val t.isLt).2.2.2.2.2.2 = lossNext (outsAt0 m c (t.val - 1) (Nat.lt_of_le_of_lt (Nat.sub_le _ _) t.isLt)).2.2.2.2.2.2 (eAt m c t) := by
  rw [outsAt0_B m c t h0]
  frame_open
  simp (disch := decide) only [↓ View.readCov_skip, ↓ View.readCov_cons_toLoadRect, ↓ View.readCov_fill]
  frame_out
  simp only [View.readCov_eq_canon']
  rfl

end Cert.KernelMIdeal.Val

end
-- ==== Proof.MidIdeal.lean ====
/- The gates' block over the extended reals, where all it reads is finite: what each of its numbers is, column by column. -/
module

public import proofs.«01_k».proof.Proof.MidTile
public import proofs.«01_k».proof.Proof.RealOps
public import Idealize.ShloMosaic.Lib.Pointwise

@[expose] public section

set_option maxRecDepth 16384

noncomputable section

namespace Cert.GateGrad
open Idealize.ShloMosaic Cert.AttnGrad
open scoped BigOperators

/-! ## The logistic function -/

/-- The logistic function, a number times it, and the derivative of that. -/
def sigR (a : ℝ) : ℝ := 1 / (1 + Real.exp (-a))
def siluR (a : ℝ) : ℝ := a * sigR a
def dsiluR (a : ℝ) : ℝ := sigR a * (1 + a * (1 - sigR a))

theorem siluR_zero : siluR 0 = 0 := by rw [siluR, zero_mul]

theorem sig_real {g : FVec Ideal Blk .f32} {j : Blk.Idx} {a : ℝ} (h : g j = (a : EReal)) : sig g j = ((sigR a : ℝ) : EReal) := by
  show Ideal.div (Ideal.ofBits .f32 0x3F800000#32) (Ideal.ofBits .f32 0x3F800000#32 +
    Ideal.exp (Ideal.ofBits .f32 0x00000000#32 - g j)) = _
  rw [h, ofBits_one, ofBits_zero, ← EReal.coe_zero, ← EReal.coe_sub, Ideal.exp_coe, ← EReal.coe_add, div_real, zero_sub]
  · rfl
  · have := Real.exp_pos (0 - a)
    positivity

theorem silu_real {g : FVec Ideal Blk .f32} {j : Blk.Idx} {a : ℝ} (h : g j = (a : EReal)) : silu g j = ((siluR a : ℝ) : EReal) := by
  show g j * sig g j = _
  rw [sig_real h, h, ← EReal.coe_mul]
  rfl

theorem dsilu_real {g : FVec Ideal Blk .f32} {j : Blk.Idx} {a : ℝ} (h : g j = (a : EReal)) : dsilu g j = ((dsiluR a : ℝ) : EReal) := by
  show sig g j * (Ideal.ofBits .f32 0x3F800000#32 + g j * (Ideal.ofBits .f32 0x3F800000#32 - sig g j)) = _
  rw [sig_real h, h, ofBits_one, ← EReal.coe_sub, ← EReal.coe_mul, ← EReal.coe_add, ← EReal.coe_mul]
  rfl

/-! ## Lanes -/

/-- A lane's partner in the other half. -/
def half (l : Fin 128) : Fin 128 := ⟨(l.val + 64) % 128, Nat.mod_lt _ (by decide)⟩

theorem turn_apply (x : FVec Ideal Blk .f32) (r : Fin 512) (l : Fin 128) : turn x (ix2 r l) = x (ix2 r (half l)) := by
  unfold turn
  rw [Pointwise.dynamicRotate_apply, Shape.Idx.norm_def]
  refine congrArg x (funext fun b => ?_)
  match b with
  | ⟨0, _⟩ => rfl
  | ⟨1, _⟩ =>
    refine Fin.ext ?_
    show (l.val + 128 - (64 + 0) % 128) % 128 = (l.val + 64) % 128
    omega

theorem lt64 (l : Fin 128) : IntOp.cmpi .slt (BitVec.ofNat 32 l.val) 64#32 = if l.val < 64 then 1#1 else 0#1 := by
  revert l
  decide +kernel

theorem eqLane (n : Fin 128) (l : Fin 128) : IntOp.cmpi .eq (BitVec.ofNat 32 l.val) (BitVec.ofNat 32 n.val) = if l.val = n.val then 1#1 else 0#1 := by
  revert n l
  decide +kernel

theorem lanes_apply (r : Fin 512) (l : Fin 128) : lanes (ix2 r l) = BitVec.ofNat 32 l.val := by
  unfold lanes
  pointwise

theorem low_apply (x : FVec Ideal Blk .f32) (r : Fin 512) (l : Fin 128) :
    low x (ix2 r l) = if l.val < 64 then x (ix2 r l) else 0 := by
  show Scalar.select (IntOp.cmpi .slt (lanes (ix2 r l)) 64#32) (x (ix2 r l)) (Ideal.ofBits .f32 0x00000000#32) = _
  rw [lanes_apply, lt64, ofBits_zero]
  split <;> rfl

theorem lane_apply (n : Fin 128) (d : FVec Ideal Blk .f32) (o : Vec Ideal Blk₃ .f32) (prev : FVec Ideal Blk .f32) (r : Fin 512) (l : Fin 128) :
    lane n.val d o prev (ix2 r l) = if l.val = n.val then ∑ k : Fin 128, d (ix2 r k) * o (ix3 0 r k) else prev (ix2 r l) := by
  have e : (broadcastTo Blk (shapeCast Col₂ (shapeCast Col₂ (multiReduction .add [1] Col (mulf d (own o)) 0x00000000#32 (by decide) (.inl rfl) rfl)
      (by decide)) (by decide)) (by decide) : FVec Ideal Blk .f32) (ix2 r l) = ∑ k : Fin 128, d (ix2 r k) * o (ix3 0 r k) := by
    unfold own
    pointwise
  show Scalar.select (IntOp.cmpi .eq (lanes (ix2 r l)) (BitVec.ofNat 32 n.val)) _ (prev (ix2 r l)) = _
  rw [lanes_apply, eqLane, e]
  split <;> rfl

theorem own_apply (o : Vec Ideal Blk₃ .f32) (r : Fin 512) (l : Fin 128) : own o (ix2 r l) = o (ix3 0 r l) := by
  unfold own
  pointwise

theorem held_apply (g : Vec Ideal Blk .f32) (j : Blk.Idx) : held g j = g j := by
  unfold held
  pointwise

/-! ## The blocks a grid point reads -/

section
variable {e : EltTy} (r : Fin 512) (l : Fin 128)

theorem headA_apply (x : Vec Ideal HeadsA e) (h : Fin 8) : headA x h (ix3 0 r l) = x (ix3 h r l) :=
  View.ld_unit_apply_of (S := HeadsA) x _ _ _ _ _ (by intro a; fin_cases a <;> simp)

theorem headB_apply (x : Vec Ideal HeadsB e) (h : Fin 4) : headB x h (ix3 0 r l) = x (ix3 h r l) :=
  View.ld_unit_apply_of (S := HeadsB) x _ _ _ _ _ (by intro a; fin_cases a <;> simp)

/-- Column `l` of a pair's block, and of the block of a head of mixer B. -/
def pairCol (p : Fin 4) (l : Fin 128) : Fin 1024 := ⟨p.val * 128 + l.val, by omega⟩
def ownCol (p : Fin 4) (l : Fin 128) : Fin 1024 := ⟨512 + p.val * 128 + l.val, by omega⟩

theorem colA_apply (x : Vec Ideal Wide e) (p : Fin 4) : colA x p (ix2 r l) = x (ix2 r (pairCol p l)) :=
  View.ld_unit_apply_of (S := Wide) x _ _ _ _ _ (by intro a; fin_cases a <;> simp [pairCol])

theorem colB_apply (x : Vec Ideal Wide e) (p : Fin 4) : colB x p (ix2 r l) = x (ix2 r (ownCol p l)) :=
  View.ld_unit_apply_of (S := Wide) x _ _ _ _ _ (by intro a; fin_cases a <;> simp [ownCol])

/-- Column `l` of a head of mixer A. -/
def headCol (h : Fin 8) (l : Fin 64) : Fin 1024 := ⟨h.val * 64 + l.val, by omega⟩
end

/-- What a grid point reads, in finite numbers: the residual `X`, the target `T`, the heads `O` and the gates `G` column by column, and the weights. -/
structure Reads (x t : Vec Ideal Wide .f32) (oa : Vec Ideal HeadsA .f32) (ob : Vec Ideal HeadsB .f32) (g : Vec Ideal Wide .f32)
    (w : Vec Ideal Wts .bf16) (X T O G : Fin 512 → Fin 1024 → ℝ) (W : Fin 1024 → Fin 1024 → ℝ) : Prop where
  x : ∀ r d, x (ix2 r d) = ((X r d : ℝ) : EReal)
  t : ∀ r d, t (ix2 r d) = ((T r d : ℝ) : EReal)
  heads : ∀ h r (l : Fin 64), oa (ix3 h r ⟨l.val, by omega⟩) = ((O r (headCol h l) : ℝ) : EReal)
  pad : ∀ h r (l : Fin 128), 64 ≤ l.val → oa (ix3 h r l) = ((0 : ℝ) : EReal)
  own : ∀ h r l, ob (ix3 h r l) = ((O r (ownCol h l) : ℝ) : EReal)
  g : ∀ r c, g (ix2 r c) = ((G r c : ℝ) : EReal)
  w : ∀ c d, w (ix2 c d) = ((W c d : ℝ) : EReal)

/-! ## Eight column blocks side by side -/

theorem slab_apply (a b : Fin 4 → FVec Ideal Blk .bf16) {G : Fin 512 → Fin 1024 → EReal}
    (ha : ∀ p r l, a p (ix2 r l) = G r (pairCol p l)) (hb : ∀ p r l, b p (ix2 r l) = G r (ownCol p l)) (r : Fin 512) (c : Fin 1024) :
    slab a b (ix2 r c) = G r c := by
  have ea : ∀ (p : Fin 4) (q : ℕ), q = p.val * 128 → View.TileAt (Val := Elt Ideal) (e := .bf16) (S := Wide)
      ((Rect.unit (s := Wide) ![0, 0] ![512, 1024] (by decide)).toLoadRect.idx (ix2 r c)) ![0, q] ![512, 128] (a p) (G r c) := by
    rintro p q rfl x hx
    have h0 : (x 0).val = r.val := by have := (hx 0).symm; simpa using this
    have h1 : p.val * 128 + (x 1).val = c.val := by have := (hx 1).symm; simpa using this
    have ex : x = ix2 (x 0) (x 1) := by funext b; match b with | 0 => rfl | 1 => rfl
    rw [ex]
    refine (ha p (x 0) (x 1)).trans ?_
    rw [show (x 0 : Fin 512) = r from Fin.ext h0, show pairCol p (x 1) = c from Fin.ext h1]
  have eb : ∀ (p : Fin 4) (q : ℕ), q = 512 + p.val * 128 → View.TileAt (Val := Elt Ideal) (e := .bf16) (S := Wide)
      ((Rect.unit (s := Wide) ![0, 0] ![512, 1024] (by decide)).toLoadRect.idx (ix2 r c)) ![0, q] ![512, 128] (b p) (G r c) := by
    rintro p q rfl x hx
    have h0 : (x 0).val = r.val := by have := (hx 0).symm; simpa using this
    have h1 : 512 + p.val * 128 + (x 1).val = c.val := by have := (hx 1).symm; simpa using this
    have ex : x = ix2 (x 0) (x 1) := by funext b; match b with | 0 => rfl | 1 => rfl
    rw [ex]
    refine (hb p (x 0) (x 1)).trans ?_
    rw [show (x 0 : Fin 512) = r from Fin.ext h0, show ownCol p (x 1) = c from Fin.ext h1]
  refine View.canon_eq_of_allAt (Val := Elt Ideal) (e := .bf16) _ _ (G r c) ?_ ?_
  · exact View.cover_of_tiled_head _ _ _ rfl _
  exact View.allAt_cons_unit _ _ _ _ _ (eb 3 _ rfl) <| View.allAt_cons_unit _ _ _ _ _ (eb 2 _ rfl) <|
    View.allAt_cons_unit _ _ _ _ _ (eb 1 _ rfl) <| View.allAt_cons_unit _ _ _ _ _ (eb 0 _ rfl) <|
    View.allAt_cons_unit _ _ _ _ _ (ea 3 _ rfl) <| View.allAt_cons_unit _ _ _ _ _ (ea 2 _ rfl) <|
    View.allAt_cons_unit _ _ _ _ _ (ea 1 _ rfl) <| View.allAt_cons_unit _ _ _ _ _ (ea 0 _ rfl) (View.allAt_nil _ _)

/-! ## The block in finite numbers -/

section
variable {ι : Type} (X T O G : ι → Fin 1024 → ℝ) (W : Fin 1024 → Fin 1024 → ℝ)

/-- The gated columns, -/
def yR (r : ι) (c : Fin 1024) : ℝ := O r c * siluR (G r c)
/-- the residual's error, -/
def errR (r : ι) (d : Fin 1024) : ℝ := X r d + ∑ c, yR O G r c * W c d - T r d
/-- its gradient, -/
def dhR (r : ι) (d : Fin 1024) : ℝ := errR X T O G W r d * (1 / 1024)
/-- the gated columns' gradient, -/
def dyR (r : ι) (c : Fin 1024) : ℝ := ∑ d, dhR X T O G W r d * W c d
/-- the heads' -/
def doR (r : ι) (c : Fin 1024) : ℝ := dyR X T O G W r c * siluR (G r c)
/-- and the gates', -/
def dgR (r : ι) (c : Fin 1024) : ℝ := dyR X T O G W r c * O r c * dsiluR (G r c)
/-- and the sums of a head's columns, gradient times head. -/
def dlA (r : ι) (h : Fin 8) : ℝ := ∑ l : Fin 64, doR X T O G W r (headCol h l) * O r (headCol h l)
def dlB (r : ι) (h : Fin 4) : ℝ := ∑ l : Fin 128, doR X T O G W r (ownCol h l) * O r (ownCol h l)
end

theorem ofBits_r1024 : Ideal.ofBits .f32 0x3A800000#32 = ((1 / 1024 : ℝ) : EReal) := by
  simp [Ideal.ofBits, Ideal.ieee, -EReal.coe_mul]; norm_num
theorem ofBits_r2048 : Ideal.ofBits .f32 0x3A000000#32 = ((1 / 2048 : ℝ) : EReal) := by
  simp [Ideal.ofBits, Ideal.ieee, -EReal.coe_mul]; norm_num

section
variable {x t : Vec Ideal Wide .f32} {oa : Vec Ideal HeadsA .f32} {ob : Vec Ideal HeadsB .f32} {g : Vec Ideal Wide .f32}
  {w : Vec Ideal Wts .bf16} {X T O G : Fin 512 → Fin 1024 → ℝ} {W : Fin 1024 → Fin 1024 → ℝ} (H : Reads x t oa ob g w X T O G W)

/-- A lane's column in a pair's block, for the pair's second head. -/
theorem pairCol_half (p : Fin 4) (l : Fin 128) : pairCol p (half (half l)) = pairCol p l := by
  unfold pairCol half
  refine Fin.ext ?_
  show p.val * 128 + ((l.val + 64) % 128 + 64) % 128 = p.val * 128 + l.val
  omega

theorem half_lt (l : Fin 128) : (half l).val < 64 ↔ 64 ≤ l.val := by
  show (l.val + 64) % 128 < 64 ↔ _
  omega

include H

theorem Reads.even (p : Fin 4) (r : Fin 512) (l : Fin 128) :
    oa (ix3 (evenOf p) r l) = ((if l.val < 64 then O r (pairCol p l) else 0 : ℝ) : EReal) := by
  by_cases h : l.val < 64
  · rw [if_pos h, show pairCol p l = headCol (evenOf p) ⟨l.val, h⟩ from Fin.ext (by unfold pairCol headCol evenOf; simp only; omega)]
    exact H.heads _ _ ⟨l.val, h⟩
  · rw [if_neg h]
    exact H.pad _ _ _ (by omega)

theorem Reads.odd (p : Fin 4) (r : Fin 512) (l : Fin 128) :
    oa (ix3 (oddOf p) r l) = ((if l.val < 64 then O r (pairCol p (half l)) else 0 : ℝ) : EReal) := by
  by_cases h : l.val < 64
  · rw [if_pos h, show pairCol p (half l) = headCol (oddOf p) ⟨l.val, h⟩ from Fin.ext (by unfold pairCol headCol oddOf half; simp only; omega)]
    exact H.heads _ _ ⟨l.val, h⟩
  · rw [if_neg h]
    exact H.pad _ _ _ (by omega)

theorem Reads.gEven (p : Fin 4) (r : Fin 512) (l : Fin 128) :
    gEven g p (ix2 r l) = ((if l.val < 64 then G r (pairCol p l) else 0 : ℝ) : EReal) := by
  rw [GateGrad.gEven, low_apply, held_apply, colA_apply, H.g]
  split <;> rfl

theorem Reads.gOdd (p : Fin 4) (r : Fin 512) (l : Fin 128) :
    gOdd g p (ix2 r l) = ((if l.val < 64 then G r (pairCol p (half l)) else 0 : ℝ) : EReal) := by
  rw [GateGrad.gOdd, low_apply, turn_apply, held_apply, colA_apply, H.g]
  split <;> rfl

theorem Reads.gOwn (p : Fin 4) (r : Fin 512) (l : Fin 128) : gOwn g p (ix2 r l) = ((G r (ownCol p l) : ℝ) : EReal) := by
  rw [GateGrad.gOwn, held_apply, colB_apply, H.g]

theorem Reads.yPair (p : Fin 4) (r : Fin 512) (l : Fin 128) : yPair oa g p (ix2 r l) = ((yR O G r (pairCol p l) : ℝ) : EReal) := by
  show GateGrad.own _ (ix2 r l) * silu _ (ix2 r l) + turn (gated _ _) (ix2 r l) = _
  rw [turn_apply]
  show _ + GateGrad.own _ (ix2 r (half l)) * silu _ (ix2 r (half l)) = _
  rw [own_apply, own_apply, headA_apply, headA_apply, H.even, H.odd, silu_real (H.gEven p r l), silu_real (H.gOdd p r (half l)),
    ← EReal.coe_mul, ← EReal.coe_mul, ← EReal.coe_add, pairCol_half]
  refine congrArg _ ?_
  by_cases h : l.val < 64
  · have h' : ¬(half l).val < 64 := by rw [half_lt]; omega
    simp only [if_pos h, if_neg h', siluR_zero, mul_zero, add_zero]
    rfl
  · have h' : (half l).val < 64 := by rw [half_lt]; omega
    simp only [if_neg h, if_pos h', siluR_zero, mul_zero, zero_add]
    rfl

theorem Reads.yOwn (p : Fin 4) (r : Fin 512) (l : Fin 128) : yOwn ob g p (ix2 r l) = ((yR O G r (ownCol p l) : ℝ) : EReal) := by
  show GateGrad.own _ (ix2 r l) * silu _ (ix2 r l) = _
  rw [own_apply, headB_apply, H.own, silu_real (H.gOwn p r l), ← EReal.coe_mul]
  rfl

theorem Reads.yRows (r : Fin 512) (c : Fin 1024) : yRows oa ob g (ix2 r c) = ((yR O G r c : ℝ) : EReal) := by
  refine slab_apply _ _ (G := fun r c => ((yR O G r c : ℝ) : EReal)) (fun p r l => ?_) (fun p r l => ?_) r c
  · refine Eq.trans ?_ (H.yPair p r l)
    unfold cast
    pointwise
  · refine Eq.trans ?_ (H.yOwn p r l)
    unfold cast
    pointwise

theorem Reads.err (r : Fin 512) (d : Fin 1024) :
    err x t (GateGrad.yRows oa ob g) w (ix2 r d) = ((errR X T O G W r d : ℝ) : EReal) := by
  unfold GateGrad.err
  pointwise
  simp only [H.x, H.t, H.w, H.yRows, ← EReal.coe_mul, coe_sum, ← EReal.coe_add, ← EReal.coe_sub]
  rfl

theorem Reads.dRes (r : Fin 512) (d : Fin 1024) :
    dRes (GateGrad.err x t (GateGrad.yRows oa ob g) w) (ix2 r d) = ((dhR X T O G W r d : ℝ) : EReal) := by
  show GateGrad.err _ _ _ _ (ix2 r d) * Ideal.ofBits .f32 0x3A800000#32 = _
  rw [H.err, ofBits_r1024, ← EReal.coe_mul]
  rfl

theorem Reads.dGated (r : Fin 512) (c : Fin 1024) :
    dGated (dErr (GateGrad.err x t (GateGrad.yRows oa ob g) w)) w (ix2 r c) = ((dyR X T O G W r c : ℝ) : EReal) := by
  unfold GateGrad.dGated dErr
  pointwise
  simp only [H.w, H.dRes, ← EReal.coe_mul, coe_sum]
  rfl

end

end Cert.GateGrad

end
-- ==== Proof.MidBack.lean ====
/- What flows back through the gates' block over the extended reals: the heads' and the gates' gradients, the rows' sums and the loss. -/
module

public import proofs.«01_k».proof.Proof.MidIdeal

@[expose] public section

set_option maxRecDepth 16384

noncomputable section

namespace Cert.GateGrad
open Idealize.ShloMosaic Cert.AttnGrad
open scoped BigOperators

/-! ## Columns of the gated rows' gradient -/

section
variable (dy : Vec Ideal Wide .f32) (p : Fin 4) (r : Fin 512) (l : Fin 128)

theorem dyEven_apply : dyEven dy p (ix2 r l) = dy (ix2 r (pairCol p l)) := by
  refine congrArg dy (funext fun b => ?_)
  match b with
  | ⟨0, _⟩ => exact Fin.ext (Nat.zero_add r.val)
  | ⟨1, _⟩ => rfl

theorem dyOdd_apply : dyOdd dy p (ix2 r l) = dy (ix2 r (pairCol p (half l))) := by
  rw [dyOdd, turn_apply, dyEven_apply]

theorem dyOwn_apply : dyOwn dy p (ix2 r l) = dy (ix2 r (ownCol p l)) := by
  refine congrArg dy (funext fun b => ?_)
  match b with
  | ⟨0, _⟩ => exact Fin.ext (Nat.zero_add r.val)
  | ⟨1, _⟩ => rfl
end

theorem dOut_apply (d g : FVec Ideal Blk .f32) (j : Blk.Idx) : dOut d g j = d j * silu g j := by
  rw [← held_apply (silu g) j]
  rfl

theorem dGate_apply (d : FVec Ideal Blk .f32) (o : Vec Ideal Blk₃ .f32) (g : FVec Ideal Blk .f32) (r : Fin 512) (l : Fin 128) :
    dGate d o g (ix2 r l) = d (ix2 r l) * o (ix3 0 r l) * dsilu g (ix2 r l) := by
  rw [← held_apply (dsilu g) (ix2 r l), ← own_apply o]
  rfl

theorem stored_apply (d : FVec Ideal Blk .f32) (r : Fin 512) (l : Fin 128) : stored d (ix3 0 r l) = d (ix2 r l) := by
  unfold stored
  pointwise

theorem castT_apply (y : FVec Ideal Blk .f32) (l : Fin 128) (r : Fin 512) : castT y (ix2 l r) = y (ix2 r l) := by
  unfold castT
  pointwise

theorem sum_lower (f : Fin 128 → ℝ) : ∑ l : Fin 128, (if l.val < 64 then f l else 0) = ∑ l : Fin 64, f ⟨l.val, by omega⟩ := by
  rw [Fin.sum_univ_add (a := 64) (b := 64) (fun l : Fin (64 + 64) => if l.val < 64 then f l else 0)]
  rw [Finset.sum_congr rfl (fun (i : Fin 64) _ => if_pos (show (Fin.castAdd 64 i).val < 64 from i.isLt)),
    Finset.sum_congr rfl (fun (i : Fin 64) _ => if_neg (show ¬(Fin.natAdd 64 i).val < 64 by rw [Fin.val_natAdd]; omega)),
    Finset.sum_const_zero, add_zero]
  rfl

/-- The sum of head `j` of both mixers. -/
def dlR (D O G : Fin 512 → Fin 1024 → ℝ) (r : Fin 512) (j : Fin 12) : ℝ :=
  if h : j.val < 8 then ∑ l : Fin 64, D r (headCol ⟨j.val, h⟩ l) * siluR (G r (headCol ⟨j.val, h⟩ l)) * O r (headCol ⟨j.val, h⟩ l)
  else ∑ l : Fin 128, D r (ownCol ⟨j.val - 8, by omega⟩ l) * siluR (G r (ownCol ⟨j.val - 8, by omega⟩ l)) * O r (ownCol ⟨j.val - 8, by omega⟩ l)

theorem lane_apply' (n : ℕ) (hn : n < 128) (d : FVec Ideal Blk .f32) (o : Vec Ideal Blk₃ .f32) (prev : FVec Ideal Blk .f32) (r : Fin 512) (l : Fin 128) :
    lane n d o prev (ix2 r l) = if l.val = n then ∑ k : Fin 128, d (ix2 r k) * o (ix3 0 r k) else prev (ix2 r l) :=
  lane_apply ⟨n, hn⟩ d o prev r l

/-! ## The four outputs' blocks -/

section
variable {x t : Vec Ideal Wide .f32} {oa : Vec Ideal HeadsA .f32} {ob : Vec Ideal HeadsB .f32} {g : Vec Ideal Wide .f32}
  {w : Vec Ideal Wts .bf16} {X T O G : Fin 512 → Fin 1024 → ℝ} {W : Fin 1024 → Fin 1024 → ℝ} (H : Reads x t oa ob g w X T O G W)
  {dy : Vec Ideal Wide .f32} {D : Fin 512 → Fin 1024 → ℝ} (hd : ∀ r c, dy (ix2 r c) = ((D r c : ℝ) : EReal))
include H hd

theorem Reads.dEven (p : Fin 4) (r : Fin 512) (l : Fin 128) :
    dEven g dy p (ix2 r l) = ((if l.val < 64 then D r (pairCol p l) * siluR (G r (pairCol p l)) else 0 : ℝ) : EReal) := by
  rw [GateGrad.dEven, dOut_apply, dyEven_apply, hd, silu_real (H.gEven p r l), ← EReal.coe_mul]
  refine congrArg _ ?_
  split
  · rfl
  · rw [siluR_zero, mul_zero]

theorem Reads.dOdd (p : Fin 4) (r : Fin 512) (l : Fin 128) :
    dOdd g dy p (ix2 r l) = ((if l.val < 64 then D r (pairCol p (half l)) * siluR (G r (pairCol p (half l))) else 0 : ℝ) : EReal) := by
  rw [GateGrad.dOdd, dOut_apply, dyOdd_apply, hd, silu_real (H.gOdd p r l), ← EReal.coe_mul]
  refine congrArg _ ?_
  split
  · rfl
  · rw [siluR_zero, mul_zero]

theorem Reads.dOwn (p : Fin 4) (r : Fin 512) (l : Fin 128) :
    dOwn g dy p (ix2 r l) = ((D r (ownCol p l) * siluR (G r (ownCol p l)) : ℝ) : EReal) := by
  rw [GateGrad.dOwn, dOut_apply, dyOwn_apply, hd, silu_real (H.gOwn p r l), ← EReal.coe_mul]

theorem Reads.dgPair (p : Fin 4) (r : Fin 512) (l : Fin 128) :
    dgPair oa g dy p (ix2 r l) = ((D r (pairCol p l) * O r (pairCol p l) * dsiluR (G r (pairCol p l)) : ℝ) : EReal) := by
  show dGate (F := Ideal) _ _ _ (ix2 r l) + turn (F := Ideal) _ (ix2 r l) = _
  rw [turn_apply, dGate_apply, dGate_apply, dyEven_apply, dyOdd_apply, hd, hd, headA_apply, headA_apply, H.even, H.odd,
    dsilu_real (H.gEven p r l), dsilu_real (H.gOdd p r (half l)), ← EReal.coe_mul, ← EReal.coe_mul, ← EReal.coe_mul, ← EReal.coe_mul,
    ← EReal.coe_add, pairCol_half]
  refine congrArg _ ?_
  by_cases h : l.val < 64
  · have h' : ¬(half l).val < 64 := by rw [half_lt]; omega
    simp only [if_pos h, if_neg h', mul_zero, zero_mul, add_zero]
  · have h' : (half l).val < 64 := by rw [half_lt]; omega
    simp only [if_neg h, if_pos h', mul_zero, zero_mul, zero_add]

theorem Reads.dgOwn (p : Fin 4) (r : Fin 512) (l : Fin 128) :
    dgOwn ob g dy p (ix2 r l) = ((D r (ownCol p l) * O r (ownCol p l) * dsiluR (G r (ownCol p l)) : ℝ) : EReal) := by
  show dGate (F := Ideal) _ _ _ (ix2 r l) = _
  rw [dGate_apply, dyOwn_apply, hd, headB_apply, H.own, dsilu_real (H.gOwn p r l), ← EReal.coe_mul, ← EReal.coe_mul]

/-! ## The rows' sums -/

theorem Reads.sumEven (p : Fin 4) (r : Fin 512) :
    ∑ k : Fin 128, GateGrad.dEven g dy p (ix2 r k) * headA oa (evenOf p) (ix3 0 r k) =
      ((∑ l : Fin 64, D r (headCol (evenOf p) l) * siluR (G r (headCol (evenOf p) l)) * O r (headCol (evenOf p) l) : ℝ) : EReal) := by
  simp only [H.dEven hd, headA_apply, H.even, ← EReal.coe_mul, coe_sum]
  refine congrArg _ (Eq.trans (Finset.sum_congr rfl fun l _ => ?_) ((sum_lower fun l => D r (pairCol p l) * siluR (G r (pairCol p l)) * O r (pairCol p l)).trans
    (Finset.sum_congr rfl fun l _ => ?_)))
  · split
    · rfl
    · rw [mul_zero]
  · rw [show pairCol p ⟨l.val, by omega⟩ = headCol (evenOf p) l from Fin.ext (by unfold pairCol headCol evenOf; simp only; omega)]

theorem Reads.sumOdd (p : Fin 4) (r : Fin 512) :
    ∑ k : Fin 128, GateGrad.dOdd g dy p (ix2 r k) * headA oa (oddOf p) (ix3 0 r k) =
      ((∑ l : Fin 64, D r (headCol (oddOf p) l) * siluR (G r (headCol (oddOf p) l)) * O r (headCol (oddOf p) l) : ℝ) : EReal) := by
  simp only [H.dOdd hd, headA_apply, H.odd, ← EReal.coe_mul, coe_sum]
  refine congrArg _ (Eq.trans (Finset.sum_congr rfl fun l _ => ?_) ((sum_lower fun l => D r (pairCol p (half l)) * siluR (G r (pairCol p (half l))) * O r (pairCol p (half l))).trans
    (Finset.sum_congr rfl fun l _ => ?_)))
  · split
    · rfl
    · rw [mul_zero]
  · rw [show pairCol p (half ⟨l.val, by omega⟩) = headCol (oddOf p) l from Fin.ext (by unfold pairCol headCol oddOf half; simp only; omega)]

theorem Reads.sumOwn (p : Fin 4) (r : Fin 512) :
    ∑ k : Fin 128, GateGrad.dOwn g dy p (ix2 r k) * headB ob p (ix3 0 r k) =
      ((∑ l : Fin 128, D r (ownCol p l) * siluR (G r (ownCol p l)) * O r (ownCol p l) : ℝ) : EReal) := by
  simp only [H.dOwn hd, headB_apply, H.own, ← EReal.coe_mul, coe_sum]

theorem Reads.lanesA (r : Fin 512) (n : ℕ) (h : n ≤ 4) (j : Fin 12) (hj : j.val < 2 * n) :
    lanesA oa g dy n h (ix2 r ⟨j.val, by omega⟩) = ((dlR D O G r j : ℝ) : EReal) := by
  induction n with
  | zero => omega
  | succ n ih =>
    rw [GateGrad.lanesA, lane_apply' _ (by omega), lane_apply' _ (by omega), H.sumEven hd, H.sumOdd hd]
    by_cases h1 : j.val = 2 * n + 1
    · rw [if_pos h1, dlR, dif_pos (show j.val < 8 by omega), show (⟨j.val, by omega⟩ : Fin 8) = oddOf ⟨n, h⟩ from Fin.ext h1]
    · rw [if_neg h1]
      by_cases h2 : j.val = 2 * n
      · rw [if_pos h2, dlR, dif_pos (show j.val < 8 by omega), show (⟨j.val, by omega⟩ : Fin 8) = evenOf ⟨n, h⟩ from Fin.ext h2]
      · rw [if_neg h2]
        exact ih _ (by omega)

theorem Reads.lanesB (r : Fin 512) (n : ℕ) (h : n ≤ 4) (j : Fin 12) (hj : j.val < 8 + n) :
    lanesB oa ob g dy n h (ix2 r ⟨j.val, by omega⟩) = ((dlR D O G r j : ℝ) : EReal) := by
  induction n with
  | zero => exact H.lanesA hd r 4 (le_refl 4) j hj
  | succ n ih =>
    rw [GateGrad.lanesB, lane_apply' _ (by omega), H.sumOwn hd]
    by_cases h1 : j.val = 8 + n
    · rw [if_pos h1, dlR, dif_neg (show ¬j.val < 8 by omega), show (⟨j.val - 8, by omega⟩ : Fin 4) = ⟨n, h⟩ from Fin.ext (by simp only; omega)]
    · rw [if_neg h1]
      exact ih _ (by omega)

theorem Reads.means (j : Fin 12) (r : Fin 512) : means oa ob g dy (ix2 ⟨j.val, by omega⟩ r) = ((dlR D O G r j : ℝ) : EReal) := by
  rw [← H.lanesB hd r 4 (le_refl 4) j (by omega)]
  unfold GateGrad.means
  pointwise
end

/-! ## The loss -/

theorem lossNext_apply (prev : Vec Ideal Loss .f32) (e : FVec Ideal Wide .f32) (E : Fin 512 → Fin 1024 → ℝ)
    (he : ∀ r d, e (ix2 r d) = ((E r d : ℝ) : EReal)) (P : ℝ) (hp : prev (ix2 0 0) = ((P : ℝ) : EReal)) :
    lossNext prev e (ix2 0 0) = ((P + (∑ r, ∑ d, E r d * E r d) * (1 / 2048) : ℝ) : EReal) := by
  have s : lossNext prev e (ix2 0 0) = prev (ix2 0 0) + (∑ r : Fin 512, ∑ d : Fin 1024, e (ix2 r d) * e (ix2 r d)) * Ideal.ofBits .f32 0x3A000000#32 := by
    unfold lossNext
    pointwise
  rw [s, hp, ofBits_r2048]
  simp only [he, ← EReal.coe_mul, coe_sum, ← EReal.coe_add]

theorem lossNone_apply : (lossNone : FVec Ideal Loss .f32) (ix2 0 0) = ((0 : ℝ) : EReal) := ofBits_zero

end Cert.GateGrad

end
-- ==== Proof.MidOut.lean ====
/- The gates' outputs read at an index, over the rows of any arrays: what each block holds at a row, a column, a head or a lane. -/
module

public import proofs.«01_k».proof.Proof.MidBack

@[expose] public section

set_option maxRecDepth 16384

noncomputable section

namespace Cert.GateGrad
open Idealize.ShloMosaic Cert.AttnGrad
open scoped BigOperators

theorem ext2 {a b : ℕ} {e : EltTy} {x y : Vec Ideal ⟨2, ![a, b]⟩ e} (h : ∀ r d, x (ix2 r d) = y (ix2 r d)) : x = y :=
  funext fun i => by rw [← ix2_eta i]; exact h _ _
theorem ext3 {a b c : ℕ} {e : EltTy} {x y : Vec Ideal ⟨3, ![a, b, c]⟩ e} (h : ∀ k r d, x (ix3 k r d) = y (ix3 k r d)) : x = y :=
  funext fun i => by rw [← ix3_eta i]; exact h _ _ _

/-! ## A column of all, and a head of all -/

/-- A column is a pair's or a head's of mixer B. -/
theorem column_cases {P : Fin 1024 → Prop} (h : ∀ p l, P (pairCol p l)) (h' : ∀ p l, P (ownCol p l)) (c : Fin 1024) : P c := by
  have hc := c.isLt
  by_cases hl : c.val < 512
  · rw [show c = pairCol ⟨c.val / 128, by omega⟩ ⟨c.val % 128, by omega⟩ from Fin.ext (by unfold pairCol; simp only; omega)]
    exact h _ _
  · rw [show c = ownCol ⟨(c.val - 512) / 128, by omega⟩ ⟨(c.val - 512) % 128, by omega⟩ from Fin.ext (by unfold ownCol; simp only; omega)]
    exact h' _ _

/-- A head of mixer A is a pair's first or second. -/
theorem head_cases {P : Fin 8 → Prop} (h : ∀ p, P (evenOf p)) (h' : ∀ p, P (oddOf p)) (a : Fin 8) : P a := by
  have ha := a.isLt
  by_cases h2 : a.val % 2 = 0
  · rw [show a = evenOf ⟨a.val / 2, by omega⟩ from Fin.ext (by unfold evenOf; simp only; omega)]
    exact h _
  · rw [show a = oddOf ⟨a.val / 2, by omega⟩ from Fin.ext (by unfold oddOf; simp only; omega)]
    exact h' _

section
variable {x : Vec Ideal Wide .bf16} {a b : Fin 4 → FVec Ideal Blk .bf16} (h : IsCols x a b) (p : Fin 4) (r : Fin 512) (l : Fin 128)
include h
theorem IsCols.pair : x (ix2 r (pairCol p l)) = a p (ix2 r l) := by
  refine (colA_apply r l x p).symm.trans (congrFun (?_ : colA x p = a p) _)
  fin_cases p
  exacts [h.1, h.2.1, h.2.2.1, h.2.2.2.1]
theorem IsCols.own : x (ix2 r (ownCol p l)) = b p (ix2 r l) := by
  refine (colB_apply r l x p).symm.trans (congrFun (?_ : colB x p = b p) _)
  fin_cases p
  exacts [h.2.2.2.2.1, h.2.2.2.2.2.1, h.2.2.2.2.2.2.1, h.2.2.2.2.2.2.2]
end

section
variable (x : Vec Ideal WideT .bf16) (p : Fin 4) (r : Fin 512) (l : Fin 128)
/-- A pair's rows of the turned columns, and a head's of mixer B. -/
def rowA : Vec Ideal BlkT .bf16 :=
  View.ld x (Rect.unit (s := WideT) ![p.val * 128, 0] ![128, 512] (by intro a; have := p.isLt; fin_cases a <;> simp <;> omega))
def rowB : Vec Ideal BlkT .bf16 :=
  View.ld x (Rect.unit (s := WideT) ![512 + p.val * 128, 0] ![128, 512] (by intro a; have := p.isLt; fin_cases a <;> simp <;> omega))
theorem rowA_apply : rowA x p (ix2 l r) = x (ix2 (pairCol p l) r) :=
  View.ld_unit_apply_of (S := WideT) x _ _ _ _ _ (by intro a; fin_cases a <;> simp [pairCol])
theorem rowB_apply : rowB x p (ix2 l r) = x (ix2 (ownCol p l) r) :=
  View.ld_unit_apply_of (S := WideT) x _ _ _ _ _ (by intro a; fin_cases a <;> simp [ownCol])
end

section
variable {x : Vec Ideal WideT .bf16} {a b : Fin 4 → FVec Ideal BlkT .bf16} (h : IsRows x a b) (p : Fin 4) (r : Fin 512) (l : Fin 128)
include h
theorem IsRows.pair : x (ix2 (pairCol p l) r) = a p (ix2 l r) := by
  refine (rowA_apply x p r l).symm.trans (congrFun (?_ : rowA x p = a p) _)
  fin_cases p
  exacts [h.1, h.2.1, h.2.2.1, h.2.2.2.1]
theorem IsRows.own : x (ix2 (ownCol p l) r) = b p (ix2 l r) := by
  refine (rowB_apply x p r l).symm.trans (congrFun (?_ : rowB x p = b p) _)
  fin_cases p
  exacts [h.2.2.2.2.1, h.2.2.2.2.2.1, h.2.2.2.2.2.2.1, h.2.2.2.2.2.2.2]
end

section
variable {x : Vec Ideal HeadsA .bf16} {a b : Fin 4 → FVec Ideal Blk₃ .bf16} (h : IsHeadsA x a b) (p : Fin 4) (r : Fin 512) (l : Fin 128)
include h
theorem IsHeadsA.even : x (ix3 (evenOf p) r l) = a p (ix3 0 r l) := by
  refine (headA_apply r l x (evenOf p)).symm.trans (congrFun (?_ : headA x (evenOf p) = a p) _)
  fin_cases p
  exacts [h.1, h.2.2.1, h.2.2.2.2.1, h.2.2.2.2.2.2.1]
theorem IsHeadsA.odd : x (ix3 (oddOf p) r l) = b p (ix3 0 r l) := by
  refine (headA_apply r l x (oddOf p)).symm.trans (congrFun (?_ : headA x (oddOf p) = b p) _)
  fin_cases p
  exacts [h.2.1, h.2.2.2.1, h.2.2.2.2.2.1, h.2.2.2.2.2.2.2]
end

theorem IsHeadsB.at {x : Vec Ideal HeadsB .bf16} {b : Fin 4 → FVec Ideal Blk₃ .bf16} (h : IsHeadsB x b) (p : Fin 4) (r : Fin 512) (l : Fin 128) :
    x (ix3 p r l) = b p (ix3 0 r l) := by
  refine (headB_apply r l x p).symm.trans (congrFun (?_ : headB x p = b p) _)
  fin_cases p
  exacts [h.1, h.2.1, h.2.2.1, h.2.2.2]

/-! ## The outputs in finite numbers -/

section
variable {x t : Vec Ideal Wide .f32} {oa : Vec Ideal HeadsA .f32} {ob : Vec Ideal HeadsB .f32} {g : Vec Ideal Wide .f32}
  {w : Vec Ideal Wts .bf16} {X T O G : Fin 512 → Fin 1024 → ℝ} {W : Fin 1024 → Fin 1024 → ℝ} (H : Reads x t oa ob g w X T O G W)

include H in
theorem Reads.turned {y : Vec Ideal WideT .bf16}
    (h : IsRows y (fun p => castT (GateGrad.yPair oa g p)) (fun p => castT (GateGrad.yOwn ob g p))) (r : Fin 512) (c : Fin 1024) :
    y (ix2 c r) = ((yR O G r c : ℝ) : EReal) := by
  refine column_cases (P := fun c => y (ix2 c r) = ((yR O G r c : ℝ) : EReal)) (fun p l => ?_) (fun p l => ?_) c
  · rw [h.pair, castT_apply, H.yPair]
  · rw [h.own, castT_apply, H.yOwn]

variable {dy : Vec Ideal Wide .f32} {D : Fin 512 → Fin 1024 → ℝ} (hd : ∀ r c, dy (ix2 r c) = ((D r c : ℝ) : EReal))
include H hd

theorem Reads.gateOut {y : Vec Ideal Wide .bf16} (h : IsCols y (GateGrad.dgPair oa g dy) (GateGrad.dgOwn ob g dy)) (r : Fin 512) (c : Fin 1024) :
    y (ix2 r c) = ((D r c * O r c * dsiluR (G r c) : ℝ) : EReal) := by
  refine column_cases (P := fun c => y (ix2 r c) = ((D r c * O r c * dsiluR (G r c) : ℝ) : EReal)) (fun p l => ?_) (fun p l => ?_) c
  · rw [h.pair, H.dgPair hd]
  · rw [h.own, H.dgOwn hd]

theorem Reads.headsA {y : Vec Ideal HeadsA .bf16}
    (h : IsHeadsA y (fun p => stored (GateGrad.dEven g dy p)) (fun p => stored (GateGrad.dOdd g dy p))) (a : Fin 8) (r : Fin 512) (l : Fin 64) :
    y (ix3 a r ⟨l.val, by omega⟩) = ((D r (headCol a l) * siluR (G r (headCol a l)) : ℝ) : EReal) := by
  refine head_cases (P := fun a => y (ix3 a r ⟨l.val, by omega⟩) = ((D r (headCol a l) * siluR (G r (headCol a l)) : ℝ) : EReal)) (fun p => ?_) (fun p => ?_) a
  · rw [h.even, stored_apply, H.dEven hd, if_pos l.isLt,
      show pairCol p ⟨l.val, by omega⟩ = headCol (evenOf p) l from Fin.ext (by unfold pairCol headCol evenOf; simp only; omega)]
  · rw [h.odd, stored_apply, H.dOdd hd, if_pos l.isLt,
      show pairCol p (half ⟨l.val, by omega⟩) = headCol (oddOf p) l from Fin.ext (by unfold pairCol headCol oddOf half; simp only; omega)]

theorem Reads.headsB {y : Vec Ideal HeadsB .bf16} (h : IsHeadsB y (fun p => stored (GateGrad.dOwn g dy p))) (a : Fin 4) (r : Fin 512) (l : Fin 128) :
    y (ix3 a r l) = ((D r (ownCol a l) * siluR (G r (ownCol a l)) : ℝ) : EReal) := by
  rw [h.at, stored_apply, H.dOwn hd]
end

end Cert.GateGrad

end
-- ==== Proof.OpsM.lean ====
/- The operands of the gates' block: what a window's block holds of its array, row by row. -/
module

public import proofs.«01_k».proof.Proof.BodyM
public import proofs.«01_k».proof.Proof.MidOut

@[expose] public section

set_option maxRecDepth 16384

noncomputable section

namespace Cert.KernelMIdeal.Val
open Idealize.ShloMosaic Idealize.ShloMosaic.TcCoe Idealize.ShloMosaic.Tactic Cert.KernelMIdeal Cert.KernelMIdeal.Gen Cert.GateGrad

/-! ## Rows and grid points -/

/-- Row `r` of grid point `t`. -/
def rowOf (t : Fin cfg0.N) (r : Fin 512) : Fin 8192 :=
  ⟨t.val * 512 + r.val, by have : t.val < 16 := lt_of_lt_of_eq t.isLt N_0; omega⟩
/-- The grid point of a row, and its row there. -/
def pointOf (R : Fin 8192) : Fin cfg0.N := ⟨R.val / 512, lt_of_lt_of_eq (by omega) N_0.symm⟩
def inRow (R : Fin 8192) : Fin 512 := ⟨R.val % 512, Nat.mod_lt _ (by decide)⟩

theorem rowOf_point (R : Fin 8192) : rowOf (pointOf R) (inRow R) = R :=
  Fin.ext (by unfold rowOf pointOf inRow; simp only; omega)
theorem pointOf_row (t : Fin cfg0.N) (r : Fin 512) : pointOf (rowOf t r) = t :=
  Fin.ext (by unfold rowOf pointOf; simp only; omega)
theorem inRow_row (t : Fin cfg0.N) (r : Fin 512) : inRow (rowOf t r) = r :=
  Fin.ext (by unfold rowOf inRow; simp only; omega)

/-- The windows' block indices. -/
theorem idx : ∀ t : Fin cfg0.N, win0_0.index t = ![t.val, 0] ∧ win0_1.index t = ![t.val, 0] ∧ win0_2.index t = ![0, t.val, 0] ∧
    win0_3.index t = ![0, t.val, 0] ∧ win0_4.index t = ![t.val, 0] ∧ win0_5.index t = ![0, 0] ∧ win0_6.index t = ![0, t.val] ∧
    win0_7.index t = ![t.val, 0] ∧ win0_8.index t = ![t.val, 0] ∧ win0_9.index t = ![0, t.val, 0] ∧ win0_10.index t = ![0, t.val, 0] ∧
    win0_11.index t = ![0, t.val] ∧ win0_12.index t = ![0, 0] :=
  (by decide +kernel : ∀ t : Fin grid0.N, _)

/-! ## A window's block, read off any array -/

section
variable (t : Fin cfg0.N) (r : Fin 512) (l : Fin 128) (d : Fin 1024)

theorem read_x (X : Vec Ideal S8192x1024 .f32) : ((cfg0.win 0).blk t).view.read (Elt Ideal) X (ix2 r d) = X (ix2 (rowOf t r) d) := by
  unfold rowOf
  blk_ext [idx t]
theorem read_t (X : Vec Ideal S8192x1024 .f32) : ((cfg0.win 1).blk t).view.read (Elt Ideal) X (ix2 r d) = X (ix2 (rowOf t r) d) := by
  unfold rowOf
  blk_ext [idx t]
theorem read_oa (X : Vec Ideal S8x8192x128 .f32) (h : Fin 8) :
    ((cfg0.win 2).blk t).view.read (Elt Ideal) X (ix3 h r l) = X (ix3 h (rowOf t r) l) := by
  unfold rowOf
  blk_ext [idx t]
theorem read_ob (X : Vec Ideal S4x8192x128 .f32) (h : Fin 4) :
    ((cfg0.win 3).blk t).view.read (Elt Ideal) X (ix3 h r l) = X (ix3 h (rowOf t r) l) := by
  unfold rowOf
  blk_ext [idx t]
theorem read_g (X : Vec Ideal S8192x1024 .f32) : ((cfg0.win 4).blk t).view.read (Elt Ideal) X (ix2 r d) = X (ix2 (rowOf t r) d) := by
  unfold rowOf
  blk_ext [idx t]
theorem read_w (X : Vec Ideal S1024x1024 .bf16) (c : Fin 1024) : ((cfg0.win 5).blk t).view.read (Elt Ideal) X (ix2 c d) = X (ix2 c d) := by
  blk_ext [idx t]
end

/-! ## The operands in finite numbers -/

variable (m : (ℓ : Loc nD τ sig) → Buf (Elt Ideal) ℓ) (c : Dev nD)

/-- The operands' arrays when the grid starts, in finite numbers. -/
structure Operands (X T O G : Fin 8192 → Fin 1024 → ℝ) (W : Fin 1024 → Fin 1024 → ℝ) : Prop where
  x : ∀ R d, (V m c main_v10 : Vec Ideal S8192x1024 .f32) (ix2 R d) = ((X R d : ℝ) : EReal)
  t : ∀ R d, (V m c main_v11 : Vec Ideal S8192x1024 .f32) (ix2 R d) = ((T R d : ℝ) : EReal)
  heads : ∀ h R (l : Fin 64), (V m c main_v3 : Vec Ideal S8x8192x128 .f32) (ix3 h R ⟨l.val, by omega⟩) = ((O R (headCol h l) : ℝ) : EReal)
  pad : ∀ h R (l : Fin 128), 64 ≤ l.val → (V m c main_v3 : Vec Ideal S8x8192x128 .f32) (ix3 h R l) = ((0 : ℝ) : EReal)
  own : ∀ h R l, (V m c main_v6 : Vec Ideal S4x8192x128 .f32) (ix3 h R l) = ((O R (ownCol h l) : ℝ) : EReal)
  g : ∀ R d, (V m c main_v9 : Vec Ideal S8192x1024 .f32) (ix2 R d) = ((G R d : ℝ) : EReal)
  w : ∀ b d, (V m c main_v13 : Vec Ideal S1024x1024 .bf16) (ix2 b d) = ((W b d : ℝ) : EReal)

variable {m c} in
/-- A grid point reads its rows of them. -/
theorem Operands.reads {X T O G : Fin 8192 → Fin 1024 → ℝ} {W : Fin 1024 → Fin 1024 → ℝ} (H : Operands m c X T O G W) (t : Fin cfg0.N) :
    Reads (iblk m c 0 t) (iblk m c 1 t) (iblk m c 2 t) (iblk m c 3 t) (iblk m c 4 t) (iblk m c 5 t) (fun r => X (rowOf t r)) (fun r => T (rowOf t r))
      (fun r => O (rowOf t r)) (fun r => G (rowOf t r)) W where
  x r d := (read_x t r d (V m c main_v10)).trans (H.x _ _)
  t r d := (read_t t r d (V m c main_v11)).trans (H.t _ _)
  heads h r l := (read_oa t r _ (V m c main_v3) h).trans (H.heads _ _ _)
  pad h r l hl := (read_oa t r l (V m c main_v3) h).trans (H.pad _ _ _ hl)
  own h r l := (read_ob t r l (V m c main_v6) h).trans (H.own _ _ _)
  g r d := (read_g t r d (V m c main_v9)).trans (H.g _ _)
  w b d := (read_w t d (V m c main_v13) b).trans (H.w _ _)

end Cert.KernelMIdeal.Val

end
-- ==== Proof.ArrM.lean ====
/- What the gates' seven arrays hold after the grid: each row's numbers, and the loss summed point by point. -/
module

public import proofs.«01_k».proof.Proof.OpsM

@[expose] public section

set_option maxRecDepth 16384

noncomputable section

namespace Cert.KernelMIdeal.Val
open Idealize.ShloMosaic Idealize.ShloMosaic.TcCoe Idealize.ShloMosaic.Tactic Cert.KernelMIdeal Cert.KernelMIdeal.Gen Cert.GateGrad
open scoped BigOperators

variable (m : (ℓ : Loc nD τ sig) → Buf (Elt Ideal) ℓ) (c : Dev nD)

/-! ## The blocks a grid point leaves -/

section
variable (t : Fin cfg0.N)
def ytAt : Vec Ideal WideT .bf16 := (outsAt0 m c t.val t.isLt).1
def dhAt : Vec Ideal Wide .f32 := (outsAt0 m c t.val t.isLt).2.1
def dgAt : Vec Ideal Wide .bf16 := (outsAt0 m c t.val t.isLt).2.2.1
def daAt : Vec Ideal HeadsA .bf16 := (outsAt0 m c t.val t.isLt).2.2.2.1
def dbAt : Vec Ideal HeadsB .bf16 := (outsAt0 m c t.val t.isLt).2.2.2.2.1
def dlAt : Vec Ideal Means .f32 := (outsAt0 m c t.val t.isLt).2.2.2.2.2.1
def lsAt : Vec Ideal Loss .f32 := (outsAt0 m c t.val t.isLt).2.2.2.2.2.2
end

/-! ## The arrays after the grid -/

def ytArr : Vec Ideal S1024x8192 .bf16 := fun i => ytAt m c (pointOf (i 1)) (ix2 (i 0) (inRow (i 1)))
def dhArr : Vec Ideal S8192x1024 .f32 := fun i => dhAt m c (pointOf (i 0)) (ix2 (inRow (i 0)) (i 1))
def dgArr : Vec Ideal S8192x1024 .bf16 := fun i => dgAt m c (pointOf (i 0)) (ix2 (inRow (i 0)) (i 1))
def daArr : Vec Ideal S8x8192x128 .bf16 := fun i => daAt m c (pointOf (i 1)) (ix3 (i 0) (inRow (i 1)) (i 2))
def dbArr : Vec Ideal S4x8192x128 .bf16 := fun i => dbAt m c (pointOf (i 1)) (ix3 (i 0) (inRow (i 1)) (i 2))
def dlArr : Vec Ideal S16x8192 .f32 := fun i => dlAt m c (pointOf (i 1)) (ix2 (i 0) (inRow (i 1)))
def lastPoint : Fin cfg0.N := ⟨15, lt_of_lt_of_eq (by decide) N_0.symm⟩
def lsArr : Vec Ideal S8x128 .f32 := fun i => lsAt m c lastPoint (ix2 (i 0) (i 1))

section
variable (t : Fin cfg0.N) (r : Fin 512)

theorem read_yt (X : Vec Ideal S1024x8192 .bf16) (d : Fin 1024) :
    ((cfg0.win 6).blk t).view.read (Elt Ideal) X (ix2 d r) = X (ix2 d (rowOf t r)) := by
  unfold rowOf
  blk_ext [idx t]
theorem read_dh (X : Vec Ideal S8192x1024 .f32) (d : Fin 1024) :
    ((cfg0.win 7).blk t).view.read (Elt Ideal) X (ix2 r d) = X (ix2 (rowOf t r) d) := by
  unfold rowOf
  blk_ext [idx t]
theorem read_dg (X : Vec Ideal S8192x1024 .bf16) (d : Fin 1024) :
    ((cfg0.win 8).blk t).view.read (Elt Ideal) X (ix2 r d) = X (ix2 (rowOf t r) d) := by
  unfold rowOf
  blk_ext [idx t]
theorem read_da (X : Vec Ideal S8x8192x128 .bf16) (h : Fin 8) (l : Fin 128) :
    ((cfg0.win 9).blk t).view.read (Elt Ideal) X (ix3 h r l) = X (ix3 h (rowOf t r) l) := by
  unfold rowOf
  blk_ext [idx t]
theorem read_db (X : Vec Ideal S4x8192x128 .bf16) (h : Fin 4) (l : Fin 128) :
    ((cfg0.win 10).blk t).view.read (Elt Ideal) X (ix3 h r l) = X (ix3 h (rowOf t r) l) := by
  unfold rowOf
  blk_ext [idx t]
theorem read_dl (X : Vec Ideal S16x8192 .f32) (j : Fin 16) :
    ((cfg0.win 11).blk t).view.read (Elt Ideal) X (ix2 j r) = X (ix2 j (rowOf t r)) := by
  unfold rowOf
  blk_ext [idx t]
theorem read_ls (X : Vec Ideal S8x128 .f32) (a : Fin 8) (b : Fin 128) :
    ((cfg0.win 12).blk t).view.read (Elt Ideal) X (ix2 a b) = X (ix2 a b) := by
  blk_ext [idx t]
end

/-- The loss is written back at the last point. -/
theorem flush_ls : ∀ t : Fin cfg0.N, (cfg0.win 12).flush t = true → t.val = 15 := by decide +kernel

theorem cut_yt (t : Fin cfg0.N) (x : Vec Ideal WideT .bf16) (X : Vec Ideal S1024x8192 .bf16)
    (h : ∀ d r, x (ix2 d r) = ((cfg0.win 6).blk t).view.read (Elt Ideal) X (ix2 d r))
    (y : ((cfg0.win 6).xblock (cfg0.grid.coords t)).Idx) : x y = X ((win0_6.blk t).view.emb y) :=
  congrFun (ext2 (y := ((cfg0.win 6).blk t).view.read (Elt Ideal) X) h) y
theorem final_yt : (dats m 0 c).arrAt 6 (cfgs 0).N = ytArr m c := by
  refine (dats m 0 c).arrAt_eq_of_covers 6 _ (by decide +kernel) fun t hf y => ?_
  blk_simp
  rw [after0_6]
  refine cut_yt t _ _ (fun d r => Eq.trans ?_ (read_yt t r (ytArr m c) d).symm) y
  unfold ytArr
  exact (congrArg₂ (fun t r => ytAt m c t (ix2 d r)) (pointOf_row t r) (inRow_row t r)).symm

theorem cut_dh (t : Fin cfg0.N) (x : Vec Ideal Wide .f32) (X : Vec Ideal S8192x1024 .f32)
    (h : ∀ r d, x (ix2 r d) = ((cfg0.win 7).blk t).view.read (Elt Ideal) X (ix2 r d))
    (y : ((cfg0.win 7).xblock (cfg0.grid.coords t)).Idx) : x y = X ((win0_7.blk t).view.emb y) :=
  congrFun (ext2 (y := ((cfg0.win 7).blk t).view.read (Elt Ideal) X) h) y
theorem final_dh : (dats m 0 c).arrAt 7 (cfgs 0).N = dhArr m c := by
  refine (dats m 0 c).arrAt_eq_of_covers 7 _ (by decide +kernel) fun t hf y => ?_
  blk_simp
  rw [after0_7]
  refine cut_dh t _ _ (fun r d => Eq.trans ?_ (read_dh t r (dhArr m c) d).symm) y
  unfold dhArr
  exact (congrArg₂ (fun t r => dhAt m c t (ix2 r d)) (pointOf_row t r) (inRow_row t r)).symm

theorem cut_dg (t : Fin cfg0.N) (x : Vec Ideal Wide .bf16) (X : Vec Ideal S8192x1024 .bf16)
    (h : ∀ r d, x (ix2 r d) = ((cfg0.win 8).blk t).view.read (Elt Ideal) X (ix2 r d))
    (y : ((cfg0.win 8).xblock (cfg0.grid.coords t)).Idx) : x y = X ((win0_8.blk t).view.emb y) :=
  congrFun (ext2 (y := ((cfg0.win 8).blk t).view.read (Elt Ideal) X) h) y
theorem final_dg : (dats m 0 c).arrAt 8 (cfgs 0).N = dgArr m c := by
  refine (dats m 0 c).arrAt_eq_of_covers 8 _ (by decide +kernel) fun t hf y => ?_
  blk_simp
  rw [after0_8]
  refine cut_dg t _ _ (fun r d => Eq.trans ?_ (read_dg t r (dgArr m c) d).symm) y
  unfold dgArr
  exact (congrArg₂ (fun t r => dgAt m c t (ix2 r d)) (pointOf_row t r) (inRow_row t r)).symm

theorem cut_da (t : Fin cfg0.N) (x : Vec Ideal HeadsA .bf16) (X : Vec Ideal S8x8192x128 .bf16)
    (h : ∀ a r l, x (ix3 a r l) = ((cfg0.win 9).blk t).view.read (Elt Ideal) X (ix3 a r l))
    (y : ((cfg0.win 9).xblock (cfg0.grid.coords t)).Idx) : x y = X ((win0_9.blk t).view.emb y) :=
  congrFun (ext3 (y := ((cfg0.win 9).blk t).view.read (Elt Ideal) X) h) y
theorem final_da : (dats m 0 c).arrAt 9 (cfgs 0).N = daArr m c := by
  refine (dats m 0 c).arrAt_eq_of_covers 9 _ (by decide +kernel) fun t hf y => ?_
  blk_simp
  rw [after0_9]
  refine cut_da t _ _ (fun a r l => Eq.trans ?_ (read_da t r (daArr m c) a l).symm) y
  unfold daArr
  exact (congrArg₂ (fun t r => daAt m c t (ix3 a r l)) (pointOf_row t r) (inRow_row t r)).symm

theorem cut_db (t : Fin cfg0.N) (x : Vec Ideal HeadsB .bf16) (X : Vec Ideal S4x8192x128 .bf16)
    (h : ∀ a r l, x (ix3 a r l) = ((cfg0.win 10).blk t).view.read (Elt Ideal) X (ix3 a r l))
    (y : ((cfg0.win 10).xblock (cfg0.grid.coords t)).Idx) : x y = X ((win0_10.blk t).view.emb y) :=
  congrFun (ext3 (y := ((cfg0.win 10).blk t).view.read (Elt Ideal) X) h) y
theorem final_db : (dats m 0 c).arrAt 10 (cfgs 0).N = dbArr m c := by
  refine (dats m 0 c).arrAt_eq_of_covers 10 _ (by decide +kernel) fun t hf y => ?_
  blk_simp
  rw [after0_10]
  refine cut_db t _ _ (fun a r l => Eq.trans ?_ (read_db t r (dbArr m c) a l).symm) y
  unfold dbArr
  exact (congrArg₂ (fun t r => dbAt m c t (ix3 a r l)) (pointOf_row t r) (inRow_row t r)).symm

theorem cut_dl (t : Fin cfg0.N) (x : Vec Ideal Means .f32) (X : Vec Ideal S16x8192 .f32)
    (h : ∀ j r, x (ix2 j r) = ((cfg0.win 11).blk t).view.read (Elt Ideal) X (ix2 j r))
    (y : ((cfg0.win 11).xblock (cfg0.grid.coords t)).Idx) : x y = X ((win0_11.blk t).view.emb y) :=
  congrFun (ext2 (y := ((cfg0.win 11).blk t).view.read (Elt Ideal) X) h) y
theorem final_dl : (dats m 0 c).arrAt 11 (cfgs 0).N = dlArr m c := by
  refine (dats m 0 c).arrAt_eq_of_covers 11 _ (by decide +kernel) fun t hf y => ?_
  blk_simp
  rw [after0_11]
  refine cut_dl t _ _ (fun j r => Eq.trans ?_ (read_dl t r (dlArr m c) j).symm) y
  unfold dlArr
  exact (congrArg₂ (fun t r => dlAt m c t (ix2 j r)) (pointOf_row t r) (inRow_row t r)).symm

theorem cut_ls (t : Fin cfg0.N) (x : Vec Ideal Loss .f32) (X : Vec Ideal S8x128 .f32)
    (h : ∀ a b, x (ix2 a b) = ((cfg0.win 12).blk t).view.read (Elt Ideal) X (ix2 a b))
    (y : ((cfg0.win 12).xblock (cfg0.grid.coords t)).Idx) : x y = X ((win0_12.blk t).view.emb y) :=
  congrFun (ext2 (y := ((cfg0.win 12).blk t).view.read (Elt Ideal) X) h) y
theorem final_ls : (dats m 0 c).arrAt 12 (cfgs 0).N = lsArr m c := by
  refine (dats m 0 c).arrAt_eq_of_covers 12 _ (by decide +kernel) fun t hf y => ?_
  have h15 : t = lastPoint := Fin.ext (flush_ls t hf)
  blk_simp
  rw [after0_12]
  refine cut_ls t _ _ (fun a b => Eq.trans ?_ (read_ls t (lsArr m c) a b).symm) y
  unfold lsArr
  subst h15
  rfl

/-! ## The arrays in finite numbers -/

theorem sum_rows (f : Fin 8192 → ℝ) : ∑ s : Fin 16, ∑ r : Fin 512, f ⟨s.val * 512 + r.val, by omega⟩ = ∑ R, f R := by
  rw [← Finset.sum_product']
  refine Fintype.sum_equiv (finProdFinEquiv (m := 16) (n := 512)) _ _ fun x => congrArg f (Fin.ext ?_)
  show x.1.val * 512 + x.2.val = x.2.val + 512 * x.1.val
  omega

variable {m c}
variable {X T O G : Fin 8192 → Fin 1024 → ℝ} {W : Fin 1024 → Fin 1024 → ℝ} (H : Operands m c X T O G W)
include H

theorem Operands.err (t : Fin cfg0.N) (r : Fin 512) (d : Fin 1024) :
    eAt m c t (ix2 r d) = ((errR X T O G W (rowOf t r) d : ℝ) : EReal) := (H.reads t).err r d

theorem Operands.dy (t : Fin cfg0.N) (r : Fin 512) (d : Fin 1024) :
    dAt m c t (ix2 r d) = ((dyR X T O G W (rowOf t r) d : ℝ) : EReal) := (H.reads t).dGated r d

theorem Operands.yt (R : Fin 8192) (d : Fin 1024) : ytArr m c (ix2 d R) = ((yR O G R d : ℝ) : EReal) := by
  refine Eq.trans ((H.reads (pointOf R)).turned (out_yt m c (pointOf R)) (inRow R) d) ?_
  show ((yR O G (rowOf (pointOf R) (inRow R)) d : ℝ) : EReal) = _
  rw [rowOf_point]

theorem Operands.dh (R : Fin 8192) (d : Fin 1024) : dhArr m c (ix2 R d) = ((dhR X T O G W R d : ℝ) : EReal) := by
  refine Eq.trans ((congrFun (out_dh m c (pointOf R)) (ix2 (inRow R) d)).trans ((H.reads (pointOf R)).dRes (inRow R) d)) ?_
  show ((dhR X T O G W (rowOf (pointOf R) (inRow R)) d : ℝ) : EReal) = _
  rw [rowOf_point]

theorem Operands.dg (R : Fin 8192) (d : Fin 1024) : dgArr m c (ix2 R d) = ((dgR X T O G W R d : ℝ) : EReal) := by
  refine Eq.trans ((H.reads (pointOf R)).gateOut (D := fun r => dyR X T O G W (rowOf (pointOf R) r)) (H.dy (pointOf R))
    (out_dg m c (pointOf R)) (inRow R) d) ?_
  show ((dgR X T O G W (rowOf (pointOf R) (inRow R)) d : ℝ) : EReal) = _
  rw [rowOf_point]

theorem Operands.da (h : Fin 8) (R : Fin 8192) (l : Fin 64) :
    daArr m c (ix3 h R ⟨l.val, by omega⟩) = ((doR X T O G W R (headCol h l) : ℝ) : EReal) := by
  refine Eq.trans ((H.reads (pointOf R)).headsA (D := fun r => dyR X T O G W (rowOf (pointOf R) r)) (H.dy (pointOf R))
    (out_da m c (pointOf R)) h (inRow R) l) ?_
  show ((doR X T O G W (rowOf (pointOf R) (inRow R)) (headCol h l) : ℝ) : EReal) = _
  rw [rowOf_point]

theorem Operands.db (h : Fin 4) (R : Fin 8192) (l : Fin 128) :
    dbArr m c (ix3 h R l) = ((doR X T O G W R (ownCol h l) : ℝ) : EReal) := by
  refine Eq.trans ((H.reads (pointOf R)).headsB (D := fun r => dyR X T O G W (rowOf (pointOf R) r)) (H.dy (pointOf R))
    (out_db m c (pointOf R)) h (inRow R) l) ?_
  show ((doR X T O G W (rowOf (pointOf R) (inRow R)) (ownCol h l) : ℝ) : EReal) = _
  rw [rowOf_point]

theorem Operands.dlAny (j : Fin 12) (R : Fin 8192) : dlArr m c (ix2 ⟨j.val, by omega⟩ R) =
    ((dlR (fun r => dyR X T O G W (rowOf (pointOf R) r)) (fun r => O (rowOf (pointOf R) r)) (fun r => G (rowOf (pointOf R) r)) (inRow R) j : ℝ) : EReal) :=
  (congrFun (out_dl m c (pointOf R)) (ix2 ⟨j.val, by omega⟩ (inRow R))).trans
    ((H.reads (pointOf R)).means (D := fun r => dyR X T O G W (rowOf (pointOf R) r)) (H.dy (pointOf R)) j (inRow R))

theorem Operands.dlA (h : Fin 8) (R : Fin 8192) : dlArr m c (ix2 ⟨h.val, by omega⟩ R) = ((dlA X T O G W R h : ℝ) : EReal) := by
  refine (H.dlAny ⟨h.val, by omega⟩ R).trans ?_
  rw [dlR, dif_pos h.isLt]
  show ((GateGrad.dlA X T O G W (rowOf (pointOf R) (inRow R)) h : ℝ) : EReal) = _
  rw [rowOf_point]

theorem Operands.dlB (h : Fin 4) (R : Fin 8192) : dlArr m c (ix2 ⟨8 + h.val, by omega⟩ R) = ((dlB X T O G W R h : ℝ) : EReal) := by
  refine (H.dlAny ⟨8 + h.val, by omega⟩ R).trans ?_
  rw [dlR, dif_neg (by simp only; omega)]
  simp only [show (⟨8 + h.val - 8, by omega⟩ : Fin 4) = h from Fin.ext (by simp only; omega)]
  show ((GateGrad.dlB X T O G W (rowOf (pointOf R) (inRow R)) h : ℝ) : EReal) = _
  rw [rowOf_point]

/-- The loss after point `n`: the halved mean squares of the rows so far. -/
theorem Operands.lossAt (n : ℕ) (hn : n < cfg0.N) : lsAt m c ⟨n, hn⟩ (ix2 0 0) =
    ((∑ s : Fin (n + 1), (∑ r, ∑ d, errR X T O G W (rowOf ⟨s.val, by omega⟩ r) d * errR X T O G W (rowOf ⟨s.val, by omega⟩ r) d) * (1 / 2048) : ℝ) : EReal) := by
  induction n with
  | zero =>
    refine (congrFun (out_ls_A m c ⟨0, hn⟩ rfl) (ix2 0 0)).trans ?_
    refine (lossNext_apply (lossNone (F := Ideal) : FVec Ideal Loss .f32) _ _ (H.err ⟨0, hn⟩) 0 lossNone_apply).trans ?_
    rw [zero_add, Fin.sum_univ_one]
    rfl
  | succ n ih =>
    have h16 : n + 1 < 16 := lt_of_lt_of_eq hn N_0
    refine (congrFun (out_ls_B m c ⟨n + 1, hn⟩ (by simp only; omega)) (ix2 0 0)).trans ?_
    refine (lossNext_apply _ _ _ (H.err ⟨n + 1, hn⟩) _ (ih (by omega))).trans ?_
    rw [Fin.sum_univ_castSucc (n := n + 1)]
    rfl

theorem Operands.loss : lsArr m c (ix2 0 0) =
    (((∑ R, ∑ d, errR X T O G W R d * errR X T O G W R d) * (1 / 2048) : ℝ) : EReal) := by
  refine (H.lossAt 15 lastPoint.isLt).trans (congrArg _ ?_)
  rw [← Finset.sum_mul]
  exact congrArg (· * _) (sum_rows fun R => ∑ d, errR X T O G W R d * errR X T O G W R d)

end Cert.KernelMIdeal.Val

end
-- ==== Proof.MidCols.lean ====
/- The columns of both mixers side by side. -/
module

public import proofs.«01_k».proof.Proof.MidIdeal

@[expose] public section

noncomputable section

namespace Cert.GateGrad
open Idealize.ShloMosaic

/-- A column of either half. -/
def leftCol (j : Fin 512) : Fin 1024 := ⟨j.val, by omega⟩
def rightCol (j : Fin 512) : Fin 1024 := ⟨512 + j.val, by omega⟩
/-- Feature `l` of head `h` among the columns of its mixer. -/
def featA (h : Fin 8) (l : Fin 64) : Fin 512 := ⟨h.val * 64 + l.val, by omega⟩
def featB (h : Fin 4) (l : Fin 128) : Fin 512 := ⟨h.val * 128 + l.val, by omega⟩
/-- Both mixers' columns side by side. -/
def joinR {ι : Type} (A B : ι → Fin 512 → ℝ) (R : ι) (c : Fin 1024) : ℝ :=
  if h : c.val < 512 then A R ⟨c.val, h⟩ else B R ⟨c.val - 512, by omega⟩

theorem joinR_left {ι : Type} (A B : ι → Fin 512 → ℝ) (R : ι) (j : Fin 512) : joinR A B R (leftCol j) = A R j := dif_pos j.isLt
theorem joinR_right {ι : Type} (A B : ι → Fin 512 → ℝ) (R : ι) (j : Fin 512) : joinR A B R (rightCol j) = B R j :=
  (dif_neg (show ¬(512 + j.val < 512) by omega)).trans (congrArg (B R) (Fin.ext (show 512 + j.val - 512 = j.val by omega)))
theorem headCol_eq (h : Fin 8) (l : Fin 64) : headCol h l = leftCol (featA h l) := rfl
theorem ownCol_eq (h : Fin 4) (l : Fin 128) : ownCol h l = rightCol (featB h l) := Fin.ext (Nat.add_assoc 512 _ _)

end Cert.GateGrad

end
-- ==== Proof.HostM.lean ====
/- What the lines before the gates' block compute: its operands as terms of the arguments, and each as a real. -/
module

public import proofs.«01_k».proof.Proof.ArrM
public import proofs.«01_k».proof.Proof.MidCols
public import Idealize.ShloMosaic.Lib.KernelVsHost

@[expose] public section

set_option maxRecDepth 16384

noncomputable section

namespace Cert.KernelMIdeal.Val
open Idealize.ShloMosaic Idealize.ShloMosaic.TcCoe Idealize.ShloMosaic.Tactic Cert.KernelMIdeal Cert.KernelMIdeal.Gen Cert.GateGrad
open Cert.AttnGrad (ofBits_zero)

/-! ## The stages -/

section
variable (y g g' : FVec Ideal S1x8192x512 .f32) (x : FVec Ideal S1x8192x1024 .f32) (w : FVec Ideal S1x1024x1024 .f32)

/-- The number behind a head's features. -/
def hFill : FVec Ideal S_ .f32 := sitofp .f32 (constantI S_ 32 0#32)
/-- The heads of mixer A. -/
def hHeadsA : FVec Ideal S8x8192x64 .f32 :=
  transpose S8x8192x64 [1, 0, 2] (shapeCast S8192x8x64 (shapeCast S8192x512 y shapeCasts_S1x8192x512_S8192x512) shapeCasts_S8192x512_S8192x8x64)
    transposes_S8192x8x64_S8x8192x64_1_0_2
def hPadded (u : FVec Ideal S8x8192x64 .f32) (z : FVec Ideal S_ .f32) : FVec Ideal S8x8192x128 .f32 :=
  pad S8x8192x128 ![0, 0, 0] ![0, 0, 64] ![0, 0, 0] u z pads_S8x8192x64_S8x8192x128_000_000_0640 h_S_
/-- The heads of mixer B. -/
def hHeadsB : FVec Ideal S4x8192x128 .f32 :=
  transpose S4x8192x128 [1, 0, 2] (shapeCast S8192x4x128 (shapeCast S8192x512 y shapeCasts_S1x8192x512_S8192x512) shapeCasts_S8192x512_S8192x4x128)
    transposes_S8192x4x128_S4x8192x128_1_0_2
/-- The gates side by side. -/
def hGates : FVec Ideal S8192x1024 .f32 :=
  concatenate S8192x1024 1 [⟨S8192x512, shapeCast S8192x512 g shapeCasts_S1x8192x512_S8192x512⟩,
    ⟨S8192x512, shapeCast S8192x512 g' shapeCasts_S1x8192x512_S8192x512⟩] concatenates_S8192x512_S8192x512_S8192x1024_d1
def hRows : FVec Ideal S8192x1024 .f32 := shapeCast S8192x1024 x shapeCasts_S1x8192x1024_S8192x1024
def hWeights : FVec Ideal S1024x1024 .bf16 := truncf .bf16 (shapeCast S1024x1024 w shapeCasts_S1x1024x1024_S1024x1024 : FVec Ideal S1024x1024 .f32) bitsLt_bf16_f32
end

/-! ## The buffers when the grid starts -/

variable (m : (ℓ : Loc nD τ sig) → Buf (Elt Ideal) ℓ) (c : Dev nD)

def argX : FVec Ideal S1x8192x1024 .f32 := m ((c.tc : Thread nD τ).loc main_arg0)
def argYA : FVec Ideal S1x8192x512 .f32 := m ((c.tc : Thread nD τ).loc main_arg1)
def argYB : FVec Ideal S1x8192x512 .f32 := m ((c.tc : Thread nD τ).loc main_arg2)
def argGA : FVec Ideal S1x8192x512 .f32 := m ((c.tc : Thread nD τ).loc main_arg3)
def argGB : FVec Ideal S1x8192x512 .f32 := m ((c.tc : Thread nD τ).loc main_arg4)
def argW : FVec Ideal S1x1024x1024 .f32 := m ((c.tc : Thread nD τ).loc main_arg5)
def argT : FVec Ideal S1x8192x1024 .f32 := m ((c.tc : Thread nD τ).loc main_arg6)

theorem after_append (A B : List (HloOp τ sig (Elt Ideal))) (W : Valuation τ sig (Elt Ideal)) :
    StableHlo.after (A ++ B) W = StableHlo.after B (StableHlo.after A W) := by
  induction A generalizing W with
  | nil => rfl
  | cons a A ih => exact ih _

theorem V_eq (b : Ref sig .tc) : V m c b = StableHlo.after hostOps0_2 (StableHlo.after hostOps0_1 (StableHlo.after hostOps0 (fun b => m (c, b)))) b := by
  unfold V V0
  rw [← after_append, ← after_append]
  simp only [List.flatten_cons, List.flatten_nil, List.append_nil, List.append_assoc]

theorem V_x : V m c main_v10 = hRows (argX m c) := by
  rw [V_eq]
  entry_read
  rfl
theorem V_t : V m c main_v11 = hRows (argT m c) := by
  rw [V_eq]
  entry_read
  rfl
theorem V_w : V m c main_v13 = hWeights (argW m c) := by
  rw [V_eq]
  entry_read
  rfl
theorem V_g : V m c main_v9 = hGates (argGA m c) (argGB m c) := by
  rw [V_eq]
  entry_read
  rfl
theorem V_ob : V m c main_v6 = hHeadsB (argYB m c) := by
  rw [V_eq]
  entry_read
  rfl

/-- The padding as its own lines compute it. -/
theorem pad_read (W : Valuation τ sig (Elt Ideal)) : StableHlo.after hostOps0_1 W main_v3 =
    hPadded (W main_v2 : FVec Ideal S8x8192x64 .f32) (sitofp .f32 (W main_c : Vec Ideal S_ .i32)) := by
  entry_read
  rfl
theorem keep_oa (W : Valuation τ sig (Elt Ideal)) : StableHlo.after hostOps0_2 W main_v3 = W main_v3 := by
  entry_read
  rfl
theorem head_oa : StableHlo.after hostOps0 (fun b => m (c, b)) main_v2 = hHeadsA (argYA m c) := by
  entry_read
  rfl
theorem head_c (W : Valuation τ sig (Elt Ideal)) : StableHlo.after hostOps0 W main_c = (constantI S_ 32 0#32 : Vec Ideal S_ .i32) := by
  entry_read
  rfl
theorem V_oa : V m c main_v3 = hPadded (hHeadsA (argYA m c)) hFill := by
  rw [V_eq, keep_oa, pad_read, head_oa, head_c]
  rfl

/-! ## The stages at an index -/

section
variable (R : Fin 8192)

theorem hRows_apply (x : FVec Ideal S1x8192x1024 .f32) (d : Fin 1024) : hRows x (ix2 R d) = x (ix3 0 R d) := by
  unfold hRows
  pointwise
theorem hWeights_apply (w : FVec Ideal S1x1024x1024 .f32) (b d : Fin 1024) : hWeights w (ix2 b d) = w (ix3 0 b d) := by
  unfold hWeights
  pointwise
theorem hGates_left (g g' : FVec Ideal S1x8192x512 .f32) (j : Fin 512) : hGates g g' (ix2 R (leftCol j)) = g (ix3 0 R j) := by
  unfold hGates leftCol
  pointwise
theorem hGates_right (g g' : FVec Ideal S1x8192x512 .f32) (j : Fin 512) : hGates g g' (ix2 R (rightCol j)) = g' (ix3 0 R j) := by
  unfold hGates rightCol
  pointwise
theorem hHeadsA_apply (y : FVec Ideal S1x8192x512 .f32) (h : Fin 8) (l : Fin 64) : hHeadsA y (ix3 h R l) = y (ix3 0 R (featA h l)) := by
  unfold hHeadsA featA
  pointwise
theorem hHeadsB_apply (y : FVec Ideal S1x8192x512 .f32) (h : Fin 4) (l : Fin 128) : hHeadsB y (ix3 h R l) = y (ix3 0 R (featB h l)) := by
  unfold hHeadsB featB
  pointwise
theorem hFill_apply (i : S_.Idx) : hFill i = ((0 : ℝ) : EReal) := by
  show ((Int.cast (0#32 : BitVec 32).toInt : ℝ) : EReal) = _
  norm_num
theorem hPadded_in (u : FVec Ideal S8x8192x64 .f32) (z : FVec Ideal S_ .f32) (h : Fin 8) (l : Fin 64) :
    hPadded u z (ix3 h R ⟨l.val, by omega⟩) = u (ix3 h R l) :=
  pad_apply_of_inside _ _ _ u z _ _ _ (ix3 h R l) (by intro a; fin_cases a <;> simp)
theorem hPadded_out (u : FVec Ideal S8x8192x64 .f32) (z : FVec Ideal S_ .f32) (h : Fin 8) (l : Fin 128) (hl : 64 ≤ l.val) :
    hPadded u z (ix3 h R l) = z (Shape.Idx.first h_S_) :=
  pad_apply_of_not_inside _ _ _ u z _ _ _ (2 : Fin 3) (by
    intro hin
    have e : (l.val - 0) / (0 + 1) < 64 := hin.2.2
    omega)
end

/-- The operands in finite numbers, where the arguments are. -/
theorem operands {X T : Fin 8192 → Fin 1024 → ℝ} {A B P Q : Fin 8192 → Fin 512 → ℝ} {W : Fin 1024 → Fin 1024 → ℝ}
    (hx : ∀ R d, argX m c (ix3 0 R d) = ((X R d : ℝ) : EReal)) (hA : ∀ R j, argYA m c (ix3 0 R j) = ((A R j : ℝ) : EReal))
    (hB : ∀ R j, argYB m c (ix3 0 R j) = ((B R j : ℝ) : EReal)) (hP : ∀ R j, argGA m c (ix3 0 R j) = ((P R j : ℝ) : EReal))
    (hQ : ∀ R j, argGB m c (ix3 0 R j) = ((Q R j : ℝ) : EReal)) (hW : ∀ b d, argW m c (ix3 0 b d) = ((W b d : ℝ) : EReal))
    (hT : ∀ R d, argT m c (ix3 0 R d) = ((T R d : ℝ) : EReal)) : Operands m c X T (joinR A B) (joinR P Q) W where
  x R d := by rw [V_x, hRows_apply, hx]
  t R d := by rw [V_t, hRows_apply, hT]
  heads h R l := by rw [V_oa, hPadded_in, hHeadsA_apply, hA, headCol_eq, joinR_left]
  pad h R l hl := by rw [V_oa, hPadded_out _ _ _ _ _ hl, hFill_apply]
  own h R l := by rw [V_ob, hHeadsB_apply, hB, ownCol_eq, joinR_right]
  g R d := by
    rw [V_g]
    by_cases hd : d.val < 512
    · rw [show d = leftCol ⟨d.val, hd⟩ from rfl, hGates_left, hP, joinR_left]
    · rw [show d = rightCol ⟨d.val - 512, by omega⟩ from Fin.ext (show d.val = 512 + (d.val - 512) by omega), hGates_right, hQ, joinR_right]
  w b d := by rw [V_w, hWeights_apply, hW]

end Cert.KernelMIdeal.Val

end
-- ==== Proof.TailM.lean ====
/- What the lines after the gates' block make of it: the nine results as terms of its arrays, and each as a real. -/
module

public import proofs.«01_k».proof.Proof.HostM
public import Idealize.ShloMosaic.Lib.Pipeline.FrameSuffix

@[expose] public section

set_option maxRecDepth 16384

noncomputable section

namespace Cert.KernelMIdeal.Val
open Idealize.ShloMosaic Idealize.ShloMosaic.TcCoe Idealize.ShloMosaic.Tactic Idealize.SL.Sem Cert.KernelMIdeal Cert.KernelMIdeal.Gen Cert.GateGrad
open scoped BigOperators

/-! ## The stages -/

section
variable (s : FVec Ideal S8x128 .f32) (x : FVec Ideal S8192x1024 .f32) (g : FVec Ideal S8192x1024 .bf16) (a : FVec Ideal S8x8192x128 .bf16)
  (b : FVec Ideal S4x8192x128 .bf16) (y : FVec Ideal S1024x8192 .bf16) (d : FVec Ideal S16x8192 .f32)

def outLoss : FVec Ideal S_ .f32 := shapeCast S_ (extractStridedSlice S1x1 ![0, 0] s slices_S8x128_S1x1_0_0) shapeCasts_S1x1_S_
def outDx : FVec Ideal S1x8192x1024 .f32 := broadcastInDim S1x8192x1024 ![1, 2] bcast_S8192x1024_S1x8192x1024_1_2 x
def outDa : FVec Ideal S1x8192x512 .f32 :=
  shapeCast S1x8192x512 (transpose S8192x8x64 [1, 0, 2] (extf .f32 (extractStridedSlice S8x8192x64 ![0, 0, 0] a slices_S8x8192x128_S8x8192x64_0_0_0)
    bitsLt_bf16_f32 : FVec Ideal S8x8192x64 .f32) transposes_S8x8192x64_S8192x8x64_1_0_2) shapeCasts_S8192x8x64_S1x8192x512
def outDb : FVec Ideal S1x8192x512 .f32 :=
  shapeCast S1x8192x512 (transpose S8192x4x128 [1, 0, 2] (extf .f32 b bitsLt_bf16_f32 : FVec Ideal S4x8192x128 .f32)
    transposes_S4x8192x128_S8192x4x128_1_0_2) shapeCasts_S8192x4x128_S1x8192x512
def outGa : FVec Ideal S1x8192x512 .f32 :=
  broadcastInDim S1x8192x512 ![1, 2] bcast_S8192x512_S1x8192x512_1_2
    (extractStridedSlice S8192x512 ![0, 0] (extf .f32 g bitsLt_bf16_f32 : FVec Ideal S8192x1024 .f32) slices_S8192x1024_S8192x512_0_0)
def outGb : FVec Ideal S1x8192x512 .f32 :=
  broadcastInDim S1x8192x512 ![1, 2] bcast_S8192x512_S1x8192x512_1_2
    (extractStridedSlice S8192x512 ![0, 512] (extf .f32 g bitsLt_bf16_f32 : FVec Ideal S8192x1024 .f32) slices_S8192x1024_S8192x512_0_512)
def outY : FVec Ideal S1024x8192 .f32 := extf .f32 y bitsLt_bf16_f32
def outRa : FVec Ideal S8x8192 .f32 := extractStridedSlice S8x8192 ![0, 0] d slices_S16x8192_S8x8192_0_0
def outRb : FVec Ideal S4x8192 .f32 := extractStridedSlice S4x8192 ![8, 0] d slices_S16x8192_S4x8192_8_0
end

section
variable (W : Valuation τ sig (Elt Ideal))
theorem tail_loss : StableHlo.after hostOps1 W main_v17 = outLoss (W main_v14_6) := by
  entry_read
  rfl
theorem tail_dx : StableHlo.after hostOps1 W main_v18 = outDx (W main_v14_1) := by
  entry_read
  rfl
theorem tail_da : StableHlo.after hostOps1 W main_v22 = outDa (W main_v14_3) := by
  entry_read
  rfl
theorem tail_db : StableHlo.after hostOps1 W main_v25 = outDb (W main_v14_4) := by
  entry_read
  rfl
theorem tail_ga : StableHlo.after hostOps1 W main_v27 = outGa (W main_v14_2) := by
  entry_read
  rfl
theorem tail_gb : StableHlo.after hostOps1 W main_v29 = outGb (W main_v14_2) := by
  entry_read
  rfl
theorem tail_y : StableHlo.after hostOps1 W main_v30 = outY (W main_v14_0) := by
  entry_read
  rfl
theorem tail_ra : StableHlo.after hostOps1 W main_v31 = outRa (W main_v14_5) := by
  entry_read
  rfl
theorem tail_rb : StableHlo.after hostOps1 W main_v32 = outRb (W main_v14_5) := by
  entry_read
  rfl
end

/-! ## The run -/

variable (m : (ℓ : Loc nD τ sig) → Buf (Elt Ideal) ℓ) (ρ : Dev nD → PrngReg) (c : Dev nD)

theorem after_arr (w : Fin cfg0.W) : Pipeline.withArrays (cfgs 0).spec c (V0 m c) (fun w => (dats m 0 c).arrAt w (cfgs 0).N)
    (Proc.devRef .tc (Pipeline.arrRef (cfgs 0).spec w)) = (dats m 0 c).arrAt w (cfgs 0).N :=
  Pipeline.withArrays_arr _ launch0.win.arr_inj c _ _ w

theorem run_values : θ_run defs (onTc (τ := τ) (main (F := Ideal))) ⟨m, fun _ => 0, ρ⟩ (fun r => ∀ c : Dev nD,
      r.2.mem ((c.tc : Thread nD τ).loc main_v17) = outLoss (lsArr m c)
      ∧ r.2.mem ((c.tc : Thread nD τ).loc main_v18) = outDx (dhArr m c)
      ∧ r.2.mem ((c.tc : Thread nD τ).loc main_v22) = outDa (daArr m c)
      ∧ r.2.mem ((c.tc : Thread nD τ).loc main_v25) = outDb (dbArr m c)
      ∧ r.2.mem ((c.tc : Thread nD τ).loc main_v27) = outGa (dgArr m c)
      ∧ r.2.mem ((c.tc : Thread nD τ).loc main_v29) = outGb (dgArr m c)
      ∧ r.2.mem ((c.tc : Thread nD τ).loc main_v30) = outY (ytArr m c)
      ∧ r.2.mem ((c.tc : Thread nD τ).loc main_v31) = outRa (dlArr m c)
      ∧ r.2.mem ((c.tc : Thread nD τ).loc main_v32) = outRb (dlArr m c)) := by
  refine (θ_run defs _ _).mono (fun r h c => ?_) (run_main m ρ)
  refine ⟨((h c).2 main_v17 (by decide)).trans ?_, ((h c).2 main_v18 (by decide)).trans ?_, ((h c).2 main_v22 (by decide)).trans ?_,
    ((h c).2 main_v25 (by decide)).trans ?_, ((h c).2 main_v27 (by decide)).trans ?_, ((h c).2 main_v29 (by decide)).trans ?_,
    ((h c).2 main_v30 (by decide)).trans ?_, ((h c).2 main_v31 (by decide)).trans ?_, ((h c).2 main_v32 (by decide)).trans ?_⟩
  all_goals
    unfold Pipeline.afterTail₀
    rw [List.flatten_cons, List.flatten_nil, List.append_nil]
  · exact (tail_loss _).trans (congrArg outLoss ((after_arr m c 12).trans (final_ls m c)))
  · exact (tail_dx _).trans (congrArg outDx ((after_arr m c 7).trans (final_dh m c)))
  · exact (tail_da _).trans (congrArg outDa ((after_arr m c 9).trans (final_da m c)))
  · exact (tail_db _).trans (congrArg outDb ((after_arr m c 10).trans (final_db m c)))
  · exact (tail_ga _).trans (congrArg outGa ((after_arr m c 8).trans (final_dg m c)))
  · exact (tail_gb _).trans (congrArg outGb ((after_arr m c 8).trans (final_dg m c)))
  · exact (tail_y _).trans (congrArg outY ((after_arr m c 6).trans (final_yt m c)))
  · exact (tail_ra _).trans (congrArg outRa ((after_arr m c 11).trans (final_dl m c)))
  · exact (tail_rb _).trans (congrArg outRb ((after_arr m c 11).trans (final_dl m c)))

/-! ## The results as reals -/

section
variable {m c}
variable {X T O G : Fin 8192 → Fin 1024 → ℝ} {W : Fin 1024 → Fin 1024 → ℝ} (H : Operands m c X T O G W)
include H

theorem Operands.outLoss (i : S_.Idx) : outLoss (lsArr m c) i =
    (((∑ R, ∑ d, errR X T O G W R d * errR X T O G W R d) * (1 / 2048) : ℝ) : EReal) := by
  rw [show i = ix0 from funext fun a => a.elim0]
  refine Eq.trans ?_ H.loss
  unfold Val.outLoss
  generalize lsArr m c = s
  pointwise

theorem Operands.outDx (R : Fin 8192) (d : Fin 1024) : outDx (dhArr m c) (ix3 0 R d) = ((dhR X T O G W R d : ℝ) : EReal) := by
  refine Eq.trans ?_ (H.dh R d)
  unfold Val.outDx
  generalize dhArr m c = s
  pointwise

theorem Operands.outDa (R : Fin 8192) (h : Fin 8) (l : Fin 64) :
    outDa (daArr m c) (ix3 0 R (featA h l)) = ((doR X T O G W R (headCol h l) : ℝ) : EReal) := by
  refine Eq.trans ?_ (H.da h R l)
  unfold Val.outDa featA
  generalize daArr m c = s
  pointwise

theorem Operands.outDb (R : Fin 8192) (h : Fin 4) (l : Fin 128) :
    outDb (dbArr m c) (ix3 0 R (featB h l)) = ((doR X T O G W R (ownCol h l) : ℝ) : EReal) := by
  refine Eq.trans ?_ (H.db h R l)
  unfold Val.outDb featB
  generalize dbArr m c = s
  pointwise

theorem Operands.outGa (R : Fin 8192) (j : Fin 512) : outGa (dgArr m c) (ix3 0 R j) = ((dgR X T O G W R (leftCol j) : ℝ) : EReal) := by
  refine Eq.trans ?_ (H.dg R (leftCol j))
  unfold Val.outGa leftCol
  generalize dgArr m c = s
  pointwise

theorem Operands.outGb (R : Fin 8192) (j : Fin 512) : outGb (dgArr m c) (ix3 0 R j) = ((dgR X T O G W R (rightCol j) : ℝ) : EReal) := by
  refine Eq.trans ?_ (H.dg R (rightCol j))
  unfold Val.outGb rightCol
  generalize dgArr m c = s
  pointwise

theorem Operands.outY (d : Fin 1024) (R : Fin 8192) : outY (ytArr m c) (ix2 d R) = ((yR O G R d : ℝ) : EReal) := by
  refine Eq.trans ?_ (H.yt R d)
  unfold Val.outY
  generalize ytArr m c = s
  pointwise

theorem Operands.outRa (h : Fin 8) (R : Fin 8192) : outRa (dlArr m c) (ix2 h R) = ((GateGrad.dlA X T O G W R h : ℝ) : EReal) := by
  refine Eq.trans ?_ (H.dlA h R)
  unfold Val.outRa
  generalize dlArr m c = s
  pointwise

theorem Operands.outRb (h : Fin 4) (R : Fin 8192) : outRb (dlArr m c) (ix2 h R) = ((GateGrad.dlB X T O G W R h : ℝ) : EReal) := by
  refine Eq.trans ?_ (H.dlB h R)
  unfold Val.outRb
  generalize dlArr m c = s
  pointwise

end

end Cert.KernelMIdeal.Val

end
-- ==== Proof.RefM.lean ====
/- What the reference of the gates and the loss computes: its stages as terms of the arguments, and each as a real. -/
module

public import proofs.«01_k».proof.Proof.Gen.ReferenceMIdeal.Run
public import proofs.«01_k».proof.Proof.MidIdeal
public import proofs.«01_k».proof.Proof.MidCols
public import Idealize.ShloMosaic.PureOps.Ideal

@[expose] public section

set_option maxRecDepth 16384

noncomputable section

namespace Cert.ReferenceMIdeal.Val
open Idealize.ShloMosaic Idealize.ShloMosaic.TcCoe Idealize.ShloMosaic.Tactic Idealize.SL.Sem Cert.ReferenceMIdeal Cert.ReferenceMIdeal.Gen
open Cert.GateGrad Cert.AttnGrad
open scoped BigOperators

/-! ## The stages -/

section
variable (a b g g' : FVec Ideal S1x8192x512 .f32) (x t e d : FVec Ideal S1x8192x1024 .f32) (w : FVec Ideal S1x1024x1024 .f32)

def rOnes : FVec Ideal S1x8192x512 .f32 := broadcastInDim S1x8192x512 ![] bcast_S_S1x8192x512 (constant S_ .f32 0x3F800000#32)
/-- The logistic function, and a number times it. -/
def rSig : FVec Ideal S1x8192x512 .f32 := Host.divf rOnes (addf rOnes (Host.exp (Host.negf g)))
def rSilu : FVec Ideal S1x8192x512 .f32 := mulf g (rSig g)
/-- The gated columns. -/
def rY : FVec Ideal S1x8192x1024 .f32 :=
  concatenate S1x8192x1024 2 [⟨S1x8192x512, mulf a (rSilu g)⟩, ⟨S1x8192x512, mulf b (rSilu g')⟩] concatenates_S1x8192x512_S1x8192x512_S1x8192x1024_d2
def rW : FVec Ideal S1024x1024 .f32 := shapeCast S1024x1024 w shapeCasts_S1x1024x1024_S1024x1024
/-- The residual's error. -/
def rErr (y : FVec Ideal S1x8192x1024 .f32) : FVec Ideal S1x8192x1024 .f32 :=
  subf (addf x (Host.dotGeneral dot_S1x8192x1024_S1024x1024_S1x8192x1024_2_0_01_1_n_n none y (rW w))) t
/-- The rows' mean squares. -/
def rMeans : FVec Ideal S1x8192 .f32 :=
  Host.divf (Host.reduceAdd (mulf e e) (constant S_ .f32 0x00000000#32) reducesTo_S1x8192x1024_S1x8192_d2 h_S_)
    (broadcastInDim S1x8192 ![] bcast_S_S1x8192 (constant S_ .f32 0x44800000#32))
def rLoss : FVec Ideal S_ .f32 :=
  mulf (constant S_ .f32 0x3F000000#32) (Host.reduceAdd (rMeans e) (constant S_ .f32 0x00000000#32) reducesTo_S1x8192_S_d0_1 h_S_)
/-- The error's gradient. -/
def rDx : FVec Ideal S1x8192x1024 .f32 :=
  mulf (broadcastInDim S1x8192x1024 ![0, 1] bcast_S1x8192_S1x8192x1024_0_1
    (Host.divf (broadcastInDim S1x8192 ![] bcast_S_S1x8192 (mulf (constant S_ .f32 0x3F000000#32) (constant S_ .f32 0x3F800000#32)))
      (broadcastInDim S1x8192 ![] bcast_S_S1x8192 (constant S_ .f32 0x44800000#32))))
    (mulf (broadcastInDim S1x8192x1024 ![] bcast_S_S1x8192x1024 (constant S_ .f32 0x40000000#32)) e)
/-- The gated columns' gradient. -/
def rDy : FVec Ideal S1x8192x1024 .f32 := Host.dotGeneral dot_S1x8192x1024_S1024x1024_S1x8192x1024_2_1_01_0_n_n none d (rW w)
def rLeft : FVec Ideal S1x8192x512 .f32 := extractStridedSlice S1x8192x512 ![0, 0, 0] d slices_S1x8192x1024_S1x8192x512_0_0_0
def rRight : FVec Ideal S1x8192x512 .f32 := extractStridedSlice S1x8192x512 ![0, 0, 512] d slices_S1x8192x1024_S1x8192x512_0_0_512
/-- A mixer's gradient, and its gate's. -/
def rDa : FVec Ideal S1x8192x512 .f32 := mulf a (rSilu g)
def rDg (u : FVec Ideal S1x8192x512 .f32) : FVec Ideal S1x8192x512 .f32 :=
  addf (mulf u (rSig g)) (mulf (mulf g u) (mulf (rSig g) (subf rOnes (rSig g))))
def rTurn : FVec Ideal S1024x8192 .f32 :=
  transpose S1024x8192 [1, 0] (shapeCast S8192x1024 d shapeCasts_S1x8192x1024_S8192x1024) transposes_S8192x1024_S1024x8192_1_0
/-- The sums of a head's columns. -/
def rSumA : FVec Ideal S8x8192 .f32 :=
  transpose S8x8192 [1, 0] (Host.reduceAdd (shapeCast S8192x8x64 (mulf a b) shapeCasts_S1x8192x512_S8192x8x64)
    (constant S_ .f32 0x00000000#32) reducesTo_S8192x8x64_S8192x8_d2 h_S_) transposes_S8192x8_S8x8192_1_0
def rSumB : FVec Ideal S4x8192 .f32 :=
  transpose S4x8192 [1, 0] (Host.reduceAdd (shapeCast S8192x4x128 (mulf a b) shapeCasts_S1x8192x512_S8192x4x128)
    (constant S_ .f32 0x00000000#32) reducesTo_S8192x4x128_S8192x4_d2 h_S_) transposes_S8192x4_S4x8192_1_0
end

/-! ## The run -/

section
variable (m : (ℓ : Loc nD τ sig) → Buf (Elt Ideal) ℓ) (c : Dev nD)

def argX : FVec Ideal S1x8192x1024 .f32 := m ((c.tc : Thread nD τ).loc main_arg0)
def argYA : FVec Ideal S1x8192x512 .f32 := m ((c.tc : Thread nD τ).loc main_arg1)
def argYB : FVec Ideal S1x8192x512 .f32 := m ((c.tc : Thread nD τ).loc main_arg2)
def argGA : FVec Ideal S1x8192x512 .f32 := m ((c.tc : Thread nD τ).loc main_arg3)
def argGB : FVec Ideal S1x8192x512 .f32 := m ((c.tc : Thread nD τ).loc main_arg4)
def argW : FVec Ideal S1x1024x1024 .f32 := m ((c.tc : Thread nD τ).loc main_arg5)
def argT : FVec Ideal S1x8192x1024 .f32 := m ((c.tc : Thread nD τ).loc main_arg6)
end

/-- The error and the gated columns' gradient of the arguments. -/
def vErr (x : FVec Ideal S1x8192x1024 .f32) (a b g g' : FVec Ideal S1x8192x512 .f32) (w : FVec Ideal S1x1024x1024 .f32) (t : FVec Ideal S1x8192x1024 .f32) :
    FVec Ideal S1x8192x1024 .f32 := rErr x t w (rY a b g g')
def vDy (x : FVec Ideal S1x8192x1024 .f32) (a b g g' : FVec Ideal S1x8192x512 .f32) (w : FVec Ideal S1x1024x1024 .f32) (t : FVec Ideal S1x8192x1024 .f32) :
    FVec Ideal S1x8192x1024 .f32 := rDy (rDx (vErr x a b g g' w t)) w

section
variable (m : (ℓ : Loc nD τ sig) → Buf (Elt Ideal) ℓ) (c : Dev nD)
def eOf : FVec Ideal S1x8192x1024 .f32 := vErr (argX m c) (argYA m c) (argYB m c) (argGA m c) (argGB m c) (argW m c) (argT m c)
def dyOf : FVec Ideal S1x8192x1024 .f32 := vDy (argX m c) (argYA m c) (argYB m c) (argGA m c) (argGB m c) (argW m c) (argT m c)

theorem run_values (ρ : Dev nD → PrngReg) : θ_run defs (onTc (τ := τ) (main (F := Ideal))) ⟨m, fun _ => 0, ρ⟩ fun r => ∀ c : Dev nD,
      r.2.mem ((c.tc : Thread nD τ).loc main_v16) = rLoss (eOf m c)
      ∧ r.2.mem ((c.tc : Thread nD τ).loc main_v22) = rDx (eOf m c)
      ∧ r.2.mem ((c.tc : Thread nD τ).loc main_v30) = rDa (rLeft (dyOf m c)) (argGA m c)
      ∧ r.2.mem ((c.tc : Thread nD τ).loc main_v27) = rDa (rRight (dyOf m c)) (argGB m c)
      ∧ r.2.mem ((c.tc : Thread nD τ).loc main_v31) = rDg (argGA m c) (mulf (argYA m c) (rLeft (dyOf m c)))
      ∧ r.2.mem ((c.tc : Thread nD τ).loc main_v28) = rDg (argGB m c) (mulf (argYB m c) (rRight (dyOf m c)))
      ∧ r.2.mem ((c.tc : Thread nD τ).loc main_v38) = rTurn (rY (argYA m c) (argYB m c) (argGA m c) (argGB m c))
      ∧ r.2.mem ((c.tc : Thread nD τ).loc main_v42) = rSumA (rDa (rLeft (dyOf m c)) (argGA m c)) (argYA m c)
      ∧ r.2.mem ((c.tc : Thread nD τ).loc main_v46) = rSumB (rDa (rRight (dyOf m c)) (argGB m c)) (argYB m c) :=
  (θ_run defs _ _).mono (fun _ h c => ⟨(h c).1.trans rfl, (h c).2.1.trans rfl, (h c).2.2.1.trans rfl, (h c).2.2.2.1.trans rfl,
    (h c).2.2.2.2.1.trans rfl, (h c).2.2.2.2.2.1.trans rfl, (h c).2.2.2.2.2.2.1.trans rfl, (h c).2.2.2.2.2.2.2.1.trans rfl,
    (h c).2.2.2.2.2.2.2.2.1.trans rfl⟩) (Value.run m ρ)

end

/-! ## The stages at an index -/

section
variable (a b g g' : FVec Ideal S1x8192x512 .f32) (x y t e d : FVec Ideal S1x8192x1024 .f32) (w : FVec Ideal S1x1024x1024 .f32)
  (R : Fin 8192) (j : Fin 512) (k : Fin 1024)

theorem rSig_real {v : ℝ} (h : g (ix3 0 R j) = (v : EReal)) : rSig g (ix3 0 R j) = ((sigR v : ℝ) : EReal) := by
  show Ideal.div (Ideal.ofBits .f32 0x3F800000#32) (Ideal.ofBits .f32 0x3F800000#32 + Ideal.exp (-g (ix3 0 R j))) = _
  rw [h, ofBits_one, ← EReal.coe_neg, Ideal.exp_coe, ← EReal.coe_add, div_real]
  · rfl
  · have := Real.exp_pos (-v)
    positivity

theorem rSilu_real {v : ℝ} (h : g (ix3 0 R j) = (v : EReal)) : rSilu g (ix3 0 R j) = ((siluR v : ℝ) : EReal) := by
  show g (ix3 0 R j) * rSig g (ix3 0 R j) = _
  rw [rSig_real g R j h, h, ← EReal.coe_mul]
  rfl

theorem rDg_real {v z : ℝ} (h : g (ix3 0 R j) = (v : EReal)) (hz : a (ix3 0 R j) = (z : EReal)) :
    rDg g a (ix3 0 R j) = ((z * dsiluR v : ℝ) : EReal) := by
  show a (ix3 0 R j) * rSig g (ix3 0 R j) + g (ix3 0 R j) * a (ix3 0 R j) *
    (rSig g (ix3 0 R j) * (Ideal.ofBits .f32 0x3F800000#32 - rSig g (ix3 0 R j))) = _
  rw [rSig_real g R j h, h, hz, ofBits_one, ← EReal.coe_sub, ← EReal.coe_mul, ← EReal.coe_mul, ← EReal.coe_mul, ← EReal.coe_mul, ← EReal.coe_add]
  refine congrArg Real.toEReal ?_
  unfold dsiluR
  ring

theorem rDa_real {v z : ℝ} (h : g (ix3 0 R j) = (v : EReal)) (hz : a (ix3 0 R j) = (z : EReal)) :
    rDa a g (ix3 0 R j) = ((z * siluR v : ℝ) : EReal) := by
  show a (ix3 0 R j) * rSilu g (ix3 0 R j) = _
  rw [rSilu_real g R j h, hz, ← EReal.coe_mul]

theorem beside_left : concatenate S1x8192x1024 2 [⟨S1x8192x512, a⟩, ⟨S1x8192x512, b⟩] concatenates_S1x8192x512_S1x8192x512_S1x8192x1024_d2
    (ix3 0 R (leftCol j)) = a (ix3 0 R j) := by
  unfold leftCol
  pointwise

theorem beside_right : concatenate S1x8192x1024 2 [⟨S1x8192x512, a⟩, ⟨S1x8192x512, b⟩] concatenates_S1x8192x512_S1x8192x512_S1x8192x1024_d2
    (ix3 0 R (rightCol j)) = b (ix3 0 R j) := by
  unfold rightCol
  pointwise

theorem rW_apply (c : Fin 1024) : rW w (ix2 k c) = w (ix3 0 k c) := by
  unfold rW
  pointwise

theorem rErr_apply (y : FVec Ideal S1x8192x1024 .f32) :
    rErr x t w y (ix3 0 R k) = x (ix3 0 R k) + (∑ c, y (ix3 0 R c) * rW w (ix2 c k)) - t (ix3 0 R k) := by
  unfold rErr
  generalize rW w = s
  pointwise

theorem rDy_apply : rDy d w (ix3 0 R k) = ∑ c, d (ix3 0 R c) * rW w (ix2 k c) := by
  unfold rDy
  generalize rW w = s
  pointwise

theorem rLeft_apply : rLeft d (ix3 0 R j) = d (ix3 0 R (leftCol j)) := by
  unfold rLeft leftCol
  pointwise

theorem rRight_apply : rRight d (ix3 0 R j) = d (ix3 0 R (rightCol j)) := by
  unfold rRight rightCol
  pointwise

theorem rTurn_apply : rTurn d (ix2 k R) = d (ix3 0 R k) := by
  unfold rTurn
  pointwise

theorem rSumA_apply (h : Fin 8) : rSumA a b (ix2 h R) = ∑ l, a (ix3 0 R (featA h l)) * b (ix3 0 R (featA h l)) := by
  unfold rSumA featA
  pointwise

theorem rSumB_apply (h : Fin 4) : rSumB a b (ix2 h R) = ∑ l, a (ix3 0 R (featB h l)) * b (ix3 0 R (featB h l)) := by
  unfold rSumB featB
  pointwise

theorem rMeans_apply : rMeans e (ix2 0 R) = Ideal.div (∑ k, e (ix3 0 R k) * e (ix3 0 R k)) (Ideal.ofBits .f32 0x44800000#32) := by
  unfold rMeans
  pointwise

theorem rLoss_apply : rLoss e ix0 = Ideal.ofBits .f32 0x3F000000#32 * ∑ R, rMeans e (ix2 0 R) := by
  unfold rLoss
  generalize rMeans e = s
  pointwise
  exact congrArg _ (Fin.sum_univ_one _)

theorem rDx_apply : rDx e (ix3 0 R k) = Ideal.div (Ideal.ofBits .f32 0x3F000000#32 * Ideal.ofBits .f32 0x3F800000#32) (Ideal.ofBits .f32 0x44800000#32) *
    (Ideal.ofBits .f32 0x40000000#32 * e (ix3 0 R k)) := rfl
end

/-! ## The results as reals -/

theorem ofBits_half : Ideal.ofBits .f32 0x3F000000#32 = ((1 / 2 : ℝ) : EReal) := by
  simp [Ideal.ofBits, Ideal.ieee, -EReal.coe_mul]; norm_num
theorem ofBits_1024 : Ideal.ofBits .f32 0x44800000#32 = ((1024 : ℝ) : EReal) := by
  simp [Ideal.ofBits, Ideal.ieee, -EReal.coe_mul]; norm_num

/-- The arguments as reals. -/
structure Reals (x : FVec Ideal S1x8192x1024 .f32) (a b g g' : FVec Ideal S1x8192x512 .f32) (w : FVec Ideal S1x1024x1024 .f32)
    (t : FVec Ideal S1x8192x1024 .f32) (X T : Fin 8192 → Fin 1024 → ℝ) (A B P Q : Fin 8192 → Fin 512 → ℝ) (W : Fin 1024 → Fin 1024 → ℝ) : Prop where
  x : ∀ R d, x (ix3 0 R d) = (X R d : EReal)
  a : ∀ R j, a (ix3 0 R j) = (A R j : EReal)
  b : ∀ R j, b (ix3 0 R j) = (B R j : EReal)
  g : ∀ R j, g (ix3 0 R j) = (P R j : EReal)
  g' : ∀ R j, g' (ix3 0 R j) = (Q R j : EReal)
  w : ∀ k d, w (ix3 0 k d) = (W k d : EReal)
  t : ∀ R d, t (ix3 0 R d) = (T R d : EReal)

section
variable {x t : FVec Ideal S1x8192x1024 .f32} {a b g g' : FVec Ideal S1x8192x512 .f32} {w : FVec Ideal S1x1024x1024 .f32}
  {X T : Fin 8192 → Fin 1024 → ℝ} {A B P Q : Fin 8192 → Fin 512 → ℝ} {W : Fin 1024 → Fin 1024 → ℝ} (H : Reals x a b g g' w t X T A B P Q W)
  (R : Fin 8192) (j : Fin 512) (k : Fin 1024)
include H

theorem Reals.yLeft : rY a b g g' (ix3 0 R (leftCol j)) = ((yR (joinR A B) (joinR P Q) R (leftCol j) : ℝ) : EReal) := by
  rw [rY, beside_left, yR, joinR_left, joinR_left]
  exact rDa_real _ _ _ _ (H.g R j) (H.a R j)

theorem Reals.yRight : rY a b g g' (ix3 0 R (rightCol j)) = ((yR (joinR A B) (joinR P Q) R (rightCol j) : ℝ) : EReal) := by
  rw [rY, beside_right, yR, joinR_right, joinR_right]
  exact rDa_real _ _ _ _ (H.g' R j) (H.b R j)

theorem Reals.y : rY a b g g' (ix3 0 R k) = ((yR (joinR A B) (joinR P Q) R k : ℝ) : EReal) := by
  by_cases h : k.val < 512
  · exact H.yLeft R ⟨k.val, h⟩
  · have e : k = rightCol ⟨k.val - 512, by omega⟩ := Fin.ext (show k.val = 512 + (k.val - 512) by omega)
    rw [e]
    exact H.yRight R _

theorem Reals.err : vErr x a b g g' w t (ix3 0 R k) = ((errR X T (joinR A B) (joinR P Q) W R k : ℝ) : EReal) := by
  rw [vErr, rErr_apply, H.x, H.t, Finset.sum_congr rfl fun c _ => (congrArg₂ (· * ·) (H.y R c) ((rW_apply ..).trans (H.w c k))).trans (EReal.coe_mul _ _).symm,
    coe_sum, ← EReal.coe_add, ← EReal.coe_sub]
  rfl

theorem Reals.dx : rDx (vErr x a b g g' w t) (ix3 0 R k) = ((dhR X T (joinR A B) (joinR P Q) W R k : ℝ) : EReal) := by
  rw [rDx_apply, H.err, ofBits_half, ofBits_one, ofBits_two, ofBits_1024, ← EReal.coe_mul, ← EReal.coe_mul, div_real _ _ (by norm_num), ← EReal.coe_mul]
  refine congrArg Real.toEReal ?_
  unfold dhR
  ring

theorem Reals.dy : vDy x a b g g' w t (ix3 0 R k) = ((dyR X T (joinR A B) (joinR P Q) W R k : ℝ) : EReal) := by
  rw [vDy, rDy_apply, Finset.sum_congr rfl fun d _ => (congrArg₂ (· * ·) (H.dx R d) ((rW_apply ..).trans (H.w k d))).trans (EReal.coe_mul _ _).symm, coe_sum]
  rfl

theorem Reals.loss (i : S_.Idx) : rLoss (vErr x a b g g' w t) i =
    (((∑ R, ∑ d, errR X T (joinR A B) (joinR P Q) W R d * errR X T (joinR A B) (joinR P Q) W R d) * (1 / 2048) : ℝ) : EReal) := by
  have e : ∀ R, rMeans (vErr x a b g g' w t) (ix2 0 R) =
      (((∑ d, errR X T (joinR A B) (joinR P Q) W R d * errR X T (joinR A B) (joinR P Q) W R d) / 1024 : ℝ) : EReal) := fun R => by
    rw [rMeans_apply, Finset.sum_congr rfl fun d _ => (congrArg₂ (· * ·) (H.err R d) (H.err R d)).trans (EReal.coe_mul _ _).symm, coe_sum, ofBits_1024,
      div_real _ _ (by norm_num)]
  rw [show i = ix0 from funext fun a => a.elim0, rLoss_apply, Finset.sum_congr rfl fun R _ => e R, coe_sum, ofBits_half, ← EReal.coe_mul, ← Finset.sum_div]
  refine congrArg Real.toEReal ?_
  ring

theorem Reals.da : rDa (rLeft (vDy x a b g g' w t)) g (ix3 0 R j) = ((doR X T (joinR A B) (joinR P Q) W R (leftCol j) : ℝ) : EReal) := by
  refine (rDa_real _ _ R j (H.g R j) ((rLeft_apply ..).trans (H.dy R (leftCol j)))).trans ?_
  rw [doR, joinR_left]

theorem Reals.db : rDa (rRight (vDy x a b g g' w t)) g' (ix3 0 R j) = ((doR X T (joinR A B) (joinR P Q) W R (rightCol j) : ℝ) : EReal) := by
  refine (rDa_real _ _ R j (H.g' R j) ((rRight_apply ..).trans (H.dy R (rightCol j)))).trans ?_
  rw [doR, joinR_right]

theorem Reals.ga : rDg g (mulf a (rLeft (vDy x a b g g' w t))) (ix3 0 R j) = ((dgR X T (joinR A B) (joinR P Q) W R (leftCol j) : ℝ) : EReal) := by
  refine (rDg_real _ _ R j (H.g R j) ((congrArg₂ (· * ·) (H.a R j) ((rLeft_apply ..).trans (H.dy R (leftCol j)))).trans (EReal.coe_mul _ _).symm)).trans ?_
  rw [dgR, joinR_left, joinR_left, mul_comm (A R j)]

theorem Reals.gb : rDg g' (mulf b (rRight (vDy x a b g g' w t))) (ix3 0 R j) = ((dgR X T (joinR A B) (joinR P Q) W R (rightCol j) : ℝ) : EReal) := by
  refine (rDg_real _ _ R j (H.g' R j) ((congrArg₂ (· * ·) (H.b R j) ((rRight_apply ..).trans (H.dy R (rightCol j)))).trans (EReal.coe_mul _ _).symm)).trans ?_
  rw [dgR, joinR_right, joinR_right, mul_comm (B R j)]

theorem Reals.turned : rTurn (rY a b g g') (ix2 k R) = ((yR (joinR A B) (joinR P Q) R k : ℝ) : EReal) := (rTurn_apply ..).trans (H.y R k)

theorem Reals.sumA (h : Fin 8) : rSumA (rDa (rLeft (vDy x a b g g' w t)) g) a (ix2 h R) = ((dlA X T (joinR A B) (joinR P Q) W R h : ℝ) : EReal) := by
  rw [rSumA_apply, Finset.sum_congr rfl fun l _ => (congrArg₂ (· * ·) (H.da R (featA h l)) (H.a R (featA h l))).trans (EReal.coe_mul _ _).symm, coe_sum]
  refine congrArg Real.toEReal (Finset.sum_congr rfl fun l _ => ?_)
  rw [headCol_eq, joinR_left]

theorem Reals.sumB (h : Fin 4) : rSumB (rDa (rRight (vDy x a b g g' w t)) g') b (ix2 h R) = ((dlB X T (joinR A B) (joinR P Q) W R h : ℝ) : EReal) := by
  rw [rSumB_apply, Finset.sum_congr rfl fun l _ => (congrArg₂ (· * ·) (H.db R (featB h l)) (H.b R (featB h l))).trans (EReal.coe_mul _ _).symm, coe_sum]
  refine congrArg Real.toEReal (Finset.sum_congr rfl fun l _ => ?_)
  rw [ownCol_eq, joinR_right]

end

end Cert.ReferenceMIdeal.Val

end
-- ==== Proof.PreM.lean ====
/- The precondition of the gates and the loss: every entry of every argument is a real. -/
module

public import proofs.«01_k».proof.Pre_finite_m
public import proofs.«01_k».proof.Proof.PreB

@[expose] public section

set_option maxRecDepth 16384

noncomputable section

namespace Cert.Pre_finite_m
open Idealize.ShloMosaic Cert.AttnGrad
open Cert.Pre_finite (and_one isReal_of_olt)

instance facts : Facts where
  bcast_S_S1x8192x1024 := by decide
  reducesTo_S1x8192x1024_S_d0_1_2 := by decide
  h_S_ := by decide
  bcast_S_S1x8192x512 := by decide
  reducesTo_S1x8192x512_S_d0_1_2 := by decide
  bcast_S_S1x1024x1024 := by decide
  reducesTo_S1x1024x1024_S_d0_1_2 := by decide

instance : Subsingleton S_.Idx := ⟨fun _ _ => funext fun b => b.elim0⟩

theorem real_of_fn {x t : FVec Ideal S1x8192x1024 .f32} {a b g g' : FVec Ideal S1x8192x512 .f32} {w : FVec Ideal S1x1024x1024 .f32}
    (h : fn x a b g g' w t = fun _ => 1#1) : (∀ i, IsReal (x i)) ∧ (∀ i, IsReal (a i)) ∧ (∀ i, IsReal (b i)) ∧ (∀ i, IsReal (g i)) ∧
      (∀ i, IsReal (g' i)) ∧ (∀ i, IsReal (w i)) ∧ ∀ i, IsReal (t i) := by
  obtain ⟨h1, ht⟩ := and_one (congrFun h (fun b => b.elim0))
  obtain ⟨h2, hw⟩ := and_one h1
  obtain ⟨h3, hg'⟩ := and_one h2
  obtain ⟨h4, hg⟩ := and_one h3
  obtain ⟨h5, hb⟩ := and_one h4
  obtain ⟨hx, ha⟩ := and_one h5
  exact ⟨fun i => isReal_of_olt ofBits_top (Host.reduce_andi_all _ _ _ _ _ hx i), fun i => isReal_of_olt ofBits_top (Host.reduce_andi_all _ _ _ _ _ ha i),
    fun i => isReal_of_olt ofBits_top (Host.reduce_andi_all _ _ _ _ _ hb i), fun i => isReal_of_olt ofBits_top (Host.reduce_andi_all _ _ _ _ _ hg i),
    fun i => isReal_of_olt ofBits_top (Host.reduce_andi_all _ _ _ _ _ hg' i), fun i => isReal_of_olt ofBits_top (Host.reduce_andi_all _ _ _ _ _ hw i),
    fun i => isReal_of_olt ofBits_top (Host.reduce_andi_all _ _ _ _ _ ht i)⟩

end Cert.Pre_finite_m

end
-- ==== Proof.EqM.lean ====
/- The gates and the loss: the kernel's nine results are the reference's. -/
module

public import proofs.«01_k».proof.Proof.TailM
public import proofs.«01_k».proof.Proof.RefM
public import proofs.«01_k».proof.Proof.PreM
public import proofs.«01_k».proof.Defs
public import proofs.«01_k».proof.Proof.Gen.KernelMIdeal.Frame

@[expose] public section

set_option maxRecDepth 16384

noncomputable section

namespace Cert.EqM
open Idealize.ShloMosaic Idealize.SL.Sem Cert.AttnGrad Cert.GateGrad
open Cert.KernelMIdeal (S_ S1x8192x512 S1x8192x1024 S1x1024x1024 S1024x8192 S8x8192 S4x8192)

/-! ## Arrays equal index by index -/

theorem same3 {n : ℕ} {u v : (⟨3, ![1, 8192, n]⟩ : Shape).Idx → EReal} (h : ∀ (R : Fin 8192) (j : Fin n), u (ix3 0 R j) = v (ix3 0 R j)) : u = v :=
  funext fun i => by
    rw [← Idealize.ShloMosaic.ix3_eta i, Subsingleton.elim (α := Fin 1) (i 0) 0]
    exact h _ _

theorem same2 {a n : ℕ} {u v : (⟨2, ![a, n]⟩ : Shape).Idx → EReal} (h : ∀ (R : Fin a) (j : Fin n), u (ix2 R j) = v (ix2 R j)) : u = v :=
  funext fun i => by
    rw [← Idealize.ShloMosaic.ix2_eta i]
    exact h _ _

theorem featA_cases (j : Fin 512) : j = featA ⟨j.val / 64, by omega⟩ ⟨j.val % 64, by omega⟩ :=
  Fin.ext (show j.val = j.val / 64 * 64 + j.val % 64 by omega)
theorem featB_cases (j : Fin 512) : j = featB ⟨j.val / 128, by omega⟩ ⟨j.val % 128, by omega⟩ :=
  Fin.ext (show j.val = j.val / 128 * 128 + j.val % 128 by omega)

/-! ## The results -/

variable (m : (ℓ : Loc KernelMIdeal.nD KernelMIdeal.τ KernelMIdeal.sig) → Buf (Elt Ideal) ℓ) (c : Dev KernelMIdeal.nD)

/-- The results agree where the arguments do. -/
theorem results (x : FVec Ideal S1x8192x1024 .f32) (a b g g' : FVec Ideal S1x8192x512 .f32) (w : FVec Ideal S1x1024x1024 .f32)
    (t : FVec Ideal S1x8192x1024 .f32)
    (h0 : x = KernelMIdeal.Val.argX m c) (h1 : a = KernelMIdeal.Val.argYA m c) (h2 : b = KernelMIdeal.Val.argYB m c) (h3 : g = KernelMIdeal.Val.argGA m c)
    (h4 : g' = KernelMIdeal.Val.argGB m c) (h5 : w = KernelMIdeal.Val.argW m c) (h6 : t = KernelMIdeal.Val.argT m c)
    (hp : Pre_finite_m.fn (F := Ideal) x a b g g' w t = fun _ => 1#1) :
    ReferenceMIdeal.Val.rLoss (ReferenceMIdeal.Val.vErr x a b g g' w t) = KernelMIdeal.Val.outLoss (KernelMIdeal.Val.lsArr m c)
    ∧ ReferenceMIdeal.Val.rDx (ReferenceMIdeal.Val.vErr x a b g g' w t) = KernelMIdeal.Val.outDx (KernelMIdeal.Val.dhArr m c)
    ∧ ReferenceMIdeal.Val.rDa (ReferenceMIdeal.Val.rLeft (ReferenceMIdeal.Val.vDy x a b g g' w t)) g = KernelMIdeal.Val.outDa (KernelMIdeal.Val.daArr m c)
    ∧ ReferenceMIdeal.Val.rDa (ReferenceMIdeal.Val.rRight (ReferenceMIdeal.Val.vDy x a b g g' w t)) g' = KernelMIdeal.Val.outDb (KernelMIdeal.Val.dbArr m c)
    ∧ ReferenceMIdeal.Val.rDg g (mulf a (ReferenceMIdeal.Val.rLeft (ReferenceMIdeal.Val.vDy x a b g g' w t))) =
        KernelMIdeal.Val.outGa (KernelMIdeal.Val.dgArr m c)
    ∧ ReferenceMIdeal.Val.rDg g' (mulf b (ReferenceMIdeal.Val.rRight (ReferenceMIdeal.Val.vDy x a b g g' w t))) =
        KernelMIdeal.Val.outGb (KernelMIdeal.Val.dgArr m c)
    ∧ ReferenceMIdeal.Val.rTurn (ReferenceMIdeal.Val.rY a b g g') = KernelMIdeal.Val.outY (KernelMIdeal.Val.ytArr m c)
    ∧ ReferenceMIdeal.Val.rSumA (ReferenceMIdeal.Val.rDa (ReferenceMIdeal.Val.rLeft (ReferenceMIdeal.Val.vDy x a b g g' w t)) g) a =
        KernelMIdeal.Val.outRa (KernelMIdeal.Val.dlArr m c)
    ∧ ReferenceMIdeal.Val.rSumB (ReferenceMIdeal.Val.rDa (ReferenceMIdeal.Val.rRight (ReferenceMIdeal.Val.vDy x a b g g' w t)) g') b =
        KernelMIdeal.Val.outRb (KernelMIdeal.Val.dlArr m c) := by
  obtain ⟨hx, ha, hb, hg, hg', hw, ht⟩ := Pre_finite_m.real_of_fn hp
  choose X hx using hx
  choose A ha using ha
  choose B hb using hb
  choose P hg using hg
  choose Q hg' using hg'
  choose W hw using hw
  choose T ht using ht
  have H : ReferenceMIdeal.Val.Reals x a b g g' w t (fun R d => X (ix3 0 R d)) (fun R d => T (ix3 0 R d)) (fun R j => A (ix3 0 R j))
      (fun R j => B (ix3 0 R j)) (fun R j => P (ix3 0 R j)) (fun R j => Q (ix3 0 R j)) (fun k d => W (ix3 0 k d)) :=
    ⟨fun _ _ => hx _, fun _ _ => ha _, fun _ _ => hb _, fun _ _ => hg _, fun _ _ => hg' _, fun _ _ => hw _, fun _ _ => ht _⟩
  clear hp hx ha hb hg hg' hw ht
  subst h0 h1 h2 h3 h4 h5 h6
  have K := KernelMIdeal.Val.operands m c H.x H.a H.b H.g H.g' H.w H.t
  refine ⟨funext fun i => ?_, same3 fun R d => ?_, same3 fun R j => ?_, same3 fun R j => ?_, same3 fun R j => ?_, same3 fun R j => ?_,
    same2 fun d R => ?_, same2 fun h R => ?_, same2 fun h R => ?_⟩
  · exact (H.loss i).trans (K.outLoss i).symm
  · exact (H.dx R d).trans (K.outDx R d).symm
  · rw [featA_cases j]
    exact (H.da R _).trans (K.outDa R _ _).symm
  · rw [featB_cases j]
    exact ((H.db R _).trans (by rw [← ownCol_eq])).trans (K.outDb R _ _).symm
  · exact (H.ga R j).trans (K.outGa R j).symm
  · exact (H.gb R j).trans (K.outGb R j).symm
  · exact (H.turned R d).trans (K.outY d R).symm
  · exact (H.sumA R h).trans (K.outRa h R).symm
  · exact (H.sumB R h).trans (K.outRb h R).symm

theorem algebraic : Cert.algebraic_KernelMIdeal_ReferenceMIdeal_pre_finite_m := by
  intro m ρ m' ρ' hp he
  refine ⟨fun c => KernelMIdeal.Val.outLoss (KernelMIdeal.Val.lsArr m c), fun c => KernelMIdeal.Val.outDx (KernelMIdeal.Val.dhArr m c),
    fun c => KernelMIdeal.Val.outDa (KernelMIdeal.Val.daArr m c), fun c => KernelMIdeal.Val.outDb (KernelMIdeal.Val.dbArr m c),
    fun c => KernelMIdeal.Val.outGa (KernelMIdeal.Val.dgArr m c), fun c => KernelMIdeal.Val.outGb (KernelMIdeal.Val.dgArr m c),
    fun c => KernelMIdeal.Val.outY (KernelMIdeal.Val.ytArr m c), fun c => KernelMIdeal.Val.outRa (KernelMIdeal.Val.dlArr m c),
    fun c => KernelMIdeal.Val.outRb (KernelMIdeal.Val.dlArr m c), ?_, ?_⟩
  · refine (θ_run _ _ _).mono (fun r h c => ?_) (θ_run_and (KernelMIdeal.Val.run_values m ρ) (KernelMIdeal.Gen.unchanged m ρ))
    obtain ⟨k0, k1, k2, k3, k4, k5, k6, k7, k8⟩ := h.1 c
    exact ⟨k0, k1, k2, k3, k4, k5, k6, k7, k8, h.2 c⟩
  · refine (θ_run _ _ _).mono (fun r h c => ?_) (θ_run_and (ReferenceMIdeal.Val.run_values m' ρ') (ReferenceMIdeal.Value.run m' ρ'))
    obtain ⟨a0, a1, a2, a3, a4, a5, a6⟩ := he c
    have hf : Pre_finite_m.fn (F := Ideal) (ReferenceMIdeal.Val.argX m' c) (ReferenceMIdeal.Val.argYA m' c) (ReferenceMIdeal.Val.argYB m' c)
        (ReferenceMIdeal.Val.argGA m' c) (ReferenceMIdeal.Val.argGB m' c) (ReferenceMIdeal.Val.argW m' c) (ReferenceMIdeal.Val.argT m' c) = fun _ => 1#1 := by
      unfold ReferenceMIdeal.Val.argX ReferenceMIdeal.Val.argYA ReferenceMIdeal.Val.argYB ReferenceMIdeal.Val.argGA ReferenceMIdeal.Val.argGB
        ReferenceMIdeal.Val.argW ReferenceMIdeal.Val.argT
      rw [a0, a1, a2, a3, a4, a5, a6]
      exact hp c
    obtain ⟨e0, e1, e2, e3, e4, e5, e6, e7, e8⟩ := results m c _ _ _ _ _ _ _ a0 a1 a2 a3 a4 a5 a6 hf
    obtain ⟨k0, k1, k2, k3, k4, k5, k6, k7, k8⟩ := h.1 c
    exact ⟨k0.trans e0, k1.trans e1, k2.trans e2, k3.trans e3, k4.trans e4, k5.trans e5, k6.trans e6, k7.trans e7, k8.trans e8,
      (h.2 c).2.2.2.2.2.2.2.2.2⟩

end Cert.EqM

end
-- ==== Proof.BodyB.lean ====
/- What the body of the attention gradient leaves in its three outputs at a grid point, block by block. -/
module

public import proofs.«01_k».proof.Proof.Gen.KernelIdeal.Frame
public import proofs.«01_k».proof.Proof.Tile
public import Idealize.ShloMosaic.Lib.Pipeline.ReadBack

@[expose] public section

set_option maxRecDepth 16384

noncomputable section

namespace Cert.KernelIdeal.Val
open Idealize.ShloMosaic Idealize.ShloMosaic.TcCoe Idealize.ShloMosaic.Tactic Cert.KernelIdeal Cert.KernelIdeal.Gen Cert.AttnGrad

variable {F : FTy → Type} [FloatOps F]
variable (m : (ℓ : Loc nD τ sig) → Buf (Elt F) ℓ)

/-- At a point that starts a head the query gradient is summed over zeros. -/
theorem body_A (c : Dev nD) (t : Fin cfg0.N) (h0 : t.val % 8 = 0) :
    Blocks (outsAt0 m c t.val t.isLt).2.1 (outsAt0 m c t.val t.isLt).2.2 (outsAt0 m c t.val t.isLt).1
      (dkTile (iblk m c 0 t) (iblk m c 1 t) (iblk m c 2 t) (iblk m c 3 t) (iblk m c 4 t) (iblk m c 5 t))
      (dvTile (iblk m c 0 t) (iblk m c 1 t) (iblk m c 2 t) (iblk m c 4 t))
      (dqBlk (iblk m c 0 t) (iblk m c 1 t) (iblk m c 2 t) (iblk m c 3 t) (iblk m c 4 t) (iblk m c 5 t)
        (k0_pay2 (F := F))) := by
  rw [outsAt0_A m c t h0]
  unfold Blocks
  frame_open
  simp (disch := decide) only [↓ View.readCov_skip, ↓ View.readCov_cons_toLoadRect, ↓ View.readCov_fill]
  frame_out
  simp (disch := decide) only [↓ ld_canon_skip, ↓ ld_canon_cons]
  exact ⟨rfl, rfl, rfl, rfl, rfl, rfl, rfl, rfl, rfl, rfl, rfl, rfl⟩

/-- At a point that goes on with a head the query gradient is summed over what the point before left. -/
theorem body_B (c : Dev nD) (t : Fin cfg0.N) (h0 : ¬t.val % 8 = 0) :
    Blocks (outsAt0 m c t.val t.isLt).2.1 (outsAt0 m c t.val t.isLt).2.2 (outsAt0 m c t.val t.isLt).1
      (dkTile (iblk m c 0 t) (iblk m c 1 t) (iblk m c 2 t) (iblk m c 3 t) (iblk m c 4 t) (iblk m c 5 t))
      (dvTile (iblk m c 0 t) (iblk m c 1 t) (iblk m c 2 t) (iblk m c 4 t))
      (dqBlk (iblk m c 0 t) (iblk m c 1 t) (iblk m c 2 t) (iblk m c 3 t) (iblk m c 4 t) (iblk m c 5 t)
        (outsAt0 m c (t.val - 1) (Nat.lt_of_le_of_lt (Nat.sub_le _ _) t.isLt)).1) := by
  rw [outsAt0_B m c t h0]
  unfold Blocks
  frame_open
  simp (disch := decide) only [↓ View.readCov_skip, ↓ View.readCov_cons_toLoadRect, ↓ View.readCov_fill]
  frame_out
  simp (disch := decide) only [↓ ld_canon_skip, ↓ ld_canon_cons]
  exact ⟨rfl, rfl, rfl, rfl, rfl, rfl, rfl, rfl, rfl, rfl, rfl, rfl⟩

end Cert.KernelIdeal.Val

end
-- ==== Proof.OpsB.lean ====
/- The operands of attention B's gradient, head by head, and what a window's block holds of them. -/
module

public import proofs.«01_k».proof.Proof.BodyB
public import proofs.«01_k».proof.Proof.Sweep

@[expose] public section

set_option maxRecDepth 16384

noncomputable section

namespace Cert.KernelIdeal.Val
open Idealize.ShloMosaic Idealize.ShloMosaic.TcCoe Idealize.ShloMosaic.Tactic Cert.KernelIdeal Cert.KernelIdeal.Gen Cert.AttnGrad

variable (m : (ℓ : Loc nD τ sig) → Buf (Elt Ideal) ℓ)

/-! ## The operands, head by head -/

section
variable (c : Dev nD) (h : Fin 4)
def qOp (R : Fin 8192) (l : Fin 128) : EReal := (V m c main_v47 : Vec Ideal S4x8192x128 .bf16) (ix3 h R l)
def dOp (R : Fin 8192) (l : Fin 128) : EReal := (V m c main_v66 : Vec Ideal S4x8192x128 .bf16) (ix3 h R l)
def lseOp (R : Fin 8192) : EReal := (V m c main_v69 : Vec Ideal S4x8x1x1024 .f32) (ix4 h ⟨R.val / 1024, by omega⟩ 0 ⟨R.val % 1024, by omega⟩)
def deltaOp (R : Fin 8192) : EReal := (V m c main_v70 : Vec Ideal S4x8x1x1024 .f32) (ix4 h ⟨R.val / 1024, by omega⟩ 0 ⟨R.val % 1024, by omega⟩)
def kOp (R : Fin 8192) (l : Fin 128) : EReal := (V m c main_v65 : Vec Ideal S4x8192x128 .bf16) (ix3 h R l)
def vOp (R : Fin 8192) (l : Fin 128) : EReal := (V m c main_v68 : Vec Ideal S4x8192x128 .bf16) (ix3 h R l)
end

/-- The windows' block indices. -/
theorem idx : ∀ t : Fin cfg0.N, win0_0.index t = ![t.val / 8, 0, 0] ∧ win0_1.index t = ![t.val / 8, 0, 0] ∧
    win0_2.index t = ![t.val / 8, 0, 0, 0] ∧ win0_3.index t = ![t.val / 8, 0, 0, 0] ∧
    win0_4.index t = ![t.val / 8, t.val % 8, 0] ∧ win0_5.index t = ![t.val / 8, t.val % 8, 0] ∧
    win0_6.index t = ![t.val / 8, 0, 0] ∧ win0_7.index t = ![t.val / 8, t.val % 8, 0] ∧ win0_8.index t = ![t.val / 8, t.val % 8, 0] :=
  (by decide +kernel : ∀ t : Fin grid0.N, _)

/-- The head of a grid point. -/
def headOf (t : Fin cfg0.N) : Fin 4 := ⟨t.val / 8, by have : t.val < 32 := lt_of_lt_of_eq t.isLt N_0; omega⟩

/-! ## A window's block, read off any array -/

section
variable (t : Fin cfg0.N)

theorem read_q (X : Vec Ideal S4x8192x128 .bf16) (R : Fin 8192) (l : Fin 128) :
    ((cfg0.win 0).blk t).view.read (Elt Ideal) X (ix3 0 R l) = X (ix3 (headOf t) R l) := by
  unfold headOf
  blk_ext [idx t]

theorem read_d (X : Vec Ideal S4x8192x128 .bf16) (R : Fin 8192) (l : Fin 128) :
    ((cfg0.win 1).blk t).view.read (Elt Ideal) X (ix3 0 R l) = X (ix3 (headOf t) R l) := by
  unfold headOf
  blk_ext [idx t]

theorem read_lse (X : Vec Ideal S4x8x1x1024 .f32) (i : Fin 8) (r : Fin 1024) :
    ((cfg0.win 2).blk t).view.read (Elt Ideal) X (ix4 0 i 0 r) = X (ix4 (headOf t) i 0 r) := by
  unfold headOf
  blk_ext [idx t]

theorem read_delta (X : Vec Ideal S4x8x1x1024 .f32) (i : Fin 8) (r : Fin 1024) :
    ((cfg0.win 3).blk t).view.read (Elt Ideal) X (ix4 0 i 0 r) = X (ix4 (headOf t) i 0 r) := by
  unfold headOf
  blk_ext [idx t]

theorem read_k (X : Vec Ideal S4x8192x128 .bf16) (C : Fin 1024) (l : Fin 128) :
    ((cfg0.win 4).blk t).view.read (Elt Ideal) X (ix3 0 C l) = X (ix3 (headOf t) ⟨(pairOf t).val * 1024 + C.val, by omega⟩ l) := by
  unfold headOf pairOf
  blk_ext [idx t]

theorem read_v (X : Vec Ideal S4x8192x128 .bf16) (C : Fin 1024) (l : Fin 128) :
    ((cfg0.win 5).blk t).view.read (Elt Ideal) X (ix3 0 C l) = X (ix3 (headOf t) ⟨(pairOf t).val * 1024 + C.val, by omega⟩ l) := by
  unfold headOf pairOf
  blk_ext [idx t]
end

section
variable (c : Dev nD) (t : Fin cfg0.N)

theorem iblk_q (R : Fin 8192) (l : Fin 128) : (iblk m c 0 t : Vec Ideal Head .bf16) (ix3 0 R l) = qOp m c (headOf t) R l :=
  read_q t (V m c main_v47) R l

theorem iblk_d (R : Fin 8192) (l : Fin 128) : (iblk m c 1 t : Vec Ideal Head .bf16) (ix3 0 R l) = dOp m c (headOf t) R l :=
  read_d t (V m c main_v66) R l

theorem iblk_lse (R : Fin 8192) : statAt (iblk m c 2 t) R = lseOp m c (headOf t) R :=
  read_lse t (V m c main_v69) _ _

theorem iblk_delta (R : Fin 8192) : statAt (iblk m c 3 t) R = deltaOp m c (headOf t) R :=
  read_delta t (V m c main_v70) _ _

theorem iblk_k (C : Fin 1024) (l : Fin 128) :
    (iblk m c 4 t : Vec Ideal Tiles .bf16) (ix3 0 C l) = kOp m c (headOf t) ⟨(pairOf t).val * 1024 + C.val, by omega⟩ l :=
  read_k t (V m c main_v65) C l

theorem iblk_v (C : Fin 1024) (l : Fin 128) :
    (iblk m c 5 t : Vec Ideal Tiles .bf16) (ix3 0 C l) = vOp m c (headOf t) ⟨(pairOf t).val * 1024 + C.val, by omega⟩ l :=
  read_v t (V m c main_v68) C l

end

end Cert.KernelIdeal.Val

end
-- ==== Proof.PointsB.lean ====
/- Attention B's gradient as a sweep over its grid. -/
module

public import proofs.«01_k».proof.Proof.OpsB
public import Idealize.ShloMosaic.Lib.Pointwise

@[expose] public section

set_option maxRecDepth 16384

noncomputable section

namespace Cert.KernelIdeal.Val
open Idealize.ShloMosaic Idealize.ShloMosaic.TcCoe Idealize.ShloMosaic.Tactic Cert.KernelIdeal Cert.KernelIdeal.Gen Cert.AttnGrad

variable (m : (ℓ : Loc nD τ sig) → Buf (Elt Ideal) ℓ)

theorem zeros_apply (R : Fin 8192) (l : Fin 128) : (k0_pay2 (F := Ideal)) (ix3 0 R l) = 0 := by
  unfold k0_pay2
  pointwise

section
variable (c : Dev nD) (t : Fin cfg0.N)
/-- The operands' blocks at a grid point, and the three buffers after point `n`. -/
def qAt : Vec Ideal Head .bf16 := iblk m c 0 t
def dAt : Vec Ideal Head .bf16 := iblk m c 1 t
def lAt : Vec Ideal Stats .f32 := iblk m c 2 t
def eAt : Vec Ideal Stats .f32 := iblk m c 3 t
def kAt : Vec Ideal Tiles .bf16 := iblk m c 4 t
def vAt : Vec Ideal Tiles .bf16 := iblk m c 5 t
def buffers (n : ℕ) (h : n < cfg0.N) : Vec Ideal Head .f32 × Vec Ideal Tiles .f32 × Vec Ideal Tiles .f32 := outsAt0 m c n h
end

theorem sweep (c : Dev nD) : Sweep headOf (qOp m c) (dOp m c) (lseOp m c) (deltaOp m c) (kOp m c) (vOp m c)
    (qAt m c) (dAt m c) (lAt m c) (eAt m c) (kAt m c) (vAt m c) (buffers m c) where
  q_eq t R l := iblk_q m c t R l
  d_eq t R l := iblk_d m c t R l
  l_eq t R := iblk_lse m c t R
  e_eq t R := iblk_delta m c t R
  k_eq t C l := iblk_k m c t C l
  v_eq t C l := iblk_v m c t C l
  same _ _ _ := Fin.ext (by unfold headOf; simp only; omega)
  first t h0 := ⟨k0_pay2 (F := Ideal), zeros_apply, body_A m c t h0⟩
  next t h0 := body_B m c t h0

end Cert.KernelIdeal.Val

end
-- ==== Proof.ArrB.lean ====
/- What the attention gradient's three arrays hold after the grid: the head's gradient, key by key and row by row. -/
module

public import proofs.«01_k».proof.Proof.PointsB

@[expose] public section

set_option maxRecDepth 16384

noncomputable section

namespace Cert.KernelIdeal.Val
open Idealize.ShloMosaic Idealize.ShloMosaic.TcCoe Idealize.ShloMosaic.Tactic Cert.KernelIdeal Cert.KernelIdeal.Gen Cert.AttnGrad

variable (m : (ℓ : Loc nD τ sig) → Buf (Elt Ideal) ℓ)

/-! ## The arrays after the grid -/

def dkArr (c : Dev nD) : Vec Ideal S4x8192x128 .f32 := fun i =>
  dkH (qOp m c (i 0)) (dOp m c (i 0)) (lseOp m c (i 0)) (deltaOp m c (i 0)) (kOp m c (i 0)) (vOp m c (i 0)) (i 1) (i 2)

def dvArr (c : Dev nD) : Vec Ideal S4x8192x128 .f32 := fun i =>
  dvH (qOp m c (i 0)) (dOp m c (i 0)) (lseOp m c (i 0)) (kOp m c (i 0)) (i 1) (i 2)

def dqArr (c : Dev nD) : Vec Ideal S4x8192x128 .f32 := fun i =>
  dqH (qOp m c (i 0)) (dOp m c (i 0)) (lseOp m c (i 0)) (deltaOp m c (i 0)) (kOp m c (i 0)) (vOp m c (i 0)) (i 1) (i 2)

section
variable (t : Fin cfg0.N)

theorem read_dq (X : Vec Ideal S4x8192x128 .f32) (R : Fin 8192) (l : Fin 128) :
    ((cfg0.win 6).blk t).view.read (Elt Ideal) X (ix3 0 R l) = X (ix3 (headOf t) R l) := by
  unfold headOf
  blk_ext [idx t]

theorem read_dk (X : Vec Ideal S4x8192x128 .f32) (C : Fin 1024) (l : Fin 128) :
    ((cfg0.win 7).blk t).view.read (Elt Ideal) X (ix3 0 C l) = X (ix3 (headOf t) ⟨(pairOf t).val * 1024 + C.val, by omega⟩ l) := by
  unfold headOf pairOf
  blk_ext [idx t]

theorem read_dv (X : Vec Ideal S4x8192x128 .f32) (C : Fin 1024) (l : Fin 128) :
    ((cfg0.win 8).blk t).view.read (Elt Ideal) X (ix3 0 C l) = X (ix3 (headOf t) ⟨(pairOf t).val * 1024 + C.val, by omega⟩ l) := by
  unfold headOf pairOf
  blk_ext [idx t]
end

/-- The points that write the query gradient back are a head's last ones. -/
theorem flush_dq : ∀ t : Fin cfg0.N, (cfg0.win 6).flush t = true → t.val % 8 = 7 := by decide +kernel

theorem cut_dk (t : Fin cfg0.N) (x : Vec Ideal Tiles .f32) (X : Vec Ideal S4x8192x128 .f32)
    (h : ∀ C l, x (ix3 0 C l) = ((cfg0.win 7).blk t).view.read (Elt Ideal) X (ix3 0 C l))
    (y : ((cfg0.win 7).xblock (cfg0.grid.coords t)).Idx) : x y = X ((win0_7.blk t).view.emb y) :=
  congrFun (tiles_funext (y := ((cfg0.win 7).blk t).view.read (Elt Ideal) X) h) y

theorem final_dk (c : Dev nD) : (dats m 0 c).arrAt 7 (cfgs 0).N = dkArr m c := by
  refine (dats m 0 c).arrAt_eq_of_covers 7 _ (by decide +kernel) fun t hf y => ?_
  blk_simp
  rw [after0_7]
  exact cut_dk t _ _ (fun C l => ((sweep m c).dk t C l).trans (read_dk t (dkArr m c) C l).symm) y

theorem cut_dv (t : Fin cfg0.N) (x : Vec Ideal Tiles .f32) (X : Vec Ideal S4x8192x128 .f32)
    (h : ∀ C l, x (ix3 0 C l) = ((cfg0.win 8).blk t).view.read (Elt Ideal) X (ix3 0 C l))
    (y : ((cfg0.win 8).xblock (cfg0.grid.coords t)).Idx) : x y = X ((win0_8.blk t).view.emb y) :=
  congrFun (tiles_funext (y := ((cfg0.win 8).blk t).view.read (Elt Ideal) X) h) y

theorem final_dv (c : Dev nD) : (dats m 0 c).arrAt 8 (cfgs 0).N = dvArr m c := by
  refine (dats m 0 c).arrAt_eq_of_covers 8 _ (by decide +kernel) fun t hf y => ?_
  blk_simp
  rw [after0_8]
  exact cut_dv t _ _ (fun C l => ((sweep m c).dv t C l).trans (read_dv t (dvArr m c) C l).symm) y

theorem cut_dq (t : Fin cfg0.N) (x : Vec Ideal Head .f32) (X : Vec Ideal S4x8192x128 .f32)
    (h : ∀ R l, x (ix3 0 R l) = ((cfg0.win 6).blk t).view.read (Elt Ideal) X (ix3 0 R l))
    (y : ((cfg0.win 6).xblock (cfg0.grid.coords t)).Idx) : x y = X ((win0_6.blk t).view.emb y) :=
  congrFun (head_funext (y := ((cfg0.win 6).blk t).view.read (Elt Ideal) X) h) y

theorem final_dq (c : Dev nD) : (dats m 0 c).arrAt 6 (cfgs 0).N = dqArr m c := by
  refine (dats m 0 c).arrAt_eq_of_covers 6 _ (by decide +kernel) fun t hf y => ?_
  have h7 := flush_dq t hf
  blk_simp
  rw [after0_6]
  refine cut_dq t _ _ (fun R l => ((sweep m c).dq t h7 R l).trans (read_dq t (dqArr m c) R l).symm) y

end Cert.KernelIdeal.Val

end
-- ==== Proof.HostB.lean ====
/- What the lines before attention B's gradient compute: its operands as terms of the arguments. -/
module

public import proofs.«01_k».proof.Proof.Gen.KernelIdeal.Frame
public import Idealize.ShloMosaic.Lib.Claim
public import Idealize.ShloMosaic.PureOps.Ideal

@[expose] public section

set_option maxRecDepth 16384

noncomputable section

namespace Cert.KernelIdeal.Val
open Idealize.ShloMosaic Idealize.ShloMosaic.TcCoe Idealize.ShloMosaic.Tactic Cert.KernelIdeal Cert.KernelIdeal.Gen

/-! ## The stages -/

section
variable (q k : FVec Ideal S1x4x8192x96 .f32) (v : FVec Ideal S1x4x8192x128 .f32) (ct : FVec Ideal S1x8192x512 .f32)
  (s e : FVec Ideal S4x8192x8192 .f32) (do_ : FVec Ideal S4x8192x128 .f32)

/-- √96. -/
def root : FVec Ideal S_ .f32 := Host.sqrt (constant S_ .f32 0x42C00000#32)
/-- log 2. -/
def ln2 : FVec Ideal S_ .f32 := Host.log (constant S_ .f32 0x40000000#32)
/-- The scaled scores. -/
def hS : FVec Ideal S4x8192x8192 .f32 :=
  Host.divf (Host.dotGeneral dot_S4x8192x96_S4x8192x96_S4x8192x8192_2_2_1_1_0_0 none (shapeCast S4x8192x96 q shapeCasts_S1x4x8192x96_S4x8192x96)
    (shapeCast S4x8192x96 k shapeCasts_S1x4x8192x96_S4x8192x96)) (broadcastInDim S4x8192x8192 ![] bcast_S_S4x8192x8192 root)
/-- A row's greatest score. -/
def hM : FVec Ideal S4x8192x1 .f32 :=
  broadcastInDim S4x8192x1 ![0, 1] bcast_S4x8192_S4x8192x1_0_1
    (Host.reduce FloatOps.maximumf s (constant S_ .f32 0xFF800000#32) reducesTo_S4x8192x8192_S4x8192_d2 h_S_)
/-- The exponentials. -/
def hE : FVec Ideal S4x8192x8192 .f32 :=
  Host.exp (subf s (broadcastInDim S4x8192x8192 ![0, 1, 2] bcast_S4x8192x1_S4x8192x8192_0_1_2 (hM s)))
/-- A row's sum. -/
def hL : FVec Ideal S4x8192x1 .f32 :=
  broadcastInDim S4x8192x1 ![0, 1] bcast_S4x8192_S4x8192x1_0_1
    (Host.reduceAdd e (constant S_ .f32 0x00000000#32) reducesTo_S4x8192x8192_S4x8192_d2 h_S_)
/-- A row's saved logarithm, base two. -/
def hLse : FVec Ideal S4x8192x1 .f32 :=
  Host.divf (addf (hM s) (Host.log (hL (hE s)))) (broadcastInDim S4x8192x1 ![] bcast_S_S4x8192x1 ln2)
/-- The cotangent, head by head. -/
def hDo : FVec Ideal S4x8192x128 .f32 :=
  transpose S4x8192x128 [1, 0, 2] (shapeCast S8192x4x128 ct shapeCasts_S1x8192x512_S8192x4x128) transposes_S8192x4x128_S4x8192x128_1_0_2
/-- The values, head by head. -/
def hV : FVec Ideal S4x8192x128 .f32 := shapeCast S4x8192x128 v shapeCasts_S1x4x8192x128_S4x8192x128
/-- The output. -/
def hO : FVec Ideal S4x8192x128 .f32 :=
  Host.dotGeneral dot_S4x8192x8192_S4x8192x128_S4x8192x128_2_1_1_2_0_0 none
    (Host.divf (hE s) (broadcastInDim S4x8192x8192 ![0, 1, 2] bcast_S4x8192x1_S4x8192x8192_0_1_2 (hL (hE s)))) (hV v)
/-- A row's sum of cotangent times output. -/
def hDelta : FVec Ideal S4x8192 .f32 :=
  Host.reduceAdd (mulf do_ (hO v s)) (constant S_ .f32 0x00000000#32) reducesTo_S4x8192x128_S4x8192_d2 h_S_
/-- A head's features over the lanes. -/
def hSpread : FVec Ideal S4x8192x128 .f32 :=
  let x : FVec Ideal S4x8192x1x96 .f32 :=
    shapeCast S4x8192x1x96 (shapeCast S4x8192x96 q shapeCasts_S1x4x8192x96_S4x8192x96) shapeCasts_S4x8192x96_S4x8192x1x96
  let z : FVec Ideal S4x8192x1x0 .f32 := broadcastInDim S4x8192x1x0 ![] bcast_S_S4x8192x1x0 (constant S_ .f32 0x00000000#32)
  let w : FVec Ideal S4x8192x1x16 .f32 := broadcastInDim S4x8192x1x16 ![] bcast_S_S4x8192x1x16 (constant S_ .f32 0x00000000#32)
  shapeCast S4x8192x128 (concatenate S4x8192x1x128 3
    [⟨S4x8192x1x0, z⟩, ⟨S4x8192x1x8, extractStridedSlice S4x8192x1x8 ![0, 0, 0, 64] x slices_S4x8192x1x96_S4x8192x1x8_0_0_0_64⟩,
      ⟨S4x8192x1x0, z⟩, ⟨S4x8192x1x8, extractStridedSlice S4x8192x1x8 ![0, 0, 0, 80] x slices_S4x8192x1x96_S4x8192x1x8_0_0_0_80⟩,
      ⟨S4x8192x1x0, z⟩, ⟨S4x8192x1x32, extractStridedSlice S4x8192x1x32 ![0, 0, 0, 0] x slices_S4x8192x1x96_S4x8192x1x32_0_0_0_0⟩,
      ⟨S4x8192x1x16, w⟩, ⟨S4x8192x1x8, extractStridedSlice S4x8192x1x8 ![0, 0, 0, 72] x slices_S4x8192x1x96_S4x8192x1x8_0_0_0_72⟩,
      ⟨S4x8192x1x0, z⟩, ⟨S4x8192x1x8, extractStridedSlice S4x8192x1x8 ![0, 0, 0, 88] x slices_S4x8192x1x96_S4x8192x1x8_0_0_0_88⟩,
      ⟨S4x8192x1x0, z⟩, ⟨S4x8192x1x32, extractStridedSlice S4x8192x1x32 ![0, 0, 0, 32] x slices_S4x8192x1x96_S4x8192x1x32_0_0_0_32⟩,
      ⟨S4x8192x1x16, w⟩]
    concatenates_S4x8192x1x0_S4x8192x1x8_S4x8192x1x0_S4x8192x1x8_S4x8192x1x0_S4x8192x1x32_S4x8192x1x16_S4x8192x1x8_S4x8192x1x0_S4x8192x1x8_S4x8192x1x0_S4x8192x1x32_S4x8192x1x16_S4x8192x1x128_d3)
    shapeCasts_S4x8192x1x128_S4x8192x128
/-- The query operand. -/
def hQ : FVec Ideal S4x8192x128 .f32 := Host.divf (hSpread q) (broadcastInDim S4x8192x128 ![] bcast_S_S4x8192x128 (mulf root ln2))

end

/-! ## The buffers when the grid starts -/

variable (m : (ℓ : Loc nD τ sig) → Buf (Elt Ideal) ℓ) (c : Dev nD)

def argQ : FVec Ideal S1x4x8192x96 .f32 := m ((c.tc : Thread nD τ).loc main_arg0)
def argK : FVec Ideal S1x4x8192x96 .f32 := m ((c.tc : Thread nD τ).loc main_arg1)
def argV : FVec Ideal S1x4x8192x128 .f32 := m ((c.tc : Thread nD τ).loc main_arg2)
def argCt : FVec Ideal S1x8192x512 .f32 := m ((c.tc : Thread nD τ).loc main_arg3)

theorem after_append (A B : List (HloOp τ sig (Elt Ideal))) (W : Valuation τ sig (Elt Ideal)) :
    StableHlo.after (A ++ B) W = StableHlo.after B (StableHlo.after A W) := by
  induction A generalizing W with
  | nil => rfl
  | cons a A ih => exact ih _

/-- The contents after the first `n` lines. -/
def upToLine (n : ℕ) : Valuation τ sig (Elt Ideal) := StableHlo.after (List.take n hostOps0) (fun b => m (c, b))

theorem V_eq (n : ℕ) (b : Ref sig .tc) : V m c b = StableHlo.after (List.drop n hostOps0) (upToLine m c n) b := by
  unfold V V0 upToLine
  rw [← after_append, List.take_append_drop, List.flatten_cons, List.flatten_nil, List.append_nil]

theorem V_zero (b : Ref sig .tc) : V m c b = StableHlo.after hostOps0 (fun b => m (c, b)) b := V_eq m c 0 b

theorem V_lse : V m c main_v69 = shapeCast S4x8x1x1024 (hLse (hS (argQ m c) (argK m c))) shapeCasts_S4x8192x1_S4x8x1x1024 := by
  rw [V_zero]
  entry_read
  rfl

theorem V_delta : V m c main_v70 =
    shapeCast S4x8x1x1024 (hDelta (argV m c) (hS (argQ m c) (argK m c)) (hDo (argCt m c))) shapeCasts_S4x8192_S4x8x1x1024 := by
  rw [V_zero]
  entry_read
  rfl

theorem V_do : V m c main_v66 = truncf .bf16 (hDo (argCt m c)) bitsLt_bf16_f32 := by
  rw [V_zero]
  entry_read
  rfl

theorem V_v : V m c main_v68 = truncf .bf16 (hV (argV m c)) bitsLt_bf16_f32 := by
  rw [V_zero]
  entry_read
  rfl

theorem V_q : V m c main_v47 = truncf .bf16 (hQ (argQ m c)) bitsLt_bf16_f32 := by
  rw [V_eq m c 53]
  generalize hW : upToLine m c 53 = W
  simp only [List.drop_succ_cons, List.drop_zero]
  entry_read
  simp only [Matrix.cons_val]
  subst hW
  unfold upToLine
  simp only [List.take_succ_cons, List.take_zero]
  entry_read
  rfl

theorem V_k : V m c main_v65 = truncf .bf16 (hSpread (argK m c)) bitsLt_bf16_f32 := by
  rw [V_eq m c 83]
  generalize hW : upToLine m c 83 = W
  simp only [List.drop_succ_cons, List.drop_zero]
  entry_read
  simp only [Matrix.cons_val]
  subst hW
  unfold upToLine
  simp only [List.take_succ_cons, List.take_zero]
  entry_read
  rfl

end Cert.KernelIdeal.Val

end
-- ==== Proof.HostReal.lean ====
/- The operands of attention B's gradient at an index, for finite arguments. -/
module

public import proofs.«01_k».proof.Proof.HostB
public import proofs.«01_k».proof.Proof.AttnReal

@[expose] public section

set_option maxRecDepth 16384

noncomputable section

namespace Cert.KernelIdeal.Val
open Idealize.ShloMosaic Idealize.ShloMosaic.TcCoe Idealize.ShloMosaic.Tactic Cert.KernelIdeal Cert.KernelIdeal.Gen Cert.AttnGrad
open scoped BigOperators

theorem root_apply (i : S_.Idx) : root i = ((Real.sqrt 96 : ℝ) : EReal) := by
  show Ideal.sqrt (Ideal.ofBits .f32 0x42C00000#32) = _
  rw [ofBits_96, sqrt_real _ (by norm_num)]

theorem ln2_apply (i : S_.Idx) : ln2 i = ((Real.log 2 : ℝ) : EReal) := by
  show Ideal.log (Ideal.ofBits .f32 0x40000000#32) = _
  rw [ofBits_two, log_real _ two_pos]

variable {q k : FVec Ideal S1x4x8192x96 .f32} {v : FVec Ideal S1x4x8192x128 .f32} {ct : FVec Ideal S1x8192x512 .f32}
  {Q K : Fin 4 → Fin 8192 → Fin 96 → ℝ} {V D : Fin 4 → Fin 8192 → Fin 128 → ℝ}

theorem hS_apply (hq : ∀ h R j, q (ix4 0 h R j) = ((Q h R j : ℝ) : EReal)) (hk : ∀ h R j, k (ix4 0 h R j) = ((K h R j : ℝ) : EReal))
    (h : Fin 4) (R C : Fin 8192) : hS q k (ix3 h R C) = ((score scaleB (Q h) (K h) C R : ℝ) : EReal) := by
  unfold hS
  pointwise
  rw [root_apply]
  simp only [hq, hk, ← EReal.coe_mul]
  rw [coe_sum, div_real _ _ sqrt96_ne]
  unfold score scaleB
  rw [mul_one_div]

theorem hM_apply (s : FVec Ideal S4x8192x8192 .f32) (h : Fin 4) (R : Fin 8192) :
    hM s (ix3 h R 0) = Finset.fold max (Ideal.ofBits .f32 0xFF800000#32) (fun C => s (ix3 h R C)) Finset.univ := by
  unfold hM
  pointwise

theorem hE_apply (s : FVec Ideal S4x8192x8192 .f32) (h : Fin 4) (R C : Fin 8192) :
    hE s (ix3 h R C) = Ideal.exp (s (ix3 h R C) - hM s (ix3 h R 0)) := by
  unfold hE
  pointwise

theorem hL_apply (s : FVec Ideal S4x8192x8192 .f32) (h : Fin 4) (R : Fin 8192) : hL s (ix3 h R 0) = ∑ C, s (ix3 h R C) := by
  unfold hL
  pointwise

theorem lse_apply (x y : FVec Ideal S4x8192x1 .f32) (z : FVec Ideal S_ .f32) (h : Fin 4) (R : Fin 8192) :
    Host.divf (addf x (Host.log y)) (broadcastInDim S4x8192x1 ![] bcast_S_S4x8192x1 z) (ix3 h R 0) =
      Ideal.div (x (ix3 h R 0) + Ideal.log (y (ix3 h R 0))) (z ix0) := by
  pointwise

theorem hLse_apply (s : FVec Ideal S4x8192x8192 .f32) (h : Fin 4) (R : Fin 8192) :
    hLse s (ix3 h R 0) = Ideal.div (hM s (ix3 h R 0) + Ideal.log (hL (hE s) (ix3 h R 0))) ((Real.log 2 : ℝ) : EReal) := by
  rw [hLse, lse_apply, ln2_apply]

theorem stat_apply (x : FVec Ideal S4x8192x1 .f32) (h : Fin 4) (i : Fin 8) (r : Fin 1024) :
    shapeCast S4x8x1x1024 x shapeCasts_S4x8192x1_S4x8x1x1024 (ix4 h i 0 r) = x (ix3 h ⟨i.val * 1024 + r.val, by omega⟩ 0) := by
  pointwise

theorem stat_apply' (x : FVec Ideal S4x8192 .f32) (h : Fin 4) (i : Fin 8) (r : Fin 1024) :
    shapeCast S4x8x1x1024 x shapeCasts_S4x8192_S4x8x1x1024 (ix4 h i 0 r) = x (ix2 h ⟨i.val * 1024 + r.val, by omega⟩) := by
  pointwise

theorem hDo_apply (h : Fin 4) (R : Fin 8192) (l : Fin 128) : hDo ct (ix3 h R l) = ct (ix3 0 R (colB h l)) := by
  unfold hDo
  pointwise
  rfl

theorem hV_apply (h : Fin 4) (R : Fin 8192) (l : Fin 128) : hV v (ix3 h R l) = v (ix4 0 h R l) := by
  unfold hV
  pointwise

theorem hO_apply (s : FVec Ideal S4x8192x8192 .f32) (h : Fin 4) (R : Fin 8192) (l : Fin 128) :
    hO v s (ix3 h R l) = ∑ C, Ideal.div (hE s (ix3 h R C)) (hL (hE s) (ix3 h R 0)) * v (ix4 0 h C l) := by
  unfold hO
  pointwise
  simp only [hV_apply]

theorem hDelta_apply (s : FVec Ideal S4x8192x8192 .f32) (do_ : FVec Ideal S4x8192x128 .f32) (h : Fin 4) (R : Fin 8192) :
    hDelta v s do_ (ix2 h R) = ∑ l, do_ (ix3 h R l) * hO v s (ix3 h R l) := by
  unfold hDelta
  pointwise

/-! ## The features' lanes -/

/-- The lane of feature `j`: the rotated pairs' halves first, the plain features behind them, in each half of the lanes. -/
def laneB (j : Fin 96) : Fin 128 :=
  ⟨if j.val < 32 then 16 + j.val else if j.val < 64 then 48 + j.val else if j.val < 72 then j.val - 64 else if j.val < 80 then j.val - 8
    else if j.val < 88 then j.val - 72 else j.val - 16, by have := j.isLt; split_ifs <;> omega⟩

theorem laneB_inj : Function.Injective laneB := by decide +kernel

theorem hSpread_ladder (a : Fin 4) (R : Fin 8192) (l : Fin 128) : hSpread q (ix3 a R l) =
    (if h : l.val < 0 then 0
    else if h_1 : l.val < 8 then q (ix4 0 a R ⟨64 + l.val, by omega⟩)
    else if h : l.val - 8 < 0 then 0
    else if h_2 : l.val - 8 < 8 then q (ix4 0 a R ⟨80 + (l.val - 8), by omega⟩)
    else if h : l.val - 8 - 8 < 0 then 0
    else if h_3 : l.val - 8 - 8 < 32 then q (ix4 0 a R ⟨l.val - 8 - 8, by omega⟩)
    else if h : l.val - 8 - 8 - 32 < 16 then 0
    else if h_4 : l.val - 8 - 8 - 32 - 16 < 8 then q (ix4 0 a R ⟨72 + (l.val - 8 - 8 - 32 - 16), by omega⟩)
    else if h : l.val - 8 - 8 - 32 - 16 - 8 < 0 then 0
    else if h_5 : l.val - 8 - 8 - 32 - 16 - 8 < 8 then q (ix4 0 a R ⟨88 + (l.val - 8 - 8 - 32 - 16 - 8), by omega⟩)
    else if h : l.val - 8 - 8 - 32 - 16 - 8 - 8 < 0 then 0
    else if h_6 : l.val - 8 - 8 - 32 - 16 - 8 - 8 < 32 then q (ix4 0 a R ⟨32 + (l.val - 8 - 8 - 32 - 16 - 8 - 8), by omega⟩)
    else 0 : EReal) := by
  unfold hSpread
  pointwise

theorem hSpread_lane (a : Fin 4) (R : Fin 8192) (j : Fin 96) : hSpread q (ix3 a R (laneB j)) = q (ix4 0 a R j) := by
  obtain ⟨l, hl⟩ : ∃ l, l = laneB j := ⟨_, rfl⟩
  rw [← hl, hSpread_ladder]
  have hv : l.val = (laneB j).val := congrArg Fin.val hl
  unfold laneB at hv
  have := j.isLt
  simp only at hv
  split_ifs at hv
  all_goals repeat first
    | exact (dif_pos (by omega)).trans (congrArg (fun j => q (ix4 0 a R j)) (Fin.ext (by simp only; omega)))
    | refine (dif_neg (by omega)).trans ?_

theorem hSpread_off (a : Fin 4) (R : Fin 8192) (l : Fin 128) (hl : l ∉ Set.range laneB) : hSpread q (ix3 a R l) = 0 := by
  rw [hSpread_ladder]
  have hv : 48 ≤ l.val ∧ l.val < 64 ∨ 112 ≤ l.val := by
    revert l
    decide +kernel
  rcases hv with hv | hv
  all_goals repeat first
    | rfl
    | exact dif_pos (by omega)
    | refine (dif_neg (by omega)).trans ?_

theorem scaled_apply (x : FVec Ideal S4x8192x128 .f32) (y z : FVec Ideal S_ .f32) (a : Fin 4) (R : Fin 8192) (l : Fin 128) :
    Host.divf x (broadcastInDim S4x8192x128 ![] bcast_S_S4x8192x128 (mulf y z)) (ix3 a R l) = Ideal.div (x (ix3 a R l)) (y ix0 * z ix0) := by
  pointwise

theorem hQ_apply (a : Fin 4) (R : Fin 8192) (l : Fin 128) :
    hQ q (ix3 a R l) = Ideal.div (hSpread q (ix3 a R l)) ((Real.sqrt 96 * Real.log 2 : ℝ) : EReal) := by
  rw [hQ, scaled_apply, root_apply, ln2_apply, EReal.coe_mul]

theorem trunc_apply {s : Shape} (x : FVec Ideal s .f32) (i : s.Idx) : truncf .bf16 x bitsLt_bf16_f32 i = x i := rfl

end Cert.KernelIdeal.Val

end
-- ==== Proof.KernelB.lean ====
/- What attention B's gradient leaves in its three arrays, for finite arguments. -/
module

public import proofs.«01_k».proof.Proof.ArrB
public import proofs.«01_k».proof.Proof.HostReal

@[expose] public section

set_option maxRecDepth 16384

noncomputable section

namespace Cert.KernelIdeal.Val
open Idealize.ShloMosaic Idealize.ShloMosaic.TcCoe Idealize.ShloMosaic.Tactic Cert.KernelIdeal Cert.KernelIdeal.Gen Cert.AttnGrad
open scoped BigOperators

section
variable {q k : FVec Ideal S1x4x8192x96 .f32} {v : FVec Ideal S1x4x8192x128 .f32} {ct : FVec Ideal S1x8192x512 .f32}
  {Q K : Fin 4 → Fin 8192 → Fin 96 → ℝ} {V D : Fin 4 → Fin 8192 → Fin 128 → ℝ} {M : Fin 4 → Fin 8192 → ℝ}
  (hq : ∀ h R j, q (ix4 0 h R j) = ((Q h R j : ℝ) : EReal)) (hk : ∀ h R j, k (ix4 0 h R j) = ((K h R j : ℝ) : EReal))
  (hv : ∀ h R l, v (ix4 0 h R l) = ((V h R l : ℝ) : EReal))
  (hD : ∀ (h : Fin 4) (R : Fin 8192) (l : Fin 128), ct (ix3 0 R (colB h l)) = ((D h R l : ℝ) : EReal))
  (hM : ∀ h R, hM (hS q k) (ix3 h R 0) = ((M h R : ℝ) : EReal))

include hq hk in
theorem exists_max : ∃ M : Fin 4 → Fin 8192 → ℝ, ∀ h R, Val.hM (hS q k) (ix3 h R 0) = ((M h R : ℝ) : EReal) := by
  have : ∀ h R, IsReal (Val.hM (hS q k) (ix3 h R 0)) := fun h R => by
    rw [hM_apply]
    exact fold_max_real _ ofBits_bot _ _ ⟨0, Finset.mem_univ _⟩ fun C => ⟨_, hS_apply hq hk h R C⟩
  choose M hM using this
  exact ⟨M, hM⟩

include hq hk hM

theorem hE_real (h : Fin 4) (R C : Fin 8192) : hE (hS q k) (ix3 h R C) = ((Real.exp (score scaleB (Q h) (K h) C R - M h R) : ℝ) : EReal) := by
  rw [hE_apply, hS_apply hq hk, hM, ← EReal.coe_sub, Ideal.exp_coe]

theorem hL_real (h : Fin 4) (R : Fin 8192) : hL (hE (hS q k)) (ix3 h R 0) = ((shifted scaleB (Q h) (K h) (M h R) R : ℝ) : EReal) := by
  rw [hL_apply]
  simp only [hE_real hq hk hM]
  exact coe_sum _ _

theorem hLse_real (h : Fin 4) (R : Fin 8192) : hLse (hS q k) (ix3 h R 0) =
    (((M h R + Real.log (shifted scaleB (Q h) (K h) (M h R) R)) / Real.log 2 : ℝ) : EReal) := by
  rw [hLse_apply, hL_real hq hk hM, hM, log_real _ (shifted_pos ..), ← EReal.coe_add, div_real _ _ log2_ne]

include hv in
theorem hO_real (h : Fin 4) (R : Fin 8192) (l : Fin 128) : hO v (hS q k) (ix3 h R l) =
    ((∑ C, prob scaleB (Q h) (K h) C R * V h C l : ℝ) : EReal) := by
  rw [hO_apply, ← coe_sum]
  refine Finset.sum_congr rfl fun C _ => ?_
  rw [hE_real hq hk hM, hL_real hq hk hM, div_real _ _ (shifted_pos ..).ne', shifted_prob, hv, EReal.coe_mul]

include hv hD in
theorem hDelta_real (h : Fin 4) (R : Fin 8192) : hDelta v (hS q k) (hDo ct) (ix2 h R) =
    ((rowDot scaleB (Q h) (K h) (V h) (D h) R : ℝ) : EReal) := by
  rw [hDelta_apply]
  simp only [hDo_apply, hD, hO_real hq hk hv hM, ← EReal.coe_mul]
  rw [coe_sum, rowDot_eq]

end

variable (m : (ℓ : Loc nD τ sig) → Buf (Elt Ideal) ℓ) (c : Dev nD)
  {Q K : Fin 4 → Fin 8192 → Fin 96 → ℝ} {V D : Fin 4 → Fin 8192 → Fin 128 → ℝ} {M : Fin 4 → Fin 8192 → ℝ}

/-- The grid's operands for one head. -/
theorem operands (hq : ∀ h R j, argQ m c (ix4 0 h R j) = ((Q h R j : ℝ) : EReal)) (hk : ∀ h R j, argK m c (ix4 0 h R j) = ((K h R j : ℝ) : EReal))
    (hv : ∀ h R l, argV m c (ix4 0 h R l) = ((V h R l : ℝ) : EReal))
    (hD : ∀ (h : Fin 4) (R : Fin 8192) (l : Fin 128), argCt m c (ix3 0 R (colB h l)) = ((D h R l : ℝ) : EReal))
    (hM : ∀ h R, Val.hM (hS (argQ m c) (argK m c)) (ix3 h R 0) = ((M h R : ℝ) : EReal)) (h : Fin 4) :
    Operands scaleB (Q h) (K h) (V h) (D h) laneB (M h) (qOp m c h) (dOp m c h) (lseOp m c h) (deltaOp m c h) (kOp m c h) (vOp m c h) where
  inj := laneB_inj
  q_lane R j := by
    rw [qOp, V_q, trunc_apply, hQ_apply, hSpread_lane, hq, div_real _ _ (mul_ne_zero sqrt96_ne log2_ne)]
    congr 1
    unfold scaleB
    rw [div_div, mul_one_div]
  k_lane C j := by
    rw [kOp, V_k, trunc_apply, hSpread_lane, hk]
  k_off C l hl := by
    rw [kOp, V_k, trunc_apply, hSpread_off h C l hl]
  vd C R := by
    simp only [vOp, dOp]
    unfold cot
    rw [← coe_sum]
    refine Finset.sum_congr rfl fun l _ => ?_
    rw [V_v, V_do, trunc_apply, trunc_apply, hV_apply, hDo_apply, hv, hD, EReal.coe_mul]
  lse_eq R := by
    rw [lseOp, V_lse, stat_apply]
    have hR : (⟨R.val / 1024 * 1024 + R.val % 1024, by omega⟩ : Fin 8192) = R := Fin.ext (by simp only; omega)
    rw [hR]
    exact hLse_real hq hk hM h R
  delta_eq R := by
    rw [deltaOp, V_delta, stat_apply']
    have hR : (⟨R.val / 1024 * 1024 + R.val % 1024, by omega⟩ : Fin 8192) = R := Fin.ext (by simp only; omega)
    rw [hR]
    exact hDelta_real hq hk hv hD hM h R

end Cert.KernelIdeal.Val

end
-- ==== Proof.TailB.lean ====
/- What the lines after attention B's gradient make of it: the three results as terms of the gradient's arrays. -/
module

public import proofs.«01_k».proof.Proof.KernelB
public import Idealize.ShloMosaic.Lib.Pipeline.FrameSuffix

@[expose] public section

set_option maxRecDepth 16384

noncomputable section

namespace Cert.KernelIdeal.Val
open Idealize.ShloMosaic Idealize.ShloMosaic.TcCoe Idealize.ShloMosaic.Tactic Idealize.SL.Sem Cert.KernelIdeal Cert.KernelIdeal.Gen Cert.AttnGrad

/-- The lanes of a head back in the order of its features. -/
def hUnspread (x : FVec Ideal S4x8192x128 .f32) : FVec Ideal S4x8192x96 .f32 :=
  concatenate S4x8192x96 2
    [⟨S4x8192x32, extractStridedSlice S4x8192x32 ![0, 0, 16] x slices_S4x8192x128_S4x8192x32_0_0_16⟩,
      ⟨S4x8192x32, extractStridedSlice S4x8192x32 ![0, 0, 80] x slices_S4x8192x128_S4x8192x32_0_0_80⟩,
      ⟨S4x8192x8, extractStridedSlice S4x8192x8 ![0, 0, 0] x slices_S4x8192x128_S4x8192x8_0_0_0⟩,
      ⟨S4x8192x8, extractStridedSlice S4x8192x8 ![0, 0, 64] x slices_S4x8192x128_S4x8192x8_0_0_64⟩,
      ⟨S4x8192x8, extractStridedSlice S4x8192x8 ![0, 0, 8] x slices_S4x8192x128_S4x8192x8_0_0_8⟩,
      ⟨S4x8192x8, extractStridedSlice S4x8192x8 ![0, 0, 72] x slices_S4x8192x128_S4x8192x8_0_0_72⟩]
    concatenates_S4x8192x32_S4x8192x32_S4x8192x8_S4x8192x8_S4x8192x8_S4x8192x8_S4x8192x96_d2

def outDq (x : FVec Ideal S4x8192x128 .f32) : FVec Ideal S1x4x8192x96 .f32 :=
  broadcastInDim S1x4x8192x96 ![1, 2, 3] bcast_S4x8192x96_S1x4x8192x96_1_2_3
    (hUnspread (Host.divf x (broadcastInDim S4x8192x128 ![] bcast_S_S4x8192x128 root)))

def outDk (x : FVec Ideal S4x8192x128 .f32) (y : FVec Ideal S_ .f32) : FVec Ideal S1x4x8192x96 .f32 :=
  broadcastInDim S1x4x8192x96 ![1, 2, 3] bcast_S4x8192x96_S1x4x8192x96_1_2_3
    (hUnspread (mulf x (broadcastInDim S4x8192x128 ![] bcast_S_S4x8192x128 y)))

def outDv (x : FVec Ideal S4x8192x128 .f32) : FVec Ideal S1x4x8192x128 .f32 :=
  broadcastInDim S1x4x8192x128 ![1, 2, 3] bcast_S4x8192x128_S1x4x8192x128_1_2_3 x

theorem tail_split (n : ℕ) (W : Valuation τ sig (Elt Ideal)) :
    StableHlo.after hostOps1 W = StableHlo.after (List.drop n hostOps1) (StableHlo.after (List.take n hostOps1) W) := by
  rw [← after_append, List.take_append_drop]

theorem tail_dq (W : Valuation τ sig (Elt Ideal)) : StableHlo.after hostOps1 W main_v82 = outDq (W main_v71_0) := by
  rw [tail_split 10]
  generalize hW : StableHlo.after (List.take 10 hostOps1) W = W'
  simp only [List.drop_succ_cons, List.drop_zero]
  entry_read
  simp only [Matrix.cons_val]
  subst hW
  simp only [List.take_succ_cons, List.take_zero]
  entry_read
  rfl

theorem tail_dk (W : Valuation τ sig (Elt Ideal)) : StableHlo.after hostOps1 W main_v92 = outDk (W main_v71_1) (W main_v17) := by
  rw [tail_split 20]
  generalize hW : StableHlo.after (List.take 20 hostOps1) W = W'
  simp only [List.drop_succ_cons, List.drop_zero]
  entry_read
  simp only [Matrix.cons_val]
  subst hW
  simp only [List.take_succ_cons, List.take_zero]
  entry_read
  rfl

theorem tail_dv (W : Valuation τ sig (Elt Ideal)) : StableHlo.after hostOps1 W main_v93 = outDv (W main_v71_2) := by
  entry_read
  rfl

theorem V_ln2 (m : (ℓ : Loc nD τ sig) → Buf (Elt Ideal) ℓ) (c : Dev nD) : V m c main_v17 = ln2 := by
  rw [V_zero]
  entry_read
  rfl

/-! ## The results at an index -/

theorem hUnspread_apply (x : FVec Ideal S4x8192x128 .f32) (a : Fin 4) (R : Fin 8192) (j : Fin 96) :
    hUnspread x (ix3 a R j) = x (ix3 a R (laneB j)) := by
  unfold hUnspread
  pointwise
  have hj := j.isLt
  obtain ⟨l, hl⟩ : ∃ l, l = laneB j := ⟨_, rfl⟩
  rw [← hl]
  have hv : l.val = (laneB j).val := congrArg Fin.val hl
  unfold laneB at hv
  simp only at hv
  split_ifs at hv
  all_goals repeat first
    | exact (dif_pos (by omega)).trans (congrArg (fun l => x (ix3 a R l)) (Fin.ext (by simp only; omega)))
    | refine (dif_neg (by omega)).trans ?_
    | exact congrArg (fun l => x (ix3 a R l)) (Fin.ext (by simp only; omega))

theorem over_apply (x : FVec Ideal S4x8192x128 .f32) (y : FVec Ideal S_ .f32) (a : Fin 4) (R : Fin 8192) (l : Fin 128) :
    Host.divf x (broadcastInDim S4x8192x128 ![] bcast_S_S4x8192x128 y) (ix3 a R l) = Ideal.div (x (ix3 a R l)) (y ix0) := by
  pointwise

theorem times_apply (x : FVec Ideal S4x8192x128 .f32) (y : FVec Ideal S_ .f32) (a : Fin 4) (R : Fin 8192) (l : Fin 128) :
    mulf x (broadcastInDim S4x8192x128 ![] bcast_S_S4x8192x128 y) (ix3 a R l) = x (ix3 a R l) * y ix0 := by
  pointwise

theorem lead_apply (x : FVec Ideal S4x8192x96 .f32) (a : Fin 4) (R : Fin 8192) (j : Fin 96) :
    broadcastInDim S1x4x8192x96 ![1, 2, 3] bcast_S4x8192x96_S1x4x8192x96_1_2_3 x (ix4 0 a R j) = x (ix3 a R j) := by
  pointwise

theorem outDq_apply (x : FVec Ideal S4x8192x128 .f32) (a : Fin 4) (R : Fin 8192) (j : Fin 96) :
    outDq x (ix4 0 a R j) = Ideal.div (x (ix3 a R (laneB j))) ((Real.sqrt 96 : ℝ) : EReal) := by
  rw [outDq, lead_apply, hUnspread_apply, over_apply, root_apply]

theorem outDk_apply (x : FVec Ideal S4x8192x128 .f32) (a : Fin 4) (R : Fin 8192) (j : Fin 96) :
    outDk x ln2 (ix4 0 a R j) = x (ix3 a R (laneB j)) * ((Real.log 2 : ℝ) : EReal) := by
  rw [outDk, lead_apply, hUnspread_apply, times_apply, ln2_apply]

theorem outDv_apply (x : FVec Ideal S4x8192x128 .f32) (a : Fin 4) (R : Fin 8192) (l : Fin 128) :
    outDv x (ix4 0 a R l) = x (ix3 a R l) := by
  unfold outDv
  pointwise

/-! ## The run -/

variable (m : (ℓ : Loc nD τ sig) → Buf (Elt Ideal) ℓ) (ρ : Dev nD → PrngReg) (c : Dev nD)

theorem after_arr (w : Fin cfg0.W) : Pipeline.withArrays (cfgs 0).spec c (V0 m c) (fun w => (dats m 0 c).arrAt w (cfgs 0).N)
    (Proc.devRef .tc (Pipeline.arrRef (cfgs 0).spec w)) = (dats m 0 c).arrAt w (cfgs 0).N :=
  Pipeline.withArrays_arr _ launch0.win.arr_inj c _ _ w

theorem run_values : θ_run defs (onTc (τ := τ) (main (F := Ideal))) ⟨m, fun _ => 0, ρ⟩ (fun r => ∀ c : Dev nD,
      r.2.mem ((c.tc : Thread nD τ).loc main_v82) = outDq (dqArr m c)
      ∧ r.2.mem ((c.tc : Thread nD τ).loc main_v92) = outDk (dkArr m c) ln2
      ∧ r.2.mem ((c.tc : Thread nD τ).loc main_v93) = outDv (dvArr m c)) := by
  refine (θ_run defs _ _).mono (fun r h c => ?_) (run_main m ρ)
  refine ⟨((h c).2 main_v82 (by decide)).trans ?_, ((h c).2 main_v92 (by decide)).trans ?_, ((h c).2 main_v93 (by decide)).trans ?_⟩
  all_goals
    unfold Pipeline.afterTail₀
    rw [List.flatten_cons, List.flatten_nil, List.append_nil]
  · refine (tail_dq _).trans (congrArg outDq ((after_arr m c 6).trans (final_dq m c)))
  · refine (tail_dk _).trans (congrArg₂ outDk ((after_arr m c 7).trans (final_dk m c)) ?_)
    refine (Pipeline.withArrays_of_ne _ c _ _ main_v17 (by decide)).trans (V_ln2 m c)
  · refine (tail_dv _).trans (congrArg outDv ((after_arr m c 8).trans (final_dv m c)))

/-! ## The results as reals -/

variable {Q K : Fin 4 → Fin 8192 → Fin 96 → ℝ} {V D : Fin 4 → Fin 8192 → Fin 128 → ℝ}

section
variable (hq : ∀ h R j, argQ m c (ix4 0 h R j) = ((Q h R j : ℝ) : EReal)) (hk : ∀ h R j, argK m c (ix4 0 h R j) = ((K h R j : ℝ) : EReal))
  (hv : ∀ h R l, argV m c (ix4 0 h R l) = ((V h R l : ℝ) : EReal))
  (hD : ∀ (h : Fin 4) (R : Fin 8192) (l : Fin 128), argCt m c (ix3 0 R (colB h l)) = ((D h R l : ℝ) : EReal))
include hq hk hv hD

theorem outDq_real (h : Fin 4) (R : Fin 8192) (j : Fin 96) : outDq (dqArr m c) (ix4 0 h R j) =
    (((∑ C, dScore scaleB (Q h) (K h) (V h) (D h) C R * K h C j) * scaleB : ℝ) : EReal) := by
  obtain ⟨M, hM⟩ := exists_max hq hk
  rw [outDq_apply]
  refine (congrArg (Ideal.div · _) ((operands m c hq hk hv hD hM h).dq R j)).trans ?_
  rw [div_real _ _ sqrt96_ne]
  unfold scaleB
  rw [mul_one_div]

theorem outDk_real (h : Fin 4) (C : Fin 8192) (j : Fin 96) : outDk (dkArr m c) ln2 (ix4 0 h C j) =
    (((∑ R, dScore scaleB (Q h) (K h) (V h) (D h) C R * Q h R j) * scaleB : ℝ) : EReal) := by
  obtain ⟨M, hM⟩ := exists_max hq hk
  rw [outDk_apply]
  refine (congrArg (· * _) ((operands m c hq hk hv hD hM h).dk C j)).trans ?_
  rw [← EReal.coe_mul, mul_assoc, div_mul_cancel₀ _ log2_ne]

theorem outDv_real (h : Fin 4) (C : Fin 8192) (l : Fin 128) : outDv (dvArr m c) (ix4 0 h C l) =
    ((∑ R, prob scaleB (Q h) (K h) C R * D h R l : ℝ) : EReal) := by
  obtain ⟨M, hM⟩ := exists_max hq hk
  rw [outDv_apply]
  refine (operands m c hq hk hv hD hM h).dv C l (fun R => D h R l) fun R => ?_
  rw [dOp, V_do, trunc_apply, hDo_apply, hD]

end

end Cert.KernelIdeal.Val

end
-- ==== Proof.RefB.lean ====
/- What the reference of attention B computes: its stages as terms of the arguments, and each as a real. -/
module

public import proofs.«01_k».proof.Proof.Gen.ReferenceIdeal.Run
public import proofs.«01_k».proof.Proof.AttnReal
public import Idealize.ShloMosaic.Lib.Pointwise
public import Idealize.ShloMosaic.PureOps.Ideal

@[expose] public section

set_option maxRecDepth 16384

noncomputable section

namespace Cert.ReferenceIdeal.Val
open Idealize.ShloMosaic Idealize.ShloMosaic.TcCoe Idealize.ShloMosaic.Tactic Idealize.SL.Sem Cert.ReferenceIdeal Cert.ReferenceIdeal.Gen Cert.AttnGrad

/-! ## The stages -/

section
variable (q k : FVec Ideal S1x4x8192x96 .f32) (v : FVec Ideal S1x4x8192x128 .f32) (ct : FVec Ideal S1x8192x512 .f32)
  (s e g d : FVec Ideal S1x4x8192x8192 .f32) (l : FVec Ideal S1x4x8192x1 .f32) (do_ : FVec Ideal S1x4x8192x128 .f32)

/-- 1/√96. -/
def scale : FVec Ideal S_ .f32 := Host.divf (constant S_ .f32 0x3F800000#32) (Host.sqrt (constant S_ .f32 0x42C00000#32))
/-- The scaled scores. -/
def rS : FVec Ideal S1x4x8192x8192 .f32 :=
  mulf (Host.dotGeneral dot_S1x4x8192x96_S1x4x8192x96_S1x4x8192x8192_3_3_2_2_01_01 none q k) (broadcastInDim S1x4x8192x8192 ![] bcast_S_S1x4x8192x8192 scale)
/-- A row's number subtracted. -/
def rM : FVec Ideal S1x4x8192x1 .f32 :=
  broadcastInDim S1x4x8192x1 ![0, 1, 2] bcast_S1x4x8192_S1x4x8192x1_0_1_2
    (maximumf (broadcastInDim S1x4x8192 ![] bcast_S_S1x4x8192 (constant S_ .f32 0xFF800000#32))
      (Host.reduce FloatOps.maximumf s (constant S_ .f32 0xFF800000#32) reducesTo_S1x4x8192x8192_S1x4x8192_d3 h_S_))
/-- The exponentials. -/
def rE : FVec Ideal S1x4x8192x8192 .f32 :=
  Host.exp (subf s (broadcastInDim S1x4x8192x8192 ![0, 1, 2, 3] bcast_S1x4x8192x1_S1x4x8192x8192_0_1_2_3 (rM s)))
/-- A row's sum. -/
def rL : FVec Ideal S1x4x8192x1 .f32 :=
  broadcastInDim S1x4x8192x1 ![0, 1, 2] bcast_S1x4x8192_S1x4x8192x1_0_1_2
    (Host.reduceAdd e (constant S_ .f32 0x00000000#32) reducesTo_S1x4x8192x8192_S1x4x8192_d3 h_S_)
/-- The cotangent, head by head. -/
def rDo : FVec Ideal S1x4x8192x128 .f32 :=
  transpose S1x4x8192x128 [0, 2, 1, 3] (shapeCast S1x8192x4x128 ct shapeCasts_S1x8192x512_S1x8192x4x128) transposes_S1x8192x4x128_S1x4x8192x128_0_2_1_3
/-- The cotangent of the weights. -/
def rG : FVec Ideal S1x4x8192x8192 .f32 := Host.dotGeneral dot_S1x4x8192x128_S1x4x8192x128_S1x4x8192x8192_3_3_2_2_01_01 none do_ v
/-- The weights. -/
def rP : FVec Ideal S1x4x8192x8192 .f32 :=
  Host.divf e (broadcastInDim S1x4x8192x8192 ![0, 1, 2, 3] bcast_S1x4x8192x1_S1x4x8192x8192_0_1_2_3 l)
/-- What a row's sum contributes. -/
def rN : FVec Ideal S4x8192 .f32 :=
  Host.reduceAdd (Host.negf (shapeCast S1x4x8192x1 (Host.reduceAdd (mulf (mulf g (broadcastInDim S1x4x8192x8192 ![0, 1, 2, 3] bcast_S1x4x8192x1_S1x4x8192x8192_0_1_2_3
    (Host.divf (broadcastInDim S1x4x8192x1 ![] bcast_S_S1x4x8192x1 (constant S_ .f32 0x3F800000#32)) (mulf l l)))) e)
    (constant S_ .f32 0x00000000#32) reducesTo_S1x4x8192x8192_S1x4x8192_d3 h_S_) shapeCasts_S1x4x8192_S1x4x8192x1))
    (constant S_ .f32 0x00000000#32) reducesTo_S1x4x8192x1_S4x8192_d0_3 h_S_
/-- The cotangent of the products. -/
def rD (n : FVec Ideal S4x8192 .f32) : FVec Ideal S1x4x8192x8192 .f32 :=
  mulf (mulf (addf (rP g l) (broadcastInDim S1x4x8192x8192 ![0, 1, 2] bcast_S1x4x8192_S1x4x8192x8192_0_1_2
    (broadcastInDim S1x4x8192 ![1, 2] bcast_S4x8192_S1x4x8192_1_2 n))) e) (broadcastInDim S1x4x8192x8192 ![] bcast_S_S1x4x8192x8192 scale)
def rDq : FVec Ideal S1x4x8192x96 .f32 := Host.dotGeneral dot_S1x4x8192x8192_S1x4x8192x96_S1x4x8192x96_3_2_2_3_01_01 none d k
def rDk : FVec Ideal S1x4x8192x96 .f32 := Host.dotGeneral dot_S1x4x8192x8192_S1x4x8192x96_S1x4x8192x96_2_2_3_3_01_01 none d q
def rDv (p : FVec Ideal S1x4x8192x8192 .f32) : FVec Ideal S1x4x8192x128 .f32 :=
  transpose S1x4x8192x128 [0, 1, 3, 2] (Host.dotGeneral dot_S1x4x8192x128_S1x4x8192x8192_S1x4x128x8192_2_2_3_3_01_01 none do_ p) transposes_S1x4x128x8192_S1x4x8192x128_0_1_3_2
/-- The exponentials of the arguments. -/
def rExp : FVec Ideal S1x4x8192x8192 .f32 := rE (rS q k)
/-- The cotangent of the products, of the arguments. -/
def rDs : FVec Ideal S1x4x8192x8192 .f32 :=
  rD (rExp q k) (rG v (rDo ct)) (rL (rExp q k)) (rN (rExp q k) (rG v (rDo ct)) (rL (rExp q k)))

end

/-! ## The run -/

section
variable (m : (ℓ : Loc nD τ sig) → Buf (Elt Ideal) ℓ) (c : Dev nD)

def argQ : FVec Ideal S1x4x8192x96 .f32 := m ((c.tc : Thread nD τ).loc main_arg0)
def argK : FVec Ideal S1x4x8192x96 .f32 := m ((c.tc : Thread nD τ).loc main_arg1)
def argV : FVec Ideal S1x4x8192x128 .f32 := m ((c.tc : Thread nD τ).loc main_arg2)
def argCt : FVec Ideal S1x8192x512 .f32 := m ((c.tc : Thread nD τ).loc main_arg3)

theorem run_values (ρ : Dev nD → PrngReg) : θ_run defs (onTc (τ := τ) (main (F := Ideal))) ⟨m, fun _ => 0, ρ⟩ fun r => ∀ c : Dev nD,
      r.2.mem ((c.tc : Thread nD τ).loc main_v57) = rDq (argK m c) (rDs (argQ m c) (argK m c) (argV m c) (argCt m c))
      ∧ r.2.mem ((c.tc : Thread nD τ).loc main_v56) = rDk (argQ m c) (rDs (argQ m c) (argK m c) (argV m c) (argCt m c))
      ∧ r.2.mem ((c.tc : Thread nD τ).loc main_v39) = rDv (rDo (argCt m c)) (rP (rExp (argQ m c) (argK m c)) (rL (rExp (argQ m c) (argK m c)))) :=
  (θ_run defs _ _).mono (fun _ h c => ⟨(h c).1.trans rfl, (h c).2.1.trans rfl, (h c).2.2.1.trans rfl⟩) (Value.run m ρ)

end

/-! ## The stages at an index -/

theorem scale_apply (i : S_.Idx) : scale i = ((scaleB : ℝ) : EReal) := by
  show Ideal.div (Ideal.ofBits .f32 0x3F800000#32) (Ideal.sqrt (Ideal.ofBits .f32 0x42C00000#32)) = _
  rw [ofBits_96, ofBits_one, sqrt_real _ (by norm_num), div_real _ _ sqrt96_ne]
  rfl

theorem scores_apply (q k : FVec Ideal S1x4x8192x96 .f32) (y : FVec Ideal S_ .f32) (h : Fin 4) (R C : Fin 8192) :
    mulf (Host.dotGeneral dot_S1x4x8192x96_S1x4x8192x96_S1x4x8192x8192_3_3_2_2_01_01 none q k) (broadcastInDim S1x4x8192x8192 ![] bcast_S_S1x4x8192x8192 y)
      (ix4 0 h R C) = (∑ j, q (ix4 0 h R j) * k (ix4 0 h C j)) * y ix0 := by
  pointwise

theorem above_apply (y : FVec Ideal S_ .f32) (x : FVec Ideal S1x4x8192 .f32) (h : Fin 4) (R : Fin 8192) :
    broadcastInDim S1x4x8192x1 ![0, 1, 2] bcast_S1x4x8192_S1x4x8192x1_0_1_2 (maximumf (broadcastInDim S1x4x8192 ![] bcast_S_S1x4x8192 y) x)
      (ix4 0 h R 0) = max (y ix0) (x (ix3 0 h R)) := by
  pointwise

theorem greatest_apply (s : FVec Ideal S1x4x8192x8192 .f32) (h : Fin 4) (R : Fin 8192) :
    Host.reduce FloatOps.maximumf s (constant S_ .f32 0xFF800000#32) reducesTo_S1x4x8192x8192_S1x4x8192_d3 h_S_ (ix3 0 h R) =
      Finset.fold max (Ideal.ofBits .f32 0xFF800000#32) (fun C => s (ix4 0 h R C)) Finset.univ := by
  pointwise

theorem rM_apply (s : FVec Ideal S1x4x8192x8192 .f32) (h : Fin 4) (R : Fin 8192) :
    rM s (ix4 0 h R 0) = Finset.fold max (Ideal.ofBits .f32 0xFF800000#32) (fun C => s (ix4 0 h R C)) Finset.univ := by
  rw [rM, above_apply, greatest_apply]
  refine (congrArg (max · _) ((rfl : constant S_ .f32 0xFF800000#32 ix0 = Ideal.ofBits .f32 0xFF800000#32).trans ofBits_bot)).trans ?_
  exact max_eq_right bot_le

theorem rE_apply (s : FVec Ideal S1x4x8192x8192 .f32) (h : Fin 4) (R C : Fin 8192) :
    rE s (ix4 0 h R C) = Ideal.exp (s (ix4 0 h R C) - rM s (ix4 0 h R 0)) := by
  unfold rE
  pointwise

theorem rL_apply (e : FVec Ideal S1x4x8192x8192 .f32) (h : Fin 4) (R : Fin 8192) : rL e (ix4 0 h R 0) = ∑ C, e (ix4 0 h R C) := by
  unfold rL
  pointwise

theorem rDo_apply (ct : FVec Ideal S1x8192x512 .f32) (h : Fin 4) (R : Fin 8192) (l : Fin 128) : rDo ct (ix4 0 h R l) = ct (ix3 0 R (colB h l)) := by
  unfold rDo
  pointwise
  rfl

theorem rG_apply (v do_ : FVec Ideal S1x4x8192x128 .f32) (h : Fin 4) (R C : Fin 8192) :
    rG v do_ (ix4 0 h R C) = ∑ l, do_ (ix4 0 h R l) * v (ix4 0 h C l) := by
  unfold rG
  pointwise

theorem rP_apply (e : FVec Ideal S1x4x8192x8192 .f32) (l : FVec Ideal S1x4x8192x1 .f32) (h : Fin 4) (R C : Fin 8192) :
    rP e l (ix4 0 h R C) = Ideal.div (e (ix4 0 h R C)) (l (ix4 0 h R 0)) := by
  unfold rP
  pointwise

/-- A sum over two axes of length one. -/
theorem unit_sum (x : FVec Ideal S1x4x8192x1 .f32) (h : Fin 4) (R : Fin 8192) :
    Host.reduceAdd x (constant S_ .f32 0x00000000#32) reducesTo_S1x4x8192x1_S4x8192_d0_3 h_S_ (ix2 h R) = x (ix4 0 h R 0) := by
  show Ideal.ofBits .f32 0x00000000#32 + ∑ i ∈ Finset.univ.filter (fun i => reducesTo_S1x4x8192x1_S4x8192_d0_3.drop i = ix2 h R), x i = _
  rw [ofBits_zero, zero_add]
  refine (Finset.sum_congr ?_ fun _ _ => rfl).trans (Finset.sum_singleton _ _)
  ext i
  rw [Finset.mem_filter, Finset.mem_singleton]
  refine ⟨fun hi => ?_, fun hi => ⟨Finset.mem_univ _, ?_⟩⟩
  · have h0 : i 1 = h := congrFun hi.2 0
    have h1 : i 2 = R := congrFun hi.2 1
    refine (Idealize.ShloMosaic.ix4_eta i).symm.trans ?_
    rw [h0, h1]
    exact congrArg₂ (fun a b => ix4 a h R b) (Subsingleton.elim (α := Fin 1) _ _) (Subsingleton.elim (α := Fin 1) _ _)
  · subst hi
    funext b
    fin_cases b <;> rfl

theorem spread_apply (x : FVec Ideal S1x4x8192x1 .f32) (z : FVec Ideal S_ .f32) (e g : FVec Ideal S1x4x8192x8192 .f32) (h : Fin 4) (R C : Fin 8192) :
    mulf (mulf g (broadcastInDim S1x4x8192x8192 ![0, 1, 2, 3] bcast_S1x4x8192x1_S1x4x8192x8192_0_1_2_3
      (Host.divf (broadcastInDim S1x4x8192x1 ![] bcast_S_S1x4x8192x1 z) (mulf x x)))) e (ix4 0 h R C) =
      g (ix4 0 h R C) * Ideal.div (z ix0) (x (ix4 0 h R 0) * x (ix4 0 h R 0)) * e (ix4 0 h R C) := by
  pointwise

theorem row_apply (x : FVec Ideal S1x4x8192x8192 .f32) (h : Fin 4) (R : Fin 8192) :
    Host.negf (shapeCast S1x4x8192x1 (Host.reduceAdd x (constant S_ .f32 0x00000000#32) reducesTo_S1x4x8192x8192_S1x4x8192_d3 h_S_)
      shapeCasts_S1x4x8192_S1x4x8192x1) (ix4 0 h R 0) = -∑ C, x (ix4 0 h R C) := by
  pointwise

theorem rN_apply (e g : FVec Ideal S1x4x8192x8192 .f32) (l : FVec Ideal S1x4x8192x1 .f32) (h : Fin 4) (R : Fin 8192) :
    rN e g l (ix2 h R) = -∑ C, g (ix4 0 h R C) * Ideal.div ((1 : ℝ) : EReal) (l (ix4 0 h R 0) * l (ix4 0 h R 0)) * e (ix4 0 h R C) := by
  rw [rN, unit_sum, row_apply]
  refine congrArg _ (Finset.sum_congr rfl fun C _ => (spread_apply ..).trans ?_)
  rw [← ofBits_one]
  rfl

theorem rD_apply (e g : FVec Ideal S1x4x8192x8192 .f32) (l : FVec Ideal S1x4x8192x1 .f32) (n : FVec Ideal S4x8192 .f32) (h : Fin 4) (R C : Fin 8192) :
    rD e g l n (ix4 0 h R C) = (Ideal.div (g (ix4 0 h R C)) (l (ix4 0 h R 0)) + n (ix2 h R)) * e (ix4 0 h R C) * ((scaleB : ℝ) : EReal) := by
  rw [← scale_apply ix0]
  unfold rD
  generalize scale = y
  unfold rP
  pointwise

theorem rDq_apply (k : FVec Ideal S1x4x8192x96 .f32) (d : FVec Ideal S1x4x8192x8192 .f32) (h : Fin 4) (R : Fin 8192) (j : Fin 96) :
    rDq k d (ix4 0 h R j) = ∑ C, d (ix4 0 h R C) * k (ix4 0 h C j) := by
  unfold rDq
  pointwise

theorem rDk_apply (q : FVec Ideal S1x4x8192x96 .f32) (d : FVec Ideal S1x4x8192x8192 .f32) (h : Fin 4) (C : Fin 8192) (j : Fin 96) :
    rDk q d (ix4 0 h C j) = ∑ R, d (ix4 0 h R C) * q (ix4 0 h R j) := by
  unfold rDk
  pointwise

theorem rDv_apply (do_ : FVec Ideal S1x4x8192x128 .f32) (p : FVec Ideal S1x4x8192x8192 .f32) (h : Fin 4) (C : Fin 8192) (l : Fin 128) :
    rDv do_ p (ix4 0 h C l) = ∑ R, do_ (ix4 0 h R l) * p (ix4 0 h R C) := by
  unfold rDv
  pointwise

/-! ## The results as reals -/

section
variable {q k : FVec Ideal S1x4x8192x96 .f32} {v : FVec Ideal S1x4x8192x128 .f32} {ct : FVec Ideal S1x8192x512 .f32}
  {Q K : Fin 4 → Fin 8192 → Fin 96 → ℝ} {V D : Fin 4 → Fin 8192 → Fin 128 → ℝ} {M : Fin 4 → Fin 8192 → ℝ}
  (hq : ∀ h R j, q (ix4 0 h R j) = ((Q h R j : ℝ) : EReal)) (hk : ∀ h R j, k (ix4 0 h R j) = ((K h R j : ℝ) : EReal))
  (hv : ∀ h R l, v (ix4 0 h R l) = ((V h R l : ℝ) : EReal))
  (hD : ∀ (h : Fin 4) (R : Fin 8192) (l : Fin 128), ct (ix3 0 R (colB h l)) = ((D h R l : ℝ) : EReal))
  (hM : ∀ h R, rM (rS q k) (ix4 0 h R 0) = ((M h R : ℝ) : EReal))

include hq hk

theorem rS_real (h : Fin 4) (R C : Fin 8192) : rS q k (ix4 0 h R C) = ((score scaleB (Q h) (K h) C R : ℝ) : EReal) := by
  rw [rS, scores_apply, scale_apply]
  simp only [hq, hk, ← EReal.coe_mul]
  rw [coe_sum, ← EReal.coe_mul]
  rfl

theorem exists_max : ∃ M : Fin 4 → Fin 8192 → ℝ, ∀ h R, rM (rS q k) (ix4 0 h R 0) = ((M h R : ℝ) : EReal) := by
  have : ∀ h R, IsReal (rM (rS q k) (ix4 0 h R 0)) := fun h R => by
    rw [rM_apply]
    exact fold_max_real _ ofBits_bot _ _ ⟨0, Finset.mem_univ _⟩ fun C => ⟨_, rS_real hq hk h R C⟩
  choose M hM using this
  exact ⟨M, hM⟩

include hM in
theorem rExp_real (h : Fin 4) (R C : Fin 8192) : rExp q k (ix4 0 h R C) = ((Real.exp (score scaleB (Q h) (K h) C R - M h R) : ℝ) : EReal) := by
  rw [rExp, rE_apply, rS_real hq hk, hM, ← EReal.coe_sub, Ideal.exp_coe]

include hM in
theorem rL_real (h : Fin 4) (R : Fin 8192) : rL (rExp q k) (ix4 0 h R 0) = ((shifted scaleB (Q h) (K h) (M h R) R : ℝ) : EReal) := by
  rw [rL_apply]
  simp only [rExp_real hq hk hM]
  exact coe_sum _ _

include hM in
theorem rP_real (h : Fin 4) (R C : Fin 8192) : rP (rExp q k) (rL (rExp q k)) (ix4 0 h R C) = ((prob scaleB (Q h) (K h) C R : ℝ) : EReal) := by
  rw [rP_apply, rExp_real hq hk hM, rL_real hq hk hM, div_real _ _ (shifted_pos ..).ne', shifted_prob]

omit hq hk in
include hv hD in
theorem rG_real (h : Fin 4) (R C : Fin 8192) : rG v (rDo ct) (ix4 0 h R C) = ((cot (V h) (D h) C R : ℝ) : EReal) := by
  rw [rG_apply]
  simp only [rDo_apply, hD, hv, ← EReal.coe_mul]
  rw [coe_sum]
  congr 1
  exact Finset.sum_congr rfl fun l _ => mul_comm _ _

include hv hD

theorem rDs_real (h : Fin 4) (R C : Fin 8192) :
    rDs q k v ct (ix4 0 h R C) = ((dScore scaleB (Q h) (K h) (V h) (D h) C R * scaleB : ℝ) : EReal) := by
  obtain ⟨M, hM⟩ := exists_max hq hk
  have hl := (shifted_pos scaleB (Q h) (K h) (M h R) R).ne'
  rw [rDs, rD_apply, rN_apply]
  simp only [rExp_real hq hk hM, rL_real hq hk hM, rG_real hv hD, ← EReal.coe_mul]
  rw [div_real _ _ hl, div_real _ _ (mul_ne_zero hl hl)]
  simp only [← EReal.coe_mul]
  rw [coe_sum, ← EReal.coe_neg, ← EReal.coe_add, ← EReal.coe_mul, ← EReal.coe_mul, dScore_eq]

theorem rDq_real (h : Fin 4) (R : Fin 8192) (j : Fin 96) : rDq k (rDs q k v ct) (ix4 0 h R j) =
    (((∑ C, dScore scaleB (Q h) (K h) (V h) (D h) C R * K h C j) * scaleB : ℝ) : EReal) := by
  rw [rDq_apply]
  simp only [rDs_real hq hk hv hD, hk, ← EReal.coe_mul]
  rw [coe_sum, Finset.sum_mul]
  exact congrArg _ (Finset.sum_congr rfl fun C _ => by ring)

theorem rDk_real (h : Fin 4) (C : Fin 8192) (j : Fin 96) : rDk q (rDs q k v ct) (ix4 0 h C j) =
    (((∑ R, dScore scaleB (Q h) (K h) (V h) (D h) C R * Q h R j) * scaleB : ℝ) : EReal) := by
  rw [rDk_apply]
  simp only [rDs_real hq hk hv hD, hq, ← EReal.coe_mul]
  rw [coe_sum, Finset.sum_mul]
  exact congrArg _ (Finset.sum_congr rfl fun C _ => by ring)

omit hv in
theorem rDv_real (h : Fin 4) (C : Fin 8192) (l : Fin 128) : rDv (rDo ct) (rP (rExp q k) (rL (rExp q k))) (ix4 0 h C l) =
    ((∑ R, prob scaleB (Q h) (K h) C R * D h R l : ℝ) : EReal) := by
  obtain ⟨M, hM⟩ := exists_max hq hk
  rw [rDv_apply]
  simp only [rP_real hq hk hM, rDo_apply, hD, ← EReal.coe_mul]
  rw [coe_sum]
  exact congrArg _ (Finset.sum_congr rfl fun C _ => mul_comm _ _)

end

end Cert.ReferenceIdeal.Val

end
-- ==== Proof.EqB.lean ====
/- Attention B's gradient: the kernel's three results are the reference's. -/
module

public import proofs.«01_k».proof.Proof.TailB
public import proofs.«01_k».proof.Proof.RefB
public import proofs.«01_k».proof.Proof.PreB
public import proofs.«01_k».proof.Defs
public import proofs.«01_k».proof.Proof.Gen.KernelIdeal.Frame

@[expose] public section

set_option maxRecDepth 16384

noncomputable section

namespace Cert.EqB
open Idealize.ShloMosaic Idealize.SL.Sem Cert.AttnGrad

theorem eta4 {n : ℕ} (i : (⟨4, ![1, 4, 8192, n]⟩ : Shape).Idx) : i = ix4 0 (i 1) (i 2) (i 3) :=
  (Idealize.ShloMosaic.ix4_eta i).symm.trans (congrArg (fun a => ix4 a (i 1) (i 2) (i 3)) (Subsingleton.elim (α := Fin 1) _ _))

/-- The results agree where the arguments do. -/
theorem results (m : (ℓ : Loc KernelIdeal.nD KernelIdeal.τ KernelIdeal.sig) → Buf (Elt Ideal) ℓ) (c : Dev KernelIdeal.nD)
    (m' : (ℓ : Loc ReferenceIdeal.nD ReferenceIdeal.τ ReferenceIdeal.sig) → Buf (Elt Ideal) ℓ)
    (hp : Pre_finite.fn (F := Ideal) (KernelIdeal.Val.argQ m c) (KernelIdeal.Val.argK m c) (KernelIdeal.Val.argV m c) (KernelIdeal.Val.argCt m c) = fun _ => 1#1)
    (h0 : ReferenceIdeal.Val.argQ m' c = KernelIdeal.Val.argQ m c) (h1 : ReferenceIdeal.Val.argK m' c = KernelIdeal.Val.argK m c)
    (h2 : ReferenceIdeal.Val.argV m' c = KernelIdeal.Val.argV m c) (h3 : ReferenceIdeal.Val.argCt m' c = KernelIdeal.Val.argCt m c) :
    ReferenceIdeal.Val.rDq (ReferenceIdeal.Val.argK m' c) (ReferenceIdeal.Val.rDs (ReferenceIdeal.Val.argQ m' c) (ReferenceIdeal.Val.argK m' c)
        (ReferenceIdeal.Val.argV m' c) (ReferenceIdeal.Val.argCt m' c)) = KernelIdeal.Val.outDq (KernelIdeal.Val.dqArr m c)
    ∧ ReferenceIdeal.Val.rDk (ReferenceIdeal.Val.argQ m' c) (ReferenceIdeal.Val.rDs (ReferenceIdeal.Val.argQ m' c) (ReferenceIdeal.Val.argK m' c)
        (ReferenceIdeal.Val.argV m' c) (ReferenceIdeal.Val.argCt m' c)) = KernelIdeal.Val.outDk (KernelIdeal.Val.dkArr m c) KernelIdeal.Val.ln2
    ∧ ReferenceIdeal.Val.rDv (ReferenceIdeal.Val.rDo (ReferenceIdeal.Val.argCt m' c)) (ReferenceIdeal.Val.rP
        (ReferenceIdeal.Val.rExp (ReferenceIdeal.Val.argQ m' c) (ReferenceIdeal.Val.argK m' c))
        (ReferenceIdeal.Val.rL (ReferenceIdeal.Val.rExp (ReferenceIdeal.Val.argQ m' c) (ReferenceIdeal.Val.argK m' c)))) =
        KernelIdeal.Val.outDv (KernelIdeal.Val.dvArr m c) := by
  rw [h0, h1, h2, h3]
  obtain ⟨hq, hk, hv, hd⟩ := Pre_finite.real_of_fn hp
  choose q hq using hq
  choose k hk using hk
  choose v hv using hv
  choose d hd using hd
  have hq' : ∀ h R j, KernelIdeal.Val.argQ m c (ix4 0 h R j) = (((fun h R j => q (ix4 0 h R j)) h R j : ℝ) : EReal) := fun h R j => hq _
  have hk' : ∀ h R j, KernelIdeal.Val.argK m c (ix4 0 h R j) = (((fun h R j => k (ix4 0 h R j)) h R j : ℝ) : EReal) := fun h R j => hk _
  have hv' : ∀ h R l, KernelIdeal.Val.argV m c (ix4 0 h R l) = (((fun h R l => v (ix4 0 h R l)) h R l : ℝ) : EReal) := fun h R l => hv _
  have hd' : ∀ (h : Fin 4) (R : Fin 8192) (l : Fin 128), KernelIdeal.Val.argCt m c (ix3 0 R (colB h l)) =
    (((fun h R l => d (ix3 0 R (colB h l))) h R l : ℝ) : EReal) := fun h R l => hd _
  refine ⟨funext fun i => ?_, funext fun i => ?_, funext fun i => ?_⟩
  · rw [eta4 i]
    exact (ReferenceIdeal.Val.rDq_real hq' hk' hv' hd' _ _ _).trans (KernelIdeal.Val.outDq_real m c hq' hk' hv' hd' _ _ _).symm
  · rw [eta4 i]
    exact (ReferenceIdeal.Val.rDk_real hq' hk' hv' hd' _ _ _).trans (KernelIdeal.Val.outDk_real m c hq' hk' hv' hd' _ _ _).symm
  · rw [eta4 i]
    exact (ReferenceIdeal.Val.rDv_real hq' hk' hd' _ _ _).trans (KernelIdeal.Val.outDv_real m c hq' hk' hv' hd' _ _ _).symm

theorem algebraic : Cert.algebraic_KernelIdeal_ReferenceIdeal_pre_finite := by
  intro m ρ m' ρ' hp he
  refine ⟨fun c => KernelIdeal.Val.outDq (KernelIdeal.Val.dqArr m c), fun c => KernelIdeal.Val.outDk (KernelIdeal.Val.dkArr m c) KernelIdeal.Val.ln2,
    fun c => KernelIdeal.Val.outDv (KernelIdeal.Val.dvArr m c), ?_, ?_⟩
  · refine (θ_run _ _ _).mono (fun r h c => ?_) (θ_run_and (KernelIdeal.Val.run_values m ρ) (KernelIdeal.Gen.unchanged m ρ))
    exact ⟨(h.1 c).1, (h.1 c).2.1, (h.1 c).2.2, h.2 c⟩
  · refine (θ_run _ _ _).mono (fun r h c => ?_) (θ_run_and (ReferenceIdeal.Val.run_values m' ρ') (ReferenceIdeal.Value.run m' ρ'))
    obtain ⟨e0, e1, e2⟩ := results m c m' (hp c) (he c).1 (he c).2.1 (he c).2.2.1 (he c).2.2.2
    exact ⟨(h.1 c).1.trans e0, (h.1 c).2.1.trans e1, (h.1 c).2.2.trans e2, (h.2 c).2.2.2⟩

end Cert.EqB

end
-- ==== Proof.HostFB.lean ====
/- What the lines before attention B's forward call compute: its operands as terms of the arguments. -/
module

public import proofs.«01_k».proof.Proof.Gen.KernelFBIdeal.Frame
public import proofs.«01_k».proof.Proof.HostReal

@[expose] public section

set_option maxRecDepth 16384

noncomputable section

namespace Cert.KernelFBIdeal.Val
open Idealize.ShloMosaic Idealize.ShloMosaic.TcCoe Idealize.ShloMosaic.Tactic Cert.KernelFBIdeal Cert.KernelFBIdeal.Gen
open Cert.KernelIdeal.Val (root ln2 hSpread hQ hV)

/-- The first of the second half's lanes holds a one, the others zero. -/
def hOne : FVec Ideal S4x8192x128 .f32 :=
  select (cmpi .eq (iotaInDim S4x8192x128 32 2) (broadcastInDim S4x8192x128 ![] bcast_S_S4x8192x128 (constantI S_ 32 0#32)))
    (broadcastInDim S4x8192x128 ![] bcast_S_S4x8192x128 (constant S_ .f32 0x3F800000#32))
    (broadcastInDim S4x8192x128 ![] bcast_S_S4x8192x128 (constant S_ .f32 0x00000000#32))

/-- The value operand: the values on the first half of the lanes, those on the second. -/
def hBoth (x y : FVec Ideal S4x8192x128 .f32) : FVec Ideal S4x8192x256 .f32 :=
  concatenate S4x8192x256 2 [⟨S4x8192x128, x⟩, ⟨S4x8192x128, y⟩] concatenates_S4x8192x128_S4x8192x128_S4x8192x256_d2

variable (m : (ℓ : Loc nD τ sig) → Buf (Elt Ideal) ℓ) (c : Dev nD)

def argQ : FVec Ideal S1x4x8192x96 .f32 := m ((c.tc : Thread nD τ).loc main_arg0)
def argK : FVec Ideal S1x4x8192x96 .f32 := m ((c.tc : Thread nD τ).loc main_arg1)
def argV : FVec Ideal S1x4x8192x128 .f32 := m ((c.tc : Thread nD τ).loc main_arg2)

theorem after_append (A B : List (HloOp τ sig (Elt Ideal))) (W : Valuation τ sig (Elt Ideal)) :
    StableHlo.after (A ++ B) W = StableHlo.after B (StableHlo.after A W) := by
  induction A generalizing W with
  | nil => rfl
  | cons a A ih => exact ih _

/-- The contents after the first `n` lines. -/
def upToLine (n : ℕ) : Valuation τ sig (Elt Ideal) := StableHlo.after (List.take n hostOps0) (fun b => m (c, b))

theorem V_eq (n : ℕ) (b : Ref sig .tc) :
    V m c b = StableHlo.after (List.drop n hostOps0 ++ (hostOps0_1 ++ hostOps0_2)) (upToLine m c n) b := by
  unfold V V0 upToLine
  rw [← after_append, ← List.append_assoc, List.take_append_drop]
  simp only [List.flatten_cons, List.flatten_nil, List.append_nil]

theorem V_q : V m c main_v22 = truncf .bf16 (hQ (argQ m c)) bitsLt_bf16_f32 := by
  rw [V_eq m c 24]
  generalize hW : upToLine m c 24 = W
  simp only [List.drop_succ_cons, List.drop_zero, List.cons_append, List.nil_append]
  entry_read
  simp only [Matrix.cons_val]
  subst hW
  unfold upToLine
  simp only [List.take_succ_cons, List.take_zero]
  entry_read
  rfl

theorem V_k : V m c main_v40 = truncf .bf16 (hSpread (argK m c)) bitsLt_bf16_f32 := by
  rw [V_eq m c 54]
  generalize hW : upToLine m c 54 = W
  simp only [List.drop_succ_cons, List.drop_zero, List.cons_append, List.nil_append]
  entry_read
  simp only [Matrix.cons_val]
  subst hW
  unfold upToLine
  simp only [List.take_succ_cons, List.take_zero]
  entry_read
  rfl

theorem V_ln2 : V m c main_v0 = ln2 := by
  rw [V_eq m c 24]
  generalize hW : upToLine m c 24 = W
  simp only [List.drop_succ_cons, List.drop_zero, List.cons_append, List.nil_append]
  entry_read
  subst hW
  unfold upToLine
  simp only [List.take_succ_cons, List.take_zero]
  entry_read
  rfl

/-! ## The values' operand -/

/-- The selection as its own lines compute it. -/
theorem where_read (W : Valuation τ sig (Elt Ideal)) : StableHlo.after hostOps0_1 W main_v45 =
    (select (W main_v44 : Vec Ideal S4x8192x128 .i1) (broadcastInDim S4x8192x128 ![] bcast_S_S4x8192x128 (W main_cst_15 : FVec Ideal S_ .f32))
      (broadcastInDim S4x8192x128 ![] bcast_S_S4x8192x128 (W main_cst_16 : FVec Ideal S_ .f32)) : FVec Ideal S4x8192x128 .f32) := by
  entry_read
  rfl

theorem where_keep (W : Valuation τ sig (Elt Ideal)) : StableHlo.after hostOps0_1 W main_v42 = W main_v42 := by
  entry_read
  rfl

theorem cast_read (W : Valuation τ sig (Elt Ideal)) : StableHlo.after hostOps0_2 W main_v48 =
    (truncf .bf16 (hBoth (W main_v42 : FVec Ideal S4x8192x128 .f32) (W main_v45 : FVec Ideal S4x8192x128 .f32)) bitsLt_bf16_f32 : FVec Ideal S4x8192x256 .bf16) := by
  entry_read
  rfl

theorem lines_v (W : Valuation τ sig (Elt Ideal)) : StableHlo.after (List.drop 57 hostOps0) W main_v42 = hV (W main_arg2) := by
  simp only [List.drop_succ_cons, List.drop_zero]
  entry_read
  rfl

theorem lines_lane (W : Valuation τ sig (Elt Ideal)) : StableHlo.after (List.drop 57 hostOps0) W main_v44 =
    (cmpi .eq (iotaInDim S4x8192x128 32 2) (broadcastInDim S4x8192x128 ![] bcast_S_S4x8192x128 (constantI S_ 32 0#32)) : Vec Ideal S4x8192x128 .i1) := by
  simp only [List.drop_succ_cons, List.drop_zero]
  entry_read
  rfl

theorem lines_one (W : Valuation τ sig (Elt Ideal)) : StableHlo.after (List.drop 57 hostOps0) W main_cst_15 =
    (constant S_ .f32 0x3F800000#32 : FVec Ideal S_ .f32) := by
  simp only [List.drop_succ_cons, List.drop_zero]
  entry_read
  rfl

theorem lines_zero (W : Valuation τ sig (Elt Ideal)) : StableHlo.after (List.drop 57 hostOps0) W main_cst_16 =
    (constant S_ .f32 0x00000000#32 : FVec Ideal S_ .f32) := by
  simp only [List.drop_succ_cons, List.drop_zero]
  entry_read
  rfl

theorem lines_arg : upToLine m c 57 main_arg2 = argV m c := by
  unfold upToLine
  simp only [List.take_succ_cons, List.take_zero]
  entry_read
  rfl

theorem V_v : V m c main_v48 = truncf .bf16 (hBoth (hV (argV m c)) hOne) bitsLt_bf16_f32 := by
  rw [V_eq m c 57]
  refine (congrFun (after_append _ _ _) _).trans ?_
  refine (congrFun (after_append _ _ _) _).trans ?_
  rw [cast_read, where_read, where_keep, lines_v, lines_lane, lines_one, lines_zero, lines_arg]
  rfl

end Cert.KernelFBIdeal.Val

end
-- ==== Proof.FwdTile.lean ====
/- What the attention's forward call computes for a tile of 512 rows, key tile by key tile: the names of the stages, over any floats. -/
module

public import Idealize.ShloMosaic.Lib.Pipeline.ValueKit

@[expose] public section

set_option maxRecDepth 16384

noncomputable section

namespace Cert.AttnFwd
open Idealize.ShloMosaic

/-- A tile of rows, as it is held. -/
abbrev Rows : Shape := ⟨3, ![1, 512, 128]⟩
abbrev Rows₂ : Shape := ⟨2, ![512, 128]⟩
/-- A tile of keys (of values, with 128 lanes or with 256). -/
abbrev Keys : Shape := ⟨3, ![1, 2048, 128]⟩
abbrev Keys₂ : Shape := ⟨2, ![2048, 128]⟩
abbrev Wide : Shape := ⟨3, ![1, 2048, 256]⟩
abbrev Wide₂ : Shape := ⟨2, ![2048, 256]⟩
/-- Rows against keys. -/
abbrev Pair : Shape := ⟨3, ![1, 512, 2048]⟩
abbrev Pair₂ : Shape := ⟨2, ![512, 2048]⟩
/-- One number for every row. -/
abbrev Col : Shape := ⟨3, ![1, 512, 1]⟩
abbrev Col₂ : Shape := ⟨2, ![512, 1]⟩
abbrev Col₁ : Shape := ⟨1, ![512]⟩
/-- The same along the lanes. -/
abbrev Stat : Shape := ⟨4, ![1, 1, 1, 512]⟩
abbrev Stat₂ : Shape := ⟨2, ![1, 512]⟩
abbrev Lanes₂ : Shape := ⟨2, ![128, 512]⟩
abbrev Sums₂ : Shape := ⟨2, ![512, 256]⟩

/-- Rows against keys, contracted over the 128 lanes. -/
def dotQK : DotDims Rows₂ Keys₂ Pair₂ where
  lhsContracting := [1]
  rhsContracting := [1]
  lhsNonContracting := [0]
  rhsNonContracting := [0]
  lhsBatch := []
  rhsBatch := []
  wf := by decide

/-- Pairs against values, contracted over the keys. -/
def dotPV : DotDims Pair₂ Keys₂ Rows₂ where
  lhsContracting := [1]
  rhsContracting := [0]
  lhsNonContracting := [0]
  rhsNonContracting := [1]
  lhsBatch := []
  rhsBatch := []
  wf := by decide

/-- The same over 256 lanes. -/
def dotPW : DotDims Pair₂ Wide₂ Sums₂ where
  lhsContracting := [1]
  rhsContracting := [0]
  lhsNonContracting := [0]
  rhsNonContracting := [1]
  lhsBatch := []
  rhsBatch := []
  wf := by decide

variable {F : FTy → Type} [FloatOps F]

/-- The products of a tile's rows and a tile's keys. -/
def scores (q : Vec F Rows .bf16) (k : Vec F Keys .bf16) : FVec F Pair .f32 :=
  shapeCast Pair (matmul dotQK none (shapeCast Rows₂ q (by decide)) (shapeCast Keys₂ k (by decide)) (constant Pair₂ .f32 0x00000000#32)) (by decide)

/-- Each row's greatest score. -/
def rowMax (s : Vec F Pair .f32) : FVec F Col₂ .f32 :=
  shapeCast Col₂ (multiReduction .maximumf [1] Col₁ (shapeCast Pair₂ s (by decide)) 0xFF800000#32 (by decide) (.inl rfl) rfl) (by decide)

/-- The running maximum over the key tiles up to `n`, the same in all lanes. -/
def top (S : Fin 4 → Vec F Pair .f32) : (n : ℕ) → n < 4 → FVec F Rows₂ .f32
  | 0, h => broadcastTo Rows₂ (shapeCast Col₂ (rowMax (S ⟨0, h⟩)) (by decide)) (by decide)
  | n + 1, h => maximumf (shapeCast Rows₂ (shapeCast Rows (top S n (Nat.lt_of_succ_lt h)) (by decide)) (by decide))
      (broadcastTo Rows₂ (rowMax (S ⟨n + 1, h⟩)) (by decide))

theorem copies_fit : Shape.Concatenates (List.replicate 16 Rows₂) Pair₂ 1 := by decide

/-- Sixteen copies, one behind the other. -/
def copies (m : FVec F Rows₂ .f32) : FVec F Pair₂ .f32 :=
  concatenate Pair₂ 1 [⟨Rows₂, m⟩, ⟨Rows₂, m⟩, ⟨Rows₂, m⟩, ⟨Rows₂, m⟩, ⟨Rows₂, m⟩, ⟨Rows₂, m⟩, ⟨Rows₂, m⟩, ⟨Rows₂, m⟩,
    ⟨Rows₂, m⟩, ⟨Rows₂, m⟩, ⟨Rows₂, m⟩, ⟨Rows₂, m⟩, ⟨Rows₂, m⟩, ⟨Rows₂, m⟩, ⟨Rows₂, m⟩, ⟨Rows₂, m⟩] copies_fit

theorem copies_eq (m : FVec F Rows₂ .f32) (h : Shape.Concatenates (List.replicate 16 Rows₂) Pair₂ 1) :
    concatenate Pair₂ 1 [⟨Rows₂, m⟩, ⟨Rows₂, m⟩, ⟨Rows₂, m⟩, ⟨Rows₂, m⟩, ⟨Rows₂, m⟩, ⟨Rows₂, m⟩, ⟨Rows₂, m⟩, ⟨Rows₂, m⟩,
    ⟨Rows₂, m⟩, ⟨Rows₂, m⟩, ⟨Rows₂, m⟩, ⟨Rows₂, m⟩, ⟨Rows₂, m⟩, ⟨Rows₂, m⟩, ⟨Rows₂, m⟩, ⟨Rows₂, m⟩] h = copies m := rfl

/-- The powers of two of the scores less the running maximum. -/
def powers (s : Vec F Pair .f32) (m : FVec F Rows₂ .f32) : FVec F Pair .bf16 :=
  shapeCast Pair (truncf .bf16 (exp2 (subf (shapeCast Pair₂ s (by decide)) (copies m))) (by decide)) (by decide)

/-- By what the sums so far shrink when the running maximum grows from `m` to `m'`. -/
def fade (m m' : FVec F Rows₂ .f32) : FVec F Rows .f32 :=
  shapeCast Rows (exp2 (subf (shapeCast Rows₂ (shapeCast Rows m (by decide)) (by decide)) m')) (by decide)

/-- The sums over the key tiles up to `n` of products `X`, kept at the running maximum's scale. -/
def sums (M X : (n : ℕ) → n < 4 → FVec F Rows₂ .f32) : (n : ℕ) → n < 4 → FVec F Rows .f32
  | 0, h => shapeCast Rows (X 0 h) (by decide)
  | n + 1, h => shapeCast Rows (addf (mulf (shapeCast Rows₂ (fade (M n (Nat.lt_of_succ_lt h)) (M (n + 1) h)) (by decide))
      (shapeCast Rows₂ (sums M X n (Nat.lt_of_succ_lt h)) (by decide))) (X (n + 1) h)) (by decide)

/-- Powers times values. -/
def over (p : Vec F Pair .bf16) (v : Vec F Keys .bf16) : FVec F Rows₂ .f32 :=
  matmul dotPV none (shapeCast Pair₂ p (by decide)) (shapeCast Keys₂ v (by decide)) (constant Rows₂ .f32 0x00000000#32)

/-- Powers times values of 256 lanes, -/
def overWide (p : Vec F Pair .bf16) (v : Vec F Wide .bf16) : FVec F Sums₂ .f32 :=
  matmul dotPW none (shapeCast Pair₂ p (by decide)) (shapeCast Wide₂ v (by decide)) (constant Sums₂ .f32 0x00000000#32)

/-- the first 128 of them -/
def overLeft (p : Vec F Pair .bf16) (v : Vec F Wide .bf16) : FVec F Rows₂ .f32 :=
  extractStridedSlice Rows₂ ![0, 0] (overWide p v) (by decide)

/-- and the others. -/
def overRight (p : Vec F Pair .bf16) (v : Vec F Wide .bf16) : FVec F Rows₂ .f32 :=
  extractStridedSlice Rows₂ ![0, 128] (overWide p v) (by decide)

/-- One lane of the sums. -/
def lane (d : Fin 3 → ℕ) (x : Vec F Rows .f32) (h : ∀ a, d a + (![1, 512, 1] : Fin 3 → ℕ) a ≤ Rows.size a) : Vec F Col .f32 :=
  View.ld x (Rect.unit (s := Rows) d ![1, 512, 1] h)

/-- The sums divided by a number of the row. -/
def quotient (x : Vec F Rows .f32) (l : Vec F Col .f32) : FVec F Rows₂ .f32 :=
  mulf (shapeCast Rows₂ x (by decide))
    (broadcastTo Rows₂ (divf (broadcast Col₂ (Scalar.ofBits .f32 0x3F800000#32)) (shapeCast Col₂ l (by decide))) (by decide))

/-- The same with lane 64 cleared. -/
def cleared (x : FVec F Rows₂ .f32) : FVec F Rows₂ .f32 :=
  select (cmpi .eq (iota .tc Rows₂ 32 [1] (by decide)) (broadcast Rows₂ (64#32))) (broadcast Rows₂ (Scalar.ofBits .f32 0x00000000#32)) x

/-- A tile of the output. -/
def rowsOut (x : FVec F Rows₂ .f32) : FVec F Rows .f32 := shapeCast Rows x (by decide)

/-- The running maximum and the sum's logarithm to base two, along the lanes: `c` is 1 / log 2. -/
def logSum (m : FVec F Rows₂ .f32) (l : Vec F Col .f32) (c : F .f32) : FVec F Stat .f32 :=
  shapeCast Stat (extractStridedSlice Stat₂ ![0, 0] (transpose Lanes₂ [1, 0]
    (addf (shapeCast Rows₂ (shapeCast Rows m (by decide)) (by decide))
      (mulf (log (broadcastTo Rows₂ (shapeCast Col₂ (shapeCast Col₂ l (by decide)) (by decide)) (by decide))) (broadcast Rows₂ c))) (by decide)) (by decide)) (by decide)

/-! ## The tiles of a block -/

/-- A head's keys, all of them, and its values of 256 lanes. -/
abbrev Head : Shape := ⟨3, ![1, 8192, 128]⟩
abbrev WideHead : Shape := ⟨3, ![1, 8192, 256]⟩
/-- Four tiles of rows: what one grid point takes. -/
abbrev Block : Shape := ⟨3, ![1, 2048, 128]⟩
/-- Their statistics. -/
abbrev Stats : Shape := ⟨4, ![1, 4, 1, 512]⟩

def rowsRect (t : Fin 4) : Rect Block :=
  Rect.unit (s := Block) ![0, t.val * 512, 0] ![1, 512, 128] (by intro a; have := t.isLt; fin_cases a <;> simp <;> omega)

def keysRect (j : Fin 4) : Rect Head :=
  Rect.unit (s := Head) ![0, j.val * 2048, 0] ![1, 2048, 128] (by intro a; have := j.isLt; fin_cases a <;> simp <;> omega)

def wideRect (j : Fin 4) : Rect WideHead :=
  Rect.unit (s := WideHead) ![0, j.val * 2048, 0] ![1, 2048, 256] (by intro a; have := j.isLt; fin_cases a <;> simp <;> omega)

def statRect (t : Fin 4) : Rect Stats :=
  Rect.unit (s := Stats) ![0, t.val, 0, 0] ![1, 1, 1, 512] (by intro a; have := t.isLt; fin_cases a <;> simp <;> omega)

def rowsOf {e : EltTy} (x : Vec F Block e) (t : Fin 4) : Vec F Rows e := View.ld x (rowsRect t)
def keysOf {e : EltTy} (x : Vec F Head e) (j : Fin 4) : Vec F Keys e := View.ld x (keysRect j)
def wideOf {e : EltTy} (x : Vec F WideHead e) (j : Fin 4) : Vec F Wide e := View.ld x (wideRect j)
def statOf (x : Vec F Stats .f32) (t : Fin 4) : Vec F Stat .f32 := View.ld x (statRect t)

section
variable (q : Vec F Block .bf16) (k : Vec F Head .bf16) (v : Vec F Head .bf16) (w : Vec F WideHead .bf16) (c : F .f32) (t : Fin 4)

/-- Tile `t`'s scores against key tile `j`. -/
def sBlk (j : Fin 4) : FVec F Pair .f32 := scores (rowsOf q t) (keysOf k j)

/-- Tile `t`'s running maximum. -/
def topBlk (n : ℕ) (h : n < 4) : FVec F Rows₂ .f32 := top (sBlk q k t) n h

/-- Tile `t`'s powers against key tile `n`. -/
def pBlk (n : ℕ) (h : n < 4) : FVec F Pair .bf16 := powers (sBlk q k t ⟨n, h⟩) (topBlk q k t n h)

/-- Tile `t`'s sums of powers times values, -/
def accBlk : FVec F Rows .f32 := sums (topBlk q k t) (fun n h => over (pBlk q k t n h) (keysOf v ⟨n, h⟩)) 3 (by decide)

/-- and of values of 256 lanes, the first 128 and the others. -/
def accLeft : FVec F Rows .f32 := sums (topBlk q k t) (fun n h => overLeft (pBlk q k t n h) (wideOf w ⟨n, h⟩)) 3 (by decide)
def accRight : FVec F Rows .f32 := sums (topBlk q k t) (fun n h => overRight (pBlk q k t n h) (wideOf w ⟨n, h⟩)) 3 (by decide)

/-- The sum of the powers: lane 64 of the sums, or the first of the second 128. -/
def sumBlk : Vec F Col .f32 := lane ![0, 0, 64] (accBlk q k v t) (by decide)
def sumWide : Vec F Col .f32 := lane ![0, 0, 0] (accRight q k w t) (by decide)

/-- Tile `t`'s output. -/
def oBlk : FVec F Rows .f32 := rowsOut (cleared (quotient (accBlk q k v t) (sumBlk q k v t)))
def oWide : FVec F Rows .f32 := rowsOut (quotient (accLeft q k w t) (sumWide q k w t))

/-- Tile `t`'s statistics. -/
def lBlk : FVec F Stat .f32 := logSum (topBlk q k t 3 (by decide)) (sumBlk q k v t) c
def lWide : FVec F Stat .f32 := logSum (topBlk q k t 3 (by decide)) (sumWide q k w t) c

end

/-! ## A grid point's two outputs, tile by tile -/

/-- The output's buffer `x` and the statistics' `y` hold the tiles `o` and `l`. -/
def Tiles (x : Vec F Block .f32) (y : Vec F Stats .f32) (o : Fin 4 → Vec F Rows .f32) (l : Fin 4 → Vec F Stat .f32) : Prop :=
  View.ld x (Rect.unit (s := Block) ![0, 0, 0] ![1, 512, 128] (by decide)) = o 0 ∧
  View.ld x (Rect.unit (s := Block) ![0, 512, 0] ![1, 512, 128] (by decide)) = o 1 ∧
  View.ld x (Rect.unit (s := Block) ![0, 1024, 0] ![1, 512, 128] (by decide)) = o 2 ∧
  View.ld x (Rect.unit (s := Block) ![0, 1536, 0] ![1, 512, 128] (by decide)) = o 3 ∧
  View.ld y (Rect.unit (s := Stats) ![0, 0, 0, 0] ![1, 1, 1, 512] (by decide)) = l 0 ∧
  View.ld y (Rect.unit (s := Stats) ![0, 1, 0, 0] ![1, 1, 1, 512] (by decide)) = l 1 ∧
  View.ld y (Rect.unit (s := Stats) ![0, 2, 0, 0] ![1, 1, 1, 512] (by decide)) = l 2 ∧
  View.ld y (Rect.unit (s := Stats) ![0, 3, 0, 0] ![1, 1, 1, 512] (by decide)) = l 3

theorem Tiles.o {x : Vec F Block .f32} {y : Vec F Stats .f32} {o : Fin 4 → Vec F Rows .f32} {l : Fin 4 → Vec F Stat .f32}
    (h : Tiles x y o l) (t : Fin 4) : rowsOf x t = o t := by
  match t with
  | 0 => exact h.1
  | 1 => exact h.2.1
  | 2 => exact h.2.2.1
  | 3 => exact h.2.2.2.1

theorem Tiles.l {x : Vec F Block .f32} {y : Vec F Stats .f32} {o : Fin 4 → Vec F Rows .f32} {l : Fin 4 → Vec F Stat .f32}
    (h : Tiles x y o l) (t : Fin 4) : statOf y t = l t := by
  obtain ⟨-, -, -, -, h0, h1, h2, h3⟩ := h
  match t with
  | 0 => exact h0
  | 1 => exact h1
  | 2 => exact h2
  | 3 => exact h3

/-! ## A part of a piece read back -/

/-- A load inside the last write's rectangle reads that write's payload there. -/
theorem readCov_inside {sig : RefSig} {κ : Kind} {sp : Space} {s : Shape} {e : EltTy} {Val : EltTy → Type} [∀ e, Nonempty (Val e)]
    (d : Fin s.rank → ℕ) (v : View sig κ sp s e) {off size off' size' : Fin s.rank → ℕ} (inb : ∀ a, off a + size a ≤ s.size a)
    (inb' : ∀ a, off' a + size' a ≤ s.size a) (w : (Rect.unit (s := s) off size inb).shape.Idx → Val e) (L : List (View.Piece Val s e))
    (ho : ∀ a, off' a = off a + d a) (hs : ∀ a, d a + size' a ≤ size a) :
    v.readCov (⟨Rect.unit (s := s) off size inb, w⟩ :: L) (Rect.unit (s := s) off' size' inb').toLoadRect =
      View.ld w (Rect.unit (s := (Rect.unit (s := s) off size inb).shape) d size' hs) := by
  rw [View.readCov_eq_canon']
  funext j
  refine Eq.trans (congrArg _ ?_) (View.canon_cons_emb (Rect.unit (s := s) off size inb) w L _)
  funext a
  apply Fin.ext
  show off' a + 1 * (j a).val = off a + 1 * (d a + 1 * (j a).val)
  rw [ho]
  omega

end Cert.AttnFwd

end
-- ==== Proof.BodyFB.lean ====
/- What the body of mixer B's forward attention leaves in its two outputs at a grid point, tile by tile. -/
module

public import proofs.«01_k».proof.Proof.Gen.KernelFBIdeal.Frame
public import proofs.«01_k».proof.Proof.FwdTile
public import proofs.«01_k».proof.Proof.Tile
public import Idealize.ShloMosaic.Lib.Pipeline.ReadBack

@[expose] public section

set_option maxRecDepth 16384

noncomputable section

namespace Cert.KernelFBIdeal.Val
open Idealize.ShloMosaic Idealize.ShloMosaic.TcCoe Idealize.ShloMosaic.Tactic Cert.KernelFBIdeal Cert.KernelFBIdeal.Gen Cert.AttnFwd
open Cert.AttnGrad (ld_canon_skip ld_canon_cons)

variable {F : FTy → Type} [FloatOps F] [Named F]
variable (m : (ℓ : Loc nD τ sig) → Buf (Elt F) ℓ)

theorem body (c : Dev nD) (t : Fin cfg0.N) :
    Tiles (outsAt0 m c t).1 (outsAt0 m c t).2
      (oWide (iblk m c 0 t) (iblk m c 1 t) (iblk m c 2 t))
      (lWide (iblk m c 0 t) (iblk m c 1 t) (iblk m c 2 t) (Named.named κ "log2e" 0x3FB8AA3B#32)) := by
  unfold Tiles outsAt0
  frame_open
  simp (disch := decide) only [↓ copies_eq, ↓ View.readCov_skip, ↓ View.readCov_cons_toLoadRect]
  simp (disch := decide) only [↓ readCov_inside (s := ⟨3, ![4, 512, 256]⟩) ![0, 0, 0]]
  frame_out
  simp (disch := decide) only [↓ ld_canon_skip, ↓ ld_canon_cons]
  refine ⟨by sl_kernel_rfl, by sl_kernel_rfl, by sl_kernel_rfl, by sl_kernel_rfl, by sl_kernel_rfl, by sl_kernel_rfl, by sl_kernel_rfl, by sl_kernel_rfl⟩

end Cert.KernelFBIdeal.Val

end
-- ==== Proof.FwdIdeal.lean ====
/- The stages of the forward attention over the extended reals: what each of their numbers is. -/
module

public import proofs.«01_k».proof.Proof.FwdTile
public import proofs.«01_k».proof.Proof.RealOps
public import Idealize.ShloMosaic.Lib.Pointwise

@[expose] public section

set_option maxRecDepth 16384

noncomputable section

namespace Cert.AttnFwd
open Idealize.ShloMosaic Cert.AttnGrad
open scoped BigOperators

theorem scores_apply (q : Vec Ideal Rows .bf16) (k : Vec Ideal Keys .bf16) (r : Fin 512) (C : Fin 2048) :
    scores q k (ix3 0 r C) = ∑ d : Fin 128, q (ix3 0 r d) * k (ix3 0 C d) := by
  unfold scores
  pointwise

theorem rowMax_apply (s : Vec Ideal Pair .f32) (r : Fin 512) :
    rowMax s (ix2 r 0) = Finset.fold max (Ideal.ofBits .f32 0xFF800000#32) (fun C => s (ix3 0 r C)) Finset.univ := by
  unfold rowMax
  pointwise

theorem along_apply (x : FVec Ideal Col₂ .f32) (h) (r : Fin 512) (l : Fin 128) : broadcastTo Rows₂ x h (ix2 r l) = x (ix2 r 0) := by
  pointwise

theorem again_apply (x : FVec Ideal Col₂ .f32) (h) (r : Fin 512) : shapeCast Col₂ x h (ix2 r 0) = x (ix2 r 0) := by
  pointwise

theorem max_apply (x y : FVec Ideal Rows₂ .f32) (h h') (r : Fin 512) (l : Fin 128) :
    maximumf (shapeCast Rows₂ (shapeCast Rows x h) h') y (ix2 r l) = max (x (ix2 r l)) (y (ix2 r l)) := by
  pointwise

theorem top_zero (S : Fin 4 → Vec Ideal Pair .f32) (h : 0 < 4) (r : Fin 512) (l : Fin 128) : top S 0 h (ix2 r l) = rowMax (S ⟨0, h⟩) (ix2 r 0) := by
  rw [top, along_apply, again_apply]

theorem top_succ (S : Fin 4 → Vec Ideal Pair .f32) (n : ℕ) (h : n + 1 < 4) (r : Fin 512) (l : Fin 128) :
    top S (n + 1) h (ix2 r l) = max (top S n (Nat.lt_of_succ_lt h) (ix2 r l)) (rowMax (S ⟨n + 1, h⟩) (ix2 r 0)) := by
  rw [top, max_apply, along_apply]

theorem copiesAt (m : FVec Ideal Rows₂ .f32) (r : Fin 512) (C : Fin 2048) : ∀ (n : ℕ) (hs) (c : ℕ) (hc),
    concatenateAt Pair₂ 1 (ix2 r C) (List.replicate n ⟨Rows₂, m⟩) hs c hc = m (ix2 r ⟨c % 128, by omega⟩)
  | 0, _, _, hc => absurd hc (Nat.not_lt_zero _)
  | 1, hs, c, hc => by
    have hc' : c < 128 := by simpa [axisSizes, Shape.size] using hc
    refine congrArg m (funext fun a => Fin.ext ?_)
    fin_cases a
    · rfl
    · exact (Nat.mod_eq_of_lt hc').symm
  | n + 2, hs, c, hc => by
    by_cases hlt : c < 128
    · refine (dif_pos hlt).trans (congrArg m (funext fun a => Fin.ext ?_))
      fin_cases a
      · rfl
      · exact (Nat.mod_eq_of_lt hlt).symm
    · refine (dif_neg hlt).trans ((copiesAt m r C (n + 1) _ (c - 128) _).trans (congrArg (fun l => m (ix2 r l)) (Fin.ext ?_)))
      show (c - 128) % 128 = c % 128
      omega

theorem copies_apply (m : FVec Ideal Rows₂ .f32) (r : Fin 512) (C : Fin 2048) : copies m (ix2 r C) = m (ix2 r ⟨C.val % 128, by omega⟩) :=
  (concatenate_cons_apply ..).trans (copiesAt m r C 16 _ _ _)

theorem powers_apply (s : Vec Ideal Pair .f32) (m : FVec Ideal Rows₂ .f32) (r : Fin 512) (C : Fin 2048) :
    powers s m (ix3 0 r C) = Ideal.exp2 (s (ix3 0 r C) - m (ix2 r ⟨C.val % 128, by omega⟩)) := by
  have h : powers s m (ix3 0 r C) = Ideal.exp2 (s (ix3 0 r C) - copies m (ix2 r C)) := by
    unfold powers
    generalize copies m = x
    pointwise
    rfl
  rw [h, copies_apply]

theorem fade_apply (m m' : FVec Ideal Rows₂ .f32) (r : Fin 512) (l : Fin 128) :
    fade m m' (ix3 0 r l) = Ideal.exp2 (m (ix2 r l) - m' (ix2 r l)) := by
  unfold fade
  pointwise
  rfl

theorem over_apply (p : Vec Ideal Pair .bf16) (v : Vec Ideal Keys .bf16) (r : Fin 512) (l : Fin 128) :
    over p v (ix2 r l) = ∑ C : Fin 2048, p (ix3 0 r C) * v (ix3 0 C l) := by
  unfold over
  pointwise

theorem overWide_apply (p : Vec Ideal Pair .bf16) (v : Vec Ideal Wide .bf16) (r : Fin 512) (l : Fin 256) :
    overWide p v (ix2 r l) = ∑ C : Fin 2048, p (ix3 0 r C) * v (ix3 0 C l) := by
  unfold overWide
  pointwise

/-- Lane `l` among the first 128 of 256, and among the others. -/
def leftLane (l : Fin 128) : Fin 256 := ⟨l.val, by omega⟩
def rightLane (l : Fin 128) : Fin 256 := ⟨128 + l.val, by omega⟩

theorem left_apply (x : FVec Ideal Sums₂ .f32) (h) (r : Fin 512) (l : Fin 128) :
    extractStridedSlice Rows₂ ![0, 0] x h (ix2 r l) = x (ix2 r (leftLane l)) := by
  pointwise
  rfl

theorem right_apply (x : FVec Ideal Sums₂ .f32) (h) (r : Fin 512) (l : Fin 128) :
    extractStridedSlice Rows₂ ![0, 128] x h (ix2 r l) = x (ix2 r (rightLane l)) := by
  pointwise
  rfl

theorem overLeft_apply (p : Vec Ideal Pair .bf16) (v : Vec Ideal Wide .bf16) (r : Fin 512) (l : Fin 128) :
    overLeft p v (ix2 r l) = ∑ C : Fin 2048, p (ix3 0 r C) * v (ix3 0 C (leftLane l)) := by
  rw [overLeft, left_apply, overWide_apply]

theorem overRight_apply (p : Vec Ideal Pair .bf16) (v : Vec Ideal Wide .bf16) (r : Fin 512) (l : Fin 128) :
    overRight p v (ix2 r l) = ∑ C : Fin 2048, p (ix3 0 r C) * v (ix3 0 C (rightLane l)) := by
  rw [overRight, right_apply, overWide_apply]

theorem hold_apply (x : FVec Ideal Rows₂ .f32) (h) (r : Fin 512) (l : Fin 128) : shapeCast Rows x h (ix3 0 r l) = x (ix2 r l) := by
  pointwise

theorem step_apply (f s : FVec Ideal Rows .f32) (x : FVec Ideal Rows₂ .f32) (h h' h'') (r : Fin 512) (l : Fin 128) :
    shapeCast Rows (addf (mulf (shapeCast Rows₂ f h) (shapeCast Rows₂ s h')) x) h'' (ix3 0 r l) =
      f (ix3 0 r l) * s (ix3 0 r l) + x (ix2 r l) := by
  pointwise

theorem sums_zero (M X : (n : ℕ) → n < 4 → FVec Ideal Rows₂ .f32) (h : 0 < 4) (r : Fin 512) (l : Fin 128) :
    sums M X 0 h (ix3 0 r l) = X 0 h (ix2 r l) := by
  rw [sums, hold_apply]

theorem sums_succ (M X : (n : ℕ) → n < 4 → FVec Ideal Rows₂ .f32) (n : ℕ) (h : n + 1 < 4) (r : Fin 512) (l : Fin 128) :
    sums M X (n + 1) h (ix3 0 r l) =
      Ideal.exp2 (M n (Nat.lt_of_succ_lt h) (ix2 r l) - M (n + 1) h (ix2 r l)) * sums M X n (Nat.lt_of_succ_lt h) (ix3 0 r l) + X (n + 1) h (ix2 r l) := by
  rw [sums, step_apply, fade_apply]

theorem lane_first (x : Vec Ideal Rows .f32) (h) (r : Fin 512) : lane ![0, 0, 0] x h (ix3 0 r 0) = x (ix3 0 r 0) :=
  View.ld_unit_apply_of (S := Rows) x _ _ _ _ _ (by intro a; fin_cases a <;> simp)

theorem lane_64 (x : Vec Ideal Rows .f32) (h) (r : Fin 512) : lane ![0, 0, 64] x h (ix3 0 r 0) = x (ix3 0 r 64) :=
  View.ld_unit_apply_of (S := Rows) x _ _ _ _ _ (by intro a; fin_cases a <;> simp)

theorem quotient_apply (x : Vec Ideal Rows .f32) (l : Vec Ideal Col .f32) (r : Fin 512) (d : Fin 128) :
    quotient x l (ix2 r d) = x (ix3 0 r d) * Ideal.div (Ideal.ofBits .f32 0x3F800000#32) (l (ix3 0 r 0)) := by
  unfold quotient
  pointwise

theorem rowsOut_apply (x : FVec Ideal Rows₂ .f32) (r : Fin 512) (l : Fin 128) : rowsOut x (ix3 0 r l) = x (ix2 r l) := hold_apply x _ r l

theorem cleared_zero (x : FVec Ideal Rows₂ .f32) (r : Fin 512) : cleared x (ix2 r 64) = ((0 : ℝ) : EReal) := by
  unfold cleared
  pointwise
  exact EReal.coe_zero.symm

theorem cleared_apply (x : FVec Ideal Rows₂ .f32) (r : Fin 512) (l : Fin 128) (hl : l.val ≠ 64) : cleared x (ix2 r l) = x (ix2 r l) := by
  unfold cleared
  have : cmpi .eq (iota .tc Rows₂ 32 [1] (by decide)) (broadcast Rows₂ (64#32)) (ix2 r l) = 0#1 := by
    revert r l
    intro r
    pointwise
    decide +revert
  show (if _ = 1#1 then _ else _) = _
  rw [this]
  exact if_neg (by decide)

theorem logSum_apply (m : FVec Ideal Rows₂ .f32) (l : Vec Ideal Col .f32) (c : EReal) (r : Fin 512) :
    logSum m l c (ix4 0 0 0 r) = m (ix2 r 0) + Ideal.log (l (ix3 0 r 0)) * c := by
  unfold logSum
  pointwise

/-! ## The tiles of a block -/

/-- Row `r` of a block's tile. -/
def tileRow (t : Fin 4) (r : Fin 512) : Fin 2048 := ⟨t.val * 512 + r.val, by omega⟩

theorem ld_rows {e : EltTy} (x : Vec Ideal Block e) (t : Fin 4) (r : Fin 512) (l : Fin 128) :
    rowsOf x t (ix3 0 r l) = x (ix3 0 (tileRow t r) l) :=
  View.ld_unit_apply_of (S := Block) x _ _ _ _ _ (by intro a; fin_cases a <;> simp [tileRow])

theorem ld_keys {e : EltTy} (x : Vec Ideal Head e) (j : Fin 4) (C : Fin 2048) (l : Fin 128) :
    keysOf x j (ix3 0 C l) = x (ix3 0 ⟨j.val * 2048 + C.val, by omega⟩ l) :=
  View.ld_unit_apply_of (S := Head) x _ _ _ _ _ (by intro a; fin_cases a <;> simp)

theorem ld_wide {e : EltTy} (x : Vec Ideal WideHead e) (j : Fin 4) (C : Fin 2048) (l : Fin 256) :
    wideOf x j (ix3 0 C l) = x (ix3 0 ⟨j.val * 2048 + C.val, by omega⟩ l) :=
  View.ld_unit_apply_of (S := WideHead) x _ _ _ _ _ (by intro a; fin_cases a <;> simp)

theorem ld_stat (x : Vec Ideal Stats .f32) (t : Fin 4) (r : Fin 512) : statOf x t (ix4 0 0 0 r) = x (ix4 0 t 0 r) :=
  View.ld_unit_apply_of (S := Stats) x _ _ _ _ _ (by intro a; fin_cases a <;> simp)

end Cert.AttnFwd

end
-- ==== Proof.FwdReal.lean ====
/- The forward attention's running sums over the reals: tile after tile they are the sums over all keys, whatever the running maximum. -/
module

public import proofs.«01_k».proof.Proof.FwdIdeal
public import proofs.«01_k».proof.Proof.AttnReal

@[expose] public section

set_option maxRecDepth 16384

noncomputable section

namespace Cert.AttnFwd
open Idealize.ShloMosaic Cert.AttnGrad
open scoped BigOperators

theorem exp2_real (x : ℝ) : Ideal.exp2 (x : EReal) = (((2 : ℝ) ^ x : ℝ) : EReal) := rfl

section
variable {S : Fin 4 → Vec Ideal Pair .f32} {r : Fin 512} {σ : Fin 4 → Fin 2048 → ℝ} (hS : ∀ j C, S j (ix3 0 r C) = ((σ j C : ℝ) : EReal))
include hS

theorem rowMax_real (j : Fin 4) : ∃ μ : ℝ, rowMax (S j) (ix2 r 0) = (μ : EReal) := by
  obtain ⟨μ, h⟩ := fold_max_real _ ofBits_bot (fun C => S j (ix3 0 r C)) Finset.univ ⟨0, Finset.mem_univ _⟩ fun C => ⟨_, hS j C⟩
  exact ⟨μ, (rowMax_apply (S j) r).trans h⟩

theorem top_real : ∀ (n : ℕ) (h : n < 4), ∃ μ : ℝ, ∀ l, top S n h (ix2 r l) = (μ : EReal)
  | 0, h => by
    obtain ⟨μ, e⟩ := rowMax_real hS ⟨0, h⟩
    exact ⟨μ, fun l => (top_zero S h r l).trans e⟩
  | n + 1, h => by
    obtain ⟨μ, e⟩ := top_real n (Nat.lt_of_succ_lt h)
    obtain ⟨ν, f⟩ := rowMax_real hS ⟨n + 1, h⟩
    exact ⟨max μ ν, fun l => by rw [top_succ, e, f]; exact (EReal.coe_strictMono.monotone.map_max).symm⟩

/-- The running maximum is a number, the same in every lane. -/
theorem exists_top : ∃ μ : (n : ℕ) → n < 4 → ℝ, ∀ n h l, top S n h (ix2 r l) = ((μ n h : ℝ) : EReal) := by
  choose μ h using top_real hS
  exact ⟨μ, h⟩

variable {μ : (n : ℕ) → n < 4 → ℝ} (hμ : ∀ n h l, top S n h (ix2 r l) = ((μ n h : ℝ) : EReal))
include hμ

theorem powers_real (n : ℕ) (h : n < 4) (C : Fin 2048) :
    powers (S ⟨n, h⟩) (top S n h) (ix3 0 r C) = (((2 : ℝ) ^ (σ ⟨n, h⟩ C - μ n h) : ℝ) : EReal) := by
  rw [powers_apply, hS, hμ, ← EReal.coe_sub, exp2_real]

/-- One key tile's sum of powers times numbers. -/
theorem part_real (n : ℕ) (h : n < 4) (x : Fin 2048 → EReal) (w : Fin 2048 → ℝ) (hx : ∀ C, x C = ((w C : ℝ) : EReal)) :
    ∑ C, powers (S ⟨n, h⟩) (top S n h) (ix3 0 r C) * x C = ((∑ C, (2 : ℝ) ^ (σ ⟨n, h⟩ C - μ n h) * w C : ℝ) : EReal) := by
  rw [← coe_sum]
  exact Finset.sum_congr rfl fun C _ => by rw [powers_real hS hμ, hx, EReal.coe_mul]

/-- The sums after the tiles up to `n`, all at the last running maximum's scale. -/
theorem sums_real (w : Fin 4 → Fin 2048 → ℝ) (X : (n : ℕ) → n < 4 → FVec Ideal Rows₂ .f32) (l : Fin 128)
    (hX : ∀ n h, X n h (ix2 r l) = ((∑ C, (2 : ℝ) ^ (σ ⟨n, h⟩ C - μ n h) * w ⟨n, h⟩ C : ℝ) : EReal)) :
    ∀ (n : ℕ) (h : n < 4), sums (top S) X n h (ix3 0 r l) =
      ((∑ j : Fin (n + 1), ∑ C, (2 : ℝ) ^ (σ ⟨j, by omega⟩ C - μ n h) * w ⟨j, by omega⟩ C : ℝ) : EReal)
  | 0, h => by
    rw [sums_zero, hX, Fin.sum_univ_one]
    rfl
  | n + 1, h => by
    rw [sums_succ, sums_real w X l hX n, hμ, hμ, hX, ← EReal.coe_sub, exp2_real, ← EReal.coe_mul, ← EReal.coe_add]
    congr 1
    rw [Fin.sum_univ_castSucc (n := n + 1), Finset.mul_sum]
    refine congrArg₂ (· + ·) (Finset.sum_congr rfl fun j _ => ?_) rfl
    rw [Finset.mul_sum]
    refine Finset.sum_congr rfl fun C _ => ?_
    rw [← mul_assoc, ← Real.rpow_add two_pos]
    congr 2
    simp only [Fin.val_castSucc]
    ring

end

/-- A power of two of a score in units of log 2. -/
theorem two_rpow (s m : ℝ) : (2 : ℝ) ^ (s / Real.log 2 - m) = Real.exp (s - m * Real.log 2) := by
  rw [Real.rpow_def_of_pos two_pos]
  congr 1
  field_simp [log2_ne]

section
variable {n : ℕ} {σ : ℝ} {Q K : Fin 8192 → Fin n → ℝ} {q : Vec Ideal Block .bf16} {k : Vec Ideal Head .bf16} {v : Vec Ideal Head .bf16}
  {w : Vec Ideal WideHead .bf16} {t : Fin 4} {r : Fin 512} {R : Fin 8192}
  (hq : ∀ C : Fin 8192, ∑ l, q (ix3 0 (tileRow t r) l) * k (ix3 0 C l) = ((score σ Q K C R / Real.log 2 : ℝ) : EReal))
include hq

/-- Key `C` of tile `j`. -/
def key (j : Fin 4) (C : Fin 2048) : Fin 8192 := ⟨j.val * 2048 + C.val, by omega⟩

theorem sBlk_real (j : Fin 4) (C : Fin 2048) : sBlk q k t j (ix3 0 r C) = ((score σ Q K (key j C) R / Real.log 2 : ℝ) : EReal) := by
  unfold sBlk
  rw [scores_apply]
  refine Eq.trans (Finset.sum_congr rfl fun l _ => ?_) (hq (key j C))
  rw [ld_rows, ld_keys]
  rfl

theorem all_keys (m : ℝ) (x : Fin 8192 → ℝ) :
    ∑ j : Fin 4, ∑ C : Fin 2048, (2 : ℝ) ^ (score σ Q K (key j C) R / Real.log 2 - m) * x (key j C) =
      ∑ C, Real.exp (score σ Q K C R - m * Real.log 2) * x C := by
  simp only [two_rpow]
  exact (Fin.sum_univ_tiles 4 2048 rfl (fun C => Real.exp (score σ Q K C R - m * Real.log 2) * x C)).symm

/-- A tile's running maximum at the end is a number, and its sums are those over all keys at its scale. -/
theorem row_real : ∃ m : ℝ, (∀ l, topBlk q k t 3 (by decide) (ix2 r l) = (m : EReal)) ∧
    (∀ (l : Fin 128) (x : Fin 8192 → ℝ), (∀ C, v (ix3 0 C l) = ((x C : ℝ) : EReal)) →
      accBlk q k v t (ix3 0 r l) = ((∑ C, Real.exp (score σ Q K C R - m * Real.log 2) * x C : ℝ) : EReal)) ∧
    (∀ (l : Fin 128) (x : Fin 8192 → ℝ), (∀ C, w (ix3 0 C (leftLane l)) = ((x C : ℝ) : EReal)) →
      accLeft q k w t (ix3 0 r l) = ((∑ C, Real.exp (score σ Q K C R - m * Real.log 2) * x C : ℝ) : EReal)) ∧
    (∀ (l : Fin 128) (x : Fin 8192 → ℝ), (∀ C, w (ix3 0 C (rightLane l)) = ((x C : ℝ) : EReal)) →
      accRight q k w t (ix3 0 r l) = ((∑ C, Real.exp (score σ Q K C R - m * Real.log 2) * x C : ℝ) : EReal)) := by
  have hS := sBlk_real hq
  obtain ⟨μ, hμ⟩ := exists_top hS
  refine ⟨μ 3 (by decide), hμ 3 _, fun l x hx => ?_, fun l x hx => ?_, fun l x hx => ?_⟩ <;> rw [← all_keys hq]
  · exact sums_real hS hμ (fun j C => x (key j C)) _ l (fun n h => (over_apply ..).trans
      (part_real hS hμ n h _ _ fun C => (ld_keys v ⟨n, h⟩ C l).trans (hx (key ⟨n, h⟩ C)))) 3 (by decide)
  · exact sums_real hS hμ (fun j C => x (key j C)) _ l (fun n h => (overLeft_apply ..).trans
      (part_real hS hμ n h _ _ fun C => (ld_wide w ⟨n, h⟩ C (leftLane l)).trans (hx (key ⟨n, h⟩ C)))) 3 (by decide)
  · exact sums_real hS hμ (fun j C => x (key j C)) _ l (fun n h => (overRight_apply ..).trans
      (part_real hS hμ n h _ _ fun C => (ld_wide w ⟨n, h⟩ C (rightLane l)).trans (hx (key ⟨n, h⟩ C)))) 3 (by decide)

/-- Sums divided by the sum of the exponentials: the weighted sum. -/
theorem quotient_real (m : ℝ) (x : Fin 8192 → ℝ) (a b : EReal)
    (ha : a = ((∑ C, Real.exp (score σ Q K C R - m * Real.log 2) * x C : ℝ) : EReal))
    (hb : b = ((∑ C, Real.exp (score σ Q K C R - m * Real.log 2) * 1 : ℝ) : EReal)) :
    a * Ideal.div (Ideal.ofBits .f32 0x3F800000#32) b = ((∑ C, prob σ Q K C R * x C : ℝ) : EReal) := by
  have hl := (shifted_pos σ Q K (m * Real.log 2) R).ne'
  have hb' : b = ((shifted σ Q K (m * Real.log 2) R : ℝ) : EReal) := by
    rw [hb]
    simp only [mul_one]
    rfl
  rw [ha, hb', ofBits_one, div_real _ _ hl, ← EReal.coe_mul]
  congr 1
  rw [Finset.sum_mul]
  refine Finset.sum_congr rfl fun C _ => ?_
  rw [← shifted_prob σ Q K (m * Real.log 2) C R]
  ring

theorem logSum_real (m : ℝ) (b : EReal) (hb : b = ((∑ C, Real.exp (score σ Q K C R - m * Real.log 2) * 1 : ℝ) : EReal)) :
    (m : EReal) + Ideal.log b * (((Real.log 2)⁻¹ : ℝ) : EReal) = ((Real.log (denom σ Q K R) / Real.log 2 : ℝ) : EReal) := by
  have hl := shifted_pos σ Q K (m * Real.log 2) R
  have hb' : b = ((shifted σ Q K (m * Real.log 2) R : ℝ) : EReal) := by
    rw [hb]
    simp only [mul_one]
    rfl
  rw [hb', log_real _ hl, ← EReal.coe_mul, ← EReal.coe_add]
  congr 1
  rw [shifted_eq, Real.log_mul (denom_pos ..).ne' (Real.exp_pos _).ne', Real.log_exp]
  field_simp [log2_ne]
  ring

/-! ## Rows of the two outputs -/

theorem oWide_real (l : Fin 128) (x : Fin 8192 → ℝ) (hx : ∀ C, w (ix3 0 C (leftLane l)) = ((x C : ℝ) : EReal))
    (h1 : ∀ C, w (ix3 0 C (rightLane 0)) = ((1 : ℝ) : EReal)) :
    oWide q k w t (ix3 0 r l) = ((∑ C, prob σ Q K C R * x C : ℝ) : EReal) := by
  obtain ⟨m, -, -, hL, hR⟩ := row_real hq (v := fun _ => 0) (w := w)
  unfold oWide
  rw [rowsOut_apply, quotient_apply]
  exact quotient_real hq m x _ _ (hL l x hx) ((lane_first _ _ r).trans (hR 0 _ h1))

theorem lWide_real (h1 : ∀ C, w (ix3 0 C (rightLane 0)) = ((1 : ℝ) : EReal)) :
    lWide q k w (((Real.log 2)⁻¹ : ℝ) : EReal) t (ix4 0 0 0 r) = ((Real.log (denom σ Q K R) / Real.log 2 : ℝ) : EReal) := by
  obtain ⟨m, hm, -, -, hR⟩ := row_real hq (v := fun _ => 0) (w := w)
  unfold lWide
  rw [logSum_apply, hm]
  exact logSum_real hq m _ ((lane_first _ _ r).trans (hR 0 _ h1))

theorem oBlk_real (l : Fin 128) (hl : l.val ≠ 64) (x : Fin 8192 → ℝ) (hx : ∀ C, v (ix3 0 C l) = ((x C : ℝ) : EReal))
    (h1 : ∀ C, v (ix3 0 C 64) = ((1 : ℝ) : EReal)) :
    oBlk q k v t (ix3 0 r l) = ((∑ C, prob σ Q K C R * x C : ℝ) : EReal) := by
  obtain ⟨m, -, hA, -, -⟩ := row_real hq (v := v) (w := fun _ => 0)
  unfold oBlk
  rw [rowsOut_apply, cleared_apply _ _ _ hl, quotient_apply]
  exact quotient_real hq m x _ _ (hA l x hx) ((lane_64 _ _ r).trans (hA 64 _ h1))

omit hq in
theorem oBlk_zero : oBlk q k v t (ix3 0 r 64) = ((0 : ℝ) : EReal) := by
  unfold oBlk
  rw [rowsOut_apply, cleared_zero]

theorem lBlk_real (h1 : ∀ C, v (ix3 0 C 64) = ((1 : ℝ) : EReal)) :
    lBlk q k v (((Real.log 2)⁻¹ : ℝ) : EReal) t (ix4 0 0 0 r) = ((Real.log (denom σ Q K R) / Real.log 2 : ℝ) : EReal) := by
  obtain ⟨m, hm, hA, -, -⟩ := row_real hq (v := v) (w := fun _ => 0)
  unfold lBlk
  rw [logSum_apply, hm]
  exact logSum_real hq m _ ((lane_64 _ _ r).trans (hA 64 _ h1))

end

/-! ## A grid point's outputs, from their tiles -/

/-- The row of lane `r` of the statistics' tile `i`. -/
def statRow (i : Fin 16) (r : Fin 512) : Fin 8192 := ⟨i.val * 512 + r.val, by omega⟩

theorem statRow_eq (p i : Fin 4) (r : Fin 512) (h : p.val * 4 + i.val < 16) (h' : p.val * 2048 + (i.val * 512 + r.val) < 8192) :
    statRow ⟨p.val * 4 + i.val, h⟩ r = ⟨p.val * 2048 + (i.val * 512 + r.val), h'⟩ :=
  Fin.ext (by simp only [statRow]; omega)

theorem block_funext {x y : Vec Ideal Block .f32} (h : ∀ (i : Fin 4) (r : Fin 512) l,
    x (ix3 0 (tileRow i r) l) = y (ix3 0 (tileRow i r) l)) : x = y := by
  funext a
  have e : a = ix3 0 (a 1) (a 2) :=
    (Idealize.ShloMosaic.ix3_eta a).symm.trans (congrArg (fun b => ix3 b (a 1) (a 2)) (Subsingleton.elim (α := Fin 1) _ _))
  have ha : (a 1).val < 2048 := (a 1).isLt
  have e' : tileRow ⟨(a 1).val / 512, by omega⟩ ⟨(a 1).val % 512, by omega⟩ = a 1 := Fin.ext (by simp only [tileRow]; omega)
  have := h ⟨(a 1).val / 512, by omega⟩ ⟨(a 1).val % 512, by omega⟩ (a 2)
  rw [e'] at this
  rw [e]
  exact this

theorem stats_funext {x y : Vec Ideal Stats .f32} (h : ∀ (i : Fin 4) (r : Fin 512), x (ix4 0 i 0 r) = y (ix4 0 i 0 r)) : x = y := by
  funext a
  have e : a = ix4 0 (a 1) 0 (a 3) := (Idealize.ShloMosaic.ix4_eta a).symm.trans
    (congrArg₂ (fun b c => ix4 b (a 1) c (a 3)) (Subsingleton.elim (α := Fin 1) _ _) (Subsingleton.elim (α := Fin 1) _ _))
  rw [e]
  exact h _ _

/-- Any row is a lane of a tile of the statistics. -/
theorem exists_statRow (R : Fin 8192) : ∃ i r, statRow i r = R :=
  ⟨⟨R.val / 512, by omega⟩, ⟨R.val % 512, by omega⟩, Fin.ext (by simp only [statRow]; omega)⟩

/-- The logarithm of a row's sum does not depend on the shift. -/
theorem log_shifted {n : ℕ} (σ : ℝ) (Q K : Fin 8192 → Fin n → ℝ) (M : ℝ) (R : Fin 8192) :
    M + Real.log (shifted σ Q K M R) = Real.log (denom σ Q K R) := by
  rw [shifted_eq, Real.log_mul (denom_pos ..).ne' (Real.exp_pos _).ne', Real.log_exp]
  ring

/-- The product of a row of scaled queries and a row of keys, each spread over the lanes. -/
theorem lanes_score {n : ℕ} {lane : Fin n → Fin 128} (inj : Function.Injective lane) {σ : ℝ} {Q K : Fin 8192 → Fin n → ℝ} {R C : Fin 8192}
    {q k : Fin 128 → EReal} (hq : ∀ j, q (lane j) = ((Q R j * (σ / Real.log 2) : ℝ) : EReal)) (hk : ∀ j, k (lane j) = ((K C j : ℝ) : EReal))
    (h0 : ∀ l, l ∉ Set.range lane → k l = 0) : ∑ l, q l * k l = ((score σ Q K C R / Real.log 2 : ℝ) : EReal) := by
  refine (sum_lanes lane inj (fun j => ((Q R j * (σ / Real.log 2) * K C j : ℝ) : EReal)) _ (fun j => ?_) fun l hl => ?_).trans ?_
  · rw [hq, hk, ← EReal.coe_mul]
  · rw [h0 l hl, mul_zero]
  · rw [coe_sum]
    congr 1
    unfold score
    rw [mul_div_assoc, Finset.sum_mul]
    exact Finset.sum_congr rfl fun j _ => by ring

theorem colB_head (h : Fin 4) (l : Fin 128) (p : (colB h l).val / 128 < 4) : (⟨(colB h l).val / 128, p⟩ : Fin 4) = h :=
  Fin.ext (by simp only [colB]; omega)

theorem colB_feature (h : Fin 4) (l : Fin 128) (p : (colB h l).val % 128 < 128) : (⟨(colB h l).val % 128, p⟩ : Fin 128) = l :=
  Fin.ext (by simp only [colB]; omega)

end Cert.AttnFwd

end
-- ==== Proof.OpsFB.lean ====
/- The operands of attention B's forward call, head by head, what a window's block holds of them, and the arrays after the grid. -/
module

public import proofs.«01_k».proof.Proof.BodyFB
public import proofs.«01_k».proof.Proof.FwdReal

@[expose] public section

set_option maxRecDepth 16384

noncomputable section

namespace Cert.KernelFBIdeal.Val
open Idealize.ShloMosaic Idealize.ShloMosaic.TcCoe Idealize.ShloMosaic.Tactic Cert.KernelFBIdeal Cert.KernelFBIdeal.Gen Cert.AttnFwd
open Cert.AttnGrad (score denom prob scaleB)
open scoped BigOperators

variable (m : (ℓ : Loc nD τ sig) → Buf (Elt Ideal) ℓ)

/-- The named constant is 1 / log 2. -/
theorem log2e_real : Named.named (F := Ideal) κ "log2e" (φ := .f32) 0x3FB8AA3B#32 = (((Real.log 2)⁻¹ : ℝ) : EReal) :=
  IdealRules.named_const.ideal_named_scalar _ _ _ _ rfl

section
variable (c : Dev nD) (h : Fin 4)
def qOp (R : Fin 8192) (l : Fin 128) : EReal := (V m c main_v22 : Vec Ideal S4x8192x128 .bf16) (ix3 h R l)
def kOp (R : Fin 8192) (l : Fin 128) : EReal := (V m c main_v40 : Vec Ideal S4x8192x128 .bf16) (ix3 h R l)
def vOp (R : Fin 8192) (l : Fin 256) : EReal := (V m c main_v48 : Vec Ideal S4x8192x256 .bf16) (ix3 h R l)
end

/-- The windows' block indices. -/
theorem idx : ∀ t : Fin cfg0.N, win0_0.index t = ![t.val / 4, t.val % 4, 0] ∧ win0_1.index t = ![t.val / 4, 0, 0] ∧
    win0_2.index t = ![t.val / 4, 0, 0] ∧ win0_3.index t = ![t.val / 4, t.val % 4, 0] ∧ win0_4.index t = ![t.val / 4, t.val % 4, 0, 0] :=
  (by decide +kernel : ∀ t : Fin grid0.N, _)

/-- The head of a grid point, and which quarter of the rows it takes. -/
def headOf (t : Fin cfg0.N) : Fin 4 := ⟨t.val / 4, by have : t.val < 16 := lt_of_lt_of_eq t.isLt N_0; omega⟩
def partOf (t : Fin cfg0.N) : Fin 4 := ⟨t.val % 4, by omega⟩

/-- A row of a grid point's block. -/
def rowAt (t : Fin cfg0.N) (r : Fin 2048) : Fin 8192 := ⟨(partOf t).val * 2048 + r.val, by omega⟩

section
variable (t : Fin cfg0.N)

theorem read_q (X : Vec Ideal S4x8192x128 .bf16) (r : Fin 2048) (l : Fin 128) :
    ((cfg0.win 0).blk t).view.read (Elt Ideal) X (ix3 0 r l) = X (ix3 (headOf t) (rowAt t r) l) := by
  unfold rowAt headOf partOf
  blk_ext [idx t]

theorem read_k (X : Vec Ideal S4x8192x128 .bf16) (C : Fin 8192) (l : Fin 128) :
    ((cfg0.win 1).blk t).view.read (Elt Ideal) X (ix3 0 C l) = X (ix3 (headOf t) C l) := by
  unfold headOf
  blk_ext [idx t]

theorem read_v (X : Vec Ideal S4x8192x256 .bf16) (C : Fin 8192) (l : Fin 256) :
    ((cfg0.win 2).blk t).view.read (Elt Ideal) X (ix3 0 C l) = X (ix3 (headOf t) C l) := by
  unfold headOf
  blk_ext [idx t]

theorem read_o (X : Vec Ideal S4x8192x128 .f32) (r : Fin 2048) (l : Fin 128) :
    ((cfg0.win 3).blk t).view.read (Elt Ideal) X (ix3 0 r l) = X (ix3 (headOf t) (rowAt t r) l) := by
  unfold rowAt headOf partOf
  blk_ext [idx t]

theorem read_l (X : Vec Ideal S4x16x1x512 .f32) (i : Fin 4) (r : Fin 512) :
    ((cfg0.win 4).blk t).view.read (Elt Ideal) X (ix4 0 i 0 r) = X (ix4 (headOf t) ⟨(partOf t).val * 4 + i.val, by omega⟩ 0 r) := by
  unfold headOf partOf
  blk_ext [idx t]
end

section
variable (c : Dev nD) (t : Fin cfg0.N)

theorem iblk_q (r : Fin 2048) (l : Fin 128) : (iblk m c 0 t : Vec Ideal Block .bf16) (ix3 0 r l) = qOp m c (headOf t) (rowAt t r) l :=
  read_q t (V m c main_v22) r l

theorem iblk_k (C : Fin 8192) (l : Fin 128) : (iblk m c 1 t : Vec Ideal Head .bf16) (ix3 0 C l) = kOp m c (headOf t) C l :=
  read_k t (V m c main_v40) C l

theorem iblk_v (C : Fin 8192) (l : Fin 256) : (iblk m c 2 t : Vec Ideal WideHead .bf16) (ix3 0 C l) = vOp m c (headOf t) C l :=
  read_v t (V m c main_v48) C l

end

/-! ## The arrays after the grid, where the operands are those of finite numbers -/

section
variable {Q K : Fin 4 → Fin 8192 → Fin 96 → ℝ} {U : Fin 4 → Fin 8192 → Fin 128 → ℝ}

/-- The output, head by head, -/
def oArr (Q K : Fin 4 → Fin 8192 → Fin 96 → ℝ) (U : Fin 4 → Fin 8192 → Fin 128 → ℝ) : Vec Ideal S4x8192x128 .f32 := fun i =>
  ((∑ C, prob scaleB (Q (i 0)) (K (i 0)) C (i 1) * U (i 0) C (i 2) : ℝ) : EReal)

/-- and the logarithms of the rows' sums to base two. -/
def lArr (Q K : Fin 4 → Fin 8192 → Fin 96 → ℝ) : Vec Ideal S4x16x1x512 .f32 := fun i =>
  ((Real.log (denom scaleB (Q (i 0)) (K (i 0)) (statRow (i 1) (i 3))) / Real.log 2 : ℝ) : EReal)

variable (c : Dev nD)
  (hqk : ∀ h R C, ∑ l, qOp m c h R l * kOp m c h C l = ((score scaleB (Q h) (K h) C R / Real.log 2 : ℝ) : EReal))
  (hv : ∀ h C l, vOp m c h C (leftLane l) = ((U h C l : ℝ) : EReal)) (h1 : ∀ h C, vOp m c h C (rightLane 0) = ((1 : ℝ) : EReal))

section
variable {x : Vec Ideal Block .bf16} {y : Vec Ideal Head .bf16} {z : Vec Ideal WideHead .bf16} {t : Fin cfg0.N}
  (hx : ∀ r l, x (ix3 0 r l) = qOp m c (headOf t) (rowAt t r) l) (hy : ∀ C l, y (ix3 0 C l) = kOp m c (headOf t) C l)
  (hz : ∀ C l, z (ix3 0 C l) = vOp m c (headOf t) C l)
include hqk hx hy

theorem block_qk (i : Fin 4) (r : Fin 512) (C : Fin 8192) : ∑ l, x (ix3 0 (tileRow i r) l) * y (ix3 0 C l) =
    ((score scaleB (Q (headOf t)) (K (headOf t)) C (rowAt t (tileRow i r)) / Real.log 2 : ℝ) : EReal) :=
  (Finset.sum_congr rfl fun l _ => congrArg₂ (· * ·) (hx _ l) (hy C l)).trans (hqk (headOf t) (rowAt t (tileRow i r)) C)

include h1 hz

theorem out_l (o : Vec Ideal Stats .f32) (ho : ∀ i, statOf o i = lWide x y z (((Real.log 2)⁻¹ : ℝ) : EReal) i) (i : Fin 4) (r : Fin 512) :
    o (ix4 0 i 0 r) = ((cfg0.win 4).blk t).view.read (Elt Ideal) (lArr Q K) (ix4 0 i 0 r) := by
  rw [read_l, ← ld_stat o i r, ho i]
  refine (lWide_real (block_qk m c hqk hx hy i r) fun C => (hz C _).trans (h1 _ C)).trans ?_
  have e : statRow ⟨(partOf t).val * 4 + i.val, by omega⟩ r = rowAt t (tileRow i r) := statRow_eq _ _ _ _ _
  rw [← e]
  rfl

include hv

theorem out_o (o : Vec Ideal Block .f32) (ho : ∀ i, rowsOf o i = oWide x y z i) (i : Fin 4) (r : Fin 512) (l : Fin 128) :
    o (ix3 0 (tileRow i r) l) = ((cfg0.win 3).blk t).view.read (Elt Ideal) (oArr Q K U) (ix3 0 (tileRow i r) l) := by
  rw [read_o, ← ld_rows o i r l, ho i]
  exact oWide_real (block_qk m c hqk hx hy i r) l _ (fun C => (hz C _).trans (hv _ C l)) fun C => (hz C _).trans (h1 _ C)

end

theorem log2e_tiles (t : Fin cfg0.N) (i : Fin 4) : statOf (outsAt0 m c t).2 i =
    lWide (iblk m c 0 t) (iblk m c 1 t) (iblk m c 2 t) (((Real.log 2)⁻¹ : ℝ) : EReal) i :=
  ((body m c t).l i).trans (congrArg (fun e => lWide (F := Ideal) (iblk m c 0 t) (iblk m c 1 t) (iblk m c 2 t) e i) log2e_real)

theorem cut_o (t : Fin cfg0.N) (x : Vec Ideal Block .f32) (X : Vec Ideal S4x8192x128 .f32)
    (h : ∀ (i : Fin 4) (r : Fin 512) l, x (ix3 0 (tileRow i r) l) =
      ((cfg0.win 3).blk t).view.read (Elt Ideal) X (ix3 0 (tileRow i r) l))
    (y : ((cfg0.win 3).xblock (cfg0.grid.coords t)).Idx) : x y = X ((win0_3.blk t).view.emb y) :=
  congrFun (block_funext (y := ((cfg0.win 3).blk t).view.read (Elt Ideal) X) h) y

theorem cut_l (t : Fin cfg0.N) (x : Vec Ideal Stats .f32) (X : Vec Ideal S4x16x1x512 .f32)
    (h : ∀ (i : Fin 4) (r : Fin 512), x (ix4 0 i 0 r) = ((cfg0.win 4).blk t).view.read (Elt Ideal) X (ix4 0 i 0 r))
    (y : ((cfg0.win 4).xblock (cfg0.grid.coords t)).Idx) : x y = X ((win0_4.blk t).view.emb y) :=
  congrFun (stats_funext (y := ((cfg0.win 4).blk t).view.read (Elt Ideal) X) h) y

include hqk h1

include hv in
theorem final_o : (dats m 0 c).arrAt 3 (cfgs 0).N = oArr Q K U := by
  refine (dats m 0 c).arrAt_eq_of_covers 3 _ (by decide +kernel) fun t hf y => ?_
  blk_simp
  rw [after0_3]
  exact cut_o t _ _ (out_o m c hqk hv h1 (iblk_q m c t) (iblk_k m c t) (iblk_v m c t) _ (body m c t).o) y

theorem final_l : (dats m 0 c).arrAt 4 (cfgs 0).N = lArr Q K := by
  refine (dats m 0 c).arrAt_eq_of_covers 4 _ (by decide +kernel) fun t hf y => ?_
  blk_simp
  rw [after0_4]
  exact cut_l t _ _ (out_l m c hqk h1 (iblk_q m c t) (iblk_k m c t) (iblk_v m c t) _ (log2e_tiles m c t)) y

end

end Cert.KernelFBIdeal.Val

end
-- ==== Proof.TailFB.lean ====
/- What attention B's forward call and the lines after it compute, for finite arguments. -/
module

public import proofs.«01_k».proof.Proof.HostFB
public import proofs.«01_k».proof.Proof.OpsFB
public import Idealize.ShloMosaic.Lib.Pipeline.FrameSuffix

@[expose] public section

set_option maxRecDepth 16384

noncomputable section

namespace Cert.KernelFBIdeal.Val
open Idealize.ShloMosaic Idealize.ShloMosaic.TcCoe Idealize.ShloMosaic.Tactic Idealize.SL.Sem Cert.KernelFBIdeal Cert.KernelFBIdeal.Gen Cert.AttnFwd
open Cert.AttnGrad (score denom prob scaleB coe_sum div_real sqrt96_ne log2_ne colB ofBits_one)
open Cert.KernelIdeal.Val (root ln2 hSpread hQ hV laneB hSpread_lane hSpread_off hQ_apply hV_apply trunc_apply ln2_apply)
open scoped BigOperators

/-! ## The operands -/

theorem both_left (x y : FVec Ideal S4x8192x128 .f32) (h : Fin 4) (R : Fin 8192) (l : Fin 128) :
    hBoth x y (ix3 h R (leftLane l)) = x (ix3 h R l) := by
  unfold hBoth
  pointwise
  exact dif_pos l.isLt

theorem both_right (x y : FVec Ideal S4x8192x128 .f32) (h : Fin 4) (R : Fin 8192) :
    hBoth x y (ix3 h R (rightLane 0)) = y (ix3 h R 0) := by
  unfold hBoth
  obtain ⟨l, hl⟩ : ∃ l, l = rightLane 0 := ⟨_, rfl⟩
  have hv : l.val = 128 := congrArg Fin.val hl
  rw [← hl]
  pointwise
  refine (dif_neg (by omega)).trans (congrArg (fun l => y (ix3 h R l)) (Fin.ext ?_))
  simp only [hv]
  rfl

theorem hOne_apply (h : Fin 4) (R : Fin 8192) : hOne (ix3 h R 0) = ((1 : ℝ) : EReal) := by
  rw [← ofBits_one]
  unfold hOne
  pointwise

variable (m : (ℓ : Loc nD τ sig) → Buf (Elt Ideal) ℓ) (ρ : Dev nD → PrngReg) (c : Dev nD)
variable {Q K : Fin 4 → Fin 8192 → Fin 96 → ℝ} {U : Fin 4 → Fin 8192 → Fin 128 → ℝ}

section
variable (hq : ∀ h R j, argQ m c (ix4 0 h R j) = ((Q h R j : ℝ) : EReal)) (hk : ∀ h R j, argK m c (ix4 0 h R j) = ((K h R j : ℝ) : EReal))
  (hv : ∀ h R l, argV m c (ix4 0 h R l) = ((U h R l : ℝ) : EReal))

include hq in
theorem q_lane (h : Fin 4) (R : Fin 8192) (j : Fin 96) : qOp m c h R (laneB j) = ((Q h R j * (scaleB / Real.log 2) : ℝ) : EReal) := by
  rw [qOp, V_q, trunc_apply, hQ_apply, hSpread_lane, hq, div_real _ _ (mul_ne_zero sqrt96_ne log2_ne)]
  congr 1
  unfold scaleB
  rw [div_div, mul_one_div]

include hk in
theorem k_lane (h : Fin 4) (R : Fin 8192) (j : Fin 96) : kOp m c h R (laneB j) = ((K h R j : ℝ) : EReal) := by
  rw [kOp, V_k, trunc_apply, hSpread_lane, hk]

include hq hk in
theorem qk_real (h : Fin 4) (R C : Fin 8192) :
    ∑ l, qOp m c h R l * kOp m c h C l = ((score scaleB (Q h) (K h) C R / Real.log 2 : ℝ) : EReal) :=
  lanes_score Cert.KernelIdeal.Val.laneB_inj (fun j => q_lane m c hq h R j) (fun j => k_lane m c hk h C j) fun l hl => by
    rw [kOp, V_k, trunc_apply, hSpread_off h C l hl]

include hv in
theorem v_left (h : Fin 4) (C : Fin 8192) (l : Fin 128) : vOp m c h C (leftLane l) = ((U h C l : ℝ) : EReal) := by
  rw [vOp, V_v, trunc_apply, both_left, hV_apply, hv]

theorem v_right (h : Fin 4) (C : Fin 8192) : vOp m c h C (rightLane 0) = ((1 : ℝ) : EReal) := by
  rw [vOp, V_v, trunc_apply, both_right, hOne_apply]

end

/-! ## The lines after the call -/

/-- The output's heads side by side. -/
def outO (x : FVec Ideal S4x8192x128 .f32) : FVec Ideal S1x8192x512 .f32 :=
  shapeCast S1x8192x512 (transpose S8192x4x128 [1, 0, 2] x transposes_S4x8192x128_S8192x4x128_1_0_2) shapeCasts_S8192x4x128_S1x8192x512

/-- The logarithms of the rows' sums, from those to base two. -/
def outL (y : FVec Ideal S4x16x1x512 .f32) (z : FVec Ideal S_ .f32) : FVec Ideal S1x4x8192 .f32 :=
  mulf (shapeCast S1x4x8192 y shapeCasts_S4x16x1x512_S1x4x8192) (broadcastInDim S1x4x8192 ![] bcast_S_S1x4x8192 z)

theorem tail_o (W : Valuation τ sig (Elt Ideal)) : StableHlo.after hostOps1 W main_v51 = outO (W main_v49_0) := by
  entry_read
  rfl

theorem tail_l (W : Valuation τ sig (Elt Ideal)) : StableHlo.after hostOps1 W main_v54 = outL (W main_v49_1) (W main_v0) := by
  entry_read
  rfl

theorem outO_apply (x : FVec Ideal S4x8192x128 .f32) (R : Fin 8192) (h : Fin 4) (l : Fin 128) : outO x (ix3 0 R (colB h l)) = x (ix3 h R l) := by
  unfold outO
  pointwise
  rw [colB_head, colB_feature]

theorem outL_apply (y : FVec Ideal S4x16x1x512 .f32) (z : FVec Ideal S_ .f32) (h : Fin 4) (i : Fin 16) (r : Fin 512) :
    outL y z (ix3 0 h (statRow i r)) = y (ix4 h i 0 r) * z ix0 := by
  unfold outL statRow
  pointwise

theorem outO_real (R : Fin 8192) (h : Fin 4) (l : Fin 128) :
    outO (oArr Q K U) (ix3 0 R (colB h l)) = ((∑ C, prob scaleB (Q h) (K h) C R * U h C l : ℝ) : EReal) := by
  rw [outO_apply]
  rfl

theorem outL_real (h : Fin 4) (R : Fin 8192) : outL (lArr Q K) ln2 (ix3 0 h R) = ((Real.log (denom scaleB (Q h) (K h) R) : ℝ) : EReal) := by
  obtain ⟨i, r, rfl⟩ := exists_statRow R
  rw [outL_apply, ln2_apply]
  refine (EReal.coe_mul _ _).symm.trans (congrArg _ ?_)
  exact div_mul_cancel₀ _ log2_ne

/-! ## The run -/

theorem after_arr (w : Fin cfg0.W) : Pipeline.withArrays (cfgs 0).spec c (V0 m c) (fun w => (dats m 0 c).arrAt w (cfgs 0).N)
    (Proc.devRef .tc (Pipeline.arrRef (cfgs 0).spec w)) = (dats m 0 c).arrAt w (cfgs 0).N :=
  Pipeline.withArrays_arr _ launch0.win.arr_inj c _ _ w

/-- The arrays the grid leaves. -/
def oFin : FVec Ideal S4x8192x128 .f32 := (dats m 0 c).arrAt 3 (cfgs 0).N
def lFin : FVec Ideal S4x16x1x512 .f32 := (dats m 0 c).arrAt 4 (cfgs 0).N

/-- The results, of those. -/
theorem run_values : θ_run defs (onTc (τ := τ) (main (F := Ideal))) ⟨m, fun _ => 0, ρ⟩ (fun r => ∀ c : Dev nD,
      r.2.mem ((c.tc : Thread nD τ).loc main_v51) = outO (oFin m c)
      ∧ r.2.mem ((c.tc : Thread nD τ).loc main_v54) = outL (lFin m c) ln2) := by
  refine (θ_run defs _ _).mono (fun r h c => ?_) (run_main m ρ)
  refine ⟨((h c).2 main_v51 (by decide)).trans ?_, ((h c).2 main_v54 (by decide)).trans ?_⟩
  all_goals
    unfold Pipeline.afterTail₀
    rw [List.flatten_cons, List.flatten_nil, List.append_nil]
  · exact (tail_o _).trans (congrArg outO (after_arr m c 3))
  · refine (tail_l _).trans (congrArg₂ outL (after_arr m c 4) ?_)
    exact (Pipeline.withArrays_of_ne _ c _ _ main_v0 (by decide)).trans (V_ln2 m c)

section
variable (hq : ∀ h R j, argQ m c (ix4 0 h R j) = ((Q h R j : ℝ) : EReal)) (hk : ∀ h R j, argK m c (ix4 0 h R j) = ((K h R j : ℝ) : EReal))
include hq hk

theorem outO_fin (hv : ∀ h R l, argV m c (ix4 0 h R l) = ((U h R l : ℝ) : EReal)) (R : Fin 8192) (h : Fin 4) (l : Fin 128) :
    outO (oFin m c) (ix3 0 R (colB h l)) = ((∑ C, prob scaleB (Q h) (K h) C R * U h C l : ℝ) : EReal) := by
  have e : oFin m c = oArr Q K U := final_o m c (qk_real m c hq hk) (v_left m c hv) (v_right m c)
  rw [e, outO_real]

theorem outL_fin (h : Fin 4) (R : Fin 8192) : outL (lFin m c) ln2 (ix3 0 h R) = ((Real.log (denom scaleB (Q h) (K h) R) : ℝ) : EReal) := by
  have e : lFin m c = lArr Q K := final_l m c (qk_real m c hq hk) (v_right m c)
  rw [e, outL_real]

end

end Cert.KernelFBIdeal.Val

end
-- ==== Proof.RefFB.lean ====
/- What the reference of attention B's forward computes, for finite arguments. -/
module

public import proofs.«01_k».proof.Proof.Gen.ReferenceFBIdeal.Run
public import proofs.«01_k».proof.Proof.RefB
public import proofs.«01_k».proof.Proof.FwdReal

@[expose] public section

set_option maxRecDepth 16384

noncomputable section

namespace Cert.ReferenceFBIdeal.Val
open Idealize.ShloMosaic Idealize.ShloMosaic.TcCoe Idealize.ShloMosaic.Tactic Idealize.SL.Sem Cert.ReferenceFBIdeal Cert.ReferenceFBIdeal.Gen Cert.AttnFwd
open Cert.AttnGrad (score denom prob shifted scaleB colB coe_sum log_real shifted_pos)
open Cert.ReferenceIdeal.Val (rS rP rExp rL rS_real rP_real exists_max)
open scoped BigOperators

/-- The output. -/
def rO (p : FVec Ideal S1x4x8192x8192 .f32) (v : FVec Ideal S1x4x8192x128 .f32) : FVec Ideal S1x8192x512 .f32 :=
  shapeCast S1x8192x512 (transpose S1x8192x4x128 [0, 2, 1, 3]
    (Host.dotGeneral dot_S1x4x8192x8192_S1x4x8192x128_S1x4x8192x128_3_2_2_3_01_01 none p v : FVec Ideal S1x4x8192x128 .f32)
    transposes_S1x4x8192x128_S1x8192x4x128_0_2_1_3) shapeCasts_S1x8192x4x128_S1x8192x512
/-- The rows' greatest scores. -/
def rTop (s : FVec Ideal S1x4x8192x8192 .f32) : FVec Ideal S1x4x8192 .f32 :=
  Host.reduce FloatOps.maximumf s (constant S_ .f32 0xFF800000#32) reducesTo_S1x4x8192x8192_S1x4x8192_d3 h_S_
/-- The logarithms of the rows' sums of exponentials. -/
def rLse (s : FVec Ideal S1x4x8192x8192 .f32) (x : FVec Ideal S1x4x8192 .f32) : FVec Ideal S1x4x8192 .f32 :=
  addf x (Host.log (Host.reduceAdd (Host.exp (subf s (broadcastInDim S1x4x8192x8192 ![0, 1, 2, 3] bcast_S1x4x8192x1_S1x4x8192x8192_0_1_2_3
    (broadcastInDim S1x4x8192x1 ![0, 1, 2] bcast_S1x4x8192_S1x4x8192x1_0_1_2 x))))
    (constant S_ .f32 0x00000000#32) reducesTo_S1x4x8192x8192_S1x4x8192_d3 h_S_))

section
variable (m : (ℓ : Loc nD τ sig) → Buf (Elt Ideal) ℓ) (c : Dev nD)

def argQ : FVec Ideal S1x4x8192x96 .f32 := m ((c.tc : Thread nD τ).loc main_arg0)
def argK : FVec Ideal S1x4x8192x96 .f32 := m ((c.tc : Thread nD τ).loc main_arg1)
def argV : FVec Ideal S1x4x8192x128 .f32 := m ((c.tc : Thread nD τ).loc main_arg2)

theorem run_values (ρ : Dev nD → PrngReg) : θ_run defs (onTc (τ := τ) (main (F := Ideal))) ⟨m, fun _ => 0, ρ⟩ fun r => ∀ c : Dev nD,
      r.2.mem ((c.tc : Thread nD τ).loc main_v24) = rO (rP (rExp (argQ m c) (argK m c)) (rL (rExp (argQ m c) (argK m c)))) (argV m c)
      ∧ r.2.mem ((c.tc : Thread nD τ).loc main_v31) = rLse (rS (argQ m c) (argK m c)) (rTop (rS (argQ m c) (argK m c))) :=
  (θ_run defs _ _).mono (fun _ h c => ⟨(h c).1.trans rfl, (h c).2.1.trans rfl⟩) (Value.run m ρ)

end

theorem rO_apply (p : FVec Ideal S1x4x8192x8192 .f32) (v : FVec Ideal S1x4x8192x128 .f32) (R : Fin 8192) (h : Fin 4) (l : Fin 128) :
    rO p v (ix3 0 R (colB h l)) = ∑ C, p (ix4 0 h R C) * v (ix4 0 h C l) := by
  unfold rO
  generalize hd : (Host.dotGeneral dot_S1x4x8192x8192_S1x4x8192x128_S1x4x8192x128_3_2_2_3_01_01 none p v : FVec Ideal S1x4x8192x128 .f32) = d
  have e : shapeCast S1x8192x512 (transpose S1x8192x4x128 [0, 2, 1, 3] d transposes_S1x4x8192x128_S1x8192x4x128_0_2_1_3)
      shapeCasts_S1x8192x4x128_S1x8192x512 (ix3 0 R (colB h l)) = d (ix4 0 h R l) := by
    pointwise
    rw [colB_head, colB_feature]
  rw [e, ← hd]
  pointwise

theorem rTop_apply (s : FVec Ideal S1x4x8192x8192 .f32) (h : Fin 4) (R : Fin 8192) :
    rTop s (ix3 0 h R) = Cert.ReferenceIdeal.Val.rM s (ix4 0 h R 0) :=
  (Cert.ReferenceIdeal.Val.greatest_apply s h R).trans (Cert.ReferenceIdeal.Val.rM_apply s h R).symm

theorem rLse_apply (s : FVec Ideal S1x4x8192x8192 .f32) (x : FVec Ideal S1x4x8192 .f32) (h : Fin 4) (R : Fin 8192) :
    rLse s x (ix3 0 h R) = x (ix3 0 h R) + Ideal.log (∑ C, Ideal.exp (s (ix4 0 h R C) - x (ix3 0 h R))) := by
  unfold rLse
  pointwise

/-! ## The results as reals -/

section
variable {q k : FVec Ideal S1x4x8192x96 .f32} {v : FVec Ideal S1x4x8192x128 .f32}
  {Q K : Fin 4 → Fin 8192 → Fin 96 → ℝ} {U : Fin 4 → Fin 8192 → Fin 128 → ℝ}
  (hq : ∀ h R j, q (ix4 0 h R j) = ((Q h R j : ℝ) : EReal)) (hk : ∀ h R j, k (ix4 0 h R j) = ((K h R j : ℝ) : EReal))
include hq hk

theorem rO_real (hv : ∀ h R l, v (ix4 0 h R l) = ((U h R l : ℝ) : EReal)) (R : Fin 8192) (h : Fin 4) (l : Fin 128) :
    rO (rP (rExp q k) (rL (rExp q k))) v (ix3 0 R (colB h l)) = ((∑ C, prob scaleB (Q h) (K h) C R * U h C l : ℝ) : EReal) := by
  obtain ⟨M, hM⟩ := exists_max hq hk
  rw [rO_apply]
  simp only [rP_real hq hk hM, hv, ← EReal.coe_mul]
  exact coe_sum _ _

theorem rLse_real (h : Fin 4) (R : Fin 8192) :
    rLse (rS q k) (rTop (rS q k)) (ix3 0 h R) = ((Real.log (denom scaleB (Q h) (K h) R) : ℝ) : EReal) := by
  obtain ⟨M, hM⟩ := exists_max hq hk
  rw [rLse_apply, rTop_apply, hM]
  simp only [rS_real hq hk, ← EReal.coe_sub, Ideal.exp_coe]
  rw [coe_sum, log_real _ (by exact shifted_pos scaleB (Q h) (K h) (M h R) R), ← EReal.coe_add]
  exact congrArg _ (log_shifted ..)

end

end Cert.ReferenceFBIdeal.Val

end
-- ==== Proof.PreFB.lean ====
/- The precondition of attention B's forward: every entry of every argument is a real. -/
module

public import proofs.«01_k».proof.Pre_finite_fb
public import proofs.«01_k».proof.Proof.PreB

@[expose] public section

set_option maxRecDepth 16384

noncomputable section

namespace Cert.Pre_finite_fb
open Idealize.ShloMosaic Cert.AttnGrad
open Cert.Pre_finite (and_one isReal_of_olt)

instance facts : Facts where
  bcast_S_S1x4x8192x96 := by decide
  reducesTo_S1x4x8192x96_S_d0_1_2_3 := by decide
  h_S_ := by decide
  bcast_S_S1x4x8192x128 := by decide
  reducesTo_S1x4x8192x128_S_d0_1_2_3 := by decide

instance : Subsingleton S_.Idx := ⟨fun _ _ => funext fun b => b.elim0⟩

variable {q k : FVec Ideal S1x4x8192x96 .f32} {v : FVec Ideal S1x4x8192x128 .f32}

theorem real_of_fn (h : fn q k v = fun _ => 1#1) : (∀ i, IsReal (q i)) ∧ (∀ i, IsReal (k i)) ∧ ∀ i, IsReal (v i) := by
  have h0 := congrFun h (fun b => b.elim0)
  obtain ⟨h1, hv⟩ := and_one h0
  obtain ⟨hq, hk⟩ := and_one h1
  exact ⟨fun i => isReal_of_olt ofBits_top (Host.reduce_andi_all _ _ _ _ _ hq i), fun i => isReal_of_olt ofBits_top (Host.reduce_andi_all _ _ _ _ _ hk i),
    fun i => isReal_of_olt ofBits_top (Host.reduce_andi_all _ _ _ _ _ hv i)⟩

end Cert.Pre_finite_fb

end
-- ==== Proof.EqFB.lean ====
/- Attention B's forward: the kernel's two results are the reference's. -/
module

public import proofs.«01_k».proof.Proof.TailFB
public import proofs.«01_k».proof.Proof.RefFB
public import proofs.«01_k».proof.Proof.PreFB
public import proofs.«01_k».proof.Defs

@[expose] public section

set_option maxRecDepth 16384

noncomputable section

namespace Cert.EqFB
open Idealize.ShloMosaic Idealize.SL.Sem Cert.AttnGrad

theorem eta_o (i : (⟨3, ![1, 8192, 512]⟩ : Shape).Idx) : ∃ (R : Fin 8192) (h : Fin 4) (l : Fin 128), i = ix3 0 R (colB h l) := by
  have hi : (i 2).val < 512 := (i 2).isLt
  refine ⟨i 1, ⟨(i 2).val / 128, by omega⟩, ⟨(i 2).val % 128, by omega⟩, ?_⟩
  refine (Idealize.ShloMosaic.ix3_eta i).symm.trans (congrArg₂ (fun a b => ix3 a (i 1) b) (Subsingleton.elim (α := Fin 1) _ _) (Fin.ext ?_))
  simp only [colB]
  omega

theorem eta_l (i : (⟨3, ![1, 4, 8192]⟩ : Shape).Idx) : i = ix3 0 (i 1) (i 2) :=
  (Idealize.ShloMosaic.ix3_eta i).symm.trans (congrArg (fun a => ix3 a (i 1) (i 2)) (Subsingleton.elim (α := Fin 1) _ _))

/-- The results agree where the arguments do. -/
theorem results (m : (ℓ : Loc KernelFBIdeal.nD KernelFBIdeal.τ KernelFBIdeal.sig) → Buf (Elt Ideal) ℓ) (c : Dev KernelFBIdeal.nD)
    (m' : (ℓ : Loc ReferenceFBIdeal.nD ReferenceFBIdeal.τ ReferenceFBIdeal.sig) → Buf (Elt Ideal) ℓ)
    (hp : Pre_finite_fb.fn (F := Ideal) (KernelFBIdeal.Val.argQ m c) (KernelFBIdeal.Val.argK m c) (KernelFBIdeal.Val.argV m c) = fun _ => 1#1)
    (h0 : ReferenceFBIdeal.Val.argQ m' c = KernelFBIdeal.Val.argQ m c) (h1 : ReferenceFBIdeal.Val.argK m' c = KernelFBIdeal.Val.argK m c)
    (h2 : ReferenceFBIdeal.Val.argV m' c = KernelFBIdeal.Val.argV m c) :
    ReferenceFBIdeal.Val.rO (ReferenceIdeal.Val.rP (ReferenceIdeal.Val.rExp (ReferenceFBIdeal.Val.argQ m' c) (ReferenceFBIdeal.Val.argK m' c))
        (ReferenceIdeal.Val.rL (ReferenceIdeal.Val.rExp (ReferenceFBIdeal.Val.argQ m' c) (ReferenceFBIdeal.Val.argK m' c))))
        (ReferenceFBIdeal.Val.argV m' c) =
      KernelFBIdeal.Val.outO (KernelFBIdeal.Val.oFin m c)
    ∧ ReferenceFBIdeal.Val.rLse (ReferenceIdeal.Val.rS (ReferenceFBIdeal.Val.argQ m' c) (ReferenceFBIdeal.Val.argK m' c))
        (ReferenceFBIdeal.Val.rTop (ReferenceIdeal.Val.rS (ReferenceFBIdeal.Val.argQ m' c) (ReferenceFBIdeal.Val.argK m' c))) =
      KernelFBIdeal.Val.outL (KernelFBIdeal.Val.lFin m c) KernelIdeal.Val.ln2 := by
  rw [h0, h1, h2]
  obtain ⟨hq, hk, hv⟩ := Pre_finite_fb.real_of_fn hp
  choose q hq using hq
  choose k hk using hk
  choose v hv using hv
  have hq' : ∀ h R j, KernelFBIdeal.Val.argQ m c (ix4 0 h R j) = (((fun h R j => q (ix4 0 h R j)) h R j : ℝ) : EReal) := fun h R j => hq _
  have hk' : ∀ h R j, KernelFBIdeal.Val.argK m c (ix4 0 h R j) = (((fun h R j => k (ix4 0 h R j)) h R j : ℝ) : EReal) := fun h R j => hk _
  have hv' : ∀ h R l, KernelFBIdeal.Val.argV m c (ix4 0 h R l) = (((fun h R l => v (ix4 0 h R l)) h R l : ℝ) : EReal) := fun h R l => hv _
  refine ⟨funext fun i => ?_, funext fun i => ?_⟩
  · obtain ⟨R, h, l, rfl⟩ := eta_o i
    exact (ReferenceFBIdeal.Val.rO_real hq' hk' hv' R h l).trans (KernelFBIdeal.Val.outO_fin m c hq' hk' hv' R h l).symm
  · rw [eta_l i]
    exact (ReferenceFBIdeal.Val.rLse_real hq' hk' _ _).trans (KernelFBIdeal.Val.outL_fin m c hq' hk' _ _).symm

theorem algebraic : Cert.algebraic_KernelFBIdeal_ReferenceFBIdeal_pre_finite_fb := by
  intro m ρ m' ρ' hp he
  refine ⟨fun c => KernelFBIdeal.Val.outO (KernelFBIdeal.Val.oFin m c),
    fun c => KernelFBIdeal.Val.outL (KernelFBIdeal.Val.lFin m c) KernelIdeal.Val.ln2, ?_, ?_⟩
  · refine (θ_run _ _ _).mono (fun r h c => ?_) (θ_run_and (KernelFBIdeal.Val.run_values m ρ) (KernelFBIdeal.Gen.unchanged m ρ))
    exact ⟨(h.1 c).1, (h.1 c).2, h.2 c⟩
  · refine (θ_run _ _ _).mono (fun r h c => ?_) (θ_run_and (ReferenceFBIdeal.Val.run_values m' ρ') (ReferenceFBIdeal.Value.run m' ρ'))
    obtain ⟨e0, e1⟩ := results m c m' (hp c) (he c).1 (he c).2.1 (he c).2.2
    exact ⟨(h.1 c).1.trans e0, (h.1 c).2.trans e1, (h.2 c).2.2⟩

end Cert.EqFB

end
-- ==== Proof.HostFA.lean ====
/- What the lines before attention A's forward call compute: its operands as terms of the arguments. -/
module

public import proofs.«01_k».proof.Proof.Gen.KernelFAIdeal.Frame
public import proofs.«01_k».proof.Proof.HostRealA

@[expose] public section

set_option maxRecDepth 16384

noncomputable section

namespace Cert.KernelFAIdeal.Val
open Idealize.ShloMosaic Idealize.ShloMosaic.TcCoe Idealize.ShloMosaic.Tactic Cert.KernelFAIdeal Cert.KernelFAIdeal.Gen
open Cert.KernelAIdeal.Val (ln2 hQ hSpreadK hPadV hV)

variable (m : (ℓ : Loc nD τ sig) → Buf (Elt Ideal) ℓ) (c : Dev nD)

def argQ : FVec Ideal S1x8x8192x64 .f32 := m ((c.tc : Thread nD τ).loc main_arg0)
def argK : FVec Ideal S1x2x8192x64 .f32 := m ((c.tc : Thread nD τ).loc main_arg1)
def argV : FVec Ideal S1x2x8192x64 .f32 := m ((c.tc : Thread nD τ).loc main_arg2)

theorem after_append (A B : List (HloOp τ sig (Elt Ideal))) (W : Valuation τ sig (Elt Ideal)) :
    StableHlo.after (A ++ B) W = StableHlo.after B (StableHlo.after A W) := by
  induction A generalizing W with
  | nil => rfl
  | cons a A ih => exact ih _

/-- The contents after the first `n` lines. -/
def upToLine (n : ℕ) : Valuation τ sig (Elt Ideal) := StableHlo.after (List.take n hostOps0) (fun b => m (c, b))

theorem V_eq (n : ℕ) (b : Ref sig .tc) :
    V m c b = StableHlo.after (List.drop n hostOps0 ++ (hostOps0_1 ++ hostOps0_2)) (upToLine m c n) b := by
  unfold V V0 upToLine
  rw [← after_append, ← List.append_assoc, List.take_append_drop]
  simp only [List.flatten_cons, List.flatten_nil, List.append_nil]

theorem V_q : V m c main_v18 = truncf .bf16 (hQ (argQ m c)) bitsLt_bf16_f32 := by
  rw [V_eq m c 18]
  generalize hW : upToLine m c 18 = W
  simp only [List.drop_succ_cons, List.drop_zero, List.cons_append, List.nil_append]
  entry_read
  simp only [Matrix.cons_val]
  subst hW
  unfold upToLine
  simp only [List.take_succ_cons, List.take_zero]
  entry_read
  rfl

theorem V_k : V m c main_v32 = truncf .bf16 (hSpreadK (argK m c)) bitsLt_bf16_f32 := by
  rw [V_eq m c 42]
  generalize hW : upToLine m c 42 = W
  simp only [List.drop_succ_cons, List.drop_zero, List.cons_append, List.nil_append]
  entry_read
  simp only [Matrix.cons_val]
  subst hW
  unfold upToLine
  simp only [List.take_succ_cons, List.take_zero]
  entry_read
  rfl

theorem V_ln2 : V m c main_v0 = ln2 := by
  rw [V_eq m c 18]
  generalize hW : upToLine m c 18 = W
  simp only [List.drop_succ_cons, List.drop_zero, List.cons_append, List.nil_append]
  entry_read
  subst hW
  unfold upToLine
  simp only [List.take_succ_cons, List.take_zero]
  entry_read
  rfl

/-! ## The values' operand -/

/-- The selection and the cast, as their own lines compute them. -/
theorem where_read (W : Valuation τ sig (Elt Ideal)) : StableHlo.after (hostOps0_1 ++ hostOps0_2) W main_v44 =
    (truncf .bf16 (select (W main_v42 : Vec Ideal S2x8192x128 .i1) (broadcastInDim S2x8192x128 ![] bcast_S_S2x8192x128 (W main_cst_13 : FVec Ideal S_ .f32))
      (W main_v39 : FVec Ideal S2x8192x128 .f32) : FVec Ideal S2x8192x128 .f32) bitsLt_bf16_f32 : FVec Ideal S2x8192x128 .bf16) := by
  simp only [List.cons_append, List.nil_append]
  entry_read
  rfl

theorem lines_lane (W : Valuation τ sig (Elt Ideal)) : StableHlo.after (List.drop 52 hostOps0) W main_v42 =
    (cmpi .eq (iotaInDim S2x8192x128 32 2) (broadcastInDim S2x8192x128 ![] bcast_S_S2x8192x128 (constantI S_ 32 64#32)) : Vec Ideal S2x8192x128 .i1) := by
  simp only [List.drop_succ_cons, List.drop_zero]
  entry_read
  rfl

theorem lines_one (W : Valuation τ sig (Elt Ideal)) : StableHlo.after (List.drop 52 hostOps0) W main_cst_13 =
    (constant S_ .f32 0x3F800000#32 : FVec Ideal S_ .f32) := by
  simp only [List.drop_succ_cons, List.drop_zero]
  entry_read
  rfl

theorem lines_v : StableHlo.after (List.drop 52 hostOps0) (upToLine m c 52) main_v39 = hPadV (argV m c) := by
  generalize hW : upToLine m c 52 = W
  simp only [List.drop_succ_cons, List.drop_zero]
  entry_read
  simp only [Matrix.cons_val]
  subst hW
  unfold upToLine
  simp only [List.take_succ_cons, List.take_zero]
  entry_read
  rfl

theorem V_v : V m c main_v44 = truncf .bf16 (hV (argV m c)) bitsLt_bf16_f32 := by
  rw [V_eq m c 52]
  refine (congrFun (after_append _ _ _) _).trans ?_
  rw [where_read, lines_v, lines_lane, lines_one]
  rfl

end Cert.KernelFAIdeal.Val

end
-- ==== Proof.BodyFA.lean ====
/- What the body of mixer A's forward attention leaves in its two outputs at a grid point, tile by tile. -/
module

public import proofs.«01_k».proof.Proof.Gen.KernelFAIdeal.Frame
public import proofs.«01_k».proof.Proof.FwdTile
public import proofs.«01_k».proof.Proof.Tile
public import Idealize.ShloMosaic.Lib.Pipeline.ReadBack

@[expose] public section

set_option maxRecDepth 16384

noncomputable section

namespace Cert.KernelFAIdeal.Val
open Idealize.ShloMosaic Idealize.ShloMosaic.TcCoe Idealize.ShloMosaic.Tactic Cert.KernelFAIdeal Cert.KernelFAIdeal.Gen Cert.AttnFwd
open Cert.AttnGrad (ld_canon_skip ld_canon_cons)

variable {F : FTy → Type} [FloatOps F] [Named F]
variable (m : (ℓ : Loc nD τ sig) → Buf (Elt F) ℓ)

theorem body (c : Dev nD) (t : Fin cfg0.N) :
    Tiles (outsAt0 m c t).1 (outsAt0 m c t).2
      (oBlk (iblk m c 0 t) (iblk m c 1 t) (iblk m c 2 t))
      (lBlk (iblk m c 0 t) (iblk m c 1 t) (iblk m c 2 t) (Named.named κ "log2e" 0x3FB8AA3B#32)) := by
  unfold Tiles outsAt0
  frame_open
  simp (disch := decide) only [↓ View.readCov_skip, ↓ View.readCov_cons_toLoadRect]
  simp (disch := decide) only [↓ readCov_inside (s := ⟨3, ![4, 512, 128]⟩) ![0, 0, 64]]
  frame_out
  simp (disch := decide) only [↓ ld_canon_skip, ↓ ld_canon_cons]
  refine ⟨by sl_kernel_rfl, by sl_kernel_rfl, by sl_kernel_rfl, by sl_kernel_rfl, by sl_kernel_rfl, by sl_kernel_rfl, by sl_kernel_rfl, by sl_kernel_rfl⟩

end Cert.KernelFAIdeal.Val

end
-- ==== Proof.OpsFA.lean ====
/- The operands of attention A's forward call, head by head, what a window's block holds of them, and the arrays after the grid. -/
module

public import proofs.«01_k».proof.Proof.BodyFA
public import proofs.«01_k».proof.Proof.FwdReal
public import proofs.«01_k».proof.Proof.HeadsA

@[expose] public section

set_option maxRecDepth 16384

noncomputable section

namespace Cert.KernelFAIdeal.Val
open Idealize.ShloMosaic Idealize.ShloMosaic.TcCoe Idealize.ShloMosaic.Tactic Cert.KernelFAIdeal Cert.KernelFAIdeal.Gen Cert.AttnFwd
open Cert.AttnGrad (score denom prob scaleA groupOf)
open scoped BigOperators

variable (m : (ℓ : Loc nD τ sig) → Buf (Elt Ideal) ℓ)

/-- The named constant is 1 / log 2. -/
theorem log2e_real : Named.named (F := Ideal) κ "log2e" (φ := .f32) 0x3FB8AA3B#32 = (((Real.log 2)⁻¹ : ℝ) : EReal) :=
  IdealRules.named_const.ideal_named_scalar _ _ _ _ rfl

section
variable (c : Dev nD)
def qOp (h : Fin 8) (R : Fin 8192) (l : Fin 128) : EReal := (V m c main_v18 : Vec Ideal S8x8192x128 .bf16) (ix3 h R l)
def kOp (g : Fin 2) (R : Fin 8192) (l : Fin 128) : EReal := (V m c main_v32 : Vec Ideal S2x8192x128 .bf16) (ix3 g R l)
def vOp (g : Fin 2) (R : Fin 8192) (l : Fin 128) : EReal := (V m c main_v44 : Vec Ideal S2x8192x128 .bf16) (ix3 g R l)
end

/-- The windows' block indices. -/
theorem idx : ∀ t : Fin cfg0.N, win0_0.index t = ![t.val / 4, t.val % 4, 0] ∧ win0_1.index t = ![t.val / 4 / 4, 0, 0] ∧
    win0_2.index t = ![t.val / 4 / 4, 0, 0] ∧ win0_3.index t = ![t.val / 4, t.val % 4, 0] ∧ win0_4.index t = ![t.val / 4, t.val % 4, 0, 0] :=
  (by decide +kernel : ∀ t : Fin grid0.N, _)

/-- The head of a grid point, and which quarter of the rows it takes. -/
def headOf (t : Fin cfg0.N) : Fin 8 := ⟨t.val / 4, by have : t.val < 32 := lt_of_lt_of_eq t.isLt N_0; omega⟩
def partOf (t : Fin cfg0.N) : Fin 4 := ⟨t.val % 4, by omega⟩

/-- A row of a grid point's block. -/
def rowAt (t : Fin cfg0.N) (r : Fin 2048) : Fin 8192 := ⟨(partOf t).val * 2048 + r.val, by omega⟩

section
variable (t : Fin cfg0.N)

theorem read_q (X : Vec Ideal S8x8192x128 .bf16) (r : Fin 2048) (l : Fin 128) :
    ((cfg0.win 0).blk t).view.read (Elt Ideal) X (ix3 0 r l) = X (ix3 (headOf t) (rowAt t r) l) := by
  unfold rowAt headOf partOf
  blk_ext [idx t]

theorem read_k (X : Vec Ideal S2x8192x128 .bf16) (C : Fin 8192) (l : Fin 128) :
    ((cfg0.win 1).blk t).view.read (Elt Ideal) X (ix3 0 C l) = X (ix3 (groupOf (headOf t)) C l) := by
  unfold groupOf headOf
  blk_ext [idx t]

theorem read_v (X : Vec Ideal S2x8192x128 .bf16) (C : Fin 8192) (l : Fin 128) :
    ((cfg0.win 2).blk t).view.read (Elt Ideal) X (ix3 0 C l) = X (ix3 (groupOf (headOf t)) C l) := by
  unfold groupOf headOf
  blk_ext [idx t]

theorem read_o (X : Vec Ideal S8x8192x128 .f32) (r : Fin 2048) (l : Fin 128) :
    ((cfg0.win 3).blk t).view.read (Elt Ideal) X (ix3 0 r l) = X (ix3 (headOf t) (rowAt t r) l) := by
  unfold rowAt headOf partOf
  blk_ext [idx t]

theorem read_l (X : Vec Ideal S8x16x1x512 .f32) (i : Fin 4) (r : Fin 512) :
    ((cfg0.win 4).blk t).view.read (Elt Ideal) X (ix4 0 i 0 r) = X (ix4 (headOf t) ⟨(partOf t).val * 4 + i.val, by omega⟩ 0 r) := by
  unfold headOf partOf
  blk_ext [idx t]
end

section
variable (c : Dev nD) (t : Fin cfg0.N)

theorem iblk_q (r : Fin 2048) (l : Fin 128) : (iblk m c 0 t : Vec Ideal Block .bf16) (ix3 0 r l) = qOp m c (headOf t) (rowAt t r) l :=
  read_q t (V m c main_v18) r l

theorem iblk_k (C : Fin 8192) (l : Fin 128) : (iblk m c 1 t : Vec Ideal Head .bf16) (ix3 0 C l) = kOp m c (groupOf (headOf t)) C l :=
  read_k t (V m c main_v32) C l

theorem iblk_v (C : Fin 8192) (l : Fin 128) : (iblk m c 2 t : Vec Ideal Head .bf16) (ix3 0 C l) = vOp m c (groupOf (headOf t)) C l :=
  read_v t (V m c main_v44) C l

end

/-! ## The arrays after the grid, where the operands are those of finite numbers -/

section
variable {Q : Fin 8 → Fin 8192 → Fin 64 → ℝ} {K : Fin 2 → Fin 8192 → Fin 64 → ℝ} {U : Fin 2 → Fin 8192 → Fin 128 → ℝ}

/-- The output, head by head: lane 64 is cleared, -/
def oArr (Q : Fin 8 → Fin 8192 → Fin 64 → ℝ) (K : Fin 2 → Fin 8192 → Fin 64 → ℝ) (U : Fin 2 → Fin 8192 → Fin 128 → ℝ) : Vec Ideal S8x8192x128 .f32 :=
  fun i => if (i 2).val = 64 then ((0 : ℝ) : EReal)
    else ((∑ C, prob scaleA (Q (i 0)) (K (groupOf (i 0))) C (i 1) * U (groupOf (i 0)) C (i 2) : ℝ) : EReal)

/-- and the logarithms of the rows' sums to base two. -/
def lArr (Q : Fin 8 → Fin 8192 → Fin 64 → ℝ) (K : Fin 2 → Fin 8192 → Fin 64 → ℝ) : Vec Ideal S8x16x1x512 .f32 := fun i =>
  ((Real.log (denom scaleA (Q (i 0)) (K (groupOf (i 0))) (statRow (i 1) (i 3))) / Real.log 2 : ℝ) : EReal)

variable (c : Dev nD)
  (hqk : ∀ h R C, ∑ l, qOp m c h R l * kOp m c (groupOf h) C l = ((score scaleA (Q h) (K (groupOf h)) C R / Real.log 2 : ℝ) : EReal))
  (hv : ∀ g C l, l.val ≠ 64 → vOp m c g C l = ((U g C l : ℝ) : EReal)) (h1 : ∀ g C, vOp m c g C 64 = ((1 : ℝ) : EReal))

section
variable {x : Vec Ideal Block .bf16} {y z : Vec Ideal Head .bf16} {t : Fin cfg0.N}
  (hx : ∀ r l, x (ix3 0 r l) = qOp m c (headOf t) (rowAt t r) l) (hy : ∀ C l, y (ix3 0 C l) = kOp m c (groupOf (headOf t)) C l)
  (hz : ∀ C l, z (ix3 0 C l) = vOp m c (groupOf (headOf t)) C l)
include hqk hx hy

theorem block_qk (i : Fin 4) (r : Fin 512) (C : Fin 8192) : ∑ l, x (ix3 0 (tileRow i r) l) * y (ix3 0 C l) =
    ((score scaleA (Q (headOf t)) (K (groupOf (headOf t))) C (rowAt t (tileRow i r)) / Real.log 2 : ℝ) : EReal) :=
  (Finset.sum_congr rfl fun l _ => congrArg₂ (· * ·) (hx _ l) (hy C l)).trans (hqk (headOf t) (rowAt t (tileRow i r)) C)

include h1 hz

theorem out_l (o : Vec Ideal Stats .f32) (ho : ∀ i, statOf o i = lBlk x y z (((Real.log 2)⁻¹ : ℝ) : EReal) i) (i : Fin 4) (r : Fin 512) :
    o (ix4 0 i 0 r) = ((cfg0.win 4).blk t).view.read (Elt Ideal) (lArr Q K) (ix4 0 i 0 r) := by
  rw [read_l, ← ld_stat o i r, ho i]
  refine (lBlk_real (block_qk m c hqk hx hy i r) fun C => (hz C _).trans (h1 _ C)).trans ?_
  have e : statRow ⟨(partOf t).val * 4 + i.val, by omega⟩ r = rowAt t (tileRow i r) := statRow_eq _ _ _ _ _
  rw [← e]
  rfl

include hv

theorem out_o (o : Vec Ideal Block .f32) (ho : ∀ i, rowsOf o i = oBlk x y z i) (i : Fin 4) (r : Fin 512) (l : Fin 128) :
    o (ix3 0 (tileRow i r) l) = ((cfg0.win 3).blk t).view.read (Elt Ideal) (oArr Q K U) (ix3 0 (tileRow i r) l) := by
  rw [read_o, ← ld_rows o i r l, ho i]
  by_cases hl : l.val = 64
  · obtain rfl : l = 64 := Fin.ext hl
    exact oBlk_zero
  · refine (oBlk_real (block_qk m c hqk hx hy i r) l hl _ (fun C => (hz C _).trans (hv _ C l hl)) fun C => (hz C _).trans (h1 _ C)).trans ?_
    exact (if_neg hl).symm

end

theorem log2e_tiles (t : Fin cfg0.N) (i : Fin 4) : statOf (outsAt0 m c t).2 i =
    lBlk (iblk m c 0 t) (iblk m c 1 t) (iblk m c 2 t) (((Real.log 2)⁻¹ : ℝ) : EReal) i :=
  ((body m c t).l i).trans (congrArg (fun e => lBlk (F := Ideal) (iblk m c 0 t) (iblk m c 1 t) (iblk m c 2 t) e i) log2e_real)

theorem cut_o (t : Fin cfg0.N) (x : Vec Ideal Block .f32) (X : Vec Ideal S8x8192x128 .f32)
    (h : ∀ (i : Fin 4) (r : Fin 512) l, x (ix3 0 (tileRow i r) l) =
      ((cfg0.win 3).blk t).view.read (Elt Ideal) X (ix3 0 (tileRow i r) l))
    (y : ((cfg0.win 3).xblock (cfg0.grid.coords t)).Idx) : x y = X ((win0_3.blk t).view.emb y) :=
  congrFun (block_funext (y := ((cfg0.win 3).blk t).view.read (Elt Ideal) X) h) y

theorem cut_l (t : Fin cfg0.N) (x : Vec Ideal Stats .f32) (X : Vec Ideal S8x16x1x512 .f32)
    (h : ∀ (i : Fin 4) (r : Fin 512), x (ix4 0 i 0 r) = ((cfg0.win 4).blk t).view.read (Elt Ideal) X (ix4 0 i 0 r))
    (y : ((cfg0.win 4).xblock (cfg0.grid.coords t)).Idx) : x y = X ((win0_4.blk t).view.emb y) :=
  congrFun (stats_funext (y := ((cfg0.win 4).blk t).view.read (Elt Ideal) X) h) y

include hqk h1

include hv in
theorem final_o : (dats m 0 c).arrAt 3 (cfgs 0).N = oArr Q K U := by
  refine (dats m 0 c).arrAt_eq_of_covers 3 _ (by decide +kernel) fun t hf y => ?_
  blk_simp
  rw [after0_3]
  exact cut_o t _ _ (out_o m c hqk hv h1 (iblk_q m c t) (iblk_k m c t) (iblk_v m c t) _ (body m c t).o) y

theorem final_l : (dats m 0 c).arrAt 4 (cfgs 0).N = lArr Q K := by
  refine (dats m 0 c).arrAt_eq_of_covers 4 _ (by decide +kernel) fun t hf y => ?_
  blk_simp
  rw [after0_4]
  exact cut_l t _ _ (out_l m c hqk h1 (iblk_q m c t) (iblk_k m c t) (iblk_v m c t) _ (log2e_tiles m c t)) y

end

end Cert.KernelFAIdeal.Val

end
-- ==== Proof.TailFA.lean ====
/- What attention A's forward call and the lines after it compute, for finite arguments. -/
module

public import proofs.«01_k».proof.Proof.HostFA
public import proofs.«01_k».proof.Proof.OpsFA
public import Idealize.ShloMosaic.Lib.Pipeline.FrameSuffix

@[expose] public section

set_option maxRecDepth 16384

noncomputable section

namespace Cert.KernelFAIdeal.Val
open Idealize.ShloMosaic Idealize.ShloMosaic.TcCoe Idealize.ShloMosaic.Tactic Idealize.SL.Sem Cert.KernelFAIdeal Cert.KernelFAIdeal.Gen Cert.AttnFwd
open Cert.AttnGrad (score denom prob scaleA coe_sum div_real log2_ne colA colA_head groupOf laneA laneA_inj laneV ofBits_one)
open Cert.KernelAIdeal.Val (ln2 hSpreadQ hSpreadK hQ hPadV hV hSpreadQ_lane hSpreadK_lane hSpreadK_off hQ_apply hPadV_ladder trunc_apply ln2_apply)
open scoped BigOperators

/-! ## The operands -/

/-- The values of a group over the lanes: zero behind the features. -/
def padded (U : Fin 2 → Fin 8192 → Fin 64 → ℝ) (g : Fin 2) (C : Fin 8192) (l : Fin 128) : ℝ := if h : l.val < 64 then U g C ⟨l.val, h⟩ else 0

section
variable (v : FVec Ideal S1x2x8192x64 .f32)

theorem hV_select (g : Fin 2) (R : Fin 8192) (l : Fin 128) : hV v (ix3 g R l) =
    if IntOp.cmpi .eq (BitVec.ofNat 32 l.val) 64#32 = 1#1 then (FloatOps.ofBits .f32 0x3F800000#32 : Ideal .f32) else hPadV v (ix3 g R l) := rfl

/-- The selection takes the ones on lane 64 -/
theorem hV_one (g : Fin 2) (R : Fin 8192) : hV v (ix3 g R 64) = ((1 : ℝ) : EReal) := by
  rw [hV_select, if_pos (by decide)]
  exact ofBits_one

/-- and the values elsewhere. -/
theorem hV_other (g : Fin 2) (R : Fin 8192) (l : Fin 128) (hl : l.val ≠ 64) : hV v (ix3 g R l) = hPadV v (ix3 g R l) := by
  have : ∀ l : Fin 128, l.val ≠ 64 → IntOp.cmpi .eq (BitVec.ofNat 32 l.val) 64#32 = 0#1 := by decide +kernel
  rw [hV_select, this l hl]
  exact if_neg (by decide)

theorem hV_padded {U : Fin 2 → Fin 8192 → Fin 64 → ℝ} (hv : ∀ g R l, v (ix4 0 g R l) = ((U g R l : ℝ) : EReal)) (g : Fin 2) (R : Fin 8192)
    (l : Fin 128) (hl : l.val ≠ 64) : hV v (ix3 g R l) = ((padded U g R l : ℝ) : EReal) := by
  rw [hV_other v g R l hl, hPadV_ladder]
  refine (dif_neg (Nat.not_lt_zero _)).trans ?_
  unfold padded
  split_ifs with h
  · exact hv ..
  · rfl

end

variable (m : (ℓ : Loc nD τ sig) → Buf (Elt Ideal) ℓ) (ρ : Dev nD → PrngReg) (c : Dev nD)
variable {Q : Fin 8 → Fin 8192 → Fin 64 → ℝ} {K U : Fin 2 → Fin 8192 → Fin 64 → ℝ}

section
variable (hq : ∀ h R j, argQ m c (ix4 0 h R j) = ((Q h R j : ℝ) : EReal)) (hk : ∀ g R j, argK m c (ix4 0 g R j) = ((K g R j : ℝ) : EReal))

include hq in
theorem q_lane (h : Fin 8) (R : Fin 8192) (j : Fin 64) : qOp m c h R (laneA j) = ((Q h R j * (scaleA / Real.log 2) : ℝ) : EReal) := by
  rw [qOp, V_q, trunc_apply, hQ_apply, hSpreadQ_lane, hq, ← EReal.coe_mul, div_real _ _ log2_ne, mul_div_assoc]

include hk in
theorem k_lane (g : Fin 2) (R : Fin 8192) (j : Fin 64) : kOp m c g R (laneA j) = ((K g R j : ℝ) : EReal) := by
  rw [kOp, V_k, trunc_apply, hSpreadK_lane, hk]

include hq hk in
theorem qk_real (h : Fin 8) (R C : Fin 8192) :
    ∑ l, qOp m c h R l * kOp m c (groupOf h) C l = ((score scaleA (Q h) (K (groupOf h)) C R / Real.log 2 : ℝ) : EReal) :=
  lanes_score laneA_inj (fun j => q_lane m c hq h R j) (fun j => k_lane m c hk (groupOf h) C j) fun l hl => by
    rw [kOp, V_k, trunc_apply, hSpreadK_off (groupOf h) C l hl]

theorem v_other (hv : ∀ g R l, argV m c (ix4 0 g R l) = ((U g R l : ℝ) : EReal)) (g : Fin 2) (C : Fin 8192) (l : Fin 128) (hl : l.val ≠ 64) :
    vOp m c g C l = ((padded U g C l : ℝ) : EReal) := by
  rw [vOp, V_v, trunc_apply, hV_padded _ hv g C l hl]

theorem v_one (g : Fin 2) (C : Fin 8192) : vOp m c g C 64 = ((1 : ℝ) : EReal) := by
  rw [vOp, V_v, trunc_apply, hV_one]

end

/-! ## The lines after the call -/

/-- The output's heads side by side. -/
def outO (x : FVec Ideal S8x8192x128 .f32) : FVec Ideal S1x8192x512 .f32 :=
  shapeCast S1x8192x512 (transpose S8192x8x64 [1, 0, 2] (extractStridedSlice S8x8192x64 ![0, 0, 0] x slices_S8x8192x128_S8x8192x64_0_0_0)
    transposes_S8x8192x64_S8192x8x64_1_0_2) shapeCasts_S8192x8x64_S1x8192x512

/-- The logarithms of the rows' sums, from those to base two. -/
def outL (y : FVec Ideal S8x16x1x512 .f32) (z : FVec Ideal S_ .f32) : FVec Ideal S1x8x8192 .f32 :=
  mulf (shapeCast S1x8x8192 y shapeCasts_S8x16x1x512_S1x8x8192) (broadcastInDim S1x8x8192 ![] bcast_S_S1x8x8192 z)

theorem tail_o (W : Valuation τ sig (Elt Ideal)) : StableHlo.after hostOps1 W main_v48 = outO (W main_v45_0) := by
  entry_read
  rfl

theorem tail_l (W : Valuation τ sig (Elt Ideal)) : StableHlo.after hostOps1 W main_v51 = outL (W main_v45_1) (W main_v0) := by
  entry_read
  rfl

theorem outO_apply (x : FVec Ideal S8x8192x128 .f32) (R : Fin 8192) (h : Fin 8) (l : Fin 64) : outO x (ix3 0 R (colA h l)) = x (ix3 h R (laneV l)) := by
  unfold outO
  pointwise
  rw [colA_head]
  exact congrArg (fun l => x (ix3 h R l)) (Fin.ext (by simp only [colA, laneV]; omega))

theorem outL_apply (y : FVec Ideal S8x16x1x512 .f32) (z : FVec Ideal S_ .f32) (h : Fin 8) (i : Fin 16) (r : Fin 512) :
    outL y z (ix3 0 h (statRow i r)) = y (ix4 h i 0 r) * z ix0 := by
  unfold outL statRow
  pointwise

theorem outO_real (R : Fin 8192) (h : Fin 8) (l : Fin 64) :
    outO (oArr Q K (padded U)) (ix3 0 R (colA h l)) = ((∑ C, prob scaleA (Q h) (K (groupOf h)) C R * U (groupOf h) C l : ℝ) : EReal) := by
  rw [outO_apply]
  refine (if_neg (Nat.ne_of_lt l.isLt)).trans ?_
  refine congrArg _ (Finset.sum_congr rfl fun C _ => congrArg _ ?_)
  exact dif_pos l.isLt

theorem outL_real (h : Fin 8) (R : Fin 8192) :
    outL (lArr Q K) ln2 (ix3 0 h R) = ((Real.log (denom scaleA (Q h) (K (groupOf h)) R) : ℝ) : EReal) := by
  obtain ⟨i, r, rfl⟩ := exists_statRow R
  rw [outL_apply, ln2_apply]
  refine (EReal.coe_mul _ _).symm.trans (congrArg _ ?_)
  exact div_mul_cancel₀ _ log2_ne

/-! ## The run -/

theorem after_arr (w : Fin cfg0.W) : Pipeline.withArrays (cfgs 0).spec c (V0 m c) (fun w => (dats m 0 c).arrAt w (cfgs 0).N)
    (Proc.devRef .tc (Pipeline.arrRef (cfgs 0).spec w)) = (dats m 0 c).arrAt w (cfgs 0).N :=
  Pipeline.withArrays_arr _ launch0.win.arr_inj c _ _ w

/-- The arrays the grid leaves. -/
def oFin : FVec Ideal S8x8192x128 .f32 := (dats m 0 c).arrAt 3 (cfgs 0).N
def lFin : FVec Ideal S8x16x1x512 .f32 := (dats m 0 c).arrAt 4 (cfgs 0).N

/-- The results, of those. -/
theorem run_values : θ_run defs (onTc (τ := τ) (main (F := Ideal))) ⟨m, fun _ => 0, ρ⟩ (fun r => ∀ c : Dev nD,
      r.2.mem ((c.tc : Thread nD τ).loc main_v48) = outO (oFin m c)
      ∧ r.2.mem ((c.tc : Thread nD τ).loc main_v51) = outL (lFin m c) ln2) := by
  refine (θ_run defs _ _).mono (fun r h c => ?_) (run_main m ρ)
  refine ⟨((h c).2 main_v48 (by decide)).trans ?_, ((h c).2 main_v51 (by decide)).trans ?_⟩
  all_goals
    unfold Pipeline.afterTail₀
    rw [List.flatten_cons, List.flatten_nil, List.append_nil]
  · exact (tail_o _).trans (congrArg outO (after_arr m c 3))
  · refine (tail_l _).trans (congrArg₂ outL (after_arr m c 4) ?_)
    exact (Pipeline.withArrays_of_ne _ c _ _ main_v0 (by decide)).trans (V_ln2 m c)

section
variable (hq : ∀ h R j, argQ m c (ix4 0 h R j) = ((Q h R j : ℝ) : EReal)) (hk : ∀ g R j, argK m c (ix4 0 g R j) = ((K g R j : ℝ) : EReal))
include hq hk

theorem outO_fin (hv : ∀ g R l, argV m c (ix4 0 g R l) = ((U g R l : ℝ) : EReal)) (R : Fin 8192) (h : Fin 8) (l : Fin 64) :
    outO (oFin m c) (ix3 0 R (colA h l)) = ((∑ C, prob scaleA (Q h) (K (groupOf h)) C R * U (groupOf h) C l : ℝ) : EReal) := by
  have e : oFin m c = oArr Q K (padded U) := final_o m c (qk_real m c hq hk) (v_other m c hv) (v_one m c)
  rw [e, outO_real]

theorem outL_fin (h : Fin 8) (R : Fin 8192) :
    outL (lFin m c) ln2 (ix3 0 h R) = ((Real.log (denom scaleA (Q h) (K (groupOf h)) R) : ℝ) : EReal) := by
  have e : lFin m c = lArr Q K := final_l m c (qk_real m c hq hk) (v_one m c)
  rw [e, outL_real]

end

end Cert.KernelFAIdeal.Val

end
-- ==== Proof.RefFA.lean ====
/- What the reference of attention A's forward computes, for finite arguments. -/
module

public import proofs.«01_k».proof.Proof.Gen.ReferenceFAIdeal.Run
public import proofs.«01_k».proof.Proof.RefA
public import proofs.«01_k».proof.Proof.FwdReal

@[expose] public section

set_option maxRecDepth 16384

noncomputable section

namespace Cert.ReferenceFAIdeal.Val
open Idealize.ShloMosaic Idealize.ShloMosaic.TcCoe Idealize.ShloMosaic.Tactic Idealize.SL.Sem Cert.ReferenceFAIdeal Cert.ReferenceFAIdeal.Gen Cert.AttnFwd
open Cert.AttnGrad (score denom prob shifted scaleA colA coe_sum log_real shifted_pos groupOf placeOf headAt headAt_of)
open Cert.ReferenceAIdeal.Val (rS rP rExp rL rS_real rP_real exists_max)
open scoped BigOperators

/-- The output, group by group, -/
def rW (p : FVec Ideal S1x2x4x8192x8192 .f32) (v : FVec Ideal S1x2x8192x64 .f32) : FVec Ideal S1x2x4x8192x64 .f32 :=
  Host.dotGeneral dot_S1x2x4x8192x8192_S1x2x8192x64_S1x2x4x8192x64_4_2_23_3_01_01 none p v
/-- and its heads side by side. -/
def rO (d : FVec Ideal S1x2x4x8192x64 .f32) : FVec Ideal S1x8192x512 .f32 :=
  shapeCast S1x8192x512 (transpose S1x8192x2x4x64 [0, 3, 1, 2, 4] d transposes_S1x2x4x8192x64_S1x8192x2x4x64_0_3_1_2_4) shapeCasts_S1x8192x2x4x64_S1x8192x512
/-- The rows' greatest scores. -/
def rTop (s : FVec Ideal S1x2x4x8192x8192 .f32) : FVec Ideal S1x2x4x8192 .f32 :=
  Host.reduce FloatOps.maximumf s (constant S_ .f32 0xFF800000#32) reducesTo_S1x2x4x8192x8192_S1x2x4x8192_d4 h_S_
/-- The logarithms of the rows' sums of exponentials, group by group, -/
def rLog (s : FVec Ideal S1x2x4x8192x8192 .f32) (x : FVec Ideal S1x2x4x8192 .f32) : FVec Ideal S1x2x4x8192 .f32 :=
  addf x (Host.log (Host.reduceAdd (Host.exp (subf s (broadcastInDim S1x2x4x8192x8192 ![0, 1, 2, 3, 4] bcast_S1x2x4x8192x1_S1x2x4x8192x8192_0_1_2_3_4
    (broadcastInDim S1x2x4x8192x1 ![0, 1, 2, 3] bcast_S1x2x4x8192_S1x2x4x8192x1_0_1_2_3 x))))
    (constant S_ .f32 0x00000000#32) reducesTo_S1x2x4x8192x8192_S1x2x4x8192_d4 h_S_))
/-- and head by head. -/
def rLse (d : FVec Ideal S1x2x4x8192 .f32) : FVec Ideal S1x8x8192 .f32 := shapeCast S1x8x8192 d shapeCasts_S1x2x4x8192_S1x8x8192

section
variable (m : (ℓ : Loc nD τ sig) → Buf (Elt Ideal) ℓ) (c : Dev nD)

def argQ : FVec Ideal S1x8x8192x64 .f32 := m ((c.tc : Thread nD τ).loc main_arg0)
def argK : FVec Ideal S1x2x8192x64 .f32 := m ((c.tc : Thread nD τ).loc main_arg1)
def argV : FVec Ideal S1x2x8192x64 .f32 := m ((c.tc : Thread nD τ).loc main_arg2)

theorem run_values (ρ : Dev nD → PrngReg) : θ_run defs (onTc (τ := τ) (main (F := Ideal))) ⟨m, fun _ => 0, ρ⟩ fun r => ∀ c : Dev nD,
      r.2.mem ((c.tc : Thread nD τ).loc main_v22) = rO (rW (rP (rExp (argQ m c) (argK m c)) (rL (rExp (argQ m c) (argK m c)))) (argV m c))
      ∧ r.2.mem ((c.tc : Thread nD τ).loc main_v30) = rLse (rLog (rS (argQ m c) (argK m c)) (rTop (rS (argQ m c) (argK m c)))) :=
  (θ_run defs _ _).mono (fun _ h c => ⟨(h c).1.trans rfl, (h c).2.1.trans rfl⟩) (Value.run m ρ)

end

theorem rO_apply (d : FVec Ideal S1x2x4x8192x64 .f32) (R : Fin 8192) (h : Fin 8) (l : Fin 64) :
    rO d (ix3 0 R (colA h l)) = d (ix5 0 (groupOf h) (placeOf h) R l) := by
  unfold rO
  pointwise
  have e : ∀ {g g' : Fin 2} {a a' : Fin 4} {l l' : Fin 64}, g = g' → a = a' → l = l' → d (ix5 0 g a R l) = d (ix5 0 g' a' R l') := by
    rintro _ _ _ _ _ _ rfl rfl rfl
    rfl
  exact e (Fin.ext (by simp only [colA, groupOf]; omega)) (Fin.ext (by simp only [colA, placeOf]; omega)) (Fin.ext (by simp only [colA]; omega))

theorem rLse_apply (d : FVec Ideal S1x2x4x8192 .f32) (h : Fin 8) (R : Fin 8192) : rLse d (ix3 0 h R) = d (ix4 0 (groupOf h) (placeOf h) R) := by
  unfold rLse groupOf placeOf
  pointwise

section
variable (g : Fin 2) (a : Fin 4) (R : Fin 8192)

theorem rW_apply (p : FVec Ideal S1x2x4x8192x8192 .f32) (v : FVec Ideal S1x2x8192x64 .f32) (l : Fin 64) :
    rW p v (ix5 0 g a R l) = ∑ C, p (ix5 0 g a R C) * v (ix4 0 g C l) := by
  unfold rW
  pointwise

theorem rTop_apply (s : FVec Ideal S1x2x4x8192x8192 .f32) : rTop s (ix4 0 g a R) = Cert.ReferenceAIdeal.Val.rM s (ix5 0 g a R 0) :=
  (Cert.ReferenceAIdeal.Val.greatest_apply g a R s).trans (Cert.ReferenceAIdeal.Val.rM_apply g a R s).symm

theorem rLog_apply (s : FVec Ideal S1x2x4x8192x8192 .f32) (x : FVec Ideal S1x2x4x8192 .f32) :
    rLog s x (ix4 0 g a R) = x (ix4 0 g a R) + Ideal.log (∑ C, Ideal.exp (s (ix5 0 g a R C) - x (ix4 0 g a R))) := by
  unfold rLog
  pointwise

end

/-! ## The results as reals -/

section
variable {q : FVec Ideal S1x8x8192x64 .f32} {k v : FVec Ideal S1x2x8192x64 .f32}
  {Q : Fin 8 → Fin 8192 → Fin 64 → ℝ} {K U : Fin 2 → Fin 8192 → Fin 64 → ℝ}
  (hq : ∀ h R j, q (ix4 0 h R j) = ((Q h R j : ℝ) : EReal)) (hk : ∀ g R j, k (ix4 0 g R j) = ((K g R j : ℝ) : EReal))
include hq hk

theorem rO_real (hv : ∀ g R l, v (ix4 0 g R l) = ((U g R l : ℝ) : EReal)) (R : Fin 8192) (h : Fin 8) (l : Fin 64) :
    rO (rW (rP (rExp q k) (rL (rExp q k))) v) (ix3 0 R (colA h l)) =
      ((∑ C, prob scaleA (Q h) (K (groupOf h)) C R * U (groupOf h) C l : ℝ) : EReal) := by
  obtain ⟨M, hM⟩ := exists_max hq hk
  rw [rO_apply, rW_apply]
  simp only [rP_real hq hk hM, hv, headAt_of, ← EReal.coe_mul]
  exact coe_sum _ _

theorem rLse_real (h : Fin 8) (R : Fin 8192) :
    rLse (rLog (rS q k) (rTop (rS q k))) (ix3 0 h R) = ((Real.log (denom scaleA (Q h) (K (groupOf h)) R) : ℝ) : EReal) := by
  obtain ⟨M, hM⟩ := exists_max hq hk
  rw [rLse_apply, rLog_apply, rTop_apply, hM]
  simp only [rS_real hq hk, headAt_of, ← EReal.coe_sub, Ideal.exp_coe]
  rw [coe_sum, log_real _ (by exact shifted_pos scaleA (Q h) (K (groupOf h)) (M (groupOf h) (placeOf h) R) R), ← EReal.coe_add]
  exact congrArg _ (log_shifted ..)

end

end Cert.ReferenceFAIdeal.Val

end
-- ==== Proof.PreFA.lean ====
/- The precondition of attention A's forward: every entry of every argument is a real. -/
module

public import proofs.«01_k».proof.Pre_finite_fa
public import proofs.«01_k».proof.Proof.PreB

@[expose] public section

set_option maxRecDepth 16384

noncomputable section

namespace Cert.Pre_finite_fa
open Idealize.ShloMosaic Cert.AttnGrad
open Cert.Pre_finite (and_one isReal_of_olt)

instance facts : Facts where
  bcast_S_S1x8x8192x64 := by decide
  reducesTo_S1x8x8192x64_S_d0_1_2_3 := by decide
  h_S_ := by decide
  bcast_S_S1x2x8192x64 := by decide
  reducesTo_S1x2x8192x64_S_d0_1_2_3 := by decide

instance : Subsingleton S_.Idx := ⟨fun _ _ => funext fun b => b.elim0⟩

theorem real_of_fn {q : FVec Ideal S1x8x8192x64 .f32} {k v : FVec Ideal S1x2x8192x64 .f32} (h : fn q k v = fun _ => 1#1) :
    (∀ i, IsReal (q i)) ∧ (∀ i, IsReal (k i)) ∧ ∀ i, IsReal (v i) := by
  obtain ⟨h1, hv⟩ := and_one (congrFun h (fun b => b.elim0))
  obtain ⟨hq, hk⟩ := and_one h1
  exact ⟨fun i => isReal_of_olt ofBits_top (Host.reduce_andi_all _ _ _ _ _ hq i), fun i => isReal_of_olt ofBits_top (Host.reduce_andi_all _ _ _ _ _ hk i),
    fun i => isReal_of_olt ofBits_top (Host.reduce_andi_all _ _ _ _ _ hv i)⟩

end Cert.Pre_finite_fa

end
-- ==== Proof.EqFA.lean ====
/- Attention A's forward: the kernel's two results are the reference's. -/
module

public import proofs.«01_k».proof.Proof.TailFA
public import proofs.«01_k».proof.Proof.RefFA
public import proofs.«01_k».proof.Proof.PreFA
public import proofs.«01_k».proof.Defs

@[expose] public section

set_option maxRecDepth 16384

noncomputable section

namespace Cert.EqFA
open Idealize.ShloMosaic Idealize.SL.Sem Cert.AttnGrad

theorem eta_o (i : (⟨3, ![1, 8192, 512]⟩ : Shape).Idx) : ∃ (R : Fin 8192) (h : Fin 8) (l : Fin 64), i = ix3 0 R (colA h l) := by
  have hi : (i 2).val < 512 := (i 2).isLt
  refine ⟨i 1, ⟨(i 2).val / 64, by omega⟩, ⟨(i 2).val % 64, by omega⟩, ?_⟩
  refine (Idealize.ShloMosaic.ix3_eta i).symm.trans (congrArg₂ (fun a b => ix3 a (i 1) b) (Subsingleton.elim (α := Fin 1) _ _) (Fin.ext ?_))
  simp only [colA]
  omega

theorem eta_l (i : (⟨3, ![1, 8, 8192]⟩ : Shape).Idx) : i = ix3 0 (i 1) (i 2) :=
  (Idealize.ShloMosaic.ix3_eta i).symm.trans (congrArg (fun a => ix3 a (i 1) (i 2)) (Subsingleton.elim (α := Fin 1) _ _))

/-- The results agree where the arguments do. -/
theorem results (m : (ℓ : Loc KernelFAIdeal.nD KernelFAIdeal.τ KernelFAIdeal.sig) → Buf (Elt Ideal) ℓ) (c : Dev KernelFAIdeal.nD)
    (m' : (ℓ : Loc ReferenceFAIdeal.nD ReferenceFAIdeal.τ ReferenceFAIdeal.sig) → Buf (Elt Ideal) ℓ)
    (hp : Pre_finite_fa.fn (F := Ideal) (KernelFAIdeal.Val.argQ m c) (KernelFAIdeal.Val.argK m c) (KernelFAIdeal.Val.argV m c) = fun _ => 1#1)
    (h0 : ReferenceFAIdeal.Val.argQ m' c = KernelFAIdeal.Val.argQ m c) (h1 : ReferenceFAIdeal.Val.argK m' c = KernelFAIdeal.Val.argK m c)
    (h2 : ReferenceFAIdeal.Val.argV m' c = KernelFAIdeal.Val.argV m c) :
    ReferenceFAIdeal.Val.rO (ReferenceFAIdeal.Val.rW (ReferenceAIdeal.Val.rP
        (ReferenceAIdeal.Val.rExp (ReferenceFAIdeal.Val.argQ m' c) (ReferenceFAIdeal.Val.argK m' c))
        (ReferenceAIdeal.Val.rL (ReferenceAIdeal.Val.rExp (ReferenceFAIdeal.Val.argQ m' c) (ReferenceFAIdeal.Val.argK m' c))))
        (ReferenceFAIdeal.Val.argV m' c)) = KernelFAIdeal.Val.outO (KernelFAIdeal.Val.oFin m c)
    ∧ ReferenceFAIdeal.Val.rLse (ReferenceFAIdeal.Val.rLog (ReferenceAIdeal.Val.rS (ReferenceFAIdeal.Val.argQ m' c) (ReferenceFAIdeal.Val.argK m' c))
        (ReferenceFAIdeal.Val.rTop (ReferenceAIdeal.Val.rS (ReferenceFAIdeal.Val.argQ m' c) (ReferenceFAIdeal.Val.argK m' c)))) =
      KernelFAIdeal.Val.outL (KernelFAIdeal.Val.lFin m c) KernelAIdeal.Val.ln2 := by
  rw [h0, h1, h2]
  obtain ⟨hq, hk, hv⟩ := Pre_finite_fa.real_of_fn hp
  choose q hq using hq
  choose k hk using hk
  choose v hv using hv
  have hq' : ∀ h R j, KernelFAIdeal.Val.argQ m c (ix4 0 h R j) = (((fun h R j => q (ix4 0 h R j)) h R j : ℝ) : EReal) := fun h R j => hq _
  have hk' : ∀ g R j, KernelFAIdeal.Val.argK m c (ix4 0 g R j) = (((fun g R j => k (ix4 0 g R j)) g R j : ℝ) : EReal) := fun g R j => hk _
  have hv' : ∀ g R l, KernelFAIdeal.Val.argV m c (ix4 0 g R l) = (((fun g R l => v (ix4 0 g R l)) g R l : ℝ) : EReal) := fun g R l => hv _
  refine ⟨funext fun i => ?_, funext fun i => ?_⟩
  · obtain ⟨R, h, l, rfl⟩ := eta_o i
    exact (ReferenceFAIdeal.Val.rO_real hq' hk' hv' R h l).trans (KernelFAIdeal.Val.outO_fin m c hq' hk' hv' R h l).symm
  · rw [eta_l i]
    exact (ReferenceFAIdeal.Val.rLse_real hq' hk' _ _).trans (KernelFAIdeal.Val.outL_fin m c hq' hk' _ _).symm

theorem algebraic : Cert.algebraic_KernelFAIdeal_ReferenceFAIdeal_pre_finite_fa := by
  intro m ρ m' ρ' hp he
  refine ⟨fun c => KernelFAIdeal.Val.outO (KernelFAIdeal.Val.oFin m c),
    fun c => KernelFAIdeal.Val.outL (KernelFAIdeal.Val.lFin m c) KernelAIdeal.Val.ln2, ?_, ?_⟩
  · refine (θ_run _ _ _).mono (fun r h c => ?_) (θ_run_and (KernelFAIdeal.Val.run_values m ρ) (KernelFAIdeal.Gen.unchanged m ρ))
    exact ⟨(h.1 c).1, (h.1 c).2, h.2 c⟩
  · refine (θ_run _ _ _).mono (fun r h c => ?_) (θ_run_and (ReferenceFAIdeal.Val.run_values m' ρ') (ReferenceFAIdeal.Value.run m' ρ'))
    obtain ⟨e0, e1⟩ := results m c m' (hp c) (he c).1 (he c).2.1 (he c).2.2
    exact ⟨(h.1 c).1.trans e0, (h.1 c).2.trans e1, (h.2 c).2.2⟩

end Cert.EqFA

end
-- ==== Proof.PostRun.lean ====
/-
  The run of `_post`'s body at one grid point, over any floats: on whole staging buffers, the thirty-nine inputs' at their contents and the outputs'
  at anything, the body ends with the inputs' buffers as they were and each output's buffer with a list of stores written over what it held. The
  lists are what the run finds. The last output's buffer is carried from point to point: the first point fills it with zeros, so nothing is asked of
  what it held there; at a later point it holds known contents `xo`, and the stores, which replace single rows of it, are written over those.
-/
module

public import proofs.«01_k».proof.Proof.Gen.KernelPIdeal.Skeleton
public import proofs.«01_k».proof.Proof.Gen.KernelPIdeal.Frame
public import Idealize.ShloMosaic.Lib.LaneScatter.Own

@[expose] public section

set_option maxRecDepth 16384

noncomputable section

namespace Cert.NormGrad

open Cert.KernelPIdeal Cert.KernelPIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.LaneScatter (raw owns_raw raw_owns)

variable {F : FTy → Type} [FloatOps F]

local notation "𝕄" => MT nD τ sig Unit (Elt F) ℕ (UR sig nD τ) ℕ

/-- Whether a point is the first, as the body's branch computes it from the grid's coordinate. -/
abbrev IsFirst (i : grid0.Coords) : Prop :=
  Scalar.cmpi .ne (Scalar.extui (Scalar.cmpi .eq (BitVec.ofNat 32 (i 0).val) 0#32)) 0#32 = 1#1

/-- Owning a whole buffer at contents is holding it at the raw contents that read them. -/
theorem owns_eq_raw (c : Thread nD τ) {sp : Space} {s : Shape} {e : EltTy} {M : Memref sig c.2.kind sp s e} (h : M.IsWhole) (x : s.Idx → Elt F e) :
    (owns c M fullShare x : sProp 𝕄) = raw c M (h.unread x) :=
  Entails.antisymm (owns_raw c M h x) (raw_owns c M (h.read_unread x))

/-- The stores of one point, the last first, into each of the five outputs' buffers. -/
structure Stores (F : FTy → Type) where
  dx : List (View.Piece (Elt F) S256x1024 .f32)
  dproj : List (View.Piece (Elt F) S256x3328 .bf16)
  dq : List (View.Piece (Elt F) S256x512 .bf16)
  dkv : List (View.Piece (Elt F) S256x1024 .bf16)
  small : List (View.Piece (Elt F) S16x1024 .f32)

variable (c : Dev nD) (i : grid0.Coords)
  {a1 a2 a40 : Memref sig .tc .vmem S256x1024 .f32}
  {a3 : Memref sig .tc .vmem S256x1920 .f32}
  {a4 a5 : Memref sig .tc .vmem S256x512 .f32}
  {a6 a32 a43 : Memref sig .tc .vmem S256x1024 .bf16}
  {a7 a8 a9 : Memref sig .tc .vmem S8x256x128 .f32}
  {a10 a11 a12 : Memref sig .tc .vmem S4x256x128 .f32}
  {a13 : Memref sig .tc .vmem S8x128 .f32}
  {a14 a16 a18 a20 a22 a24 a26 a28 : Memref sig .tc .vmem S1x4x128 .f32}
  {a15 a17 a19 a21 a23 a25 a27 a29 : Memref sig .tc .vmem S64x128 .f32}
  {a30 : Memref sig .tc .vmem S1024x3328 .bf16}
  {a31 : Memref sig .tc .vmem S384x512 .bf16}
  {a33 : Memref sig .tc .vmem S1x1024 .f32}
  {a34 a35 a38 a39 : Memref sig .tc .vmem S1x128 .f32}
  {a36 : Memref sig .tc .vmem S1x384 .f32}
  {a37 : Memref sig .tc .vmem S1x256 .f32}
  {a41 : Memref sig .tc .vmem S256x3328 .bf16}
  {a42 : Memref sig .tc .vmem S256x512 .bf16}
  {a44 : Memref sig .tc .vmem S16x1024 .f32}
  (h1 : a1.IsWhole) (h2 : a2.IsWhole) (h3 : a3.IsWhole) (h4 : a4.IsWhole) (h5 : a5.IsWhole) (h6 : a6.IsWhole) (h7 : a7.IsWhole) (h8 : a8.IsWhole) (h9
  : a9.IsWhole) (h10 : a10.IsWhole) (h11 : a11.IsWhole) (h12 : a12.IsWhole) (h13 : a13.IsWhole) (h14 : a14.IsWhole) (h15 : a15.IsWhole) (h16 :
  a16.IsWhole) (h17 : a17.IsWhole) (h18 : a18.IsWhole) (h19 : a19.IsWhole) (h20 : a20.IsWhole) (h21 : a21.IsWhole) (h22 : a22.IsWhole) (h23 :
  a23.IsWhole) (h24 : a24.IsWhole) (h25 : a25.IsWhole) (h26 : a26.IsWhole) (h27 : a27.IsWhole) (h28 : a28.IsWhole) (h29 : a29.IsWhole) (h30 :
  a30.IsWhole) (h31 : a31.IsWhole) (h32 : a32.IsWhole) (h33 : a33.IsWhole) (h34 : a34.IsWhole) (h35 : a35.IsWhole) (h36 : a36.IsWhole) (h37 :
  a37.IsWhole) (h38 : a38.IsWhole) (h39 : a39.IsWhole) (h40 : a40.IsWhole) (h41 : a41.IsWhole) (h42 : a42.IsWhole) (h43 : a43.IsWhole) (h44 :
  a44.IsWhole)
  (x1 x2 : Vec F S256x1024 .f32)
  (x3 : Vec F S256x1920 .f32)
  (x4 x5 : Vec F S256x512 .f32)
  (x6 x32 : Vec F S256x1024 .bf16)
  (x7 x8 x9 : Vec F S8x256x128 .f32)
  (x10 x11 x12 : Vec F S4x256x128 .f32)
  (x13 : Vec F S8x128 .f32)
  (x14 x16 x18 x20 x22 x24 x26 x28 : Vec F S1x4x128 .f32)
  (x15 x17 x19 x21 x23 x25 x27 x29 : Vec F S64x128 .f32)
  (x30 : Vec F S1024x3328 .bf16)
  (x31 : Vec F S384x512 .bf16)
  (x33 : Vec F S1x1024 .f32)
  (x34 x35 x38 x39 : Vec F S1x128 .f32)
  (x36 : Vec F S1x384 .f32)
  (x37 : Vec F S1x256 .f32)

/-- What a run of the body shows: from the inputs' buffers at their contents and the outputs' at anything, of the last one as `P` says, beside anything
    else (`R`, `R'`), it ends with the inputs' buffers as they were and the stores `L` written over the outputs'; `Q` says over what those of the last. -/
def Ran (P : sProp 𝕄) (Q : List (View.Piece (Elt F) S16x1024 .f32) → sProp 𝕄) (L : Stores F) : Prop :=
  let Inputs : sProp 𝕄 → sProp 𝕄 := fun O =>
    iprop(owns c a1 fullShare x1 ∗ owns c a2 fullShare x2 ∗ owns c a3 fullShare x3 ∗ owns c a4 fullShare x4 ∗ owns c a5 fullShare x5 ∗ owns c a6
            fullShare x6 ∗ owns c a7 fullShare x7 ∗ owns c a8 fullShare x8 ∗ owns c a9 fullShare x9 ∗ owns c a10 fullShare x10 ∗ owns c a11 fullShare
            x11 ∗ owns c a12 fullShare x12 ∗ owns c a13 fullShare x13 ∗ owns c a14 fullShare x14 ∗ owns c a15 fullShare x15 ∗ owns c a16 fullShare x16
            ∗ owns c a17 fullShare x17 ∗ owns c a18 fullShare x18 ∗ owns c a19 fullShare x19 ∗ owns c a20 fullShare x20 ∗ owns c a21 fullShare x21 ∗
            owns c a22 fullShare x22 ∗ owns c a23 fullShare x23 ∗ owns c a24 fullShare x24 ∗ owns c a25 fullShare x25 ∗ owns c a26 fullShare x26 ∗
            owns c a27 fullShare x27 ∗ owns c a28 fullShare x28 ∗ owns c a29 fullShare x29 ∗ owns c a30 fullShare x30 ∗ owns c a31 fullShare x31 ∗
            owns c a32 fullShare x32 ∗ owns c a33 fullShare x33 ∗ owns c a34 fullShare x34 ∗ owns c a35 fullShare x35 ∗ owns c a36 fullShare x36 ∗
            owns c a37 fullShare x37 ∗ owns c a38 fullShare x38 ∗ owns c a39 fullShare x39 ∗ O)
  ∀ (E : Set ℕ) (R R' : sProp 𝕄),
    iprop(R ∗ R' ∗ Inputs iprop((∃ f, raw c a40 f) ∗ (∃ f, raw c a41 f) ∗ (∃ f, raw c a42 f) ∗ (∃ f, raw c a43 f) ∗ P))
      ⊢ wp frame (wpE (defs₀ (F := F)) Variants.none c none) E
          (cc0_post i a1 h1 a2 h2 a3 h3 a4 h4 a5 h5 a6 h6 a7 h7 a8 h8 a9 h9 a10 h10 a11 h11 a12 h12 a13 h13 a14 h14 a15 h15 a16 h16 a17 h17 a18 h18 a19 h19 a20
            h20 a21 h21 a22 h22 a23 h23 a24 h24 a25 h25 a26 h26 a27 h27 a28 h28 a29 h29 a30 h30 a31 h31 a32 h32 a33 h33 a34 h34 a35 h35 a36 h36 a37
            h37 a38 h38 a39 h39 a40 h40 a41 h41 a42 h42 a43 h43 a44 h44)
          (fun _ => iprop(R ∗ R' ∗ Inputs iprop((∃ f, raw c a40 (a40.view.writes (Elt F) f L.dx)) ∗ (∃ f, raw c a41 (a41.view.writes (Elt F) f L.dproj))
            ∗ (∃ f, raw c a42 (a42.view.writes (Elt F) f L.dq)) ∗ (∃ f, raw c a43 (a43.view.writes (Elt F) f L.dkv)) ∗ Q L.small)))

variable {c i} {h1 h2 h3 h4 h5 h6 h7 h8 h9 h10 h11 h12 h13 h14 h15 h16 h17 h18 h19 h20 h21 h22 h23 h24 h25 h26 h27 h28 h29 h30 h31 h32 h33 h34 h35 h36 h37 h38 h39 h40 h41 h42 h43 h44} {x1 x2 x3 x4 x5 x6 x7 x8 x9 x10 x11 x12 x13 x14 x15 x16 x17 x18 x19 x20 x21 x22 x23 x24 x25 x26 x27 x28 x29 x30 x31 x32 x33 x34 x35 x36 x37 x38 x39}

set_option maxHeartbeats 4000000 in
/-- The run at the first point. -/
def runFirst (h0 : IsFirst i) :
    { L : Stores F // Ran c i h1 h2 h3 h4 h5 h6 h7 h8 h9 h10 h11 h12 h13 h14 h15 h16 h17 h18 h19 h20 h21 h22 h23 h24 h25 h26 h27 h28 h29 h30 h31 h32 h33 h34 h35 h36 h37 h38 h39 h40 h41 h42 h43 h44
        x1 x2 x3 x4 x5 x6 x32 x7 x8 x9 x10 x11 x12 x13 x14 x16 x18 x20 x22 x24 x26 x28 x15 x17 x19 x21 x23 x25 x27 x29 x30 x31 x33 x34 x35 x38 x39 x36 x37 iprop(∃ f, raw c a44 f) (fun l => iprop(∃ f, raw c a44 (a44.view.writes (Elt F) f l))) L } := by
  refine ⟨⟨?_, ?_, ?_, ?_, ?_⟩, ?run⟩
  case run =>
    unfold Ran; intro Inputs E R R'
    simp only [Inputs, cc0_post_eq_skeleton]; unfold cc0_post_skel
    simp only [k0_part1_eq_skeleton, k0_part2_eq_skeleton, k0_part3_eq_skeleton, k0_part4_eq_skeleton, k0_part5_eq_skeleton, k0_part6_eq_skeleton,
      k0_part7_eq_skeleton, k0_part8_eq_skeleton, k0_part9_eq_skeleton, k0_part10_eq_skeleton, k0_part11_eq_skeleton, k0_part12_eq_skeleton,
      k0_part13_eq_skeleton, k0_part14_eq_skeleton, k0_part15_eq_skeleton, k0_part16_eq_skeleton, k0_part17_eq_skeleton, k0_part18_eq_skeleton,
      k0_part19_eq_skeleton, k0_part20_eq_skeleton, k0_part21_eq_skeleton, k0_part22_eq_skeleton, k0_part23_eq_skeleton, k0_part24_eq_skeleton,
      k0_part25_eq_skeleton, k0_part26_eq_skeleton, k0_part27_eq_skeleton, k0_part28_eq_skeleton, k0_part29_eq_skeleton, k0_part30_eq_skeleton,
      k0_part31_eq_skeleton,
      owns_eq_raw c h1, owns_eq_raw c h2, owns_eq_raw c h3, owns_eq_raw c h4, owns_eq_raw c h5, owns_eq_raw c h6, owns_eq_raw c h7, owns_eq_raw c h8,
      owns_eq_raw c h9, owns_eq_raw c h10, owns_eq_raw c h11, owns_eq_raw c h12, owns_eq_raw c h13, owns_eq_raw c h14, owns_eq_raw c h15, owns_eq_raw
      c h16, owns_eq_raw c h17, owns_eq_raw c h18, owns_eq_raw c h19, owns_eq_raw c h20, owns_eq_raw c h21, owns_eq_raw c h22, owns_eq_raw c h23,
      owns_eq_raw c h24, owns_eq_raw c h25, owns_eq_raw c h26, owns_eq_raw c h27, owns_eq_raw c h28, owns_eq_raw c h29, owns_eq_raw c h30, owns_eq_raw
      c h31, owns_eq_raw c h32, owns_eq_raw c h33, owns_eq_raw c h34, owns_eq_raw c h35, owns_eq_raw c h36, owns_eq_raw c h37, owns_eq_raw c h38,
      owns_eq_raw c h39]
    unfold raw
    iintro ⟨HR, HR', H1, H2, H3, H4, H5, H6, H7, H8, H9, H10, H11, H12, H13, H14, H15, H16, H17, H18, H19, H20, H21, H22, H23, H24, H25, H26, H27, H28, H29,
            H30, H31, H32, H33, H34, H35, H36, H37, H38, H39, ⟨%f40, H40⟩, ⟨%f41, H41⟩, ⟨%f42, H42⟩, ⟨%f43, H43⟩, ⟨%f44, H44⟩⟩
    sl_exec (disch := first | sl_exact h0)
    sl_step
    iframe HR HR' H1 H2 H3 H4 H5 H6 H7 H8 H9 H10 H11 H12 H13 H14 H15 H16 H17 H18 H19 H20 H21 H22 H23 H24 H25 H26 H27 H28 H29 H30 H31 H32 H33 H34 H35 H36 H37 H38
      H39
    isplitl [H40]; · iexists _; iexact H40
    isplitl [H41]; · iexists _; iexact H41
    isplitl [H42]; · iexists _; iexact H42
    isplitl [H43]; · iexists _; iexact H43
    iexists _; iexact H44

set_option maxHeartbeats 4000000 in
/-- The run at a later point, the last output's buffer at `xo`. -/
def runLater (h0 : ¬IsFirst i) (xo : Vec F S16x1024 .f32) :
    { L : Stores F // Ran c i h1 h2 h3 h4 h5 h6 h7 h8 h9 h10 h11 h12 h13 h14 h15 h16 h17 h18 h19 h20 h21 h22 h23 h24 h25 h26 h27 h28 h29 h30 h31 h32 h33 h34 h35 h36 h37 h38 h39 h40 h41 h42 h43 h44
        x1 x2 x3 x4 x5 x6 x32 x7 x8 x9 x10 x11 x12 x13 x14 x16 x18 x20 x22 x24 x26 x28 x15 x17 x19 x21 x23 x25 x27 x29 x30 x31 x33 x34 x35 x38 x39 x36 x37 (raw c a44 (h44.unread xo)) (fun l => raw c a44 (a44.view.writes (Elt F) (h44.unread xo) l)) L } := by
  refine ⟨⟨?_, ?_, ?_, ?_, ?_⟩, ?run⟩
  case run =>
    unfold Ran; intro Inputs E R R'
    simp only [Inputs, cc0_post_eq_skeleton]; unfold cc0_post_skel
    simp only [k0_part1_eq_skeleton, k0_part2_eq_skeleton, k0_part3_eq_skeleton, k0_part4_eq_skeleton, k0_part5_eq_skeleton, k0_part6_eq_skeleton,
      k0_part7_eq_skeleton, k0_part8_eq_skeleton, k0_part9_eq_skeleton, k0_part10_eq_skeleton, k0_part11_eq_skeleton, k0_part12_eq_skeleton,
      k0_part13_eq_skeleton, k0_part14_eq_skeleton, k0_part15_eq_skeleton, k0_part16_eq_skeleton, k0_part17_eq_skeleton, k0_part18_eq_skeleton,
      k0_part19_eq_skeleton, k0_part20_eq_skeleton, k0_part21_eq_skeleton, k0_part22_eq_skeleton, k0_part23_eq_skeleton, k0_part24_eq_skeleton,
      k0_part25_eq_skeleton, k0_part26_eq_skeleton, k0_part27_eq_skeleton, k0_part28_eq_skeleton, k0_part29_eq_skeleton, k0_part30_eq_skeleton,
      k0_part31_eq_skeleton,
      owns_eq_raw c h1, owns_eq_raw c h2, owns_eq_raw c h3, owns_eq_raw c h4, owns_eq_raw c h5, owns_eq_raw c h6, owns_eq_raw c h7, owns_eq_raw c h8,
      owns_eq_raw c h9, owns_eq_raw c h10, owns_eq_raw c h11, owns_eq_raw c h12, owns_eq_raw c h13, owns_eq_raw c h14, owns_eq_raw c h15, owns_eq_raw
      c h16, owns_eq_raw c h17, owns_eq_raw c h18, owns_eq_raw c h19, owns_eq_raw c h20, owns_eq_raw c h21, owns_eq_raw c h22, owns_eq_raw c h23,
      owns_eq_raw c h24, owns_eq_raw c h25, owns_eq_raw c h26, owns_eq_raw c h27, owns_eq_raw c h28, owns_eq_raw c h29, owns_eq_raw c h30, owns_eq_raw
      c h31, owns_eq_raw c h32, owns_eq_raw c h33, owns_eq_raw c h34, owns_eq_raw c h35, owns_eq_raw c h36, owns_eq_raw c h37, owns_eq_raw c h38,
      owns_eq_raw c h39]
    unfold raw
    iintro ⟨HR, HR', H1, H2, H3, H4, H5, H6, H7, H8, H9, H10, H11, H12, H13, H14, H15, H16, H17, H18, H19, H20, H21, H22, H23, H24, H25, H26, H27, H28, H29,
            H30, H31, H32, H33, H34, H35, H36, H37, H38, H39, ⟨%f40, H40⟩, ⟨%f41, H41⟩, ⟨%f42, H42⟩, ⟨%f43, H43⟩, H44⟩
    sl_exec (disch := first | sl_exact h0)
    sl_step
    iframe HR HR' H1 H2 H3 H4 H5 H6 H7 H8 H9 H10 H11 H12 H13 H14 H15 H16 H17 H18 H19 H20 H21 H22 H23 H24 H25 H26 H27 H28 H29 H30 H31 H32 H33 H34 H35 H36 H37 H38
      H39
    isplitl [H40]; · iexists _; iexact H40
    isplitl [H41]; · iexists _; iexact H41
    isplitl [H42]; · iexists _; iexact H42
    isplitl [H43]; · iexists _; iexact H43
    iexact H44

end Cert.NormGrad

end
-- ==== Proof.PostFrame.lean ====
/-
  The frame of `_post`, over any floats: the pipeline's proof data, the body's obligation at every point, and the run of the whole program. After the
  body a point leaves every input's buffer at its block; the first four outputs' buffers, which are written back at every point, at the point's
  stores, which cover them; and the last one's, which is carried through all thirty-two points, at the stores over what the point before left.
-/
module

public import proofs.«01_k».proof.Proof.PostRun

@[expose] public section

set_option maxRecDepth 16384

noncomputable section

namespace Cert.NormGrad

open Cert.KernelPIdeal Cert.KernelPIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.LaneScatter (raw owns_raw raw_owns)
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Stores read back -/

/-- Stores that cover a buffer, over anything, leave their canon. -/
theorem stored (c : Thread nD τ) {sp : Space} {s : Shape} {e : EltTy} (M : Memref sig c.2.kind sp s e) (L : List (View.Piece (Elt F) s e))
    (h : ∀ y, ∃ p ∈ L, y ∈ p.1.set) : iprop(∃ f, raw c M (M.view.writes (Elt F) f L)) ⊢ (owns c M fullShare (View.canon L) : sProp 𝕄) := by
  iintro ⟨%f, H⟩
  iapply (raw_owns c M (View.read_writes_eq_canon M.view f L h)); iexact H

/-- The store of a whole buffer. -/
def whole {s : Shape} {e : EltTy} (x : s.Idx → Elt F e) : View.Piece (Elt F) s e := ⟨Rect.unit (fun _ => 0) s.size (fun _ => (Nat.zero_add _).le), x⟩

theorem canon_whole {s : Shape} {e : EltTy} (x : s.Idx → Elt F e) : View.canon [whole x] = x := by
  funext y
  have h : (whole (F := F) x).1.emb y = y := by
    funext a; exact Fin.ext (by show 0 + 1 * (y a).val = _; omega)
  conv_lhs => rw [← h]
  exact View.canon_cons_emb _ _ _ _

/-- What stores over known contents leave reads as if those contents had been stored first, whole. -/
theorem read_over {sp : Space} {s : Shape} {e : EltTy} (M : Memref sig .tc sp s e) (h : M.IsWhole) (x : s.Idx → Elt F e) (L : List (View.Piece (Elt F) s e)) :
    M.view.read (Elt F) (M.view.writes (Elt F) (h.unread x) L) = View.canon (L ++ [whole x]) := by
  induction L with
  | nil => rw [List.nil_append, canon_whole]; exact h.read_unread x
  | cons p L ih =>
    obtain ⟨r, w⟩ := p
    rw [List.cons_append]
    funext y
    by_cases hy : y ∈ r.set
    · obtain ⟨z, rfl⟩ : ∃ z, r.emb z = y := r.exists_idx_of_mem hy
      rw [View.read_writes_cons_emb, View.canon_cons_emb]
    · have hy' : y ∉ Finset.univ.map r.emb := by rwa [Rect.map_emb_univ]
      rw [View.writes_cons, View.read_slice_write_of_not_mem r _ _ _ hy', View.canon_cons_of_not_mem ⟨r, w⟩ _ hy, ih]

/-- So a buffer held at such stores is owned at their canon. -/
theorem stored_over (c : Thread nD τ) {sp : Space} {s : Shape} {e : EltTy} (M : Memref sig c.2.kind sp s e) (h : M.IsWhole) (x : s.Idx → Elt F e)
    (L : List (View.Piece (Elt F) s e)) (hc : c.2.kind = .tc) :
    raw c M (M.view.writes (Elt F) (h.unread x) L) ⊢ (owns c M fullShare (View.canon (L ++ [whole x])) : sProp 𝕄) := by
  obtain ⟨d, k⟩ := c
  cases k <;> first | exact raw_owns _ M (read_over M h x L) | cases hc

/-! ## The two runs at a point -/

/-- Every staging buffer is a whole one. -/
theorem wh (w : Fin 44) (t : Fin cfg0.N) : ((cfg0.win w).stage (cfg0.slots t w)).IsWhole := stage_whole0 w (cfg0.slots t w)

/-- A point is the first where the branch says so. -/
theorem isFirst : ∀ t : Fin cfg0.N, IsFirst (grid0.coords t) ↔ t.val = 0 := fun t => by
  have ht : t.val < 32 := Nat.lt_of_lt_of_eq t.isLt N_0
  have e0 : (grid0.coords t 0).val = t.val / 1 % 32 := Pipeline.Grid.coords_val t 0 (by decide) rfl
  have e1 : t.val / 1 % 32 = t.val := by omega
  simp only [IsFirst, e0, e1]
  word_cmp

/-- Window `w`'s block at point `t`, as its staging buffer holds it. -/
def inBlk (c : Dev nD) (w : Fin cfg0.W) (t : Fin cfg0.N) : (cfg0.win w).block.Idx → Elt F (cfg0.win w).elt :=
  (cfg0.win w).fill (cfg0.grid.coords t) (fun _ => Classical.arbitrary _) (iblk m c w t)

/-- The run's statement at point `t`'s buffers and blocks. -/
abbrev RanAt (c : Dev nD) (t : Fin cfg0.N) (P : sProp 𝕄) (Q : List (View.Piece (Elt F) S16x1024 .f32) → sProp 𝕄) (L : Stores F) : Prop :=
  Ran c (grid0.coords t)
    (wh 0 t) (wh 1 t) (wh 2 t) (wh 3 t) (wh 4 t) (wh 5 t) (wh 6 t) (wh 7 t) (wh 8 t) (wh 9 t) (wh 10 t) (wh 11 t) (wh 12 t) (wh 13 t) (wh 14 t) (wh 15
    t) (wh 16 t) (wh 17 t) (wh 18 t) (wh 19 t) (wh 20 t) (wh 21 t) (wh 22 t) (wh 23 t) (wh 24 t) (wh 25 t) (wh 26 t) (wh 27 t) (wh 28 t) (wh 29 t) (wh
    30 t) (wh 31 t) (wh 32 t) (wh 33 t) (wh 34 t) (wh 35 t) (wh 36 t) (wh 37 t) (wh 38 t) (wh 39 t) (wh 40 t) (wh 41 t) (wh 42 t) (wh 43 t)
    (inBlk m c 0 t) (inBlk m c 1 t) (inBlk m c 2 t) (inBlk m c 3 t) (inBlk m c 4 t) (inBlk m c 5 t) (inBlk m c 31 t) (inBlk m c 6 t) (inBlk m c 7 t)
    (inBlk m c 8 t) (inBlk m c 9 t) (inBlk m c 10 t) (inBlk m c 11 t) (inBlk m c 12 t) (inBlk m c 13 t) (inBlk m c 15 t) (inBlk m c 17 t) (inBlk m c
    19 t) (inBlk m c 21 t) (inBlk m c 23 t) (inBlk m c 25 t) (inBlk m c 27 t) (inBlk m c 14 t) (inBlk m c 16 t) (inBlk m c 18 t) (inBlk m c 20 t)
    (inBlk m c 22 t) (inBlk m c 24 t) (inBlk m c 26 t) (inBlk m c 28 t) (inBlk m c 29 t) (inBlk m c 30 t) (inBlk m c 32 t) (inBlk m c 33 t) (inBlk m c
    34 t) (inBlk m c 37 t) (inBlk m c 38 t) (inBlk m c 35 t) (inBlk m c 36 t) P Q L

/-- The last output's buffer at point `t`. -/
abbrev smallBuf (t : Fin cfg0.N) : Memref sig .tc .vmem S16x1024 .f32 := (cfg0.win 43).stage (cfg0.slots t 43)

def firstAt (c : Dev nD) (t : Fin cfg0.N) (h : t.val = 0) :
    { L : Stores F // RanAt m c t iprop(∃ f, raw c (smallBuf t) f) (fun l => iprop(∃ f, raw c (smallBuf t) ((smallBuf t).view.writes (Elt F) f l))) L } :=
  runFirst ((isFirst t).mpr h)

def laterAt (c : Dev nD) (t : Fin cfg0.N) (h : t.val ≠ 0) (xo : Vec F S16x1024 .f32) :
    { L : Stores F // RanAt m c t (raw c (smallBuf t) ((wh 43 t).unread xo))
        (fun l => raw c (smallBuf t) ((smallBuf t).view.writes (Elt F) ((wh 43 t).unread xo) l)) L } :=
  runLater (fun h' => h ((isFirst t).mp h')) xo

/-- The stores cover the four outputs that every point writes back. -/
def Cover (L : Stores F) : Prop :=
  (∀ y, ∃ p ∈ L.dx, y ∈ p.1.set) ∧ (∀ y, ∃ p ∈ L.dproj, y ∈ p.1.set) ∧ (∀ y, ∃ p ∈ L.dq, y ∈ p.1.set) ∧ (∀ y, ∃ p ∈ L.dkv, y ∈ p.1.set)

theorem firstAt_cover (c : Dev nD) (t : Fin cfg0.N) (h : t.val = 0) : Cover (firstAt m c t h).1 :=
  ⟨View.cover_of_tiledBy _ S256x1024.size (by sl_kernel_rfl), View.cover_of_tiledBy _ S256x128.size (by sl_kernel_rfl),
    View.cover_of_tiledBy _ S256x128.size (by sl_kernel_rfl), View.cover_of_tiledBy _ S256x128.size (by sl_kernel_rfl)⟩

theorem firstAt_small (c : Dev nD) (t : Fin cfg0.N) (h : t.val = 0) : ∀ y, ∃ p ∈ (firstAt m c t h).1.small, y ∈ p.1.set :=
  View.cover_of_wholeMem _ (by unfold firstAt runFirst; dsimp only; sl_whole_mem)

theorem laterAt_cover (c : Dev nD) (t : Fin cfg0.N) (h : t.val ≠ 0) (xo : Vec F S16x1024 .f32) : Cover (laterAt m c t h xo).1 :=
  ⟨View.cover_of_tiledBy _ S256x1024.size (by sl_kernel_rfl), View.cover_of_tiledBy _ S256x128.size (by sl_kernel_rfl),
    View.cover_of_tiledBy _ S256x128.size (by sl_kernel_rfl), View.cover_of_tiledBy _ S256x128.size (by sl_kernel_rfl)⟩

/-! ## What the outputs' buffers hold after each point -/

/-- The contents of the five outputs' buffers. -/
structure Left (F : FTy → Type) where
  dx : Vec F S256x1024 .f32
  dproj : Vec F S256x3328 .bf16
  dq : Vec F S256x512 .bf16
  dkv : Vec F S256x1024 .bf16
  small : Vec F S16x1024 .f32

/-- What stores leave, the last output's over `before`. -/
def Stores.left (L : Stores F) (before : List (View.Piece (Elt F) S16x1024 .f32)) : Left F :=
  ⟨View.canon L.dx, View.canon L.dproj, View.canon L.dq, View.canon L.dkv, View.canon (L.small ++ before)⟩

/-- The buffers after the point at position `n`: the first point's stores, later ones over what the point before left. -/
def left (c : Dev nD) : (n : ℕ) → n < cfg0.N → Left F
  | 0, h => (firstAt m c ⟨0, h⟩ rfl).1.left []
  | n + 1, h =>
    (laterAt m c ⟨n + 1, h⟩ (Nat.succ_ne_zero n) (left c n (Nat.lt_of_succ_lt h)).small).1.left [whole (left c n (Nat.lt_of_succ_lt h)).small]

/-- What the last output's buffer holds as a later point begins. -/
abbrev smallBefore (c : Dev nD) (t : Fin cfg0.N) : Vec F S16x1024 .f32 :=
  (left m c (t.val - 1) (Nat.lt_of_le_of_lt (Nat.sub_le _ _) t.isLt)).small

theorem left_first (c : Dev nD) (t : Fin cfg0.N) (h : t.val = 0) : left m c t.val t.isLt = (firstAt m c t h).1.left [] := by
  obtain ⟨n, hn⟩ := t
  obtain rfl : n = 0 := h
  rfl

theorem left_later (c : Dev nD) (t : Fin cfg0.N) (h : t.val ≠ 0) :
    left m c t.val t.isLt = (laterAt m c t h (smallBefore m c t)).1.left [whole (smallBefore m c t)] := by
  obtain ⟨n, hn⟩ := t
  cases n with
  | zero => exact absurd rfl h
  | succ n => rfl

/-! ## The pipeline's proof data -/

/-- The arrays as the region finds them; after a point the inputs' buffers at their blocks and the outputs' at `left`. -/
def dats (_ : Fin 1) (c : Dev nD) : Dat τ (Elt F) Unit ℕ (UR sig nD τ) ℕ cfg0 c where
  A w := V m c (Pipeline.arrRef spec0 w)
  after w t := if w.val < 39 then inBlk m c w t else match w with
    | ⟨39, _⟩ => (left m c t.val t.isLt).dx
    | ⟨40, _⟩ => (left m c t.val t.isLt).dproj
    | ⟨41, _⟩ => (left m c t.val t.isLt).dq
    | ⟨42, _⟩ => (left m c t.val t.isLt).dkv
    | ⟨43, _⟩ => (left m c t.val t.isLt).small
    | w => inBlk m c w t
  Φ _ := Pipeline.ΦA spec0 c
  q _ := fullShare
  owed _ := 0

theorem A_eq (c : Dev nD) (w : Fin cfg0.W) : (dats m 0 c).A w = V m c (Pipeline.arrRef spec0 w) := by
  dsimp only [dats]

theorem clip_none (w : Fin cfg0.W) : ∀ (i : cfg0.grid.Coords) a, (cfg0.win w).clip i a = none := by
  revert w; show ∀ w : Fin 44, _
  intro w; fin_cases w <;> exact fun _ _ => rfl

theorem isOut_in : ∀ w : Fin 44, w.val < 39 → (cfg0.win w).isOut = false := by decide

theorem after_in (c : Dev nD) (w : Fin 44) (hw : w.val < 39) (t : Fin cfg0.N) : (dats m 0 c).after w t = inBlk m c w t := if_pos hw

/-- Contents that are one thing whatever is said of them. -/
theorem exists_eq {α : Type} [Nonempty α] {P : α → sProp 𝕄} {Q : sProp 𝕄} (h : ∀ d, P d = Q) : iprop(∃ d, P d) = Q := by
  have h₁ : iprop(∃ d, P d) ⊢ Q := by
    iintro ⟨%d, H⟩
    iapply (show P d ⊢ Q from h d ▸ .rfl); iexact H
  have h₂ : Q ⊢ iprop(∃ d, P d) := by
    iintro H
    iexists (Classical.arbitrary α)
    iapply (show Q ⊢ P _ from h _ ▸ .rfl); iexact H
  exact Entails.antisymm h₁ h₂

/-- Owning a whole buffer at anything is holding it raw at anything. -/
theorem owns_any (c : Thread nD τ) {sp : Space} {s : Shape} {e : EltTy} {M : Memref sig c.2.kind sp s e} (h : M.IsWhole) :
    iprop(∃ d, owns c M fullShare d) = (iprop(∃ f, raw c M f) : sProp 𝕄) := by
  have h₁ : (iprop(∃ d, owns c M fullShare d) : sProp 𝕄) ⊢ iprop(∃ f, raw c M f) := by
    iintro ⟨%d, H⟩
    iexists _
    iapply (owns_raw c M h d); iexact H
  have h₂ : (iprop(∃ f, raw c M f) : sProp 𝕄) ⊢ iprop(∃ d, owns c M fullShare d) := by
    iintro ⟨%f, H⟩
    iexists _
    iapply (raw_owns c M rfl); iexact H
  exact Entails.antisymm h₁ h₂

/-- As a point begins, an input's staging buffer holds its block, whatever the data of the outputs. -/
theorem before_in {c : Dev nD} (dat : Dat τ (Elt F) Unit ℕ (UR sig nD τ) ℕ cfg0 c) (w : Fin cfg0.W) (hA : dat.A w = V m c (Pipeline.arrRef spec0 w))
    (hafter : ∀ t, dat.after w t = inBlk m c w t) (hw : (cfg0.win w).isOut = false) (t : Fin cfg0.N) (d) : dat.before w t d = inBlk m c w t := by
  have hblk : ∀ t, dat.blockOf w t = iblk m c w t := fun t => by unfold Dat.blockOf iblk; rw [hA]
  rw [dat.before_in_eq_fetched w hw (fun _ => rfl) (fun t t' _ => by funext a; rw [clip_none, clip_none])
    (fun t => by rw [hafter, hblk]; exact (cfg0.win w).cut_fill _ _ _) t d]
  unfold Dat.fetched inBlk
  rw [hblk]
  exact Pipeline.fill_of_clip_none w _ (clip_none w _) _ _ _

theorem input_eq (c : Dev nD) (t : Fin cfg0.N) (w : Fin 44) (hw : w.val < 39) :
    (iprop(∃ d, owns (c : Thread nD τ) ((cfg0.win w).stage (cfg0.slots t w)) fullShare ((dats m 0 c).before w t d)) : sProp 𝕄)
      = owns (c : Thread nD τ) ((cfg0.win w).stage (cfg0.slots t w)) fullShare (inBlk m c w t) :=
  exists_eq fun d => congrArg (owns (c : Thread nD τ) ((cfg0.win w).stage (cfg0.slots t w)) fullShare)
    (before_in m (dats m 0 c) w (A_eq m c w) (after_in m c w hw) (isOut_in w hw) t d)

/-- An output's that was just written back, or at the first point, holds anything. -/
theorem output_eq (c : Dev nD) (t : Fin cfg0.N) (w : Fin 44) (ho : (cfg0.win w).isOut = true)
    (hr : t.val = 0 ∨ ∃ _ : t.val ≠ 0, (cfg0.win w).flush ⟨t.val - 1, Nat.lt_of_le_of_lt (Nat.sub_le _ _) t.isLt⟩ = true) :
    (iprop(∃ d, owns (c : Thread nD τ) ((cfg0.win w).stage (cfg0.slots t w)) fullShare ((dats m 0 c).before w t d)) : sProp 𝕄)
      = iprop(∃ f, raw (c : Thread nD τ) ((cfg0.win w).stage (cfg0.slots t w)) f) := by
  have hb : (fun d => (dats m 0 c).before w t d) = fun d => d := funext fun d => (dats m 0 c).before_out_reset w ho t hr d
  rw [← owns_any (c : Thread nD τ) (wh w t)]
  exact congrArg (fun g : ((cfg0.win w).block.Idx → Elt F (cfg0.win w).elt) → _ =>
    (iprop(∃ d, owns (c : Thread nD τ) ((cfg0.win w).stage (cfg0.slots t w)) fullShare (g d)) : sProp 𝕄)) hb

/-- At a later point the last output's buffer holds what the point before left. -/
theorem last_eq (c : Dev nD) (t : Fin cfg0.N) (h : t.val ≠ 0) :
    (iprop(∃ d, owns (c : Thread nD τ) ((cfg0.win 43).stage (cfg0.slots t 43)) fullShare ((dats m 0 c).before 43 t d)) : sProp 𝕄)
      = raw (c : Thread nD τ) (smallBuf t) ((wh 43 t).unread (smallBefore m c t)) := by
  have hN : t.val < 32 := lt_of_lt_of_eq t.isLt (show cfg0.N = 32 from N_0)
  have hb : ∀ d, (dats m 0 c).before 43 t d = smallBefore m c t := fun d =>
    (Dat.before_out_kept _ 43 rfl t h (Bool.eq_false_iff.mpr fun h => by have := (flush0_43 _).mp h; dsimp only at this; omega)
      (fun _ => rfl) (fun _ _ => rfl) d).trans rfl
  exact (exists_eq fun d => congrArg (owns (c : Thread nD τ) (smallBuf t) fullShare) (hb d)).trans (owns_eq_raw (c : Thread nD τ) (wh 43 t) _)

/-! ## The body's obligation and the run -/

theorem after_dx (c : Dev nD) (t : Fin cfg0.N) : (dats m 0 c).after 39 t = (left m c t.val t.isLt).dx := rfl
theorem after_dproj (c : Dev nD) (t : Fin cfg0.N) : (dats m 0 c).after 40 t = (left m c t.val t.isLt).dproj := rfl
theorem after_dq (c : Dev nD) (t : Fin cfg0.N) : (dats m 0 c).after 41 t = (left m c t.val t.isLt).dq := rfl
theorem after_dkv (c : Dev nD) (t : Fin cfg0.N) : (dats m 0 c).after 42 t = (left m c t.val t.isLt).dkv := rfl
theorem after_small (c : Dev nD) (t : Fin cfg0.N) : (dats m 0 c).after 43 t = (left m c t.val t.isLt).small := rfl

theorem flushed (t : Fin cfg0.N) (w : Fin 44) (hw : ∀ t : Fin cfg0.N, (cfg0.win w).flush t = true) :
    t.val = 0 ∨ ∃ _ : t.val ≠ 0, (cfg0.win w).flush ⟨t.val - 1, Nat.lt_of_le_of_lt (Nat.sub_le _ _) t.isLt⟩ = true := by
  by_cases h : t.val = 0
  · exact .inl h
  · exact .inr ⟨h, hw _⟩

/-- Window `w`'s buffer as the pipeline hands it to the body at point `t`, and as it takes it back. -/
def given (c : Dev nD) (t : Fin cfg0.N) (w : Fin 44) : sProp 𝕄 :=
  iprop(∃ d, owns (c : Thread nD τ) ((cfg0.win w).stage (cfg0.slots t w)) fullShare ((dats m 0 c).before w t d))
def taken (c : Dev nD) (t : Fin cfg0.N) (w : Fin 44) : sProp 𝕄 :=
  owns (c : Thread nD τ) ((cfg0.win w).stage (cfg0.slots t w)) fullShare ((dats m 0 c).after w t)

/-- An input's is handed over and taken back at its block. -/
theorem taken_in (c : Dev nD) (t : Fin cfg0.N) (w : Fin 44) (hw : w.val < 39) :
    owns (c : Thread nD τ) ((cfg0.win w).stage (cfg0.slots t w)) fullShare (inBlk m c w t) ⊢ taken m c t w :=
  Entails.of_eq (by unfold taken; rw [after_in m c w hw t])
theorem in_taken (c : Dev nD) (t : Fin cfg0.N) (w : Fin 44) (hw : w.val < 39) :
    given m c t w ⊢ owns (c : Thread nD τ) ((cfg0.win w).stage (cfg0.slots t w)) fullShare (inBlk m c w t) :=
  Entails.of_eq (input_eq m c t w hw)

set_option maxHeartbeats 3200000 in
/-- The body at any point, from the buffers as the pipeline hands them over. -/
theorem sound_body (c : Dev nD) (t : Fin cfg0.N) :
    iprop((dats m 0 c).Φ t.castSucc ∗ (dats m 0 c).owesAt () t.castSucc ∗ bigSep Finset.univ (given m c t))
      ⊢ wp frame (wpE (defs₀ (F := F)) Variants.none c none) Set.univ (bodyAt0 t)
        (fun _ => iprop((dats m 0 c).Φ t.succ ∗ (dats m 0 c).owesAt () t.succ ∗ bigSep Finset.univ (taken m c t))) := by
  rw [bigSep_W0, bigSep_W0]
  by_cases h : t.val = 0
  · have hc := firstAt_cover m c t h
    have hs := firstAt_small m c t h
    have hl := left_first m c t h
    have hrun := (firstAt m c t h).2
    generalize (firstAt m c t h).1 = L at hrun hc hs hl
    refine triple_restated (hrun Set.univ ((dats m 0 c).Φ t.castSucc) ((dats m 0 c).owesAt () t.castSucc)) rfl ?_ fun _ => ?_
    · refine BIClass.sep_mono .rfl (BIClass.sep_mono .rfl ?_)
      iterate 39 refine BIClass.sep_mono (in_taken m c t _ (by decide)) ?_
      exact BIClass.sep_mono (Entails.of_eq (output_eq m c t 39 rfl (flushed t 39 flush0_39)))
        (BIClass.sep_mono (Entails.of_eq (output_eq m c t 40 rfl (flushed t 40 flush0_40)))
        (BIClass.sep_mono (Entails.of_eq (output_eq m c t 41 rfl (flushed t 41 flush0_41)))
        (BIClass.sep_mono (Entails.of_eq (output_eq m c t 42 rfl (flushed t 42 flush0_42))) (Entails.of_eq (output_eq m c t 43 rfl (.inl h))))))
    · refine BIClass.sep_mono .rfl (BIClass.sep_mono .rfl ?_)
      iterate 39 refine BIClass.sep_mono (taken_in m c t _ (by decide)) ?_
      unfold taken
      rw [after_dx, after_dproj, after_dq, after_dkv, after_small, hl]
      refine BIClass.sep_mono (stored c _ _ hc.1) (BIClass.sep_mono (stored c _ _ hc.2.1) (BIClass.sep_mono (stored c _ _ hc.2.2.1) (BIClass.sep_mono (stored c _ _ hc.2.2.2) ?_)))
      exact (stored c _ _ hs).trans (Entails.of_eq (by unfold Stores.left; rw [List.append_nil]))
  · have hc := laterAt_cover m c t h (smallBefore m c t)
    have hl := left_later m c t h
    have hrun := (laterAt m c t h (smallBefore m c t)).2
    generalize (laterAt m c t h (smallBefore m c t)).1 = L at hrun hc hl
    refine triple_restated (hrun Set.univ ((dats m 0 c).Φ t.castSucc) ((dats m 0 c).owesAt () t.castSucc)) rfl ?_ fun _ => ?_
    · refine BIClass.sep_mono .rfl (BIClass.sep_mono .rfl ?_)
      iterate 39 refine BIClass.sep_mono (in_taken m c t _ (by decide)) ?_
      exact BIClass.sep_mono (Entails.of_eq (output_eq m c t 39 rfl (flushed t 39 flush0_39)))
        (BIClass.sep_mono (Entails.of_eq (output_eq m c t 40 rfl (flushed t 40 flush0_40)))
        (BIClass.sep_mono (Entails.of_eq (output_eq m c t 41 rfl (flushed t 41 flush0_41)))
        (BIClass.sep_mono (Entails.of_eq (output_eq m c t 42 rfl (flushed t 42 flush0_42))) (Entails.of_eq (last_eq m c t h)))))
    · refine BIClass.sep_mono .rfl (BIClass.sep_mono .rfl ?_)
      iterate 39 refine BIClass.sep_mono (taken_in m c t _ (by decide)) ?_
      unfold taken
      rw [after_dx, after_dproj, after_dq, after_dkv, after_small, hl]
      exact BIClass.sep_mono (stored c _ _ hc.1) (BIClass.sep_mono (stored c _ _ hc.2.1) (BIClass.sep_mono (stored c _ _ hc.2.2.1)
        (BIClass.sep_mono (stored c _ _ hc.2.2.2) (stored_over c _ (wh 43 t) _ _ rfl))))

/-- The library's body obligation, at every point. -/
theorem body_obligation (c : Dev nD) : BodyObligation (dats (F := F) m 0 c) (defs₀ (F := F)) Variants.none () Set.univ := fun t => by
  have hrow : defs₀ (F := F) .tc cfg0.body (cfg0.bodyArgs t (cfg0.slots t)) = bodyAt0 t := by unfold defs₀; rw [Defs.onTc_tc]
  rw [hrow]
  exact triple_restated (sound_body m c t) rfl .rfl fun _ => .rfl

set_option backward.isDefEq.respectTransparency.types false in
set_option maxHeartbeats 800000 in
/-- The launch: the program ends with every array at what the proof data say, every other buffer as the lines after the region leave it, and every
    counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

end Cert.NormGrad

end
-- ==== Proof.PostClaim.lean ====
/-
  The frames of `_post`: one run, over any floats, serves the kernel as written and its reading over the extended reals.
-/
module

public import proofs.«01_k».proof.Defs
public import proofs.«01_k».proof.Proof.Gen.KernelP
public import proofs.«01_k».proof.Proof.PostFrame
public import Idealize.ShloMosaic.Lib.Claim

@[expose] public section

set_option maxRecDepth 16384

noncomputable section

namespace Cert.PostClaim

open Idealize.ShloMosaic Idealize.SL.Sem
open Cert.NormGrad (dats A_eq run_main run_main_quiescent)

/-- Over the extended reals the arguments end as they began and every counter at zero. -/
theorem frame_ideal : Cert.quiescent_KernelPIdeal (hKernelPIdeal := KernelPIdeal.Gen.facts) := fun m ρ _ =>
  θ_run_and (KernelPIdeal.Gen.frame_of m ρ (dats m) (A_eq m) (run_main m ρ)) ((θ_run KernelPIdeal.defs _ _).mono (fun _ h => h.2) (run_main_quiescent m ρ))

/-- So do the kernel's as written. -/
theorem frame_kernel : Cert.quiescent_KernelP (hKernelP := KernelP.Gen.facts) := fun m ρ _ =>
  cast (by sl_kernel_rfl) (θ_run_and (KernelPIdeal.Gen.frame_of (F := Bits) m ρ (dats m) (A_eq m) (run_main m ρ))
    ((θ_run KernelPIdeal.defs _ _).mono (fun _ h => h.2) (run_main_quiescent m ρ)))

end Cert.PostClaim

end
-- ==== Proof.PostTile.lean ====
/- What 256 rows of mixer A's projections compute on the way back: the rotation undone, the norm's gradient, the gain's sum. The names of the stages, over any floats. -/
module

public import Idealize.ShloMosaic.Lib.Pipeline.ValueKit
public import proofs.«01_k».proof.Proof.Tile

@[expose] public section

set_option maxRecDepth 16384

noncomputable section

namespace Cert.NormGrad
open Idealize.ShloMosaic

/-- A head's rows, and as they are held. -/
abbrev Blk : Shape := ⟨2, ![256, 128]⟩
abbrev Blk₃ : Shape := ⟨3, ![1, 256, 128]⟩
/-- The heads' cotangents. -/
abbrev Heads : Shape := ⟨3, ![8, 256, 128]⟩
/-- The rows of the projections the norms take. -/
abbrev Pre : Shape := ⟨2, ![256, 1920]⟩
/-- The rows of the projections' gradient. -/
abbrev Proj : Shape := ⟨2, ![256, 3328]⟩
/-- A number for every row, and one for every lane. -/
abbrev Col₁ : Shape := ⟨1, ![256]⟩
abbrev Col : Shape := ⟨2, ![256, 1]⟩
abbrev Row : Shape := ⟨2, ![1, 128]⟩
/-- The tables of the tokens' rows and columns. -/
abbrev TabR₃ : Shape := ⟨3, ![1, 4, 128]⟩
abbrev TabR : Shape := ⟨2, ![4, 128]⟩
abbrev TabC : Shape := ⟨2, ![64, 128]⟩

variable {F : FTy → Type} [FloatOps F]

/-! ## The rotation -/

/-- One of the four token rows, over the token columns. -/
def tabPart (r : Vec F TabR₃ .f32) (c : Vec F TabC .f32) (k : Fin 4) : FVec F TabC .f32 :=
  addf (broadcastTo TabC (extractStridedSlice Row ![k.val, 0] (shapeCast TabR r (by decide) : FVec F TabR .f32)
    ⟨rfl, by intro a; have := k.isLt; fin_cases a <;> simp <;> omega⟩) (by decide)) (shapeCast TabC c (by decide))

/-- A table, a row to a token. -/
def table (r : Vec F TabR₃ .f32) (c : Vec F TabC .f32) : FVec F Blk .f32 :=
  concatenate Blk 0 [⟨TabC, tabPart r c 0⟩, ⟨TabC, tabPart r c 1⟩, ⟨TabC, tabPart r c 2⟩, ⟨TabC, tabPart r c 3⟩]
    (show Shape.Concatenates [TabC, TabC, TabC, TabC] Blk 0 by decide)

/-- The two halves of the lanes exchanged. -/
def turn (x : FVec F Blk .f32) : FVec F Blk .f32 := dynamicRotate 1 64#32 none x (by decide)

/-- The rotation undone. -/
def back (d cs sn : FVec F Blk .f32) : FVec F Blk .f32 := subf (mulf d cs) (mulf (turn d) sn)

/-! ## The norm -/

/-- Columns as they are read. -/
def held (x : Vec F Blk .f32) : FVec F Blk .f32 := shapeCast Blk x (by decide)

/-- A row's sum. -/
def rowSum (x : FVec F Blk .f32) : FVec F Col .f32 :=
  shapeCast Col (multiReduction .add [1] Col₁ x 0x00000000#32 (by decide) (.inl rfl) rfl) (by decide)

/-- One over the root of a row's mean square. -/
def rate (x : FVec F Blk .f32) : FVec F Col .f32 :=
  rsqrt (addf (mulf (rowSum (mulf x x)) (broadcast Col (Scalar.ofBits .f32 0x3C800000#32))) (broadcast Col (Scalar.ofBits .f32 0x358637BD#32)))

/-- The normed rows before the gain. -/
def hat (x : FVec F Blk .f32) : FVec F Blk .f32 := mulf x (broadcastTo Blk (rate x) (by decide))

/-- What flows back, times the gain. -/
def weigh (dn : FVec F Blk .f32) (g : Vec F Row .f32) : FVec F Blk .f32 :=
  mulf dn (broadcastTo Blk (shapeCast Row g (by decide)) (by decide))

/-- The gradient of the rows before the norm, as it is stored. -/
def dIn (dn x : FVec F Blk .f32) (g : Vec F Row .f32) : FVec F Blk .bf16 :=
  truncf .bf16 (mulf (broadcastTo Blk (rate x) (by decide)) (subf (weigh dn g) (mulf (hat x) (broadcastTo Blk
    (mulf (mulf (rate x) (rowSum (mulf (weigh dn g) x))) (broadcast Col (Scalar.ofBits .f32 0x3C800000#32))) (by decide))))) (by decide)

/-! ## The heads -/

section
variable (d : Vec F Heads .f32) (pre : Vec F Pre .f32)

/-- A head's rows of the cotangent. -/
def headOf (h : Fin 8) : FVec F Blk .f32 :=
  shapeCast (s := Blk₃) Blk (View.ld d (Rect.unit (s := Heads) ![h.val, 0, 0] ![1, 256, 128] (by intro a; have := h.isLt; fin_cases a <;> simp <;> omega)))
    (by decide)

/-- A group's four heads added up. -/
def groupSum (g : Fin 2) : FVec F Blk .f32 :=
  addf (addf (addf (headOf d ⟨4 * g.val, by omega⟩) (headOf d ⟨4 * g.val + 1, by omega⟩)) (headOf d ⟨4 * g.val + 2, by omega⟩))
    (headOf d ⟨4 * g.val + 3, by omega⟩)

/-- A query head's columns, and a key head's. -/
def preQ (h : Fin 8) : FVec F Blk .f32 :=
  held (View.ld pre (Rect.unit (s := Pre) ![0, 128 * h.val] ![256, 128] (by intro a; have := h.isLt; fin_cases a <;> simp <;> omega)))
def preK (g : Fin 2) : FVec F Blk .f32 :=
  held (View.ld pre (Rect.unit (s := Pre) ![0, 1024 + 128 * g.val] ![256, 128] (by intro a; have := g.isLt; fin_cases a <;> simp <;> omega)))
end

/-! ## What a grid point leaves, block by block -/

/-- The queries' columns. -/
def IsQ (x : Vec F Proj .bf16) (a : Fin 8 → FVec F Blk .bf16) : Prop :=
  View.ld x (Rect.unit (s := Proj) ![0, 0] ![256, 128] (by decide)) = a 0 ∧
  View.ld x (Rect.unit (s := Proj) ![0, 128] ![256, 128] (by decide)) = a 1 ∧
  View.ld x (Rect.unit (s := Proj) ![0, 256] ![256, 128] (by decide)) = a 2 ∧
  View.ld x (Rect.unit (s := Proj) ![0, 384] ![256, 128] (by decide)) = a 3 ∧
  View.ld x (Rect.unit (s := Proj) ![0, 512] ![256, 128] (by decide)) = a 4 ∧
  View.ld x (Rect.unit (s := Proj) ![0, 640] ![256, 128] (by decide)) = a 5 ∧
  View.ld x (Rect.unit (s := Proj) ![0, 768] ![256, 128] (by decide)) = a 6 ∧
  View.ld x (Rect.unit (s := Proj) ![0, 896] ![256, 128] (by decide)) = a 7

/-- The keys' and values' columns. -/
def IsKV (x : Vec F Proj .bf16) (a b : Fin 2 → FVec F Blk .bf16) : Prop :=
  View.ld x (Rect.unit (s := Proj) ![0, 1024] ![256, 128] (by decide)) = a 0 ∧
  View.ld x (Rect.unit (s := Proj) ![0, 1152] ![256, 128] (by decide)) = a 1 ∧
  View.ld x (Rect.unit (s := Proj) ![0, 1280] ![256, 128] (by decide)) = b 0 ∧
  View.ld x (Rect.unit (s := Proj) ![0, 1408] ![256, 128] (by decide)) = b 1

section
variable (d : Vec F Heads .f32) (pre : Vec F Pre .f32) (r r' : Vec F TabR₃ .f32) (c c' : Vec F TabC .f32) (g : Vec F Row .f32)
/-- A head's cotangent turned back, -/
def backQ (h : Fin 8) : FVec F Blk .f32 := back (headOf d h) (table r c) (table r' c')
def backK (h : Fin 2) : FVec F Blk .f32 := back (groupSum d h) (table r c) (table r' c')
/-- the gradient of its columns, -/
def dQ (h : Fin 8) : FVec F Blk .bf16 := dIn (backQ d r r' c c' h) (preQ pre h) g
def dK (h : Fin 2) : FVec F Blk .bf16 := dIn (backK d r r' c c' h) (preK pre h) g
def dV (h : Fin 2) : FVec F Blk .bf16 := truncf .bf16 (groupSum d h) (by decide)
end

end Cert.NormGrad

end
-- ==== Proof.NormReal.lean ====
/- A head's norm and rotation on the way back, in real numbers: the tile's stages at an index, and what a head's rows come to for finite contents. -/
module

public import proofs.«01_k».proof.Proof.PostTile
public import proofs.«01_k».proof.Proof.MidIdeal
public import proofs.«01_k».proof.Proof.HeadsA
public import Idealize.ShloMosaic.Lib.Pointwise

@[expose] public section

set_option maxRecDepth 16384

noncomputable section

namespace Cert.NormGrad
open Idealize.ShloMosaic Idealize.ShloMosaic.TcCoe Idealize.ShloMosaic.Tactic
open Cert.AttnGrad (coe_sum sum_lanes laneA laneA_inj groupOf headAt)
open Cert.GateGrad (half)
open scoped BigOperators

/-! ## The mathematics -/

/-- The other feature of a rotated pair, -/
def mate (j : Fin 64) : Fin 64 := ⟨if j.val % 32 < 16 then j.val + 16 else j.val - 16, by have := j.isLt; split_ifs <;> omega⟩
/-- and the sign of the pair's sine at a feature. -/
def sgn (j : Fin 64) : ℝ := if j.val % 32 < 16 then -1 else 1

theorem half_lane (j : Fin 64) : half (laneA j) = laneA (mate j) := by
  revert j
  decide +kernel

theorem half_off (l : Fin 128) (hl : l ∉ Set.range laneA) : half l ∉ Set.range laneA := by
  revert l
  decide +kernel

/-- What is added to the mean square. -/
def eps : ℝ := 8796093 / 8796093022208
theorem ofBits_eps : Ideal.ofBits .f32 0x358637BD#32 = ((eps : ℝ) : EReal) := by
  simp [Ideal.ofBits, Ideal.ieee, eps, -EReal.coe_mul]; norm_num
theorem ofBits_64th : Ideal.ofBits .f32 0x3C800000#32 = ((1 / 64 : ℝ) : EReal) := by
  simp [Ideal.ofBits, Ideal.ieee, -EReal.coe_mul]; norm_num
theorem eps_pos : 0 < eps := by unfold eps; norm_num

/-- The rotation undone, feature by feature. -/
def bR (D C S : Fin 64 → ℝ) (j : Fin 64) : ℝ := D j * C j - D (mate j) * (sgn j * S j)
/-- The mean square, -/
def meanR (x : Fin 64 → ℝ) : ℝ := (∑ j, x j * x j) * (1 / 64) + eps
/-- one over its root, -/
def rateR (x : Fin 64 → ℝ) : ℝ := (Real.sqrt (meanR x))⁻¹
/-- and the norm's gradient, where `u` is what flows back times the gain. -/
def dR (u x : Fin 64 → ℝ) (j : Fin 64) : ℝ := rateR x * (u j - x j * rateR x * (rateR x * (∑ i, u i * x i) * (1 / 64)))

theorem meanR_pos (x : Fin 64 → ℝ) : 0 < meanR x :=
  add_pos_of_nonneg_of_pos (mul_nonneg (Finset.sum_nonneg fun j _ => mul_self_nonneg _) (by norm_num)) eps_pos

theorem rsqrt_mean (x : Fin 64 → ℝ) : Ideal.rsqrt ((meanR x : ℝ) : EReal) = ((rateR x : ℝ) : EReal) := by
  show (if meanR x < 0 then (⊥ : EReal) else if meanR x = 0 then ⊤ else ((Real.sqrt (meanR x))⁻¹ : ℝ)) = _
  rw [if_neg (not_lt.2 (meanR_pos x).le), if_neg (meanR_pos x).ne']
  rfl

/-! ## The stages at an index -/

section
variable (p : Fin 256) (l : Fin 128)

theorem rowSum_apply (x : FVec Ideal Blk .f32) : rowSum x (ix2 p 0) = ∑ l, x (ix2 p l) := by
  unfold rowSum
  pointwise

theorem rate_apply (x : FVec Ideal Blk .f32) :
    rate x (ix2 p 0) = Ideal.rsqrt ((∑ l, x (ix2 p l) * x (ix2 p l)) * Ideal.ofBits .f32 0x3C800000#32 + Ideal.ofBits .f32 0x358637BD#32) := by
  refine Eq.trans (b := Ideal.rsqrt (rowSum (mulf x x) (ix2 p 0) * Ideal.ofBits .f32 0x3C800000#32 + Ideal.ofBits .f32 0x358637BD#32)) rfl ?_
  rw [rowSum_apply]
  rfl

theorem weigh_apply (dn : FVec Ideal Blk .f32) (g : Vec Ideal Row .f32) : weigh dn g (ix2 p l) = dn (ix2 p l) * g (ix2 0 l) := by
  unfold weigh
  pointwise

theorem along_apply (x : FVec Ideal Col .f32) (h) : broadcastTo Blk x h (ix2 p l) = x (ix2 p 0) := by
  pointwise

theorem dIn_apply (dn x : FVec Ideal Blk .f32) (g : Vec Ideal Row .f32) : dIn dn x g (ix2 p l) =
    rate x (ix2 p 0) * (dn (ix2 p l) * g (ix2 0 l) - x (ix2 p l) * rate x (ix2 p 0) *
      (rate x (ix2 p 0) * (∑ l, dn (ix2 p l) * g (ix2 0 l) * x (ix2 p l)) * Ideal.ofBits .f32 0x3C800000#32)) := by
  refine Eq.trans (b := broadcastTo Blk (rate x) (by decide) (ix2 p l) * (weigh dn g (ix2 p l) - x (ix2 p l) * broadcastTo Blk (rate x) (by decide) (ix2 p l) *
    broadcastTo Blk (mulf (mulf (rate x) (rowSum (mulf (weigh dn g) x))) (broadcast Col (Scalar.ofBits .f32 0x3C800000#32))) (by decide) (ix2 p l))) rfl ?_
  rw [along_apply, along_apply, weigh_apply]
  refine congrArg (fun z => rate x (ix2 p 0) * (dn (ix2 p l) * g (ix2 0 l) - x (ix2 p l) * rate x (ix2 p 0) * z)) ?_
  refine Eq.trans (b := rate x (ix2 p 0) * rowSum (mulf (weigh dn g) x) (ix2 p 0) * Ideal.ofBits .f32 0x3C800000#32) rfl ?_
  rw [rowSum_apply]
  refine congrArg (fun z => rate x (ix2 p 0) * z * Ideal.ofBits .f32 0x3C800000#32) (Finset.sum_congr rfl fun l _ => ?_)
  exact congrArg (· * x (ix2 p l)) (weigh_apply p l dn g)

theorem turn_apply (x : FVec Ideal Blk .f32) : turn x (ix2 p l) = x (ix2 p (half l)) := by
  unfold turn half
  pointwise
  congr 1

theorem back_apply (d cs sn : FVec Ideal Blk .f32) :
    back d cs sn (ix2 p l) = d (ix2 p l) * cs (ix2 p l) - d (ix2 p (half l)) * sn (ix2 p l) :=
  congrArg (fun z => d (ix2 p l) * cs (ix2 p l) - z * sn (ix2 p l)) (turn_apply p l d)
end

/-- Token row `k` of a block's four, and the token column `j`. -/
def rowAt (k : Fin 4) (j : Fin 64) : Fin 256 := ⟨64 * k.val + j.val, by omega⟩

theorem part_apply (r : Vec Ideal TabR₃ .f32) (c : Vec Ideal TabC .f32) (k : Fin 4) (j : Fin 64) (l : Fin 128) :
    tabPart r c k (ix2 j l) = r (ix3 0 k l) + c (ix2 j l) := by
  unfold tabPart
  pointwise

theorem table_apply (r : Vec Ideal TabR₃ .f32) (c : Vec Ideal TabC .f32) (k : Fin 4) (j : Fin 64) (l : Fin 128) :
    table r c (ix2 (rowAt k j) l) = r (ix3 0 k l) + c (ix2 j l) := by
  rw [← part_apply]
  unfold table rowAt
  generalize tabPart r c = T
  have hj := j.isLt
  fin_cases k
  all_goals pointwise
  all_goals repeat first
    | exact (dif_pos (by omega)).trans (congrArg (fun i => T _ (ix2 i l)) (Fin.ext (by simp only; omega)))
    | refine (dif_neg (by omega)).trans ?_
    | exact congrArg (fun i => T _ (ix2 i l)) (Fin.ext (by simp only; omega))

theorem headOf_apply (d : Vec Ideal Heads .f32) (h : Fin 8) (p : Fin 256) (l : Fin 128) : headOf d h (ix2 p l) = d (ix3 h p l) := by
  unfold headOf
  pointwise

theorem groupSum_apply (d : Vec Ideal Heads .f32) (g : Fin 2) (p : Fin 256) (l : Fin 128) :
    groupSum d g (ix2 p l) = d (ix3 (headAt g 0) p l) + d (ix3 (headAt g 1) p l) + d (ix3 (headAt g 2) p l) + d (ix3 (headAt g 3) p l) := by
  refine Eq.trans (b := headOf d ⟨4 * g.val, by omega⟩ (ix2 p l) + headOf d ⟨4 * g.val + 1, by omega⟩ (ix2 p l) +
    headOf d ⟨4 * g.val + 2, by omega⟩ (ix2 p l) + headOf d ⟨4 * g.val + 3, by omega⟩ (ix2 p l)) rfl ?_
  simp only [headOf_apply]
  fin_cases g <;> rfl

theorem preQ_apply (x : Vec Ideal Pre .f32) (h : Fin 8) (p : Fin 256) (l : Fin 128) :
    preQ x h (ix2 p l) = x (ix2 p ⟨128 * h.val + l.val, by omega⟩) := by
  unfold preQ held
  pointwise

theorem preK_apply (x : Vec Ideal Pre .f32) (g : Fin 2) (p : Fin 256) (l : Fin 128) :
    preK x g (ix2 p l) = x (ix2 p ⟨1024 + 128 * g.val + l.val, by omega⟩) := by
  unfold preK held
  pointwise

/-! ## A head's rows in finite numbers -/

section
variable {d cs sn x : FVec Ideal Blk .f32} {g : Vec Ideal Row .f32} {p : Fin 256} {D C S X G : Fin 64 → ℝ} {σ : ℝ}

/-- A row's numbers at the features' lanes, zero at the others. -/
structure Reads (x : FVec Ideal Blk .f32) (p : Fin 256) (X : Fin 64 → ℝ) : Prop where
  on : ∀ j, x (ix2 p (laneA j)) = ((X j : ℝ) : EReal)
  off : ∀ l, l ∉ Set.range laneA → x (ix2 p l) = 0

theorem Reads.rate (hx : Reads x p X) : rate x (ix2 p 0) = ((rateR X : ℝ) : EReal) := by
  rw [rate_apply, sum_lanes laneA laneA_inj (fun j => ((X j * X j : ℝ) : EReal)) (fun l => x (ix2 p l) * x (ix2 p l))
    (fun j => by simp only [hx.on, EReal.coe_mul]) (fun l hl => by simp only [hx.off l hl, mul_zero])]
  rw [coe_sum, ofBits_64th, ofBits_eps, ← EReal.coe_mul, ← EReal.coe_add]
  exact rsqrt_mean X

theorem back_on (hσ : σ ≠ 0) (hd : Reads d p fun j => D j / σ) (hc : ∀ j, cs (ix2 p (laneA j)) = ((C j * σ : ℝ) : EReal))
    (hs : ∀ j, sn (ix2 p (laneA j)) = ((sgn j * S j * σ : ℝ) : EReal)) : Reads (back d cs sn) p (bR D C S) where
  on j := by
    rw [back_apply, half_lane, hd.on, hd.on, hc, hs, ← EReal.coe_mul, ← EReal.coe_mul, ← EReal.coe_sub]
    refine congrArg _ ?_
    unfold bR
    field_simp
  off l hl := by
    rw [back_apply, hd.off l hl, hd.off _ (half_off l hl)]
    simp

theorem head_real (hb : Reads d p D) (hx : Reads x p X) (hg : ∀ j, g (ix2 0 (laneA j)) = ((G j : ℝ) : EReal)) (j : Fin 64) :
    dIn d x g (ix2 p (laneA j)) = ((dR (fun i => D i * G i) X j : ℝ) : EReal) := by
  rw [dIn_apply, hx.rate, hb.on, hx.on, hg, sum_lanes laneA laneA_inj (fun j => ((D j * G j * X j : ℝ) : EReal))
    (fun l => d (ix2 p l) * g (ix2 0 l) * x (ix2 p l)) (fun j => by simp only [hb.on, hx.on, hg, EReal.coe_mul])
    (fun l hl => by simp only [hb.off l hl, zero_mul])]
  rw [coe_sum, ofBits_64th]
  simp only [← EReal.coe_mul, ← EReal.coe_sub]
  rfl
end

end Cert.NormGrad

end
-- ==== Proof.GainTile.lean ====
/- The gains' gradient of one tile's rows: as it is written over any floats, and at a feature over the extended reals. -/
module

public import proofs.«01_k».proof.Proof.NormReal

@[expose] public section

set_option maxRecDepth 16384

noncomputable section

namespace Cert.NormGrad
open Idealize.ShloMosaic Idealize.ShloMosaic.TcCoe Idealize.ShloMosaic.Tactic
open Cert.AttnGrad (laneA)
open scoped BigOperators

/-- A number for every lane, and eight rows of them. -/
abbrev Lane : Shape := ⟨1, ![128]⟩
abbrev Row₈ : Shape := ⟨2, ![8, 128]⟩
/-- The small gradients, a row to a gain. -/
abbrev Small : Shape := ⟨2, ![16, 1024]⟩

section
variable {F : FTy → Type} [FloatOps F]

/-- The gain's gradient of one head's rows. -/
def gain (dn x : FVec F Blk .f32) : FVec F Row .f32 :=
  shapeCast Row (multiReduction .add [0] Lane (mulf dn (hat x)) 0x00000000#32 (by decide) (.inl rfl) rfl) (by decide)

/-- The heads' added up. -/
def added : (n : ℕ) → (Fin n → FVec F Row .f32) → FVec F Row .f32
  | 0, _ => broadcast Row (Scalar.ofBits .f32 0x00000000#32)
  | n + 1, s => addf (added n fun i => s i.castSucc) (s (Fin.last n))

/-- The lanes from `a` on, `b` exclusive, taken from `v`, the others from `o`. -/
def within (a b : BitVec 32) (v o : FVec F Row₈ .f32) : FVec F Row₈ .f32 :=
  select (andi (cmpi .sge (iota .tc Row₈ 32 [1] (by decide)) (broadcast Row₈ a)) (cmpi .slt (iota .tc Row₈ 32 [1] (by decide)) (broadcast Row₈ b))) v o

/-- The lanes in the features' order. -/
def inOrder (v : FVec F Row .f32) : FVec F Row .f32 :=
  have v8 : FVec F Row₈ .f32 := broadcastTo Row₈ (shapeCast Row v (by decide)) (by decide)
  extractStridedSlice Row ![0, 0]
    (within 48#32 64#32 (dynamicRotate 1 96#32 none v8 (by decide)) <| within 16#32 32#32 (dynamicRotate 1 80#32 none v8 (by decide)) <|
      within 32#32 48#32 (dynamicRotate 1 16#32 none v8 (by decide)) <| within 0#32 16#32 v8 (broadcast Row₈ (Scalar.ofBits .f32 0x00000000#32)))
    (by decide)

/-- A gain's gradient with some rows' more. -/
def gainNext (prev : Vec F Row .f32) (v : FVec F Row .f32) : FVec F Row .f32 := addf (shapeCast Row prev (by decide)) (inOrder v)

/-- The gains' lanes: of the queries and of the keys. -/
def smallQ (x : Vec F Small .f32) : Vec F Row .f32 := View.ld x (Rect.unit (s := Small) ![1, 0] ![1, 128] (by decide))
def smallK (x : Vec F Small .f32) : Vec F Row .f32 := View.ld x (Rect.unit (s := Small) ![2, 0] ![1, 128] (by decide))
/-- They start at zero. -/
def smallNone : Vec F Row .f32 := broadcast Row (Scalar.ofBits .f32 0x00000000#32)

variable (d : Vec F Heads .f32) (pre : Vec F Pre .f32) (r r' : Vec F TabR₃ .f32) (c c' : Vec F TabC .f32)
/-- The sums of a tile's rows. -/
def gainQ : FVec F Row .f32 := added 8 fun h => gain (backQ d r r' c c' h) (preQ pre h)
def gainK : FVec F Row .f32 := added 2 fun h => gain (backK d r r' c c' h) (preK pre h)
end

/-! ## At a feature -/

theorem gain_apply (dn x : FVec Ideal Blk .f32) (l : Fin 128) : gain dn x (ix2 0 l) = ∑ p, dn (ix2 p l) * (x (ix2 p l) * rate x (ix2 p 0)) := by
  have e : ∀ p, hat x (ix2 p l) = x (ix2 p l) * rate x (ix2 p 0) := fun p => congrArg (x (ix2 p l) * ·) (along_apply p l (rate x) _)
  simp only [← e]
  unfold gain
  generalize hat x = y
  pointwise

theorem added_apply (l : Fin 128) : ∀ (n : ℕ) (s : Fin n → FVec Ideal Row .f32), added n s (ix2 0 l) = ∑ i, s i (ix2 0 l)
  | 0, _ => Ideal.ofBits_zero_f32
  | n + 1, s => by
    rw [Fin.sum_univ_castSucc, ← added_apply l n fun i => s i.castSucc]
    rfl

/-- A feature's lane in the row. -/
def featLane (j : Fin 64) : Fin 128 := ⟨j.val, by omega⟩

theorem inOrder_apply (v : FVec Ideal Row .f32) (j : Fin 64) : inOrder v (ix2 0 (featLane j)) = v (ix2 0 (laneA j)) := by
  unfold inOrder within featLane
  pointwise
  fin_cases j <;> rfl

end Cert.NormGrad

end
-- ==== Proof.GainBody.lean ====
/- What the body leaves in the two gains' lanes of the small gradients at a grid point. -/
module

public import proofs.«01_k».proof.Proof.PostFrame
public import proofs.«01_k».proof.Proof.GainTile
public import Idealize.ShloMosaic.Lib.Pipeline.ReadBack

@[expose] public section

set_option maxRecDepth 16384

noncomputable section

namespace Cert.NormGrad
open Idealize.ShloMosaic Idealize.ShloMosaic.TcCoe Idealize.ShloMosaic.Tactic Cert.KernelPIdeal Cert.KernelPIdeal.Gen
open Cert.AttnGrad (ld_canon_skip ld_canon_cons)

variable {F : FTy → Type} [FloatOps F]
variable (m : (ℓ : Loc nD τ sig) → Buf (Elt F) ℓ)

/-- The first point's, -/
theorem first_gains (c : Dev nD) (t : Fin cfg0.N) (h : t.val = 0) :
    smallQ (View.canon ((firstAt m c t h).1.small ++ [])) = gainNext smallNone
      (gainQ (inBlk m c 6 t) (inBlk m c 2 t) (inBlk m c 13 t) (inBlk m c 15 t) (inBlk m c 14 t) (inBlk m c 16 t))
    ∧ smallK (View.canon ((firstAt m c t h).1.small ++ [])) = gainNext smallNone
      (gainK (inBlk m c 7 t) (inBlk m c 2 t) (inBlk m c 17 t) (inBlk m c 19 t) (inBlk m c 18 t) (inBlk m c 20 t)) := by
  unfold firstAt runFirst smallQ smallK
  dsimp only
  sl_unfold_words
  simp (disch := decide) only [List.append_nil, ↓ ld_canon_skip, ↓ ld_canon_cons]
  simp (disch := decide) only [↓ View.readCov_skip, ↓ View.readCov_fill]
  frame_out
  exact ⟨rfl, rfl⟩

/-- and the later ones', added to what the point before left. -/
theorem later_gains (c : Dev nD) (t : Fin cfg0.N) (h : t.val ≠ 0) (xo : Vec F S16x1024 .f32) :
    smallQ (View.canon ((laterAt m c t h xo).1.small ++ [whole xo])) = gainNext (smallQ xo)
      (gainQ (inBlk m c 6 t) (inBlk m c 2 t) (inBlk m c 13 t) (inBlk m c 15 t) (inBlk m c 14 t) (inBlk m c 16 t))
    ∧ smallK (View.canon ((laterAt m c t h xo).1.small ++ [whole xo])) = gainNext (smallK xo)
      (gainK (inBlk m c 7 t) (inBlk m c 2 t) (inBlk m c 17 t) (inBlk m c 19 t) (inBlk m c 18 t) (inBlk m c 20 t)) := by
  unfold laterAt runLater smallQ smallK
  dsimp only
  sl_unfold_words
  simp (disch := decide) only [List.cons_append, List.nil_append, ↓ ld_canon_skip, ↓ ld_canon_cons, canon_whole]
  frame_out
  exact ⟨rfl, rfl⟩

end Cert.NormGrad

end
-- ==== Proof.PostBody.lean ====
/- What the body leaves in mixer A's columns of the projections' gradient at a grid point. -/
module

public import proofs.«01_k».proof.Proof.PostFrame
public import proofs.«01_k».proof.Proof.PostTile
public import Idealize.ShloMosaic.Lib.Pipeline.ReadBack

@[expose] public section

set_option maxRecDepth 16384

noncomputable section

namespace Cert.NormGrad
open Idealize.ShloMosaic Idealize.ShloMosaic.TcCoe Idealize.ShloMosaic.Tactic Cert.KernelPIdeal Cert.KernelPIdeal.Gen
open Cert.AttnGrad (ld_canon_skip ld_canon_cons)

variable {F : FTy → Type} [FloatOps F]
variable (m : (ℓ : Loc nD τ sig) → Buf (Elt F) ℓ)

/-- The queries' columns of the projections' gradient after the body, at the first point, -/
theorem first_q (c : Dev nD) (t : Fin cfg0.N) (h : t.val = 0) :
    IsQ (View.canon (firstAt m c t h).1.dproj)
      (dQ (inBlk m c 6 t) (inBlk m c 2 t) (inBlk m c 13 t) (inBlk m c 15 t) (inBlk m c 14 t) (inBlk m c 16 t) (inBlk m c 33 t)) := by
  unfold IsQ firstAt runFirst
  dsimp only
  sl_unfold_words
  simp (disch := decide) only [↓ ld_canon_skip, ↓ ld_canon_cons]
  frame_out
  exact ⟨rfl, rfl, rfl, rfl, rfl, rfl, rfl, rfl⟩

/-- and at the later ones; -/
theorem later_q (c : Dev nD) (t : Fin cfg0.N) (h : t.val ≠ 0) (xo : Vec F S16x1024 .f32) :
    IsQ (View.canon (laterAt m c t h xo).1.dproj)
      (dQ (inBlk m c 6 t) (inBlk m c 2 t) (inBlk m c 13 t) (inBlk m c 15 t) (inBlk m c 14 t) (inBlk m c 16 t) (inBlk m c 33 t)) := by
  unfold IsQ laterAt runLater
  dsimp only
  sl_unfold_words
  simp (disch := decide) only [↓ ld_canon_skip, ↓ ld_canon_cons]
  frame_out
  exact ⟨rfl, rfl, rfl, rfl, rfl, rfl, rfl, rfl⟩

/-- the keys' and values' columns at the first point, -/
theorem first_kv (c : Dev nD) (t : Fin cfg0.N) (h : t.val = 0) :
    IsKV (View.canon (firstAt m c t h).1.dproj)
      (dK (inBlk m c 7 t) (inBlk m c 2 t) (inBlk m c 17 t) (inBlk m c 19 t) (inBlk m c 18 t) (inBlk m c 20 t) (inBlk m c 34 t)) (dV (inBlk m c 8 t)) := by
  unfold IsKV firstAt runFirst
  dsimp only
  sl_unfold_words
  simp (disch := decide) only [↓ ld_canon_skip, ↓ ld_canon_cons]
  frame_out
  exact ⟨rfl, rfl, rfl, rfl⟩

/-- and at the later ones. -/
theorem later_kv (c : Dev nD) (t : Fin cfg0.N) (h : t.val ≠ 0) (xo : Vec F S16x1024 .f32) :
    IsKV (View.canon (laterAt m c t h xo).1.dproj)
      (dK (inBlk m c 7 t) (inBlk m c 2 t) (inBlk m c 17 t) (inBlk m c 19 t) (inBlk m c 18 t) (inBlk m c 20 t) (inBlk m c 34 t)) (dV (inBlk m c 8 t)) := by
  unfold IsKV laterAt runLater
  dsimp only
  sl_unfold_words
  simp (disch := decide) only [↓ ld_canon_skip, ↓ ld_canon_cons]
  frame_out
  exact ⟨rfl, rfl, rfl, rfl⟩

end Cert.NormGrad

end
-- ==== Proof.PostArr.lean ====
/- The projections' gradient after the grid: a head's columns, block by block; and what the operands' blocks hold of their arrays. -/
module

public import proofs.«01_k».proof.Proof.PostBody
public import proofs.«01_k».proof.Proof.NormReal
public import proofs.«01_k».proof.Proof.MidOut

@[expose] public section

set_option maxRecDepth 16384

noncomputable section

namespace Cert.NormGrad
open Idealize.ShloMosaic Idealize.ShloMosaic.TcCoe Idealize.ShloMosaic.Tactic Cert.KernelPIdeal Cert.KernelPIdeal.Gen

/-! ## Tokens and grid points -/

/-- Row `r` of grid point `t`. -/
def rowOf (t : Fin cfg0.N) (r : Fin 256) : Fin 8192 :=
  ⟨t.val * 256 + r.val, by have : t.val < 32 := lt_of_lt_of_eq t.isLt N_0; omega⟩
/-- The grid point of a row, and its row there. -/
def pointOf (R : Fin 8192) : Fin cfg0.N := ⟨R.val / 256, lt_of_lt_of_eq (by omega) N_0.symm⟩
def inRow (R : Fin 8192) : Fin 256 := ⟨R.val % 256, Nat.mod_lt _ (by decide)⟩

theorem rowOf_point (R : Fin 8192) : rowOf (pointOf R) (inRow R) = R :=
  Fin.ext (by unfold rowOf pointOf inRow; simp only; omega)
theorem pointOf_row (t : Fin cfg0.N) (r : Fin 256) : pointOf (rowOf t r) = t :=
  Fin.ext (by unfold rowOf pointOf; simp only; omega)
theorem inRow_row (t : Fin cfg0.N) (r : Fin 256) : inRow (rowOf t r) = r :=
  Fin.ext (by unfold rowOf inRow; simp only; omega)

/-- The windows' block indices. -/
theorem idx : ∀ t : Fin cfg0.N, win0_2.index t = ![t.val, 0] ∧ win0_6.index t = ![0, t.val, 0] ∧ win0_7.index t = ![0, t.val, 0] ∧
    win0_8.index t = ![0, t.val, 0] ∧ win0_13.index t = ![t.val, 0, 0] ∧ win0_14.index t = ![0, 0] ∧ win0_15.index t = ![t.val, 0, 0] ∧
    win0_16.index t = ![0, 0] ∧ win0_17.index t = ![t.val, 0, 0] ∧ win0_18.index t = ![0, 0] ∧ win0_19.index t = ![t.val, 0, 0] ∧
    win0_20.index t = ![0, 0] ∧ win0_33.index t = ![0, 0] ∧ win0_34.index t = ![0, 0] ∧ win0_40.index t = ![t.val, 0] :=
  (by decide +kernel : ∀ t : Fin grid0.N, _)

/-! ## A window's block, read off any array -/

section
variable (t : Fin cfg0.N) (r : Fin 256) (l : Fin 128) (h : Fin 8) (k : Fin 4) (j : Fin 64)

/-- A point's place among the tables' blocks. -/
def tabAt : Fin 32 := ⟨t.val, lt_of_lt_of_eq t.isLt N_0⟩

theorem read_pre (X : Vec Ideal S8192x1920 .f32) (d : Fin 1920) : ((cfg0.win 2).blk t).view.read (Elt Ideal) X (ix2 r d) = X (ix2 (rowOf t r) d) := by
  unfold rowOf
  blk_ext [idx t]
theorem read_6 (X : Vec Ideal S8x8192x128 .f32) : ((cfg0.win 6).blk t).view.read (Elt Ideal) X (ix3 h r l) = X (ix3 h (rowOf t r) l) := by
  unfold rowOf
  blk_ext [idx t]
theorem read_7 (X : Vec Ideal S8x8192x128 .f32) : ((cfg0.win 7).blk t).view.read (Elt Ideal) X (ix3 h r l) = X (ix3 h (rowOf t r) l) := by
  unfold rowOf
  blk_ext [idx t]
theorem read_8 (X : Vec Ideal S8x8192x128 .f32) : ((cfg0.win 8).blk t).view.read (Elt Ideal) X (ix3 h r l) = X (ix3 h (rowOf t r) l) := by
  unfold rowOf
  blk_ext [idx t]
theorem read_13 (X : Vec Ideal S32x4x128 .f32) : ((cfg0.win 13).blk t).view.read (Elt Ideal) X (ix3 0 k l) = X (ix3 (tabAt t) k l) := by
  unfold tabAt
  blk_ext [idx t]
theorem read_15 (X : Vec Ideal S32x4x128 .f32) : ((cfg0.win 15).blk t).view.read (Elt Ideal) X (ix3 0 k l) = X (ix3 (tabAt t) k l) := by
  unfold tabAt
  blk_ext [idx t]
theorem read_17 (X : Vec Ideal S32x4x128 .f32) : ((cfg0.win 17).blk t).view.read (Elt Ideal) X (ix3 0 k l) = X (ix3 (tabAt t) k l) := by
  unfold tabAt
  blk_ext [idx t]
theorem read_19 (X : Vec Ideal S32x4x128 .f32) : ((cfg0.win 19).blk t).view.read (Elt Ideal) X (ix3 0 k l) = X (ix3 (tabAt t) k l) := by
  unfold tabAt
  blk_ext [idx t]
theorem read_14 (X : Vec Ideal S64x128 .f32) : ((cfg0.win 14).blk t).view.read (Elt Ideal) X (ix2 j l) = X (ix2 j l) := by blk_ext [idx t]
theorem read_16 (X : Vec Ideal S64x128 .f32) : ((cfg0.win 16).blk t).view.read (Elt Ideal) X (ix2 j l) = X (ix2 j l) := by blk_ext [idx t]
theorem read_18 (X : Vec Ideal S64x128 .f32) : ((cfg0.win 18).blk t).view.read (Elt Ideal) X (ix2 j l) = X (ix2 j l) := by blk_ext [idx t]
theorem read_20 (X : Vec Ideal S64x128 .f32) : ((cfg0.win 20).blk t).view.read (Elt Ideal) X (ix2 j l) = X (ix2 j l) := by blk_ext [idx t]
theorem read_33 (X : Vec Ideal S1x128 .f32) : ((cfg0.win 33).blk t).view.read (Elt Ideal) X (ix2 0 l) = X (ix2 0 l) := by blk_ext [idx t]
theorem read_34 (X : Vec Ideal S1x128 .f32) : ((cfg0.win 34).blk t).view.read (Elt Ideal) X (ix2 0 l) = X (ix2 0 l) := by blk_ext [idx t]
theorem read_proj (X : Vec Ideal S8192x3328 .bf16) (d : Fin 3328) :
    ((cfg0.win 40).blk t).view.read (Elt Ideal) X (ix2 r d) = X (ix2 (rowOf t r) d) := by
  unfold rowOf
  blk_ext [idx t]
end

variable (m : (ℓ : Loc nD τ sig) → Buf (Elt Ideal) ℓ) (c : Dev nD)

/-- A window's block is never cut, -/
theorem reach (w : Fin cfg0.W) (t : Fin cfg0.N) (j : (cfg0.win w).block.Idx) (a) : (j a).val < (cfg0.win w).xsize (cfg0.grid.coords t) a := by
  have := (j a).isLt
  unfold Pipeline.Window.xsize
  rw [clip_none w (cfg0.grid.coords t) a]
  exact this

/-- so the body finds it as its array has it. -/
theorem inBlk_at (w : Fin cfg0.W) (t : Fin cfg0.N) (j : (cfg0.win w).block.Idx) :
    inBlk m c w t j = iblk m c w t fun a => ⟨(j a).val, reach w t j a⟩ := by
  unfold inBlk Pipeline.Window.fill
  exact dif_pos (((cfg0.win w).moved_iff _ j).mpr fun a => reach w t j a)

section
variable (t : Fin cfg0.N) (r : Fin 256) (l : Fin 128) (h : Fin 8) (k : Fin 4) (j : Fin 64)

theorem in_pre (d : Fin 1920) : inBlk m c 2 t (ix2 r d) = (V m c main_v186 : Vec Ideal S8192x1920 .f32) (ix2 (rowOf t r) d) :=
  (inBlk_at m c 2 t (ix2 r d)).trans (read_pre t r _ d)
theorem in_heads : inBlk m c 6 t (ix3 h r l) = (V m c main_v201 : Vec Ideal S8x8192x128 .f32) (ix3 h (rowOf t r) l)
    ∧ inBlk m c 7 t (ix3 h r l) = (V m c main_v216 : Vec Ideal S8x8192x128 .f32) (ix3 h (rowOf t r) l)
    ∧ inBlk m c 8 t (ix3 h r l) = (V m c main_v223 : Vec Ideal S8x8192x128 .f32) (ix3 h (rowOf t r) l) :=
  ⟨(inBlk_at m c 6 t (ix3 h r l)).trans (read_6 t r l h _), (inBlk_at m c 7 t (ix3 h r l)).trans (read_7 t r l h _),
    (inBlk_at m c 8 t (ix3 h r l)).trans (read_8 t r l h _)⟩
theorem in_rows : inBlk m c 13 t (ix3 0 k l) = (V m c main_v105 : Vec Ideal S32x4x128 .f32) (ix3 (tabAt t) k l)
    ∧ inBlk m c 15 t (ix3 0 k l) = (V m c main_v109 : Vec Ideal S32x4x128 .f32) (ix3 (tabAt t) k l)
    ∧ inBlk m c 17 t (ix3 0 k l) = (V m c main_v113 : Vec Ideal S32x4x128 .f32) (ix3 (tabAt t) k l)
    ∧ inBlk m c 19 t (ix3 0 k l) = (V m c main_v117 : Vec Ideal S32x4x128 .f32) (ix3 (tabAt t) k l) :=
  ⟨(inBlk_at m c 13 t (ix3 0 k l)).trans (read_13 t l k _), (inBlk_at m c 15 t (ix3 0 k l)).trans (read_15 t l k _),
    (inBlk_at m c 17 t (ix3 0 k l)).trans (read_17 t l k _), (inBlk_at m c 19 t (ix3 0 k l)).trans (read_19 t l k _)⟩
theorem in_cols : inBlk m c 14 t (ix2 j l) = (V m c main_v107 : Vec Ideal S64x128 .f32) (ix2 j l)
    ∧ inBlk m c 16 t (ix2 j l) = (V m c main_v111 : Vec Ideal S64x128 .f32) (ix2 j l)
    ∧ inBlk m c 18 t (ix2 j l) = (V m c main_v115 : Vec Ideal S64x128 .f32) (ix2 j l)
    ∧ inBlk m c 20 t (ix2 j l) = (V m c main_v119 : Vec Ideal S64x128 .f32) (ix2 j l) :=
  ⟨(inBlk_at m c 14 t (ix2 j l)).trans (read_14 t l j _), (inBlk_at m c 16 t (ix2 j l)).trans (read_16 t l j _),
    (inBlk_at m c 18 t (ix2 j l)).trans (read_18 t l j _), (inBlk_at m c 20 t (ix2 j l)).trans (read_20 t l j _)⟩
theorem in_gains : inBlk m c 33 t (ix2 0 l) = (V m c main_v147 : Vec Ideal S1x128 .f32) (ix2 0 l)
    ∧ inBlk m c 34 t (ix2 0 l) = (V m c main_v159 : Vec Ideal S1x128 .f32) (ix2 0 l) :=
  ⟨(inBlk_at m c 33 t (ix2 0 l)).trans (read_33 t l _), (inBlk_at m c 34 t (ix2 0 l)).trans (read_34 t l _)⟩
end

/-! ## A head's columns -/

/-- Column `l` of the `k`-th 128 columns. -/
def projCol (k : Fin 26) (l : Fin 128) : Fin 3328 := ⟨128 * k.val + l.val, by omega⟩

theorem ld_at (x : Vec Ideal Proj .bf16) (n : ℕ) (hn : n + 128 ≤ 3328) (p : Fin 256) (l : Fin 128)
    (hb : ∀ a, (![0, n] : Fin 2 → ℕ) a + (![256, 128] : Fin 2 → ℕ) a ≤ Proj.size a) :
    View.ld x (Rect.unit (s := Proj) ![0, n] ![256, 128] hb) (ix2 p l) = x (ix2 p ⟨n + l.val, by omega⟩) := by
  pointwise

theorem IsQ.at {x : Vec Ideal Proj .bf16} {a : Fin 8 → FVec Ideal Blk .bf16} (H : IsQ x a) (h : Fin 8) (p : Fin 256) (l : Fin 128) :
    x (ix2 p (projCol ⟨h.val, by omega⟩ l)) = a h (ix2 p l) := by
  obtain ⟨h0, h1, h2, h3, h4, h5, h6, h7⟩ := H
  fin_cases h
  · exact (ld_at x 0 (by decide) p l _).symm.trans (congrFun h0 _)
  · exact (ld_at x 128 (by decide) p l _).symm.trans (congrFun h1 _)
  · exact (ld_at x 256 (by decide) p l _).symm.trans (congrFun h2 _)
  · exact (ld_at x 384 (by decide) p l _).symm.trans (congrFun h3 _)
  · exact (ld_at x 512 (by decide) p l _).symm.trans (congrFun h4 _)
  · exact (ld_at x 640 (by decide) p l _).symm.trans (congrFun h5 _)
  · exact (ld_at x 768 (by decide) p l _).symm.trans (congrFun h6 _)
  · exact (ld_at x 896 (by decide) p l _).symm.trans (congrFun h7 _)

theorem IsKV.atK {x : Vec Ideal Proj .bf16} {a b : Fin 2 → FVec Ideal Blk .bf16} (H : IsKV x a b) (g : Fin 2) (p : Fin 256) (l : Fin 128) :
    x (ix2 p (projCol ⟨8 + g.val, by omega⟩ l)) = a g (ix2 p l) := by
  obtain ⟨h0, h1, -, -⟩ := H
  fin_cases g
  · exact (ld_at x 1024 (by decide) p l _).symm.trans (congrFun h0 _)
  · exact (ld_at x 1152 (by decide) p l _).symm.trans (congrFun h1 _)

theorem IsKV.atV {x : Vec Ideal Proj .bf16} {a b : Fin 2 → FVec Ideal Blk .bf16} (H : IsKV x a b) (g : Fin 2) (p : Fin 256) (l : Fin 128) :
    x (ix2 p (projCol ⟨10 + g.val, by omega⟩ l)) = b g (ix2 p l) := by
  obtain ⟨-, -, h0, h1⟩ := H
  fin_cases g
  · exact (ld_at x 1280 (by decide) p l _).symm.trans (congrFun h0 _)
  · exact (ld_at x 1408 (by decide) p l _).symm.trans (congrFun h1 _)

theorem left_dproj (L : Stores Ideal) (b : List (View.Piece (Elt Ideal) S16x1024 .f32)) : (L.left b).dproj = View.canon L.dproj := rfl

/-- The buffer a point leaves, of the first point and of the later ones. -/
theorem left_q (t : Fin cfg0.N) : IsQ (left m c t.val t.isLt).dproj
    (dQ (inBlk m c 6 t) (inBlk m c 2 t) (inBlk m c 13 t) (inBlk m c 15 t) (inBlk m c 14 t) (inBlk m c 16 t) (inBlk m c 33 t)) := by
  by_cases h : t.val = 0
  · rw [left_first m c t h, left_dproj]
    exact first_q m c t h
  · rw [left_later m c t h, left_dproj]
    exact later_q m c t h (smallBefore m c t)

theorem left_kv (t : Fin cfg0.N) : IsKV (left m c t.val t.isLt).dproj
    (dK (inBlk m c 7 t) (inBlk m c 2 t) (inBlk m c 17 t) (inBlk m c 19 t) (inBlk m c 18 t) (inBlk m c 20 t) (inBlk m c 34 t)) (dV (inBlk m c 8 t)) := by
  by_cases h : t.val = 0
  · rw [left_first m c t h, left_dproj]
    exact first_kv m c t h
  · rw [left_later m c t h, left_dproj]
    exact later_kv m c t h (smallBefore m c t)

/-! ## The array after the grid -/

/-- The projections' gradient, every row as its point left it. -/
def projArr : Vec Ideal S8192x3328 .bf16 := fun i =>
  (left m c (pointOf (i 0)).val (pointOf (i 0)).isLt).dproj (ix2 (inRow (i 0)) (i 1))

theorem cut_proj (t : Fin cfg0.N) (x : Vec Ideal Proj .bf16) (X : Vec Ideal S8192x3328 .bf16)
    (h : ∀ r d, x (ix2 r d) = ((cfg0.win 40).blk t).view.read (Elt Ideal) X (ix2 r d))
    (y : ((cfg0.win 40).xblock (cfg0.grid.coords t)).Idx) : x y = X ((win0_40.blk t).view.emb y) :=
  congrFun (Cert.GateGrad.ext2 (y := ((cfg0.win 40).blk t).view.read (Elt Ideal) X) h) y

theorem final_proj : (dats m 0 c).arrAt 40 (cfgs 0).N = projArr m c := by
  refine (dats m 0 c).arrAt_eq_of_covers 40 _ (by decide +kernel) fun t hf y => ?_
  blk_simp
  rw [after_dproj]
  refine cut_proj t _ _ (fun r d => Eq.trans ?_ (read_proj t r (projArr m c) d).symm) y
  unfold projArr
  exact (congrArg₂ (fun (t : Fin cfg0.N) r => (left m c t.val t.isLt).dproj (ix2 r d)) (pointOf_row t r) (inRow_row t r)).symm

theorem proj_q (R : Fin 8192) (h : Fin 8) (l : Fin 128) : projArr m c (ix2 R (projCol ⟨h.val, by omega⟩ l)) =
    dQ (inBlk m c 6 (pointOf R)) (inBlk m c 2 (pointOf R)) (inBlk m c 13 (pointOf R)) (inBlk m c 15 (pointOf R)) (inBlk m c 14 (pointOf R))
      (inBlk m c 16 (pointOf R)) (inBlk m c 33 (pointOf R)) h (ix2 (inRow R) l) :=
  (left_q m c (pointOf R)).at h (inRow R) l

theorem proj_k (R : Fin 8192) (g : Fin 2) (l : Fin 128) : projArr m c (ix2 R (projCol ⟨8 + g.val, by omega⟩ l)) =
    dK (inBlk m c 7 (pointOf R)) (inBlk m c 2 (pointOf R)) (inBlk m c 17 (pointOf R)) (inBlk m c 19 (pointOf R)) (inBlk m c 18 (pointOf R))
      (inBlk m c 20 (pointOf R)) (inBlk m c 34 (pointOf R)) g (ix2 (inRow R) l) :=
  (left_kv m c (pointOf R)).atK g (inRow R) l

theorem proj_v (R : Fin 8192) (g : Fin 2) (l : Fin 128) :
    projArr m c (ix2 R (projCol ⟨10 + g.val, by omega⟩ l)) = dV (inBlk m c 8 (pointOf R)) g (ix2 (inRow R) l) :=
  (left_kv m c (pointOf R)).atV g (inRow R) l

end Cert.NormGrad

end
-- ==== Proof.PostHost.lean ====
/- What the lines before `_post` compute for mixer A: the rotation's tables, the gains, the projections' columns and the cotangents, as terms of the arguments. -/
module

public import proofs.«01_k».proof.Proof.Gen.KernelPIdeal.Frame
public import proofs.«01_k».proof.Proof.HostRealA

@[expose] public section

set_option maxRecDepth 16384

noncomputable section

namespace Cert.KernelPIdeal.Val
open Idealize.ShloMosaic Idealize.ShloMosaic.TcCoe Idealize.ShloMosaic.Tactic Cert.KernelPIdeal Cert.KernelPIdeal.Gen

/-! ## The terms -/

/-- The rotations' inverse wavelengths. -/
def waves : FVec Ideal S16 .f32 :=
  Host.divf (broadcastInDim S16 ![] bcast_S_S16 (constant S_ .f32 0x3F800000#32))
    (Host.powf (broadcastInDim S16 ![] bcast_S_S16 (constant S_ .f32 0x461C4000#32))
      (Host.divf (addf (broadcastInDim S16 ![] bcast_S_S16 (constant S_ .f32 0x00000000#32))
        (mulf (broadcastInDim S16 ![] bcast_S_S16 (constant S_ .f32 0x40000000#32)) (sitofp .f32 (iotaInDim S16 32 0))))
        (broadcastInDim S16 ![] bcast_S_S16 (constant S_ .f32 0x42000000#32))))

/-- The tokens' rows and columns. -/
def rowNums : FVec Ideal S128 .f32 := sitofp .f32 (iotaInDim S128 32 0)
def colNums : FVec Ideal S64 .f32 := sitofp .f32 (iotaInDim S64 32 0)

/-- The angles of the rows and of the columns. -/
def rowAngles (n : FVec Ideal S128 .f32) (w : FVec Ideal S16 .f32) : FVec Ideal S128x16 .f32 :=
  mulf (broadcastInDim S128x16 ![0, 1] bcast_S128x1_S128x16_0_1 (broadcastInDim S128x1 ![0] bcast_S128_S128x1_0 n))
    (broadcastInDim S128x16 ![0, 1] bcast_S1x16_S128x16_0_1 (broadcastInDim S1x16 ![1] bcast_S16_S1x16_1 w))
def colAngles (n : FVec Ideal S64 .f32) (w : FVec Ideal S16 .f32) : FVec Ideal S64x16 .f32 :=
  mulf (broadcastInDim S64x16 ![0, 1] bcast_S64x1_S64x16_0_1 (broadcastInDim S64x1 ![0] bcast_S64_S64x1_0 n))
    (broadcastInDim S64x16 ![0, 1] bcast_S1x16_S64x16_0_1 (broadcastInDim S1x16 ![1] bcast_S16_S1x16_1 w))

/-- A pair's numbers at its two lanes, of the rows and of the columns. -/
def rowLanes (x y : FVec Ideal S128x16 .f32) : FVec Ideal S128x128 .f32 :=
  let z : FVec Ideal S128x0 .f32 := broadcastInDim S128x0 ![] bcast_S_S128x0 (constant S_ .f32 0x00000000#32)
  let w : FVec Ideal S128x48 .f32 := broadcastInDim S128x48 ![] bcast_S_S128x48 (constant S_ .f32 0x00000000#32)
  concatenate S128x128 1 [⟨S128x0, z⟩, ⟨S128x16, x⟩, ⟨S128x48, w⟩, ⟨S128x16, y⟩, ⟨S128x48, w⟩]
    concatenates_S128x0_S128x16_S128x48_S128x16_S128x48_S128x128_d1
def colLanes (x y : FVec Ideal S64x16 .f32) : FVec Ideal S64x128 .f32 :=
  let z : FVec Ideal S64x16 .f32 := broadcastInDim S64x16 ![] bcast_S_S64x16 (constant S_ .f32 0x00000000#32)
  let w : FVec Ideal S64x48 .f32 := broadcastInDim S64x48 ![] bcast_S_S64x48 (constant S_ .f32 0x00000000#32)
  let u : FVec Ideal S64x32 .f32 := broadcastInDim S64x32 ![] bcast_S_S64x32 (constant S_ .f32 0x00000000#32)
  concatenate S64x128 1 [⟨S64x16, z⟩, ⟨S64x16, x⟩, ⟨S64x48, w⟩, ⟨S64x16, y⟩, ⟨S64x32, u⟩]
    concatenates_S64x16_S64x16_S64x48_S64x16_S64x32_S64x128_d1

/-- A table times a factor, the rows' in blocks of four. -/
def rowTable (b : BitVec 32) (x : FVec Ideal S128x128 .f32) : FVec Ideal S32x4x128 .f32 :=
  mulf (shapeCast S32x4x128 x shapeCasts_S128x128_S32x4x128) (broadcastInDim S32x4x128 ![] bcast_S_S32x4x128 (constant S_ .f32 b))
def colTable (b : BitVec 32) (x : FVec Ideal S64x128 .f32) : FVec Ideal S64x128 .f32 :=
  mulf x (broadcastInDim S64x128 ![] bcast_S_S64x128 (constant S_ .f32 b))

/-- A gain's numbers at the features' lanes. -/
def gainLanes (g : FVec Ideal S1x64 .f32) : FVec Ideal S1x128 .f32 :=
  let x : FVec Ideal S1x1x64 .f32 := shapeCast S1x1x64 g shapeCasts_S1x64_S1x1x64
  let z : FVec Ideal S1x1x0 .f32 := broadcastInDim S1x1x0 ![] bcast_S_S1x1x0 (constant S_ .f32 0x00000000#32)
  let w : FVec Ideal S1x1x32 .f32 := broadcastInDim S1x1x32 ![] bcast_S_S1x1x32 (constant S_ .f32 0x00000000#32)
  shapeCast S1x128 (concatenate S1x1x128 2
    [⟨S1x1x0, z⟩, ⟨S1x1x16, extractStridedSlice S1x1x16 ![0, 0, 0] x slices_S1x1x64_S1x1x16_0_0_0⟩,
      ⟨S1x1x0, z⟩, ⟨S1x1x16, extractStridedSlice S1x1x16 ![0, 0, 32] x slices_S1x1x64_S1x1x16_0_0_32⟩,
      ⟨S1x1x32, w⟩, ⟨S1x1x16, extractStridedSlice S1x1x16 ![0, 0, 16] x slices_S1x1x64_S1x1x16_0_0_16⟩,
      ⟨S1x1x0, z⟩, ⟨S1x1x16, extractStridedSlice S1x1x16 ![0, 0, 48] x slices_S1x1x64_S1x1x16_0_0_48⟩, ⟨S1x1x32, w⟩]
    concatenates_S1x1x0_S1x1x16_S1x1x0_S1x1x16_S1x1x32_S1x1x16_S1x1x0_S1x1x16_S1x1x32_S1x1x128_d2) shapeCasts_S1x1x128_S1x128

/-- The queries' columns at the features' lanes, and the keys'. -/
def queryCols (q : FVec Ideal S1x8192x512 .f32) : FVec Ideal S8192x1024 .f32 :=
  let x : FVec Ideal S8192x8x64 .f32 := shapeCast S8192x8x64 (shapeCast S8192x512 q shapeCasts_S1x8192x512_S8192x512) shapeCasts_S8192x512_S8192x8x64
  let z : FVec Ideal S8192x8x0 .f32 := broadcastInDim S8192x8x0 ![] bcast_S_S8192x8x0 (constant S_ .f32 0x00000000#32)
  let w : FVec Ideal S8192x8x32 .f32 := broadcastInDim S8192x8x32 ![] bcast_S_S8192x8x32 (constant S_ .f32 0x00000000#32)
  shapeCast S8192x1024 (concatenate S8192x8x128 2
    [⟨S8192x8x0, z⟩, ⟨S8192x8x16, extractStridedSlice S8192x8x16 ![0, 0, 0] x slices_S8192x8x64_S8192x8x16_0_0_0⟩,
      ⟨S8192x8x0, z⟩, ⟨S8192x8x16, extractStridedSlice S8192x8x16 ![0, 0, 32] x slices_S8192x8x64_S8192x8x16_0_0_32⟩,
      ⟨S8192x8x32, w⟩, ⟨S8192x8x16, extractStridedSlice S8192x8x16 ![0, 0, 16] x slices_S8192x8x64_S8192x8x16_0_0_16⟩,
      ⟨S8192x8x0, z⟩, ⟨S8192x8x16, extractStridedSlice S8192x8x16 ![0, 0, 48] x slices_S8192x8x64_S8192x8x16_0_0_48⟩, ⟨S8192x8x32, w⟩]
    concatenates_S8192x8x0_S8192x8x16_S8192x8x0_S8192x8x16_S8192x8x32_S8192x8x16_S8192x8x0_S8192x8x16_S8192x8x32_S8192x8x128_d2)
    shapeCasts_S8192x8x128_S8192x1024
def keyCols (k : FVec Ideal S1x8192x128 .f32) : FVec Ideal S8192x256 .f32 :=
  let x : FVec Ideal S8192x2x64 .f32 := shapeCast S8192x2x64 (shapeCast S8192x128 k shapeCasts_S1x8192x128_S8192x128) shapeCasts_S8192x128_S8192x2x64
  let z : FVec Ideal S8192x2x0 .f32 := broadcastInDim S8192x2x0 ![] bcast_S_S8192x2x0 (constant S_ .f32 0x00000000#32)
  let w : FVec Ideal S8192x2x32 .f32 := broadcastInDim S8192x2x32 ![] bcast_S_S8192x2x32 (constant S_ .f32 0x00000000#32)
  shapeCast S8192x256 (concatenate S8192x2x128 2
    [⟨S8192x2x0, z⟩, ⟨S8192x2x16, extractStridedSlice S8192x2x16 ![0, 0, 0] x slices_S8192x2x64_S8192x2x16_0_0_0⟩,
      ⟨S8192x2x0, z⟩, ⟨S8192x2x16, extractStridedSlice S8192x2x16 ![0, 0, 32] x slices_S8192x2x64_S8192x2x16_0_0_32⟩,
      ⟨S8192x2x32, w⟩, ⟨S8192x2x16, extractStridedSlice S8192x2x16 ![0, 0, 16] x slices_S8192x2x64_S8192x2x16_0_0_16⟩,
      ⟨S8192x2x0, z⟩, ⟨S8192x2x16, extractStridedSlice S8192x2x16 ![0, 0, 48] x slices_S8192x2x64_S8192x2x16_0_0_48⟩, ⟨S8192x2x32, w⟩]
    concatenates_S8192x2x0_S8192x2x16_S8192x2x0_S8192x2x16_S8192x2x32_S8192x2x16_S8192x2x0_S8192x2x16_S8192x2x32_S8192x2x128_d2)
    shapeCasts_S8192x2x128_S8192x256
/-- The columns the norms take. -/
def preCols (q : FVec Ideal S8192x1024 .f32) (k : FVec Ideal S8192x256 .f32) (l : FVec Ideal S8192x640 .f32) : FVec Ideal S8192x1920 .f32 :=
  concatenate S8192x1920 1 [⟨S8192x1024, q⟩, ⟨S8192x256, k⟩, ⟨S8192x640, l⟩] concatenates_S8192x1024_S8192x256_S8192x640_S8192x1920_d1

/-- A cotangent's heads, -/
def headRows (d : FVec Ideal S1x8x8192x64 .f32) : FVec Ideal S8x8192x1x64 .f32 :=
  shapeCast S8x8192x1x64 (shapeCast S8x8192x64 d shapeCasts_S1x8x8192x64_S8x8192x64) shapeCasts_S8x8192x64_S8x8192x1x64
/-- at the features' lanes, -/
def headLanes (x : FVec Ideal S8x8192x1x64 .f32) : FVec Ideal S8x8192x128 .f32 :=
  let z : FVec Ideal S8x8192x1x0 .f32 := broadcastInDim S8x8192x1x0 ![] bcast_S_S8x8192x1x0 (constant S_ .f32 0x00000000#32)
  let w : FVec Ideal S8x8192x1x32 .f32 := broadcastInDim S8x8192x1x32 ![] bcast_S_S8x8192x1x32 (constant S_ .f32 0x00000000#32)
  shapeCast S8x8192x128 (concatenate S8x8192x1x128 3
    [⟨S8x8192x1x0, z⟩, ⟨S8x8192x1x16, extractStridedSlice S8x8192x1x16 ![0, 0, 0, 0] x slices_S8x8192x1x64_S8x8192x1x16_0_0_0_0⟩,
      ⟨S8x8192x1x0, z⟩, ⟨S8x8192x1x16, extractStridedSlice S8x8192x1x16 ![0, 0, 0, 32] x slices_S8x8192x1x64_S8x8192x1x16_0_0_0_32⟩,
      ⟨S8x8192x1x32, w⟩, ⟨S8x8192x1x16, extractStridedSlice S8x8192x1x16 ![0, 0, 0, 16] x slices_S8x8192x1x64_S8x8192x1x16_0_0_0_16⟩,
      ⟨S8x8192x1x0, z⟩, ⟨S8x8192x1x16, extractStridedSlice S8x8192x1x16 ![0, 0, 0, 48] x slices_S8x8192x1x64_S8x8192x1x16_0_0_0_48⟩,
      ⟨S8x8192x1x32, w⟩]
    concatenates_S8x8192x1x0_S8x8192x1x16_S8x8192x1x0_S8x8192x1x16_S8x8192x1x32_S8x8192x1x16_S8x8192x1x0_S8x8192x1x16_S8x8192x1x32_S8x8192x1x128_d3)
    shapeCasts_S8x8192x1x128_S8x8192x128
/-- over a factor. -/
def headsOver (b : BitVec 32) (d : FVec Ideal S1x8x8192x64 .f32) : FVec Ideal S8x8192x128 .f32 :=
  Host.divf (headLanes (headRows d)) (broadcastInDim S8x8192x128 ![] bcast_S_S8x8192x128 (constant S_ .f32 b))
/-- The values' cotangent in the first half of the lanes. -/
def valueLanes (d : FVec Ideal S1x8x8192x64 .f32) : FVec Ideal S8x8192x128 .f32 :=
  shapeCast S8x8192x128 (concatenate S8x8192x1x128 3
    [⟨S8x8192x1x0, broadcastInDim S8x8192x1x0 ![] bcast_S_S8x8192x1x0 (constant S_ .f32 0x00000000#32)⟩,
      ⟨S8x8192x1x64, extractStridedSlice S8x8192x1x64 ![0, 0, 0, 0] (headRows d) slices_S8x8192x1x64_S8x8192x1x64_0_0_0_0⟩,
      ⟨S8x8192x1x64, broadcastInDim S8x8192x1x64 ![] bcast_S_S8x8192x1x64 (constant S_ .f32 0x00000000#32)⟩]
    concatenates_S8x8192x1x0_S8x8192x1x64_S8x8192x1x64_S8x8192x1x128_d3) shapeCasts_S8x8192x1x128_S8x8192x128

/-! ## The lines -/

variable (m : (ℓ : Loc nD τ sig) → Buf (Elt Ideal) ℓ) (c : Dev nD)

def argQ : FVec Ideal S1x8192x512 .f32 := m ((c.tc : Thread nD τ).loc main_arg0)
def argK : FVec Ideal S1x8192x128 .f32 := m ((c.tc : Thread nD τ).loc main_arg1)
def argGQ : FVec Ideal S1x64 .f32 := m ((c.tc : Thread nD τ).loc main_arg3)
def argGK : FVec Ideal S1x64 .f32 := m ((c.tc : Thread nD τ).loc main_arg4)
def argDQ : FVec Ideal S1x8x8192x64 .f32 := m ((c.tc : Thread nD τ).loc main_arg5)
def argDK : FVec Ideal S1x8x8192x64 .f32 := m ((c.tc : Thread nD τ).loc main_arg6)
def argDV : FVec Ideal S1x8x8192x64 .f32 := m ((c.tc : Thread nD τ).loc main_arg7)
def argL : FVec Ideal S8192x640 .f32 := m ((c.tc : Thread nD τ).loc main_arg10)

theorem after_append (A B : List (HloOp τ sig (Elt Ideal))) (W : Valuation τ sig (Elt Ideal)) :
    StableHlo.after (A ++ B) W = StableHlo.after B (StableHlo.after A W) := by
  induction A generalizing W with
  | nil => rfl
  | cons a A ih => exact ih _

/-- The contents after the first `n` lines. -/
def upToLine (n : ℕ) : Valuation τ sig (Elt Ideal) := StableHlo.after (List.take n hostOps0) (fun b => m (c, b))

theorem V_eq (n : ℕ) (b : Ref sig .tc) : V m c b = StableHlo.after (List.drop n hostOps0) (upToLine m c n) b := by
  unfold V V0 upToLine
  rw [← after_append, List.take_append_drop]
  simp only [List.flatten_cons, List.flatten_nil, List.append_nil]

theorem upToLine_add (n k : ℕ) (b : Ref sig .tc) :
    upToLine m c (n + k) b = StableHlo.after (List.take k (List.drop n hostOps0)) (upToLine m c n) b := by
  unfold upToLine
  rw [← after_append, List.take_add]

set_option maxHeartbeats 4000000 in
/-- The four tables before the factors. -/
theorem V_lanes :
    (V m c main_v28 = rowLanes (Host.cos (rowAngles rowNums waves)) (Host.cos (rowAngles rowNums waves))
      ∧ V m c main_v35 = rowLanes (Host.negf (Host.sin (rowAngles rowNums waves))) (Host.sin (rowAngles rowNums waves)))
    ∧ V m c main_v41 = colLanes (Host.cos (colAngles colNums waves)) (Host.cos (colAngles colNums waves))
      ∧ V m c main_v48 = colLanes (Host.negf (Host.sin (colAngles colNums waves))) (Host.sin (colAngles colNums waves)) := by
  refine ⟨⟨?_, ?_⟩, ?_, ?_⟩
  · rw [V_eq m c 36]
    generalize hW : upToLine m c _ = W
    simp only [List.drop_succ_cons, List.drop_zero]
    entry_read
    simp only [Matrix.cons_val]
    subst hW
    unfold upToLine
    simp only [List.take_succ_cons, List.take_zero]
    entry_read
    rfl
  · rw [V_eq m c 46]
    generalize hW : upToLine m c _ = W
    simp only [List.drop_succ_cons, List.drop_zero]
    entry_read
    simp only [Matrix.cons_val]
    subst hW
    unfold upToLine
    simp only [List.take_succ_cons, List.take_zero]
    entry_read
    rfl
  · rw [V_eq m c 55]
    generalize hW : upToLine m c _ = W
    simp only [List.drop_succ_cons, List.drop_zero]
    entry_read
    simp only [Matrix.cons_val]
    subst hW
    unfold upToLine
    simp only [List.take_succ_cons, List.take_zero]
    entry_read
    rfl
  · rw [V_eq m c 65]
    generalize hW : upToLine m c _ = W
    simp only [List.drop_succ_cons, List.drop_zero]
    entry_read
    simp only [Matrix.cons_val]
    subst hW
    unfold upToLine
    simp only [List.take_succ_cons, List.take_zero]
    entry_read
    rfl

set_option maxHeartbeats 4000000 in
/-- The tables times the queries' factor and the keys'. -/
theorem V_tables :
    (V m c main_v105 = rowTable 0x3E000000#32 (V m c main_v28) ∧ V m c main_v107 = colTable 0x3E000000#32 (V m c main_v41)
      ∧ V m c main_v109 = rowTable 0x3E000000#32 (V m c main_v35) ∧ V m c main_v111 = colTable 0x3E000000#32 (V m c main_v48))
    ∧ V m c main_v113 = rowTable 0x3F317218#32 (V m c main_v28) ∧ V m c main_v115 = colTable 0x3F317218#32 (V m c main_v41)
      ∧ V m c main_v117 = rowTable 0x3F317218#32 (V m c main_v35) ∧ V m c main_v119 = colTable 0x3F317218#32 (V m c main_v48) := by
  simp only [V_eq m c 66]
  generalize upToLine m c 66 = W
  simp only [List.drop_succ_cons, List.drop_zero]
  refine ⟨⟨?_, ?_, ?_, ?_⟩, ?_, ?_, ?_, ?_⟩
  all_goals
    entry_read
    rfl

theorem V_gainQ : V m c main_v147 = gainLanes (argGQ m c) := by
  rw [V_eq m c 205]
  generalize hW : upToLine m c _ = W
  simp only [List.drop_succ_cons, List.drop_zero]
  entry_read
  simp only [Matrix.cons_val]
  subst hW
  unfold upToLine
  simp only [List.take_succ_cons, List.take_zero]
  entry_read
  rfl

theorem V_gainK : V m c main_v159 = gainLanes (argGK m c) := by
  rw [V_eq m c 222]
  generalize hW : upToLine m c _ = W
  simp only [List.drop_succ_cons, List.drop_zero]
  entry_read
  simp only [Matrix.cons_val]
  subst hW
  unfold upToLine
  simp only [List.take_succ_cons, List.take_zero]
  entry_read
  rfl

theorem line_q : upToLine m c (240 + 20) main_v172 = queryCols (argQ m c) := by
  rw [upToLine_add]
  generalize hW : upToLine m c _ = W
  simp only [List.drop_succ_cons, List.drop_zero, List.take_succ_cons, List.take_zero]
  entry_read
  simp only [Matrix.cons_val]
  subst hW
  unfold upToLine
  simp only [List.take_succ_cons, List.take_zero]
  entry_read
  rfl

theorem line_k : upToLine m c (258 + 2) main_v185 = keyCols (argK m c) := by
  rw [upToLine_add]
  generalize hW : upToLine m c _ = W
  simp only [List.drop_succ_cons, List.drop_zero, List.take_succ_cons, List.take_zero]
  entry_read
  simp only [Matrix.cons_val]
  subst hW
  unfold upToLine
  simp only [List.take_succ_cons, List.take_zero]
  entry_read
  rfl

theorem line_l : upToLine m c 260 main_arg10 = argL m c := by
  unfold upToLine
  simp only [List.take_succ_cons, List.take_zero]
  entry_read
  rfl

theorem V_pre : V m c main_v186 = preCols (queryCols (argQ m c)) (keyCols (argK m c)) (argL m c) := by
  rw [← line_q, ← line_k, ← line_l, V_eq m c 260]
  generalize upToLine m c 260 = W
  simp only [List.drop_succ_cons, List.drop_zero]
  entry_read
  simp only [Matrix.cons_val]
  rfl

theorem V_dq : V m c main_v201 = headsOver 0x3E000000#32 (argDQ m c) := by
  rw [V_eq m c 277]
  generalize hW : upToLine m c _ = W
  simp only [List.drop_succ_cons, List.drop_zero]
  entry_read
  simp only [Matrix.cons_val]
  subst hW
  unfold upToLine
  simp only [List.take_succ_cons, List.take_zero]
  entry_read
  rfl

theorem V_dk : V m c main_v216 = headsOver 0x3F317218#32 (argDK m c) := by
  rw [V_eq m c 298]
  generalize hW : upToLine m c _ = W
  simp only [List.drop_succ_cons, List.drop_zero]
  entry_read
  simp only [Matrix.cons_val]
  subst hW
  unfold upToLine
  simp only [List.take_succ_cons, List.take_zero]
  entry_read
  rfl

theorem V_dv : V m c main_v223 = valueLanes (argDV m c) := by
  rw [V_eq m c 310]
  generalize hW : upToLine m c _ = W
  simp only [List.drop_succ_cons, List.drop_zero]
  entry_read
  simp only [Matrix.cons_val]
  subst hW
  unfold upToLine
  simp only [List.take_succ_cons, List.take_zero]
  entry_read
  rfl

end Cert.KernelPIdeal.Val

end
-- ==== Proof.Angles.lean ====
/- The rotation's angles: a token's row or column over a feature's wavelength, and their cosines and sines as reals. -/
module

public import proofs.«01_k».proof.Proof.RealOps
public import Idealize.ShloMosaic.PureOps.Ideal

@[expose] public section

set_option maxRecDepth 16384

noncomputable section

namespace Cert.NormGrad
open Idealize.ShloMosaic Cert.AttnGrad

/-- A count as a number. -/
def num (n : ℕ) : EReal := (((BitVec.ofNat 32 n).toInt : ℝ) : EReal)

/-- The inverse wavelength of a pair. -/
def wave (i : Fin 16) : EReal :=
  Ideal.div (Ideal.ofBits .f32 0x3F800000#32) (Ideal.pow (Ideal.ofBits .f32 0x461C4000#32)
    (Ideal.div (Ideal.ofBits .f32 0x00000000#32 + Ideal.ofBits .f32 0x40000000#32 * num i.val) (Ideal.ofBits .f32 0x42000000#32)))

theorem ofBits_10000 : Ideal.ofBits .f32 0x461C4000#32 = ((10000 : ℝ) : EReal) := by
  simp [Ideal.ofBits, Ideal.ieee, -EReal.coe_mul]; norm_num
theorem ofBits_32 : Ideal.ofBits .f32 0x42000000#32 = ((32 : ℝ) : EReal) := by
  simp [Ideal.ofBits, Ideal.ieee, -EReal.coe_mul]; norm_num

theorem wave_real (i : Fin 16) : IsReal (wave i) := by
  unfold wave
  rw [ofBits_one, ofBits_10000, ofBits_zero, ofBits_two, ofBits_32, zero_add, num, ← EReal.coe_mul, div_real _ _ (by norm_num)]
  refine ⟨_, div_real _ _ (ne_of_gt (Real.rpow_pos_of_pos (by norm_num) _))⟩

/-- Of a feature: its pair, and the row or the column of a token it turns by. -/
def pairOf (j : Fin 64) : Fin 16 := ⟨j.val % 16, Nat.mod_lt _ (by decide)⟩
def angle (s : Fin 8192) (j : Fin 64) : EReal := num (if j.val < 32 then s.val / 64 else s.val % 64) * wave (pairOf j)

theorem angle_real (s : Fin 8192) (j : Fin 64) : IsReal (angle s j) := by
  obtain ⟨w, hw⟩ := wave_real (pairOf j)
  rw [angle, hw, num, ← EReal.coe_mul]
  exact ⟨_, rfl⟩

def cosT (s : Fin 8192) (j : Fin 64) : ℝ := (Ideal.cos (angle s j)).toReal
def sinT (s : Fin 8192) (j : Fin 64) : ℝ := (Ideal.sin (angle s j)).toReal

theorem cos_angle (s : Fin 8192) (j : Fin 64) : Ideal.cos (angle s j) = ((cosT s j : ℝ) : EReal) := by
  obtain ⟨a, ha⟩ := angle_real s j
  rw [cosT, ha]
  rfl
theorem sin_angle (s : Fin 8192) (j : Fin 64) : Ideal.sin (angle s j) = ((sinT s j : ℝ) : EReal) := by
  obtain ⟨a, ha⟩ := angle_real s j
  rw [sinT, ha]
  rfl

/-- A key head's feature among all. -/
def colK (g : Fin 2) (l : Fin 64) : Fin 128 := ⟨g.val * 64 + l.val, by omega⟩

end Cert.NormGrad

end
-- ==== Proof.PostVal.lean ====
/- `_post`'s operands of mixer A at an index, for finite arguments, and a head's columns of the projections' gradient as reals. -/
module

public import proofs.«01_k».proof.Proof.PostHost
public import proofs.«01_k».proof.Proof.NormReal
public import proofs.«01_k».proof.Proof.Angles

@[expose] public section

set_option maxRecDepth 16384

noncomputable section

namespace Cert.KernelPIdeal.Val
open Idealize.ShloMosaic Idealize.ShloMosaic.TcCoe Idealize.ShloMosaic.Tactic Cert.KernelPIdeal Cert.KernelPIdeal.Gen
open Cert.AttnGrad Cert.NormGrad
open Cert.KernelAIdeal.Val (ladder_lane ladder_off)

/-! ## The tables -/

theorem waves_apply (i : Fin 16) : waves (ix1 i) = wave i := by
  unfold wave num
  rw [ofBits_zero, zero_add]
  unfold waves
  pointwise
  rfl

theorem rowAngles_apply (n : FVec Ideal S128 .f32) (w : FVec Ideal S16 .f32) (a : Fin 128) (i : Fin 16) :
    rowAngles n w (ix2 a i) = n (ix1 a) * w (ix1 i) := by
  unfold rowAngles
  pointwise

theorem colAngles_apply (n : FVec Ideal S64 .f32) (w : FVec Ideal S16 .f32) (a : Fin 64) (i : Fin 16) :
    colAngles n w (ix2 a i) = n (ix1 a) * w (ix1 i) := by
  unfold colAngles
  pointwise

theorem rowNums_apply (a : Fin 128) : rowNums (ix1 a) = num a.val := rfl
theorem colNums_apply (a : Fin 64) : colNums (ix1 a) = num a.val := rfl

theorem rowLanes_ladder (x y : FVec Ideal S128x16 .f32) (a : Fin 128) (l : Fin 128) : rowLanes x y (ix2 a l) =
    (if h : l.val < 0 then 0 else if h_1 : l.val < 16 then x (ix2 a ⟨l.val, by omega⟩)
    else if h : l.val - 16 < 48 then 0 else if h_2 : l.val - 16 - 48 < 16 then y (ix2 a ⟨l.val - 16 - 48, by omega⟩) else 0 : EReal) := by
  unfold rowLanes
  pointwise

theorem colLanes_ladder (x y : FVec Ideal S64x16 .f32) (a : Fin 64) (l : Fin 128) : colLanes x y (ix2 a l) =
    (if h : l.val < 16 then 0 else if h_1 : l.val - 16 < 16 then x (ix2 a ⟨l.val - 16, by omega⟩)
    else if h : l.val - 16 - 16 < 48 then 0 else if h_2 : l.val - 16 - 16 - 48 < 16 then y (ix2 a ⟨l.val - 16 - 16 - 48, by omega⟩) else 0 : EReal) := by
  unfold colLanes
  pointwise

/-- A feature's lane of the rows' table: the first or the second number of its pair, nothing for a column's feature. -/
theorem rowLanes_on (x y : FVec Ideal S128x16 .f32) (a : Fin 128) (j : Fin 64) : rowLanes x y (ix2 a (laneA j)) =
    if j.val < 32 then (if j.val % 32 < 16 then x (ix2 a (pairOf j)) else y (ix2 a (pairOf j))) else 0 := by
  rw [rowLanes_ladder]
  have hv : (laneA j).val = if j.val < 16 then j.val else if j.val < 32 then 48 + j.val else if j.val < 48 then j.val - 16 else 32 + j.val := rfl
  generalize laneA j = l at hv ⊢
  have := j.isLt
  unfold pairOf
  split_ifs at hv
  · rw [if_pos (by omega), if_pos (by omega), dif_neg (by omega), dif_pos (by omega)]
    exact congrArg (fun i => x (ix2 a i)) (Fin.ext (by simp only; omega))
  · rw [if_pos (by omega), if_neg (by omega), dif_neg (by omega), dif_neg (by omega), dif_neg (by omega), dif_pos (by omega)]
    exact congrArg (fun i => y (ix2 a i)) (Fin.ext (by simp only; omega))
  · rw [if_neg (by omega), dif_neg (by omega), dif_neg (by omega), dif_pos (by omega)]
  · rw [if_neg (by omega), dif_neg (by omega), dif_neg (by omega), dif_neg (by omega), dif_neg (by omega)]

theorem colLanes_on (x y : FVec Ideal S64x16 .f32) (a : Fin 64) (j : Fin 64) : colLanes x y (ix2 a (laneA j)) =
    if j.val < 32 then 0 else (if j.val % 32 < 16 then x (ix2 a (pairOf j)) else y (ix2 a (pairOf j))) := by
  rw [colLanes_ladder]
  have hv : (laneA j).val = if j.val < 16 then j.val else if j.val < 32 then 48 + j.val else if j.val < 48 then j.val - 16 else 32 + j.val := rfl
  generalize laneA j = l at hv ⊢
  have := j.isLt
  unfold pairOf
  split_ifs at hv
  · rw [if_pos (by omega), dif_pos (by omega)]
  · rw [if_pos (by omega), dif_neg (by omega), dif_neg (by omega), dif_pos (by omega)]
  · rw [if_neg (by omega), if_pos (by omega), dif_neg (by omega), dif_pos (by omega)]
    exact congrArg (fun i => x (ix2 a i)) (Fin.ext (by simp only; omega))
  · rw [if_neg (by omega), if_neg (by omega), dif_neg (by omega), dif_neg (by omega), dif_neg (by omega), dif_pos (by omega)]
    exact congrArg (fun i => y (ix2 a i)) (Fin.ext (by simp only; omega))

theorem rowTable_apply (b : BitVec 32) (x : FVec Ideal S128x128 .f32) (t : Fin 32) (k : Fin 4) (l : Fin 128) :
    rowTable b x (ix3 t k l) = x (ix2 ⟨4 * t.val + k.val, by omega⟩ l) * Ideal.ofBits .f32 b := by
  unfold rowTable
  pointwise
  exact congrArg (fun i => x (ix2 i l) * Ideal.ofBits .f32 b) (Fin.ext (by simp only; omega))

theorem colTable_apply (b : BitVec 32) (x : FVec Ideal S64x128 .f32) (j : Fin 64) (l : Fin 128) :
    colTable b x (ix2 j l) = x (ix2 j l) * Ideal.ofBits .f32 b := rfl

/-- A token's row and column. -/
def rowNo (R : Fin 8192) : Fin 128 := ⟨R.val / 64, by omega⟩
def colNo (R : Fin 8192) : Fin 64 := ⟨R.val % 64, by omega⟩

theorem rowAngle (R : Fin 8192) (j : Fin 64) (h : j.val < 32) : rowAngles rowNums waves (ix2 (rowNo R) (pairOf j)) = angle R j := by
  rw [rowAngles_apply, waves_apply, rowNums_apply, angle, if_pos h]
  rfl
theorem colAngle (R : Fin 8192) (j : Fin 64) (h : ¬ j.val < 32) : colAngles colNums waves (ix2 (colNo R) (pairOf j)) = angle R j := by
  rw [colAngles_apply, waves_apply, colNums_apply, angle, if_neg h]
  rfl

/-- The two tables added, of the cosines, -/
theorem cos_lanes (R : Fin 8192) (j : Fin 64) (σ : ℝ) :
    rowLanes (Host.cos (rowAngles rowNums waves)) (Host.cos (rowAngles rowNums waves)) (ix2 (rowNo R) (laneA j)) * (σ : EReal)
      + colLanes (Host.cos (colAngles colNums waves)) (Host.cos (colAngles colNums waves)) (ix2 (colNo R) (laneA j)) * (σ : EReal)
      = ((cosT R j * σ : ℝ) : EReal) := by
  have hr : ∀ a i, Host.cos (rowAngles rowNums waves) (ix2 a i) = Ideal.cos (rowAngles rowNums waves (ix2 a i)) := fun _ _ => rfl
  have hc : ∀ a i, Host.cos (colAngles colNums waves) (ix2 a i) = Ideal.cos (colAngles colNums waves (ix2 a i)) := fun _ _ => rfl
  rw [rowLanes_on, colLanes_on]
  simp only [hr, hc, ite_self]
  by_cases h : j.val < 32
  · rw [if_pos h, if_pos h, rowAngle R j h, cos_angle, zero_mul, add_zero, ← EReal.coe_mul]
  · rw [if_neg h, if_neg h, colAngle R j h, cos_angle, zero_mul, zero_add, ← EReal.coe_mul]

/-- and of the sines. -/
theorem sin_lanes (R : Fin 8192) (j : Fin 64) (σ : ℝ) :
    rowLanes (Host.negf (Host.sin (rowAngles rowNums waves))) (Host.sin (rowAngles rowNums waves)) (ix2 (rowNo R) (laneA j)) * (σ : EReal)
      + colLanes (Host.negf (Host.sin (colAngles colNums waves))) (Host.sin (colAngles colNums waves)) (ix2 (colNo R) (laneA j)) * (σ : EReal)
      = ((sgn j * sinT R j * σ : ℝ) : EReal) := by
  have hr : ∀ a i, Host.sin (rowAngles rowNums waves) (ix2 a i) = Ideal.sin (rowAngles rowNums waves (ix2 a i)) := fun _ _ => rfl
  have hc : ∀ a i, Host.sin (colAngles colNums waves) (ix2 a i) = Ideal.sin (colAngles colNums waves (ix2 a i)) := fun _ _ => rfl
  have hr' : ∀ a i, Host.negf (Host.sin (rowAngles rowNums waves)) (ix2 a i) = -Ideal.sin (rowAngles rowNums waves (ix2 a i)) := fun _ _ => rfl
  have hc' : ∀ a i, Host.negf (Host.sin (colAngles colNums waves)) (ix2 a i) = -Ideal.sin (colAngles colNums waves (ix2 a i)) := fun _ _ => rfl
  rw [rowLanes_on, colLanes_on]
  simp only [hr, hc, hr', hc']
  unfold sgn
  by_cases h : j.val < 32
  · rw [if_pos h, if_pos h, rowAngle R j h, sin_angle, zero_mul, add_zero]
    split_ifs
    · rw [← EReal.coe_neg, ← EReal.coe_mul, neg_one_mul]
    · rw [← EReal.coe_mul, one_mul]
  · rw [if_neg h, if_neg h, colAngle R j h, sin_angle, zero_mul, zero_add]
    split_ifs
    · rw [← EReal.coe_neg, ← EReal.coe_mul, neg_one_mul]
    · rw [← EReal.coe_mul, one_mul]

/-! ## The gains, the columns and the cotangents -/

theorem gainLanes_on (g : FVec Ideal S1x64 .f32) (j : Fin 64) (l : Fin 128) (hl : l = laneA j) : gainLanes g (ix2 0 l) = g (ix2 0 j) := by
  refine Eq.trans ?_ (ladder_lane (fun j => g (ix2 0 j)) j l hl)
  unfold gainLanes
  pointwise

/-- Head `a`'s queries among the columns, -/
theorem queryCols_lane (q : FVec Ideal S1x8192x512 .f32) (R : Fin 8192) (a : Fin 8) (j : Fin 64) (l : Fin 128) (hl : l = laneA j) :
    queryCols q (ix2 R ⟨128 * a.val + l.val, by omega⟩) = q (ix3 0 R (colA a j)) := by
  refine Eq.trans ?_ (ladder_lane (fun j => q (ix3 0 R (colA a j))) j l hl)
  unfold queryCols colA
  pointwise

theorem queryCols_off (q : FVec Ideal S1x8192x512 .f32) (R : Fin 8192) (a : Fin 8) (l : Fin 128) (hl : l ∉ Set.range laneA) :
    queryCols q (ix2 R ⟨128 * a.val + l.val, by omega⟩) = 0 := by
  refine Eq.trans ?_ (ladder_off (fun j => q (ix3 0 R (colA a j))) l hl)
  unfold queryCols colA
  pointwise

theorem keyCols_lane (k : FVec Ideal S1x8192x128 .f32) (R : Fin 8192) (a : Fin 2) (j : Fin 64) (l : Fin 128) (hl : l = laneA j) :
    keyCols k (ix2 R ⟨128 * a.val + l.val, by omega⟩) = k (ix3 0 R (colK a j)) := by
  refine Eq.trans ?_ (ladder_lane (fun j => k (ix3 0 R (colK a j))) j l hl)
  unfold keyCols colK
  pointwise

theorem keyCols_off (k : FVec Ideal S1x8192x128 .f32) (R : Fin 8192) (a : Fin 2) (l : Fin 128) (hl : l ∉ Set.range laneA) :
    keyCols k (ix2 R ⟨128 * a.val + l.val, by omega⟩) = 0 := by
  refine Eq.trans ?_ (ladder_off (fun j => k (ix3 0 R (colK a j))) l hl)
  unfold keyCols colK
  pointwise

/-- the columns of all: first the queries', then the keys', -/
theorem preCols_q (q : FVec Ideal S8192x1024 .f32) (k : FVec Ideal S8192x256 .f32) (x : FVec Ideal S8192x640 .f32) (R : Fin 8192) (a : Fin 1024) :
    preCols q k x (ix2 R ⟨a.val, by omega⟩) = q (ix2 R a) := by
  unfold preCols
  pointwise

theorem preCols_k (q : FVec Ideal S8192x1024 .f32) (k : FVec Ideal S8192x256 .f32) (x : FVec Ideal S8192x640 .f32) (R : Fin 8192) (a : Fin 256) :
    preCols q k x (ix2 R ⟨1024 + a.val, by omega⟩) = k (ix2 R a) := by
  unfold preCols
  pointwise

/-- and the cotangents' lanes. -/
theorem headLanes_lane (d : FVec Ideal S1x8x8192x64 .f32) (a : Fin 8) (R : Fin 8192) (j : Fin 64) (l : Fin 128) (hl : l = laneA j) :
    headLanes (headRows d) (ix3 a R l) = d (ix4 0 a R j) := by
  refine Eq.trans ?_ (ladder_lane (fun j => d (ix4 0 a R j)) j l hl)
  unfold headLanes headRows
  pointwise

theorem headLanes_off (d : FVec Ideal S1x8x8192x64 .f32) (a : Fin 8) (R : Fin 8192) (l : Fin 128) (hl : l ∉ Set.range laneA) :
    headLanes (headRows d) (ix3 a R l) = 0 := by
  refine Eq.trans ?_ (ladder_off (fun j => d (ix4 0 a R j)) l hl)
  unfold headLanes headRows
  pointwise

theorem headsOver_apply (b : BitVec 32) (d : FVec Ideal S1x8x8192x64 .f32) (a : Fin 8) (R : Fin 8192) (l : Fin 128) :
    headsOver b d (ix3 a R l) = Ideal.div (headLanes (headRows d) (ix3 a R l)) (Ideal.ofBits .f32 b) := by
  unfold headsOver
  generalize headLanes (headRows d) = x
  pointwise

theorem valueLanes_lane (d : FVec Ideal S1x8x8192x64 .f32) (a : Fin 8) (R : Fin 8192) (j : Fin 64) :
    valueLanes d (ix3 a R ⟨j.val, by omega⟩) = d (ix4 0 a R j) := by
  unfold valueLanes headRows
  pointwise
  exact dif_neg (Nat.not_lt_zero _)

end Cert.KernelPIdeal.Val

end
-- ==== Proof.PostCols.lean ====
/- A head's columns of the projections' gradient, for finite arguments: the norm's and the rotation's gradient as reals. -/
module

public import proofs.«01_k».proof.Proof.PostArr
public import proofs.«01_k».proof.Proof.PostVal

@[expose] public section

set_option maxRecDepth 16384

noncomputable section

namespace Cert.KernelPIdeal.Val
open Idealize.ShloMosaic Idealize.ShloMosaic.TcCoe Idealize.ShloMosaic.Tactic Cert.KernelPIdeal Cert.KernelPIdeal.Gen
open Cert.AttnGrad Cert.NormGrad

variable (m : (ℓ : Loc nD τ sig) → Buf (Elt Ideal) ℓ) (c : Dev nD) (R : Fin 8192)

/-! ## The tables' blocks -/

theorem table_at (r : Vec Ideal TabR₃ .f32) (cb : Vec Ideal TabC .f32) (X : FVec Ideal S128x128 .f32) (Y : FVec Ideal S64x128 .f32) (b : BitVec 32) {σ : ℝ}
    (hσ : Ideal.ofBits .f32 b = ((σ : ℝ) : EReal)) (hr : ∀ k l, r (ix3 0 k l) = rowTable b X (ix3 (tabAt (pointOf R)) k l))
    (hc : ∀ j l, cb (ix2 j l) = colTable b Y (ix2 j l)) (l : Fin 128) :
    table r cb (ix2 (inRow R) l) = X (ix2 (rowNo R) l) * ((σ : ℝ) : EReal) + Y (ix2 (colNo R) l) * ((σ : ℝ) : EReal) := by
  have e : inRow R = rowAt ⟨R.val % 256 / 64, by omega⟩ (colNo R) := Fin.ext (by unfold inRow rowAt colNo; simp only; omega)
  have e' : rowNo R = ⟨4 * (tabAt (pointOf R)).val + (⟨R.val % 256 / 64, by omega⟩ : Fin 4).val, by have := (tabAt (pointOf R)).isLt; simp only; omega⟩ :=
    Fin.ext (by unfold tabAt pointOf rowNo; simp only; omega)
  rw [e, table_apply, hr, hc, rowTable_apply, colTable_apply, hσ, ← e']

/-- The key factor's value. -/
def lnK : ℝ := 11629080 / 16777216
theorem ofBits_lnK : Ideal.ofBits .f32 0x3F317218#32 = ((lnK : ℝ) : EReal) := by
  simp [Ideal.ofBits, Ideal.ieee, lnK, -EReal.coe_mul]; norm_num
theorem lnK_ne : lnK ≠ 0 := by unfold lnK; norm_num

theorem cosQ (j : Fin 64) : table (inBlk m c 13 (pointOf R)) (inBlk m c 14 (pointOf R)) (ix2 (inRow R) (laneA j)) = ((cosT R j * scaleA : ℝ) : EReal) := by
  rw [table_at R _ _ _ _ _ ofBits_eighth (fun k l => ((in_rows m c _ l k).1.trans (congrFun (V_tables m c).1.1 _)))
    (fun i l => (in_cols m c _ l i).1.trans (congrFun (V_tables m c).1.2.1 _)), (V_lanes m c).1.1, (V_lanes m c).2.1]
  exact cos_lanes R j _
theorem sinQ (j : Fin 64) : table (inBlk m c 15 (pointOf R)) (inBlk m c 16 (pointOf R)) (ix2 (inRow R) (laneA j)) = ((sgn j * sinT R j * scaleA : ℝ) : EReal) := by
  rw [table_at R _ _ _ _ _ ofBits_eighth (fun k l => ((in_rows m c _ l k).2.1.trans (congrFun (V_tables m c).1.2.2.1 _)))
    (fun i l => (in_cols m c _ l i).2.1.trans (congrFun (V_tables m c).1.2.2.2 _)), (V_lanes m c).1.2, (V_lanes m c).2.2]
  exact sin_lanes R j _
theorem cosK (j : Fin 64) : table (inBlk m c 17 (pointOf R)) (inBlk m c 18 (pointOf R)) (ix2 (inRow R) (laneA j)) = ((cosT R j * lnK : ℝ) : EReal) := by
  rw [table_at R _ _ _ _ _ ofBits_lnK (fun k l => ((in_rows m c _ l k).2.2.1.trans (congrFun (V_tables m c).2.1 _)))
    (fun i l => (in_cols m c _ l i).2.2.1.trans (congrFun (V_tables m c).2.2.1 _)), (V_lanes m c).1.1, (V_lanes m c).2.1]
  exact cos_lanes R j _
theorem sinK (j : Fin 64) : table (inBlk m c 19 (pointOf R)) (inBlk m c 20 (pointOf R)) (ix2 (inRow R) (laneA j)) = ((sgn j * sinT R j * lnK : ℝ) : EReal) := by
  rw [table_at R _ _ _ _ _ ofBits_lnK (fun k l => ((in_rows m c _ l k).2.2.2.trans (congrFun (V_tables m c).2.2.2.1 _)))
    (fun i l => (in_cols m c _ l i).2.2.2.trans (congrFun (V_tables m c).2.2.2.2 _)), (V_lanes m c).1.2, (V_lanes m c).2.2]
  exact sin_lanes R j _

/-! ## A head's rows -/

theorem atDK (h : Fin 8) (l : Fin 128) : inBlk m c 7 (pointOf R) (ix3 h (inRow R) l) =
    Ideal.div (headLanes (headRows (argDK m c)) (ix3 h R l)) ((lnK : ℝ) : EReal) := by
  rw [(in_heads m c (pointOf R) (inRow R) l h).2.1, V_dk, rowOf_point, headsOver_apply, ofBits_lnK]
theorem atDV (h : Fin 8) (j : Fin 64) : inBlk m c 8 (pointOf R) (ix3 h (inRow R) (laneV j)) = argDV m c (ix4 0 h R j) := by
  rw [(in_heads m c (pointOf R) (inRow R) (laneV j) h).2.2, V_dv, rowOf_point]
  exact valueLanes_lane _ _ _ _

section
variable {m c R} {Q D G : Fin 64 → ℝ}

theorem readsQ (h : Fin 8) (hq : ∀ j, argQ m c (ix3 0 R (colA h j)) = ((Q j : ℝ) : EReal)) : Reads (preQ (inBlk m c 2 (pointOf R)) h) (inRow R) Q where
  on j := by
    rw [preQ_apply, in_pre, V_pre, rowOf_point]
    exact ((preCols_q _ _ _ R ⟨128 * h.val + (laneA j).val, by omega⟩).trans (queryCols_lane _ R h j _ rfl)).trans (hq j)
  off l hl := by
    rw [preQ_apply, in_pre, V_pre, rowOf_point]
    exact (preCols_q _ _ _ R ⟨128 * h.val + l.val, by omega⟩).trans (queryCols_off _ R h l hl)

theorem readsK (g : Fin 2) (hk : ∀ j, argK m c (ix3 0 R (colK g j)) = ((Q j : ℝ) : EReal)) : Reads (preK (inBlk m c 2 (pointOf R)) g) (inRow R) Q where
  on j := by
    rw [preK_apply, in_pre, V_pre, rowOf_point]
    have e : (⟨1024 + 128 * g.val + (laneA j).val, by omega⟩ : Fin 1920) = ⟨1024 + (⟨128 * g.val + (laneA j).val, by omega⟩ : Fin 256).val, by simp only; omega⟩ :=
      Fin.ext (by simp only; omega)
    rw [e]
    exact ((preCols_k _ _ _ R _).trans (keyCols_lane _ R g j _ rfl)).trans (hk j)
  off l hl := by
    rw [preK_apply, in_pre, V_pre, rowOf_point]
    have e : (⟨1024 + 128 * g.val + l.val, by omega⟩ : Fin 1920) = ⟨1024 + (⟨128 * g.val + l.val, by omega⟩ : Fin 256).val, by simp only; omega⟩ :=
      Fin.ext (by simp only; omega)
    rw [e]
    exact (preCols_k _ _ _ R _).trans (keyCols_off _ R g l hl)

theorem readsDQ (h : Fin 8) (hd : ∀ j, argDQ m c (ix4 0 h R j) = ((D j : ℝ) : EReal)) :
    Reads (headOf (inBlk m c 6 (pointOf R)) h) (inRow R) fun j => D j / scaleA where
  on j := by
    rw [headOf_apply, (in_heads m c (pointOf R) (inRow R) (laneA j) h).1, V_dq, rowOf_point, headsOver_apply, headLanes_lane _ _ _ _ _ rfl, hd, ofBits_eighth,
      div_real _ _ (by unfold scaleA; norm_num)]
  off l hl := by
    rw [headOf_apply, (in_heads m c (pointOf R) (inRow R) l h).1, V_dq, rowOf_point, headsOver_apply, headLanes_off _ _ _ _ hl, ofBits_eighth]
    rw [← EReal.coe_zero, div_real _ _ (by unfold scaleA; norm_num), zero_div]

theorem readsDK (g : Fin 2) {E : Fin 4 → Fin 64 → ℝ} (hd : ∀ a j, argDK m c (ix4 0 (headAt g a) R j) = ((E a j : ℝ) : EReal)) :
    Reads (groupSum (inBlk m c 7 (pointOf R)) g) (inRow R) fun j => (∑ a, E a j) / lnK where
  on j := by
    rw [groupSum_apply]
    rw [atDK, atDK, atDK, atDK]
    simp only [headLanes_lane _ _ _ _ _ rfl, hd, div_real _ _ lnK_ne, ← EReal.coe_add]
    rw [Fin.sum_univ_four, add_div, add_div, add_div]
  off l hl := by
    rw [groupSum_apply]
    rw [atDK, atDK, atDK, atDK]
    simp only [headLanes_off _ _ _ _ hl]
    rw [← EReal.coe_zero, div_real _ _ lnK_ne, zero_div]
    simp

theorem colsQ (h : Fin 8) (hq : ∀ j, argQ m c (ix3 0 R (colA h j)) = ((Q j : ℝ) : EReal)) (hd : ∀ j, argDQ m c (ix4 0 h R j) = ((D j : ℝ) : EReal))
    (hg : ∀ j, argGQ m c (ix2 0 j) = ((G j : ℝ) : EReal)) (j : Fin 64) :
    projArr m c (ix2 R (projCol ⟨h.val, by omega⟩ (laneA j))) = ((dR (fun i => bR D (cosT R) (sinT R) i * G i) Q j : ℝ) : EReal) := by
  rw [proj_q]
  unfold dQ backQ
  refine head_real (back_on (by unfold scaleA; norm_num) (readsDQ h hd) (cosQ m c R) (sinQ m c R)) (readsQ h hq) (fun j => ?_) j
  rw [(in_gains m c _ _).1, V_gainQ, gainLanes_on _ j _ rfl, hg]

theorem colsK (g : Fin 2) {E : Fin 4 → Fin 64 → ℝ} (hk : ∀ j, argK m c (ix3 0 R (colK g j)) = ((Q j : ℝ) : EReal))
    (hd : ∀ a j, argDK m c (ix4 0 (headAt g a) R j) = ((E a j : ℝ) : EReal)) (hg : ∀ j, argGK m c (ix2 0 j) = ((G j : ℝ) : EReal)) (j : Fin 64) :
    projArr m c (ix2 R (projCol ⟨8 + g.val, by omega⟩ (laneA j))) =
      ((dR (fun i => bR (fun j => ∑ a, E a j) (cosT R) (sinT R) i * G i) Q j : ℝ) : EReal) := by
  rw [proj_k]
  unfold dK backK
  refine head_real (back_on lnK_ne (readsDK g hd) (cosK m c R) (sinK m c R)) (readsK g hk) (fun j => ?_) j
  rw [(in_gains m c _ _).2, V_gainK, gainLanes_on _ j _ rfl, hg]
end

theorem colsV (g : Fin 2) (j : Fin 64) : projArr m c (ix2 R (projCol ⟨10 + g.val, by omega⟩ (laneV j))) =
    ∑ a, argDV m c (ix4 0 (headAt g a) R j) := by
  rw [proj_v]
  unfold dV
  refine (Cert.KernelAIdeal.Val.trunc_apply _ _).trans ?_
  rw [groupSum_apply, atDV, atDV, atDV, atDV, Fin.sum_univ_four]

end Cert.KernelPIdeal.Val

end
-- ==== Proof.GainArr.lean ====
/- The two gains' gradients after the grid: every point's rows added up, and for finite arguments a sum over the heads and tokens. -/
module

public import proofs.«01_k».proof.Proof.GainBody
public import proofs.«01_k».proof.Proof.PostCols

@[expose] public section

set_option maxRecDepth 16384

noncomputable section

namespace Cert.NormGrad
open Idealize.ShloMosaic Idealize.ShloMosaic.TcCoe Idealize.ShloMosaic.Tactic Cert.KernelPIdeal Cert.KernelPIdeal.Gen
open Cert.AttnGrad Cert.KernelPIdeal.Val
open scoped BigOperators

/-! ## The points' sums -/

theorem gainNext_apply (x : Vec Ideal Row .f32) (v : FVec Ideal Row .f32) (j : Fin 64) :
    gainNext x v (ix2 0 (featLane j)) = x (ix2 0 (featLane j)) + v (ix2 0 (laneA j)) := by
  rw [← inOrder_apply v]
  unfold gainNext
  generalize inOrder v = y
  pointwise

/-- A row begun at zero and added to at every later point. -/
theorem sum_points (f : (n : ℕ) → n < cfg0.N → Vec Ideal Row .f32) (g : Fin cfg0.N → FVec Ideal Row .f32)
    (h0 : ∀ h, f 0 h = gainNext smallNone (g ⟨0, h⟩)) (hs : ∀ n h, f (n + 1) h = gainNext (f n (Nat.lt_of_succ_lt h)) (g ⟨n + 1, h⟩)) (j : Fin 64) :
    ∀ (n : ℕ) (h : n < cfg0.N), f n h (ix2 0 (featLane j)) = ∑ i : Fin (n + 1), g ⟨i.val, lt_of_lt_of_le i.isLt h⟩ (ix2 0 (laneA j))
  | 0, h => by
    rw [h0, gainNext_apply, Fin.sum_univ_one]
    exact (congrArg (· + _) Ideal.ofBits_zero_f32).trans (zero_add _)
  | n + 1, h => by
    rw [hs, gainNext_apply, Fin.sum_univ_castSucc, sum_points f g h0 hs j n (Nat.lt_of_succ_lt h)]
    rfl

/-- Every token is a row of a grid point. -/
def tokens : Fin cfg0.N × Fin 256 ≃ Fin 8192 where
  toFun x := rowOf x.1 x.2
  invFun R := (pointOf R, inRow R)
  left_inv x := Prod.ext (pointOf_row x.1 x.2) (inRow_row x.1 x.2)
  right_inv R := rowOf_point R

theorem sum_tokens {n : ℕ} (G : Fin n → Fin 8192 → EReal) : ∑ t : Fin cfg0.N, ∑ h, ∑ p, G h (rowOf t p) = ∑ h, ∑ R, G h R := by
  rw [Finset.sum_comm]
  refine Finset.sum_congr rfl fun h _ => ?_
  exact (Fintype.sum_prod_type' fun t p => G h (rowOf t p)).symm.trans (Fintype.sum_equiv tokens _ _ fun _ => rfl)

variable (m : (ℓ : Loc nD τ sig) → Buf (Elt Ideal) ℓ) (c : Dev nD)

/-- The row after the last point. -/
theorem last_gains (f : (n : ℕ) → n < cfg0.N → Vec Ideal Row .f32) (g : Fin cfg0.N → FVec Ideal Row .f32)
    (h0 : ∀ h, f 0 h = gainNext smallNone (g ⟨0, h⟩)) (hs : ∀ n h, f (n + 1) h = gainNext (f n (Nat.lt_of_succ_lt h)) (g ⟨n + 1, h⟩)) (j : Fin 64)
    (n : ℕ) (h : n < cfg0.N) (hn : n + 1 = cfg0.N) : f n h (ix2 0 (featLane j)) = ∑ t, g t (ix2 0 (laneA j)) :=
  (sum_points f g h0 hs j n h).trans (Fintype.sum_equiv (finCongr hn) _ _ fun _ => rfl)

/-! ## The array after the grid -/

theorem idx_small : ∀ t : Fin cfg0.N, win0_43.index t = ![0, 0] := (by decide +kernel : ∀ t : Fin grid0.N, _)

theorem read_small (t : Fin cfg0.N) (X : Vec Ideal S16x1024 .f32) (r : Fin 16) (d : Fin 1024) :
    ((cfg0.win 43).blk t).view.read (Elt Ideal) X (ix2 r d) = X (ix2 r d) := by blk_ext [idx_small t]

theorem cut_small (t : Fin cfg0.N) (x X : Vec Ideal S16x1024 .f32)
    (h : ∀ r d, x (ix2 r d) = ((cfg0.win 43).blk t).view.read (Elt Ideal) X (ix2 r d))
    (y : ((cfg0.win 43).xblock (cfg0.grid.coords t)).Idx) : x y = X ((win0_43.blk t).view.emb y) :=
  congrFun (Cert.GateGrad.ext2 (y := ((cfg0.win 43).blk t).view.read (Elt Ideal) X) h) y

/-- The array of the small gradients is what the last point left. -/
theorem last_small (n : ℕ) (h : n < cfg0.N) (hn : n + 1 = cfg0.N) : (dats m 0 c).arrAt 43 (cfgs 0).N = (left m c n h).small := by
  refine (dats m 0 c).arrAt_eq_of_covers 43 _ (by decide +kernel) fun t hf y => ?_
  have e : t.val = n := by
    have hN : t.val < 32 := lt_of_lt_of_eq t.isLt N_0
    have := (flush0_43 _).mp hf
    have := hn.trans N_0
    omega
  obtain ⟨k, hk⟩ := t
  obtain rfl : k = n := e
  blk_simp
  rw [after_small]
  exact cut_small _ _ _ (fun r d => (read_small _ _ r d).symm) y

/-- The small gradients after the grid. -/
def smallArr : Vec Ideal S16x1024 .f32 := (dats m 0 c).arrAt 43 (cfgs 0).N

theorem points_pos : 0 < cfg0.N := lt_of_lt_of_eq (by decide) N_0.symm

/-- A point's sums. -/
def gainsQ (t : Fin cfg0.N) : FVec Ideal Row .f32 :=
  gainQ (inBlk m c 6 t) (inBlk m c 2 t) (inBlk m c 13 t) (inBlk m c 15 t) (inBlk m c 14 t) (inBlk m c 16 t)
def gainsK (t : Fin cfg0.N) : FVec Ideal Row .f32 :=
  gainK (inBlk m c 7 t) (inBlk m c 2 t) (inBlk m c 17 t) (inBlk m c 19 t) (inBlk m c 18 t) (inBlk m c 20 t)

theorem left_small (L : Stores Ideal) (b : List (View.Piece (Elt Ideal) S16x1024 .f32)) : (L.left b).small = View.canon (L.small ++ b) := rfl

/-- The first point begins the rows, and a later one adds to them. -/
theorem rows_first (t : Fin cfg0.N) (h : t.val = 0) : smallQ (left m c t.val t.isLt).small = gainNext smallNone (gainsQ m c t)
    ∧ smallK (left m c t.val t.isLt).small = gainNext smallNone (gainsK m c t) := by
  rw [left_first m c t h, left_small]
  unfold gainsQ gainsK
  exact first_gains m c t h
theorem rows_later (t : Fin cfg0.N) (h : t.val ≠ 0) : smallQ (left m c t.val t.isLt).small = gainNext (smallQ (smallBefore m c t)) (gainsQ m c t)
    ∧ smallK (left m c t.val t.isLt).small = gainNext (smallK (smallBefore m c t)) (gainsK m c t) := by
  rw [left_later m c t h, left_small]
  unfold gainsQ gainsK
  exact later_gains m c t h (smallBefore m c t)

/-- A gain's gradient is the points' sums added up. -/
theorem small_q (j : Fin 64) : smallQ (smallArr m c) (ix2 0 (featLane j)) = ∑ t, gainsQ m c t (ix2 0 (laneA j)) := by
  obtain ⟨n, hn⟩ := Nat.exists_eq_succ_of_ne_zero points_pos.ne'
  have h : n < cfg0.N := hn ▸ Nat.lt_succ_self n
  unfold smallArr
  rw [last_small m c n h hn.symm]
  exact last_gains (fun n h => smallQ (left m c n h).small) (gainsQ m c) (fun h => (rows_first m c ⟨0, h⟩ rfl).1)
    (fun n h => (rows_later m c ⟨n + 1, h⟩ (Nat.succ_ne_zero n)).1) j n h hn.symm
theorem small_k (j : Fin 64) : smallK (smallArr m c) (ix2 0 (featLane j)) = ∑ t, gainsK m c t (ix2 0 (laneA j)) := by
  obtain ⟨n, hn⟩ := Nat.exists_eq_succ_of_ne_zero points_pos.ne'
  have h : n < cfg0.N := hn ▸ Nat.lt_succ_self n
  unfold smallArr
  rw [last_small m c n h hn.symm]
  exact last_gains (fun n h => smallK (left m c n h).small) (gainsK m c) (fun h => (rows_first m c ⟨0, h⟩ rfl).2)
    (fun n h => (rows_later m c ⟨n + 1, h⟩ (Nat.succ_ne_zero n)).2) j n h hn.symm

theorem gainsQ_apply (t : Fin cfg0.N) (l : Fin 128) : gainsQ m c t (ix2 0 l) = ∑ h, gain (backQ (inBlk m c 6 t) (inBlk m c 13 t) (inBlk m c 15 t)
    (inBlk m c 14 t) (inBlk m c 16 t) h) (preQ (inBlk m c 2 t) h) (ix2 0 l) := by
  unfold gainsQ gainQ
  exact added_apply l 8 _
theorem gainsK_apply (t : Fin cfg0.N) (l : Fin 128) : gainsK m c t (ix2 0 l) = ∑ g, gain (backK (inBlk m c 7 t) (inBlk m c 17 t) (inBlk m c 19 t)
    (inBlk m c 18 t) (inBlk m c 20 t) g) (preK (inBlk m c 2 t) g) (ix2 0 l) := by
  unfold gainsK gainK
  exact added_apply l 2 _

/-! ## For finite arguments -/

theorem gain_real {d x : FVec Ideal Blk .f32} {D X : Fin 256 → Fin 64 → ℝ} (hd : ∀ p, Reads d p (D p)) (hx : ∀ p, Reads x p (X p)) (j : Fin 64) :
    gain d x (ix2 0 (laneA j)) = ∑ p, ((D p j * (X p j * rateR (X p)) : ℝ) : EReal) := by
  rw [gain_apply]
  refine Finset.sum_congr rfl fun p _ => ?_
  rw [(hd p).on, (hx p).on, (hx p).rate, ← EReal.coe_mul, ← EReal.coe_mul]

/-- What is read of a token's row is read of its point's. -/
theorem at_row {t : Fin cfg0.N} {p : Fin 256} {A : Fin cfg0.N → FVec Ideal Blk .f32} {X : Fin 8192 → Fin 64 → ℝ}
    (h : ∀ R, Reads (A (pointOf R)) (inRow R) (X R)) : Reads (A t) p (X (rowOf t p)) := by
  have := h (rowOf t p)
  rwa [pointOf_row, inRow_row] at this

theorem gainQ_real {Q D : Fin 8 → Fin 8192 → Fin 64 → ℝ} (hq : ∀ h R j, argQ m c (ix3 0 R (colA h j)) = ((Q h R j : ℝ) : EReal))
    (hd : ∀ h R j, argDQ m c (ix4 0 h R j) = ((D h R j : ℝ) : EReal)) (j : Fin 64) : smallQ (smallArr m c) (ix2 0 (featLane j)) =
      ∑ h, ∑ R, ((bR (D h R) (cosT R) (sinT R) j * (Q h R j * rateR (Q h R)) : ℝ) : EReal) := by
  rw [small_q]
  refine Eq.trans ?_ (sum_tokens fun h R => ((bR (D h R) (cosT R) (sinT R) j * (Q h R j * rateR (Q h R)) : ℝ) : EReal))
  refine Finset.sum_congr rfl fun t _ => (gainsQ_apply m c t _).trans (Finset.sum_congr rfl fun h _ => ?_)
  refine gain_real (D := fun p => bR (D h (rowOf t p)) (cosT (rowOf t p)) (sinT (rowOf t p))) (X := fun p => Q h (rowOf t p)) (fun p => ?_) (fun p => ?_) j
  · exact at_row (A := fun t => backQ (inBlk m c 6 t) (inBlk m c 13 t) (inBlk m c 15 t) (inBlk m c 14 t) (inBlk m c 16 t) h)
      (X := fun R => bR (D h R) (cosT R) (sinT R)) fun R => back_on (by unfold scaleA; norm_num) (readsDQ h (hd h R)) (cosQ m c R) (sinQ m c R)
  · exact at_row (A := fun t => preQ (inBlk m c 2 t) h) (X := Q h) fun R => readsQ h (hq h R)

theorem gainK_real {K : Fin 2 → Fin 8192 → Fin 64 → ℝ} {E : Fin 2 → Fin 8192 → Fin 4 → Fin 64 → ℝ}
    (hk : ∀ g R j, argK m c (ix3 0 R (colK g j)) = ((K g R j : ℝ) : EReal))
    (hd : ∀ g R a j, argDK m c (ix4 0 (headAt g a) R j) = ((E g R a j : ℝ) : EReal)) (j : Fin 64) : smallK (smallArr m c) (ix2 0 (featLane j)) =
      ∑ g, ∑ R, ((bR (fun j => ∑ a, E g R a j) (cosT R) (sinT R) j * (K g R j * rateR (K g R)) : ℝ) : EReal) := by
  rw [small_k]
  refine Eq.trans ?_ (sum_tokens fun g R => ((bR (fun j => ∑ a, E g R a j) (cosT R) (sinT R) j * (K g R j * rateR (K g R)) : ℝ) : EReal))
  refine Finset.sum_congr rfl fun t _ => (gainsK_apply m c t _).trans (Finset.sum_congr rfl fun g _ => ?_)
  refine gain_real (D := fun p => bR (fun j => ∑ a, E g (rowOf t p) a j) (cosT (rowOf t p)) (sinT (rowOf t p))) (X := fun p => K g (rowOf t p))
    (fun p => ?_) (fun p => ?_) j
  · exact at_row (A := fun t => backK (inBlk m c 7 t) (inBlk m c 17 t) (inBlk m c 19 t) (inBlk m c 18 t) (inBlk m c 20 t) g)
      (X := fun R => bR (fun j => ∑ a, E g R a j) (cosT R) (sinT R)) fun R => back_on lnK_ne (readsDK g (hd g R)) (cosK m c R) (sinK m c R)
  · exact at_row (A := fun t => preK (inBlk m c 2 t) g) (X := K g) fun R => readsK g (hk g R)

end Cert.NormGrad

end
-- ==== Proof.PostTail.lean ====
/- What the lines after `_post`'s grid make of the projections' gradient: mixer A's three results and the two gains' gradients. -/
module

public import proofs.«01_k».proof.Proof.GainArr
public import proofs.«01_k».proof.Proof.PostRun
public import proofs.«01_k».proof.Proof.TailA
public import Idealize.ShloMosaic.Lib.Pipeline.FrameSuffix

@[expose] public section

set_option maxRecDepth 16384

noncomputable section

namespace Cert.KernelPIdeal.Val
open Idealize.ShloMosaic Idealize.ShloMosaic.TcCoe Idealize.ShloMosaic.Tactic Idealize.SL.Sem Cert.KernelPIdeal Cert.KernelPIdeal.Gen
open Cert.AttnGrad Cert.NormGrad
open Cert.KernelAIdeal.Val (unspread_ladder)
open scoped BigOperators

/-! ## The stages -/

section
variable (p : FVec Ideal S8192x3328 .bf16)

/-- The queries' columns, each head's lanes back in the order of its features, -/
def outQ : FVec Ideal S1x8192x512 .f32 :=
  let x : FVec Ideal S8192x8x128 .f32 := extf .f32 (shapeCast S8192x8x128 (extractStridedSlice S8192x1024 ![0, 0] p slices_S8192x3328_S8192x1024_0_0)
    shapeCasts_S8192x1024_S8192x8x128 : FVec Ideal S8192x8x128 .bf16) bitsLt_bf16_f32
  shapeCast S1x8192x512 (concatenate S8192x8x64 2
    [⟨S8192x8x16, extractStridedSlice S8192x8x16 ![0, 0, 0] x slices_S8192x8x128_S8192x8x16_0_0_0⟩,
      ⟨S8192x8x16, extractStridedSlice S8192x8x16 ![0, 0, 64] x slices_S8192x8x128_S8192x8x16_0_0_64⟩,
      ⟨S8192x8x16, extractStridedSlice S8192x8x16 ![0, 0, 16] x slices_S8192x8x128_S8192x8x16_0_0_16⟩,
      ⟨S8192x8x16, extractStridedSlice S8192x8x16 ![0, 0, 80] x slices_S8192x8x128_S8192x8x16_0_0_80⟩]
    concatenates_S8192x8x16_S8192x8x16_S8192x8x16_S8192x8x16_S8192x8x64_d2) shapeCasts_S8192x8x64_S1x8192x512
/-- the keys' columns, -/
def outK : FVec Ideal S1x8192x128 .f32 :=
  let x : FVec Ideal S8192x2x128 .f32 := extf .f32 (shapeCast S8192x2x128 (extractStridedSlice S8192x256 ![0, 1024] p slices_S8192x3328_S8192x256_0_1024)
    shapeCasts_S8192x256_S8192x2x128 : FVec Ideal S8192x2x128 .bf16) bitsLt_bf16_f32
  shapeCast S1x8192x128 (concatenate S8192x2x64 2
    [⟨S8192x2x16, extractStridedSlice S8192x2x16 ![0, 0, 0] x slices_S8192x2x128_S8192x2x16_0_0_0⟩,
      ⟨S8192x2x16, extractStridedSlice S8192x2x16 ![0, 0, 64] x slices_S8192x2x128_S8192x2x16_0_0_64⟩,
      ⟨S8192x2x16, extractStridedSlice S8192x2x16 ![0, 0, 16] x slices_S8192x2x128_S8192x2x16_0_0_16⟩,
      ⟨S8192x2x16, extractStridedSlice S8192x2x16 ![0, 0, 80] x slices_S8192x2x128_S8192x2x16_0_0_80⟩]
    concatenates_S8192x2x16_S8192x2x16_S8192x2x16_S8192x2x16_S8192x2x64_d2) shapeCasts_S8192x2x64_S1x8192x128
/-- and the values'. -/
def outV : FVec Ideal S1x8192x128 .f32 :=
  shapeCast S1x8192x128 (extractStridedSlice S8192x2x64 ![0, 0, 0] (extf .f32 (shapeCast S8192x2x128 (extractStridedSlice S8192x256 ![0, 1280] p
    slices_S8192x3328_S8192x256_0_1280) shapeCasts_S8192x256_S8192x2x128 : FVec Ideal S8192x2x128 .bf16) bitsLt_bf16_f32 : FVec Ideal S8192x2x128 .f32)
    slices_S8192x2x128_S8192x2x64_0_0_0) shapeCasts_S8192x2x64_S1x8192x128

/-- A lane of a query head, of a key head and of a value head as the slices count it. -/
theorem lane_q (h : Fin 8) (l : Fin 128) : projCol ⟨h.val, by omega⟩ l = ⟨h.val * 128 + l.val, by omega⟩ :=
  Fin.ext (show 128 * h.val + l.val = h.val * 128 + l.val by omega)
theorem lane_k (g : Fin 2) (l : Fin 128) : projCol ⟨8 + g.val, by omega⟩ l = ⟨1024 + (g.val * 128 + l.val), by omega⟩ :=
  Fin.ext (show 128 * (8 + g.val) + l.val = 1024 + (g.val * 128 + l.val) by omega)
theorem lane_v (g : Fin 2) (l : Fin 128) : projCol ⟨10 + g.val, by omega⟩ l = ⟨1280 + (g.val * 128 + l.val), by omega⟩ :=
  Fin.ext (show 128 * (10 + g.val) + l.val = 1280 + (g.val * 128 + l.val) by omega)

/-- The results at an index. -/
theorem outQ_apply (R : Fin 8192) (h : Fin 8) (j : Fin 64) : outQ p (ix3 0 R (colA h j)) = p (ix2 R (projCol ⟨h.val, by omega⟩ (laneA j))) := by
  rw [lane_q]
  refine Eq.trans ?_ (unspread_ladder (fun l => p (ix2 R ⟨h.val * 128 + l.val, by omega⟩)) j)
  unfold outQ colA
  pointwise

theorem outK_apply (R : Fin 8192) (g : Fin 2) (j : Fin 64) : outK p (ix3 0 R (colK g j)) = p (ix2 R (projCol ⟨8 + g.val, by omega⟩ (laneA j))) := by
  rw [lane_k]
  refine Eq.trans ?_ (unspread_ladder (fun l => p (ix2 R ⟨1024 + (g.val * 128 + l.val), by omega⟩)) j)
  unfold outK colK
  pointwise

theorem outV_apply (R : Fin 8192) (g : Fin 2) (j : Fin 64) : outV p (ix3 0 R (colK g j)) = p (ix2 R (projCol ⟨10 + g.val, by omega⟩ (laneV j))) := by
  rw [lane_v]
  unfold outV colK laneV
  pointwise
end

/-- The gains' gradients, the first 64 lanes of their rows. -/
def outGQ (x : FVec Ideal S16x1024 .f32) : FVec Ideal S1x64 .f32 := extractStridedSlice S1x64 ![1, 0] x slices_S16x1024_S1x64_1_0
def outGK (x : FVec Ideal S16x1024 .f32) : FVec Ideal S1x64 .f32 := extractStridedSlice S1x64 ![2, 0] x slices_S16x1024_S1x64_2_0

theorem outGQ_apply (x : FVec Ideal S16x1024 .f32) (j : Fin 64) : outGQ x (ix2 0 j) = smallQ (F := Ideal) x (ix2 0 (featLane j)) := by
  unfold outGQ smallQ featLane
  pointwise
theorem outGK_apply (x : FVec Ideal S16x1024 .f32) (j : Fin 64) : outGK x (ix2 0 j) = smallK (F := Ideal) x (ix2 0 (featLane j)) := by
  unfold outGK smallK featLane
  pointwise

/-! ## The lines after the grid -/

section
variable (W : Valuation τ sig (Elt Ideal))

/-- The lines in two runs. -/
theorem tail_split (n : ℕ) : StableHlo.after hostOps1 W = StableHlo.after (List.drop n hostOps1) (StableHlo.after (List.take n hostOps1) W) := by
  rw [← after_append, List.take_append_drop]

theorem tail_q : StableHlo.after hostOps1 W main_v237 = outQ (W main_v228_1) := by
  rw [tail_split W 7]
  generalize hW : StableHlo.after (List.take 7 hostOps1) W = W'
  simp only [List.drop_succ_cons, List.drop_zero]
  entry_read
  simp only [Matrix.cons_val]
  subst hW
  simp only [List.take_succ_cons, List.take_zero]
  entry_read
  rfl

theorem tail_k : StableHlo.after hostOps1 W main_v246 = outK (W main_v228_1) := by
  rw [tail_split W 16]
  generalize hW : StableHlo.after (List.take 16 hostOps1) W = W'
  simp only [List.drop_succ_cons, List.drop_zero]
  entry_read
  simp only [Matrix.cons_val]
  subst hW
  simp only [List.take_succ_cons, List.take_zero]
  entry_read
  rfl

theorem tail_v : StableHlo.after hostOps1 W main_v251 = outV (W main_v228_1) := by
  entry_read
  rfl

theorem tail_gains : StableHlo.after hostOps1 W main_v252 = outGQ (W main_v228_4) ∧ StableHlo.after hostOps1 W main_v253 = outGK (W main_v228_4) := by
  constructor <;> (entry_read; rfl)
end

/-! ## The run -/

variable (m : (ℓ : Loc nD τ sig) → Buf (Elt Ideal) ℓ) (ρ : Dev nD → PrngReg) (c : Dev nD)

/-- Each array after the grid, -/
theorem after_arr (w : Fin cfg0.W) : Pipeline.withArrays (cfgs 0).spec c (V0 m c) (fun w => (dats m 0 c).arrAt w (cfgs 0).N)
    (Proc.devRef .tc (Pipeline.arrRef (cfgs 0).spec w)) = (dats m 0 c).arrAt w (cfgs 0).N :=
  Pipeline.withArrays_arr _ launch0.win.arr_inj c _ _ w

/-- and the five results after the run. -/
theorem run_values : θ_run defs (onTc (τ := τ) (main (F := Ideal))) ⟨m, fun _ => 0, ρ⟩ (fun r => ∀ c : Dev nD,
      r.2.mem ((c.tc : Thread nD τ).loc main_v237) = outQ (projArr m c)
      ∧ r.2.mem ((c.tc : Thread nD τ).loc main_v246) = outK (projArr m c)
      ∧ r.2.mem ((c.tc : Thread nD τ).loc main_v251) = outV (projArr m c)
      ∧ r.2.mem ((c.tc : Thread nD τ).loc main_v252) = outGQ (smallArr m c)
      ∧ r.2.mem ((c.tc : Thread nD τ).loc main_v253) = outGK (smallArr m c)) := by
  refine (θ_run defs _ _).mono (fun r h c => ?_) (run_main m ρ)
  refine ⟨((h c).2 main_v237 (by decide)).trans ?_, ((h c).2 main_v246 (by decide)).trans ?_, ((h c).2 main_v251 (by decide)).trans ?_,
    ((h c).2 main_v252 (by decide)).trans ?_, ((h c).2 main_v253 (by decide)).trans ?_⟩
  all_goals
    unfold Pipeline.afterTail₀
    rw [List.flatten_cons, List.flatten_nil, List.append_nil]
  · exact (tail_q _).trans (congrArg outQ ((after_arr m c 40).trans (final_proj m c)))
  · exact (tail_k _).trans (congrArg outK ((after_arr m c 40).trans (final_proj m c)))
  · exact (tail_v _).trans (congrArg outV ((after_arr m c 40).trans (final_proj m c)))
  · exact (tail_gains _).1.trans (congrArg outGQ (after_arr m c 43))
  · exact (tail_gains _).2.trans (congrArg outGK (after_arr m c 43))

end Cert.KernelPIdeal.Val

end
-- ==== Proof.RefP.lean ====
/- What the reference of the projections' norms and rotations computes for mixer A: its stages as terms of the arguments, and each as a real. -/
module

public import proofs.«01_k».proof.Proof.Gen.ReferencePIdeal.Run
public import proofs.«01_k».proof.Proof.NormReal
public import proofs.«01_k».proof.Proof.Angles

@[expose] public section

set_option maxRecDepth 16384

noncomputable section

namespace Cert.ReferencePIdeal.Val
open Idealize.ShloMosaic Idealize.ShloMosaic.TcCoe Idealize.ShloMosaic.Tactic Idealize.SL.Sem Cert.ReferencePIdeal Cert.ReferencePIdeal.Gen
open Cert.AttnGrad Cert.NormGrad
open Cert.ReferencePIdeal.Value
open Idealize.ShloMosaic.StableHlo (launchContents)
open scoped BigOperators

/-! ## The angles -/

variable (W : Valuation τ sig (Elt Ideal)) (s : Fin 8192)

theorem waves_apply (i : Fin 16) : (res_main_v17 W : FVec Ideal S16 .f32) (ix1 i) = wave i := by
  unfold wave num
  rw [ofBits_zero, zero_add]
  unfold res_main_v17
  pointwise
  rfl

theorem rows_apply (i : Fin 16) : (res_main_v22 W : FVec Ideal S8192x16 .f32) (ix2 s i) = num (s.val / 64) * wave i := by
  rw [← waves_apply W]
  unfold res_main_v22
  generalize res_main_v17 W = w
  pointwise
  rfl

theorem cols_apply (i : Fin 16) : (res_main_v27 W : FVec Ideal S8192x16 .f32) (ix2 s i) = num (s.val % 64) * wave i := by
  rw [← waves_apply W]
  unfold res_main_v27
  generalize res_main_v17 W = w
  pointwise
  rfl

/-- The rows' cosines and sines, and the columns'. -/
theorem turns_row (j : Fin 64) (h : j.val < 32) : (res_main_v28 W : FVec Ideal S8192x16 .f32) (ix2 s (pairOf j)) = ((cosT s j : ℝ) : EReal)
    ∧ (res_main_v29 W : FVec Ideal S8192x16 .f32) (ix2 s (pairOf j)) = ((sinT s j : ℝ) : EReal) := by
  rw [← cos_angle, ← sin_angle, angle, if_pos h, ← rows_apply W]
  exact ⟨rfl, rfl⟩
theorem turns_col (j : Fin 64) (h : ¬ j.val < 32) : (res_main_v30 W : FVec Ideal S8192x16 .f32) (ix2 s (pairOf j)) = ((cosT s j : ℝ) : EReal)
    ∧ (res_main_v31 W : FVec Ideal S8192x16 .f32) (ix2 s (pairOf j)) = ((sinT s j : ℝ) : EReal) := by
  rw [← cos_angle, ← sin_angle, angle, if_neg h, ← cols_apply W]
  exact ⟨rfl, rfl⟩

/-! ## The rotation undone -/

/-- Half a head's features turned back, as the reference writes it, -/
def turned (d : Fin 32 → EReal) (c n : Fin 16 → EReal) (i : Fin 32) : EReal :=
  if h : i.val < 16 then d ⟨16 + i.val, by omega⟩ * n ⟨i.val, h⟩ + d i * c ⟨i.val, h⟩
  else d ⟨16 + (i.val - 16), by omega⟩ * c ⟨i.val - 16, by omega⟩ + -d ⟨i.val - 16, by omega⟩ * n ⟨i.val - 16, by omega⟩
/-- a head, -/
def undone (d : Fin 64 → EReal) (c n c' n' : Fin 16 → EReal) (j : Fin 64) : EReal :=
  if h : j.val < 32 then turned (fun i => d ⟨i.val, by omega⟩) c n ⟨j.val, h⟩ else turned (fun i => d ⟨32 + i.val, by omega⟩) c' n' ⟨j.val - 32, by omega⟩

/-- and for finite numbers. -/
theorem undone_real {d : Fin 64 → EReal} {c n c' n' : Fin 16 → EReal} {D C N : Fin 64 → ℝ} (hd : ∀ j, d j = ((D j : ℝ) : EReal))
    (hc : ∀ j : Fin 64, j.val < 32 → c (pairOf j) = ((C j : ℝ) : EReal) ∧ n (pairOf j) = ((N j : ℝ) : EReal))
    (hc' : ∀ j : Fin 64, ¬ j.val < 32 → c' (pairOf j) = ((C j : ℝ) : EReal) ∧ n' (pairOf j) = ((N j : ℝ) : EReal)) (j : Fin 64) :
    undone d c n c' n' j = ((bR D C N j : ℝ) : EReal) := by
  have hj := j.isLt
  unfold undone turned bR sgn
  by_cases h : j.val < 32
  · obtain ⟨e, e'⟩ := hc j h
    rw [dif_pos h]
    by_cases h' : j.val < 16
    · have hp : (⟨j.val, h'⟩ : Fin 16) = pairOf j := Fin.ext (by unfold pairOf; simp only; omega)
      have hm : (⟨16 + j.val, by omega⟩ : Fin 64) = mate j := Fin.ext (by unfold mate; simp only; split_ifs <;> omega)
      simp only [dif_pos h']
      rw [if_pos (by omega), hp, hm, e, e', hd, hd, ← EReal.coe_mul, ← EReal.coe_mul, ← EReal.coe_add]
      exact congrArg _ (by ring)
    · have hp : (⟨j.val - 16, by omega⟩ : Fin 16) = pairOf j := Fin.ext (by unfold pairOf; simp only; omega)
      have hm : (⟨j.val - 16, by omega⟩ : Fin 64) = mate j := Fin.ext (by unfold mate; simp only; split_ifs <;> omega)
      have hs : (⟨16 + (j.val - 16), by omega⟩ : Fin 64) = j := Fin.ext (by simp only; omega)
      simp only [dif_neg h']
      rw [if_neg (by omega), hp, hm, hs, e, e', hd, hd, ← EReal.coe_neg, ← EReal.coe_mul, ← EReal.coe_mul, ← EReal.coe_add]
      exact congrArg _ (by ring)
  · obtain ⟨e, e'⟩ := hc' j h
    rw [dif_neg h]
    by_cases h' : j.val - 32 < 16
    · have hp : (⟨j.val - 32, h'⟩ : Fin 16) = pairOf j := Fin.ext (by unfold pairOf; simp only; omega)
      have hm : (⟨32 + (16 + (j.val - 32)), by omega⟩ : Fin 64) = mate j := Fin.ext (by unfold mate; simp only; split_ifs <;> omega)
      have hs : (⟨32 + (j.val - 32), by omega⟩ : Fin 64) = j := Fin.ext (by simp only; omega)
      simp only [dif_pos h']
      rw [if_pos (by omega), hp, hm, hs, e, e', hd, hd, ← EReal.coe_mul, ← EReal.coe_mul, ← EReal.coe_add]
      exact congrArg _ (by ring)
    · have hp : (⟨j.val - 32 - 16, by omega⟩ : Fin 16) = pairOf j := Fin.ext (by unfold pairOf; simp only; omega)
      have hm : (⟨32 + (j.val - 32 - 16), by omega⟩ : Fin 64) = mate j := Fin.ext (by unfold mate; simp only; split_ifs <;> omega)
      have hs : (⟨32 + (16 + (j.val - 32 - 16)), by omega⟩ : Fin 64) = j := Fin.ext (by simp only; omega)
      simp only [dif_neg h']
      rw [if_neg (by omega), hp, hm, hs, e, e', hd, hd, ← EReal.coe_neg, ← EReal.coe_mul, ← EReal.coe_mul, ← EReal.coe_add]
      exact congrArg _ (by ring)

/-! ## The norm's gradient -/

/-- The mean square, as the reference writes it, -/
def mean (x : Fin 64 → EReal) : EReal := Ideal.div (∑ j, x j * x j) (Ideal.ofBits .f32 0x42800000#32) + Ideal.ofBits .f32 0x358637BD#32
/-- what the mean square's gradient gives a feature, once more times the feature, -/
def pull (u x : Fin 64 → EReal) : EReal :=
  Ideal.div ((∑ j, x j * u j) * (Ideal.ofBits .f32 0xBF000000#32 * Ideal.div (Ideal.rsqrt (mean x)) (mean x))) (Ideal.ofBits .f32 0x42800000#32)
def normIn (u x : Fin 64 → EReal) (j : Fin 64) : EReal := u j * Ideal.rsqrt (mean x) + x j * pull u x + pull u x * x j

theorem ofBits_64 : Ideal.ofBits .f32 0x42800000#32 = ((64 : ℝ) : EReal) := by
  simp [Ideal.ofBits, Ideal.ieee, -EReal.coe_mul]; norm_num
theorem ofBits_mhalf : Ideal.ofBits .f32 0xBF000000#32 = ((-(1 / 2) : ℝ) : EReal) := by
  simp [Ideal.ofBits, Ideal.ieee, -EReal.coe_mul]; norm_num

section
variable {u x : Fin 64 → EReal} {U X : Fin 64 → ℝ} (hu : ∀ j, u j = ((U j : ℝ) : EReal)) (hx : ∀ j, x j = ((X j : ℝ) : EReal))
include hx

theorem mean_real : mean x = ((meanR X : ℝ) : EReal) := by
  unfold mean meanR
  simp only [hx, ← EReal.coe_mul]
  rw [coe_sum, ofBits_64, ofBits_eps, div_real _ _ (by norm_num), ← EReal.coe_add]
  exact congrArg _ (by ring)

include hu
/-- and for finite numbers. -/
theorem normIn_real (j : Fin 64) : normIn u x j = ((dR U X j : ℝ) : EReal) := by
  have hr : rateR X * rateR X = (meanR X)⁻¹ := by
    unfold rateR
    rw [← mul_inv, Real.mul_self_sqrt (meanR_pos X).le]
  unfold normIn pull
  rw [mean_real hx, rsqrt_mean]
  simp only [hx, hu, ← EReal.coe_mul]
  rw [coe_sum, ofBits_64, ofBits_mhalf, div_real _ _ (meanR_pos X).ne', ← EReal.coe_mul, ← EReal.coe_mul, div_real _ _ (by norm_num)]
  simp only [← EReal.coe_mul, ← EReal.coe_add]
  refine congrArg _ ?_
  unfold dR
  have hs : ∑ i, X i * U i = ∑ i, U i * X i := Finset.sum_congr rfl fun i _ => mul_comm _ _
  rw [div_eq_mul_inv (rateR X) (meanR X), ← hr, hs]
  ring
end

/-! ## Sums over two axes -/

/-- Over the first and the last of four, one long each, -/
theorem sum_ends {a b : ℕ} (h : (⟨4, ![1, a, b, 1]⟩ : Shape).ReducesTo [0, 3] ⟨2, ![a, b]⟩) (v : (⟨4, ![1, a, b, 1]⟩ : Shape).Idx → EReal)
    (o : EReal) (i : Fin a) (j : Fin b) : Ideal.hostReduceAdd h v o (ix2 i j) = o + v (ix4 0 i j 0) := by
  refine congrArg (o + ·) ((Finset.sum_filter_eq_sum_of_fiber _ (fun _ : Fin 1 => ix4 0 i j 0) (fun x y _ => Subsingleton.elim x y) (fun x => ?_) v).trans
    (Fin.sum_univ_one _))
  constructor
  · intro e
    refine ⟨0, ?_⟩
    funext k
    apply Fin.ext
    match k with
    | ⟨0, _⟩ => exact (congrArg Fin.val (Subsingleton.elim (α := Fin 1) (x 0) 0)).symm
    | ⟨1, _⟩ => exact (congrArg Fin.val (congrFun e 0)).symm
    | ⟨2, _⟩ => exact (congrArg Fin.val (congrFun e 1)).symm
    | ⟨3, _⟩ => exact (congrArg Fin.val (Subsingleton.elim (α := Fin 1) (x 3) 0)).symm
  · rintro ⟨k, rfl⟩
    funext b
    apply Fin.ext
    match b with
    | ⟨0, _⟩ => rfl
    | ⟨1, _⟩ => rfl

/-- and over the first and the third of five. -/
theorem sum_third {a k b c : ℕ} (h : (⟨5, ![1, a, k, b, c]⟩ : Shape).ReducesTo [0, 2] ⟨3, ![a, b, c]⟩)
    (v : (⟨5, ![1, a, k, b, c]⟩ : Shape).Idx → EReal) (o : EReal) (i : Fin a) (j : Fin b) (l : Fin c) :
    Ideal.hostReduceAdd h v o (ix3 i j l) = o + ∑ n, v (ix5 0 i n j l) := by
  refine congrArg (o + ·) (Finset.sum_filter_eq_sum_of_fiber _ (fun n : Fin k => (ix5 0 i n j l : (⟨5, ![1, a, k, b, c]⟩ : Shape).Idx)) (fun x y e => congrFun e 2) (fun x => ?_) v)
  constructor
  · intro e
    refine ⟨x 2, ?_⟩
    funext n
    apply Fin.ext
    match n with
    | ⟨0, _⟩ => exact (congrArg Fin.val (Subsingleton.elim (α := Fin 1) (x 0) 0)).symm
    | ⟨1, _⟩ => exact (congrArg Fin.val (congrFun e 0)).symm
    | ⟨2, _⟩ => rfl
    | ⟨3, _⟩ => exact (congrArg Fin.val (congrFun e 1)).symm
    | ⟨4, _⟩ => exact (congrArg Fin.val (congrFun e 2)).symm
  · rintro ⟨k, rfl⟩
    funext b
    apply Fin.ext
    match b with
    | ⟨0, _⟩ => rfl
    | ⟨1, _⟩ => rfl
    | ⟨2, _⟩ => rfl

/-! ## The queries' stages -/

def four (x : FVec Ideal S8192x16 .f32) : FVec Ideal S1x1x8192x16 .f32 := broadcastInDim S1x1x8192x16 ![2, 3] bcast_S8192x16_S1x1x8192x16_2_3 x
def gain4 (g : FVec Ideal S1x64 .f32) : FVec Ideal S1x1x1x64 .f32 :=
  broadcastInDim S1x1x1x64 ![3] bcast_S64_S1x1x1x64_3 (shapeCast S64 g shapeCasts_S1x64_S64)

section
variable (c n c' n' : FVec Ideal S8192x16 .f32)

def half8 (d : FVec Ideal S1x8x8192x32 .f32) (c n : FVec Ideal S8192x16 .f32) : FVec Ideal S1x8x8192x32 .f32 :=
  let d1 : FVec Ideal S1x8x8192x16 .f32 := extractStridedSlice S1x8x8192x16 ![0, 0, 0, 0] d slices_S1x8x8192x32_S1x8x8192x16_0_0_0_0
  let d2 : FVec Ideal S1x8x8192x16 .f32 := extractStridedSlice S1x8x8192x16 ![0, 0, 0, 16] d slices_S1x8x8192x32_S1x8x8192x16_0_0_0_16
  let C : FVec Ideal S1x8x8192x16 .f32 := broadcastInDim S1x8x8192x16 ![0, 1, 2, 3] bcast_S1x1x8192x16_S1x8x8192x16_0_1_2_3 (four c)
  let N : FVec Ideal S1x8x8192x16 .f32 := broadcastInDim S1x8x8192x16 ![0, 1, 2, 3] bcast_S1x1x8192x16_S1x8x8192x16_0_1_2_3 (four n)
  concatenate S1x8x8192x32 3 [⟨S1x8x8192x16, addf (mulf d2 N) (mulf d1 C)⟩, ⟨S1x8x8192x16, addf (mulf d2 C) (mulf (Host.negf d1) N)⟩]
    concatenates_S1x8x8192x16_S1x8x8192x16_S1x8x8192x32_d3
def undo8 (d : FVec Ideal S1x8x8192x64 .f32) : FVec Ideal S1x8x8192x64 .f32 :=
  concatenate S1x8x8192x64 3 [⟨S1x8x8192x32, half8 (extractStridedSlice S1x8x8192x32 ![0, 0, 0, 0] d slices_S1x8x8192x64_S1x8x8192x32_0_0_0_0) c n⟩,
    ⟨S1x8x8192x32, half8 (extractStridedSlice S1x8x8192x32 ![0, 0, 0, 32] d slices_S1x8x8192x64_S1x8x8192x32_0_0_0_32) c' n'⟩]
    concatenates_S1x8x8192x32_S1x8x8192x32_S1x8x8192x64_d3

theorem half8_apply (d : FVec Ideal S1x8x8192x32 .f32) (h : Fin 8) (i : Fin 32) :
    half8 d c n (ix4 0 h s i) = turned (fun i => d (ix4 0 h s i)) (fun i => c (ix2 s i)) (fun i => n (ix2 s i)) i := by
  unfold half8 four turned
  pointwise

theorem undo8_apply (d : FVec Ideal S1x8x8192x64 .f32) (h : Fin 8) (j : Fin 64) : undo8 c n c' n' d (ix4 0 h s j) =
    undone (fun j => d (ix4 0 h s j)) (fun i => c (ix2 s i)) (fun i => n (ix2 s i)) (fun i => c' (ix2 s i)) (fun i => n' (ix2 s i)) j := by
  have e : ∀ (f : FVec Ideal S1x8x8192x32 .f32 → FVec Ideal S8192x16 .f32 → FVec Ideal S8192x16 .f32 → FVec Ideal S1x8x8192x32 .f32) (hf : half8 = f),
      undo8 c n c' n' d (ix4 0 h s j) = if hj : j.val < 32 then
        f (extractStridedSlice S1x8x8192x32 ![0, 0, 0, 0] d slices_S1x8x8192x64_S1x8x8192x32_0_0_0_0) c n (ix4 0 h s ⟨j.val, hj⟩) else
        f (extractStridedSlice S1x8x8192x32 ![0, 0, 0, 32] d slices_S1x8x8192x64_S1x8x8192x32_0_0_0_32) c' n' (ix4 0 h s ⟨j.val - 32, by omega⟩) := by
    intro f hf
    unfold undo8
    rw [hf]
    pointwise
  rw [e _ rfl]
  simp only [half8_apply]
  unfold undone
  split_ifs
  · congr 1
    funext i
    pointwise
  · congr 1
    funext i
    pointwise
end

section
variable (x u : FVec Ideal S1x8x8192x64 .f32) (r v : FVec Ideal S1x8x8192x1 .f32) (h : Fin 8) (j : Fin 64)

def mean8 : FVec Ideal S1x8x8192x1 .f32 :=
  addf (Host.divf (broadcastInDim S1x8x8192x1 ![0, 1, 2] bcast_S1x8x8192_S1x8x8192x1_0_1_2 (Host.reduceAdd (mulf x x) (constant S_ .f32 0x00000000#32)
    reducesTo_S1x8x8192x64_S1x8x8192_d3 h_S_)) (broadcastInDim S1x8x8192x1 ![] bcast_S_S1x8x8192x1 (constant S_ .f32 0x42800000#32)))
    (broadcastInDim S1x8x8192x1 ![] bcast_S_S1x8x8192x1 (constant S_ .f32 0x358637BD#32))
def dot8 : FVec Ideal S1x8x8192 .f32 := Host.reduceAdd (mulf x u) (constant S_ .f32 0x00000000#32) reducesTo_S1x8x8192x64_S1x8x8192_d3 h_S_
def pull8 (d : FVec Ideal S1x8x8192 .f32) : FVec Ideal S1x8x8192x64 .f32 :=
  broadcastInDim S1x8x8192x64 ![0, 1, 2] bcast_S1x8x8192_S1x8x8192x64_0_1_2 (broadcastInDim S1x8x8192 ![1, 2] bcast_S8x8192_S1x8x8192_1_2
    (Host.reduceAdd (Host.divf (mulf (shapeCast S1x8x8192x1 d shapeCasts_S1x8x8192_S1x8x8192x1)
      (mulf (broadcastInDim S1x8x8192x1 ![] bcast_S_S1x8x8192x1 (constant S_ .f32 0xBF000000#32)) (Host.divf r v)))
      (broadcastInDim S1x8x8192x1 ![] bcast_S_S1x8x8192x1 (constant S_ .f32 0x42800000#32))) (constant S_ .f32 0x00000000#32)
      reducesTo_S1x8x8192x1_S8x8192_d0_3 h_S_))
def out8 (z : FVec Ideal S1x8x8192x64 .f32) : FVec Ideal S1x8192x512 .f32 :=
  shapeCast S1x8192x512 (transpose S1x8192x8x64 [0, 2, 1, 3] (addf (addf (mulf u (broadcastInDim S1x8x8192x64 ![0, 1, 2, 3]
    bcast_S1x8x8192x1_S1x8x8192x64_0_1_2_3 r)) (mulf x z)) (mulf z x)) transposes_S1x8x8192x64_S1x8192x8x64_0_2_1_3) shapeCasts_S1x8192x8x64_S1x8192x512

theorem mean8_apply : mean8 x (ix4 0 h s 0) = mean fun j => x (ix4 0 h s j) := by
  unfold mean8 mean
  pointwise
theorem dot8_apply : dot8 x u (ix3 0 h s) = ∑ j, x (ix4 0 h s j) * u (ix4 0 h s j) := by
  unfold dot8
  pointwise
theorem pull8_apply (d : FVec Ideal S1x8x8192 .f32) : pull8 r v d (ix4 0 h s j) =
    Ideal.div (d (ix3 0 h s) * (Ideal.ofBits .f32 0xBF000000#32 * Ideal.div (r (ix4 0 h s 0)) (v (ix4 0 h s 0)))) (Ideal.ofBits .f32 0x42800000#32) := by
  unfold pull8
  pointwise
  rw [sum_ends]
  pointwise
theorem out8_apply (z : FVec Ideal S1x8x8192x64 .f32) : out8 x u r z (ix3 0 s (colA h j)) =
    u (ix4 0 h s j) * r (ix4 0 h s 0) + x (ix4 0 h s j) * z (ix4 0 h s j) + z (ix4 0 h s j) * x (ix4 0 h s j) := by
  unfold out8 colA
  pointwise
end

section
variable (q : FVec Ideal S1x8192x512 .f32) (g : FVec Ideal S1x64 .f32) (d : FVec Ideal S1x8x8192x64 .f32) (h : Fin 8) (j : Fin 64)
def heads8 : FVec Ideal S1x8x8192x64 .f32 :=
  transpose S1x8x8192x64 [0, 2, 1, 3] (shapeCast S1x8192x8x64 q shapeCasts_S1x8192x512_S1x8192x8x64) transposes_S1x8192x8x64_S1x8x8192x64_0_2_1_3
def weigh8 : FVec Ideal S1x8x8192x64 .f32 := mulf d (broadcastInDim S1x8x8192x64 ![0, 1, 2, 3] bcast_S1x1x1x64_S1x8x8192x64_0_1_2_3 (gain4 g))
theorem heads8_apply : heads8 q (ix4 0 h s j) = q (ix3 0 s (colA h j)) := by
  unfold heads8 colA
  pointwise
theorem weigh8_apply : weigh8 g d (ix4 0 h s j) = d (ix4 0 h s j) * g (ix2 0 j) := by
  unfold weigh8 gain4
  pointwise
end

section
variable (q : FVec Ideal S1x8192x512 .f32) (g : FVec Ideal S1x64 .f32) (d : FVec Ideal S1x8x8192x64 .f32)
/-- What flows back to the norm, times the gain, -/
def flow8 : FVec Ideal S1x8x8192x64 .f32 := weigh8 g (undo8 (res_main_v28 W) (res_main_v29 W) (res_main_v30 W) (res_main_v31 W) d)
/-- and the result. -/
def grad8 : FVec Ideal S1x8192x512 .f32 :=
  out8 (heads8 q) (flow8 W g d) (Host.rsqrt (mean8 (heads8 q)))
    (pull8 (Host.rsqrt (mean8 (heads8 q))) (mean8 (heads8 q)) (dot8 (heads8 q) (flow8 W g d)))

theorem grad8_apply (h : Fin 8) (j : Fin 64) : grad8 W q g d (ix3 0 s (colA h j)) =
    normIn (fun j => flow8 W g d (ix4 0 h s j)) (fun j => heads8 q (ix4 0 h s j)) j := by
  have e : Host.rsqrt (mean8 (heads8 q)) (ix4 0 h s 0) = Ideal.rsqrt (mean8 (heads8 q) (ix4 0 h s 0)) := rfl
  unfold grad8 normIn pull
  rw [out8_apply, pull8_apply, dot8_apply, e, mean8_apply]

/-- The result for finite numbers. -/
theorem grad8_real {Q D : Fin 64 → ℝ} {G : Fin 64 → ℝ} (h : Fin 8) (hq : ∀ j, q (ix3 0 s (colA h j)) = ((Q j : ℝ) : EReal))
    (hd : ∀ j, d (ix4 0 h s j) = ((D j : ℝ) : EReal)) (hg : ∀ j, g (ix2 0 j) = ((G j : ℝ) : EReal)) (j : Fin 64) :
    grad8 W q g d (ix3 0 s (colA h j)) = ((dR (fun i => bR D (cosT s) (sinT s) i * G i) Q j : ℝ) : EReal) := by
  rw [grad8_apply]
  refine normIn_real (fun j => ?_) (fun j => ?_) j
  · unfold flow8
    rw [weigh8_apply, undo8_apply, undone_real hd (turns_row W s) (turns_col W s), hg, ← EReal.coe_mul]
  · rw [heads8_apply, hq]
end

/-! ## The keys' stages -/

section
variable (c n c' n' : FVec Ideal S8192x16 .f32)

def half2 (d : FVec Ideal S1x2x8192x32 .f32) (c n : FVec Ideal S8192x16 .f32) : FVec Ideal S1x2x8192x32 .f32 :=
  let d1 : FVec Ideal S1x2x8192x16 .f32 := extractStridedSlice S1x2x8192x16 ![0, 0, 0, 0] d slices_S1x2x8192x32_S1x2x8192x16_0_0_0_0
  let d2 : FVec Ideal S1x2x8192x16 .f32 := extractStridedSlice S1x2x8192x16 ![0, 0, 0, 16] d slices_S1x2x8192x32_S1x2x8192x16_0_0_0_16
  let C : FVec Ideal S1x2x8192x16 .f32 := broadcastInDim S1x2x8192x16 ![0, 1, 2, 3] bcast_S1x1x8192x16_S1x2x8192x16_0_1_2_3 (four c)
  let N : FVec Ideal S1x2x8192x16 .f32 := broadcastInDim S1x2x8192x16 ![0, 1, 2, 3] bcast_S1x1x8192x16_S1x2x8192x16_0_1_2_3 (four n)
  concatenate S1x2x8192x32 3 [⟨S1x2x8192x16, addf (mulf d2 N) (mulf d1 C)⟩, ⟨S1x2x8192x16, addf (mulf d2 C) (mulf (Host.negf d1) N)⟩]
    concatenates_S1x2x8192x16_S1x2x8192x16_S1x2x8192x32_d3
def undo2 (d : FVec Ideal S1x2x8192x64 .f32) : FVec Ideal S1x2x8192x64 .f32 :=
  concatenate S1x2x8192x64 3 [⟨S1x2x8192x32, half2 (extractStridedSlice S1x2x8192x32 ![0, 0, 0, 0] d slices_S1x2x8192x64_S1x2x8192x32_0_0_0_0) c n⟩,
    ⟨S1x2x8192x32, half2 (extractStridedSlice S1x2x8192x32 ![0, 0, 0, 32] d slices_S1x2x8192x64_S1x2x8192x32_0_0_0_32) c' n'⟩]
    concatenates_S1x2x8192x32_S1x2x8192x32_S1x2x8192x64_d3

theorem half2_apply (d : FVec Ideal S1x2x8192x32 .f32) (h : Fin 2) (i : Fin 32) :
    half2 d c n (ix4 0 h s i) = turned (fun i => d (ix4 0 h s i)) (fun i => c (ix2 s i)) (fun i => n (ix2 s i)) i := by
  unfold half2 four turned
  pointwise

theorem undo2_apply (d : FVec Ideal S1x2x8192x64 .f32) (h : Fin 2) (j : Fin 64) : undo2 c n c' n' d (ix4 0 h s j) =
    undone (fun j => d (ix4 0 h s j)) (fun i => c (ix2 s i)) (fun i => n (ix2 s i)) (fun i => c' (ix2 s i)) (fun i => n' (ix2 s i)) j := by
  have e : ∀ (f : FVec Ideal S1x2x8192x32 .f32 → FVec Ideal S8192x16 .f32 → FVec Ideal S8192x16 .f32 → FVec Ideal S1x2x8192x32 .f32) (hf : half2 = f),
      undo2 c n c' n' d (ix4 0 h s j) = if hj : j.val < 32 then
        f (extractStridedSlice S1x2x8192x32 ![0, 0, 0, 0] d slices_S1x2x8192x64_S1x2x8192x32_0_0_0_0) c n (ix4 0 h s ⟨j.val, hj⟩) else
        f (extractStridedSlice S1x2x8192x32 ![0, 0, 0, 32] d slices_S1x2x8192x64_S1x2x8192x32_0_0_0_32) c' n' (ix4 0 h s ⟨j.val - 32, by omega⟩) := by
    intro f hf
    unfold undo2
    rw [hf]
    pointwise
  rw [e _ rfl]
  simp only [half2_apply]
  unfold undone
  split_ifs
  · congr 1
    funext i
    pointwise
  · congr 1
    funext i
    pointwise
end

section
variable (x u : FVec Ideal S1x2x8192x64 .f32) (r v : FVec Ideal S1x2x8192x1 .f32) (h : Fin 2) (j : Fin 64)

def mean2 : FVec Ideal S1x2x8192x1 .f32 :=
  addf (Host.divf (broadcastInDim S1x2x8192x1 ![0, 1, 2] bcast_S1x2x8192_S1x2x8192x1_0_1_2 (Host.reduceAdd (mulf x x) (constant S_ .f32 0x00000000#32)
    reducesTo_S1x2x8192x64_S1x2x8192_d3 h_S_)) (broadcastInDim S1x2x8192x1 ![] bcast_S_S1x2x8192x1 (constant S_ .f32 0x42800000#32)))
    (broadcastInDim S1x2x8192x1 ![] bcast_S_S1x2x8192x1 (constant S_ .f32 0x358637BD#32))
def dot2 : FVec Ideal S1x2x8192 .f32 := Host.reduceAdd (mulf x u) (constant S_ .f32 0x00000000#32) reducesTo_S1x2x8192x64_S1x2x8192_d3 h_S_
def pull2 (d : FVec Ideal S1x2x8192 .f32) : FVec Ideal S1x2x8192x64 .f32 :=
  broadcastInDim S1x2x8192x64 ![0, 1, 2] bcast_S1x2x8192_S1x2x8192x64_0_1_2 (broadcastInDim S1x2x8192 ![1, 2] bcast_S2x8192_S1x2x8192_1_2
    (Host.reduceAdd (Host.divf (mulf (shapeCast S1x2x8192x1 d shapeCasts_S1x2x8192_S1x2x8192x1)
      (mulf (broadcastInDim S1x2x8192x1 ![] bcast_S_S1x2x8192x1 (constant S_ .f32 0xBF000000#32)) (Host.divf r v)))
      (broadcastInDim S1x2x8192x1 ![] bcast_S_S1x2x8192x1 (constant S_ .f32 0x42800000#32))) (constant S_ .f32 0x00000000#32)
      reducesTo_S1x2x8192x1_S2x8192_d0_3 h_S_))
def out2 (z : FVec Ideal S1x2x8192x64 .f32) : FVec Ideal S1x8192x128 .f32 :=
  shapeCast S1x8192x128 (transpose S1x8192x2x64 [0, 2, 1, 3] (addf (addf (mulf u (broadcastInDim S1x2x8192x64 ![0, 1, 2, 3]
    bcast_S1x2x8192x1_S1x2x8192x64_0_1_2_3 r)) (mulf x z)) (mulf z x)) transposes_S1x2x8192x64_S1x8192x2x64_0_2_1_3) shapeCasts_S1x8192x2x64_S1x8192x128

theorem mean2_apply : mean2 x (ix4 0 h s 0) = mean fun j => x (ix4 0 h s j) := by
  unfold mean2 mean
  pointwise
theorem dot2_apply : dot2 x u (ix3 0 h s) = ∑ j, x (ix4 0 h s j) * u (ix4 0 h s j) := by
  unfold dot2
  pointwise
theorem pull2_apply (d : FVec Ideal S1x2x8192 .f32) : pull2 r v d (ix4 0 h s j) =
    Ideal.div (d (ix3 0 h s) * (Ideal.ofBits .f32 0xBF000000#32 * Ideal.div (r (ix4 0 h s 0)) (v (ix4 0 h s 0)))) (Ideal.ofBits .f32 0x42800000#32) := by
  unfold pull2
  pointwise
  rw [sum_ends]
  pointwise
theorem out2_apply (z : FVec Ideal S1x2x8192x64 .f32) : out2 x u r z (ix3 0 s (colK h j)) =
    u (ix4 0 h s j) * r (ix4 0 h s 0) + x (ix4 0 h s j) * z (ix4 0 h s j) + z (ix4 0 h s j) * x (ix4 0 h s j) := by
  unfold out2 colK
  pointwise
end

section
variable (q : FVec Ideal S1x8192x128 .f32) (g : FVec Ideal S1x64 .f32) (d : FVec Ideal S1x2x8192x64 .f32) (h : Fin 2) (j : Fin 64)
def heads2 : FVec Ideal S1x2x8192x64 .f32 :=
  transpose S1x2x8192x64 [0, 2, 1, 3] (shapeCast S1x8192x2x64 q shapeCasts_S1x8192x128_S1x8192x2x64) transposes_S1x8192x2x64_S1x2x8192x64_0_2_1_3
def weigh2 : FVec Ideal S1x2x8192x64 .f32 := mulf d (broadcastInDim S1x2x8192x64 ![0, 1, 2, 3] bcast_S1x1x1x64_S1x2x8192x64_0_1_2_3 (gain4 g))
theorem heads2_apply : heads2 q (ix4 0 h s j) = q (ix3 0 s (colK h j)) := by
  unfold heads2 colK
  pointwise
theorem weigh2_apply : weigh2 g d (ix4 0 h s j) = d (ix4 0 h s j) * g (ix2 0 j) := by
  unfold weigh2 gain4
  pointwise
end

section
variable (q : FVec Ideal S1x8192x128 .f32) (g : FVec Ideal S1x64 .f32) (d : FVec Ideal S1x2x8192x64 .f32)
/-- What flows back to the norm, times the gain, -/
def flow2 : FVec Ideal S1x2x8192x64 .f32 := weigh2 g (undo2 (res_main_v28 W) (res_main_v29 W) (res_main_v30 W) (res_main_v31 W) d)
/-- and the result. -/
def grad2 : FVec Ideal S1x8192x128 .f32 :=
  out2 (heads2 q) (flow2 W g d) (Host.rsqrt (mean2 (heads2 q)))
    (pull2 (Host.rsqrt (mean2 (heads2 q))) (mean2 (heads2 q)) (dot2 (heads2 q) (flow2 W g d)))

theorem grad2_apply (h : Fin 2) (j : Fin 64) : grad2 W q g d (ix3 0 s (colK h j)) =
    normIn (fun j => flow2 W g d (ix4 0 h s j)) (fun j => heads2 q (ix4 0 h s j)) j := by
  have e : Host.rsqrt (mean2 (heads2 q)) (ix4 0 h s 0) = Ideal.rsqrt (mean2 (heads2 q) (ix4 0 h s 0)) := rfl
  unfold grad2 normIn pull
  rw [out2_apply, pull2_apply, dot2_apply, e, mean2_apply]

/-- The result for finite numbers. -/
theorem grad2_real {Q D : Fin 64 → ℝ} {G : Fin 64 → ℝ} (h : Fin 2) (hq : ∀ j, q (ix3 0 s (colK h j)) = ((Q j : ℝ) : EReal))
    (hd : ∀ j, d (ix4 0 h s j) = ((D j : ℝ) : EReal)) (hg : ∀ j, g (ix2 0 j) = ((G j : ℝ) : EReal)) (j : Fin 64) :
    grad2 W q g d (ix3 0 s (colK h j)) = ((dR (fun i => bR D (cosT s) (sinT s) i * G i) Q j : ℝ) : EReal) := by
  rw [grad2_apply]
  refine normIn_real (fun j => ?_) (fun j => ?_) j
  · unfold flow2
    rw [weigh2_apply, undo2_apply, undone_real hd (turns_row W s) (turns_col W s), hg, ← EReal.coe_mul]
  · rw [heads2_apply, hq]
end

/-! ## A group's heads added up -/

section
variable (d : FVec Ideal S1x8x8192x64 .f32)
def summed : FVec Ideal S1x2x8192x64 .f32 :=
  broadcastInDim S1x2x8192x64 ![1, 2, 3] bcast_S2x8192x64_S1x2x8192x64_1_2_3 (Host.reduceAdd
    (broadcastInDim S1x2x1x8192x64 ![1, 3, 4] bcast_S2x8192x64_S1x2x1x8192x64_1_3_4 (Host.reduceAdd
      (shapeCast S1x2x4x8192x64 d shapeCasts_S1x8x8192x64_S1x2x4x8192x64) (constant S_ .f32 0x00000000#32) reducesTo_S1x2x4x8192x64_S2x8192x64_d0_2 h_S_))
    (constant S_ .f32 0x00000000#32) reducesTo_S1x2x1x8192x64_S2x8192x64_d0_2 h_S_)
def outV : FVec Ideal S1x8192x128 .f32 :=
  shapeCast S1x8192x128 (transpose S1x8192x2x64 [0, 2, 1, 3] (summed d) transposes_S1x2x8192x64_S1x8192x2x64_0_2_1_3) shapeCasts_S1x8192x2x64_S1x8192x128

theorem summed_apply (g : Fin 2) (j : Fin 64) : summed d (ix4 0 g s j) = ∑ a, d (ix4 0 (headAt g a) s j) := by
  unfold summed headAt
  pointwise
  rw [sum_third, Fin.sum_univ_one]
  pointwise
  rw [sum_third]
  pointwise
theorem outV_apply (g : Fin 2) (j : Fin 64) : outV d (ix3 0 s (colK g j)) = ∑ a, d (ix4 0 (headAt g a) s j) := by
  rw [← summed_apply]
  unfold outV colK
  generalize summed d = x
  pointwise
end

/-! ## The run -/

section
variable (m : (ℓ : Loc nD τ sig) → Buf (Elt Ideal) ℓ) (c : Dev nD)
def argQ : FVec Ideal S1x8192x512 .f32 := m ((c.tc : Thread nD τ).loc main_arg0)
def argK : FVec Ideal S1x8192x128 .f32 := m ((c.tc : Thread nD τ).loc main_arg1)
def argGQ : FVec Ideal S1x64 .f32 := m ((c.tc : Thread nD τ).loc main_arg3)
def argGK : FVec Ideal S1x64 .f32 := m ((c.tc : Thread nD τ).loc main_arg4)
def argDQ : FVec Ideal S1x8x8192x64 .f32 := m ((c.tc : Thread nD τ).loc main_arg5)
def argDK : FVec Ideal S1x8x8192x64 .f32 := m ((c.tc : Thread nD τ).loc main_arg6)
def argDV : FVec Ideal S1x8x8192x64 .f32 := m ((c.tc : Thread nD τ).loc main_arg7)

theorem run_values (ρ : Dev nD → PrngReg) : θ_run defs (onTc (τ := τ) (main (F := Ideal))) ⟨m, fun _ => 0, ρ⟩ fun r => ∀ c : Dev nD,
      r.2.mem ((c.tc : Thread nD τ).loc main_v273) = grad8 (launchContents m c) (argQ m c) (argGQ m c) (argDQ m c)
      ∧ r.2.mem ((c.tc : Thread nD τ).loc main_v271) = grad2 (launchContents m c) (argK m c) (argGK m c) (summed (argDK m c))
      ∧ r.2.mem ((c.tc : Thread nD τ).loc main_v269) = outV (argDV m c) :=
  (θ_run defs _ _).mono (fun _ h c => ⟨(h c).1.trans rfl, (h c).2.1.trans rfl, (h c).2.2.1.trans rfl⟩) (Value.run m ρ)
end

end Cert.ReferencePIdeal.Val

end
-- ==== Proof.RefG.lean ====
/- The gains' gradients of the reference of mixer A's norms and rotations: sums over the heads and tokens. -/
module

public import proofs.«01_k».proof.Proof.RefP

@[expose] public section

set_option maxRecDepth 16384

noncomputable section

namespace Cert.ReferencePIdeal.Val
open Idealize.ShloMosaic Idealize.ShloMosaic.TcCoe Idealize.ShloMosaic.Tactic Idealize.SL.Sem Cert.ReferencePIdeal Cert.ReferencePIdeal.Gen
open Cert.AttnGrad Cert.NormGrad
open Cert.ReferencePIdeal.Value
open Idealize.ShloMosaic.StableHlo (launchContents)
open scoped BigOperators

/-- A sum over the two middle axes of four, -/
theorem sum_mid {a b n : ℕ} (h : (⟨4, ![1, a, b, n]⟩ : Shape).ReducesTo [1, 2] ⟨2, ![1, n]⟩) (v : (⟨4, ![1, a, b, n]⟩ : Shape).Idx → EReal)
    (o : EReal) (i : Fin 1) (j : Fin n) : Ideal.hostReduceAdd h v o (ix2 i j) = o + ∑ x, ∑ y, v (ix4 0 x y j) := by
  refine congrArg (o + ·) ((Finset.sum_filter_eq_sum_of_fiber _ (fun p : Fin a × Fin b => (ix4 0 p.1 p.2 j : (⟨4, ![1, a, b, n]⟩ : Shape).Idx))
    (fun x y e => Prod.ext (congrFun e 1) (congrFun e 2)) (fun x => ?_) v).trans (Fintype.sum_prod_type _))
  constructor
  · intro e
    refine ⟨(x 1, x 2), ?_⟩
    funext k
    apply Fin.ext
    match k with
    | ⟨0, _⟩ => exact (congrArg Fin.val (Subsingleton.elim (α := Fin 1) (x 0) 0)).symm
    | ⟨1, _⟩ => rfl
    | ⟨2, _⟩ => rfl
    | ⟨3, _⟩ => exact (congrArg Fin.val (congrFun e 1)).symm
  · rintro ⟨k, rfl⟩
    funext b
    apply Fin.ext
    match b with
    | ⟨0, _⟩ => exact congrArg Fin.val (Subsingleton.elim (α := Fin 1) 0 i)
    | ⟨1, _⟩ => rfl

/-- and over three of length one. -/
theorem sum_ones {n : ℕ} (h : (⟨4, ![1, 1, 1, n]⟩ : Shape).ReducesTo [0, 1, 2] ⟨1, ![n]⟩) (v : (⟨4, ![1, 1, 1, n]⟩ : Shape).Idx → EReal)
    (o : EReal) (j : Fin n) : Ideal.hostReduceAdd h v o (ix1 j) = o + v (ix4 0 0 0 j) := by
  refine congrArg (o + ·) ((Finset.sum_filter_eq_sum_of_fiber _ (fun _ : Fin 1 => (ix4 0 0 0 j : (⟨4, ![1, 1, 1, n]⟩ : Shape).Idx))
    (fun x y _ => Subsingleton.elim x y) (fun x => ?_) v).trans (Fin.sum_univ_one _))
  constructor
  · intro e
    refine ⟨0, ?_⟩
    funext k
    apply Fin.ext
    match k with
    | ⟨0, _⟩ => exact (congrArg Fin.val (Subsingleton.elim (α := Fin 1) (x 0) 0)).symm
    | ⟨1, _⟩ => exact (congrArg Fin.val (Subsingleton.elim (α := Fin 1) (x 1) 0)).symm
    | ⟨2, _⟩ => exact (congrArg Fin.val (Subsingleton.elim (α := Fin 1) (x 2) 0)).symm
    | ⟨3, _⟩ => exact (congrArg Fin.val (congrFun e 0)).symm
  · rintro ⟨k, rfl⟩
    funext b
    apply Fin.ext
    match b with
    | ⟨0, _⟩ => rfl

/-- A row of gains out of the sums. -/
def gainRow (x : FVec Ideal S1x64 .f32) : FVec Ideal S1x64 .f32 :=
  broadcastInDim S1x64 ![1] bcast_S64_S1x64_1 (Host.reduceAdd (shapeCast S1x1x1x64 x shapeCasts_S1x64_S1x1x1x64) (constant S_ .f32 0x00000000#32)
    reducesTo_S1x1x1x64_S64_d0_1_2 h_S_)

theorem gainRow_apply (x : FVec Ideal S1x64 .f32) (j : Fin 64) : gainRow x (ix2 0 j) = x (ix2 0 j) := by
  unfold gainRow
  pointwise
  rw [sum_ones]
  pointwise

variable (W : Valuation τ sig (Elt Ideal))

section
variable (q : FVec Ideal S1x8192x512 .f32) (d : FVec Ideal S1x8x8192x64 .f32)
/-- The normed queries before the gain, -/
def normed8 : FVec Ideal S1x8x8192x64 .f32 :=
  mulf (heads8 q) (broadcastInDim S1x8x8192x64 ![0, 1, 2, 3] bcast_S1x8x8192x1_S1x8x8192x64_0_1_2_3 (Host.rsqrt (mean8 (heads8 q))))
/-- and the gain's gradient. -/
def gains8 : FVec Ideal S1x64 .f32 :=
  gainRow (Host.reduceAdd (mulf (normed8 q) (undo8 (res_main_v28 W) (res_main_v29 W) (res_main_v30 W) (res_main_v31 W) d)) (constant S_ .f32 0x00000000#32)
    reducesTo_S1x8x8192x64_S1x64_d1_2 h_S_)

theorem normed8_apply (h : Fin 8) (s : Fin 8192) (j : Fin 64) : normed8 q (ix4 0 h s j) =
    heads8 q (ix4 0 h s j) * Ideal.rsqrt (mean fun j => heads8 q (ix4 0 h s j)) := by
  have e : Host.rsqrt (mean8 (heads8 q)) (ix4 0 h s 0) = Ideal.rsqrt (mean8 (heads8 q) (ix4 0 h s 0)) := rfl
  rw [← mean8_apply, ← e]
  unfold normed8
  generalize heads8 q = x
  generalize (Host.rsqrt (mean8 x) : FVec Ideal S1x8x8192x1 .f32) = r
  pointwise

/-- The result for finite numbers. -/
theorem gains8_real {Q D : Fin 8 → Fin 8192 → Fin 64 → ℝ} (hq : ∀ h s j, q (ix3 0 s (colA h j)) = ((Q h s j : ℝ) : EReal))
    (hd : ∀ h s j, d (ix4 0 h s j) = ((D h s j : ℝ) : EReal)) (j : Fin 64) :
    gains8 W q d (ix2 0 j) = ∑ h, ∑ s, ((bR (D h s) (cosT s) (sinT s) j * (Q h s j * rateR (Q h s)) : ℝ) : EReal) := by
  unfold gains8
  rw [gainRow_apply]
  refine (sum_mid _ _ _ 0 j).trans ((congrArg (· + _) Ideal.ofBits_zero_f32).trans ((zero_add _).trans ?_))
  refine Finset.sum_congr rfl fun h _ => Finset.sum_congr rfl fun s _ => ?_
  refine Eq.trans (b := normed8 q (ix4 0 h s j) * undo8 (res_main_v28 W) (res_main_v29 W) (res_main_v30 W) (res_main_v31 W) d (ix4 0 h s j)) rfl ?_
  rw [normed8_apply, undo8_apply, undone_real (hd h s) (turns_row W s) (turns_col W s)]
  simp only [heads8_apply, hq]
  rw [mean_real (X := Q h s) (fun _ => rfl), rsqrt_mean, ← EReal.coe_mul, ← EReal.coe_mul, mul_comm]
end

section
variable (k : FVec Ideal S1x8192x128 .f32) (d : FVec Ideal S1x2x8192x64 .f32)
/-- The normed keys before the gain, -/
def normed2 : FVec Ideal S1x2x8192x64 .f32 :=
  mulf (heads2 k) (broadcastInDim S1x2x8192x64 ![0, 1, 2, 3] bcast_S1x2x8192x1_S1x2x8192x64_0_1_2_3 (Host.rsqrt (mean2 (heads2 k))))
/-- and their gain's gradient. -/
def gains2 : FVec Ideal S1x64 .f32 :=
  gainRow (Host.reduceAdd (mulf (normed2 k) (undo2 (res_main_v28 W) (res_main_v29 W) (res_main_v30 W) (res_main_v31 W) d)) (constant S_ .f32 0x00000000#32)
    reducesTo_S1x2x8192x64_S1x64_d1_2 h_S_)

theorem normed2_apply (g : Fin 2) (s : Fin 8192) (j : Fin 64) : normed2 k (ix4 0 g s j) =
    heads2 k (ix4 0 g s j) * Ideal.rsqrt (mean fun j => heads2 k (ix4 0 g s j)) := by
  have e : Host.rsqrt (mean2 (heads2 k)) (ix4 0 g s 0) = Ideal.rsqrt (mean2 (heads2 k) (ix4 0 g s 0)) := rfl
  rw [← mean2_apply, ← e]
  unfold normed2
  generalize heads2 k = x
  generalize (Host.rsqrt (mean2 x) : FVec Ideal S1x2x8192x1 .f32) = r
  pointwise

theorem gains2_real {K D : Fin 2 → Fin 8192 → Fin 64 → ℝ} (hk : ∀ g s j, k (ix3 0 s (colK g j)) = ((K g s j : ℝ) : EReal))
    (hd : ∀ g s j, d (ix4 0 g s j) = ((D g s j : ℝ) : EReal)) (j : Fin 64) :
    gains2 W k d (ix2 0 j) = ∑ g, ∑ s, ((bR (D g s) (cosT s) (sinT s) j * (K g s j * rateR (K g s)) : ℝ) : EReal) := by
  unfold gains2
  rw [gainRow_apply]
  refine (sum_mid _ _ _ 0 j).trans ((congrArg (· + _) Ideal.ofBits_zero_f32).trans ((zero_add _).trans ?_))
  refine Finset.sum_congr rfl fun g _ => Finset.sum_congr rfl fun s _ => ?_
  refine Eq.trans (b := normed2 k (ix4 0 g s j) * undo2 (res_main_v28 W) (res_main_v29 W) (res_main_v30 W) (res_main_v31 W) d (ix4 0 g s j)) rfl ?_
  rw [normed2_apply, undo2_apply, undone_real (hd g s) (turns_row W s) (turns_col W s)]
  simp only [heads2_apply, hk]
  rw [mean_real (X := K g s) (fun _ => rfl), rsqrt_mean, ← EReal.coe_mul, ← EReal.coe_mul, mul_comm]
end

/-- The two gains' gradients after the run. -/
theorem run_gains (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v267) = gains8 (launchContents m c) (argQ m c) (argDQ m c)
      ∧ r.2.mem ((c.tc : Thread nD τ).loc main_v214) = gains2 (launchContents m c) (argK m c) (summed (argDK m c)) :=
  (θ_run defs _ _).mono (fun _ h c => ⟨(h c).2.2.2.1.trans rfl, (h c).2.2.2.2.1.trans rfl⟩) (Value.run m ρ)

end Cert.ReferencePIdeal.Val

end
-- ==== Proof.PreP.lean ====
/- The precondition of the norms' and rotations' gradient: every entry of the six arguments it names is a real. -/
module

public import proofs.«01_k».proof.Pre_finite_p
public import proofs.«01_k».proof.Proof.PreB

@[expose] public section

set_option maxRecDepth 16384

noncomputable section

namespace Cert.Pre_finite_p
open Idealize.ShloMosaic Cert.AttnGrad
open Cert.Pre_finite (and_one isReal_of_olt)

instance facts : Facts where
  bcast_S_S1x8192x512 := by decide
  reducesTo_S1x8192x512_S_d0_1_2 := by decide
  h_S_ := by decide
  bcast_S_S1x8192x128 := by decide
  reducesTo_S1x8192x128_S_d0_1_2 := by decide
  bcast_S_S1x64 := by decide
  reducesTo_S1x64_S_d0_1 := by decide
  bcast_S_S1x8x8192x64 := by decide
  reducesTo_S1x8x8192x64_S_d0_1_2_3 := by decide

instance : Subsingleton S_.Idx := ⟨fun _ _ => funext fun b => b.elim0⟩

theorem real_of_fn {q : FVec Ideal S1x8192x512 .f32} {k v : FVec Ideal S1x8192x128 .f32} {gq gk : FVec Ideal S1x64 .f32}
    {cq ck cv : FVec Ideal S1x8x8192x64 .f32} {a8 a9 a10 a11 a12 a13 a14 a15 a16 a17 a18 a19 a20 a21 a22 a23 a24 a25}
    (h : fn q k v gq gk cq ck cv a8 a9 a10 a11 a12 a13 a14 a15 a16 a17 a18 a19 a20 a21 a22 a23 a24 a25 = fun _ => 1#1) :
    (∀ i, IsReal (q i)) ∧ (∀ i, IsReal (k i)) ∧ (∀ i, IsReal (gq i)) ∧ (∀ i, IsReal (gk i)) ∧
      (∀ i, IsReal (cq i)) ∧ ∀ i, IsReal (ck i) := by
  obtain ⟨h2, hck⟩ := and_one (congrFun h (fun b => b.elim0))
  obtain ⟨h3, hcq⟩ := and_one h2
  obtain ⟨h4, hgk⟩ := and_one h3
  obtain ⟨h5, hgq⟩ := and_one h4
  obtain ⟨hq, hk⟩ := and_one h5
  exact ⟨fun i => isReal_of_olt ofBits_top (Host.reduce_andi_all _ _ _ _ _ hq i), fun i => isReal_of_olt ofBits_top (Host.reduce_andi_all _ _ _ _ _ hk i),
    fun i => isReal_of_olt ofBits_top (Host.reduce_andi_all _ _ _ _ _ hgq i), fun i => isReal_of_olt ofBits_top (Host.reduce_andi_all _ _ _ _ _ hgk i),
    fun i => isReal_of_olt ofBits_top (Host.reduce_andi_all _ _ _ _ _ hcq i), fun i => isReal_of_olt ofBits_top (Host.reduce_andi_all _ _ _ _ _ hck i)⟩

end Cert.Pre_finite_p

end
-- ==== Proof.EqP.lean ====
/- The projections' norms and rotations of mixer A: the kernel's five results are the reference's. -/
module

public import proofs.«01_k».proof.Proof.PostTail
public import proofs.«01_k».proof.Proof.PostFrame
public import proofs.«01_k».proof.Proof.RefG
public import proofs.«01_k».proof.Proof.PreP
public import proofs.«01_k».proof.Proof.EqM
public import proofs.«01_k».proof.Defs

@[expose] public section

set_option maxRecDepth 16384

noncomputable section

namespace Cert.EqP
open Idealize.ShloMosaic Idealize.SL.Sem Cert.AttnGrad Cert.NormGrad
open Idealize.ShloMosaic.StableHlo (launchContents)
open scoped BigOperators
open Cert.KernelPIdeal (S1x8192x512 S1x8192x128 S1x64 S1x8x8192x64)

/-- A column is a feature of a head: of a query head, and of a key head. -/
theorem colA_cases (j : Fin 512) : j = colA ⟨j.val / 64, by omega⟩ ⟨j.val % 64, by omega⟩ :=
  Fin.ext (show j.val = j.val / 64 * 64 + j.val % 64 by omega)
theorem colK_cases (j : Fin 128) : j = colK ⟨j.val / 64, by omega⟩ ⟨j.val % 64, by omega⟩ :=
  Fin.ext (show j.val = j.val / 64 * 64 + j.val % 64 by omega)

/-- Two rows of gains are the same if they are at every feature. -/
theorem row_ext {x y : FVec Ideal S1x64 .f32} (h : ∀ j, x (ix2 0 j) = y (ix2 0 j)) : x = y := by
  funext i
  rw [← ix2_eta i]
  have e : i 0 = (0 : Fin 1) := Subsingleton.elim (α := Fin 1) _ _
  rw [e]
  exact h (i 1)

variable (m : (ℓ : Loc KernelPIdeal.nD KernelPIdeal.τ KernelPIdeal.sig) → Buf (Elt Ideal) ℓ) (c : Dev KernelPIdeal.nD)
  (W : Valuation ReferencePIdeal.τ ReferencePIdeal.sig (Elt Ideal))

/-- The results agree where the arguments do and are finite. -/
theorem results (q : FVec Ideal S1x8192x512 .f32) (k : FVec Ideal S1x8192x128 .f32) (gq gk : FVec Ideal S1x64 .f32) (dq dk dv : FVec Ideal S1x8x8192x64 .f32)
    (h0 : q = KernelPIdeal.Val.argQ m c) (h1 : k = KernelPIdeal.Val.argK m c) (h3 : gq = KernelPIdeal.Val.argGQ m c) (h4 : gk = KernelPIdeal.Val.argGK m c)
    (h5 : dq = KernelPIdeal.Val.argDQ m c) (h6 : dk = KernelPIdeal.Val.argDK m c) (h7 : dv = KernelPIdeal.Val.argDV m c)
    (hq : ∀ i, IsReal (q i)) (hk : ∀ i, IsReal (k i)) (hgq : ∀ i, IsReal (gq i)) (hgk : ∀ i, IsReal (gk i)) (hdq : ∀ i, IsReal (dq i))
    (hdk : ∀ i, IsReal (dk i)) :
    ReferencePIdeal.Val.grad8 W q gq dq = KernelPIdeal.Val.outQ (projArr m c)
    ∧ ReferencePIdeal.Val.grad2 W k gk (ReferencePIdeal.Val.summed dk) = KernelPIdeal.Val.outK (projArr m c)
    ∧ ReferencePIdeal.Val.outV dv = KernelPIdeal.Val.outV (projArr m c)
    ∧ ReferencePIdeal.Val.gains8 W q dq = KernelPIdeal.Val.outGQ (smallArr m c)
    ∧ ReferencePIdeal.Val.gains2 W k (ReferencePIdeal.Val.summed dk) = KernelPIdeal.Val.outGK (smallArr m c) := by
  choose Q hq using hq
  choose K hk using hk
  choose GQ hgq using hgq
  choose GK hgk using hgk
  choose DQ hdq using hdq
  choose DK hdk using hdk
  subst h0 h1 h3 h4 h5 h6 h7
  refine ⟨EqM.same3 fun R j => ?_, EqM.same3 fun R j => ?_, EqM.same3 fun R j => ?_, row_ext fun j => ?_, row_ext fun j => ?_⟩
  · rw [colA_cases j, KernelPIdeal.Val.outQ_apply]
    exact (ReferencePIdeal.Val.grad8_real W R _ _ _ _ (fun _ => hq _) (fun _ => hdq _) (fun _ => hgq _) _).trans
      (KernelPIdeal.Val.colsQ _ (fun _ => hq _) (fun _ => hdq _) (fun _ => hgq _) _).symm
  · rw [colK_cases j, KernelPIdeal.Val.outK_apply]
    refine (ReferencePIdeal.Val.grad2_real W R _ _ _ _ (fun _ => hk _) (fun i => ?_) (fun _ => hgk _) _).trans
      (KernelPIdeal.Val.colsK _ (E := fun a i => DK (ix4 0 (headAt _ a) R i)) (fun _ => hk _) (fun _ _ => hdk _) (fun _ => hgk _) _).symm
    rw [ReferencePIdeal.Val.summed_apply]
    simp only [hdk]
    exact coe_sum _ _
  · rw [colK_cases j, KernelPIdeal.Val.outV_apply, KernelPIdeal.Val.colsV]
    exact ReferencePIdeal.Val.outV_apply _ _ _ _
  · rw [KernelPIdeal.Val.outGQ_apply]
    exact (ReferencePIdeal.Val.gains8_real W _ _ (Q := fun h s j => Q (ix3 0 s (colA h j))) (D := fun h s j => DQ (ix4 0 h s j))
      (fun _ _ _ => hq _) (fun _ _ _ => hdq _) j).trans (gainQ_real m c (fun _ _ _ => hq _) (fun _ _ _ => hdq _) j).symm
  · rw [KernelPIdeal.Val.outGK_apply]
    refine (ReferencePIdeal.Val.gains2_real W _ _ (K := fun g s j => K (ix3 0 s (colK g j))) (D := fun g s j => ∑ a, DK (ix4 0 (headAt g a) s j))
      (fun _ _ _ => hk _) (fun g s i => ?_) j).trans
      (gainK_real m c (E := fun g s a j => DK (ix4 0 (headAt g a) s j)) (fun _ _ _ => hk _) (fun _ _ _ _ => hdk _) j).symm
    rw [ReferencePIdeal.Val.summed_apply]
    simp only [hdk]
    exact coe_sum _ _

/-- The claim. -/
theorem algebraic : Cert.algebraic_KernelPIdeal_ReferencePIdeal_pre_finite_p := by
  intro m ρ m' ρ' hp he
  refine ⟨fun c => KernelPIdeal.Val.outQ (projArr m c), fun c => KernelPIdeal.Val.outK (projArr m c), fun c => KernelPIdeal.Val.outV (projArr m c),
    fun c => KernelPIdeal.Val.outGQ (smallArr m c), fun c => KernelPIdeal.Val.outGK (smallArr m c), ?_, ?_⟩
  · refine (θ_run _ _ _).mono (fun r h c => ?_)
      (θ_run_and (KernelPIdeal.Val.run_values m ρ) (KernelPIdeal.Gen.frame_of m ρ (dats m) (A_eq m) (run_main m ρ)))
    obtain ⟨k0, k1, k2, k3, k4⟩ := h.1 c
    exact ⟨k0, k1, k2, k3, k4, h.2 c⟩
  · refine (θ_run _ _ _).mono (fun r h c => ?_) (θ_run_and (ReferencePIdeal.Val.run_values m' ρ')
      (θ_run_and (ReferencePIdeal.Val.run_gains m' ρ') (ReferencePIdeal.Value.run m' ρ')))
    obtain ⟨a0, a1, -, a3, a4, a5, a6, a7, -⟩ := he c
    obtain ⟨hq, hk, hgq, hgk, hdq, hdk⟩ := Pre_finite_p.real_of_fn (hp c)
    rw [← a0] at hq
    rw [← a1] at hk
    rw [← a3] at hgq
    rw [← a4] at hgk
    rw [← a5] at hdq
    rw [← a6] at hdk
    obtain ⟨e0, e1, e2, e3, e4⟩ := results m c (launchContents m' c) _ _ _ _ _ _ _ a0 a1 a3 a4 a5 a6 a7 hq hk hgq hgk hdq hdk
    obtain ⟨k0, k1, k2⟩ := h.1 c
    obtain ⟨k3, k4⟩ := h.2.1 c
    exact ⟨k0.trans e0, k1.trans e1, k2.trans e2, k3.trans e3, k4.trans e4, (h.2.2 c).2.2.2.2.2⟩

end Cert.EqP

end
-- ==== Proof.lean ====
module

public import proofs.«01_k».proof.Proof.Gen.ReferenceIdeal.Run
public import proofs.«01_k».proof.Proof.EqA
public import proofs.«01_k».proof.Proof.EqM
public import proofs.«01_k».proof.Proof.EqB
public import proofs.«01_k».proof.Proof.EqFB
public import proofs.«01_k».proof.Proof.EqFA
public import proofs.«01_k».proof.Proof.PostClaim
public import proofs.«01_k».proof.Proof.EqP
public import Idealize.ShloMosaic.Lib.Quiescent

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelA
public import proofs.«01_k».proof.Proof.Gen.KernelA.Skeleton
public import proofs.«01_k».proof.Proof.Gen.KernelA.Launch
public import proofs.«01_k».proof.Proof.Gen.KernelA.Points
public import proofs.«01_k».proof.Proof.Gen.KernelA.Frame
public import proofs.«01_k».proof.Proof.Gen.KernelAIdeal
public import proofs.«01_k».proof.Proof.Gen.KernelAIdeal.Skeleton
public import proofs.«01_k».proof.Proof.Gen.KernelAIdeal.Launch
public import proofs.«01_k».proof.Proof.Gen.KernelAIdeal.Points
public import proofs.«01_k».proof.Proof.Gen.KernelAIdeal.Frame
public import proofs.«01_k».proof.Proof.Gen.ReferenceAIdeal
public import proofs.«01_k».proof.Proof.Gen.ReferenceAIdeal.Run
public import proofs.«01_k».proof.Proof.Gen.KernelFB
public import proofs.«01_k».proof.Proof.Gen.KernelFB.Skeleton
public import proofs.«01_k».proof.Proof.Gen.KernelFB.Launch
public import proofs.«01_k».proof.Proof.Gen.KernelFB.Points
public import proofs.«01_k».proof.Proof.Gen.KernelFB.Frame
public import proofs.«01_k».proof.Proof.Gen.KernelFBIdeal
public import proofs.«01_k».proof.Proof.Gen.KernelFBIdeal.Skeleton
public import proofs.«01_k».proof.Proof.Gen.KernelFBIdeal.Launch
public import proofs.«01_k».proof.Proof.Gen.KernelFBIdeal.Points
public import proofs.«01_k».proof.Proof.Gen.KernelFBIdeal.Frame
public import proofs.«01_k».proof.Proof.Gen.KernelFA
public import proofs.«01_k».proof.Proof.Gen.KernelFA.Skeleton
public import proofs.«01_k».proof.Proof.Gen.KernelFA.Launch
public import proofs.«01_k».proof.Proof.Gen.KernelFA.Points
public import proofs.«01_k».proof.Proof.Gen.KernelFA.Frame
public import proofs.«01_k».proof.Proof.Gen.KernelFAIdeal
public import proofs.«01_k».proof.Proof.Gen.KernelFAIdeal.Skeleton
public import proofs.«01_k».proof.Proof.Gen.KernelFAIdeal.Launch
public import proofs.«01_k».proof.Proof.Gen.KernelFAIdeal.Points
public import proofs.«01_k».proof.Proof.Gen.KernelFAIdeal.Frame
public import proofs.«01_k».proof.Proof.Gen.ReferenceFBIdeal
public import proofs.«01_k».proof.Proof.Gen.ReferenceFBIdeal.Run
public import proofs.«01_k».proof.Proof.Gen.ReferenceFAIdeal
public import proofs.«01_k».proof.Proof.Gen.ReferenceFAIdeal.Run
public import proofs.«01_k».proof.Proof.Gen.KernelM
public import proofs.«01_k».proof.Proof.Gen.KernelM.Skeleton
public import proofs.«01_k».proof.Proof.Gen.KernelM.Launch
public import proofs.«01_k».proof.Proof.Gen.KernelM.Points
public import proofs.«01_k».proof.Proof.Gen.KernelM.Frame
public import proofs.«01_k».proof.Proof.Gen.KernelMIdeal
public import proofs.«01_k».proof.Proof.Gen.KernelMIdeal.Skeleton
public import proofs.«01_k».proof.Proof.Gen.KernelMIdeal.Launch
public import proofs.«01_k».proof.Proof.Gen.KernelMIdeal.Points
public import proofs.«01_k».proof.Proof.Gen.KernelMIdeal.Frame
public import proofs.«01_k».proof.Proof.Gen.ReferenceMIdeal
public import proofs.«01_k».proof.Proof.Gen.ReferenceMIdeal.Run
public import proofs.«01_k».proof.Proof.Gen.KernelP
public import proofs.«01_k».proof.Proof.Gen.KernelP.Skeleton
public import proofs.«01_k».proof.Proof.Gen.KernelP.Launch
public import proofs.«01_k».proof.Proof.Gen.KernelP.Points
public import proofs.«01_k».proof.Proof.Gen.KernelP.Frame
public import proofs.«01_k».proof.Proof.Gen.KernelPIdeal
public import proofs.«01_k».proof.Proof.Gen.KernelPIdeal.Skeleton
public import proofs.«01_k».proof.Proof.Gen.KernelPIdeal.Launch
public import proofs.«01_k».proof.Proof.Gen.KernelPIdeal.Points
public import proofs.«01_k».proof.Proof.Gen.KernelPIdeal.Frame
public import proofs.«01_k».proof.Proof.Gen.ReferencePIdeal
public import proofs.«01_k».proof.Proof.Gen.ReferencePIdeal.Run
public import Idealize.ShloMosaic.Adequacy
public import Idealize.ShloMosaic.Init

@[expose] public section

noncomputable section

namespace Cert.Proof

open Idealize.ShloMosaic Idealize.SL.Sem

theorem frame_reference (m : (ℓ : Loc ReferenceIdeal.nD ReferenceIdeal.τ ReferenceIdeal.sig) → Buf (Elt Ideal) ℓ) (ρ : Dev ReferenceIdeal.nD → PrngReg) :
    θ_run (ReferenceIdeal.defs (F := Ideal)) (onTc (τ := ReferenceIdeal.τ) (ReferenceIdeal.main (F := Ideal))) ⟨m, fun _ => 0, ρ⟩ fun r => (∀ c : Dev ReferenceIdeal.nD,
      r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2)
      ∧ r.2.mem ((c.tc : Thread ReferenceIdeal.nD ReferenceIdeal.τ).loc ReferenceIdeal.main_arg3) = m ((c.tc : Thread ReferenceIdeal.nD ReferenceIdeal.τ).loc ReferenceIdeal.main_arg3))
      ∧ r.2.sem = fun _ => 0 :=
  (θ_run _ _ _).mono (fun r h => ⟨fun c => (h c).2.2.2, sem_eq_zero_of_no_sems rfl r.2⟩) (ReferenceIdeal.Value.run m ρ)

theorem frame_referenceA (m : (ℓ : Loc ReferenceAIdeal.nD ReferenceAIdeal.τ ReferenceAIdeal.sig) → Buf (Elt Ideal) ℓ) (ρ : Dev ReferenceAIdeal.nD → PrngReg) :
    θ_run (ReferenceAIdeal.defs (F := Ideal)) (onTc (τ := ReferenceAIdeal.τ) (ReferenceAIdeal.main (F := Ideal))) ⟨m, fun _ => 0, ρ⟩ fun r => (∀ c : Dev ReferenceAIdeal.nD,
      r.2.mem ((c.tc : Thread ReferenceAIdeal.nD ReferenceAIdeal.τ).loc ReferenceAIdeal.main_arg0) = m ((c.tc : Thread ReferenceAIdeal.nD ReferenceAIdeal.τ).loc ReferenceAIdeal.main_arg0)
      ∧ r.2.mem ((c.tc : Thread ReferenceAIdeal.nD ReferenceAIdeal.τ).loc ReferenceAIdeal.main_arg1) = m ((c.tc : Thread ReferenceAIdeal.nD ReferenceAIdeal.τ).loc ReferenceAIdeal.main_arg1)
      ∧ r.2.mem ((c.tc : Thread ReferenceAIdeal.nD ReferenceAIdeal.τ).loc ReferenceAIdeal.main_arg2) = m ((c.tc : Thread ReferenceAIdeal.nD ReferenceAIdeal.τ).loc ReferenceAIdeal.main_arg2)
      ∧ r.2.mem ((c.tc : Thread ReferenceAIdeal.nD ReferenceAIdeal.τ).loc ReferenceAIdeal.main_arg3) = m ((c.tc : Thread ReferenceAIdeal.nD ReferenceAIdeal.τ).loc ReferenceAIdeal.main_arg3))
      ∧ r.2.sem = fun _ => 0 :=
  (θ_run _ _ _).mono (fun r h => ⟨fun c => (h c).2.2.2, sem_eq_zero_of_no_sems rfl r.2⟩) (ReferenceAIdeal.Value.run m ρ)

theorem frame_referenceM (m : (ℓ : Loc ReferenceMIdeal.nD ReferenceMIdeal.τ ReferenceMIdeal.sig) → Buf (Elt Ideal) ℓ) (ρ : Dev ReferenceMIdeal.nD → PrngReg) :
    θ_run (ReferenceMIdeal.defs (F := Ideal)) (onTc (τ := ReferenceMIdeal.τ) (ReferenceMIdeal.main (F := Ideal))) ⟨m, fun _ => 0, ρ⟩ fun r => (∀ c : Dev ReferenceMIdeal.nD,
      r.2.mem ((c.tc : Thread ReferenceMIdeal.nD ReferenceMIdeal.τ).loc ReferenceMIdeal.main_arg0) = m ((c.tc : Thread ReferenceMIdeal.nD ReferenceMIdeal.τ).loc ReferenceMIdeal.main_arg0)
      ∧ r.2.mem ((c.tc : Thread ReferenceMIdeal.nD ReferenceMIdeal.τ).loc ReferenceMIdeal.main_arg1) = m ((c.tc : Thread ReferenceMIdeal.nD ReferenceMIdeal.τ).loc ReferenceMIdeal.main_arg1)
      ∧ r.2.mem ((c.tc : Thread ReferenceMIdeal.nD ReferenceMIdeal.τ).loc ReferenceMIdeal.main_arg2) = m ((c.tc : Thread ReferenceMIdeal.nD ReferenceMIdeal.τ).loc ReferenceMIdeal.main_arg2)
      ∧ r.2.mem ((c.tc : Thread ReferenceMIdeal.nD ReferenceMIdeal.τ).loc ReferenceMIdeal.main_arg3) = m ((c.tc : Thread ReferenceMIdeal.nD ReferenceMIdeal.τ).loc ReferenceMIdeal.main_arg3)
      ∧ r.2.mem ((c.tc : Thread ReferenceMIdeal.nD ReferenceMIdeal.τ).loc ReferenceMIdeal.main_arg4) = m ((c.tc : Thread ReferenceMIdeal.nD ReferenceMIdeal.τ).loc ReferenceMIdeal.main_arg4)
      ∧ r.2.mem ((c.tc : Thread ReferenceMIdeal.nD ReferenceMIdeal.τ).loc ReferenceMIdeal.main_arg5) = m ((c.tc : Thread ReferenceMIdeal.nD ReferenceMIdeal.τ).loc ReferenceMIdeal.main_arg5)
      ∧ r.2.mem ((c.tc : Thread ReferenceMIdeal.nD ReferenceMIdeal.τ).loc ReferenceMIdeal.main_arg6) = m ((c.tc : Thread ReferenceMIdeal.nD ReferenceMIdeal.τ).loc ReferenceMIdeal.main_arg6))
      ∧ r.2.sem = fun _ => 0 :=
  (θ_run _ _ _).mono (fun r h => ⟨fun c => (h c).2.2.2.2.2.2.2.2.2, sem_eq_zero_of_no_sems rfl r.2⟩) (ReferenceMIdeal.Value.run m ρ)

theorem frame_referenceFB (m : (ℓ : Loc ReferenceFBIdeal.nD ReferenceFBIdeal.τ ReferenceFBIdeal.sig) → Buf (Elt Ideal) ℓ) (ρ : Dev ReferenceFBIdeal.nD → PrngReg) :
    θ_run (ReferenceFBIdeal.defs (F := Ideal)) (onTc (τ := ReferenceFBIdeal.τ) (ReferenceFBIdeal.main (F := Ideal))) ⟨m, fun _ => 0, ρ⟩ fun r => (∀ c : Dev ReferenceFBIdeal.nD,
      r.2.mem ((c.tc : Thread ReferenceFBIdeal.nD ReferenceFBIdeal.τ).loc ReferenceFBIdeal.main_arg0) = m ((c.tc : Thread ReferenceFBIdeal.nD ReferenceFBIdeal.τ).loc ReferenceFBIdeal.main_arg0)
      ∧ r.2.mem ((c.tc : Thread ReferenceFBIdeal.nD ReferenceFBIdeal.τ).loc ReferenceFBIdeal.main_arg1) = m ((c.tc : Thread ReferenceFBIdeal.nD ReferenceFBIdeal.τ).loc ReferenceFBIdeal.main_arg1)
      ∧ r.2.mem ((c.tc : Thread ReferenceFBIdeal.nD ReferenceFBIdeal.τ).loc ReferenceFBIdeal.main_arg2) = m ((c.tc : Thread ReferenceFBIdeal.nD ReferenceFBIdeal.τ).loc ReferenceFBIdeal.main_arg2))
      ∧ r.2.sem = fun _ => 0 :=
  (θ_run _ _ _).mono (fun r h => ⟨fun c => (h c).2.2, sem_eq_zero_of_no_sems rfl r.2⟩) (ReferenceFBIdeal.Value.run m ρ)

theorem frame_referenceFA (m : (ℓ : Loc ReferenceFAIdeal.nD ReferenceFAIdeal.τ ReferenceFAIdeal.sig) → Buf (Elt Ideal) ℓ) (ρ : Dev ReferenceFAIdeal.nD → PrngReg) :
    θ_run (ReferenceFAIdeal.defs (F := Ideal)) (onTc (τ := ReferenceFAIdeal.τ) (ReferenceFAIdeal.main (F := Ideal))) ⟨m, fun _ => 0, ρ⟩ fun r => (∀ c : Dev ReferenceFAIdeal.nD,
      r.2.mem ((c.tc : Thread ReferenceFAIdeal.nD ReferenceFAIdeal.τ).loc ReferenceFAIdeal.main_arg0) = m ((c.tc : Thread ReferenceFAIdeal.nD ReferenceFAIdeal.τ).loc ReferenceFAIdeal.main_arg0)
      ∧ r.2.mem ((c.tc : Thread ReferenceFAIdeal.nD ReferenceFAIdeal.τ).loc ReferenceFAIdeal.main_arg1) = m ((c.tc : Thread ReferenceFAIdeal.nD ReferenceFAIdeal.τ).loc ReferenceFAIdeal.main_arg1)
      ∧ r.2.mem ((c.tc : Thread ReferenceFAIdeal.nD ReferenceFAIdeal.τ).loc ReferenceFAIdeal.main_arg2) = m ((c.tc : Thread ReferenceFAIdeal.nD ReferenceFAIdeal.τ).loc ReferenceFAIdeal.main_arg2))
      ∧ r.2.sem = fun _ => 0 :=
  (θ_run _ _ _).mono (fun r h => ⟨fun c => (h c).2.2, sem_eq_zero_of_no_sems rfl r.2⟩) (ReferenceFAIdeal.Value.run m ρ)

theorem frame_referenceP : Cert.quiescent_ReferencePIdeal (hReferencePIdeal := ReferencePIdeal.Gen.facts) := fun m ρ _ =>
  (θ_run _ _ _).mono (fun r h => ⟨fun c => (h c).2.2.2.2.2, sem_eq_zero_of_no_sems rfl r.2⟩) (ReferencePIdeal.Value.run m ρ)

theorem claim : Cert.Claim :=
  ⟨Kernel.Gen.facts, KernelIdeal.Gen.facts, ReferenceIdeal.Gen.facts, KernelA.Gen.facts, KernelAIdeal.Gen.facts, ReferenceAIdeal.Gen.facts,
    KernelM.Gen.facts, KernelMIdeal.Gen.facts, ReferenceMIdeal.Gen.facts,
    KernelFB.Gen.facts, KernelFBIdeal.Gen.facts, ReferenceFBIdeal.Gen.facts, KernelFA.Gen.facts, KernelFAIdeal.Gen.facts, ReferenceFAIdeal.Gen.facts,
    KernelP.Gen.facts, KernelPIdeal.Gen.facts, ReferencePIdeal.Gen.facts,
    Pre_finite.facts, Pre_finite_a.facts, Pre_finite_m.facts, Pre_finite_fb.facts, Pre_finite_fa.facts, Pre_finite_p.facts,
    fun m ρ _ => Kernel.Gen.frame m ρ,
    fun m ρ _ => KernelIdeal.Gen.frame m ρ, fun m ρ _ => KernelIdeal.Gen.frame m ρ, fun m ρ _ => frame_reference m ρ, fun m ρ _ => frame_reference m ρ,
    fun m ρ _ => KernelA.Gen.frame m ρ, fun m ρ _ => KernelAIdeal.Gen.frame m ρ, fun m ρ _ => KernelAIdeal.Gen.frame m ρ,
    fun m ρ _ => frame_referenceA m ρ, fun m ρ _ => frame_referenceA m ρ,
    fun m ρ _ => KernelM.Gen.frame m ρ, fun m ρ _ => KernelMIdeal.Gen.frame m ρ, fun m ρ _ => KernelMIdeal.Gen.frame m ρ,
    fun m ρ _ => frame_referenceM m ρ, fun m ρ _ => frame_referenceM m ρ,
    fun m ρ _ => KernelFB.Gen.frame m ρ, fun m ρ _ => KernelFBIdeal.Gen.frame m ρ, fun m ρ _ => KernelFBIdeal.Gen.frame m ρ,
    fun m ρ _ => frame_referenceFB m ρ, fun m ρ _ => frame_referenceFB m ρ,
    fun m ρ _ => KernelFA.Gen.frame m ρ, fun m ρ _ => KernelFAIdeal.Gen.frame m ρ, fun m ρ _ => KernelFAIdeal.Gen.frame m ρ,
    fun m ρ _ => frame_referenceFA m ρ, fun m ρ _ => frame_referenceFA m ρ,
    PostClaim.frame_kernel, PostClaim.frame_ideal, fun m ρ _ => PostClaim.frame_ideal m ρ trivial, frame_referenceP, fun m ρ _ => frame_referenceP m ρ trivial,
    trivial, EqB.algebraic, trivial, EqA.algebraic, trivial, EqM.algebraic,
    IdealRules.named_const.statement Cert.KernelFBIdeal.κ "log2e" .f32 0x3FB8AA3B#32 (((Real.log 2)⁻¹ : ℝ) : EReal) rfl, EqFB.algebraic,
    IdealRules.named_const.statement Cert.KernelFAIdeal.κ "log2e" .f32 0x3FB8AA3B#32 (((Real.log 2)⁻¹ : ℝ) : EReal) rfl, EqFA.algebraic,
    trivial, EqP.algebraic⟩

end Cert.Proof

end
